-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_finite_in [hPre_finite_in : Cert.Pre_finite_in.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5))) = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_finite_in [hPre_finite_in : Cert.Pre_finite_in.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))) = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelZin (m : (ℓ : Loc Cert.KernelZin.nD Cert.KernelZin.τ Cert.KernelZin.sig) → Buf (Elt Bits) ℓ) : Prop :=
  True

def Pre_KernelZinIdeal (m : (ℓ : Loc Cert.KernelZinIdeal.nD Cert.KernelZinIdeal.τ Cert.KernelZinIdeal.sig) → Buf (Elt Ideal) ℓ) : Prop :=
  True

def Pre_ReferenceZinIdeal (m : (ℓ : Loc Cert.ReferenceZinIdeal.nD Cert.ReferenceZinIdeal.τ Cert.ReferenceZinIdeal.sig) → Buf (Elt Ideal) ℓ) : Prop :=
  True

def Pre_KernelWgu (m : (ℓ : Loc Cert.KernelWgu.nD Cert.KernelWgu.τ Cert.KernelWgu.sig) → Buf (Elt Bits) ℓ) : Prop :=
  True

def Pre_KernelWguIdeal (m : (ℓ : Loc Cert.KernelWguIdeal.nD Cert.KernelWguIdeal.τ Cert.KernelWguIdeal.sig) → Buf (Elt Ideal) ℓ) : Prop :=
  True

def Pre_ReferenceWguIdeal (m : (ℓ : Loc Cert.ReferenceWguIdeal.nD Cert.ReferenceWguIdeal.τ Cert.ReferenceWguIdeal.sig) → Buf (Elt Ideal) ℓ) : Prop :=
  True

def Pre_KernelWgd (m : (ℓ : Loc Cert.KernelWgd.nD Cert.KernelWgd.τ Cert.KernelWgd.sig) → Buf (Elt Bits) ℓ) : Prop :=
  True

def Pre_KernelWgdIdeal (m : (ℓ : Loc Cert.KernelWgdIdeal.nD Cert.KernelWgdIdeal.τ Cert.KernelWgdIdeal.sig) → Buf (Elt Ideal) ℓ) : Prop :=
  True

def Pre_ReferenceWgdIdeal (m : (ℓ : Loc Cert.ReferenceWgdIdeal.nD Cert.ReferenceWgdIdeal.τ Cert.ReferenceWgdIdeal.sig) → Buf (Elt Ideal) ℓ) : Prop :=
  True

def Pre_KernelWia (m : (ℓ : Loc Cert.KernelWia.nD Cert.KernelWia.τ Cert.KernelWia.sig) → Buf (Elt Bits) ℓ) : Prop :=
  True

def Pre_KernelWiaIdeal (m : (ℓ : Loc Cert.KernelWiaIdeal.nD Cert.KernelWiaIdeal.τ Cert.KernelWiaIdeal.sig) → Buf (Elt Ideal) ℓ) : Prop :=
  True

def Pre_ReferenceWiaIdeal (m : (ℓ : Loc Cert.ReferenceWiaIdeal.nD Cert.ReferenceWiaIdeal.τ Cert.ReferenceWiaIdeal.sig) → Buf (Elt Ideal) ℓ) : Prop :=
  True

def Pre_KernelWib (m : (ℓ : Loc Cert.KernelWib.nD Cert.KernelWib.τ Cert.KernelWib.sig) → Buf (Elt Bits) ℓ) : Prop :=
  True

def Pre_KernelWibIdeal (m : (ℓ : Loc Cert.KernelWibIdeal.nD Cert.KernelWibIdeal.τ Cert.KernelWibIdeal.sig) → Buf (Elt Ideal) ℓ) : Prop :=
  True

def Pre_ReferenceWibIdeal (m : (ℓ : Loc Cert.ReferenceWibIdeal.nD Cert.ReferenceWibIdeal.τ Cert.ReferenceWibIdeal.sig) → Buf (Elt Ideal) ℓ) : Prop :=
  True

def Pre_KernelDcp (m : (ℓ : Loc Cert.KernelDcp.nD Cert.KernelDcp.τ Cert.KernelDcp.sig) → Buf (Elt Bits) ℓ) : Prop :=
  True

def Pre_KernelDcpIdeal (m : (ℓ : Loc Cert.KernelDcpIdeal.nD Cert.KernelDcpIdeal.τ Cert.KernelDcpIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelPleb (m : (ℓ : Loc Cert.KernelPleb.nD Cert.KernelPleb.τ Cert.KernelPleb.sig) → Buf (Elt Bits) ℓ) : Prop :=
  True

def Pre_KernelPlebIdeal (m : (ℓ : Loc Cert.KernelPlebIdeal.nD Cert.KernelPlebIdeal.τ Cert.KernelPlebIdeal.sig) → Buf (Elt Ideal) ℓ) : Prop :=
  True

def Pre_KernelPlebIdeal_finite_pleb [hPre_finite_pleb : Cert.Pre_finite_pleb.Facts] (m : (ℓ : Loc Cert.KernelPlebIdeal.nD Cert.KernelPlebIdeal.τ Cert.KernelPlebIdeal.sig) → Buf (Elt Ideal) ℓ) : Prop :=
  ∀ c : Dev Cert.KernelPlebIdeal.nD,
    (Cert.Pre_finite_pleb.fn (F := Ideal) (m ((c.tc : Thread Cert.KernelPlebIdeal.nD Cert.KernelPlebIdeal.τ).loc Cert.KernelPlebIdeal.main_arg0)) (m ((c.tc : Thread Cert.KernelPlebIdeal.nD Cert.KernelPlebIdeal.τ).loc Cert.KernelPlebIdeal.main_arg1)) (m ((c.tc : Thread Cert.KernelPlebIdeal.nD Cert.KernelPlebIdeal.τ).loc Cert.KernelPlebIdeal.main_arg2)) (m ((c.tc : Thread Cert.KernelPlebIdeal.nD Cert.KernelPlebIdeal.τ).loc Cert.KernelPlebIdeal.main_arg3)) (m ((c.tc : Thread Cert.KernelPlebIdeal.nD Cert.KernelPlebIdeal.τ).loc Cert.KernelPlebIdeal.main_arg4)) (m ((c.tc : Thread Cert.KernelPlebIdeal.nD Cert.KernelPlebIdeal.τ).loc Cert.KernelPlebIdeal.main_arg5))) = (fun _ => 1#1)

def Pre_ReferencePlebIdeal (m : (ℓ : Loc Cert.ReferencePlebIdeal.nD Cert.ReferencePlebIdeal.τ Cert.ReferencePlebIdeal.sig) → Buf (Elt Ideal) ℓ) : Prop :=
  True

def Pre_ReferencePlebIdeal_finite_pleb [hPre_finite_pleb : Cert.Pre_finite_pleb.Facts] (m : (ℓ : Loc Cert.ReferencePlebIdeal.nD Cert.ReferencePlebIdeal.τ Cert.ReferencePlebIdeal.sig) → Buf (Elt Ideal) ℓ) : Prop :=
  ∀ c : Dev Cert.ReferencePlebIdeal.nD,
    (Cert.Pre_finite_pleb.fn (F := Ideal) (m ((c.tc : Thread Cert.ReferencePlebIdeal.nD Cert.ReferencePlebIdeal.τ).loc Cert.ReferencePlebIdeal.main_arg0)) (m ((c.tc : Thread Cert.ReferencePlebIdeal.nD Cert.ReferencePlebIdeal.τ).loc Cert.ReferencePlebIdeal.main_arg1)) (m ((c.tc : Thread Cert.ReferencePlebIdeal.nD Cert.ReferencePlebIdeal.τ).loc Cert.ReferencePlebIdeal.main_arg2)) (m ((c.tc : Thread Cert.ReferencePlebIdeal.nD Cert.ReferencePlebIdeal.τ).loc Cert.ReferencePlebIdeal.main_arg3)) (m ((c.tc : Thread Cert.ReferencePlebIdeal.nD Cert.ReferencePlebIdeal.τ).loc Cert.ReferencePlebIdeal.main_arg4)) (m ((c.tc : Thread Cert.ReferencePlebIdeal.nD Cert.ReferencePlebIdeal.τ).loc Cert.ReferencePlebIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_KernelInIdeal_pre_finite_in [hKernelInIdeal : Cert.KernelInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_finite_in m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_ReferenceInIdeal_pre_finite_in [hReferenceInIdeal : Cert.ReferenceInIdeal.Facts] [hPre_finite_in : Cert.Pre_finite_in.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_finite_in m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def quiescent_KernelZin [hKernelZin : Cert.KernelZin.Facts] : Prop :=
  ∀ (m : (ℓ : Loc Cert.KernelZin.nD Cert.KernelZin.τ Cert.KernelZin.sig) → Buf (Elt Bits) ℓ) (g : Dev Cert.KernelZin.nD → PrngReg), Pre_KernelZin m →
    θ_run (Cert.KernelZin.defs (F := Bits)) (onTc (τ := Cert.KernelZin.τ) (Cert.KernelZin.main (F := Bits))) ⟨m, fun _ => 0, g⟩ (fun r => (∀ c : Dev Cert.KernelZin.nD,
      r.2.mem ((c.tc : Thread Cert.KernelZin.nD Cert.KernelZin.τ).loc Cert.KernelZin.main_arg0) = m ((c.tc : Thread Cert.KernelZin.nD Cert.KernelZin.τ).loc Cert.KernelZin.main_arg0)
      ∧ r.2.mem ((c.tc : Thread Cert.KernelZin.nD Cert.KernelZin.τ).loc Cert.KernelZin.main_arg1) = m ((c.tc : Thread Cert.KernelZin.nD Cert.KernelZin.τ).loc Cert.KernelZin.main_arg1)
      ∧ r.2.mem ((c.tc : Thread Cert.KernelZin.nD Cert.KernelZin.τ).loc Cert.KernelZin.main_arg2) = m ((c.tc : Thread Cert.KernelZin.nD Cert.KernelZin.τ).loc Cert.KernelZin.main_arg2))
      ∧ r.2.sem = fun _ => 0)

def quiescent_KernelZinIdeal [hKernelZinIdeal : Cert.KernelZinIdeal.Facts] : Prop :=
  ∀ (m : (ℓ : Loc Cert.KernelZinIdeal.nD Cert.KernelZinIdeal.τ Cert.KernelZinIdeal.sig) → Buf (Elt Ideal) ℓ) (g : Dev Cert.KernelZinIdeal.nD → PrngReg), Pre_KernelZinIdeal m →
    θ_run (Cert.KernelZinIdeal.defs (F := Ideal)) (onTc (τ := Cert.KernelZinIdeal.τ) (Cert.KernelZinIdeal.main (F := Ideal))) ⟨m, fun _ => 0, g⟩ (fun r => (∀ c : Dev Cert.KernelZinIdeal.nD,
      r.2.mem ((c.tc : Thread Cert.KernelZinIdeal.nD Cert.KernelZinIdeal.τ).loc Cert.KernelZinIdeal.main_arg0) = m ((c.tc : Thread Cert.KernelZinIdeal.nD Cert.KernelZinIdeal.τ).loc Cert.KernelZinIdeal.main_arg0)
      ∧ r.2.mem ((c.tc : Thread Cert.KernelZinIdeal.nD Cert.KernelZinIdeal.τ).loc Cert.KernelZinIdeal.main_arg1) = m ((c.tc : Thread Cert.KernelZinIdeal.nD Cert.KernelZinIdeal.τ).loc Cert.KernelZinIdeal.main_arg1)
      ∧ r.2.mem ((c.tc : Thread Cert.KernelZinIdeal.nD Cert.KernelZinIdeal.τ).loc Cert.KernelZinIdeal.main_arg2) = m ((c.tc : Thread Cert.KernelZinIdeal.nD Cert.KernelZinIdeal.τ).loc Cert.KernelZinIdeal.main_arg2))
      ∧ r.2.sem = fun _ => 0)

def quiescent_ReferenceZinIdeal [hReferenceZinIdeal : Cert.ReferenceZinIdeal.Facts] : Prop :=
  ∀ (m : (ℓ : Loc Cert.ReferenceZinIdeal.nD Cert.ReferenceZinIdeal.τ Cert.ReferenceZinIdeal.sig) → Buf (Elt Ideal) ℓ) (g : Dev Cert.ReferenceZinIdeal.nD → PrngReg), Pre_ReferenceZinIdeal m →
    θ_run (Cert.ReferenceZinIdeal.defs (F := Ideal)) (onTc (τ := Cert.ReferenceZinIdeal.τ) (Cert.ReferenceZinIdeal.main (F := Ideal))) ⟨m, fun _ => 0, g⟩ (fun r => (∀ c : Dev Cert.ReferenceZinIdeal.nD,
      r.2.mem ((c.tc : Thread Cert.ReferenceZinIdeal.nD Cert.ReferenceZinIdeal.τ).loc Cert.ReferenceZinIdeal.main_arg0) = m ((c.tc : Thread Cert.ReferenceZinIdeal.nD Cert.ReferenceZinIdeal.τ).loc Cert.ReferenceZinIdeal.main_arg0)
      ∧ r.2.mem ((c.tc : Thread Cert.ReferenceZinIdeal.nD Cert.ReferenceZinIdeal.τ).loc Cert.ReferenceZinIdeal.main_arg1) = m ((c.tc : Thread Cert.ReferenceZinIdeal.nD Cert.ReferenceZinIdeal.τ).loc Cert.ReferenceZinIdeal.main_arg1)
      ∧ r.2.mem ((c.tc : Thread Cert.ReferenceZinIdeal.nD Cert.ReferenceZinIdeal.τ).loc Cert.ReferenceZinIdeal.main_arg2) = m ((c.tc : Thread Cert.ReferenceZinIdeal.nD Cert.ReferenceZinIdeal.τ).loc Cert.ReferenceZinIdeal.main_arg2))
      ∧ r.2.sem = fun _ => 0)

def quiescent_KernelWgu [hKernelWgu : Cert.KernelWgu.Facts] : Prop :=
  ∀ (m : (ℓ : Loc Cert.KernelWgu.nD Cert.KernelWgu.τ Cert.KernelWgu.sig) → Buf (Elt Bits) ℓ) (g : Dev Cert.KernelWgu.nD → PrngReg), Pre_KernelWgu m →
    θ_run (Cert.KernelWgu.defs (F := Bits)) (onTc (τ := Cert.KernelWgu.τ) (Cert.KernelWgu.main (F := Bits))) ⟨m, fun _ => 0, g⟩ (fun r => (∀ c : Dev Cert.KernelWgu.nD,
      r.2.mem ((c.tc : Thread Cert.KernelWgu.nD Cert.KernelWgu.τ).loc Cert.KernelWgu.main_arg0) = m ((c.tc : Thread Cert.KernelWgu.nD Cert.KernelWgu.τ).loc Cert.KernelWgu.main_arg0)
      ∧ r.2.mem ((c.tc : Thread Cert.KernelWgu.nD Cert.KernelWgu.τ).loc Cert.KernelWgu.main_arg1) = m ((c.tc : Thread Cert.KernelWgu.nD Cert.KernelWgu.τ).loc Cert.KernelWgu.main_arg1)
      ∧ r.2.mem ((c.tc : Thread Cert.KernelWgu.nD Cert.KernelWgu.τ).loc Cert.KernelWgu.main_arg2) = m ((c.tc : Thread Cert.KernelWgu.nD Cert.KernelWgu.τ).loc Cert.KernelWgu.main_arg2))
      ∧ r.2.sem = fun _ => 0)

def quiescent_KernelWguIdeal [hKernelWguIdeal : Cert.KernelWguIdeal.Facts] : Prop :=
  ∀ (m : (ℓ : Loc Cert.KernelWguIdeal.nD Cert.KernelWguIdeal.τ Cert.KernelWguIdeal.sig) → Buf (Elt Ideal) ℓ) (g : Dev Cert.KernelWguIdeal.nD → PrngReg), Pre_KernelWguIdeal m →
    θ_run (Cert.KernelWguIdeal.defs (F := Ideal)) (onTc (τ := Cert.KernelWguIdeal.τ) (Cert.KernelWguIdeal.main (F := Ideal))) ⟨m, fun _ => 0, g⟩ (fun r => (∀ c : Dev Cert.KernelWguIdeal.nD,
      r.2.mem ((c.tc : Thread Cert.KernelWguIdeal.nD Cert.KernelWguIdeal.τ).loc Cert.KernelWguIdeal.main_arg0) = m ((c.tc : Thread Cert.KernelWguIdeal.nD Cert.KernelWguIdeal.τ).loc Cert.KernelWguIdeal.main_arg0)
      ∧ r.2.mem ((c.tc : Thread Cert.KernelWguIdeal.nD Cert.KernelWguIdeal.τ).loc Cert.KernelWguIdeal.main_arg1) = m ((c.tc : Thread Cert.KernelWguIdeal.nD Cert.KernelWguIdeal.τ).loc Cert.KernelWguIdeal.main_arg1)
      ∧ r.2.mem ((c.tc : Thread Cert.KernelWguIdeal.nD Cert.KernelWguIdeal.τ).loc Cert.KernelWguIdeal.main_arg2) = m ((c.tc : Thread Cert.KernelWguIdeal.nD Cert.KernelWguIdeal.τ).loc Cert.KernelWguIdeal.main_arg2))
      ∧ r.2.sem = fun _ => 0)

def quiescent_ReferenceWguIdeal [hReferenceWguIdeal : Cert.ReferenceWguIdeal.Facts] : Prop :=
  ∀ (m : (ℓ : Loc Cert.ReferenceWguIdeal.nD Cert.ReferenceWguIdeal.τ Cert.ReferenceWguIdeal.sig) → Buf (Elt Ideal) ℓ) (g : Dev Cert.ReferenceWguIdeal.nD → PrngReg), Pre_ReferenceWguIdeal m →
    θ_run (Cert.ReferenceWguIdeal.defs (F := Ideal)) (onTc (τ := Cert.ReferenceWguIdeal.τ) (Cert.ReferenceWguIdeal.main (F := Ideal))) ⟨m, fun _ => 0, g⟩ (fun r => (∀ c : Dev Cert.ReferenceWguIdeal.nD,
      r.2.mem ((c.tc : Thread Cert.ReferenceWguIdeal.nD Cert.ReferenceWguIdeal.τ).loc Cert.ReferenceWguIdeal.main_arg0) = m ((c.tc : Thread Cert.ReferenceWguIdeal.nD Cert.ReferenceWguIdeal.τ).loc Cert.ReferenceWguIdeal.main_arg0)
      ∧ r.2.mem ((c.tc : Thread Cert.ReferenceWguIdeal.nD Cert.ReferenceWguIdeal.τ).loc Cert.ReferenceWguIdeal.main_arg1) = m ((c.tc : Thread Cert.ReferenceWguIdeal.nD Cert.ReferenceWguIdeal.τ).loc Cert.ReferenceWguIdeal.main_arg1)
      ∧ r.2.mem ((c.tc : Thread Cert.ReferenceWguIdeal.nD Cert.ReferenceWguIdeal.τ).loc Cert.ReferenceWguIdeal.main_arg2) = m ((c.tc : Thread Cert.ReferenceWguIdeal.nD Cert.ReferenceWguIdeal.τ).loc Cert.ReferenceWguIdeal.main_arg2))
      ∧ r.2.sem = fun _ => 0)

def quiescent_KernelWgd [hKernelWgd : Cert.KernelWgd.Facts] : Prop :=
  ∀ (m : (ℓ : Loc Cert.KernelWgd.nD Cert.KernelWgd.τ Cert.KernelWgd.sig) → Buf (Elt Bits) ℓ) (g : Dev Cert.KernelWgd.nD → PrngReg), Pre_KernelWgd m →
    θ_run (Cert.KernelWgd.defs (F := Bits)) (onTc (τ := Cert.KernelWgd.τ) (Cert.KernelWgd.main (F := Bits))) ⟨m, fun _ => 0, g⟩ (fun r => (∀ c : Dev Cert.KernelWgd.nD,
      r.2.mem ((c.tc : Thread Cert.KernelWgd.nD Cert.KernelWgd.τ).loc Cert.KernelWgd.main_arg0) = m ((c.tc : Thread Cert.KernelWgd.nD Cert.KernelWgd.τ).loc Cert.KernelWgd.main_arg0)
      ∧ r.2.mem ((c.tc : Thread Cert.KernelWgd.nD Cert.KernelWgd.τ).loc Cert.KernelWgd.main_arg1) = m ((c.tc : Thread Cert.KernelWgd.nD Cert.KernelWgd.τ).loc Cert.KernelWgd.main_arg1))
      ∧ r.2.sem = fun _ => 0)

def quiescent_KernelWgdIdeal [hKernelWgdIdeal : Cert.KernelWgdIdeal.Facts] : Prop :=
  ∀ (m : (ℓ : Loc Cert.KernelWgdIdeal.nD Cert.KernelWgdIdeal.τ Cert.KernelWgdIdeal.sig) → Buf (Elt Ideal) ℓ) (g : Dev Cert.KernelWgdIdeal.nD → PrngReg), Pre_KernelWgdIdeal m →
    θ_run (Cert.KernelWgdIdeal.defs (F := Ideal)) (onTc (τ := Cert.KernelWgdIdeal.τ) (Cert.KernelWgdIdeal.main (F := Ideal))) ⟨m, fun _ => 0, g⟩ (fun r => (∀ c : Dev Cert.KernelWgdIdeal.nD,
      r.2.mem ((c.tc : Thread Cert.KernelWgdIdeal.nD Cert.KernelWgdIdeal.τ).loc Cert.KernelWgdIdeal.main_arg0) = m ((c.tc : Thread Cert.KernelWgdIdeal.nD Cert.KernelWgdIdeal.τ).loc Cert.KernelWgdIdeal.main_arg0)
      ∧ r.2.mem ((c.tc : Thread Cert.KernelWgdIdeal.nD Cert.KernelWgdIdeal.τ).loc Cert.KernelWgdIdeal.main_arg1) = m ((c.tc : Thread Cert.KernelWgdIdeal.nD Cert.KernelWgdIdeal.τ).loc Cert.KernelWgdIdeal.main_arg1))
      ∧ r.2.sem = fun _ => 0)

def quiescent_ReferenceWgdIdeal [hReferenceWgdIdeal : Cert.ReferenceWgdIdeal.Facts] : Prop :=
  ∀ (m : (ℓ : Loc Cert.ReferenceWgdIdeal.nD Cert.ReferenceWgdIdeal.τ Cert.ReferenceWgdIdeal.sig) → Buf (Elt Ideal) ℓ) (g : Dev Cert.ReferenceWgdIdeal.nD → PrngReg), Pre_ReferenceWgdIdeal m →
    θ_run (Cert.ReferenceWgdIdeal.defs (F := Ideal)) (onTc (τ := Cert.ReferenceWgdIdeal.τ) (Cert.ReferenceWgdIdeal.main (F := Ideal))) ⟨m, fun _ => 0, g⟩ (fun r => (∀ c : Dev Cert.ReferenceWgdIdeal.nD,
      r.2.mem ((c.tc : Thread Cert.ReferenceWgdIdeal.nD Cert.ReferenceWgdIdeal.τ).loc Cert.ReferenceWgdIdeal.main_arg0) = m ((c.tc : Thread Cert.ReferenceWgdIdeal.nD Cert.ReferenceWgdIdeal.τ).loc Cert.ReferenceWgdIdeal.main_arg0)
      ∧ r.2.mem ((c.tc : Thread Cert.ReferenceWgdIdeal.nD Cert.ReferenceWgdIdeal.τ).loc Cert.ReferenceWgdIdeal.main_arg1) = m ((c.tc : Thread Cert.ReferenceWgdIdeal.nD Cert.ReferenceWgdIdeal.τ).loc Cert.ReferenceWgdIdeal.main_arg1))
      ∧ r.2.sem = fun _ => 0)

def quiescent_KernelWia [hKernelWia : Cert.KernelWia.Facts] : Prop :=
  ∀ (m : (ℓ : Loc Cert.KernelWia.nD Cert.KernelWia.τ Cert.KernelWia.sig) → Buf (Elt Bits) ℓ) (g : Dev Cert.KernelWia.nD → PrngReg), Pre_KernelWia m →
    θ_run (Cert.KernelWia.defs (F := Bits)) (onTc (τ := Cert.KernelWia.τ) (Cert.KernelWia.main (F := Bits))) ⟨m, fun _ => 0, g⟩ (fun r => (∀ c : Dev Cert.KernelWia.nD,
      r.2.mem ((c.tc : Thread Cert.KernelWia.nD Cert.KernelWia.τ).loc Cert.KernelWia.main_arg0) = m ((c.tc : Thread Cert.KernelWia.nD Cert.KernelWia.τ).loc Cert.KernelWia.main_arg0)
      ∧ r.2.mem ((c.tc : Thread Cert.KernelWia.nD Cert.KernelWia.τ).loc Cert.KernelWia.main_arg1) = m ((c.tc : Thread Cert.KernelWia.nD Cert.KernelWia.τ).loc Cert.KernelWia.main_arg1)
      ∧ r.2.mem ((c.tc : Thread Cert.KernelWia.nD Cert.KernelWia.τ).loc Cert.KernelWia.main_arg2) = m ((c.tc : Thread Cert.KernelWia.nD Cert.KernelWia.τ).loc Cert.KernelWia.main_arg2))
      ∧ r.2.sem = fun _ => 0)

def quiescent_KernelWiaIdeal [hKernelWiaIdeal : Cert.KernelWiaIdeal.Facts] : Prop :=
  ∀ (m : (ℓ : Loc Cert.KernelWiaIdeal.nD Cert.KernelWiaIdeal.τ Cert.KernelWiaIdeal.sig) → Buf (Elt Ideal) ℓ) (g : Dev Cert.KernelWiaIdeal.nD → PrngReg), Pre_KernelWiaIdeal m →
    θ_run (Cert.KernelWiaIdeal.defs (F := Ideal)) (onTc (τ := Cert.KernelWiaIdeal.τ) (Cert.KernelWiaIdeal.main (F := Ideal))) ⟨m, fun _ => 0, g⟩ (fun r => (∀ c : Dev Cert.KernelWiaIdeal.nD,
      r.2.mem ((c.tc : Thread Cert.KernelWiaIdeal.nD Cert.KernelWiaIdeal.τ).loc Cert.KernelWiaIdeal.main_arg0) = m ((c.tc : Thread Cert.KernelWiaIdeal.nD Cert.KernelWiaIdeal.τ).loc Cert.KernelWiaIdeal.main_arg0)
      ∧ r.2.mem ((c.tc : Thread Cert.KernelWiaIdeal.nD Cert.KernelWiaIdeal.τ).loc Cert.KernelWiaIdeal.main_arg1) = m ((c.tc : Thread Cert.KernelWiaIdeal.nD Cert.KernelWiaIdeal.τ).loc Cert.KernelWiaIdeal.main_arg1)
      ∧ r.2.mem ((c.tc : Thread Cert.KernelWiaIdeal.nD Cert.KernelWiaIdeal.τ).loc Cert.KernelWiaIdeal.main_arg2) = m ((c.tc : Thread Cert.KernelWiaIdeal.nD Cert.KernelWiaIdeal.τ).loc Cert.KernelWiaIdeal.main_arg2))
      ∧ r.2.sem = fun _ => 0)

def quiescent_ReferenceWiaIdeal [hReferenceWiaIdeal : Cert.ReferenceWiaIdeal.Facts] : Prop :=
  ∀ (m : (ℓ : Loc Cert.ReferenceWiaIdeal.nD Cert.ReferenceWiaIdeal.τ Cert.ReferenceWiaIdeal.sig) → Buf (Elt Ideal) ℓ) (g : Dev Cert.ReferenceWiaIdeal.nD → PrngReg), Pre_ReferenceWiaIdeal m →
    θ_run (Cert.ReferenceWiaIdeal.defs (F := Ideal)) (onTc (τ := Cert.ReferenceWiaIdeal.τ) (Cert.ReferenceWiaIdeal.main (F := Ideal))) ⟨m, fun _ => 0, g⟩ (fun r => (∀ c : Dev Cert.ReferenceWiaIdeal.nD,
      r.2.mem ((c.tc : Thread Cert.ReferenceWiaIdeal.nD Cert.ReferenceWiaIdeal.τ).loc Cert.ReferenceWiaIdeal.main_arg0) = m ((c.tc : Thread Cert.ReferenceWiaIdeal.nD Cert.ReferenceWiaIdeal.τ).loc Cert.ReferenceWiaIdeal.main_arg0)
      ∧ r.2.mem ((c.tc : Thread Cert.ReferenceWiaIdeal.nD Cert.ReferenceWiaIdeal.τ).loc Cert.ReferenceWiaIdeal.main_arg1) = m ((c.tc : Thread Cert.ReferenceWiaIdeal.nD Cert.ReferenceWiaIdeal.τ).loc Cert.ReferenceWiaIdeal.main_arg1)
      ∧ r.2.mem ((c.tc : Thread Cert.ReferenceWiaIdeal.nD Cert.ReferenceWiaIdeal.τ).loc Cert.ReferenceWiaIdeal.main_arg2) = m ((c.tc : Thread Cert.ReferenceWiaIdeal.nD Cert.ReferenceWiaIdeal.τ).loc Cert.ReferenceWiaIdeal.main_arg2))
      ∧ r.2.sem = fun _ => 0)

def quiescent_KernelWib [hKernelWib : Cert.KernelWib.Facts] : Prop :=
  ∀ (m : (ℓ : Loc Cert.KernelWib.nD Cert.KernelWib.τ Cert.KernelWib.sig) → Buf (Elt Bits) ℓ) (g : Dev Cert.KernelWib.nD → PrngReg), Pre_KernelWib m →
    θ_run (Cert.KernelWib.defs (F := Bits)) (onTc (τ := Cert.KernelWib.τ) (Cert.KernelWib.main (F := Bits))) ⟨m, fun _ => 0, g⟩ (fun r => (∀ c : Dev Cert.KernelWib.nD,
      r.2.mem ((c.tc : Thread Cert.KernelWib.nD Cert.KernelWib.τ).loc Cert.KernelWib.main_arg0) = m ((c.tc : Thread Cert.KernelWib.nD Cert.KernelWib.τ).loc Cert.KernelWib.main_arg0)
      ∧ r.2.mem ((c.tc : Thread Cert.KernelWib.nD Cert.KernelWib.τ).loc Cert.KernelWib.main_arg1) = m ((c.tc : Thread Cert.KernelWib.nD Cert.KernelWib.τ).loc Cert.KernelWib.main_arg1)
      ∧ r.2.mem ((c.tc : Thread Cert.KernelWib.nD Cert.KernelWib.τ).loc Cert.KernelWib.main_arg2) = m ((c.tc : Thread Cert.KernelWib.nD Cert.KernelWib.τ).loc Cert.KernelWib.main_arg2))
      ∧ r.2.sem = fun _ => 0)

def quiescent_KernelWibIdeal [hKernelWibIdeal : Cert.KernelWibIdeal.Facts] : Prop :=
  ∀ (m : (ℓ : Loc Cert.KernelWibIdeal.nD Cert.KernelWibIdeal.τ Cert.KernelWibIdeal.sig) → Buf (Elt Ideal) ℓ) (g : Dev Cert.KernelWibIdeal.nD → PrngReg), Pre_KernelWibIdeal m →
    θ_run (Cert.KernelWibIdeal.defs (F := Ideal)) (onTc (τ := Cert.KernelWibIdeal.τ) (Cert.KernelWibIdeal.main (F := Ideal))) ⟨m, fun _ => 0, g⟩ (fun r => (∀ c : Dev Cert.KernelWibIdeal.nD,
      r.2.mem ((c.tc : Thread Cert.KernelWibIdeal.nD Cert.KernelWibIdeal.τ).loc Cert.KernelWibIdeal.main_arg0) = m ((c.tc : Thread Cert.KernelWibIdeal.nD Cert.KernelWibIdeal.τ).loc Cert.KernelWibIdeal.main_arg0)
      ∧ r.2.mem ((c.tc : Thread Cert.KernelWibIdeal.nD Cert.KernelWibIdeal.τ).loc Cert.KernelWibIdeal.main_arg1) = m ((c.tc : Thread Cert.KernelWibIdeal.nD Cert.KernelWibIdeal.τ).loc Cert.KernelWibIdeal.main_arg1)
      ∧ r.2.mem ((c.tc : Thread Cert.KernelWibIdeal.nD Cert.KernelWibIdeal.τ).loc Cert.KernelWibIdeal.main_arg2) = m ((c.tc : Thread Cert.KernelWibIdeal.nD Cert.KernelWibIdeal.τ).loc Cert.KernelWibIdeal.main_arg2))
      ∧ r.2.sem = fun _ => 0)

def quiescent_ReferenceWibIdeal [hReferenceWibIdeal : Cert.ReferenceWibIdeal.Facts] : Prop :=
  ∀ (m : (ℓ : Loc Cert.ReferenceWibIdeal.nD Cert.ReferenceWibIdeal.τ Cert.ReferenceWibIdeal.sig) → Buf (Elt Ideal) ℓ) (g : Dev Cert.ReferenceWibIdeal.nD → PrngReg), Pre_ReferenceWibIdeal m →
    θ_run (Cert.ReferenceWibIdeal.defs (F := Ideal)) (onTc (τ := Cert.ReferenceWibIdeal.τ) (Cert.ReferenceWibIdeal.main (F := Ideal))) ⟨m, fun _ => 0, g⟩ (fun r => (∀ c : Dev Cert.ReferenceWibIdeal.nD,
      r.2.mem ((c.tc : Thread Cert.ReferenceWibIdeal.nD Cert.ReferenceWibIdeal.τ).loc Cert.ReferenceWibIdeal.main_arg0) = m ((c.tc : Thread Cert.ReferenceWibIdeal.nD Cert.ReferenceWibIdeal.τ).loc Cert.ReferenceWibIdeal.main_arg0)
      ∧ r.2.mem ((c.tc : Thread Cert.ReferenceWibIdeal.nD Cert.ReferenceWibIdeal.τ).loc Cert.ReferenceWibIdeal.main_arg1) = m ((c.tc : Thread Cert.ReferenceWibIdeal.nD Cert.ReferenceWibIdeal.τ).loc Cert.ReferenceWibIdeal.main_arg1)
      ∧ r.2.mem ((c.tc : Thread Cert.ReferenceWibIdeal.nD Cert.ReferenceWibIdeal.τ).loc Cert.ReferenceWibIdeal.main_arg2) = m ((c.tc : Thread Cert.ReferenceWibIdeal.nD Cert.ReferenceWibIdeal.τ).loc Cert.ReferenceWibIdeal.main_arg2))
      ∧ r.2.sem = fun _ => 0)

def quiescent_KernelDcp [hKernelDcp : Cert.KernelDcp.Facts] : Prop :=
  ∀ (m : (ℓ : Loc Cert.KernelDcp.nD Cert.KernelDcp.τ Cert.KernelDcp.sig) → Buf (Elt Bits) ℓ) (g : Dev Cert.KernelDcp.nD → PrngReg), Pre_KernelDcp m →
    θ_run (Cert.KernelDcp.defs (F := Bits)) (onTc (τ := Cert.KernelDcp.τ) (Cert.KernelDcp.main (F := Bits))) ⟨m, fun _ => 0, g⟩ (fun r => (∀ c : Dev Cert.KernelDcp.nD,
      r.2.mem ((c.tc : Thread Cert.KernelDcp.nD Cert.KernelDcp.τ).loc Cert.KernelDcp.main_arg0) = m ((c.tc : Thread Cert.KernelDcp.nD Cert.KernelDcp.τ).loc Cert.KernelDcp.main_arg0)
      ∧ r.2.mem ((c.tc : Thread Cert.KernelDcp.nD Cert.KernelDcp.τ).loc Cert.KernelDcp.main_arg1) = m ((c.tc : Thread Cert.KernelDcp.nD Cert.KernelDcp.τ).loc Cert.KernelDcp.main_arg1)
      ∧ r.2.mem ((c.tc : Thread Cert.KernelDcp.nD Cert.KernelDcp.τ).loc Cert.KernelDcp.main_arg2) = m ((c.tc : Thread Cert.KernelDcp.nD Cert.KernelDcp.τ).loc Cert.KernelDcp.main_arg2)
      ∧ r.2.mem ((c.tc : Thread Cert.KernelDcp.nD Cert.KernelDcp.τ).loc Cert.KernelDcp.main_arg3) = m ((c.tc : Thread Cert.KernelDcp.nD Cert.KernelDcp.τ).loc Cert.KernelDcp.main_arg3))
      ∧ r.2.sem = fun _ => 0)

def quiescent_KernelDcpIdeal [hKernelDcpIdeal : Cert.KernelDcpIdeal.Facts] : Prop :=
  ∀ (m : (ℓ : Loc Cert.KernelDcpIdeal.nD Cert.KernelDcpIdeal.τ Cert.KernelDcpIdeal.sig) → Buf (Elt Ideal) ℓ) (g : Dev Cert.KernelDcpIdeal.nD → PrngReg), Pre_KernelDcpIdeal m →
    θ_run (Cert.KernelDcpIdeal.defs (F := Ideal)) (onTc (τ := Cert.KernelDcpIdeal.τ) (Cert.KernelDcpIdeal.main (F := Ideal))) ⟨m, fun _ => 0, g⟩ (fun r => (∀ c : Dev Cert.KernelDcpIdeal.nD,
      r.2.mem ((c.tc : Thread Cert.KernelDcpIdeal.nD Cert.KernelDcpIdeal.τ).loc Cert.KernelDcpIdeal.main_arg0) = m ((c.tc : Thread Cert.KernelDcpIdeal.nD Cert.KernelDcpIdeal.τ).loc Cert.KernelDcpIdeal.main_arg0)
      ∧ r.2.mem ((c.tc : Thread Cert.KernelDcpIdeal.nD Cert.KernelDcpIdeal.τ).loc Cert.KernelDcpIdeal.main_arg1) = m ((c.tc : Thread Cert.KernelDcpIdeal.nD Cert.KernelDcpIdeal.τ).loc Cert.KernelDcpIdeal.main_arg1)
      ∧ r.2.mem ((c.tc : Thread Cert.KernelDcpIdeal.nD Cert.KernelDcpIdeal.τ).loc Cert.KernelDcpIdeal.main_arg2) = m ((c.tc : Thread Cert.KernelDcpIdeal.nD Cert.KernelDcpIdeal.τ).loc Cert.KernelDcpIdeal.main_arg2)
      ∧ r.2.mem ((c.tc : Thread Cert.KernelDcpIdeal.nD Cert.KernelDcpIdeal.τ).loc Cert.KernelDcpIdeal.main_arg3) = m ((c.tc : Thread Cert.KernelDcpIdeal.nD Cert.KernelDcpIdeal.τ).loc Cert.KernelDcpIdeal.main_arg3))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4))
      ∧ r.2.sem = fun _ => 0)

def quiescent_KernelPleb [hKernelPleb : Cert.KernelPleb.Facts] : Prop :=
  ∀ (m : (ℓ : Loc Cert.KernelPleb.nD Cert.KernelPleb.τ Cert.KernelPleb.sig) → Buf (Elt Bits) ℓ) (g : Dev Cert.KernelPleb.nD → PrngReg), Pre_KernelPleb m →
    θ_run (Cert.KernelPleb.defs (F := Bits)) (onTc (τ := Cert.KernelPleb.τ) (Cert.KernelPleb.main (F := Bits))) ⟨m, fun _ => 0, g⟩ (fun r => (∀ c : Dev Cert.KernelPleb.nD,
      r.2.mem ((c.tc : Thread Cert.KernelPleb.nD Cert.KernelPleb.τ).loc Cert.KernelPleb.main_arg0) = m ((c.tc : Thread Cert.KernelPleb.nD Cert.KernelPleb.τ).loc Cert.KernelPleb.main_arg0)
      ∧ r.2.mem ((c.tc : Thread Cert.KernelPleb.nD Cert.KernelPleb.τ).loc Cert.KernelPleb.main_arg1) = m ((c.tc : Thread Cert.KernelPleb.nD Cert.KernelPleb.τ).loc Cert.KernelPleb.main_arg1)
      ∧ r.2.mem ((c.tc : Thread Cert.KernelPleb.nD Cert.KernelPleb.τ).loc Cert.KernelPleb.main_arg2) = m ((c.tc : Thread Cert.KernelPleb.nD Cert.KernelPleb.τ).loc Cert.KernelPleb.main_arg2)
      ∧ r.2.mem ((c.tc : Thread Cert.KernelPleb.nD Cert.KernelPleb.τ).loc Cert.KernelPleb.main_arg3) = m ((c.tc : Thread Cert.KernelPleb.nD Cert.KernelPleb.τ).loc Cert.KernelPleb.main_arg3)
      ∧ r.2.mem ((c.tc : Thread Cert.KernelPleb.nD Cert.KernelPleb.τ).loc Cert.KernelPleb.main_arg4) = m ((c.tc : Thread Cert.KernelPleb.nD Cert.KernelPleb.τ).loc Cert.KernelPleb.main_arg4)
      ∧ r.2.mem ((c.tc : Thread Cert.KernelPleb.nD Cert.KernelPleb.τ).loc Cert.KernelPleb.main_arg5) = m ((c.tc : Thread Cert.KernelPleb.nD Cert.KernelPleb.τ).loc Cert.KernelPleb.main_arg5))
      ∧ r.2.sem = fun _ => 0)

def quiescent_KernelPlebIdeal [hKernelPlebIdeal : Cert.KernelPlebIdeal.Facts] : Prop :=
  ∀ (m : (ℓ : Loc Cert.KernelPlebIdeal.nD Cert.KernelPlebIdeal.τ Cert.KernelPlebIdeal.sig) → Buf (Elt Ideal) ℓ) (g : Dev Cert.KernelPlebIdeal.nD → PrngReg), Pre_KernelPlebIdeal m →
    θ_run (Cert.KernelPlebIdeal.defs (F := Ideal)) (onTc (τ := Cert.KernelPlebIdeal.τ) (Cert.KernelPlebIdeal.main (F := Ideal))) ⟨m, fun _ => 0, g⟩ (fun r => (∀ c : Dev Cert.KernelPlebIdeal.nD,
      r.2.mem ((c.tc : Thread Cert.KernelPlebIdeal.nD Cert.KernelPlebIdeal.τ).loc Cert.KernelPlebIdeal.main_arg0) = m ((c.tc : Thread Cert.KernelPlebIdeal.nD Cert.KernelPlebIdeal.τ).loc Cert.KernelPlebIdeal.main_arg0)
      ∧ r.2.mem ((c.tc : Thread Cert.KernelPlebIdeal.nD Cert.KernelPlebIdeal.τ).loc Cert.KernelPlebIdeal.main_arg1) = m ((c.tc : Thread Cert.KernelPlebIdeal.nD Cert.KernelPlebIdeal.τ).loc Cert.KernelPlebIdeal.main_arg1)
      ∧ r.2.mem ((c.tc : Thread Cert.KernelPlebIdeal.nD Cert.KernelPlebIdeal.τ).loc Cert.KernelPlebIdeal.main_arg2) = m ((c.tc : Thread Cert.KernelPlebIdeal.nD Cert.KernelPlebIdeal.τ).loc Cert.KernelPlebIdeal.main_arg2)
      ∧ r.2.mem ((c.tc : Thread Cert.KernelPlebIdeal.nD Cert.KernelPlebIdeal.τ).loc Cert.KernelPlebIdeal.main_arg3) = m ((c.tc : Thread Cert.KernelPlebIdeal.nD Cert.KernelPlebIdeal.τ).loc Cert.KernelPlebIdeal.main_arg3)
      ∧ r.2.mem ((c.tc : Thread Cert.KernelPlebIdeal.nD Cert.KernelPlebIdeal.τ).loc Cert.KernelPlebIdeal.main_arg4) = m ((c.tc : Thread Cert.KernelPlebIdeal.nD Cert.KernelPlebIdeal.τ).loc Cert.KernelPlebIdeal.main_arg4)
      ∧ r.2.mem ((c.tc : Thread Cert.KernelPlebIdeal.nD Cert.KernelPlebIdeal.τ).loc Cert.KernelPlebIdeal.main_arg5) = m ((c.tc : Thread Cert.KernelPlebIdeal.nD Cert.KernelPlebIdeal.τ).loc Cert.KernelPlebIdeal.main_arg5))
      ∧ r.2.sem = fun _ => 0)

def quiescent_KernelPlebIdeal_pre_finite_pleb [hKernelPlebIdeal : Cert.KernelPlebIdeal.Facts] [hPre_finite_pleb : Cert.Pre_finite_pleb.Facts] : Prop :=
  ∀ (m : (ℓ : Loc Cert.KernelPlebIdeal.nD Cert.KernelPlebIdeal.τ Cert.KernelPlebIdeal.sig) → Buf (Elt Ideal) ℓ) (g : Dev Cert.KernelPlebIdeal.nD → PrngReg), Pre_KernelPlebIdeal_finite_pleb m →
    θ_run (Cert.KernelPlebIdeal.defs (F := Ideal)) (onTc (τ := Cert.KernelPlebIdeal.τ) (Cert.KernelPlebIdeal.main (F := Ideal))) ⟨m, fun _ => 0, g⟩ (fun r => (∀ c : Dev Cert.KernelPlebIdeal.nD,
      r.2.mem ((c.tc : Thread Cert.KernelPlebIdeal.nD Cert.KernelPlebIdeal.τ).loc Cert.KernelPlebIdeal.main_arg0) = m ((c.tc : Thread Cert.KernelPlebIdeal.nD Cert.KernelPlebIdeal.τ).loc Cert.KernelPlebIdeal.main_arg0)
      ∧ r.2.mem ((c.tc : Thread Cert.KernelPlebIdeal.nD Cert.KernelPlebIdeal.τ).loc Cert.KernelPlebIdeal.main_arg1) = m ((c.tc : Thread Cert.KernelPlebIdeal.nD Cert.KernelPlebIdeal.τ).loc Cert.KernelPlebIdeal.main_arg1)
      ∧ r.2.mem ((c.tc : Thread Cert.KernelPlebIdeal.nD Cert.KernelPlebIdeal.τ).loc Cert.KernelPlebIdeal.main_arg2) = m ((c.tc : Thread Cert.KernelPlebIdeal.nD Cert.KernelPlebIdeal.τ).loc Cert.KernelPlebIdeal.main_arg2)
      ∧ r.2.mem ((c.tc : Thread Cert.KernelPlebIdeal.nD Cert.KernelPlebIdeal.τ).loc Cert.KernelPlebIdeal.main_arg3) = m ((c.tc : Thread Cert.KernelPlebIdeal.nD Cert.KernelPlebIdeal.τ).loc Cert.KernelPlebIdeal.main_arg3)
      ∧ r.2.mem ((c.tc : Thread Cert.KernelPlebIdeal.nD Cert.KernelPlebIdeal.τ).loc Cert.KernelPlebIdeal.main_arg4) = m ((c.tc : Thread Cert.KernelPlebIdeal.nD Cert.KernelPlebIdeal.τ).loc Cert.KernelPlebIdeal.main_arg4)
      ∧ r.2.mem ((c.tc : Thread Cert.KernelPlebIdeal.nD Cert.KernelPlebIdeal.τ).loc Cert.KernelPlebIdeal.main_arg5) = m ((c.tc : Thread Cert.KernelPlebIdeal.nD Cert.KernelPlebIdeal.τ).loc Cert.KernelPlebIdeal.main_arg5))
      ∧ r.2.sem = fun _ => 0)

def quiescent_ReferencePlebIdeal [hReferencePlebIdeal : Cert.ReferencePlebIdeal.Facts] : Prop :=
  ∀ (m : (ℓ : Loc Cert.ReferencePlebIdeal.nD Cert.ReferencePlebIdeal.τ Cert.ReferencePlebIdeal.sig) → Buf (Elt Ideal) ℓ) (g : Dev Cert.ReferencePlebIdeal.nD → PrngReg), Pre_ReferencePlebIdeal m →
    θ_run (Cert.ReferencePlebIdeal.defs (F := Ideal)) (onTc (τ := Cert.ReferencePlebIdeal.τ) (Cert.ReferencePlebIdeal.main (F := Ideal))) ⟨m, fun _ => 0, g⟩ (fun r => (∀ c : Dev Cert.ReferencePlebIdeal.nD,
      r.2.mem ((c.tc : Thread Cert.ReferencePlebIdeal.nD Cert.ReferencePlebIdeal.τ).loc Cert.ReferencePlebIdeal.main_arg0) = m ((c.tc : Thread Cert.ReferencePlebIdeal.nD Cert.ReferencePlebIdeal.τ).loc Cert.ReferencePlebIdeal.main_arg0)
      ∧ r.2.mem ((c.tc : Thread Cert.ReferencePlebIdeal.nD Cert.ReferencePlebIdeal.τ).loc Cert.ReferencePlebIdeal.main_arg1) = m ((c.tc : Thread Cert.ReferencePlebIdeal.nD Cert.ReferencePlebIdeal.τ).loc Cert.ReferencePlebIdeal.main_arg1)
      ∧ r.2.mem ((c.tc : Thread Cert.ReferencePlebIdeal.nD Cert.ReferencePlebIdeal.τ).loc Cert.ReferencePlebIdeal.main_arg2) = m ((c.tc : Thread Cert.ReferencePlebIdeal.nD Cert.ReferencePlebIdeal.τ).loc Cert.ReferencePlebIdeal.main_arg2)
      ∧ r.2.mem ((c.tc : Thread Cert.ReferencePlebIdeal.nD Cert.ReferencePlebIdeal.τ).loc Cert.ReferencePlebIdeal.main_arg3) = m ((c.tc : Thread Cert.ReferencePlebIdeal.nD Cert.ReferencePlebIdeal.τ).loc Cert.ReferencePlebIdeal.main_arg3)
      ∧ r.2.mem ((c.tc : Thread Cert.ReferencePlebIdeal.nD Cert.ReferencePlebIdeal.τ).loc Cert.ReferencePlebIdeal.main_arg4) = m ((c.tc : Thread Cert.ReferencePlebIdeal.nD Cert.ReferencePlebIdeal.τ).loc Cert.ReferencePlebIdeal.main_arg4)
      ∧ r.2.mem ((c.tc : Thread Cert.ReferencePlebIdeal.nD Cert.ReferencePlebIdeal.τ).loc Cert.ReferencePlebIdeal.main_arg5) = m ((c.tc : Thread Cert.ReferencePlebIdeal.nD Cert.ReferencePlebIdeal.τ).loc Cert.ReferencePlebIdeal.main_arg5))
      ∧ r.2.sem = fun _ => 0)

def quiescent_ReferencePlebIdeal_pre_finite_pleb [hReferencePlebIdeal : Cert.ReferencePlebIdeal.Facts] [hPre_finite_pleb : Cert.Pre_finite_pleb.Facts] : Prop :=
  ∀ (m : (ℓ : Loc Cert.ReferencePlebIdeal.nD Cert.ReferencePlebIdeal.τ Cert.ReferencePlebIdeal.sig) → Buf (Elt Ideal) ℓ) (g : Dev Cert.ReferencePlebIdeal.nD → PrngReg), Pre_ReferencePlebIdeal_finite_pleb m →
    θ_run (Cert.ReferencePlebIdeal.defs (F := Ideal)) (onTc (τ := Cert.ReferencePlebIdeal.τ) (Cert.ReferencePlebIdeal.main (F := Ideal))) ⟨m, fun _ => 0, g⟩ (fun r => (∀ c : Dev Cert.ReferencePlebIdeal.nD,
      r.2.mem ((c.tc : Thread Cert.ReferencePlebIdeal.nD Cert.ReferencePlebIdeal.τ).loc Cert.ReferencePlebIdeal.main_arg0) = m ((c.tc : Thread Cert.ReferencePlebIdeal.nD Cert.ReferencePlebIdeal.τ).loc Cert.ReferencePlebIdeal.main_arg0)
      ∧ r.2.mem ((c.tc : Thread Cert.ReferencePlebIdeal.nD Cert.ReferencePlebIdeal.τ).loc Cert.ReferencePlebIdeal.main_arg1) = m ((c.tc : Thread Cert.ReferencePlebIdeal.nD Cert.ReferencePlebIdeal.τ).loc Cert.ReferencePlebIdeal.main_arg1)
      ∧ r.2.mem ((c.tc : Thread Cert.ReferencePlebIdeal.nD Cert.ReferencePlebIdeal.τ).loc Cert.ReferencePlebIdeal.main_arg2) = m ((c.tc : Thread Cert.ReferencePlebIdeal.nD Cert.ReferencePlebIdeal.τ).loc Cert.ReferencePlebIdeal.main_arg2)
      ∧ r.2.mem ((c.tc : Thread Cert.ReferencePlebIdeal.nD Cert.ReferencePlebIdeal.τ).loc Cert.ReferencePlebIdeal.main_arg3) = m ((c.tc : Thread Cert.ReferencePlebIdeal.nD Cert.ReferencePlebIdeal.τ).loc Cert.ReferencePlebIdeal.main_arg3)
      ∧ r.2.mem ((c.tc : Thread Cert.ReferencePlebIdeal.nD Cert.ReferencePlebIdeal.τ).loc Cert.ReferencePlebIdeal.main_arg4) = m ((c.tc : Thread Cert.ReferencePlebIdeal.nD Cert.ReferencePlebIdeal.τ).loc Cert.ReferencePlebIdeal.main_arg4)
      ∧ r.2.mem ((c.tc : Thread Cert.ReferencePlebIdeal.nD Cert.ReferencePlebIdeal.τ).loc Cert.ReferencePlebIdeal.main_arg5) = m ((c.tc : Thread Cert.ReferencePlebIdeal.nD Cert.ReferencePlebIdeal.τ).loc Cert.ReferencePlebIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)) (v5 : (c : Dev Cert.KernelIdeal.nD) → Buf (Elt Ideal) ((c.tc : Thread Cert.KernelIdeal.nD Cert.KernelIdeal.τ).loc Cert.KernelIdeal.main_v27_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_v27_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_v87) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelIn_KernelInIdeal : Prop :=
  True

def algebraic_KernelInIdeal_ReferenceInIdeal_pre_finite_in [hKernelInIdeal : Cert.KernelInIdeal.Facts] [hReferenceInIdeal : Cert.ReferenceInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_finite_in m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v4_0)) (v1 : (c : Dev Cert.KernelInIdeal.nD) → Buf (Elt Ideal) ((c.tc : Thread Cert.KernelInIdeal.nD Cert.KernelInIdeal.τ).loc Cert.KernelInIdeal.main_v4_1)) (v2 : (c : Dev Cert.KernelInIdeal.nD) → Buf (Elt Ideal) ((c.tc : Thread Cert.KernelInIdeal.nD Cert.KernelInIdeal.τ).loc Cert.KernelInIdeal.main_v4_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4_0) = v0 c
          ∧ r.2.mem ((c.tc : Thread Cert.KernelInIdeal.nD Cert.KernelInIdeal.τ).loc Cert.KernelInIdeal.main_v4_1) = v1 c
          ∧ r.2.mem ((c.tc : Thread Cert.KernelInIdeal.nD Cert.KernelInIdeal.τ).loc Cert.KernelInIdeal.main_v4_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v41) = v0 c
          ∧ r.2.mem ((c.tc : Thread Cert.ReferenceInIdeal.nD Cert.ReferenceInIdeal.τ).loc Cert.ReferenceInIdeal.main_v55) = v1 c
          ∧ r.2.mem ((c.tc : Thread Cert.ReferenceInIdeal.nD Cert.ReferenceInIdeal.τ).loc Cert.ReferenceInIdeal.main_v56) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)) →
    ∃ (v0 : (c : Dev Cert.KernelFwdIdeal.nD) → Buf (Elt Ideal) ((c.tc : Thread Cert.KernelFwdIdeal.nD Cert.KernelFwdIdeal.τ).loc Cert.KernelFwdIdeal.main_v10_0)) (v1 : (c : Dev Cert.KernelFwdIdeal.nD) → Buf (Elt Ideal) ((c.tc : Thread Cert.KernelFwdIdeal.nD Cert.KernelFwdIdeal.τ).loc Cert.KernelFwdIdeal.main_v10_1)) (v2 : (c : Dev Cert.KernelFwdIdeal.nD) → Buf (Elt Ideal) ((c.tc : Thread Cert.KernelFwdIdeal.nD Cert.KernelFwdIdeal.τ).loc Cert.KernelFwdIdeal.main_v10_2)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v10_0) = v0 c
          ∧ r.2.mem ((c.tc : Thread Cert.KernelFwdIdeal.nD Cert.KernelFwdIdeal.τ).loc Cert.KernelFwdIdeal.main_v10_1) = v1 c
          ∧ r.2.mem ((c.tc : Thread Cert.KernelFwdIdeal.nD Cert.KernelFwdIdeal.τ).loc Cert.KernelFwdIdeal.main_v10_2) = v2 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v33) = v0 c
          ∧ r.2.mem ((c.tc : Thread Cert.ReferenceFwdIdeal.nD Cert.ReferenceFwdIdeal.τ).loc Cert.ReferenceFwdIdeal.main_v35) = v1 c
          ∧ r.2.mem ((c.tc : Thread Cert.ReferenceFwdIdeal.nD Cert.ReferenceFwdIdeal.τ).loc Cert.ReferenceFwdIdeal.main_v37) = v2 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4))

def preserves_KernelZin_KernelZinIdeal : Prop :=
  True

def algebraic_KernelZinIdeal_ReferenceZinIdeal [hKernelZinIdeal : Cert.KernelZinIdeal.Facts] [hReferenceZinIdeal : Cert.ReferenceZinIdeal.Facts] : Prop :=
  ∀ (m : (ℓ : Loc Cert.KernelZinIdeal.nD Cert.KernelZinIdeal.τ Cert.KernelZinIdeal.sig) → Buf (Elt Ideal) ℓ) (g : Dev Cert.KernelZinIdeal.nD → PrngReg)
    (m' : (ℓ : Loc Cert.ReferenceZinIdeal.nD Cert.ReferenceZinIdeal.τ Cert.ReferenceZinIdeal.sig) → Buf (Elt Ideal) ℓ) (g' : Dev Cert.ReferenceZinIdeal.nD → PrngReg), Pre_KernelZinIdeal m →
    (∀ c : Dev Cert.KernelZinIdeal.nD,
      m' ((c.tc : Thread Cert.ReferenceZinIdeal.nD Cert.ReferenceZinIdeal.τ).loc Cert.ReferenceZinIdeal.main_arg0) = m ((c.tc : Thread Cert.KernelZinIdeal.nD Cert.KernelZinIdeal.τ).loc Cert.KernelZinIdeal.main_arg0)
      ∧ m' ((c.tc : Thread Cert.ReferenceZinIdeal.nD Cert.ReferenceZinIdeal.τ).loc Cert.ReferenceZinIdeal.main_arg1) = m ((c.tc : Thread Cert.KernelZinIdeal.nD Cert.KernelZinIdeal.τ).loc Cert.KernelZinIdeal.main_arg1)
      ∧ m' ((c.tc : Thread Cert.ReferenceZinIdeal.nD Cert.ReferenceZinIdeal.τ).loc Cert.ReferenceZinIdeal.main_arg2) = m ((c.tc : Thread Cert.KernelZinIdeal.nD Cert.KernelZinIdeal.τ).loc Cert.KernelZinIdeal.main_arg2)) →
    ∃ (v0 : (c : Dev Cert.KernelZinIdeal.nD) → Buf (Elt Ideal) ((c.tc : Thread Cert.KernelZinIdeal.nD Cert.KernelZinIdeal.τ).loc Cert.KernelZinIdeal.main_v4)),
      θ_run (Cert.KernelZinIdeal.defs (F := Ideal)) (onTc (τ := Cert.KernelZinIdeal.τ) (Cert.KernelZinIdeal.main (F := Ideal))) ⟨m, fun _ => 0, g⟩ (fun r => ∀ c : Dev Cert.KernelZinIdeal.nD,
          r.2.mem ((c.tc : Thread Cert.KernelZinIdeal.nD Cert.KernelZinIdeal.τ).loc Cert.KernelZinIdeal.main_v4) = v0 c
          ∧ r.2.mem ((c.tc : Thread Cert.KernelZinIdeal.nD Cert.KernelZinIdeal.τ).loc Cert.KernelZinIdeal.main_arg0) = m ((c.tc : Thread Cert.KernelZinIdeal.nD Cert.KernelZinIdeal.τ).loc Cert.KernelZinIdeal.main_arg0)
          ∧ r.2.mem ((c.tc : Thread Cert.KernelZinIdeal.nD Cert.KernelZinIdeal.τ).loc Cert.KernelZinIdeal.main_arg1) = m ((c.tc : Thread Cert.KernelZinIdeal.nD Cert.KernelZinIdeal.τ).loc Cert.KernelZinIdeal.main_arg1)
          ∧ r.2.mem ((c.tc : Thread Cert.KernelZinIdeal.nD Cert.KernelZinIdeal.τ).loc Cert.KernelZinIdeal.main_arg2) = m ((c.tc : Thread Cert.KernelZinIdeal.nD Cert.KernelZinIdeal.τ).loc Cert.KernelZinIdeal.main_arg2))
      ∧ θ_run (Cert.ReferenceZinIdeal.defs (F := Ideal)) (onTc (τ := Cert.ReferenceZinIdeal.τ) (Cert.ReferenceZinIdeal.main (F := Ideal))) ⟨m', fun _ => 0, g'⟩ (fun r => ∀ c : Dev Cert.ReferenceZinIdeal.nD,
          r.2.mem ((c.tc : Thread Cert.ReferenceZinIdeal.nD Cert.ReferenceZinIdeal.τ).loc Cert.ReferenceZinIdeal.main_v14) = v0 c
          ∧ r.2.mem ((c.tc : Thread Cert.ReferenceZinIdeal.nD Cert.ReferenceZinIdeal.τ).loc Cert.ReferenceZinIdeal.main_arg0) = m' ((c.tc : Thread Cert.ReferenceZinIdeal.nD Cert.ReferenceZinIdeal.τ).loc Cert.ReferenceZinIdeal.main_arg0)
          ∧ r.2.mem ((c.tc : Thread Cert.ReferenceZinIdeal.nD Cert.ReferenceZinIdeal.τ).loc Cert.ReferenceZinIdeal.main_arg1) = m' ((c.tc : Thread Cert.ReferenceZinIdeal.nD Cert.ReferenceZinIdeal.τ).loc Cert.ReferenceZinIdeal.main_arg1)
          ∧ r.2.mem ((c.tc : Thread Cert.ReferenceZinIdeal.nD Cert.ReferenceZinIdeal.τ).loc Cert.ReferenceZinIdeal.main_arg2) = m' ((c.tc : Thread Cert.ReferenceZinIdeal.nD Cert.ReferenceZinIdeal.τ).loc Cert.ReferenceZinIdeal.main_arg2))

def preserves_KernelWgu_KernelWguIdeal : Prop :=
  True

def algebraic_KernelWguIdeal_ReferenceWguIdeal [hKernelWguIdeal : Cert.KernelWguIdeal.Facts] [hReferenceWguIdeal : Cert.ReferenceWguIdeal.Facts] : Prop :=
  ∀ (m : (ℓ : Loc Cert.KernelWguIdeal.nD Cert.KernelWguIdeal.τ Cert.KernelWguIdeal.sig) → Buf (Elt Ideal) ℓ) (g : Dev Cert.KernelWguIdeal.nD → PrngReg)
    (m' : (ℓ : Loc Cert.ReferenceWguIdeal.nD Cert.ReferenceWguIdeal.τ Cert.ReferenceWguIdeal.sig) → Buf (Elt Ideal) ℓ) (g' : Dev Cert.ReferenceWguIdeal.nD → PrngReg), Pre_KernelWguIdeal m →
    (∀ c : Dev Cert.KernelWguIdeal.nD,
      m' ((c.tc : Thread Cert.ReferenceWguIdeal.nD Cert.ReferenceWguIdeal.τ).loc Cert.ReferenceWguIdeal.main_arg0) = m ((c.tc : Thread Cert.KernelWguIdeal.nD Cert.KernelWguIdeal.τ).loc Cert.KernelWguIdeal.main_arg0)
      ∧ m' ((c.tc : Thread Cert.ReferenceWguIdeal.nD Cert.ReferenceWguIdeal.τ).loc Cert.ReferenceWguIdeal.main_arg1) = m ((c.tc : Thread Cert.KernelWguIdeal.nD Cert.KernelWguIdeal.τ).loc Cert.KernelWguIdeal.main_arg1)
      ∧ m' ((c.tc : Thread Cert.ReferenceWguIdeal.nD Cert.ReferenceWguIdeal.τ).loc Cert.ReferenceWguIdeal.main_arg2) = m ((c.tc : Thread Cert.KernelWguIdeal.nD Cert.KernelWguIdeal.τ).loc Cert.KernelWguIdeal.main_arg2)) →
    ∃ (v0 : (c : Dev Cert.KernelWguIdeal.nD) → Buf (Elt Ideal) ((c.tc : Thread Cert.KernelWguIdeal.nD Cert.KernelWguIdeal.τ).loc Cert.KernelWguIdeal.main_v0)),
      θ_run (Cert.KernelWguIdeal.defs (F := Ideal)) (onTc (τ := Cert.KernelWguIdeal.τ) (Cert.KernelWguIdeal.main (F := Ideal))) ⟨m, fun _ => 0, g⟩ (fun r => ∀ c : Dev Cert.KernelWguIdeal.nD,
          r.2.mem ((c.tc : Thread Cert.KernelWguIdeal.nD Cert.KernelWguIdeal.τ).loc Cert.KernelWguIdeal.main_v0) = v0 c
          ∧ r.2.mem ((c.tc : Thread Cert.KernelWguIdeal.nD Cert.KernelWguIdeal.τ).loc Cert.KernelWguIdeal.main_arg0) = m ((c.tc : Thread Cert.KernelWguIdeal.nD Cert.KernelWguIdeal.τ).loc Cert.KernelWguIdeal.main_arg0)
          ∧ r.2.mem ((c.tc : Thread Cert.KernelWguIdeal.nD Cert.KernelWguIdeal.τ).loc Cert.KernelWguIdeal.main_arg1) = m ((c.tc : Thread Cert.KernelWguIdeal.nD Cert.KernelWguIdeal.τ).loc Cert.KernelWguIdeal.main_arg1)
          ∧ r.2.mem ((c.tc : Thread Cert.KernelWguIdeal.nD Cert.KernelWguIdeal.τ).loc Cert.KernelWguIdeal.main_arg2) = m ((c.tc : Thread Cert.KernelWguIdeal.nD Cert.KernelWguIdeal.τ).loc Cert.KernelWguIdeal.main_arg2))
      ∧ θ_run (Cert.ReferenceWguIdeal.defs (F := Ideal)) (onTc (τ := Cert.ReferenceWguIdeal.τ) (Cert.ReferenceWguIdeal.main (F := Ideal))) ⟨m', fun _ => 0, g'⟩ (fun r => ∀ c : Dev Cert.ReferenceWguIdeal.nD,
          r.2.mem ((c.tc : Thread Cert.ReferenceWguIdeal.nD Cert.ReferenceWguIdeal.τ).loc Cert.ReferenceWguIdeal.main_v15) = v0 c
          ∧ r.2.mem ((c.tc : Thread Cert.ReferenceWguIdeal.nD Cert.ReferenceWguIdeal.τ).loc Cert.ReferenceWguIdeal.main_arg0) = m' ((c.tc : Thread Cert.ReferenceWguIdeal.nD Cert.ReferenceWguIdeal.τ).loc Cert.ReferenceWguIdeal.main_arg0)
          ∧ r.2.mem ((c.tc : Thread Cert.ReferenceWguIdeal.nD Cert.ReferenceWguIdeal.τ).loc Cert.ReferenceWguIdeal.main_arg1) = m' ((c.tc : Thread Cert.ReferenceWguIdeal.nD Cert.ReferenceWguIdeal.τ).loc Cert.ReferenceWguIdeal.main_arg1)
          ∧ r.2.mem ((c.tc : Thread Cert.ReferenceWguIdeal.nD Cert.ReferenceWguIdeal.τ).loc Cert.ReferenceWguIdeal.main_arg2) = m' ((c.tc : Thread Cert.ReferenceWguIdeal.nD Cert.ReferenceWguIdeal.τ).loc Cert.ReferenceWguIdeal.main_arg2))

def preserves_KernelWgd_KernelWgdIdeal : Prop :=
  True

def algebraic_KernelWgdIdeal_ReferenceWgdIdeal [hKernelWgdIdeal : Cert.KernelWgdIdeal.Facts] [hReferenceWgdIdeal : Cert.ReferenceWgdIdeal.Facts] : Prop :=
  ∀ (m : (ℓ : Loc Cert.KernelWgdIdeal.nD Cert.KernelWgdIdeal.τ Cert.KernelWgdIdeal.sig) → Buf (Elt Ideal) ℓ) (g : Dev Cert.KernelWgdIdeal.nD → PrngReg)
    (m' : (ℓ : Loc Cert.ReferenceWgdIdeal.nD Cert.ReferenceWgdIdeal.τ Cert.ReferenceWgdIdeal.sig) → Buf (Elt Ideal) ℓ) (g' : Dev Cert.ReferenceWgdIdeal.nD → PrngReg), Pre_KernelWgdIdeal m →
    (∀ c : Dev Cert.KernelWgdIdeal.nD,
      m' ((c.tc : Thread Cert.ReferenceWgdIdeal.nD Cert.ReferenceWgdIdeal.τ).loc Cert.ReferenceWgdIdeal.main_arg0) = m ((c.tc : Thread Cert.KernelWgdIdeal.nD Cert.KernelWgdIdeal.τ).loc Cert.KernelWgdIdeal.main_arg0)
      ∧ m' ((c.tc : Thread Cert.ReferenceWgdIdeal.nD Cert.ReferenceWgdIdeal.τ).loc Cert.ReferenceWgdIdeal.main_arg1) = m ((c.tc : Thread Cert.KernelWgdIdeal.nD Cert.KernelWgdIdeal.τ).loc Cert.KernelWgdIdeal.main_arg1)) →
    ∃ (v0 : (c : Dev Cert.KernelWgdIdeal.nD) → Buf (Elt Ideal) ((c.tc : Thread Cert.KernelWgdIdeal.nD Cert.KernelWgdIdeal.τ).loc Cert.KernelWgdIdeal.main_v0)),
      θ_run (Cert.KernelWgdIdeal.defs (F := Ideal)) (onTc (τ := Cert.KernelWgdIdeal.τ) (Cert.KernelWgdIdeal.main (F := Ideal))) ⟨m, fun _ => 0, g⟩ (fun r => ∀ c : Dev Cert.KernelWgdIdeal.nD,
          r.2.mem ((c.tc : Thread Cert.KernelWgdIdeal.nD Cert.KernelWgdIdeal.τ).loc Cert.KernelWgdIdeal.main_v0) = v0 c
          ∧ r.2.mem ((c.tc : Thread Cert.KernelWgdIdeal.nD Cert.KernelWgdIdeal.τ).loc Cert.KernelWgdIdeal.main_arg0) = m ((c.tc : Thread Cert.KernelWgdIdeal.nD Cert.KernelWgdIdeal.τ).loc Cert.KernelWgdIdeal.main_arg0)
          ∧ r.2.mem ((c.tc : Thread Cert.KernelWgdIdeal.nD Cert.KernelWgdIdeal.τ).loc Cert.KernelWgdIdeal.main_arg1) = m ((c.tc : Thread Cert.KernelWgdIdeal.nD Cert.KernelWgdIdeal.τ).loc Cert.KernelWgdIdeal.main_arg1))
      ∧ θ_run (Cert.ReferenceWgdIdeal.defs (F := Ideal)) (onTc (τ := Cert.ReferenceWgdIdeal.τ) (Cert.ReferenceWgdIdeal.main (F := Ideal))) ⟨m', fun _ => 0, g'⟩ (fun r => ∀ c : Dev Cert.ReferenceWgdIdeal.nD,
          r.2.mem ((c.tc : Thread Cert.ReferenceWgdIdeal.nD Cert.ReferenceWgdIdeal.τ).loc Cert.ReferenceWgdIdeal.main_v10) = v0 c
          ∧ r.2.mem ((c.tc : Thread Cert.ReferenceWgdIdeal.nD Cert.ReferenceWgdIdeal.τ).loc Cert.ReferenceWgdIdeal.main_arg0) = m' ((c.tc : Thread Cert.ReferenceWgdIdeal.nD Cert.ReferenceWgdIdeal.τ).loc Cert.ReferenceWgdIdeal.main_arg0)
          ∧ r.2.mem ((c.tc : Thread Cert.ReferenceWgdIdeal.nD Cert.ReferenceWgdIdeal.τ).loc Cert.ReferenceWgdIdeal.main_arg1) = m' ((c.tc : Thread Cert.ReferenceWgdIdeal.nD Cert.ReferenceWgdIdeal.τ).loc Cert.ReferenceWgdIdeal.main_arg1))

def preserves_KernelWia_KernelWiaIdeal : Prop :=
  True

def algebraic_KernelWiaIdeal_ReferenceWiaIdeal [hKernelWiaIdeal : Cert.KernelWiaIdeal.Facts] [hReferenceWiaIdeal : Cert.ReferenceWiaIdeal.Facts] : Prop :=
  ∀ (m : (ℓ : Loc Cert.KernelWiaIdeal.nD Cert.KernelWiaIdeal.τ Cert.KernelWiaIdeal.sig) → Buf (Elt Ideal) ℓ) (g : Dev Cert.KernelWiaIdeal.nD → PrngReg)
    (m' : (ℓ : Loc Cert.ReferenceWiaIdeal.nD Cert.ReferenceWiaIdeal.τ Cert.ReferenceWiaIdeal.sig) → Buf (Elt Ideal) ℓ) (g' : Dev Cert.ReferenceWiaIdeal.nD → PrngReg), Pre_KernelWiaIdeal m →
    (∀ c : Dev Cert.KernelWiaIdeal.nD,
      m' ((c.tc : Thread Cert.ReferenceWiaIdeal.nD Cert.ReferenceWiaIdeal.τ).loc Cert.ReferenceWiaIdeal.main_arg0) = m ((c.tc : Thread Cert.KernelWiaIdeal.nD Cert.KernelWiaIdeal.τ).loc Cert.KernelWiaIdeal.main_arg0)
      ∧ m' ((c.tc : Thread Cert.ReferenceWiaIdeal.nD Cert.ReferenceWiaIdeal.τ).loc Cert.ReferenceWiaIdeal.main_arg1) = m ((c.tc : Thread Cert.KernelWiaIdeal.nD Cert.KernelWiaIdeal.τ).loc Cert.KernelWiaIdeal.main_arg1)
      ∧ m' ((c.tc : Thread Cert.ReferenceWiaIdeal.nD Cert.ReferenceWiaIdeal.τ).loc Cert.ReferenceWiaIdeal.main_arg2) = m ((c.tc : Thread Cert.KernelWiaIdeal.nD Cert.KernelWiaIdeal.τ).loc Cert.KernelWiaIdeal.main_arg2)) →
    ∃ (v0 : (c : Dev Cert.KernelWiaIdeal.nD) → Buf (Elt Ideal) ((c.tc : Thread Cert.KernelWiaIdeal.nD Cert.KernelWiaIdeal.τ).loc Cert.KernelWiaIdeal.main_v0)),
      θ_run (Cert.KernelWiaIdeal.defs (F := Ideal)) (onTc (τ := Cert.KernelWiaIdeal.τ) (Cert.KernelWiaIdeal.main (F := Ideal))) ⟨m, fun _ => 0, g⟩ (fun r => ∀ c : Dev Cert.KernelWiaIdeal.nD,
          r.2.mem ((c.tc : Thread Cert.KernelWiaIdeal.nD Cert.KernelWiaIdeal.τ).loc Cert.KernelWiaIdeal.main_v0) = v0 c
          ∧ r.2.mem ((c.tc : Thread Cert.KernelWiaIdeal.nD Cert.KernelWiaIdeal.τ).loc Cert.KernelWiaIdeal.main_arg0) = m ((c.tc : Thread Cert.KernelWiaIdeal.nD Cert.KernelWiaIdeal.τ).loc Cert.KernelWiaIdeal.main_arg0)
          ∧ r.2.mem ((c.tc : Thread Cert.KernelWiaIdeal.nD Cert.KernelWiaIdeal.τ).loc Cert.KernelWiaIdeal.main_arg1) = m ((c.tc : Thread Cert.KernelWiaIdeal.nD Cert.KernelWiaIdeal.τ).loc Cert.KernelWiaIdeal.main_arg1)
          ∧ r.2.mem ((c.tc : Thread Cert.KernelWiaIdeal.nD Cert.KernelWiaIdeal.τ).loc Cert.KernelWiaIdeal.main_arg2) = m ((c.tc : Thread Cert.KernelWiaIdeal.nD Cert.KernelWiaIdeal.τ).loc Cert.KernelWiaIdeal.main_arg2))
      ∧ θ_run (Cert.ReferenceWiaIdeal.defs (F := Ideal)) (onTc (τ := Cert.ReferenceWiaIdeal.τ) (Cert.ReferenceWiaIdeal.main (F := Ideal))) ⟨m', fun _ => 0, g'⟩ (fun r => ∀ c : Dev Cert.ReferenceWiaIdeal.nD,
          r.2.mem ((c.tc : Thread Cert.ReferenceWiaIdeal.nD Cert.ReferenceWiaIdeal.τ).loc Cert.ReferenceWiaIdeal.main_v14) = v0 c
          ∧ r.2.mem ((c.tc : Thread Cert.ReferenceWiaIdeal.nD Cert.ReferenceWiaIdeal.τ).loc Cert.ReferenceWiaIdeal.main_arg0) = m' ((c.tc : Thread Cert.ReferenceWiaIdeal.nD Cert.ReferenceWiaIdeal.τ).loc Cert.ReferenceWiaIdeal.main_arg0)
          ∧ r.2.mem ((c.tc : Thread Cert.ReferenceWiaIdeal.nD Cert.ReferenceWiaIdeal.τ).loc Cert.ReferenceWiaIdeal.main_arg1) = m' ((c.tc : Thread Cert.ReferenceWiaIdeal.nD Cert.ReferenceWiaIdeal.τ).loc Cert.ReferenceWiaIdeal.main_arg1)
          ∧ r.2.mem ((c.tc : Thread Cert.ReferenceWiaIdeal.nD Cert.ReferenceWiaIdeal.τ).loc Cert.ReferenceWiaIdeal.main_arg2) = m' ((c.tc : Thread Cert.ReferenceWiaIdeal.nD Cert.ReferenceWiaIdeal.τ).loc Cert.ReferenceWiaIdeal.main_arg2))

def preserves_KernelWib_KernelWibIdeal : Prop :=
  True

def algebraic_KernelWibIdeal_ReferenceWibIdeal [hKernelWibIdeal : Cert.KernelWibIdeal.Facts] [hReferenceWibIdeal : Cert.ReferenceWibIdeal.Facts] : Prop :=
  ∀ (m : (ℓ : Loc Cert.KernelWibIdeal.nD Cert.KernelWibIdeal.τ Cert.KernelWibIdeal.sig) → Buf (Elt Ideal) ℓ) (g : Dev Cert.KernelWibIdeal.nD → PrngReg)
    (m' : (ℓ : Loc Cert.ReferenceWibIdeal.nD Cert.ReferenceWibIdeal.τ Cert.ReferenceWibIdeal.sig) → Buf (Elt Ideal) ℓ) (g' : Dev Cert.ReferenceWibIdeal.nD → PrngReg), Pre_KernelWibIdeal m →
    (∀ c : Dev Cert.KernelWibIdeal.nD,
      m' ((c.tc : Thread Cert.ReferenceWibIdeal.nD Cert.ReferenceWibIdeal.τ).loc Cert.ReferenceWibIdeal.main_arg0) = m ((c.tc : Thread Cert.KernelWibIdeal.nD Cert.KernelWibIdeal.τ).loc Cert.KernelWibIdeal.main_arg0)
      ∧ m' ((c.tc : Thread Cert.ReferenceWibIdeal.nD Cert.ReferenceWibIdeal.τ).loc Cert.ReferenceWibIdeal.main_arg1) = m ((c.tc : Thread Cert.KernelWibIdeal.nD Cert.KernelWibIdeal.τ).loc Cert.KernelWibIdeal.main_arg1)
      ∧ m' ((c.tc : Thread Cert.ReferenceWibIdeal.nD Cert.ReferenceWibIdeal.τ).loc Cert.ReferenceWibIdeal.main_arg2) = m ((c.tc : Thread Cert.KernelWibIdeal.nD Cert.KernelWibIdeal.τ).loc Cert.KernelWibIdeal.main_arg2)) →
    ∃ (v0 : (c : Dev Cert.KernelWibIdeal.nD) → Buf (Elt Ideal) ((c.tc : Thread Cert.KernelWibIdeal.nD Cert.KernelWibIdeal.τ).loc Cert.KernelWibIdeal.main_v0)),
      θ_run (Cert.KernelWibIdeal.defs (F := Ideal)) (onTc (τ := Cert.KernelWibIdeal.τ) (Cert.KernelWibIdeal.main (F := Ideal))) ⟨m, fun _ => 0, g⟩ (fun r => ∀ c : Dev Cert.KernelWibIdeal.nD,
          r.2.mem ((c.tc : Thread Cert.KernelWibIdeal.nD Cert.KernelWibIdeal.τ).loc Cert.KernelWibIdeal.main_v0) = v0 c
          ∧ r.2.mem ((c.tc : Thread Cert.KernelWibIdeal.nD Cert.KernelWibIdeal.τ).loc Cert.KernelWibIdeal.main_arg0) = m ((c.tc : Thread Cert.KernelWibIdeal.nD Cert.KernelWibIdeal.τ).loc Cert.KernelWibIdeal.main_arg0)
          ∧ r.2.mem ((c.tc : Thread Cert.KernelWibIdeal.nD Cert.KernelWibIdeal.τ).loc Cert.KernelWibIdeal.main_arg1) = m ((c.tc : Thread Cert.KernelWibIdeal.nD Cert.KernelWibIdeal.τ).loc Cert.KernelWibIdeal.main_arg1)
          ∧ r.2.mem ((c.tc : Thread Cert.KernelWibIdeal.nD Cert.KernelWibIdeal.τ).loc Cert.KernelWibIdeal.main_arg2) = m ((c.tc : Thread Cert.KernelWibIdeal.nD Cert.KernelWibIdeal.τ).loc Cert.KernelWibIdeal.main_arg2))
      ∧ θ_run (Cert.ReferenceWibIdeal.defs (F := Ideal)) (onTc (τ := Cert.ReferenceWibIdeal.τ) (Cert.ReferenceWibIdeal.main (F := Ideal))) ⟨m', fun _ => 0, g'⟩ (fun r => ∀ c : Dev Cert.ReferenceWibIdeal.nD,
          r.2.mem ((c.tc : Thread Cert.ReferenceWibIdeal.nD Cert.ReferenceWibIdeal.τ).loc Cert.ReferenceWibIdeal.main_v14) = v0 c
          ∧ r.2.mem ((c.tc : Thread Cert.ReferenceWibIdeal.nD Cert.ReferenceWibIdeal.τ).loc Cert.ReferenceWibIdeal.main_arg0) = m' ((c.tc : Thread Cert.ReferenceWibIdeal.nD Cert.ReferenceWibIdeal.τ).loc Cert.ReferenceWibIdeal.main_arg0)
          ∧ r.2.mem ((c.tc : Thread Cert.ReferenceWibIdeal.nD Cert.ReferenceWibIdeal.τ).loc Cert.ReferenceWibIdeal.main_arg1) = m' ((c.tc : Thread Cert.ReferenceWibIdeal.nD Cert.ReferenceWibIdeal.τ).loc Cert.ReferenceWibIdeal.main_arg1)
          ∧ r.2.mem ((c.tc : Thread Cert.ReferenceWibIdeal.nD Cert.ReferenceWibIdeal.τ).loc Cert.ReferenceWibIdeal.main_arg2) = m' ((c.tc : Thread Cert.ReferenceWibIdeal.nD Cert.ReferenceWibIdeal.τ).loc Cert.ReferenceWibIdeal.main_arg2))

def preserves_KernelDcp_KernelDcpIdeal : Prop :=
  True

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)) →
    ∃ (v0 : (c : Dev Cert.KernelPleIdeal.nD) → Buf (Elt Ideal) ((c.tc : Thread Cert.KernelPleIdeal.nD Cert.KernelPleIdeal.τ).loc Cert.KernelPleIdeal.main_v6)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v6) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v22) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4))

def preserves_KernelPleb_KernelPlebIdeal : Prop :=
  True

def algebraic_KernelPlebIdeal_ReferencePlebIdeal_pre_finite_pleb [hKernelPlebIdeal : Cert.KernelPlebIdeal.Facts] [hReferencePlebIdeal : Cert.ReferencePlebIdeal.Facts] [hPre_finite_pleb : Cert.Pre_finite_pleb.Facts] : Prop :=
  ∀ (m : (ℓ : Loc Cert.KernelPlebIdeal.nD Cert.KernelPlebIdeal.τ Cert.KernelPlebIdeal.sig) → Buf (Elt Ideal) ℓ) (g : Dev Cert.KernelPlebIdeal.nD → PrngReg)
    (m' : (ℓ : Loc Cert.ReferencePlebIdeal.nD Cert.ReferencePlebIdeal.τ Cert.ReferencePlebIdeal.sig) → Buf (Elt Ideal) ℓ) (g' : Dev Cert.ReferencePlebIdeal.nD → PrngReg), Pre_KernelPlebIdeal_finite_pleb m →
    (∀ c : Dev Cert.KernelPlebIdeal.nD,
      m' ((c.tc : Thread Cert.ReferencePlebIdeal.nD Cert.ReferencePlebIdeal.τ).loc Cert.ReferencePlebIdeal.main_arg0) = m ((c.tc : Thread Cert.KernelPlebIdeal.nD Cert.KernelPlebIdeal.τ).loc Cert.KernelPlebIdeal.main_arg0)
      ∧ m' ((c.tc : Thread Cert.ReferencePlebIdeal.nD Cert.ReferencePlebIdeal.τ).loc Cert.ReferencePlebIdeal.main_arg1) = m ((c.tc : Thread Cert.KernelPlebIdeal.nD Cert.KernelPlebIdeal.τ).loc Cert.KernelPlebIdeal.main_arg1)
      ∧ m' ((c.tc : Thread Cert.ReferencePlebIdeal.nD Cert.ReferencePlebIdeal.τ).loc Cert.ReferencePlebIdeal.main_arg2) = m ((c.tc : Thread Cert.KernelPlebIdeal.nD Cert.KernelPlebIdeal.τ).loc Cert.KernelPlebIdeal.main_arg2)
      ∧ m' ((c.tc : Thread Cert.ReferencePlebIdeal.nD Cert.ReferencePlebIdeal.τ).loc Cert.ReferencePlebIdeal.main_arg3) = m ((c.tc : Thread Cert.KernelPlebIdeal.nD Cert.KernelPlebIdeal.τ).loc Cert.KernelPlebIdeal.main_arg3)
      ∧ m' ((c.tc : Thread Cert.ReferencePlebIdeal.nD Cert.ReferencePlebIdeal.τ).loc Cert.ReferencePlebIdeal.main_arg4) = m ((c.tc : Thread Cert.KernelPlebIdeal.nD Cert.KernelPlebIdeal.τ).loc Cert.KernelPlebIdeal.main_arg4)
      ∧ m' ((c.tc : Thread Cert.ReferencePlebIdeal.nD Cert.ReferencePlebIdeal.τ).loc Cert.ReferencePlebIdeal.main_arg5) = m ((c.tc : Thread Cert.KernelPlebIdeal.nD Cert.KernelPlebIdeal.τ).loc Cert.KernelPlebIdeal.main_arg5)) →
    ∃ (v0 : (c : Dev Cert.KernelPlebIdeal.nD) → Buf (Elt Ideal) ((c.tc : Thread Cert.KernelPlebIdeal.nD Cert.KernelPlebIdeal.τ).loc Cert.KernelPlebIdeal.main_v6_0)) (v1 : (c : Dev Cert.KernelPlebIdeal.nD) → Buf (Elt Ideal) ((c.tc : Thread Cert.KernelPlebIdeal.nD Cert.KernelPlebIdeal.τ).loc Cert.KernelPlebIdeal.main_v6_1)) (v2 : (c : Dev Cert.KernelPlebIdeal.nD) → Buf (Elt Ideal) ((c.tc : Thread Cert.KernelPlebIdeal.nD Cert.KernelPlebIdeal.τ).loc Cert.KernelPlebIdeal.main_v6_2)),
      θ_run (Cert.KernelPlebIdeal.defs (F := Ideal)) (onTc (τ := Cert.KernelPlebIdeal.τ) (Cert.KernelPlebIdeal.main (F := Ideal))) ⟨m, fun _ => 0, g⟩ (fun r => ∀ c : Dev Cert.KernelPlebIdeal.nD,
          r.2.mem ((c.tc : Thread Cert.KernelPlebIdeal.nD Cert.KernelPlebIdeal.τ).loc Cert.KernelPlebIdeal.main_v6_0) = v0 c
          ∧ r.2.mem ((c.tc : Thread Cert.KernelPlebIdeal.nD Cert.KernelPlebIdeal.τ).loc Cert.KernelPlebIdeal.main_v6_1) = v1 c
          ∧ r.2.mem ((c.tc : Thread Cert.KernelPlebIdeal.nD Cert.KernelPlebIdeal.τ).loc Cert.KernelPlebIdeal.main_v6_2) = v2 c
          ∧ r.2.mem ((c.tc : Thread Cert.KernelPlebIdeal.nD Cert.KernelPlebIdeal.τ).loc Cert.KernelPlebIdeal.main_arg0) = m ((c.tc : Thread Cert.KernelPlebIdeal.nD Cert.KernelPlebIdeal.τ).loc Cert.KernelPlebIdeal.main_arg0)
          ∧ r.2.mem ((c.tc : Thread Cert.KernelPlebIdeal.nD Cert.KernelPlebIdeal.τ).loc Cert.KernelPlebIdeal.main_arg1) = m ((c.tc : Thread Cert.KernelPlebIdeal.nD Cert.KernelPlebIdeal.τ).loc Cert.KernelPlebIdeal.main_arg1)
          ∧ r.2.mem ((c.tc : Thread Cert.KernelPlebIdeal.nD Cert.KernelPlebIdeal.τ).loc Cert.KernelPlebIdeal.main_arg2) = m ((c.tc : Thread Cert.KernelPlebIdeal.nD Cert.KernelPlebIdeal.τ).loc Cert.KernelPlebIdeal.main_arg2)
          ∧ r.2.mem ((c.tc : Thread Cert.KernelPlebIdeal.nD Cert.KernelPlebIdeal.τ).loc Cert.KernelPlebIdeal.main_arg3) = m ((c.tc : Thread Cert.KernelPlebIdeal.nD Cert.KernelPlebIdeal.τ).loc Cert.KernelPlebIdeal.main_arg3)
          ∧ r.2.mem ((c.tc : Thread Cert.KernelPlebIdeal.nD Cert.KernelPlebIdeal.τ).loc Cert.KernelPlebIdeal.main_arg4) = m ((c.tc : Thread Cert.KernelPlebIdeal.nD Cert.KernelPlebIdeal.τ).loc Cert.KernelPlebIdeal.main_arg4)
          ∧ r.2.mem ((c.tc : Thread Cert.KernelPlebIdeal.nD Cert.KernelPlebIdeal.τ).loc Cert.KernelPlebIdeal.main_arg5) = m ((c.tc : Thread Cert.KernelPlebIdeal.nD Cert.KernelPlebIdeal.τ).loc Cert.KernelPlebIdeal.main_arg5))
      ∧ θ_run (Cert.ReferencePlebIdeal.defs (F := Ideal)) (onTc (τ := Cert.ReferencePlebIdeal.τ) (Cert.ReferencePlebIdeal.main (F := Ideal))) ⟨m', fun _ => 0, g'⟩ (fun r => ∀ c : Dev Cert.ReferencePlebIdeal.nD,
          r.2.mem ((c.tc : Thread Cert.ReferencePlebIdeal.nD Cert.ReferencePlebIdeal.τ).loc Cert.ReferencePlebIdeal.main_v56) = v0 c
          ∧ r.2.mem ((c.tc : Thread Cert.ReferencePlebIdeal.nD Cert.ReferencePlebIdeal.τ).loc Cert.ReferencePlebIdeal.main_v57) = v1 c
          ∧ r.2.mem ((c.tc : Thread Cert.ReferencePlebIdeal.nD Cert.ReferencePlebIdeal.τ).loc Cert.ReferencePlebIdeal.main_v58) = v2 c
          ∧ r.2.mem ((c.tc : Thread Cert.ReferencePlebIdeal.nD Cert.ReferencePlebIdeal.τ).loc Cert.ReferencePlebIdeal.main_arg0) = m' ((c.tc : Thread Cert.ReferencePlebIdeal.nD Cert.ReferencePlebIdeal.τ).loc Cert.ReferencePlebIdeal.main_arg0)
          ∧ r.2.mem ((c.tc : Thread Cert.ReferencePlebIdeal.nD Cert.ReferencePlebIdeal.τ).loc Cert.ReferencePlebIdeal.main_arg1) = m' ((c.tc : Thread Cert.ReferencePlebIdeal.nD Cert.ReferencePlebIdeal.τ).loc Cert.ReferencePlebIdeal.main_arg1)
          ∧ r.2.mem ((c.tc : Thread Cert.ReferencePlebIdeal.nD Cert.ReferencePlebIdeal.τ).loc Cert.ReferencePlebIdeal.main_arg2) = m' ((c.tc : Thread Cert.ReferencePlebIdeal.nD Cert.ReferencePlebIdeal.τ).loc Cert.ReferencePlebIdeal.main_arg2)
          ∧ r.2.mem ((c.tc : Thread Cert.ReferencePlebIdeal.nD Cert.ReferencePlebIdeal.τ).loc Cert.ReferencePlebIdeal.main_arg3) = m' ((c.tc : Thread Cert.ReferencePlebIdeal.nD Cert.ReferencePlebIdeal.τ).loc Cert.ReferencePlebIdeal.main_arg3)
          ∧ r.2.mem ((c.tc : Thread Cert.ReferencePlebIdeal.nD Cert.ReferencePlebIdeal.τ).loc Cert.ReferencePlebIdeal.main_arg4) = m' ((c.tc : Thread Cert.ReferencePlebIdeal.nD Cert.ReferencePlebIdeal.τ).loc Cert.ReferencePlebIdeal.main_arg4)
          ∧ r.2.mem ((c.tc : Thread Cert.ReferencePlebIdeal.nD Cert.ReferencePlebIdeal.τ).loc Cert.ReferencePlebIdeal.main_arg5) = m' ((c.tc : Thread Cert.ReferencePlebIdeal.nD Cert.ReferencePlebIdeal.τ).loc Cert.ReferencePlebIdeal.main_arg5))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelFwd : Cert.KernelFwd.Facts) (hKernelFwdIdeal : Cert.KernelFwdIdeal.Facts) (hReferenceFwdIdeal : Cert.ReferenceFwdIdeal.Facts) (hKernelZin : Cert.KernelZin.Facts) (hKernelZinIdeal : Cert.KernelZinIdeal.Facts) (hReferenceZinIdeal : Cert.ReferenceZinIdeal.Facts) (hKernelWgu : Cert.KernelWgu.Facts) (hKernelWguIdeal : Cert.KernelWguIdeal.Facts) (hReferenceWguIdeal : Cert.ReferenceWguIdeal.Facts) (hKernelWgd : Cert.KernelWgd.Facts) (hKernelWgdIdeal : Cert.KernelWgdIdeal.Facts) (hReferenceWgdIdeal : Cert.ReferenceWgdIdeal.Facts) (hKernelWia : Cert.KernelWia.Facts) (hKernelWiaIdeal : Cert.KernelWiaIdeal.Facts) (hReferenceWiaIdeal : Cert.ReferenceWiaIdeal.Facts) (hKernelWib : Cert.KernelWib.Facts) (hKernelWibIdeal : Cert.KernelWibIdeal.Facts) (hReferenceWibIdeal : Cert.ReferenceWibIdeal.Facts) (hKernelDcp : Cert.KernelDcp.Facts) (hKernelDcpIdeal : Cert.KernelDcpIdeal.Facts) (hKernelPle : Cert.KernelPle.Facts) (hKernelPleIdeal : Cert.KernelPleIdeal.Facts) (hReferencePleIdeal : Cert.ReferencePleIdeal.Facts) (hKernelPleb : Cert.KernelPleb.Facts) (hKernelPlebIdeal : Cert.KernelPlebIdeal.Facts) (hReferencePlebIdeal : Cert.ReferencePlebIdeal.Facts) (hPre_finite : Cert.Pre_finite.Facts) (hPre_finite_in : Cert.Pre_finite_in.Facts) (hPre_finite_pleb : Cert.Pre_finite_pleb.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_KernelInIdeal_pre_finite_in (hKernelInIdeal := hKernelInIdeal) (hPre_finite_in := hPre_finite_in)
    ∧ quiescent_ReferenceInIdeal (hReferenceInIdeal := hReferenceInIdeal)
    ∧ quiescent_ReferenceInIdeal_pre_finite_in (hReferenceInIdeal := hReferenceInIdeal) (hPre_finite_in := hPre_finite_in)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelZin (hKernelZin := hKernelZin)
    ∧ quiescent_KernelZinIdeal (hKernelZinIdeal := hKernelZinIdeal)
    ∧ quiescent_ReferenceZinIdeal (hReferenceZinIdeal := hReferenceZinIdeal)
    ∧ quiescent_KernelWgu (hKernelWgu := hKernelWgu)
    ∧ quiescent_KernelWguIdeal (hKernelWguIdeal := hKernelWguIdeal)
    ∧ quiescent_ReferenceWguIdeal (hReferenceWguIdeal := hReferenceWguIdeal)
    ∧ quiescent_KernelWgd (hKernelWgd := hKernelWgd)
    ∧ quiescent_KernelWgdIdeal (hKernelWgdIdeal := hKernelWgdIdeal)
    ∧ quiescent_ReferenceWgdIdeal (hReferenceWgdIdeal := hReferenceWgdIdeal)
    ∧ quiescent_KernelWia (hKernelWia := hKernelWia)
    ∧ quiescent_KernelWiaIdeal (hKernelWiaIdeal := hKernelWiaIdeal)
    ∧ quiescent_ReferenceWiaIdeal (hReferenceWiaIdeal := hReferenceWiaIdeal)
    ∧ quiescent_KernelWib (hKernelWib := hKernelWib)
    ∧ quiescent_KernelWibIdeal (hKernelWibIdeal := hKernelWibIdeal)
    ∧ quiescent_ReferenceWibIdeal (hReferenceWibIdeal := hReferenceWibIdeal)
    ∧ quiescent_KernelDcp (hKernelDcp := hKernelDcp)
    ∧ quiescent_KernelDcpIdeal (hKernelDcpIdeal := hKernelDcpIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelPleb (hKernelPleb := hKernelPleb)
    ∧ quiescent_KernelPlebIdeal (hKernelPlebIdeal := hKernelPlebIdeal)
    ∧ quiescent_KernelPlebIdeal_pre_finite_pleb (hKernelPlebIdeal := hKernelPlebIdeal) (hPre_finite_pleb := hPre_finite_pleb)
    ∧ quiescent_ReferencePlebIdeal (hReferencePlebIdeal := hReferencePlebIdeal)
    ∧ quiescent_ReferencePlebIdeal_pre_finite_pleb (hReferencePlebIdeal := hReferencePlebIdeal) (hPre_finite_pleb := hPre_finite_pleb)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal_pre_finite_in (hKernelInIdeal := hKernelInIdeal) (hReferenceInIdeal := hReferenceInIdeal) (hPre_finite_in := hPre_finite_in)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelZin_KernelZinIdeal
    ∧ algebraic_KernelZinIdeal_ReferenceZinIdeal (hKernelZinIdeal := hKernelZinIdeal) (hReferenceZinIdeal := hReferenceZinIdeal)
    ∧ preserves_KernelWgu_KernelWguIdeal
    ∧ algebraic_KernelWguIdeal_ReferenceWguIdeal (hKernelWguIdeal := hKernelWguIdeal) (hReferenceWguIdeal := hReferenceWguIdeal)
    ∧ preserves_KernelWgd_KernelWgdIdeal
    ∧ algebraic_KernelWgdIdeal_ReferenceWgdIdeal (hKernelWgdIdeal := hKernelWgdIdeal) (hReferenceWgdIdeal := hReferenceWgdIdeal)
    ∧ preserves_KernelWia_KernelWiaIdeal
    ∧ algebraic_KernelWiaIdeal_ReferenceWiaIdeal (hKernelWiaIdeal := hKernelWiaIdeal) (hReferenceWiaIdeal := hReferenceWiaIdeal)
    ∧ preserves_KernelWib_KernelWibIdeal
    ∧ algebraic_KernelWibIdeal_ReferenceWibIdeal (hKernelWibIdeal := hKernelWibIdeal) (hReferenceWibIdeal := hReferenceWibIdeal)
    ∧ preserves_KernelDcp_KernelDcpIdeal
    ∧ preserves_KernelPle_KernelPleIdeal
    ∧ algebraic_KernelPleIdeal_ReferencePleIdeal (hKernelPleIdeal := hKernelPleIdeal) (hReferencePleIdeal := hReferencePleIdeal)
    ∧ preserves_KernelPleb_KernelPlebIdeal
    ∧ algebraic_KernelPlebIdeal_ReferencePlebIdeal_pre_finite_pleb (hKernelPlebIdeal := hKernelPlebIdeal) (hReferencePlebIdeal := hReferencePlebIdeal) (hPre_finite_pleb := hPre_finite_pleb)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite_in.lean ====
abbrev S8192x1024 : Shape := ⟨2, ![8192, 1024]⟩
abbrev S8192x3072 : Shape := ⟨2, ![8192, 3072]⟩
abbrev S8192x2048 : Shape := ⟨2, ![8192, 2048]⟩
abbrev S1024 : Shape := ⟨1, ![1024]⟩
abbrev S1024x5120 : Shape := ⟨2, ![1024, 5120]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1024 : S_.BroadcastsInDim S1024 (![] : Fin 0 → Fin S1024.rank)
  reducesTo_S1024_S_d0 : S1024.ReducesTo [0] S_
  bcast_S_S1024x5120 : S_.BroadcastsInDim S1024x5120 (![] : Fin 0 → Fin S1024x5120.rank)
  reducesTo_S1024x5120_S_d0_1 : S1024x5120.ReducesTo [0, 1] S_

variable [Facts]

def fn_part1 {F : FTy → Type} [FloatOps F] (main_arg4 : FVec F S1024 .f32) (main_arg5 : FVec F S1024x5120 .f32) (main_v3 : IVec S_ 1) (main_v7 : IVec S_ 1) (main_v12 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : FVec F S1024 .f32 := Host.absf main_arg4
  let main_cst_6 : FVec F S_ .f32 := constant S_ .f32 0x7F800000#32
  let main_v19 : FVec F S1024 .f32 := broadcastInDim S1024 ![] bcast_S_S1024 main_cst_6
  let main_v20 : IVec S1024 1 := cmpf .olt main_v18 main_v19
  let main_c_7 : IVec S_ 1 := constantI S_ 1 1#1
  let main_v21 : IVec S_ 1 := (fun x v => Host.reduce IntOp.andi x v reducesTo_S1024_S_d0 h_S_) main_v20 main_c_7
  let main_v22 : FVec F S1024x5120 .f32 := Host.absf main_arg5
  let main_cst_8 : FVec F S_ .f32 := constant S_ .f32 0x7F800000#32
  let main_v23 : FVec F S1024x5120 .f32 := broadcastInDim S1024x5120 ![] bcast_S_S1024x5120 main_cst_8
  let main_v24 : IVec S1024x5120 1 := cmpf .olt main_v22 main_v23
  let main_c_9 : IVec S_ 1 := constantI S_ 1 1#1
  let main_v25 : IVec S_ 1 := (fun x v => Host.reduce IntOp.andi x v reducesTo_S1024x5120_S_d0_1 h_S_) main_v24 main_c_9
  let main_v26 : IVec S_ 1 := andi main_v3 main_v7
  let main_v27 : IVec S_ 1 := andi main_v26 main_v12
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S8192x1024 .f32) (main_arg1 : FVec F S8192x1024 .f32) (main_arg2 : FVec F S8192x3072 .bf16) (main_arg3 : FVec F S8192x2048 .bf16) (main_arg4 : FVec F S1024 .f32) (main_arg5 : FVec F S1024x5120 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x3072 .f32 := (extf .f32 · bitsLt_bf16_f32) main_arg2
  let main_v9 : FVec F S8192x3072 .f32 := Host.absf main_v8
  let main_cst_2 : FVec F S_ .f32 := constant S_ .f32 0x7F800000#32
  let main_v10 : FVec F S8192x3072 .f32 := broadcastInDim S8192x3072 ![] bcast_S_S8192x3072 main_cst_2
  let main_v11 : IVec S8192x3072 1 := cmpf .olt main_v9 main_v10
  let main_c_3 : IVec S_ 1 := constantI S_ 1 1#1
  let main_v12 : IVec S_ 1 := (fun x v => Host.reduce IntOp.andi x v reducesTo_S8192x3072_S_d0_1 h_S_) main_v11 main_c_3
  let main_v13 : FVec F S8192x2048 .f32 := (extf .f32 · bitsLt_bf16_f32) main_arg3
  let main_v14 : FVec F S8192x2048 .f32 := Host.absf main_v13
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v3 main_v7 main_v12 main_v16
-- ==== Pre_finite_pleb.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S1024x1024 .f32) (main_arg5 : FVec F S256x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S256x1024 .f32 := Host.absf main_arg5
  let main_cst_8 : FVec F S_ .f32 := constant S_ .f32 0x7F800000#32
  let main_v21 : FVec F S256x1024 .f32 := broadcastInDim S256x1024 ![] bcast_S_S256x1024 main_cst_8
  let main_v22 : IVec S256x1024 1 := cmpf .olt main_v20 main_v21
  let main_c_9 : IVec S_ 1 := constantI S_ 1 1#1
  let main_v23 : IVec S_ 1 := (fun x v => Host.reduce IntOp.andi x v reducesTo_S256x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .f32) (main_arg2 : FVec F S8192x256 .f32) (main_arg3 : FVec F S1024 .f32) (main_arg4 : FVec F S1024x1024 .f32) (main_arg5 : FVec F S256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x256 .f32 := Host.absf main_arg2
  let main_cst_2 : FVec F S_ .f32 := constant S_ .f32 0x7F800000#32
  let main_v9 : FVec F S8192x256 .f32 := broadcastInDim S8192x256 ![] bcast_S_S8192x256 main_cst_2
  let main_v10 : IVec S8192x256 1 := cmpf .olt main_v8 main_v9
  let main_c_3 : IVec S_ 1 := constantI S_ 1 1#1
  let main_v11 : IVec S_ 1 := (fun x v => Host.reduce IntOp.andi x v reducesTo_S8192x256_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_v3 main_v7 main_v11 main_v15
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S4x704x1024 : Shape := ⟨3, ![4, 704, 1024]⟩
abbrev S4x2112x1024 : Shape := ⟨3, ![4, 2112, 1024]⟩
abbrev S256x1024 : Shape := ⟨2, ![256, 1024]⟩
abbrev S256x2816 : Shape := ⟨2, ![256, 2816]⟩
abbrev S12 : Shape := ⟨1, ![12]⟩
abbrev S1 : Shape := ⟨1, ![1]⟩
abbrev S704x1024 : Shape := ⟨2, ![704, 1024]⟩
abbrev S1x704x1024 : Shape := ⟨3, ![1, 704, 1024]⟩
abbrev S256 : Shape := ⟨1, ![256]⟩
abbrev S256x1 : Shape := ⟨2, ![256, 1]⟩
abbrev S256x1536 : Shape := ⟨2, ![256, 1536]⟩
abbrev S1536x1024 : Shape := ⟨2, ![1536, 1024]⟩
abbrev S256x1280 : Shape := ⟨2, ![256, 1280]⟩
abbrev S1280x1024 : Shape := ⟨2, ![1280, 1024]⟩

abbrev nBuf : Space → Nat
  | .hbm => 42
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S1x1024, .f32⟩
  | .hbm, ⟨27, _⟩ => ⟨S2816x1024, .f32⟩
  | .hbm, ⟨28, _⟩ => ⟨S2816x1024, .f32⟩
  | .hbm, ⟨29, _⟩ => ⟨S2816x1024, .bf16⟩
  | .hbm, ⟨30, _⟩ => ⟨S4x704x1024, .bf16⟩
  | .hbm, ⟨31, _⟩ => ⟨S2816x1024, .bf16⟩
  | .hbm, ⟨32, _⟩ => ⟨S4x704x1024, .bf16⟩
  | .hbm, ⟨33, _⟩ => ⟨S2816x1024, .bf16⟩
  | .hbm, ⟨34, _⟩ => ⟨S4x704x1024, .bf16⟩
  | .hbm, ⟨35, _⟩ => ⟨S4x2112x1024, .bf16⟩
  | .hbm, ⟨36, _⟩ => ⟨S8192x1024, .f32⟩
  | .hbm, ⟨37, _⟩ => ⟨S8192x2816, .bf16⟩
  | .hbm, ⟨38, _⟩ => ⟨S8192x2816, .bf16⟩
  | .hbm, ⟨39, _⟩ => ⟨S8192x2816, .bf16⟩
  | .hbm, ⟨40, _⟩ => ⟨S8192x1024, .bf16⟩
  | .hbm, ⟨41, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S2816x1024, .bf16⟩
  | .local _ .vmem, ⟨21, _⟩ => ⟨S2816x1024, .bf16⟩
  | .local _ .vmem, ⟨22, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev main_v27_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 148
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x2816, .f32⟩
  | 4 => ⟨S1024x2816, .f32⟩
  | 5 => ⟨S2816x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x1024, .f32⟩
  | 55 => ⟨S8192x2816, .f32⟩
  | 56 => ⟨S8192x2816, .f32⟩
  | 57 => ⟨S8192x2816, .f32⟩
  | 58 => ⟨S8192x2816, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S8192x2816, .f32⟩
  | 6 => ⟨S8192x2816, .f32⟩
  | 7 => ⟨S_, .f32⟩
  | 8 => ⟨S8192x2816, .f32⟩
  | 9 => ⟨S8192x2816, .f32⟩
  | 10 => ⟨S_, .f32⟩
  | 11 => ⟨S8192x2816, .f32⟩
  | 12 => ⟨S8192x2816, .f32⟩
  | 13 => ⟨S8192x2816, .f32⟩
  | 14 => ⟨S8192x2816, .f32⟩
  | 15 => ⟨S8192x2816, .bf16⟩
  | 16 => ⟨S8192x2816, .bf16⟩
  | 17 => ⟨S8192x2816, .bf16⟩
  | 18 => ⟨S8192x1024, .bf16⟩
  | 19 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_call4_v0 : Ref sig .tc := ⟨.hbm, 133, rfl⟩
abbrev main_call4_v1 : Ref sig .tc := ⟨.hbm, 134, rfl⟩
abbrev main_call4_cst : Ref sig .tc := ⟨.hbm, 135, rfl⟩
abbrev main_call4_v2 : Ref sig .tc := ⟨.hbm, 136, rfl⟩
abbrev main_call4_v3 : Ref sig .tc := ⟨.hbm, 137, rfl⟩
abbrev main_call4_cst_0 : Ref sig .tc := ⟨.hbm, 138, rfl⟩
abbrev main_call4_v4 : Ref sig .tc := ⟨.hbm, 139, rfl⟩
abbrev main_call4_v5 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩

abbrev nD : Nat := 1
abbrev τ : Topo := Topo.v7x

variable {F : FTy → Type} [FloatOps F]
-- ==== KernelIn.lean ====
abbrev S8192x1024 : Shape := ⟨2, ![8192, 1024]⟩
abbrev S8192x3072 : Shape := ⟨2, ![8192, 3072]⟩
abbrev S8192x2048 : Shape := ⟨2, ![8192, 2048]⟩
abbrev S1024 : Shape := ⟨1, ![1024]⟩
abbrev S1024x5120 : Shape := ⟨2, ![1024, 5120]⟩
abbrev S1x1024 : Shape := ⟨2, ![1, 1024]⟩
abbrev S5120x1024 : Shape := ⟨2, ![5120, 1024]⟩
abbrev S4x1280x1024 : Shape := ⟨3, ![4, 1280, 1024]⟩
abbrev S512x1024 : Shape := ⟨2, ![512, 1024]⟩
abbrev S512x3072 : Shape := ⟨2, ![512, 3072]⟩
abbrev S512x2048 : Shape := ⟨2, ![512, 2048]⟩
abbrev S4 : Shape := ⟨1, ![4]⟩
abbrev S1 : Shape := ⟨1, ![1]⟩
abbrev S_ : Shape := ⟨0, ![]⟩
abbrev S1280x1024 : Shape := ⟨2, ![1280, 1024]⟩
abbrev S1x1280x1024 : Shape := ⟨3, ![1, 1280, 1024]⟩
abbrev S512 : Shape := ⟨1, ![512]⟩
abbrev S512x1 : Shape := ⟨2, ![512, 1]⟩
abbrev S3072x1024 : Shape := ⟨2, ![3072, 1024]⟩
abbrev S2048x1024 : Shape := ⟨2, ![2048, 1024]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .bf16⟩
  | .hbm, ⟨3, _⟩ => ⟨S8192x2048, .bf16⟩
  | .hbm, ⟨4, _⟩ => ⟨S1024, .f32⟩
  | .hbm, ⟨5, _⟩ => ⟨S1024x5120, .f32⟩
  | .hbm, ⟨6, _⟩ => ⟨S1x1024, .f32⟩
  | .hbm, ⟨7, _⟩ => ⟨S5120x1024, .f32⟩
  | .hbm, ⟨8, _⟩ => ⟨S5120x1024, .bf16⟩
  | .hbm, ⟨9, _⟩ => ⟨S4x1280x1024, .bf16⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x3072, .bf16⟩
  | .local _ .vmem, ⟨5, _⟩ => ⟨S512x3072, .bf16⟩
  | .local _ .vmem, ⟨6, _⟩ => ⟨S512x2048, .bf16⟩
  | .local _ .vmem, ⟨7, _⟩ => ⟨S512x2048, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S5120x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceInIdeal.lean ====
abbrev S8192x1024 : Shape := ⟨2, ![8192, 1024]⟩
abbrev S8192x3072 : Shape := ⟨2, ![8192, 3072]⟩
abbrev S8192x2048 : Shape := ⟨2, ![8192, 2048]⟩
abbrev S1024 : Shape := ⟨1, ![1024]⟩
abbrev S1024x5120 : Shape := ⟨2, ![1024, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .bf16⟩
  | .hbm, ⟨3, _⟩ => ⟨S8192x2048, .bf16⟩
  | .hbm, ⟨4, _⟩ => ⟨S1024, .f32⟩
  | .hbm, ⟨5, _⟩ => ⟨S1024x5120, .f32⟩
  | .hbm, ⟨6, _⟩ => ⟨S8192x3072, .f32⟩
  | .hbm, ⟨7, _⟩ => ⟨S8192x2048, .f32⟩
  | .hbm, ⟨8, _⟩ => ⟨S8192x5120, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x5120, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | .hbm, ⟨74, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== KernelFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x2112x1024 : Shape := ⟨3, ![4, 2112, 1024]⟩
abbrev S8192x2816 : Shape := ⟨2, ![8192, 2816]⟩
abbrev S512x1024 : Shape := ⟨2, ![512, 1024]⟩
abbrev S512x2816 : Shape := ⟨2, ![512, 2816]⟩
abbrev S12 : Shape := ⟨1, ![12]⟩
abbrev S1 : Shape := ⟨1, ![1]⟩
abbrev S_ : Shape := ⟨0, ![]⟩
abbrev S704x1024 : Shape := ⟨2, ![704, 1024]⟩
abbrev S1x704x1024 : Shape := ⟨3, ![1, 704, 1024]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1280x1024 : Shape := ⟨2, ![1280, 1024]⟩
abbrev S512x1280 : Shape := ⟨2, ![512, 1280]⟩

abbrev nBuf : Space → Nat
  | .hbm => 18
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S4x704x1024, .bf16⟩
  | .hbm, ⟨10, _⟩ => ⟨S2816x1024, .bf16⟩
  | .hbm, ⟨11, _⟩ => ⟨S4x704x1024, .bf16⟩
  | .hbm, ⟨12, _⟩ => ⟨S2816x1024, .bf16⟩
  | .hbm, ⟨13, _⟩ => ⟨S4x704x1024, .bf16⟩
  | .hbm, ⟨14, _⟩ => ⟨S4x2112x1024, .bf16⟩
  | .hbm, ⟨15, _⟩ => ⟨S8192x1024, .f32⟩
  | .hbm, ⟨16, _⟩ => ⟨S8192x2816, .bf16⟩
  | .hbm, ⟨17, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceFwdIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x2816, .f32⟩
  | .hbm, ⟨55, _⟩ => ⟨S8192x2816, .bf16⟩
  | .hbm, ⟨56, _⟩ => ⟨S8192x2816, .f32⟩
  | .hbm, ⟨57, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== KernelZin.lean ====
abbrev S8192x1024 : Shape := ⟨2, ![8192, 1024]⟩
abbrev S1024 : Shape := ⟨1, ![1024]⟩
abbrev S1024x5120 : Shape := ⟨2, ![1024, 5120]⟩
abbrev S1x1024 : Shape := ⟨2, ![1, 1024]⟩
abbrev S5120x1024 : Shape := ⟨2, ![5120, 1024]⟩
abbrev S4x1280x1024 : Shape := ⟨3, ![4, 1280, 1024]⟩
abbrev S8192x5120 : Shape := ⟨2, ![8192, 5120]⟩
abbrev S512x1024 : Shape := ⟨2, ![512, 1024]⟩
abbrev S512x5120 : Shape := ⟨2, ![512, 5120]⟩
abbrev S4 : Shape := ⟨1, ![4]⟩
abbrev S1 : Shape := ⟨1, ![1]⟩
abbrev S_ : Shape := ⟨0, ![]⟩
abbrev S1280x1024 : Shape := ⟨2, ![1280, 1024]⟩
abbrev S1x1280x1024 : Shape := ⟨3, ![1, 1280, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S1x1024, .f32⟩
  | .hbm, ⟨4, _⟩ => ⟨S5120x1024, .f32⟩
  | .hbm, ⟨5, _⟩ => ⟨S5120x1024, .bf16⟩
  | .hbm, ⟨6, _⟩ => ⟨S4x1280x1024, .bf16⟩
  | .hbm, ⟨7, _⟩ => ⟨S8192x5120, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x5120, .bf16⟩
  | .local _ .vmem, ⟨4, _⟩ => ⟨S512x5120, .bf16⟩
  | .local _ .vmem, ⟨5, _⟩ => ⟨S5120x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceZinIdeal.lean ====
abbrev S8192x1024 : Shape := ⟨2, ![8192, 1024]⟩
abbrev S1024 : Shape := ⟨1, ![1024]⟩
abbrev S1024x5120 : Shape := ⟨2, ![1024, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5120 : Shape := ⟨2, ![8192, 5120]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5120, .f32⟩
  | .hbm, ⟨20, _⟩ => ⟨S8192x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelWgu.lean ====
abbrev S8192x2816 : Shape := ⟨2, ![8192, 2816]⟩
abbrev S8192x1024 : Shape := ⟨2, ![8192, 1024]⟩
abbrev S4x1408x1024 : Shape := ⟨3, ![4, 1408, 1024]⟩
abbrev S1024x1408 : Shape := ⟨2, ![1024, 1408]⟩
abbrev S1024x1024 : Shape := ⟨2, ![1024, 1024]⟩
abbrev S1408x1024 : Shape := ⟨2, ![1408, 1024]⟩
abbrev S4 : Shape := ⟨1, ![4]⟩
abbrev S1 : Shape := ⟨1, ![1]⟩
abbrev S_ : Shape := ⟨0, ![]⟩
abbrev S1x704x1024 : Shape := ⟨3, ![1, 704, 1024]⟩
abbrev S704x1024 : Shape := ⟨2, ![704, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S4x1408x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .f32⟩
  | .local _ .vmem, ⟨7, _⟩ => ⟨S1408x1024, .f32⟩
  | .local _ .vmem, ⟨8, _⟩ => ⟨S1408x1024, .bf16⟩
  | .local _ .vmem, ⟨9, _⟩ => ⟨S1408x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_15 : BitVec 32 := 0#32
  let v20 : BitVec 1 := Scalar.cmpi .ne v19 c0_i32_15
  v20

def k0_mult1 (i : grid0.Coords) : BitVec 32 :=
  let c0_i32_28 : BitVec 32 := 0#32
  let c0_i32_20 : BitVec 32 := 0#32
  let arg0 : BitVec 32 := BitVec.ofNat 32 (i 0).val
  let c1408_i32 : BitVec 32 := 1408#32
  let v26 : BitVec 32 := Scalar.muli arg0 c1408_i32
  let v27 : BitVec 32 := Scalar.addi c0_i32_20 v26
  let c0_i32_21 : BitVec 32 := 0#32
  let v28 : BitVec 32 := Scalar.addi v27 c0_i32_21
  let c0_i32_22 : BitVec 32 := 0#32
  let v30 : BitVec 1 := Scalar.cmpi .sgt v28 c0_i32_22
  let v31 : BitVec 32 := Scalar.extui v30
  let c0_i32_23 : BitVec 32 := 0#32
  let v32 : BitVec 1 := Scalar.cmpi .slt v28 c0_i32_23
  let v33 : BitVec 32 := Scalar.extui v32
  let v34 : BitVec 32 := Scalar.subi v31 v33
  let c704_i32 : BitVec 32 := 704#32
  let c0_i32_24 : BitVec 32 := 0#32
  let v35 : BitVec 1 := Scalar.cmpi .sgt c704_i32 c0_i32_24
  let v36 : BitVec 32 := Scalar.extui v35
  let c0_i32_25 : BitVec 32 := 0#32
  let v37 : BitVec 1 := Scalar.cmpi .slt c704_i32 c0_i32_25
  let v38 : BitVec 32 := Scalar.extui v37
  let v39 : BitVec 32 := Scalar.subi v36 v38
  let v40 : BitVec 1 := Scalar.cmpi .ne v34 v39
  let v41 : BitVec 32 := Scalar.remsi v28 c704_i32
  let c0_i32_26 : BitVec 32 := 0#32
  let v42 : BitVec 1 := Scalar.cmpi .ne v41 c0_i32_26
  let v43 : BitVec 1 := Scalar.andi v40 v42
  let v29 : BitVec 32 := Scalar.divsi v28 c704_i32
  let c1_i32 : BitVec 32 := 1#32
  let v44 : BitVec 32 := Scalar.subi v29 c1_i32
  let v45 : BitVec 32 := Scalar.select v43 v44 v29
  let c704_i32_27 : BitVec 32 := 704#32
  let v46 : BitVec 32 := Scalar.muli v45 c704_i32_27
  let v47 : BitVec 32 := Scalar.subi v28 v46
  let v48 : BitVec 32 := Scalar.addi c0_i32_28 v47
  v48
def k0_mult2 (i : grid0.Coords) : BitVec 32 :=
  let c0_i32_38 : BitVec 32 := 0#32
  let c0_i32_20 : BitVec 32 := 0#32
  let arg0 : BitVec 32 := BitVec.ofNat 32 (i 0).val
  let c1408_i32 : BitVec 32 := 1408#32
  let v26 : BitVec 32 := Scalar.muli arg0 c1408_i32
  let v27 : BitVec 32 := Scalar.addi c0_i32_20 v26
  let c704_i32_29 : BitVec 32 := 704#32
  let v50 : BitVec 32 := Scalar.addi v27 c704_i32_29
  let c0_i32_31 : BitVec 32 := 0#32
  let v52 : BitVec 1 := Scalar.cmpi .sgt v50 c0_i32_31
  let v53 : BitVec 32 := Scalar.extui v52
  let c0_i32_32 : BitVec 32 := 0#32
  let v54 : BitVec 1 := Scalar.cmpi .slt v50 c0_i32_32
  let v55 : BitVec 32 := Scalar.extui v54
  let v56 : BitVec 32 := Scalar.subi v53 v55
  let c704_i32_30 : BitVec 32 := 704#32
  let c0_i32_33 : BitVec 32 := 0#32
  let v57 : BitVec 1 := Scalar.cmpi .sgt c704_i32_30 c0_i32_33
  let v58 : BitVec 32 := Scalar.extui v57
  let c0_i32_34 : BitVec 32 := 0#32
  let v59 : BitVec 1 := Scalar.cmpi .slt c704_i32_30 c0_i32_34
  let v60 : BitVec 32 := Scalar.extui v59
  let v61 : BitVec 32 := Scalar.subi v58 v60
  let v62 : BitVec 1 := Scalar.cmpi .ne v56 v61
  let v63 : BitVec 32 := Scalar.remsi v50 c704_i32_30
  let c0_i32_35 : BitVec 32 := 0#32
  let v64 : BitVec 1 := Scalar.cmpi .ne v63 c0_i32_35
  let v65 : BitVec 1 := Scalar.andi v62 v64
  let v51 : BitVec 32 := Scalar.divsi v50 c704_i32_30
  let c1_i32_36 : BitVec 32 := 1#32
  let v66 : BitVec 32 := Scalar.subi v51 c1_i32_36
  let v67 : BitVec 32 := Scalar.select v65 v66 v51
  let c704_i32_37 : BitVec 32 := 704#32
  let v68 : BitVec 32 := Scalar.muli v67 c704_i32_37
  let v69 : BitVec 32 := Scalar.subi v50 v68
  let v70 : BitVec 32 := Scalar.addi c0_i32_38 v69
  v70
def k0_mult3 (i : grid0.Coords) : BitVec 32 :=
  let c704_i32_54 : BitVec 32 := 704#32
  let c0_i32_44 : BitVec 32 := 0#32
  let arg0 : BitVec 32 := BitVec.ofNat 32 (i 0).val
  let c1408_i32_43 : BitVec 32 := 1408#32
  let v77 : BitVec 32 := Scalar.muli arg0 c1408_i32_43
  let v78 : BitVec 32 := Scalar.addi c0_i32_44 v77
  let c0_i32_45 : BitVec 32 := 0#32
  let v79 : BitVec 32 := Scalar.addi v78 c0_i32_45
  let c0_i32_47 : BitVec 32 := 0#32
  let v81 : BitVec 1 := Scalar.cmpi .sgt v79 c0_i32_47
  let v82 : BitVec 32 := Scalar.extui v81
  let c0_i32_48 : BitVec 32 := 0#32
  let v83 : BitVec 1 := Scalar.cmpi .slt v79 c0_i32_48
  let v84 : BitVec 32 := Scalar.extui v83
  let v85 : BitVec 32 := Scalar.subi v82 v84
  let c704_i32_46 : BitVec 32 := 704#32
  let c0_i32_49 : BitVec 32 := 0#32
  let v86 : BitVec 1 := Scalar.cmpi .sgt c704_i32_46 c0_i32_49
  let v87 : BitVec 32 := Scalar.extui v86
  let c0_i32_50 : BitVec 32 := 0#32
  let v88 : BitVec 1 := Scalar.cmpi .slt c704_i32_46 c0_i32_50
  let v89 : BitVec 32 := Scalar.extui v88
  let v90 : BitVec 32 := Scalar.subi v87 v89
  let v91 : BitVec 1 := Scalar.cmpi .ne v85 v90
  let v92 : BitVec 32 := Scalar.remsi v79 c704_i32_46
  let c0_i32_51 : BitVec 32 := 0#32
  let v93 : BitVec 1 := Scalar.cmpi .ne v92 c0_i32_51
  let v94 : BitVec 1 := Scalar.andi v91 v93
  let v80 : BitVec 32 := Scalar.divsi v79 c704_i32_46
  let c1_i32_52 : BitVec 32 := 1#32
  let v95 : BitVec 32 := Scalar.subi v80 c1_i32_52
  let v96 : BitVec 32 := Scalar.select v94 v95 v80
  let c704_i32_53 : BitVec 32 := 704#32
  let v97 : BitVec 32 := Scalar.muli v96 c704_i32_53
  let v98 : BitVec 32 := Scalar.subi v79 v97
  let v99 : BitVec 32 := Scalar.addi c704_i32_54 v98
  v99
def k0_mult4 (i : grid0.Coords) : BitVec 32 :=
  let c704_i32_64 : BitVec 32 := 704#32
  let c0_i32_44 : BitVec 32 := 0#32
  let arg0 : BitVec 32 := BitVec.ofNat 32 (i 0).val
  let c1408_i32_43 : BitVec 32 := 1408#32
  let v77 : BitVec 32 := Scalar.muli arg0 c1408_i32_43
  let v78 : BitVec 32 := Scalar.addi c0_i32_44 v77
  let c704_i32_55 : BitVec 32 := 704#32
  let v101 : BitVec 32 := Scalar.addi v78 c704_i32_55
  let c0_i32_57 : BitVec 32 := 0#32
  let v103 : BitVec 1 := Scalar.cmpi .sgt v101 c0_i32_57
  let v104 : BitVec 32 := Scalar.extui v103
  let c0_i32_58 : BitVec 32 := 0#32
  let v105 : BitVec 1 := Scalar.cmpi .slt v101 c0_i32_58
  let v106 : BitVec 32 := Scalar.extui v105
  let v107 : BitVec 32 := Scalar.subi v104 v106
  let c704_i32_56 : BitVec 32 := 704#32
  let c0_i32_59 : BitVec 32 := 0#32
  let v108 : BitVec 1 := Scalar.cmpi .sgt c704_i32_56 c0_i32_59
  let v109 : BitVec 32 := Scalar.extui v108
  let c0_i32_60 : BitVec 32 := 0#32
  let v110 : BitVec 1 := Scalar.cmpi .slt c704_i32_56 c0_i32_60
  let v111 : BitVec 32 := Scalar.extui v110
  let v112 : BitVec 32 := Scalar.subi v109 v111
  let v113 : BitVec 1 := Scalar.cmpi .ne v107 v112
  let v114 : BitVec 32 := Scalar.remsi v101 c704_i32_56
  let c0_i32_61 : BitVec 32 := 0#32
  let v115 : BitVec 1 := Scalar.cmpi .ne v114 c0_i32_61
  let v116 : BitVec 1 := Scalar.andi v113 v115
  let v102 : BitVec 32 := Scalar.divsi v101 c704_i32_56
  let c1_i32_62 : BitVec 32 := 1#32
  let v117 : BitVec 32 := Scalar.subi v102 c1_i32_62
  let v118 : BitVec 32 := Scalar.select v116 v117 v102
  let c704_i32_63 : BitVec 32 := 704#32
  let v119 : BitVec 32 := Scalar.muli v118 c704_i32_63
  let v120 : BitVec 32 := Scalar.subi v101 v119
  let v121 : BitVec 32 := Scalar.addi c704_i32_64 v120
  v121
def k0_off1 (i : grid0.Coords) (c0_i32_21 : BitVec 32) (c0_i32_28 : BitVec 32) : Fin 3 → Nat :=
  let c0_i32_20 : BitVec 32 := 0#32
  let arg0 : BitVec 32 := BitVec.ofNat 32 (i 0).val
  let c1408_i32 : BitVec 32 := 1408#32
  let v26 : BitVec 32 := Scalar.muli arg0 c1408_i32
  let v27 : BitVec 32 := Scalar.addi c0_i32_20 v26
  let v28 : BitVec 32 := Scalar.addi v27 c0_i32_21
  let c0_i32_22 : BitVec 32 := 0#32
  let v30 : BitVec 1 := Scalar.cmpi .sgt v28 c0_i32_22
  let v31 : BitVec 32 := Scalar.extui v30
  let c0_i32_23 : BitVec 32 := 0#32
  let v32 : BitVec 1 := Scalar.cmpi .slt v28 c0_i32_23
  let v33 : BitVec 32 := Scalar.extui v32
  let v34 : BitVec 32 := Scalar.subi v31 v33
  let c704_i32 : BitVec 32 := 704#32
  let c0_i32_24 : BitVec 32 := 0#32
  let v35 : BitVec 1 := Scalar.cmpi .sgt c704_i32 c0_i32_24
  let v36 : BitVec 32 := Scalar.extui v35
  let c0_i32_25 : BitVec 32 := 0#32
  let v37 : BitVec 1 := Scalar.cmpi .slt c704_i32 c0_i32_25
  let v38 : BitVec 32 := Scalar.extui v37
  let v39 : BitVec 32 := Scalar.subi v36 v38
  let v40 : BitVec 1 := Scalar.cmpi .ne v34 v39
  let v41 : BitVec 32 := Scalar.remsi v28 c704_i32
  let c0_i32_26 : BitVec 32 := 0#32
  let v42 : BitVec 1 := Scalar.cmpi .ne v41 c0_i32_26
  let v43 : BitVec 1 := Scalar.andi v40 v42
  let v29 : BitVec 32 := Scalar.divsi v28 c704_i32
  let c1_i32 : BitVec 32 := 1#32
  let v44 : BitVec 32 := Scalar.subi v29 c1_i32
  let v45 : BitVec 32 := Scalar.select v43 v44 v29
  let c704_i32_27 : BitVec 32 := 704#32
  let v46 : BitVec 32 := Scalar.muli v45 c704_i32_27
  let v47 : BitVec 32 := Scalar.subi v28 v46
  let v48 : BitVec 32 := Scalar.addi c0_i32_28 v47
  let v49 : BitVec 32 := v48
  let c0_i32_66 : BitVec 32 := 0#32
  ![v45.toNat, v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== ReferenceWguIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩
abbrev S4x1408x1024 : Shape := ⟨3, ![4, 1408, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S8192x1024, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S4x704x1024, .f32⟩
  | .hbm, ⟨16, _⟩ => ⟨S2816x1024, .f32⟩
  | .hbm, ⟨17, _⟩ => ⟨S4x704x1024, .f32⟩
  | .hbm, ⟨18, _⟩ => ⟨S4x1408x1024, .f32⟩
  | .hbm, ⟨19, _⟩ => ⟨S4x1408x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KernelWgd.lean ====
abbrev S8192x2816 : Shape := ⟨2, ![8192, 2816]⟩
abbrev S8192x1024 : Shape := ⟨2, ![8192, 1024]⟩
abbrev S4x704x1024 : Shape := ⟨3, ![4, 704, 1024]⟩
abbrev S1024x1408 : Shape := ⟨2, ![1024, 1408]⟩
abbrev S1024x1024 : Shape := ⟨2, ![1024, 1024]⟩
abbrev S1408x1024 : Shape := ⟨2, ![1408, 1024]⟩
abbrev S2 : Shape := ⟨1, ![2]⟩
abbrev S1 : Shape := ⟨1, ![1]⟩
abbrev S_ : Shape := ⟨0, ![]⟩
abbrev S1x704x1024 : Shape := ⟨3, ![1, 704, 1024]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S4x704x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_9 : BitVec 32 := 0#32
  let v16 : BitVec 1 := Scalar.cmpi .ne v15 c0_i32_9
  v16

def k0_mult1 (i : grid0.Coords) : BitVec 32 :=
  let c0_i32_22 : BitVec 32 := 0#32
  let c0_i32_14 : BitVec 32 := 0#32
  let arg0 : BitVec 32 := BitVec.ofNat 32 (i 0).val
  let c1408_i32 : BitVec 32 := 1408#32
  let v22 : BitVec 32 := Scalar.muli arg0 c1408_i32
  let v23 : BitVec 32 := Scalar.addi c0_i32_14 v22
  let c0_i32_15 : BitVec 32 := 0#32
  let v24 : BitVec 32 := Scalar.addi v23 c0_i32_15
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c704_i32 : BitVec 32 := 704#32
  let c0_i32_18 : BitVec 32 := 0#32
  let v31 : BitVec 1 := Scalar.cmpi .sgt c704_i32 c0_i32_18
  let v32 : BitVec 32 := Scalar.extui v31
  let c0_i32_19 : BitVec 32 := 0#32
  let v33 : BitVec 1 := Scalar.cmpi .slt c704_i32 c0_i32_19
  let v34 : BitVec 32 := Scalar.extui v33
  let v35 : BitVec 32 := Scalar.subi v32 v34
  let v36 : BitVec 1 := Scalar.cmpi .ne v30 v35
  let v37 : BitVec 32 := Scalar.remsi v24 c704_i32
  let c0_i32_20 : BitVec 32 := 0#32
  let v38 : BitVec 1 := Scalar.cmpi .ne v37 c0_i32_20
  let v39 : BitVec 1 := Scalar.andi v36 v38
  let v25 : BitVec 32 := Scalar.divsi v24 c704_i32
  let c1_i32 : BitVec 32 := 1#32
  let v40 : BitVec 32 := Scalar.subi v25 c1_i32
  let v41 : BitVec 32 := Scalar.select v39 v40 v25
  let c704_i32_21 : BitVec 32 := 704#32
  let v42 : BitVec 32 := Scalar.muli v41 c704_i32_21
  let v43 : BitVec 32 := Scalar.subi v24 v42
  let v44 : BitVec 32 := Scalar.addi c0_i32_22 v43
  v44
def k0_mult2 (i : grid0.Coords) : BitVec 32 :=
  let c0_i32_32 : BitVec 32 := 0#32
  let c0_i32_14 : BitVec 32 := 0#32
  let arg0 : BitVec 32 := BitVec.ofNat 32 (i 0).val
  let c1408_i32 : BitVec 32 := 1408#32
  let v22 : BitVec 32 := Scalar.muli arg0 c1408_i32
  let v23 : BitVec 32 := Scalar.addi c0_i32_14 v22
  let c704_i32_23 : BitVec 32 := 704#32
  let v46 : BitVec 32 := Scalar.addi v23 c704_i32_23
  let c0_i32_25 : BitVec 32 := 0#32
  let v48 : BitVec 1 := Scalar.cmpi .sgt v46 c0_i32_25
  let v49 : BitVec 32 := Scalar.extui v48
  let c0_i32_26 : BitVec 32 := 0#32
  let v50 : BitVec 1 := Scalar.cmpi .slt v46 c0_i32_26
  let v51 : BitVec 32 := Scalar.extui v50
  let v52 : BitVec 32 := Scalar.subi v49 v51
  let c704_i32_24 : BitVec 32 := 704#32
  let c0_i32_27 : BitVec 32 := 0#32
  let v53 : BitVec 1 := Scalar.cmpi .sgt c704_i32_24 c0_i32_27
  let v54 : BitVec 32 := Scalar.extui v53
  let c0_i32_28 : BitVec 32 := 0#32
  let v55 : BitVec 1 := Scalar.cmpi .slt c704_i32_24 c0_i32_28
  let v56 : BitVec 32 := Scalar.extui v55
  let v57 : BitVec 32 := Scalar.subi v54 v56
  let v58 : BitVec 1 := Scalar.cmpi .ne v52 v57
  let v59 : BitVec 32 := Scalar.remsi v46 c704_i32_24
  let c0_i32_29 : BitVec 32 := 0#32
  let v60 : BitVec 1 := Scalar.cmpi .ne v59 c0_i32_29
  let v61 : BitVec 1 := Scalar.andi v58 v60
  let v47 : BitVec 32 := Scalar.divsi v46 c704_i32_24
  let c1_i32_30 : BitVec 32 := 1#32
  let v62 : BitVec 32 := Scalar.subi v47 c1_i32_30
  let v63 : BitVec 32 := Scalar.select v61 v62 v47
  let c704_i32_31 : BitVec 32 := 704#32
  let v64 : BitVec 32 := Scalar.muli v63 c704_i32_31
  let v65 : BitVec 32 := Scalar.subi v46 v64
  let v66 : BitVec 32 := Scalar.addi c0_i32_32 v65
  v66
def k0_off1 (i : grid0.Coords) (c0_i32_15 : BitVec 32) : Fin 3 → Nat :=
  let c0_i32_14 : BitVec 32 := 0#32
  let arg0 : BitVec 32 := BitVec.ofNat 32 (i 0).val
  let c1408_i32 : BitVec 32 := 1408#32
  let v22 : BitVec 32 := Scalar.muli arg0 c1408_i32
  let v23 : BitVec 32 := Scalar.addi c0_i32_14 v22
  let v24 : BitVec 32 := Scalar.addi v23 c0_i32_15
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c704_i32 : BitVec 32 := 704#32
  let c0_i32_18 : BitVec 32 := 0#32
  let v31 : BitVec 1 := Scalar.cmpi .sgt c704_i32 c0_i32_18
  let v32 : BitVec 32 := Scalar.extui v31
  let c0_i32_19 : BitVec 32 := 0#32
  let v33 : BitVec 1 := Scalar.cmpi .slt c704_i32 c0_i32_19
  let v34 : BitVec 32 := Scalar.extui v33
  let v35 : BitVec 32 := Scalar.subi v32 v34
  let v36 : BitVec 1 := Scalar.cmpi .ne v30 v35
  let v37 : BitVec 32 := Scalar.remsi v24 c704_i32
  let c0_i32_20 : BitVec 32 := 0#32
  let v38 : BitVec 1 := Scalar.cmpi .ne v37 c0_i32_20
  let v39 : BitVec 1 := Scalar.andi v36 v38
  let v25 : BitVec 32 := Scalar.divsi v24 c704_i32
  let c1_i32 : BitVec 32 := 1#32
  let v40 : BitVec 32 := Scalar.subi v25 c1_i32
  let v41 : BitVec 32 := Scalar.select v39 v40 v25
  let c0_i32_22 : BitVec 32 := 0#32
  let c704_i32_21 : BitVec 32 := 704#32
  let v42 : BitVec 32 := Scalar.muli v41 c704_i32_21
  let v43 : BitVec 32 := Scalar.subi v24 v42
  let v44 : BitVec 32 := Scalar.addi c0_i32_22 v43
  let v45 : BitVec 32 := v44
  let c0_i32_34 : BitVec 32 := 0#32
  ![v41.toNat, v45.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== ReferenceWgdIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S4x704x1024, .f32⟩
  | .hbm, ⟨15, _⟩ => ⟨S4x704x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== KernelWia.lean ====
abbrev S8192x3072 : Shape := ⟨2, ![8192, 3072]⟩
abbrev S8192x1024 : Shape := ⟨2, ![8192, 1024]⟩
abbrev S4x4288x1024 : Shape := ⟨3, ![4, 4288, 1024]⟩
abbrev S1024x1024 : Shape := ⟨2, ![1024, 1024]⟩
abbrev S4 : Shape := ⟨1, ![4]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S4x4288x1024, .bf16⟩
  | .hbm, ⟨3, _⟩ => ⟨S4x4288x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def k0_mult1 (i : grid0.Coords) : BitVec 32 :=
  let c0_i32_21 : BitVec 32 := 0#32
  let c0_i32_13 : BitVec 32 := 0#32
  let arg0 : BitVec 32 := BitVec.ofNat 32 (i 0).val
  let c1024_i32 : BitVec 32 := 1024#32
  let v19 : BitVec 32 := Scalar.muli arg0 c1024_i32
  let v20 : BitVec 32 := Scalar.addi c0_i32_13 v19
  let c0_i32_14 : BitVec 32 := 0#32
  let v21 : BitVec 32 := Scalar.addi v20 c0_i32_14
  let c0_i32_15 : BitVec 32 := 0#32
  let v23 : BitVec 1 := Scalar.cmpi .sgt v21 c0_i32_15
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c1280_i32 : BitVec 32 := 1280#32
  let c0_i32_17 : BitVec 32 := 0#32
  let v28 : BitVec 1 := Scalar.cmpi .sgt c1280_i32 c0_i32_17
  let v29 : BitVec 32 := Scalar.extui v28
  let c0_i32_18 : BitVec 32 := 0#32
  let v30 : BitVec 1 := Scalar.cmpi .slt c1280_i32 c0_i32_18
  let v31 : BitVec 32 := Scalar.extui v30
  let v32 : BitVec 32 := Scalar.subi v29 v31
  let v33 : BitVec 1 := Scalar.cmpi .ne v27 v32
  let v34 : BitVec 32 := Scalar.remsi v21 c1280_i32
  let c0_i32_19 : BitVec 32 := 0#32
  let v35 : BitVec 1 := Scalar.cmpi .ne v34 c0_i32_19
  let v36 : BitVec 1 := Scalar.andi v33 v35
  let v22 : BitVec 32 := Scalar.divsi v21 c1280_i32
  let c1_i32 : BitVec 32 := 1#32
  let v37 : BitVec 32 := Scalar.subi v22 c1_i32
  let v38 : BitVec 32 := Scalar.select v36 v37 v22
  let c1280_i32_20 : BitVec 32 := 1280#32
  let v39 : BitVec 32 := Scalar.muli v38 c1280_i32_20
  let v40 : BitVec 32 := Scalar.subi v21 v39
  let v41 : BitVec 32 := Scalar.addi c0_i32_21 v40
  v41
def k0_mult2 (i : grid0.Coords) : BitVec 32 :=
  let c0_i32_30 : BitVec 32 := 0#32
  let c0_i32_13 : BitVec 32 := 0#32
  let arg0 : BitVec 32 := BitVec.ofNat 32 (i 0).val
  let c1024_i32 : BitVec 32 := 1024#32
  let v19 : BitVec 32 := Scalar.muli arg0 c1024_i32
  let v20 : BitVec 32 := Scalar.addi c0_i32_13 v19
  let c256_i32 : BitVec 32 := 256#32
  let v43 : BitVec 32 := Scalar.addi v20 c256_i32
  let c0_i32_23 : BitVec 32 := 0#32
  let v45 : BitVec 1 := Scalar.cmpi .sgt v43 c0_i32_23
  let v46 : BitVec 32 := Scalar.extui v45
  let c0_i32_24 : BitVec 32 := 0#32
  let v47 : BitVec 1 := Scalar.cmpi .slt v43 c0_i32_24
  let v48 : BitVec 32 := Scalar.extui v47
  let v49 : BitVec 32 := Scalar.subi v46 v48
  let c1280_i32_22 : BitVec 32 := 1280#32
  let c0_i32_25 : BitVec 32 := 0#32
  let v50 : BitVec 1 := Scalar.cmpi .sgt c1280_i32_22 c0_i32_25
  let v51 : BitVec 32 := Scalar.extui v50
  let c0_i32_26 : BitVec 32 := 0#32
  let v52 : BitVec 1 := Scalar.cmpi .slt c1280_i32_22 c0_i32_26
  let v53 : BitVec 32 := Scalar.extui v52
  let v54 : BitVec 32 := Scalar.subi v51 v53
  let v55 : BitVec 1 := Scalar.cmpi .ne v49 v54
  let v56 : BitVec 32 := Scalar.remsi v43 c1280_i32_22
  let c0_i32_27 : BitVec 32 := 0#32
  let v57 : BitVec 1 := Scalar.cmpi .ne v56 c0_i32_27
  let v58 : BitVec 1 := Scalar.andi v55 v57
  let v44 : BitVec 32 := Scalar.divsi v43 c1280_i32_22
  let c1_i32_28 : BitVec 32 := 1#32
  let v59 : BitVec 32 := Scalar.subi v44 c1_i32_28
  let v60 : BitVec 32 := Scalar.select v58 v59 v44
  let c1280_i32_29 : BitVec 32 := 1280#32
  let v61 : BitVec 32 := Scalar.muli v60 c1280_i32_29
  let v62 : BitVec 32 := Scalar.subi v43 v61
  let v63 : BitVec 32 := Scalar.addi c0_i32_30 v62
  v63
def k0_mult3 (i : grid0.Coords) : BitVec 32 :=
  let c0_i32_39 : BitVec 32 := 0#32
  let c0_i32_13 : BitVec 32 := 0#32
  let arg0 : BitVec 32 := BitVec.ofNat 32 (i 0).val
  let c1024_i32 : BitVec 32 := 1024#32
  let v19 : BitVec 32 := Scalar.muli arg0 c1024_i32
  let v20 : BitVec 32 := Scalar.addi c0_i32_13 v19
  let c512_i32 : BitVec 32 := 512#32
  let v65 : BitVec 32 := Scalar.addi v20 c512_i32
  let c0_i32_32 : BitVec 32 := 0#32
  let v67 : BitVec 1 := Scalar.cmpi .sgt v65 c0_i32_32
  let v68 : BitVec 32 := Scalar.extui v67
  let c0_i32_33 : BitVec 32 := 0#32
  let v69 : BitVec 1 := Scalar.cmpi .slt v65 c0_i32_33
  let v70 : BitVec 32 := Scalar.extui v69
  let v71 : BitVec 32 := Scalar.subi v68 v70
  let c1280_i32_31 : BitVec 32 := 1280#32
  let c0_i32_34 : BitVec 32 := 0#32
  let v72 : BitVec 1 := Scalar.cmpi .sgt c1280_i32_31 c0_i32_34
  let v73 : BitVec 32 := Scalar.extui v72
  let c0_i32_35 : BitVec 32 := 0#32
  let v74 : BitVec 1 := Scalar.cmpi .slt c1280_i32_31 c0_i32_35
  let v75 : BitVec 32 := Scalar.extui v74
  let v76 : BitVec 32 := Scalar.subi v73 v75
  let v77 : BitVec 1 := Scalar.cmpi .ne v71 v76
  let v78 : BitVec 32 := Scalar.remsi v65 c1280_i32_31
  let c0_i32_36 : BitVec 32 := 0#32
  let v79 : BitVec 1 := Scalar.cmpi .ne v78 c0_i32_36
  let v80 : BitVec 1 := Scalar.andi v77 v79
  let v66 : BitVec 32 := Scalar.divsi v65 c1280_i32_31
  let c1_i32_37 : BitVec 32 := 1#32
  let v81 : BitVec 32 := Scalar.subi v66 c1_i32_37
  let v82 : BitVec 32 := Scalar.select v80 v81 v66
  let c1280_i32_38 : BitVec 32 := 1280#32
  let v83 : BitVec 32 := Scalar.muli v82 c1280_i32_38
  let v84 : BitVec 32 := Scalar.subi v65 v83
  let v85 : BitVec 32 := Scalar.addi c0_i32_39 v84
  v85
def k0_mult4 (i : grid0.Coords) : BitVec 32 :=
  let c0_i32_48 : BitVec 32 := 0#32
  let c0_i32_13 : BitVec 32 := 0#32
  let arg0 : BitVec 32 := BitVec.ofNat 32 (i 0).val
  let c1024_i32 : BitVec 32 := 1024#32
  let v19 : BitVec 32 := Scalar.muli arg0 c1024_i32
  let v20 : BitVec 32 := Scalar.addi c0_i32_13 v19
  let c768_i32 : BitVec 32 := 768#32
  let v87 : BitVec 32 := Scalar.addi v20 c768_i32
  let c0_i32_41 : BitVec 32 := 0#32
  let v89 : BitVec 1 := Scalar.cmpi .sgt v87 c0_i32_41
  let v90 : BitVec 32 := Scalar.extui v89
  let c0_i32_42 : BitVec 32 := 0#32
  let v91 : BitVec 1 := Scalar.cmpi .slt v87 c0_i32_42
  let v92 : BitVec 32 := Scalar.extui v91
  let v93 : BitVec 32 := Scalar.subi v90 v92
  let c1280_i32_40 : BitVec 32 := 1280#32
  let c0_i32_43 : BitVec 32 := 0#32
  let v94 : BitVec 1 := Scalar.cmpi .sgt c1280_i32_40 c0_i32_43
  let v95 : BitVec 32 := Scalar.extui v94
  let c0_i32_44 : BitVec 32 := 0#32
  let v96 : BitVec 1 := Scalar.cmpi .slt c1280_i32_40 c0_i32_44
  let v97 : BitVec 32 := Scalar.extui v96
  let v98 : BitVec 32 := Scalar.subi v95 v97
  let v99 : BitVec 1 := Scalar.cmpi .ne v93 v98
  let v100 : BitVec 32 := Scalar.remsi v87 c1280_i32_40
  let c0_i32_45 : BitVec 32 := 0#32
  let v101 : BitVec 1 := Scalar.cmpi .ne v100 c0_i32_45
  let v102 : BitVec 1 := Scalar.andi v99 v101
  let v88 : BitVec 32 := Scalar.divsi v87 c1280_i32_40
  let c1_i32_46 : BitVec 32 := 1#32
  let v103 : BitVec 32 := Scalar.subi v88 c1_i32_46
  let v104 : BitVec 32 := Scalar.select v102 v103 v88
  let c1280_i32_47 : BitVec 32 := 1280#32
  let v105 : BitVec 32 := Scalar.muli v104 c1280_i32_47
  let v106 : BitVec 32 := Scalar.subi v87 v105
  let v107 : BitVec 32 := Scalar.addi c0_i32_48 v106
  v107
def k0_off1 (i : grid0.Coords) (c0_i32_14 : BitVec 32) : Fin 3 → Nat :=
  let c0_i32_13 : BitVec 32 := 0#32
  let arg0 : BitVec 32 := BitVec.ofNat 32 (i 0).val
  let c1024_i32 : BitVec 32 := 1024#32
  let v19 : BitVec 32 := Scalar.muli arg0 c1024_i32
  let v20 : BitVec 32 := Scalar.addi c0_i32_13 v19
  let v21 : BitVec 32 := Scalar.addi v20 c0_i32_14
  let c0_i32_15 : BitVec 32 := 0#32
  let v23 : BitVec 1 := Scalar.cmpi .sgt v21 c0_i32_15
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c1280_i32 : BitVec 32 := 1280#32
  let c0_i32_17 : BitVec 32 := 0#32
  let v28 : BitVec 1 := Scalar.cmpi .sgt c1280_i32 c0_i32_17
  let v29 : BitVec 32 := Scalar.extui v28
  let c0_i32_18 : BitVec 32 := 0#32
  let v30 : BitVec 1 := Scalar.cmpi .slt c1280_i32 c0_i32_18
  let v31 : BitVec 32 := Scalar.extui v30
  let v32 : BitVec 32 := Scalar.subi v29 v31
  let v33 : BitVec 1 := Scalar.cmpi .ne v27 v32
  let v34 : BitVec 32 := Scalar.remsi v21 c1280_i32
  let c0_i32_19 : BitVec 32 := 0#32
  let v35 : BitVec 1 := Scalar.cmpi .ne v34 c0_i32_19
  let v36 : BitVec 1 := Scalar.andi v33 v35
  let v22 : BitVec 32 := Scalar.divsi v21 c1280_i32
  let c1_i32 : BitVec 32 := 1#32
  let v37 : BitVec 32 := Scalar.subi v22 c1_i32
  let v38 : BitVec 32 := Scalar.select v36 v37 v22
  let c0_i32_21 : BitVec 32 := 0#32
  let c1280_i32_20 : BitVec 32 := 1280#32
  let v39 : BitVec 32 := Scalar.muli v38 c1280_i32_20
  let v40 : BitVec 32 := Scalar.subi v21 v39
  let v41 : BitVec 32 := Scalar.addi c0_i32_21 v40
  let v42 : BitVec 32 := v41
  let c0_i32_50 : BitVec 32 := 0#32
  ![v38.toNat, v42.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== ReferenceWiaIdeal.lean ====
abbrev S8192x3072 : Shape := ⟨2, ![8192, 3072]⟩
abbrev S8192x1024 : Shape := ⟨2, ![8192, 1024]⟩
abbrev S4x4288x1024 : Shape := ⟨3, ![4, 4288, 1024]⟩
abbrev S_ : Shape := ⟨0, ![]⟩
abbrev S1024x3072 : Shape := ⟨2, ![1024, 3072]⟩
abbrev S3072x1024 : Shape := ⟨2, ![3072, 1024]⟩
abbrev S4x1280x1024 : Shape := ⟨3, ![4, 1280, 1024]⟩
abbrev S5120x1024 : Shape := ⟨2, ![5120, 1024]⟩
abbrev S2048x1024 : Shape := ⟨2, ![2048, 1024]⟩
abbrev S4x3008x1024 : Shape := ⟨3, ![4, 3008, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S4x4288x1024, .bf16⟩
  | .hbm, ⟨3, _⟩ => ⟨S8192x1024, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S4x1280x1024, .bf16⟩
  | .hbm, ⟨11, _⟩ => ⟨S5120x1024, .bf16⟩
  | .hbm, ⟨12, _⟩ => ⟨S3072x1024, .f32⟩
  | .hbm, ⟨13, _⟩ => ⟨S3072x1024, .bf16⟩
  | .hbm, ⟨14, _⟩ => ⟨S2048x1024, .bf16⟩
  | .hbm, ⟨15, _⟩ => ⟨S5120x1024, .bf16⟩
  | .hbm, ⟨16, _⟩ => ⟨S4x1280x1024, .bf16⟩
  | .hbm, ⟨17, _⟩ => ⟨S4x3008x1024, .bf16⟩
  | .hbm, ⟨18, _⟩ => ⟨S4x4288x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== KernelWib.lean ====
abbrev S8192x2048 : Shape := ⟨2, ![8192, 2048]⟩
abbrev S8192x1024 : Shape := ⟨2, ![8192, 1024]⟩
abbrev S4x4288x1024 : Shape := ⟨3, ![4, 4288, 1024]⟩
abbrev S1024x1024 : Shape := ⟨2, ![1024, 1024]⟩
abbrev S4 : Shape := ⟨1, ![4]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x4288x1024, .bf16⟩
  | .hbm, ⟨3, _⟩ => ⟨S4x4288x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def k0_mult1 (i : grid0.Coords) : BitVec 32 :=
  let c0_i32_20 : BitVec 32 := 0#32
  let c3072_i32 : BitVec 32 := 3072#32
  let arg0 : BitVec 32 := BitVec.ofNat 32 (i 0).val
  let c1024_i32 : BitVec 32 := 1024#32
  let v19 : BitVec 32 := Scalar.muli arg0 c1024_i32
  let v20 : BitVec 32 := Scalar.addi c3072_i32 v19
  let c0_i32_13 : BitVec 32 := 0#32
  let v21 : BitVec 32 := Scalar.addi v20 c0_i32_13
  let c0_i32_14 : BitVec 32 := 0#32
  let v23 : BitVec 1 := Scalar.cmpi .sgt v21 c0_i32_14
  let v24 : BitVec 32 := Scalar.extui v23
  let c0_i32_15 : BitVec 32 := 0#32
  let v25 : BitVec 1 := Scalar.cmpi .slt v21 c0_i32_15
  let v26 : BitVec 32 := Scalar.extui v25
  let v27 : BitVec 32 := Scalar.subi v24 v26
  let c1280_i32 : BitVec 32 := 1280#32
  let c0_i32_16 : BitVec 32 := 0#32
  let v28 : BitVec 1 := Scalar.cmpi .sgt c1280_i32 c0_i32_16
  let v29 : BitVec 32 := Scalar.extui v28
  let c0_i32_17 : BitVec 32 := 0#32
  let v30 : BitVec 1 := Scalar.cmpi .slt c1280_i32 c0_i32_17
  let v31 : BitVec 32 := Scalar.extui v30
  let v32 : BitVec 32 := Scalar.subi v29 v31
  let v33 : BitVec 1 := Scalar.cmpi .ne v27 v32
  let v34 : BitVec 32 := Scalar.remsi v21 c1280_i32
  let c0_i32_18 : BitVec 32 := 0#32
  let v35 : BitVec 1 := Scalar.cmpi .ne v34 c0_i32_18
  let v36 : BitVec 1 := Scalar.andi v33 v35
  let v22 : BitVec 32 := Scalar.divsi v21 c1280_i32
  let c1_i32 : BitVec 32 := 1#32
  let v37 : BitVec 32 := Scalar.subi v22 c1_i32
  let v38 : BitVec 32 := Scalar.select v36 v37 v22
  let c1280_i32_19 : BitVec 32 := 1280#32
  let v39 : BitVec 32 := Scalar.muli v38 c1280_i32_19
  let v40 : BitVec 32 := Scalar.subi v21 v39
  let v41 : BitVec 32 := Scalar.addi c0_i32_20 v40
  v41
def k0_mult2 (i : grid0.Coords) : BitVec 32 :=
  let c0_i32_29 : BitVec 32 := 0#32
  let c3072_i32 : BitVec 32 := 3072#32
  let arg0 : BitVec 32 := BitVec.ofNat 32 (i 0).val
  let c1024_i32 : BitVec 32 := 1024#32
  let v19 : BitVec 32 := Scalar.muli arg0 c1024_i32
  let v20 : BitVec 32 := Scalar.addi c3072_i32 v19
  let c256_i32 : BitVec 32 := 256#32
  let v43 : BitVec 32 := Scalar.addi v20 c256_i32
  let c0_i32_22 : BitVec 32 := 0#32
  let v45 : BitVec 1 := Scalar.cmpi .sgt v43 c0_i32_22
  let v46 : BitVec 32 := Scalar.extui v45
  let c0_i32_23 : BitVec 32 := 0#32
  let v47 : BitVec 1 := Scalar.cmpi .slt v43 c0_i32_23
  let v48 : BitVec 32 := Scalar.extui v47
  let v49 : BitVec 32 := Scalar.subi v46 v48
  let c1280_i32_21 : BitVec 32 := 1280#32
  let c0_i32_24 : BitVec 32 := 0#32
  let v50 : BitVec 1 := Scalar.cmpi .sgt c1280_i32_21 c0_i32_24
  let v51 : BitVec 32 := Scalar.extui v50
  let c0_i32_25 : BitVec 32 := 0#32
  let v52 : BitVec 1 := Scalar.cmpi .slt c1280_i32_21 c0_i32_25
  let v53 : BitVec 32 := Scalar.extui v52
  let v54 : BitVec 32 := Scalar.subi v51 v53
  let v55 : BitVec 1 := Scalar.cmpi .ne v49 v54
  let v56 : BitVec 32 := Scalar.remsi v43 c1280_i32_21
  let c0_i32_26 : BitVec 32 := 0#32
  let v57 : BitVec 1 := Scalar.cmpi .ne v56 c0_i32_26
  let v58 : BitVec 1 := Scalar.andi v55 v57
  let v44 : BitVec 32 := Scalar.divsi v43 c1280_i32_21
  let c1_i32_27 : BitVec 32 := 1#32
  let v59 : BitVec 32 := Scalar.subi v44 c1_i32_27
  let v60 : BitVec 32 := Scalar.select v58 v59 v44
  let c1280_i32_28 : BitVec 32 := 1280#32
  let v61 : BitVec 32 := Scalar.muli v60 c1280_i32_28
  let v62 : BitVec 32 := Scalar.subi v43 v61
  let v63 : BitVec 32 := Scalar.addi c0_i32_29 v62
  v63
def k0_mult3 (i : grid0.Coords) : BitVec 32 :=
  let c0_i32_38 : BitVec 32 := 0#32
  let c3072_i32 : BitVec 32 := 3072#32
  let arg0 : BitVec 32 := BitVec.ofNat 32 (i 0).val
  let c1024_i32 : BitVec 32 := 1024#32
  let v19 : BitVec 32 := Scalar.muli arg0 c1024_i32
  let v20 : BitVec 32 := Scalar.addi c3072_i32 v19
  let c512_i32 : BitVec 32 := 512#32
  let v65 : BitVec 32 := Scalar.addi v20 c512_i32
  let c0_i32_31 : BitVec 32 := 0#32
  let v67 : BitVec 1 := Scalar.cmpi .sgt v65 c0_i32_31
  let v68 : BitVec 32 := Scalar.extui v67
  let c0_i32_32 : BitVec 32 := 0#32
  let v69 : BitVec 1 := Scalar.cmpi .slt v65 c0_i32_32
  let v70 : BitVec 32 := Scalar.extui v69
  let v71 : BitVec 32 := Scalar.subi v68 v70
  let c1280_i32_30 : BitVec 32 := 1280#32
  let c0_i32_33 : BitVec 32 := 0#32
  let v72 : BitVec 1 := Scalar.cmpi .sgt c1280_i32_30 c0_i32_33
  let v73 : BitVec 32 := Scalar.extui v72
  let c0_i32_34 : BitVec 32 := 0#32
  let v74 : BitVec 1 := Scalar.cmpi .slt c1280_i32_30 c0_i32_34
  let v75 : BitVec 32 := Scalar.extui v74
  let v76 : BitVec 32 := Scalar.subi v73 v75
  let v77 : BitVec 1 := Scalar.cmpi .ne v71 v76
  let v78 : BitVec 32 := Scalar.remsi v65 c1280_i32_30
  let c0_i32_35 : BitVec 32 := 0#32
  let v79 : BitVec 1 := Scalar.cmpi .ne v78 c0_i32_35
  let v80 : BitVec 1 := Scalar.andi v77 v79
  let v66 : BitVec 32 := Scalar.divsi v65 c1280_i32_30
  let c1_i32_36 : BitVec 32 := 1#32
  let v81 : BitVec 32 := Scalar.subi v66 c1_i32_36
  let v82 : BitVec 32 := Scalar.select v80 v81 v66
  let c1280_i32_37 : BitVec 32 := 1280#32
  let v83 : BitVec 32 := Scalar.muli v82 c1280_i32_37
  let v84 : BitVec 32 := Scalar.subi v65 v83
  let v85 : BitVec 32 := Scalar.addi c0_i32_38 v84
  v85
def k0_mult4 (i : grid0.Coords) : BitVec 32 :=
  let c0_i32_47 : BitVec 32 := 0#32
  let c3072_i32 : BitVec 32 := 3072#32
  let arg0 : BitVec 32 := BitVec.ofNat 32 (i 0).val
  let c1024_i32 : BitVec 32 := 1024#32
  let v19 : BitVec 32 := Scalar.muli arg0 c1024_i32
  let v20 : BitVec 32 := Scalar.addi c3072_i32 v19
  let c768_i32 : BitVec 32 := 768#32
  let v87 : BitVec 32 := Scalar.addi v20 c768_i32
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c1280_i32_39 : BitVec 32 := 1280#32
  let c0_i32_42 : BitVec 32 := 0#32
  let v94 : BitVec 1 := Scalar.cmpi .sgt c1280_i32_39 c0_i32_42
  let v95 : BitVec 32 := Scalar.extui v94
  let c0_i32_43 : BitVec 32 := 0#32
  let v96 : BitVec 1 := Scalar.cmpi .slt c1280_i32_39 c0_i32_43
  let v97 : BitVec 32 := Scalar.extui v96
  let v98 : BitVec 32 := Scalar.subi v95 v97
  let v99 : BitVec 1 := Scalar.cmpi .ne v93 v98
  let v100 : BitVec 32 := Scalar.remsi v87 c1280_i32_39
  let c0_i32_44 : BitVec 32 := 0#32
  let v101 : BitVec 1 := Scalar.cmpi .ne v100 c0_i32_44
  let v102 : BitVec 1 := Scalar.andi v99 v101
  let v88 : BitVec 32 := Scalar.divsi v87 c1280_i32_39
  let c1_i32_45 : BitVec 32 := 1#32
  let v103 : BitVec 32 := Scalar.subi v88 c1_i32_45
  let v104 : BitVec 32 := Scalar.select v102 v103 v88
  let c1280_i32_46 : BitVec 32 := 1280#32
  let v105 : BitVec 32 := Scalar.muli v104 c1280_i32_46
  let v106 : BitVec 32 := Scalar.subi v87 v105
  let v107 : BitVec 32 := Scalar.addi c0_i32_47 v106
  v107
def k0_off1 (i : grid0.Coords) (c0_i32_13 : BitVec 32) : Fin 3 → Nat :=
  let c3072_i32 : BitVec 32 := 3072#32
  let arg0 : BitVec 32 := BitVec.ofNat 32 (i 0).val
  let c1024_i32 : BitVec 32 := 1024#32
  let v19 : BitVec 32 := Scalar.muli arg0 c1024_i32
  let v20 : BitVec 32 := Scalar.addi c3072_i32 v19
  let v21 : BitVec 32 := Scalar.addi v20 c0_i32_13
  let c0_i32_14 : BitVec 32 := 0#32
  let v23 : BitVec 1 := Scalar.cmpi .sgt v21 c0_i32_14
  let v24 : BitVec 32 := Scalar.extui v23
  let c0_i32_15 : BitVec 32 := 0#32
  let v25 : BitVec 1 := Scalar.cmpi .slt v21 c0_i32_15
  let v26 : BitVec 32 := Scalar.extui v25
  let v27 : BitVec 32 := Scalar.subi v24 v26
  let c1280_i32 : BitVec 32 := 1280#32
  let c0_i32_16 : BitVec 32 := 0#32
  let v28 : BitVec 1 := Scalar.cmpi .sgt c1280_i32 c0_i32_16
  let v29 : BitVec 32 := Scalar.extui v28
  let c0_i32_17 : BitVec 32 := 0#32
  let v30 : BitVec 1 := Scalar.cmpi .slt c1280_i32 c0_i32_17
  let v31 : BitVec 32 := Scalar.extui v30
  let v32 : BitVec 32 := Scalar.subi v29 v31
  let v33 : BitVec 1 := Scalar.cmpi .ne v27 v32
  let v34 : BitVec 32 := Scalar.remsi v21 c1280_i32
  let c0_i32_18 : BitVec 32 := 0#32
  let v35 : BitVec 1 := Scalar.cmpi .ne v34 c0_i32_18
  let v36 : BitVec 1 := Scalar.andi v33 v35
  let v22 : BitVec 32 := Scalar.divsi v21 c1280_i32
  let c1_i32 : BitVec 32 := 1#32
  let v37 : BitVec 32 := Scalar.subi v22 c1_i32
  let v38 : BitVec 32 := Scalar.select v36 v37 v22
  let c0_i32_20 : BitVec 32 := 0#32
  let c1280_i32_19 : BitVec 32 := 1280#32
  let v39 : BitVec 32 := Scalar.muli v38 c1280_i32_19
  let v40 : BitVec 32 := Scalar.subi v21 v39
  let v41 : BitVec 32 := Scalar.addi c0_i32_20 v40
  let v42 : BitVec 32 := v41
  let c0_i32_49 : BitVec 32 := 0#32
  ![v38.toNat, v42.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== ReferenceWibIdeal.lean ====
abbrev S8192x2048 : Shape := ⟨2, ![8192, 2048]⟩
abbrev S8192x1024 : Shape := ⟨2, ![8192, 1024]⟩
abbrev S4x4288x1024 : Shape := ⟨3, ![4, 4288, 1024]⟩
abbrev S_ : Shape := ⟨0, ![]⟩
abbrev S1024x2048 : Shape := ⟨2, ![1024, 2048]⟩
abbrev S2048x1024 : Shape := ⟨2, ![2048, 1024]⟩
abbrev S4x1280x1024 : Shape := ⟨3, ![4, 1280, 1024]⟩
abbrev S5120x1024 : Shape := ⟨2, ![5120, 1024]⟩
abbrev S3072x1024 : Shape := ⟨2, ![3072, 1024]⟩
abbrev S4x3008x1024 : Shape := ⟨3, ![4, 3008, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x4288x1024, .bf16⟩
  | .hbm, ⟨3, _⟩ => ⟨S8192x1024, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S4x1280x1024, .bf16⟩
  | .hbm, ⟨11, _⟩ => ⟨S5120x1024, .bf16⟩
  | .hbm, ⟨12, _⟩ => ⟨S3072x1024, .bf16⟩
  | .hbm, ⟨13, _⟩ => ⟨S2048x1024, .f32⟩
  | .hbm, ⟨14, _⟩ => ⟨S2048x1024, .bf16⟩
  | .hbm, ⟨15, _⟩ => ⟨S5120x1024, .bf16⟩
  | .hbm, ⟨16, _⟩ => ⟨S4x1280x1024, .bf16⟩
  | .hbm, ⟨17, _⟩ => ⟨S4x3008x1024, .bf16⟩
  | .hbm, ⟨18, _⟩ => ⟨S4x4288x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== KernelDcp.lean ====
abbrev S8192x1024 : Shape := ⟨2, ![8192, 1024]⟩
abbrev S8192x5120 : Shape := ⟨2, ![8192, 5120]⟩
abbrev S32x1024 : Shape := ⟨2, ![32, 1024]⟩
abbrev S8192x3072 : Shape := ⟨2, ![8192, 3072]⟩
abbrev S512x1024 : Shape := ⟨2, ![512, 1024]⟩
abbrev S512x3072 : Shape := ⟨2, ![512, 3072]⟩
abbrev S552x1024 : Shape := ⟨2, ![552, 1024]⟩
abbrev S544x1024 : Shape := ⟨2, ![544, 1024]⟩
abbrev S7x536x128 : Shape := ⟨3, ![7, 536, 128]⟩
abbrev S8x1024 : Shape := ⟨2, ![8, 1024]⟩
abbrev S512x256 : Shape := ⟨2, ![512, 256]⟩
abbrev S512x1 : Shape := ⟨2, ![512, 1]⟩
abbrev S32x256 : Shape := ⟨2, ![32, 256]⟩
abbrev S544x256 : Shape := ⟨2, ![544, 256]⟩
abbrev S536x128 : Shape := ⟨2, ![536, 128]⟩
abbrev S1x536x128 : Shape := ⟨3, ![1, 536, 128]⟩
abbrev S8x128 : Shape := ⟨2, ![8, 128]⟩
abbrev S1x128 : Shape := ⟨2, ![1, 128]⟩
abbrev S1x8x128 : Shape := ⟨3, ![1, 8, 128]⟩
abbrev S128 : Shape := ⟨1, ![128]⟩

abbrev nBuf : Space → Nat
  | .hbm => 6
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5120, .bf16⟩
  | .hbm, ⟨3, _⟩ => ⟨S32x1024, .f32⟩
  | .hbm, ⟨4, _⟩ => ⟨S8192x3072, .bf16⟩
  | .hbm, ⟨5, _⟩ => ⟨S32x1024, .f32⟩
  | .local _ .vmem, ⟨0, _⟩ => ⟨S512x1024, .bf16⟩
  | .local _ .vmem, ⟨1, _⟩ => ⟨S512x1024, .bf16⟩
  | .local _ .vmem, ⟨2, _⟩ => ⟨S32x1024, .bf16⟩
  | .local _ .vmem, ⟨3, _⟩ => ⟨S32x1024, .bf16⟩
  | .local _ .vmem, ⟨4, _⟩ => ⟨S512x1024, .bf16⟩
  | .local _ .vmem, ⟨5, _⟩ => ⟨S512x1024, .bf16⟩
  | .local _ .vmem, ⟨6, _⟩ => ⟨S32x1024, .bf16⟩
  | .local _ .vmem, ⟨7, _⟩ => ⟨S32x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S32x1024, .f32⟩
  | .local _ .vmem, ⟨13, _⟩ => ⟨S512x3072, .bf16⟩
  | .local _ .vmem, ⟨14, _⟩ => ⟨S512x3072, .bf16⟩
  | .local _ .vmem, ⟨15, _⟩ => ⟨S32x1024, .f32⟩
  | .local _ .vmem, ⟨16, _⟩ => ⟨S552x1024, .f32⟩
  | .local _ .vmem, ⟨17, _⟩ => ⟨S552x1024, .f32⟩
  | .local _ .vmem, ⟨18, _⟩ => ⟨S544x1024, .f32⟩
  | .local _ .vmem, ⟨19, _⟩ => ⟨S7x536x128, .f32⟩
  | .local _ .vmem, ⟨20, _⟩ => ⟨S512x1024, .f32⟩
  | .local _ .vmem, ⟨21, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_189 : BitVec 32 := 0#32
  let c16_i32_190 : BitVec 32 := 16#32
  let v264 : BitVec 32 := Scalar.addi c0_i32_189 c16_i32_190
  let c1_i32_191 : BitVec 32 := 1#32
  ⟨c0_i32_189, v264, c1_i32_191⟩
def k0_mult1 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_1902 : BitVec 32 := 0#32
  let v2193 : BitVec 32 := Scalar.addi v2192 c0_i32_1902
  v2193
def k0_mult2 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_1903 : BitVec 32 := 8#32
  let v2195 : BitVec 32 := Scalar.addi v2192 c8_i32_1903
  v2195
def k0_mult3 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_1904 : BitVec 32 := 16#32
  let v2197 : BitVec 32 := Scalar.addi v2192 c16_i32_1904
  v2197
def k0_mult4 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32 : BitVec 32 := 24#32
  let v2199 : BitVec 32 := Scalar.addi v2192 c24_i32
  v2199
def k0_off1 (k0_t1 : Fin k0_t1_loop.trips) (c0_i32_1902 : BitVec 32) : Fin 2 → Nat :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let v2193 : BitVec 32 := Scalar.addi v2192 c0_i32_1902
  let v2194 : BitVec 32 := v2193
  let v2201 : Index := Scalar.indexCast v2194
  let c0_1905 : Index := 0#32
  ![v2201.toNat, 0]
def k0_mult5 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_1912 : BitVec 32 := 0#32
  let v2213 : BitVec 32 := Scalar.addi v2192 c0_i32_1912
  let c24_i32_1913 : BitVec 32 := 24#32
  let v2214 : BitVec 32 := Scalar.addi v2213 c24_i32_1913
  v2214
def k0_off2 (k0_t1 : Fin k0_t1_loop.trips) (c0_i32_1912 : BitVec 32) (c24_i32_1913 : BitVec 32) : Fin 3 → Nat :=
  let c5_1914 : Index := 5#32
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let v2213 : BitVec 32 := Scalar.addi v2192 c0_i32_1912
  let v2214 : BitVec 32 := Scalar.addi v2213 c24_i32_1913
  let v2215 : BitVec 32 := v2214
  let v2216 : Index := Scalar.indexCast v2215
  let c0_1915 : Index := 0#32
  ![5, v2216.toNat, 0]
def k0_mult6 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_1916 : BitVec 32 := 8#32
  let v2223 : BitVec 32 := Scalar.addi v2192 c8_i32_1916
  let c24_i32_1917 : BitVec 32 := 24#32
  let v2224 : BitVec 32 := Scalar.addi v2223 c24_i32_1917
  v2224
def k0_mult7 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_1920 : BitVec 32 := 16#32
  let v2233 : BitVec 32 := Scalar.addi v2192 c16_i32_1920
  let c24_i32_1921 : BitVec 32 := 24#32
  let v2234 : BitVec 32 := Scalar.addi v2233 c24_i32_1921
  v2234
def k0_mult8 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_1924 : BitVec 32 := 24#32
  let v2243 : BitVec 32 := Scalar.addi v2192 c24_i32_1924
  let c24_i32_1925 : BitVec 32 := 24#32
  let v2244 : BitVec 32 := Scalar.addi v2243 c24_i32_1925
  v2244
def k0_mult9 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_1930 : BitVec 32 := 0#32
  let v2256 : BitVec 32 := Scalar.addi v2192 c0_i32_1930
  let c24_i32_1931 : BitVec 32 := 24#32
  let v2257 : BitVec 32 := Scalar.addi v2256 c24_i32_1931
  v2257
def k0_off3 (k0_t1 : Fin k0_t1_loop.trips) (c0_i32_1930 : BitVec 32) (c24_i32_1931 : BitVec 32) : Fin 3 → Nat :=
  let c4_1932 : Index := 4#32
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let v2256 : BitVec 32 := Scalar.addi v2192 c0_i32_1930
  let v2257 : BitVec 32 := Scalar.addi v2256 c24_i32_1931
  let v2258 : BitVec 32 := v2257
  let v2259 : Index := Scalar.indexCast v2258
  let c0_1933 : Index := 0#32
  ![4, v2259.toNat, 0]
def k0_mult10 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_1934 : BitVec 32 := 8#32
  let v2266 : BitVec 32 := Scalar.addi v2192 c8_i32_1934
  let c24_i32_1935 : BitVec 32 := 24#32
  let v2267 : BitVec 32 := Scalar.addi v2266 c24_i32_1935
  v2267
def k0_mult11 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_1938 : BitVec 32 := 16#32
  let v2276 : BitVec 32 := Scalar.addi v2192 c16_i32_1938
  let c24_i32_1939 : BitVec 32 := 24#32
  let v2277 : BitVec 32 := Scalar.addi v2276 c24_i32_1939
  v2277
def k0_mult12 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_1942 : BitVec 32 := 24#32
  let v2286 : BitVec 32 := Scalar.addi v2192 c24_i32_1942
  let c24_i32_1943 : BitVec 32 := 24#32
  let v2287 : BitVec 32 := Scalar.addi v2286 c24_i32_1943
  v2287
def k0_mult13 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_1948 : BitVec 32 := 0#32
  let v2299 : BitVec 32 := Scalar.addi v2192 c0_i32_1948
  let c24_i32_1949 : BitVec 32 := 24#32
  let v2300 : BitVec 32 := Scalar.addi v2299 c24_i32_1949
  v2300
def k0_off4 (k0_t1 : Fin k0_t1_loop.trips) (c0_i32_1948 : BitVec 32) (c24_i32_1949 : BitVec 32) : Fin 3 → Nat :=
  let c3_1950 : Index := 3#32
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let v2299 : BitVec 32 := Scalar.addi v2192 c0_i32_1948
  let v2300 : BitVec 32 := Scalar.addi v2299 c24_i32_1949
  let v2301 : BitVec 32 := v2300
  let v2302 : Index := Scalar.indexCast v2301
  let c0_1951 : Index := 0#32
  ![3, v2302.toNat, 0]
def k0_mult14 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_1952 : BitVec 32 := 8#32
  let v2309 : BitVec 32 := Scalar.addi v2192 c8_i32_1952
  let c24_i32_1953 : BitVec 32 := 24#32
  let v2310 : BitVec 32 := Scalar.addi v2309 c24_i32_1953
  v2310
def k0_mult15 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_1956 : BitVec 32 := 16#32
  let v2319 : BitVec 32 := Scalar.addi v2192 c16_i32_1956
  let c24_i32_1957 : BitVec 32 := 24#32
  let v2320 : BitVec 32 := Scalar.addi v2319 c24_i32_1957
  v2320
def k0_mult16 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_1960 : BitVec 32 := 24#32
  let v2329 : BitVec 32 := Scalar.addi v2192 c24_i32_1960
  let c24_i32_1961 : BitVec 32 := 24#32
  let v2330 : BitVec 32 := Scalar.addi v2329 c24_i32_1961
  v2330
def k0_mult17 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_1966 : BitVec 32 := 0#32
  let v2342 : BitVec 32 := Scalar.addi v2192 c0_i32_1966
  let c24_i32_1967 : BitVec 32 := 24#32
  let v2343 : BitVec 32 := Scalar.addi v2342 c24_i32_1967
  v2343
def k0_off5 (k0_t1 : Fin k0_t1_loop.trips) (c0_i32_1966 : BitVec 32) (c24_i32_1967 : BitVec 32) : Fin 3 → Nat :=
  let c2_1968 : Index := 2#32
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let v2342 : BitVec 32 := Scalar.addi v2192 c0_i32_1966
  let v2343 : BitVec 32 := Scalar.addi v2342 c24_i32_1967
  let v2344 : BitVec 32 := v2343
  let v2345 : Index := Scalar.indexCast v2344
  let c0_1969 : Index := 0#32
  ![2, v2345.toNat, 0]
def k0_mult18 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_1970 : BitVec 32 := 8#32
  let v2352 : BitVec 32 := Scalar.addi v2192 c8_i32_1970
  let c24_i32_1971 : BitVec 32 := 24#32
  let v2353 : BitVec 32 := Scalar.addi v2352 c24_i32_1971
  v2353
def k0_mult19 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_1974 : BitVec 32 := 16#32
  let v2362 : BitVec 32 := Scalar.addi v2192 c16_i32_1974
  let c24_i32_1975 : BitVec 32 := 24#32
  let v2363 : BitVec 32 := Scalar.addi v2362 c24_i32_1975
  v2363
def k0_mult20 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_1978 : BitVec 32 := 24#32
  let v2372 : BitVec 32 := Scalar.addi v2192 c24_i32_1978
  let c24_i32_1979 : BitVec 32 := 24#32
  let v2373 : BitVec 32 := Scalar.addi v2372 c24_i32_1979
  v2373
def k0_mult21 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_1984 : BitVec 32 := 0#32
  let v2385 : BitVec 32 := Scalar.addi v2192 c0_i32_1984
  let c24_i32_1985 : BitVec 32 := 24#32
  let v2386 : BitVec 32 := Scalar.addi v2385 c24_i32_1985
  v2386
def k0_off6 (k0_t1 : Fin k0_t1_loop.trips) (c0_i32_1984 : BitVec 32) (c24_i32_1985 : BitVec 32) : Fin 3 → Nat :=
  let c1_1986 : Index := 1#32
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let v2385 : BitVec 32 := Scalar.addi v2192 c0_i32_1984
  let v2386 : BitVec 32 := Scalar.addi v2385 c24_i32_1985
  let v2387 : BitVec 32 := v2386
  let v2388 : Index := Scalar.indexCast v2387
  let c0_1987 : Index := 0#32
  ![1, v2388.toNat, 0]
def k0_mult22 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_1988 : BitVec 32 := 8#32
  let v2395 : BitVec 32 := Scalar.addi v2192 c8_i32_1988
  let c24_i32_1989 : BitVec 32 := 24#32
  let v2396 : BitVec 32 := Scalar.addi v2395 c24_i32_1989
  v2396
def k0_mult23 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_1992 : BitVec 32 := 16#32
  let v2405 : BitVec 32 := Scalar.addi v2192 c16_i32_1992
  let c24_i32_1993 : BitVec 32 := 24#32
  let v2406 : BitVec 32 := Scalar.addi v2405 c24_i32_1993
  v2406
def k0_mult24 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_1996 : BitVec 32 := 24#32
  let v2415 : BitVec 32 := Scalar.addi v2192 c24_i32_1996
  let c24_i32_1997 : BitVec 32 := 24#32
  let v2416 : BitVec 32 := Scalar.addi v2415 c24_i32_1997
  v2416
def k0_mult25 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2002 : BitVec 32 := 0#32
  let v2428 : BitVec 32 := Scalar.addi v2192 c0_i32_2002
  let c24_i32_2003 : BitVec 32 := 24#32
  let v2429 : BitVec 32 := Scalar.addi v2428 c24_i32_2003
  v2429
def k0_off7 (k0_t1 : Fin k0_t1_loop.trips) (c0_i32_2002 : BitVec 32) (c24_i32_2003 : BitVec 32) : Fin 3 → Nat :=
  let c0_2004 : Index := 0#32
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let v2428 : BitVec 32 := Scalar.addi v2192 c0_i32_2002
  let v2429 : BitVec 32 := Scalar.addi v2428 c24_i32_2003
  let v2430 : BitVec 32 := v2429
  let v2431 : Index := Scalar.indexCast v2430
  let c0_2005 : Index := 0#32
  ![0, v2431.toNat, 0]
def k0_mult26 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2006 : BitVec 32 := 8#32
  let v2438 : BitVec 32 := Scalar.addi v2192 c8_i32_2006
  let c24_i32_2007 : BitVec 32 := 24#32
  let v2439 : BitVec 32 := Scalar.addi v2438 c24_i32_2007
  v2439
def k0_mult27 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2010 : BitVec 32 := 16#32
  let v2448 : BitVec 32 := Scalar.addi v2192 c16_i32_2010
  let c24_i32_2011 : BitVec 32 := 24#32
  let v2449 : BitVec 32 := Scalar.addi v2448 c24_i32_2011
  v2449
def k0_mult28 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2014 : BitVec 32 := 24#32
  let v2458 : BitVec 32 := Scalar.addi v2192 c24_i32_2014
  let c24_i32_2015 : BitVec 32 := 24#32
  let v2459 : BitVec 32 := Scalar.addi v2458 c24_i32_2015
  v2459
def k0_mult29 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2020 : BitVec 32 := 0#32
  let v2471 : BitVec 32 := Scalar.addi v2192 c0_i32_2020
  let c24_i32_2021 : BitVec 32 := 24#32
  let v2472 : BitVec 32 := Scalar.addi v2471 c24_i32_2021
  v2472
def k0_off8 (k0_t1 : Fin k0_t1_loop.trips) (c0_i32_2020 : BitVec 32) (c24_i32_2021 : BitVec 32) : Fin 2 → Nat :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let v2471 : BitVec 32 := Scalar.addi v2192 c0_i32_2020
  let v2472 : BitVec 32 := Scalar.addi v2471 c24_i32_2021
  let v2473 : BitVec 32 := v2472
  let v2474 : Index := Scalar.indexCast v2473
  let c0_2022 : Index := 0#32
  ![v2474.toNat, 0]
def k0_mult30 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2023 : BitVec 32 := 8#32
  let v2480 : BitVec 32 := Scalar.addi v2192 c8_i32_2023
  let c24_i32_2024 : BitVec 32 := 24#32
  let v2481 : BitVec 32 := Scalar.addi v2480 c24_i32_2024
  v2481
def k0_mult31 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2026 : BitVec 32 := 16#32
  let v2489 : BitVec 32 := Scalar.addi v2192 c16_i32_2026
  let c24_i32_2027 : BitVec 32 := 24#32
  let v2490 : BitVec 32 := Scalar.addi v2489 c24_i32_2027
  v2490
def k0_mult32 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2029 : BitVec 32 := 24#32
  let v2498 : BitVec 32 := Scalar.addi v2192 c24_i32_2029
  let c24_i32_2030 : BitVec 32 := 24#32
  let v2499 : BitVec 32 := Scalar.addi v2498 c24_i32_2030
  v2499
def k0_mult33 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2034 : BitVec 32 := 0#32
  let v2510 : BitVec 32 := Scalar.addi v2192 c0_i32_2034
  let c16_i32_2035 : BitVec 32 := 16#32
  let v2511 : BitVec 32 := Scalar.addi v2510 c16_i32_2035
  v2511
def k0_off9 (k0_t1 : Fin k0_t1_loop.trips) (c0_i32_2034 : BitVec 32) (c16_i32_2035 : BitVec 32) : Fin 3 → Nat :=
  let c6_2036 : Index := 6#32
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let v2510 : BitVec 32 := Scalar.addi v2192 c0_i32_2034
  let v2511 : BitVec 32 := Scalar.addi v2510 c16_i32_2035
  let v2512 : BitVec 32 := v2511
  let v2513 : Index := Scalar.indexCast v2512
  let c0_2037 : Index := 0#32
  ![6, v2513.toNat, 0]
def k0_mult34 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2038 : BitVec 32 := 8#32
  let v2520 : BitVec 32 := Scalar.addi v2192 c8_i32_2038
  let c16_i32_2039 : BitVec 32 := 16#32
  let v2521 : BitVec 32 := Scalar.addi v2520 c16_i32_2039
  v2521
def k0_mult35 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2042 : BitVec 32 := 16#32
  let v2530 : BitVec 32 := Scalar.addi v2192 c16_i32_2042
  let c16_i32_2043 : BitVec 32 := 16#32
  let v2531 : BitVec 32 := Scalar.addi v2530 c16_i32_2043
  v2531
def k0_mult36 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2046 : BitVec 32 := 24#32
  let v2540 : BitVec 32 := Scalar.addi v2192 c24_i32_2046
  let c16_i32_2047 : BitVec 32 := 16#32
  let v2541 : BitVec 32 := Scalar.addi v2540 c16_i32_2047
  v2541
def k0_mult37 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2052 : BitVec 32 := 0#32
  let v2553 : BitVec 32 := Scalar.addi v2192 c0_i32_2052
  let c16_i32_2053 : BitVec 32 := 16#32
  let v2554 : BitVec 32 := Scalar.addi v2553 c16_i32_2053
  v2554
def k0_mult38 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2056 : BitVec 32 := 8#32
  let v2563 : BitVec 32 := Scalar.addi v2192 c8_i32_2056
  let c16_i32_2057 : BitVec 32 := 16#32
  let v2564 : BitVec 32 := Scalar.addi v2563 c16_i32_2057
  v2564
def k0_mult39 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2060 : BitVec 32 := 16#32
  let v2573 : BitVec 32 := Scalar.addi v2192 c16_i32_2060
  let c16_i32_2061 : BitVec 32 := 16#32
  let v2574 : BitVec 32 := Scalar.addi v2573 c16_i32_2061
  v2574
def k0_mult40 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2064 : BitVec 32 := 24#32
  let v2583 : BitVec 32 := Scalar.addi v2192 c24_i32_2064
  let c16_i32_2065 : BitVec 32 := 16#32
  let v2584 : BitVec 32 := Scalar.addi v2583 c16_i32_2065
  v2584
def k0_mult41 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2070 : BitVec 32 := 0#32
  let v2596 : BitVec 32 := Scalar.addi v2192 c0_i32_2070
  let c16_i32_2071 : BitVec 32 := 16#32
  let v2597 : BitVec 32 := Scalar.addi v2596 c16_i32_2071
  v2597
def k0_mult42 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2074 : BitVec 32 := 8#32
  let v2606 : BitVec 32 := Scalar.addi v2192 c8_i32_2074
  let c16_i32_2075 : BitVec 32 := 16#32
  let v2607 : BitVec 32 := Scalar.addi v2606 c16_i32_2075
  v2607
def k0_mult43 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2078 : BitVec 32 := 16#32
  let v2616 : BitVec 32 := Scalar.addi v2192 c16_i32_2078
  let c16_i32_2079 : BitVec 32 := 16#32
  let v2617 : BitVec 32 := Scalar.addi v2616 c16_i32_2079
  v2617
def k0_mult44 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2082 : BitVec 32 := 24#32
  let v2626 : BitVec 32 := Scalar.addi v2192 c24_i32_2082
  let c16_i32_2083 : BitVec 32 := 16#32
  let v2627 : BitVec 32 := Scalar.addi v2626 c16_i32_2083
  v2627
def k0_mult45 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2088 : BitVec 32 := 0#32
  let v2639 : BitVec 32 := Scalar.addi v2192 c0_i32_2088
  let c16_i32_2089 : BitVec 32 := 16#32
  let v2640 : BitVec 32 := Scalar.addi v2639 c16_i32_2089
  v2640
def k0_mult46 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2092 : BitVec 32 := 8#32
  let v2649 : BitVec 32 := Scalar.addi v2192 c8_i32_2092
  let c16_i32_2093 : BitVec 32 := 16#32
  let v2650 : BitVec 32 := Scalar.addi v2649 c16_i32_2093
  v2650
def k0_mult47 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2096 : BitVec 32 := 16#32
  let v2659 : BitVec 32 := Scalar.addi v2192 c16_i32_2096
  let c16_i32_2097 : BitVec 32 := 16#32
  let v2660 : BitVec 32 := Scalar.addi v2659 c16_i32_2097
  v2660
def k0_mult48 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2100 : BitVec 32 := 24#32
  let v2669 : BitVec 32 := Scalar.addi v2192 c24_i32_2100
  let c16_i32_2101 : BitVec 32 := 16#32
  let v2670 : BitVec 32 := Scalar.addi v2669 c16_i32_2101
  v2670
def k0_mult49 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2106 : BitVec 32 := 0#32
  let v2682 : BitVec 32 := Scalar.addi v2192 c0_i32_2106
  let c16_i32_2107 : BitVec 32 := 16#32
  let v2683 : BitVec 32 := Scalar.addi v2682 c16_i32_2107
  v2683
def k0_mult50 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2110 : BitVec 32 := 8#32
  let v2692 : BitVec 32 := Scalar.addi v2192 c8_i32_2110
  let c16_i32_2111 : BitVec 32 := 16#32
  let v2693 : BitVec 32 := Scalar.addi v2692 c16_i32_2111
  v2693
def k0_mult51 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2114 : BitVec 32 := 16#32
  let v2702 : BitVec 32 := Scalar.addi v2192 c16_i32_2114
  let c16_i32_2115 : BitVec 32 := 16#32
  let v2703 : BitVec 32 := Scalar.addi v2702 c16_i32_2115
  v2703
def k0_mult52 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2118 : BitVec 32 := 24#32
  let v2712 : BitVec 32 := Scalar.addi v2192 c24_i32_2118
  let c16_i32_2119 : BitVec 32 := 16#32
  let v2713 : BitVec 32 := Scalar.addi v2712 c16_i32_2119
  v2713
def k0_mult53 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2124 : BitVec 32 := 0#32
  let v2725 : BitVec 32 := Scalar.addi v2192 c0_i32_2124
  let c16_i32_2125 : BitVec 32 := 16#32
  let v2726 : BitVec 32 := Scalar.addi v2725 c16_i32_2125
  v2726
def k0_mult54 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2128 : BitVec 32 := 8#32
  let v2735 : BitVec 32 := Scalar.addi v2192 c8_i32_2128
  let c16_i32_2129 : BitVec 32 := 16#32
  let v2736 : BitVec 32 := Scalar.addi v2735 c16_i32_2129
  v2736
def k0_mult55 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2132 : BitVec 32 := 16#32
  let v2745 : BitVec 32 := Scalar.addi v2192 c16_i32_2132
  let c16_i32_2133 : BitVec 32 := 16#32
  let v2746 : BitVec 32 := Scalar.addi v2745 c16_i32_2133
  v2746
def k0_mult56 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2136 : BitVec 32 := 24#32
  let v2755 : BitVec 32 := Scalar.addi v2192 c24_i32_2136
  let c16_i32_2137 : BitVec 32 := 16#32
  let v2756 : BitVec 32 := Scalar.addi v2755 c16_i32_2137
  v2756
def k0_mult57 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2142 : BitVec 32 := 0#32
  let v2768 : BitVec 32 := Scalar.addi v2192 c0_i32_2142
  let c16_i32_2143 : BitVec 32 := 16#32
  let v2769 : BitVec 32 := Scalar.addi v2768 c16_i32_2143
  v2769
def k0_mult58 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2146 : BitVec 32 := 8#32
  let v2778 : BitVec 32 := Scalar.addi v2192 c8_i32_2146
  let c16_i32_2147 : BitVec 32 := 16#32
  let v2779 : BitVec 32 := Scalar.addi v2778 c16_i32_2147
  v2779
def k0_mult59 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2150 : BitVec 32 := 16#32
  let v2788 : BitVec 32 := Scalar.addi v2192 c16_i32_2150
  let c16_i32_2151 : BitVec 32 := 16#32
  let v2789 : BitVec 32 := Scalar.addi v2788 c16_i32_2151
  v2789
def k0_mult60 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2154 : BitVec 32 := 24#32
  let v2798 : BitVec 32 := Scalar.addi v2192 c24_i32_2154
  let c16_i32_2155 : BitVec 32 := 16#32
  let v2799 : BitVec 32 := Scalar.addi v2798 c16_i32_2155
  v2799
def k0_mult61 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2160 : BitVec 32 := 0#32
  let v2811 : BitVec 32 := Scalar.addi v2192 c0_i32_2160
  let c16_i32_2161 : BitVec 32 := 16#32
  let v2812 : BitVec 32 := Scalar.addi v2811 c16_i32_2161
  v2812
def k0_mult62 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2163 : BitVec 32 := 8#32
  let v2820 : BitVec 32 := Scalar.addi v2192 c8_i32_2163
  let c16_i32_2164 : BitVec 32 := 16#32
  let v2821 : BitVec 32 := Scalar.addi v2820 c16_i32_2164
  v2821
def k0_mult63 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2166 : BitVec 32 := 16#32
  let v2829 : BitVec 32 := Scalar.addi v2192 c16_i32_2166
  let c16_i32_2167 : BitVec 32 := 16#32
  let v2830 : BitVec 32 := Scalar.addi v2829 c16_i32_2167
  v2830
def k0_mult64 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2169 : BitVec 32 := 24#32
  let v2838 : BitVec 32 := Scalar.addi v2192 c24_i32_2169
  let c16_i32_2170 : BitVec 32 := 16#32
  let v2839 : BitVec 32 := Scalar.addi v2838 c16_i32_2170
  v2839
def k0_mult65 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2174 : BitVec 32 := 0#32
  let v2850 : BitVec 32 := Scalar.addi v2192 c0_i32_2174
  let c8_i32_2175 : BitVec 32 := 8#32
  let v2851 : BitVec 32 := Scalar.addi v2850 c8_i32_2175
  v2851
def k0_mult66 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2178 : BitVec 32 := 8#32
  let v2860 : BitVec 32 := Scalar.addi v2192 c8_i32_2178
  let c8_i32_2179 : BitVec 32 := 8#32
  let v2861 : BitVec 32 := Scalar.addi v2860 c8_i32_2179
  v2861
def k0_mult67 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2182 : BitVec 32 := 16#32
  let v2870 : BitVec 32 := Scalar.addi v2192 c16_i32_2182
  let c8_i32_2183 : BitVec 32 := 8#32
  let v2871 : BitVec 32 := Scalar.addi v2870 c8_i32_2183
  v2871
def k0_mult68 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2186 : BitVec 32 := 24#32
  let v2880 : BitVec 32 := Scalar.addi v2192 c24_i32_2186
  let c8_i32_2187 : BitVec 32 := 8#32
  let v2881 : BitVec 32 := Scalar.addi v2880 c8_i32_2187
  v2881
def k0_mult69 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2192 : BitVec 32 := 0#32
  let v2893 : BitVec 32 := Scalar.addi v2192 c0_i32_2192
  let c8_i32_2193 : BitVec 32 := 8#32
  let v2894 : BitVec 32 := Scalar.addi v2893 c8_i32_2193
  v2894
def k0_mult70 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2196 : BitVec 32 := 8#32
  let v2903 : BitVec 32 := Scalar.addi v2192 c8_i32_2196
  let c8_i32_2197 : BitVec 32 := 8#32
  let v2904 : BitVec 32 := Scalar.addi v2903 c8_i32_2197
  v2904
def k0_mult71 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2200 : BitVec 32 := 16#32
  let v2913 : BitVec 32 := Scalar.addi v2192 c16_i32_2200
  let c8_i32_2201 : BitVec 32 := 8#32
  let v2914 : BitVec 32 := Scalar.addi v2913 c8_i32_2201
  v2914
def k0_mult72 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2204 : BitVec 32 := 24#32
  let v2923 : BitVec 32 := Scalar.addi v2192 c24_i32_2204
  let c8_i32_2205 : BitVec 32 := 8#32
  let v2924 : BitVec 32 := Scalar.addi v2923 c8_i32_2205
  v2924
def k0_mult73 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2210 : BitVec 32 := 0#32
  let v2936 : BitVec 32 := Scalar.addi v2192 c0_i32_2210
  let c8_i32_2211 : BitVec 32 := 8#32
  let v2937 : BitVec 32 := Scalar.addi v2936 c8_i32_2211
  v2937
def k0_mult74 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2214 : BitVec 32 := 8#32
  let v2946 : BitVec 32 := Scalar.addi v2192 c8_i32_2214
  let c8_i32_2215 : BitVec 32 := 8#32
  let v2947 : BitVec 32 := Scalar.addi v2946 c8_i32_2215
  v2947
def k0_mult75 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2218 : BitVec 32 := 16#32
  let v2956 : BitVec 32 := Scalar.addi v2192 c16_i32_2218
  let c8_i32_2219 : BitVec 32 := 8#32
  let v2957 : BitVec 32 := Scalar.addi v2956 c8_i32_2219
  v2957
def k0_mult76 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2222 : BitVec 32 := 24#32
  let v2966 : BitVec 32 := Scalar.addi v2192 c24_i32_2222
  let c8_i32_2223 : BitVec 32 := 8#32
  let v2967 : BitVec 32 := Scalar.addi v2966 c8_i32_2223
  v2967
def k0_mult77 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2228 : BitVec 32 := 0#32
  let v2979 : BitVec 32 := Scalar.addi v2192 c0_i32_2228
  let c8_i32_2229 : BitVec 32 := 8#32
  let v2980 : BitVec 32 := Scalar.addi v2979 c8_i32_2229
  v2980
def k0_mult78 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2232 : BitVec 32 := 8#32
  let v2989 : BitVec 32 := Scalar.addi v2192 c8_i32_2232
  let c8_i32_2233 : BitVec 32 := 8#32
  let v2990 : BitVec 32 := Scalar.addi v2989 c8_i32_2233
  v2990
def k0_mult79 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2236 : BitVec 32 := 16#32
  let v2999 : BitVec 32 := Scalar.addi v2192 c16_i32_2236
  let c8_i32_2237 : BitVec 32 := 8#32
  let v3000 : BitVec 32 := Scalar.addi v2999 c8_i32_2237
  v3000
def k0_mult80 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2240 : BitVec 32 := 24#32
  let v3009 : BitVec 32 := Scalar.addi v2192 c24_i32_2240
  let c8_i32_2241 : BitVec 32 := 8#32
  let v3010 : BitVec 32 := Scalar.addi v3009 c8_i32_2241
  v3010
def k0_mult81 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2246 : BitVec 32 := 0#32
  let v3022 : BitVec 32 := Scalar.addi v2192 c0_i32_2246
  let c8_i32_2247 : BitVec 32 := 8#32
  let v3023 : BitVec 32 := Scalar.addi v3022 c8_i32_2247
  v3023
def k0_mult82 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2250 : BitVec 32 := 8#32
  let v3032 : BitVec 32 := Scalar.addi v2192 c8_i32_2250
  let c8_i32_2251 : BitVec 32 := 8#32
  let v3033 : BitVec 32 := Scalar.addi v3032 c8_i32_2251
  v3033
def k0_mult83 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2254 : BitVec 32 := 16#32
  let v3042 : BitVec 32 := Scalar.addi v2192 c16_i32_2254
  let c8_i32_2255 : BitVec 32 := 8#32
  let v3043 : BitVec 32 := Scalar.addi v3042 c8_i32_2255
  v3043
def k0_mult84 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2258 : BitVec 32 := 24#32
  let v3052 : BitVec 32 := Scalar.addi v2192 c24_i32_2258
  let c8_i32_2259 : BitVec 32 := 8#32
  let v3053 : BitVec 32 := Scalar.addi v3052 c8_i32_2259
  v3053
def k0_mult85 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2264 : BitVec 32 := 0#32
  let v3065 : BitVec 32 := Scalar.addi v2192 c0_i32_2264
  let c8_i32_2265 : BitVec 32 := 8#32
  let v3066 : BitVec 32 := Scalar.addi v3065 c8_i32_2265
  v3066
def k0_mult86 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2268 : BitVec 32 := 8#32
  let v3075 : BitVec 32 := Scalar.addi v2192 c8_i32_2268
  let c8_i32_2269 : BitVec 32 := 8#32
  let v3076 : BitVec 32 := Scalar.addi v3075 c8_i32_2269
  v3076
def k0_mult87 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2272 : BitVec 32 := 16#32
  let v3085 : BitVec 32 := Scalar.addi v2192 c16_i32_2272
  let c8_i32_2273 : BitVec 32 := 8#32
  let v3086 : BitVec 32 := Scalar.addi v3085 c8_i32_2273
  v3086
def k0_mult88 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2276 : BitVec 32 := 24#32
  let v3095 : BitVec 32 := Scalar.addi v2192 c24_i32_2276
  let c8_i32_2277 : BitVec 32 := 8#32
  let v3096 : BitVec 32 := Scalar.addi v3095 c8_i32_2277
  v3096
def k0_mult89 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2282 : BitVec 32 := 0#32
  let v3108 : BitVec 32 := Scalar.addi v2192 c0_i32_2282
  let c8_i32_2283 : BitVec 32 := 8#32
  let v3109 : BitVec 32 := Scalar.addi v3108 c8_i32_2283
  v3109
def k0_mult90 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2286 : BitVec 32 := 8#32
  let v3118 : BitVec 32 := Scalar.addi v2192 c8_i32_2286
  let c8_i32_2287 : BitVec 32 := 8#32
  let v3119 : BitVec 32 := Scalar.addi v3118 c8_i32_2287
  v3119
def k0_mult91 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2290 : BitVec 32 := 16#32
  let v3128 : BitVec 32 := Scalar.addi v2192 c16_i32_2290
  let c8_i32_2291 : BitVec 32 := 8#32
  let v3129 : BitVec 32 := Scalar.addi v3128 c8_i32_2291
  v3129
def k0_mult92 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2294 : BitVec 32 := 24#32
  let v3138 : BitVec 32 := Scalar.addi v2192 c24_i32_2294
  let c8_i32_2295 : BitVec 32 := 8#32
  let v3139 : BitVec 32 := Scalar.addi v3138 c8_i32_2295
  v3139
def k0_mult93 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2300 : BitVec 32 := 0#32
  let v3151 : BitVec 32 := Scalar.addi v2192 c0_i32_2300
  let c8_i32_2301 : BitVec 32 := 8#32
  let v3152 : BitVec 32 := Scalar.addi v3151 c8_i32_2301
  v3152
def k0_mult94 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2303 : BitVec 32 := 8#32
  let v3160 : BitVec 32 := Scalar.addi v2192 c8_i32_2303
  let c8_i32_2304 : BitVec 32 := 8#32
  let v3161 : BitVec 32 := Scalar.addi v3160 c8_i32_2304
  v3161
def k0_mult95 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2306 : BitVec 32 := 16#32
  let v3169 : BitVec 32 := Scalar.addi v2192 c16_i32_2306
  let c8_i32_2307 : BitVec 32 := 8#32
  let v3170 : BitVec 32 := Scalar.addi v3169 c8_i32_2307
  v3170
def k0_mult96 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2309 : BitVec 32 := 24#32
  let v3178 : BitVec 32 := Scalar.addi v2192 c24_i32_2309
  let c8_i32_2310 : BitVec 32 := 8#32
  let v3179 : BitVec 32 := Scalar.addi v3178 c8_i32_2310
  v3179
def k0_mult97 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2314 : BitVec 32 := 0#32
  let v3190 : BitVec 32 := Scalar.addi v2192 c0_i32_2314
  let c0_i32_2315 : BitVec 32 := 0#32
  let v3191 : BitVec 32 := Scalar.addi v3190 c0_i32_2315
  v3191
def k0_mult98 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2318 : BitVec 32 := 8#32
  let v3200 : BitVec 32 := Scalar.addi v2192 c8_i32_2318
  let c0_i32_2319 : BitVec 32 := 0#32
  let v3201 : BitVec 32 := Scalar.addi v3200 c0_i32_2319
  v3201
def k0_mult99 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2322 : BitVec 32 := 16#32
  let v3210 : BitVec 32 := Scalar.addi v2192 c16_i32_2322
  let c0_i32_2323 : BitVec 32 := 0#32
  let v3211 : BitVec 32 := Scalar.addi v3210 c0_i32_2323
  v3211
def k0_mult100 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2326 : BitVec 32 := 24#32
  let v3220 : BitVec 32 := Scalar.addi v2192 c24_i32_2326
  let c0_i32_2327 : BitVec 32 := 0#32
  let v3221 : BitVec 32 := Scalar.addi v3220 c0_i32_2327
  v3221
def k0_mult101 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2332 : BitVec 32 := 0#32
  let v3233 : BitVec 32 := Scalar.addi v2192 c0_i32_2332
  let c0_i32_2333 : BitVec 32 := 0#32
  let v3234 : BitVec 32 := Scalar.addi v3233 c0_i32_2333
  v3234
def k0_mult102 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2336 : BitVec 32 := 8#32
  let v3243 : BitVec 32 := Scalar.addi v2192 c8_i32_2336
  let c0_i32_2337 : BitVec 32 := 0#32
  let v3244 : BitVec 32 := Scalar.addi v3243 c0_i32_2337
  v3244
def k0_mult103 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2340 : BitVec 32 := 16#32
  let v3253 : BitVec 32 := Scalar.addi v2192 c16_i32_2340
  let c0_i32_2341 : BitVec 32 := 0#32
  let v3254 : BitVec 32 := Scalar.addi v3253 c0_i32_2341
  v3254
def k0_mult104 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2344 : BitVec 32 := 24#32
  let v3263 : BitVec 32 := Scalar.addi v2192 c24_i32_2344
  let c0_i32_2345 : BitVec 32 := 0#32
  let v3264 : BitVec 32 := Scalar.addi v3263 c0_i32_2345
  v3264
def k0_mult105 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2350 : BitVec 32 := 0#32
  let v3276 : BitVec 32 := Scalar.addi v2192 c0_i32_2350
  let c0_i32_2351 : BitVec 32 := 0#32
  let v3277 : BitVec 32 := Scalar.addi v3276 c0_i32_2351
  v3277
def k0_mult106 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2354 : BitVec 32 := 8#32
  let v3286 : BitVec 32 := Scalar.addi v2192 c8_i32_2354
  let c0_i32_2355 : BitVec 32 := 0#32
  let v3287 : BitVec 32 := Scalar.addi v3286 c0_i32_2355
  v3287
def k0_mult107 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2358 : BitVec 32 := 16#32
  let v3296 : BitVec 32 := Scalar.addi v2192 c16_i32_2358
  let c0_i32_2359 : BitVec 32 := 0#32
  let v3297 : BitVec 32 := Scalar.addi v3296 c0_i32_2359
  v3297
def k0_mult108 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2362 : BitVec 32 := 24#32
  let v3306 : BitVec 32 := Scalar.addi v2192 c24_i32_2362
  let c0_i32_2363 : BitVec 32 := 0#32
  let v3307 : BitVec 32 := Scalar.addi v3306 c0_i32_2363
  v3307
def k0_mult109 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2368 : BitVec 32 := 0#32
  let v3319 : BitVec 32 := Scalar.addi v2192 c0_i32_2368
  let c0_i32_2369 : BitVec 32 := 0#32
  let v3320 : BitVec 32 := Scalar.addi v3319 c0_i32_2369
  v3320
def k0_mult110 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2372 : BitVec 32 := 8#32
  let v3329 : BitVec 32 := Scalar.addi v2192 c8_i32_2372
  let c0_i32_2373 : BitVec 32 := 0#32
  let v3330 : BitVec 32 := Scalar.addi v3329 c0_i32_2373
  v3330
def k0_mult111 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2376 : BitVec 32 := 16#32
  let v3339 : BitVec 32 := Scalar.addi v2192 c16_i32_2376
  let c0_i32_2377 : BitVec 32 := 0#32
  let v3340 : BitVec 32 := Scalar.addi v3339 c0_i32_2377
  v3340
def k0_mult112 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2380 : BitVec 32 := 24#32
  let v3349 : BitVec 32 := Scalar.addi v2192 c24_i32_2380
  let c0_i32_2381 : BitVec 32 := 0#32
  let v3350 : BitVec 32 := Scalar.addi v3349 c0_i32_2381
  v3350
def k0_mult113 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2386 : BitVec 32 := 0#32
  let v3362 : BitVec 32 := Scalar.addi v2192 c0_i32_2386
  let c0_i32_2387 : BitVec 32 := 0#32
  let v3363 : BitVec 32 := Scalar.addi v3362 c0_i32_2387
  v3363
def k0_mult114 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2390 : BitVec 32 := 8#32
  let v3372 : BitVec 32 := Scalar.addi v2192 c8_i32_2390
  let c0_i32_2391 : BitVec 32 := 0#32
  let v3373 : BitVec 32 := Scalar.addi v3372 c0_i32_2391
  v3373
def k0_mult115 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2394 : BitVec 32 := 16#32
  let v3382 : BitVec 32 := Scalar.addi v2192 c16_i32_2394
  let c0_i32_2395 : BitVec 32 := 0#32
  let v3383 : BitVec 32 := Scalar.addi v3382 c0_i32_2395
  v3383
def k0_mult116 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2398 : BitVec 32 := 24#32
  let v3392 : BitVec 32 := Scalar.addi v2192 c24_i32_2398
  let c0_i32_2399 : BitVec 32 := 0#32
  let v3393 : BitVec 32 := Scalar.addi v3392 c0_i32_2399
  v3393
def k0_mult117 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2404 : BitVec 32 := 0#32
  let v3405 : BitVec 32 := Scalar.addi v2192 c0_i32_2404
  let c0_i32_2405 : BitVec 32 := 0#32
  let v3406 : BitVec 32 := Scalar.addi v3405 c0_i32_2405
  v3406
def k0_mult118 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2408 : BitVec 32 := 8#32
  let v3415 : BitVec 32 := Scalar.addi v2192 c8_i32_2408
  let c0_i32_2409 : BitVec 32 := 0#32
  let v3416 : BitVec 32 := Scalar.addi v3415 c0_i32_2409
  v3416
def k0_mult119 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2412 : BitVec 32 := 16#32
  let v3425 : BitVec 32 := Scalar.addi v2192 c16_i32_2412
  let c0_i32_2413 : BitVec 32 := 0#32
  let v3426 : BitVec 32 := Scalar.addi v3425 c0_i32_2413
  v3426
def k0_mult120 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2416 : BitVec 32 := 24#32
  let v3435 : BitVec 32 := Scalar.addi v2192 c24_i32_2416
  let c0_i32_2417 : BitVec 32 := 0#32
  let v3436 : BitVec 32 := Scalar.addi v3435 c0_i32_2417
  v3436
def k0_mult121 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2422 : BitVec 32 := 0#32
  let v3448 : BitVec 32 := Scalar.addi v2192 c0_i32_2422
  let c0_i32_2423 : BitVec 32 := 0#32
  let v3449 : BitVec 32 := Scalar.addi v3448 c0_i32_2423
  v3449
def k0_mult122 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2426 : BitVec 32 := 8#32
  let v3458 : BitVec 32 := Scalar.addi v2192 c8_i32_2426
  let c0_i32_2427 : BitVec 32 := 0#32
  let v3459 : BitVec 32 := Scalar.addi v3458 c0_i32_2427
  v3459
def k0_mult123 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2430 : BitVec 32 := 16#32
  let v3468 : BitVec 32 := Scalar.addi v2192 c16_i32_2430
  let c0_i32_2431 : BitVec 32 := 0#32
  let v3469 : BitVec 32 := Scalar.addi v3468 c0_i32_2431
  v3469
def k0_mult124 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2434 : BitVec 32 := 24#32
  let v3478 : BitVec 32 := Scalar.addi v2192 c24_i32_2434
  let c0_i32_2435 : BitVec 32 := 0#32
  let v3479 : BitVec 32 := Scalar.addi v3478 c0_i32_2435
  v3479
def k0_mult125 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c0_i32_2440 : BitVec 32 := 0#32
  let v3491 : BitVec 32 := Scalar.addi v2192 c0_i32_2440
  let c0_i32_2441 : BitVec 32 := 0#32
  let v3492 : BitVec 32 := Scalar.addi v3491 c0_i32_2441
  v3492
def k0_mult126 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c8_i32_2443 : BitVec 32 := 8#32
  let v3500 : BitVec 32 := Scalar.addi v2192 c8_i32_2443
  let c0_i32_2444 : BitVec 32 := 0#32
  let v3501 : BitVec 32 := Scalar.addi v3500 c0_i32_2444
  v3501
def k0_mult127 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c16_i32_2446 : BitVec 32 := 16#32
  let v3509 : BitVec 32 := Scalar.addi v2192 c16_i32_2446
  let c0_i32_2447 : BitVec 32 := 0#32
  let v3510 : BitVec 32 := Scalar.addi v3509 c0_i32_2447
  v3510
def k0_mult128 (k0_t1 : Fin k0_t1_loop.trips) : BitVec 32 :=
  let c0_i32_189 : BitVec 32 := 0#32
  let c1_i32_191 : BitVec 32 := 1#32
  let arg16 : BitVec 32 := Scf.iv c0_i32_189 c1_i32_191 k0_t1
  let c32_i32 : BitVec 32 := 32#32
  let v2192 : BitVec 32 := Scalar.muli arg16 c32_i32
  let c24_i32_2449 : BitVec 32 := 24#32
  let v3518 : BitVec 32 := Scalar.addi v2192 c24_i32_2449
  let c0_i32_2450 : BitVec 32 := 0#32
  let v3519 : BitVec 32 := Scalar.addi v3518 c0_i32_2450
  v3519
@[reducible] def k0_t2_loop : Scf.Loop 32 :=
  let c0_i32_391 : BitVec 32 := 0#32
  let c16_i32_392 : BitVec 32 := 16#32
  let v511 : BitVec 32 := Scalar.addi c0_i32_391 c16_i32_392
  let c1_i32_393 : BitVec 32 := 1#32
  ⟨c0_i32_391, v511, c1_i32_393⟩
def k0_mult129 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_1902 : BitVec 32 := 0#32
  let v2193 : BitVec 32 := Scalar.addi v2192 c0_i32_1902
  v2193
def k0_mult130 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_1903 : BitVec 32 := 8#32
  let v2195 : BitVec 32 := Scalar.addi v2192 c8_i32_1903
  v2195
def k0_mult131 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_1904 : BitVec 32 := 16#32
  let v2197 : BitVec 32 := Scalar.addi v2192 c16_i32_1904
  v2197
def k0_mult132 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32 : BitVec 32 := 24#32
  let v2199 : BitVec 32 := Scalar.addi v2192 c24_i32
  v2199
def k0_off10 (k0_t2 : Fin k0_t2_loop.trips) (c0_i32_1902 : BitVec 32) : Fin 2 → Nat :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let v2193 : BitVec 32 := Scalar.addi v2192 c0_i32_1902
  let v2194 : BitVec 32 := v2193
  let v2201 : Index := Scalar.indexCast v2194
  let c128_1905 : Index := 128#32
  ![v2201.toNat, 128]
def k0_mult133 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_1912 : BitVec 32 := 0#32
  let v2213 : BitVec 32 := Scalar.addi v2192 c0_i32_1912
  let c24_i32_1913 : BitVec 32 := 24#32
  let v2214 : BitVec 32 := Scalar.addi v2213 c24_i32_1913
  v2214
def k0_off11 (k0_t2 : Fin k0_t2_loop.trips) (c0_i32_1912 : BitVec 32) (c24_i32_1913 : BitVec 32) : Fin 3 → Nat :=
  let c5_1914 : Index := 5#32
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let v2213 : BitVec 32 := Scalar.addi v2192 c0_i32_1912
  let v2214 : BitVec 32 := Scalar.addi v2213 c24_i32_1913
  let v2215 : BitVec 32 := v2214
  let v2216 : Index := Scalar.indexCast v2215
  let c0_1915 : Index := 0#32
  ![5, v2216.toNat, 0]
def k0_mult134 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_1916 : BitVec 32 := 8#32
  let v2223 : BitVec 32 := Scalar.addi v2192 c8_i32_1916
  let c24_i32_1917 : BitVec 32 := 24#32
  let v2224 : BitVec 32 := Scalar.addi v2223 c24_i32_1917
  v2224
def k0_mult135 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_1920 : BitVec 32 := 16#32
  let v2233 : BitVec 32 := Scalar.addi v2192 c16_i32_1920
  let c24_i32_1921 : BitVec 32 := 24#32
  let v2234 : BitVec 32 := Scalar.addi v2233 c24_i32_1921
  v2234
def k0_mult136 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_1924 : BitVec 32 := 24#32
  let v2243 : BitVec 32 := Scalar.addi v2192 c24_i32_1924
  let c24_i32_1925 : BitVec 32 := 24#32
  let v2244 : BitVec 32 := Scalar.addi v2243 c24_i32_1925
  v2244
def k0_mult137 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_1930 : BitVec 32 := 0#32
  let v2256 : BitVec 32 := Scalar.addi v2192 c0_i32_1930
  let c24_i32_1931 : BitVec 32 := 24#32
  let v2257 : BitVec 32 := Scalar.addi v2256 c24_i32_1931
  v2257
def k0_off12 (k0_t2 : Fin k0_t2_loop.trips) (c0_i32_1930 : BitVec 32) (c24_i32_1931 : BitVec 32) : Fin 3 → Nat :=
  let c4_1932 : Index := 4#32
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let v2256 : BitVec 32 := Scalar.addi v2192 c0_i32_1930
  let v2257 : BitVec 32 := Scalar.addi v2256 c24_i32_1931
  let v2258 : BitVec 32 := v2257
  let v2259 : Index := Scalar.indexCast v2258
  let c0_1933 : Index := 0#32
  ![4, v2259.toNat, 0]
def k0_mult138 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_1934 : BitVec 32 := 8#32
  let v2266 : BitVec 32 := Scalar.addi v2192 c8_i32_1934
  let c24_i32_1935 : BitVec 32 := 24#32
  let v2267 : BitVec 32 := Scalar.addi v2266 c24_i32_1935
  v2267
def k0_mult139 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_1938 : BitVec 32 := 16#32
  let v2276 : BitVec 32 := Scalar.addi v2192 c16_i32_1938
  let c24_i32_1939 : BitVec 32 := 24#32
  let v2277 : BitVec 32 := Scalar.addi v2276 c24_i32_1939
  v2277
def k0_mult140 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_1942 : BitVec 32 := 24#32
  let v2286 : BitVec 32 := Scalar.addi v2192 c24_i32_1942
  let c24_i32_1943 : BitVec 32 := 24#32
  let v2287 : BitVec 32 := Scalar.addi v2286 c24_i32_1943
  v2287
def k0_mult141 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_1948 : BitVec 32 := 0#32
  let v2299 : BitVec 32 := Scalar.addi v2192 c0_i32_1948
  let c24_i32_1949 : BitVec 32 := 24#32
  let v2300 : BitVec 32 := Scalar.addi v2299 c24_i32_1949
  v2300
def k0_off13 (k0_t2 : Fin k0_t2_loop.trips) (c0_i32_1948 : BitVec 32) (c24_i32_1949 : BitVec 32) : Fin 3 → Nat :=
  let c3_1950 : Index := 3#32
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let v2299 : BitVec 32 := Scalar.addi v2192 c0_i32_1948
  let v2300 : BitVec 32 := Scalar.addi v2299 c24_i32_1949
  let v2301 : BitVec 32 := v2300
  let v2302 : Index := Scalar.indexCast v2301
  let c0_1951 : Index := 0#32
  ![3, v2302.toNat, 0]
def k0_mult142 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_1952 : BitVec 32 := 8#32
  let v2309 : BitVec 32 := Scalar.addi v2192 c8_i32_1952
  let c24_i32_1953 : BitVec 32 := 24#32
  let v2310 : BitVec 32 := Scalar.addi v2309 c24_i32_1953
  v2310
def k0_mult143 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_1956 : BitVec 32 := 16#32
  let v2319 : BitVec 32 := Scalar.addi v2192 c16_i32_1956
  let c24_i32_1957 : BitVec 32 := 24#32
  let v2320 : BitVec 32 := Scalar.addi v2319 c24_i32_1957
  v2320
def k0_mult144 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_1960 : BitVec 32 := 24#32
  let v2329 : BitVec 32 := Scalar.addi v2192 c24_i32_1960
  let c24_i32_1961 : BitVec 32 := 24#32
  let v2330 : BitVec 32 := Scalar.addi v2329 c24_i32_1961
  v2330
def k0_mult145 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_1966 : BitVec 32 := 0#32
  let v2342 : BitVec 32 := Scalar.addi v2192 c0_i32_1966
  let c24_i32_1967 : BitVec 32 := 24#32
  let v2343 : BitVec 32 := Scalar.addi v2342 c24_i32_1967
  v2343
def k0_off14 (k0_t2 : Fin k0_t2_loop.trips) (c0_i32_1966 : BitVec 32) (c24_i32_1967 : BitVec 32) : Fin 3 → Nat :=
  let c2_1968 : Index := 2#32
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let v2342 : BitVec 32 := Scalar.addi v2192 c0_i32_1966
  let v2343 : BitVec 32 := Scalar.addi v2342 c24_i32_1967
  let v2344 : BitVec 32 := v2343
  let v2345 : Index := Scalar.indexCast v2344
  let c0_1969 : Index := 0#32
  ![2, v2345.toNat, 0]
def k0_mult146 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_1970 : BitVec 32 := 8#32
  let v2352 : BitVec 32 := Scalar.addi v2192 c8_i32_1970
  let c24_i32_1971 : BitVec 32 := 24#32
  let v2353 : BitVec 32 := Scalar.addi v2352 c24_i32_1971
  v2353
def k0_mult147 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_1974 : BitVec 32 := 16#32
  let v2362 : BitVec 32 := Scalar.addi v2192 c16_i32_1974
  let c24_i32_1975 : BitVec 32 := 24#32
  let v2363 : BitVec 32 := Scalar.addi v2362 c24_i32_1975
  v2363
def k0_mult148 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_1978 : BitVec 32 := 24#32
  let v2372 : BitVec 32 := Scalar.addi v2192 c24_i32_1978
  let c24_i32_1979 : BitVec 32 := 24#32
  let v2373 : BitVec 32 := Scalar.addi v2372 c24_i32_1979
  v2373
def k0_mult149 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_1984 : BitVec 32 := 0#32
  let v2385 : BitVec 32 := Scalar.addi v2192 c0_i32_1984
  let c24_i32_1985 : BitVec 32 := 24#32
  let v2386 : BitVec 32 := Scalar.addi v2385 c24_i32_1985
  v2386
def k0_off15 (k0_t2 : Fin k0_t2_loop.trips) (c0_i32_1984 : BitVec 32) (c24_i32_1985 : BitVec 32) : Fin 3 → Nat :=
  let c1_1986 : Index := 1#32
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let v2385 : BitVec 32 := Scalar.addi v2192 c0_i32_1984
  let v2386 : BitVec 32 := Scalar.addi v2385 c24_i32_1985
  let v2387 : BitVec 32 := v2386
  let v2388 : Index := Scalar.indexCast v2387
  let c0_1987 : Index := 0#32
  ![1, v2388.toNat, 0]
def k0_mult150 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_1988 : BitVec 32 := 8#32
  let v2395 : BitVec 32 := Scalar.addi v2192 c8_i32_1988
  let c24_i32_1989 : BitVec 32 := 24#32
  let v2396 : BitVec 32 := Scalar.addi v2395 c24_i32_1989
  v2396
def k0_mult151 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_1992 : BitVec 32 := 16#32
  let v2405 : BitVec 32 := Scalar.addi v2192 c16_i32_1992
  let c24_i32_1993 : BitVec 32 := 24#32
  let v2406 : BitVec 32 := Scalar.addi v2405 c24_i32_1993
  v2406
def k0_mult152 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_1996 : BitVec 32 := 24#32
  let v2415 : BitVec 32 := Scalar.addi v2192 c24_i32_1996
  let c24_i32_1997 : BitVec 32 := 24#32
  let v2416 : BitVec 32 := Scalar.addi v2415 c24_i32_1997
  v2416
def k0_mult153 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2002 : BitVec 32 := 0#32
  let v2428 : BitVec 32 := Scalar.addi v2192 c0_i32_2002
  let c24_i32_2003 : BitVec 32 := 24#32
  let v2429 : BitVec 32 := Scalar.addi v2428 c24_i32_2003
  v2429
def k0_off16 (k0_t2 : Fin k0_t2_loop.trips) (c0_i32_2002 : BitVec 32) (c24_i32_2003 : BitVec 32) : Fin 3 → Nat :=
  let c0_2004 : Index := 0#32
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let v2428 : BitVec 32 := Scalar.addi v2192 c0_i32_2002
  let v2429 : BitVec 32 := Scalar.addi v2428 c24_i32_2003
  let v2430 : BitVec 32 := v2429
  let v2431 : Index := Scalar.indexCast v2430
  let c0_2005 : Index := 0#32
  ![0, v2431.toNat, 0]
def k0_mult154 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2006 : BitVec 32 := 8#32
  let v2438 : BitVec 32 := Scalar.addi v2192 c8_i32_2006
  let c24_i32_2007 : BitVec 32 := 24#32
  let v2439 : BitVec 32 := Scalar.addi v2438 c24_i32_2007
  v2439
def k0_mult155 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2010 : BitVec 32 := 16#32
  let v2448 : BitVec 32 := Scalar.addi v2192 c16_i32_2010
  let c24_i32_2011 : BitVec 32 := 24#32
  let v2449 : BitVec 32 := Scalar.addi v2448 c24_i32_2011
  v2449
def k0_mult156 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2014 : BitVec 32 := 24#32
  let v2458 : BitVec 32 := Scalar.addi v2192 c24_i32_2014
  let c24_i32_2015 : BitVec 32 := 24#32
  let v2459 : BitVec 32 := Scalar.addi v2458 c24_i32_2015
  v2459
def k0_mult157 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2020 : BitVec 32 := 0#32
  let v2471 : BitVec 32 := Scalar.addi v2192 c0_i32_2020
  let c24_i32_2021 : BitVec 32 := 24#32
  let v2472 : BitVec 32 := Scalar.addi v2471 c24_i32_2021
  v2472
def k0_off17 (k0_t2 : Fin k0_t2_loop.trips) (c0_i32_2020 : BitVec 32) (c24_i32_2021 : BitVec 32) : Fin 2 → Nat :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let v2471 : BitVec 32 := Scalar.addi v2192 c0_i32_2020
  let v2472 : BitVec 32 := Scalar.addi v2471 c24_i32_2021
  let v2473 : BitVec 32 := v2472
  let v2474 : Index := Scalar.indexCast v2473
  let c128_2022 : Index := 128#32
  ![v2474.toNat, 128]
def k0_mult158 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2023 : BitVec 32 := 8#32
  let v2480 : BitVec 32 := Scalar.addi v2192 c8_i32_2023
  let c24_i32_2024 : BitVec 32 := 24#32
  let v2481 : BitVec 32 := Scalar.addi v2480 c24_i32_2024
  v2481
def k0_mult159 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2026 : BitVec 32 := 16#32
  let v2489 : BitVec 32 := Scalar.addi v2192 c16_i32_2026
  let c24_i32_2027 : BitVec 32 := 24#32
  let v2490 : BitVec 32 := Scalar.addi v2489 c24_i32_2027
  v2490
def k0_mult160 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2029 : BitVec 32 := 24#32
  let v2498 : BitVec 32 := Scalar.addi v2192 c24_i32_2029
  let c24_i32_2030 : BitVec 32 := 24#32
  let v2499 : BitVec 32 := Scalar.addi v2498 c24_i32_2030
  v2499
def k0_mult161 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2034 : BitVec 32 := 0#32
  let v2510 : BitVec 32 := Scalar.addi v2192 c0_i32_2034
  let c16_i32_2035 : BitVec 32 := 16#32
  let v2511 : BitVec 32 := Scalar.addi v2510 c16_i32_2035
  v2511
def k0_off18 (k0_t2 : Fin k0_t2_loop.trips) (c0_i32_2034 : BitVec 32) (c16_i32_2035 : BitVec 32) : Fin 3 → Nat :=
  let c6_2036 : Index := 6#32
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let v2510 : BitVec 32 := Scalar.addi v2192 c0_i32_2034
  let v2511 : BitVec 32 := Scalar.addi v2510 c16_i32_2035
  let v2512 : BitVec 32 := v2511
  let v2513 : Index := Scalar.indexCast v2512
  let c0_2037 : Index := 0#32
  ![6, v2513.toNat, 0]
def k0_mult162 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2038 : BitVec 32 := 8#32
  let v2520 : BitVec 32 := Scalar.addi v2192 c8_i32_2038
  let c16_i32_2039 : BitVec 32 := 16#32
  let v2521 : BitVec 32 := Scalar.addi v2520 c16_i32_2039
  v2521
def k0_mult163 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2042 : BitVec 32 := 16#32
  let v2530 : BitVec 32 := Scalar.addi v2192 c16_i32_2042
  let c16_i32_2043 : BitVec 32 := 16#32
  let v2531 : BitVec 32 := Scalar.addi v2530 c16_i32_2043
  v2531
def k0_mult164 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2046 : BitVec 32 := 24#32
  let v2540 : BitVec 32 := Scalar.addi v2192 c24_i32_2046
  let c16_i32_2047 : BitVec 32 := 16#32
  let v2541 : BitVec 32 := Scalar.addi v2540 c16_i32_2047
  v2541
def k0_mult165 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2052 : BitVec 32 := 0#32
  let v2553 : BitVec 32 := Scalar.addi v2192 c0_i32_2052
  let c16_i32_2053 : BitVec 32 := 16#32
  let v2554 : BitVec 32 := Scalar.addi v2553 c16_i32_2053
  v2554
def k0_mult166 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2056 : BitVec 32 := 8#32
  let v2563 : BitVec 32 := Scalar.addi v2192 c8_i32_2056
  let c16_i32_2057 : BitVec 32 := 16#32
  let v2564 : BitVec 32 := Scalar.addi v2563 c16_i32_2057
  v2564
def k0_mult167 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2060 : BitVec 32 := 16#32
  let v2573 : BitVec 32 := Scalar.addi v2192 c16_i32_2060
  let c16_i32_2061 : BitVec 32 := 16#32
  let v2574 : BitVec 32 := Scalar.addi v2573 c16_i32_2061
  v2574
def k0_mult168 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2064 : BitVec 32 := 24#32
  let v2583 : BitVec 32 := Scalar.addi v2192 c24_i32_2064
  let c16_i32_2065 : BitVec 32 := 16#32
  let v2584 : BitVec 32 := Scalar.addi v2583 c16_i32_2065
  v2584
def k0_mult169 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2070 : BitVec 32 := 0#32
  let v2596 : BitVec 32 := Scalar.addi v2192 c0_i32_2070
  let c16_i32_2071 : BitVec 32 := 16#32
  let v2597 : BitVec 32 := Scalar.addi v2596 c16_i32_2071
  v2597
def k0_mult170 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2074 : BitVec 32 := 8#32
  let v2606 : BitVec 32 := Scalar.addi v2192 c8_i32_2074
  let c16_i32_2075 : BitVec 32 := 16#32
  let v2607 : BitVec 32 := Scalar.addi v2606 c16_i32_2075
  v2607
def k0_mult171 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2078 : BitVec 32 := 16#32
  let v2616 : BitVec 32 := Scalar.addi v2192 c16_i32_2078
  let c16_i32_2079 : BitVec 32 := 16#32
  let v2617 : BitVec 32 := Scalar.addi v2616 c16_i32_2079
  v2617
def k0_mult172 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2082 : BitVec 32 := 24#32
  let v2626 : BitVec 32 := Scalar.addi v2192 c24_i32_2082
  let c16_i32_2083 : BitVec 32 := 16#32
  let v2627 : BitVec 32 := Scalar.addi v2626 c16_i32_2083
  v2627
def k0_mult173 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2088 : BitVec 32 := 0#32
  let v2639 : BitVec 32 := Scalar.addi v2192 c0_i32_2088
  let c16_i32_2089 : BitVec 32 := 16#32
  let v2640 : BitVec 32 := Scalar.addi v2639 c16_i32_2089
  v2640
def k0_mult174 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2092 : BitVec 32 := 8#32
  let v2649 : BitVec 32 := Scalar.addi v2192 c8_i32_2092
  let c16_i32_2093 : BitVec 32 := 16#32
  let v2650 : BitVec 32 := Scalar.addi v2649 c16_i32_2093
  v2650
def k0_mult175 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2096 : BitVec 32 := 16#32
  let v2659 : BitVec 32 := Scalar.addi v2192 c16_i32_2096
  let c16_i32_2097 : BitVec 32 := 16#32
  let v2660 : BitVec 32 := Scalar.addi v2659 c16_i32_2097
  v2660
def k0_mult176 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2100 : BitVec 32 := 24#32
  let v2669 : BitVec 32 := Scalar.addi v2192 c24_i32_2100
  let c16_i32_2101 : BitVec 32 := 16#32
  let v2670 : BitVec 32 := Scalar.addi v2669 c16_i32_2101
  v2670
def k0_mult177 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2106 : BitVec 32 := 0#32
  let v2682 : BitVec 32 := Scalar.addi v2192 c0_i32_2106
  let c16_i32_2107 : BitVec 32 := 16#32
  let v2683 : BitVec 32 := Scalar.addi v2682 c16_i32_2107
  v2683
def k0_mult178 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2110 : BitVec 32 := 8#32
  let v2692 : BitVec 32 := Scalar.addi v2192 c8_i32_2110
  let c16_i32_2111 : BitVec 32 := 16#32
  let v2693 : BitVec 32 := Scalar.addi v2692 c16_i32_2111
  v2693
def k0_mult179 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2114 : BitVec 32 := 16#32
  let v2702 : BitVec 32 := Scalar.addi v2192 c16_i32_2114
  let c16_i32_2115 : BitVec 32 := 16#32
  let v2703 : BitVec 32 := Scalar.addi v2702 c16_i32_2115
  v2703
def k0_mult180 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2118 : BitVec 32 := 24#32
  let v2712 : BitVec 32 := Scalar.addi v2192 c24_i32_2118
  let c16_i32_2119 : BitVec 32 := 16#32
  let v2713 : BitVec 32 := Scalar.addi v2712 c16_i32_2119
  v2713
def k0_mult181 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2124 : BitVec 32 := 0#32
  let v2725 : BitVec 32 := Scalar.addi v2192 c0_i32_2124
  let c16_i32_2125 : BitVec 32 := 16#32
  let v2726 : BitVec 32 := Scalar.addi v2725 c16_i32_2125
  v2726
def k0_mult182 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2128 : BitVec 32 := 8#32
  let v2735 : BitVec 32 := Scalar.addi v2192 c8_i32_2128
  let c16_i32_2129 : BitVec 32 := 16#32
  let v2736 : BitVec 32 := Scalar.addi v2735 c16_i32_2129
  v2736
def k0_mult183 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2132 : BitVec 32 := 16#32
  let v2745 : BitVec 32 := Scalar.addi v2192 c16_i32_2132
  let c16_i32_2133 : BitVec 32 := 16#32
  let v2746 : BitVec 32 := Scalar.addi v2745 c16_i32_2133
  v2746
def k0_mult184 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2136 : BitVec 32 := 24#32
  let v2755 : BitVec 32 := Scalar.addi v2192 c24_i32_2136
  let c16_i32_2137 : BitVec 32 := 16#32
  let v2756 : BitVec 32 := Scalar.addi v2755 c16_i32_2137
  v2756
def k0_mult185 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2142 : BitVec 32 := 0#32
  let v2768 : BitVec 32 := Scalar.addi v2192 c0_i32_2142
  let c16_i32_2143 : BitVec 32 := 16#32
  let v2769 : BitVec 32 := Scalar.addi v2768 c16_i32_2143
  v2769
def k0_mult186 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2146 : BitVec 32 := 8#32
  let v2778 : BitVec 32 := Scalar.addi v2192 c8_i32_2146
  let c16_i32_2147 : BitVec 32 := 16#32
  let v2779 : BitVec 32 := Scalar.addi v2778 c16_i32_2147
  v2779
def k0_mult187 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2150 : BitVec 32 := 16#32
  let v2788 : BitVec 32 := Scalar.addi v2192 c16_i32_2150
  let c16_i32_2151 : BitVec 32 := 16#32
  let v2789 : BitVec 32 := Scalar.addi v2788 c16_i32_2151
  v2789
def k0_mult188 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2154 : BitVec 32 := 24#32
  let v2798 : BitVec 32 := Scalar.addi v2192 c24_i32_2154
  let c16_i32_2155 : BitVec 32 := 16#32
  let v2799 : BitVec 32 := Scalar.addi v2798 c16_i32_2155
  v2799
def k0_mult189 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2160 : BitVec 32 := 0#32
  let v2811 : BitVec 32 := Scalar.addi v2192 c0_i32_2160
  let c16_i32_2161 : BitVec 32 := 16#32
  let v2812 : BitVec 32 := Scalar.addi v2811 c16_i32_2161
  v2812
def k0_mult190 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2163 : BitVec 32 := 8#32
  let v2820 : BitVec 32 := Scalar.addi v2192 c8_i32_2163
  let c16_i32_2164 : BitVec 32 := 16#32
  let v2821 : BitVec 32 := Scalar.addi v2820 c16_i32_2164
  v2821
def k0_mult191 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2166 : BitVec 32 := 16#32
  let v2829 : BitVec 32 := Scalar.addi v2192 c16_i32_2166
  let c16_i32_2167 : BitVec 32 := 16#32
  let v2830 : BitVec 32 := Scalar.addi v2829 c16_i32_2167
  v2830
def k0_mult192 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2169 : BitVec 32 := 24#32
  let v2838 : BitVec 32 := Scalar.addi v2192 c24_i32_2169
  let c16_i32_2170 : BitVec 32 := 16#32
  let v2839 : BitVec 32 := Scalar.addi v2838 c16_i32_2170
  v2839
def k0_mult193 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2174 : BitVec 32 := 0#32
  let v2850 : BitVec 32 := Scalar.addi v2192 c0_i32_2174
  let c8_i32_2175 : BitVec 32 := 8#32
  let v2851 : BitVec 32 := Scalar.addi v2850 c8_i32_2175
  v2851
def k0_mult194 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2178 : BitVec 32 := 8#32
  let v2860 : BitVec 32 := Scalar.addi v2192 c8_i32_2178
  let c8_i32_2179 : BitVec 32 := 8#32
  let v2861 : BitVec 32 := Scalar.addi v2860 c8_i32_2179
  v2861
def k0_mult195 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2182 : BitVec 32 := 16#32
  let v2870 : BitVec 32 := Scalar.addi v2192 c16_i32_2182
  let c8_i32_2183 : BitVec 32 := 8#32
  let v2871 : BitVec 32 := Scalar.addi v2870 c8_i32_2183
  v2871
def k0_mult196 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2186 : BitVec 32 := 24#32
  let v2880 : BitVec 32 := Scalar.addi v2192 c24_i32_2186
  let c8_i32_2187 : BitVec 32 := 8#32
  let v2881 : BitVec 32 := Scalar.addi v2880 c8_i32_2187
  v2881
def k0_mult197 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2192 : BitVec 32 := 0#32
  let v2893 : BitVec 32 := Scalar.addi v2192 c0_i32_2192
  let c8_i32_2193 : BitVec 32 := 8#32
  let v2894 : BitVec 32 := Scalar.addi v2893 c8_i32_2193
  v2894
def k0_mult198 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2196 : BitVec 32 := 8#32
  let v2903 : BitVec 32 := Scalar.addi v2192 c8_i32_2196
  let c8_i32_2197 : BitVec 32 := 8#32
  let v2904 : BitVec 32 := Scalar.addi v2903 c8_i32_2197
  v2904
def k0_mult199 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2200 : BitVec 32 := 16#32
  let v2913 : BitVec 32 := Scalar.addi v2192 c16_i32_2200
  let c8_i32_2201 : BitVec 32 := 8#32
  let v2914 : BitVec 32 := Scalar.addi v2913 c8_i32_2201
  v2914
def k0_mult200 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2204 : BitVec 32 := 24#32
  let v2923 : BitVec 32 := Scalar.addi v2192 c24_i32_2204
  let c8_i32_2205 : BitVec 32 := 8#32
  let v2924 : BitVec 32 := Scalar.addi v2923 c8_i32_2205
  v2924
def k0_mult201 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2210 : BitVec 32 := 0#32
  let v2936 : BitVec 32 := Scalar.addi v2192 c0_i32_2210
  let c8_i32_2211 : BitVec 32 := 8#32
  let v2937 : BitVec 32 := Scalar.addi v2936 c8_i32_2211
  v2937
def k0_mult202 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2214 : BitVec 32 := 8#32
  let v2946 : BitVec 32 := Scalar.addi v2192 c8_i32_2214
  let c8_i32_2215 : BitVec 32 := 8#32
  let v2947 : BitVec 32 := Scalar.addi v2946 c8_i32_2215
  v2947
def k0_mult203 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2218 : BitVec 32 := 16#32
  let v2956 : BitVec 32 := Scalar.addi v2192 c16_i32_2218
  let c8_i32_2219 : BitVec 32 := 8#32
  let v2957 : BitVec 32 := Scalar.addi v2956 c8_i32_2219
  v2957
def k0_mult204 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2222 : BitVec 32 := 24#32
  let v2966 : BitVec 32 := Scalar.addi v2192 c24_i32_2222
  let c8_i32_2223 : BitVec 32 := 8#32
  let v2967 : BitVec 32 := Scalar.addi v2966 c8_i32_2223
  v2967
def k0_mult205 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2228 : BitVec 32 := 0#32
  let v2979 : BitVec 32 := Scalar.addi v2192 c0_i32_2228
  let c8_i32_2229 : BitVec 32 := 8#32
  let v2980 : BitVec 32 := Scalar.addi v2979 c8_i32_2229
  v2980
def k0_mult206 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2232 : BitVec 32 := 8#32
  let v2989 : BitVec 32 := Scalar.addi v2192 c8_i32_2232
  let c8_i32_2233 : BitVec 32 := 8#32
  let v2990 : BitVec 32 := Scalar.addi v2989 c8_i32_2233
  v2990
def k0_mult207 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2236 : BitVec 32 := 16#32
  let v2999 : BitVec 32 := Scalar.addi v2192 c16_i32_2236
  let c8_i32_2237 : BitVec 32 := 8#32
  let v3000 : BitVec 32 := Scalar.addi v2999 c8_i32_2237
  v3000
def k0_mult208 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2240 : BitVec 32 := 24#32
  let v3009 : BitVec 32 := Scalar.addi v2192 c24_i32_2240
  let c8_i32_2241 : BitVec 32 := 8#32
  let v3010 : BitVec 32 := Scalar.addi v3009 c8_i32_2241
  v3010
def k0_mult209 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2246 : BitVec 32 := 0#32
  let v3022 : BitVec 32 := Scalar.addi v2192 c0_i32_2246
  let c8_i32_2247 : BitVec 32 := 8#32
  let v3023 : BitVec 32 := Scalar.addi v3022 c8_i32_2247
  v3023
def k0_mult210 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2250 : BitVec 32 := 8#32
  let v3032 : BitVec 32 := Scalar.addi v2192 c8_i32_2250
  let c8_i32_2251 : BitVec 32 := 8#32
  let v3033 : BitVec 32 := Scalar.addi v3032 c8_i32_2251
  v3033
def k0_mult211 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2254 : BitVec 32 := 16#32
  let v3042 : BitVec 32 := Scalar.addi v2192 c16_i32_2254
  let c8_i32_2255 : BitVec 32 := 8#32
  let v3043 : BitVec 32 := Scalar.addi v3042 c8_i32_2255
  v3043
def k0_mult212 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2258 : BitVec 32 := 24#32
  let v3052 : BitVec 32 := Scalar.addi v2192 c24_i32_2258
  let c8_i32_2259 : BitVec 32 := 8#32
  let v3053 : BitVec 32 := Scalar.addi v3052 c8_i32_2259
  v3053
def k0_mult213 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2264 : BitVec 32 := 0#32
  let v3065 : BitVec 32 := Scalar.addi v2192 c0_i32_2264
  let c8_i32_2265 : BitVec 32 := 8#32
  let v3066 : BitVec 32 := Scalar.addi v3065 c8_i32_2265
  v3066
def k0_mult214 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2268 : BitVec 32 := 8#32
  let v3075 : BitVec 32 := Scalar.addi v2192 c8_i32_2268
  let c8_i32_2269 : BitVec 32 := 8#32
  let v3076 : BitVec 32 := Scalar.addi v3075 c8_i32_2269
  v3076
def k0_mult215 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2272 : BitVec 32 := 16#32
  let v3085 : BitVec 32 := Scalar.addi v2192 c16_i32_2272
  let c8_i32_2273 : BitVec 32 := 8#32
  let v3086 : BitVec 32 := Scalar.addi v3085 c8_i32_2273
  v3086
def k0_mult216 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2276 : BitVec 32 := 24#32
  let v3095 : BitVec 32 := Scalar.addi v2192 c24_i32_2276
  let c8_i32_2277 : BitVec 32 := 8#32
  let v3096 : BitVec 32 := Scalar.addi v3095 c8_i32_2277
  v3096
def k0_mult217 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2282 : BitVec 32 := 0#32
  let v3108 : BitVec 32 := Scalar.addi v2192 c0_i32_2282
  let c8_i32_2283 : BitVec 32 := 8#32
  let v3109 : BitVec 32 := Scalar.addi v3108 c8_i32_2283
  v3109
def k0_mult218 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2286 : BitVec 32 := 8#32
  let v3118 : BitVec 32 := Scalar.addi v2192 c8_i32_2286
  let c8_i32_2287 : BitVec 32 := 8#32
  let v3119 : BitVec 32 := Scalar.addi v3118 c8_i32_2287
  v3119
def k0_mult219 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2290 : BitVec 32 := 16#32
  let v3128 : BitVec 32 := Scalar.addi v2192 c16_i32_2290
  let c8_i32_2291 : BitVec 32 := 8#32
  let v3129 : BitVec 32 := Scalar.addi v3128 c8_i32_2291
  v3129
def k0_mult220 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2294 : BitVec 32 := 24#32
  let v3138 : BitVec 32 := Scalar.addi v2192 c24_i32_2294
  let c8_i32_2295 : BitVec 32 := 8#32
  let v3139 : BitVec 32 := Scalar.addi v3138 c8_i32_2295
  v3139
def k0_mult221 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2300 : BitVec 32 := 0#32
  let v3151 : BitVec 32 := Scalar.addi v2192 c0_i32_2300
  let c8_i32_2301 : BitVec 32 := 8#32
  let v3152 : BitVec 32 := Scalar.addi v3151 c8_i32_2301
  v3152
def k0_mult222 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2303 : BitVec 32 := 8#32
  let v3160 : BitVec 32 := Scalar.addi v2192 c8_i32_2303
  let c8_i32_2304 : BitVec 32 := 8#32
  let v3161 : BitVec 32 := Scalar.addi v3160 c8_i32_2304
  v3161
def k0_mult223 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2306 : BitVec 32 := 16#32
  let v3169 : BitVec 32 := Scalar.addi v2192 c16_i32_2306
  let c8_i32_2307 : BitVec 32 := 8#32
  let v3170 : BitVec 32 := Scalar.addi v3169 c8_i32_2307
  v3170
def k0_mult224 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2309 : BitVec 32 := 24#32
  let v3178 : BitVec 32 := Scalar.addi v2192 c24_i32_2309
  let c8_i32_2310 : BitVec 32 := 8#32
  let v3179 : BitVec 32 := Scalar.addi v3178 c8_i32_2310
  v3179
def k0_mult225 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2314 : BitVec 32 := 0#32
  let v3190 : BitVec 32 := Scalar.addi v2192 c0_i32_2314
  let c0_i32_2315 : BitVec 32 := 0#32
  let v3191 : BitVec 32 := Scalar.addi v3190 c0_i32_2315
  v3191
def k0_mult226 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2318 : BitVec 32 := 8#32
  let v3200 : BitVec 32 := Scalar.addi v2192 c8_i32_2318
  let c0_i32_2319 : BitVec 32 := 0#32
  let v3201 : BitVec 32 := Scalar.addi v3200 c0_i32_2319
  v3201
def k0_mult227 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2322 : BitVec 32 := 16#32
  let v3210 : BitVec 32 := Scalar.addi v2192 c16_i32_2322
  let c0_i32_2323 : BitVec 32 := 0#32
  let v3211 : BitVec 32 := Scalar.addi v3210 c0_i32_2323
  v3211
def k0_mult228 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2326 : BitVec 32 := 24#32
  let v3220 : BitVec 32 := Scalar.addi v2192 c24_i32_2326
  let c0_i32_2327 : BitVec 32 := 0#32
  let v3221 : BitVec 32 := Scalar.addi v3220 c0_i32_2327
  v3221
def k0_mult229 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2332 : BitVec 32 := 0#32
  let v3233 : BitVec 32 := Scalar.addi v2192 c0_i32_2332
  let c0_i32_2333 : BitVec 32 := 0#32
  let v3234 : BitVec 32 := Scalar.addi v3233 c0_i32_2333
  v3234
def k0_mult230 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2336 : BitVec 32 := 8#32
  let v3243 : BitVec 32 := Scalar.addi v2192 c8_i32_2336
  let c0_i32_2337 : BitVec 32 := 0#32
  let v3244 : BitVec 32 := Scalar.addi v3243 c0_i32_2337
  v3244
def k0_mult231 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2340 : BitVec 32 := 16#32
  let v3253 : BitVec 32 := Scalar.addi v2192 c16_i32_2340
  let c0_i32_2341 : BitVec 32 := 0#32
  let v3254 : BitVec 32 := Scalar.addi v3253 c0_i32_2341
  v3254
def k0_mult232 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2344 : BitVec 32 := 24#32
  let v3263 : BitVec 32 := Scalar.addi v2192 c24_i32_2344
  let c0_i32_2345 : BitVec 32 := 0#32
  let v3264 : BitVec 32 := Scalar.addi v3263 c0_i32_2345
  v3264
def k0_mult233 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2350 : BitVec 32 := 0#32
  let v3276 : BitVec 32 := Scalar.addi v2192 c0_i32_2350
  let c0_i32_2351 : BitVec 32 := 0#32
  let v3277 : BitVec 32 := Scalar.addi v3276 c0_i32_2351
  v3277
def k0_mult234 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2354 : BitVec 32 := 8#32
  let v3286 : BitVec 32 := Scalar.addi v2192 c8_i32_2354
  let c0_i32_2355 : BitVec 32 := 0#32
  let v3287 : BitVec 32 := Scalar.addi v3286 c0_i32_2355
  v3287
def k0_mult235 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2358 : BitVec 32 := 16#32
  let v3296 : BitVec 32 := Scalar.addi v2192 c16_i32_2358
  let c0_i32_2359 : BitVec 32 := 0#32
  let v3297 : BitVec 32 := Scalar.addi v3296 c0_i32_2359
  v3297
def k0_mult236 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2362 : BitVec 32 := 24#32
  let v3306 : BitVec 32 := Scalar.addi v2192 c24_i32_2362
  let c0_i32_2363 : BitVec 32 := 0#32
  let v3307 : BitVec 32 := Scalar.addi v3306 c0_i32_2363
  v3307
def k0_mult237 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2368 : BitVec 32 := 0#32
  let v3319 : BitVec 32 := Scalar.addi v2192 c0_i32_2368
  let c0_i32_2369 : BitVec 32 := 0#32
  let v3320 : BitVec 32 := Scalar.addi v3319 c0_i32_2369
  v3320
def k0_mult238 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2372 : BitVec 32 := 8#32
  let v3329 : BitVec 32 := Scalar.addi v2192 c8_i32_2372
  let c0_i32_2373 : BitVec 32 := 0#32
  let v3330 : BitVec 32 := Scalar.addi v3329 c0_i32_2373
  v3330
def k0_mult239 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2376 : BitVec 32 := 16#32
  let v3339 : BitVec 32 := Scalar.addi v2192 c16_i32_2376
  let c0_i32_2377 : BitVec 32 := 0#32
  let v3340 : BitVec 32 := Scalar.addi v3339 c0_i32_2377
  v3340
def k0_mult240 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2380 : BitVec 32 := 24#32
  let v3349 : BitVec 32 := Scalar.addi v2192 c24_i32_2380
  let c0_i32_2381 : BitVec 32 := 0#32
  let v3350 : BitVec 32 := Scalar.addi v3349 c0_i32_2381
  v3350
def k0_mult241 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2386 : BitVec 32 := 0#32
  let v3362 : BitVec 32 := Scalar.addi v2192 c0_i32_2386
  let c0_i32_2387 : BitVec 32 := 0#32
  let v3363 : BitVec 32 := Scalar.addi v3362 c0_i32_2387
  v3363
def k0_mult242 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2390 : BitVec 32 := 8#32
  let v3372 : BitVec 32 := Scalar.addi v2192 c8_i32_2390
  let c0_i32_2391 : BitVec 32 := 0#32
  let v3373 : BitVec 32 := Scalar.addi v3372 c0_i32_2391
  v3373
def k0_mult243 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2394 : BitVec 32 := 16#32
  let v3382 : BitVec 32 := Scalar.addi v2192 c16_i32_2394
  let c0_i32_2395 : BitVec 32 := 0#32
  let v3383 : BitVec 32 := Scalar.addi v3382 c0_i32_2395
  v3383
def k0_mult244 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2398 : BitVec 32 := 24#32
  let v3392 : BitVec 32 := Scalar.addi v2192 c24_i32_2398
  let c0_i32_2399 : BitVec 32 := 0#32
  let v3393 : BitVec 32 := Scalar.addi v3392 c0_i32_2399
  v3393
def k0_mult245 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2404 : BitVec 32 := 0#32
  let v3405 : BitVec 32 := Scalar.addi v2192 c0_i32_2404
  let c0_i32_2405 : BitVec 32 := 0#32
  let v3406 : BitVec 32 := Scalar.addi v3405 c0_i32_2405
  v3406
def k0_mult246 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2408 : BitVec 32 := 8#32
  let v3415 : BitVec 32 := Scalar.addi v2192 c8_i32_2408
  let c0_i32_2409 : BitVec 32 := 0#32
  let v3416 : BitVec 32 := Scalar.addi v3415 c0_i32_2409
  v3416
def k0_mult247 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2412 : BitVec 32 := 16#32
  let v3425 : BitVec 32 := Scalar.addi v2192 c16_i32_2412
  let c0_i32_2413 : BitVec 32 := 0#32
  let v3426 : BitVec 32 := Scalar.addi v3425 c0_i32_2413
  v3426
def k0_mult248 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2416 : BitVec 32 := 24#32
  let v3435 : BitVec 32 := Scalar.addi v2192 c24_i32_2416
  let c0_i32_2417 : BitVec 32 := 0#32
  let v3436 : BitVec 32 := Scalar.addi v3435 c0_i32_2417
  v3436
def k0_mult249 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2422 : BitVec 32 := 0#32
  let v3448 : BitVec 32 := Scalar.addi v2192 c0_i32_2422
  let c0_i32_2423 : BitVec 32 := 0#32
  let v3449 : BitVec 32 := Scalar.addi v3448 c0_i32_2423
  v3449
def k0_mult250 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2426 : BitVec 32 := 8#32
  let v3458 : BitVec 32 := Scalar.addi v2192 c8_i32_2426
  let c0_i32_2427 : BitVec 32 := 0#32
  let v3459 : BitVec 32 := Scalar.addi v3458 c0_i32_2427
  v3459
def k0_mult251 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2430 : BitVec 32 := 16#32
  let v3468 : BitVec 32 := Scalar.addi v2192 c16_i32_2430
  let c0_i32_2431 : BitVec 32 := 0#32
  let v3469 : BitVec 32 := Scalar.addi v3468 c0_i32_2431
  v3469
def k0_mult252 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2434 : BitVec 32 := 24#32
  let v3478 : BitVec 32 := Scalar.addi v2192 c24_i32_2434
  let c0_i32_2435 : BitVec 32 := 0#32
  let v3479 : BitVec 32 := Scalar.addi v3478 c0_i32_2435
  v3479
def k0_mult253 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c0_i32_2440 : BitVec 32 := 0#32
  let v3491 : BitVec 32 := Scalar.addi v2192 c0_i32_2440
  let c0_i32_2441 : BitVec 32 := 0#32
  let v3492 : BitVec 32 := Scalar.addi v3491 c0_i32_2441
  v3492
def k0_mult254 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c8_i32_2443 : BitVec 32 := 8#32
  let v3500 : BitVec 32 := Scalar.addi v2192 c8_i32_2443
  let c0_i32_2444 : BitVec 32 := 0#32
  let v3501 : BitVec 32 := Scalar.addi v3500 c0_i32_2444
  v3501
def k0_mult255 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c16_i32_2446 : BitVec 32 := 16#32
  let v3509 : BitVec 32 := Scalar.addi v2192 c16_i32_2446
  let c0_i32_2447 : BitVec 32 := 0#32
  let v3510 : BitVec 32 := Scalar.addi v3509 c0_i32_2447
  v3510
def k0_mult256 (k0_t2 : Fin k0_t2_loop.trips) : BitVec 32 :=
  let c0_i32_391 : BitVec 32 := 0#32
  let c1_i32_393 : BitVec 32 := 1#32
  let arg16 : BitVec 32 := Scf.iv c0_i32_391 c1_i32_393 k0_t2
  let c32_i32 : BitVec 32 := 32#32
  let v2192 : BitVec 32 := Scalar.muli arg16 c32_i32
  let c24_i32_2449 : BitVec 32 := 24#32
  let v3518 : BitVec 32 := Scalar.addi v2192 c24_i32_2449
  let c0_i32_2450 : BitVec 32 := 0#32
  let v3519 : BitVec 32 := Scalar.addi v3518 c0_i32_2450
  v3519
@[reducible] def k0_t3_loop : Scf.Loop 32 :=
  let c0_i32_616 : BitVec 32 := 0#32
  let c16_i32_617 : BitVec 32 := 16#32
  let v758 : BitVec 32 := Scalar.addi c0_i32_616 c16_i32_617
  let c1_i32_618 : BitVec 32 := 1#32
  ⟨c0_i32_616, v758, c1_i32_618⟩
def k0_mult257 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_1902 : BitVec 32 := 0#32
  let v2193 : BitVec 32 := Scalar.addi v2192 c0_i32_1902
  v2193
def k0_mult258 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_1903 : BitVec 32 := 8#32
  let v2195 : BitVec 32 := Scalar.addi v2192 c8_i32_1903
  v2195
def k0_mult259 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_1904 : BitVec 32 := 16#32
  let v2197 : BitVec 32 := Scalar.addi v2192 c16_i32_1904
  v2197
def k0_mult260 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32 : BitVec 32 := 24#32
  let v2199 : BitVec 32 := Scalar.addi v2192 c24_i32
  v2199
def k0_off19 (k0_t3 : Fin k0_t3_loop.trips) (c0_i32_1902 : BitVec 32) : Fin 2 → Nat :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let v2193 : BitVec 32 := Scalar.addi v2192 c0_i32_1902
  let v2194 : BitVec 32 := v2193
  let v2201 : Index := Scalar.indexCast v2194
  let c256_1905 : Index := 256#32
  ![v2201.toNat, 256]
def k0_mult261 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_1912 : BitVec 32 := 0#32
  let v2213 : BitVec 32 := Scalar.addi v2192 c0_i32_1912
  let c24_i32_1913 : BitVec 32 := 24#32
  let v2214 : BitVec 32 := Scalar.addi v2213 c24_i32_1913
  v2214
def k0_off20 (k0_t3 : Fin k0_t3_loop.trips) (c0_i32_1912 : BitVec 32) (c24_i32_1913 : BitVec 32) : Fin 3 → Nat :=
  let c5_1914 : Index := 5#32
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let v2213 : BitVec 32 := Scalar.addi v2192 c0_i32_1912
  let v2214 : BitVec 32 := Scalar.addi v2213 c24_i32_1913
  let v2215 : BitVec 32 := v2214
  let v2216 : Index := Scalar.indexCast v2215
  let c0_1915 : Index := 0#32
  ![5, v2216.toNat, 0]
def k0_mult262 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_1916 : BitVec 32 := 8#32
  let v2223 : BitVec 32 := Scalar.addi v2192 c8_i32_1916
  let c24_i32_1917 : BitVec 32 := 24#32
  let v2224 : BitVec 32 := Scalar.addi v2223 c24_i32_1917
  v2224
def k0_mult263 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_1920 : BitVec 32 := 16#32
  let v2233 : BitVec 32 := Scalar.addi v2192 c16_i32_1920
  let c24_i32_1921 : BitVec 32 := 24#32
  let v2234 : BitVec 32 := Scalar.addi v2233 c24_i32_1921
  v2234
def k0_mult264 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_1924 : BitVec 32 := 24#32
  let v2243 : BitVec 32 := Scalar.addi v2192 c24_i32_1924
  let c24_i32_1925 : BitVec 32 := 24#32
  let v2244 : BitVec 32 := Scalar.addi v2243 c24_i32_1925
  v2244
def k0_mult265 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_1930 : BitVec 32 := 0#32
  let v2256 : BitVec 32 := Scalar.addi v2192 c0_i32_1930
  let c24_i32_1931 : BitVec 32 := 24#32
  let v2257 : BitVec 32 := Scalar.addi v2256 c24_i32_1931
  v2257
def k0_off21 (k0_t3 : Fin k0_t3_loop.trips) (c0_i32_1930 : BitVec 32) (c24_i32_1931 : BitVec 32) : Fin 3 → Nat :=
  let c4_1932 : Index := 4#32
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let v2256 : BitVec 32 := Scalar.addi v2192 c0_i32_1930
  let v2257 : BitVec 32 := Scalar.addi v2256 c24_i32_1931
  let v2258 : BitVec 32 := v2257
  let v2259 : Index := Scalar.indexCast v2258
  let c0_1933 : Index := 0#32
  ![4, v2259.toNat, 0]
def k0_mult266 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_1934 : BitVec 32 := 8#32
  let v2266 : BitVec 32 := Scalar.addi v2192 c8_i32_1934
  let c24_i32_1935 : BitVec 32 := 24#32
  let v2267 : BitVec 32 := Scalar.addi v2266 c24_i32_1935
  v2267
def k0_mult267 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_1938 : BitVec 32 := 16#32
  let v2276 : BitVec 32 := Scalar.addi v2192 c16_i32_1938
  let c24_i32_1939 : BitVec 32 := 24#32
  let v2277 : BitVec 32 := Scalar.addi v2276 c24_i32_1939
  v2277
def k0_mult268 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_1942 : BitVec 32 := 24#32
  let v2286 : BitVec 32 := Scalar.addi v2192 c24_i32_1942
  let c24_i32_1943 : BitVec 32 := 24#32
  let v2287 : BitVec 32 := Scalar.addi v2286 c24_i32_1943
  v2287
def k0_mult269 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_1948 : BitVec 32 := 0#32
  let v2299 : BitVec 32 := Scalar.addi v2192 c0_i32_1948
  let c24_i32_1949 : BitVec 32 := 24#32
  let v2300 : BitVec 32 := Scalar.addi v2299 c24_i32_1949
  v2300
def k0_off22 (k0_t3 : Fin k0_t3_loop.trips) (c0_i32_1948 : BitVec 32) (c24_i32_1949 : BitVec 32) : Fin 3 → Nat :=
  let c3_1950 : Index := 3#32
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let v2299 : BitVec 32 := Scalar.addi v2192 c0_i32_1948
  let v2300 : BitVec 32 := Scalar.addi v2299 c24_i32_1949
  let v2301 : BitVec 32 := v2300
  let v2302 : Index := Scalar.indexCast v2301
  let c0_1951 : Index := 0#32
  ![3, v2302.toNat, 0]
def k0_mult270 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_1952 : BitVec 32 := 8#32
  let v2309 : BitVec 32 := Scalar.addi v2192 c8_i32_1952
  let c24_i32_1953 : BitVec 32 := 24#32
  let v2310 : BitVec 32 := Scalar.addi v2309 c24_i32_1953
  v2310
def k0_mult271 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_1956 : BitVec 32 := 16#32
  let v2319 : BitVec 32 := Scalar.addi v2192 c16_i32_1956
  let c24_i32_1957 : BitVec 32 := 24#32
  let v2320 : BitVec 32 := Scalar.addi v2319 c24_i32_1957
  v2320
def k0_mult272 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_1960 : BitVec 32 := 24#32
  let v2329 : BitVec 32 := Scalar.addi v2192 c24_i32_1960
  let c24_i32_1961 : BitVec 32 := 24#32
  let v2330 : BitVec 32 := Scalar.addi v2329 c24_i32_1961
  v2330
def k0_mult273 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_1966 : BitVec 32 := 0#32
  let v2342 : BitVec 32 := Scalar.addi v2192 c0_i32_1966
  let c24_i32_1967 : BitVec 32 := 24#32
  let v2343 : BitVec 32 := Scalar.addi v2342 c24_i32_1967
  v2343
def k0_off23 (k0_t3 : Fin k0_t3_loop.trips) (c0_i32_1966 : BitVec 32) (c24_i32_1967 : BitVec 32) : Fin 3 → Nat :=
  let c2_1968 : Index := 2#32
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let v2342 : BitVec 32 := Scalar.addi v2192 c0_i32_1966
  let v2343 : BitVec 32 := Scalar.addi v2342 c24_i32_1967
  let v2344 : BitVec 32 := v2343
  let v2345 : Index := Scalar.indexCast v2344
  let c0_1969 : Index := 0#32
  ![2, v2345.toNat, 0]
def k0_mult274 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_1970 : BitVec 32 := 8#32
  let v2352 : BitVec 32 := Scalar.addi v2192 c8_i32_1970
  let c24_i32_1971 : BitVec 32 := 24#32
  let v2353 : BitVec 32 := Scalar.addi v2352 c24_i32_1971
  v2353
def k0_mult275 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_1974 : BitVec 32 := 16#32
  let v2362 : BitVec 32 := Scalar.addi v2192 c16_i32_1974
  let c24_i32_1975 : BitVec 32 := 24#32
  let v2363 : BitVec 32 := Scalar.addi v2362 c24_i32_1975
  v2363
def k0_mult276 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_1978 : BitVec 32 := 24#32
  let v2372 : BitVec 32 := Scalar.addi v2192 c24_i32_1978
  let c24_i32_1979 : BitVec 32 := 24#32
  let v2373 : BitVec 32 := Scalar.addi v2372 c24_i32_1979
  v2373
def k0_mult277 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_1984 : BitVec 32 := 0#32
  let v2385 : BitVec 32 := Scalar.addi v2192 c0_i32_1984
  let c24_i32_1985 : BitVec 32 := 24#32
  let v2386 : BitVec 32 := Scalar.addi v2385 c24_i32_1985
  v2386
def k0_off24 (k0_t3 : Fin k0_t3_loop.trips) (c0_i32_1984 : BitVec 32) (c24_i32_1985 : BitVec 32) : Fin 3 → Nat :=
  let c1_1986 : Index := 1#32
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let v2385 : BitVec 32 := Scalar.addi v2192 c0_i32_1984
  let v2386 : BitVec 32 := Scalar.addi v2385 c24_i32_1985
  let v2387 : BitVec 32 := v2386
  let v2388 : Index := Scalar.indexCast v2387
  let c0_1987 : Index := 0#32
  ![1, v2388.toNat, 0]
def k0_mult278 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_1988 : BitVec 32 := 8#32
  let v2395 : BitVec 32 := Scalar.addi v2192 c8_i32_1988
  let c24_i32_1989 : BitVec 32 := 24#32
  let v2396 : BitVec 32 := Scalar.addi v2395 c24_i32_1989
  v2396
def k0_mult279 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_1992 : BitVec 32 := 16#32
  let v2405 : BitVec 32 := Scalar.addi v2192 c16_i32_1992
  let c24_i32_1993 : BitVec 32 := 24#32
  let v2406 : BitVec 32 := Scalar.addi v2405 c24_i32_1993
  v2406
def k0_mult280 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_1996 : BitVec 32 := 24#32
  let v2415 : BitVec 32 := Scalar.addi v2192 c24_i32_1996
  let c24_i32_1997 : BitVec 32 := 24#32
  let v2416 : BitVec 32 := Scalar.addi v2415 c24_i32_1997
  v2416
def k0_mult281 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2002 : BitVec 32 := 0#32
  let v2428 : BitVec 32 := Scalar.addi v2192 c0_i32_2002
  let c24_i32_2003 : BitVec 32 := 24#32
  let v2429 : BitVec 32 := Scalar.addi v2428 c24_i32_2003
  v2429
def k0_off25 (k0_t3 : Fin k0_t3_loop.trips) (c0_i32_2002 : BitVec 32) (c24_i32_2003 : BitVec 32) : Fin 3 → Nat :=
  let c0_2004 : Index := 0#32
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let v2428 : BitVec 32 := Scalar.addi v2192 c0_i32_2002
  let v2429 : BitVec 32 := Scalar.addi v2428 c24_i32_2003
  let v2430 : BitVec 32 := v2429
  let v2431 : Index := Scalar.indexCast v2430
  let c0_2005 : Index := 0#32
  ![0, v2431.toNat, 0]
def k0_mult282 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2006 : BitVec 32 := 8#32
  let v2438 : BitVec 32 := Scalar.addi v2192 c8_i32_2006
  let c24_i32_2007 : BitVec 32 := 24#32
  let v2439 : BitVec 32 := Scalar.addi v2438 c24_i32_2007
  v2439
def k0_mult283 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2010 : BitVec 32 := 16#32
  let v2448 : BitVec 32 := Scalar.addi v2192 c16_i32_2010
  let c24_i32_2011 : BitVec 32 := 24#32
  let v2449 : BitVec 32 := Scalar.addi v2448 c24_i32_2011
  v2449
def k0_mult284 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2014 : BitVec 32 := 24#32
  let v2458 : BitVec 32 := Scalar.addi v2192 c24_i32_2014
  let c24_i32_2015 : BitVec 32 := 24#32
  let v2459 : BitVec 32 := Scalar.addi v2458 c24_i32_2015
  v2459
def k0_mult285 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2020 : BitVec 32 := 0#32
  let v2471 : BitVec 32 := Scalar.addi v2192 c0_i32_2020
  let c24_i32_2021 : BitVec 32 := 24#32
  let v2472 : BitVec 32 := Scalar.addi v2471 c24_i32_2021
  v2472
def k0_off26 (k0_t3 : Fin k0_t3_loop.trips) (c0_i32_2020 : BitVec 32) (c24_i32_2021 : BitVec 32) : Fin 2 → Nat :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let v2471 : BitVec 32 := Scalar.addi v2192 c0_i32_2020
  let v2472 : BitVec 32 := Scalar.addi v2471 c24_i32_2021
  let v2473 : BitVec 32 := v2472
  let v2474 : Index := Scalar.indexCast v2473
  let c256_2022 : Index := 256#32
  ![v2474.toNat, 256]
def k0_mult286 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2023 : BitVec 32 := 8#32
  let v2480 : BitVec 32 := Scalar.addi v2192 c8_i32_2023
  let c24_i32_2024 : BitVec 32 := 24#32
  let v2481 : BitVec 32 := Scalar.addi v2480 c24_i32_2024
  v2481
def k0_mult287 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2026 : BitVec 32 := 16#32
  let v2489 : BitVec 32 := Scalar.addi v2192 c16_i32_2026
  let c24_i32_2027 : BitVec 32 := 24#32
  let v2490 : BitVec 32 := Scalar.addi v2489 c24_i32_2027
  v2490
def k0_mult288 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2029 : BitVec 32 := 24#32
  let v2498 : BitVec 32 := Scalar.addi v2192 c24_i32_2029
  let c24_i32_2030 : BitVec 32 := 24#32
  let v2499 : BitVec 32 := Scalar.addi v2498 c24_i32_2030
  v2499
def k0_mult289 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2034 : BitVec 32 := 0#32
  let v2510 : BitVec 32 := Scalar.addi v2192 c0_i32_2034
  let c16_i32_2035 : BitVec 32 := 16#32
  let v2511 : BitVec 32 := Scalar.addi v2510 c16_i32_2035
  v2511
def k0_off27 (k0_t3 : Fin k0_t3_loop.trips) (c0_i32_2034 : BitVec 32) (c16_i32_2035 : BitVec 32) : Fin 3 → Nat :=
  let c6_2036 : Index := 6#32
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let v2510 : BitVec 32 := Scalar.addi v2192 c0_i32_2034
  let v2511 : BitVec 32 := Scalar.addi v2510 c16_i32_2035
  let v2512 : BitVec 32 := v2511
  let v2513 : Index := Scalar.indexCast v2512
  let c0_2037 : Index := 0#32
  ![6, v2513.toNat, 0]
def k0_mult290 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2038 : BitVec 32 := 8#32
  let v2520 : BitVec 32 := Scalar.addi v2192 c8_i32_2038
  let c16_i32_2039 : BitVec 32 := 16#32
  let v2521 : BitVec 32 := Scalar.addi v2520 c16_i32_2039
  v2521
def k0_mult291 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2042 : BitVec 32 := 16#32
  let v2530 : BitVec 32 := Scalar.addi v2192 c16_i32_2042
  let c16_i32_2043 : BitVec 32 := 16#32
  let v2531 : BitVec 32 := Scalar.addi v2530 c16_i32_2043
  v2531
def k0_mult292 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2046 : BitVec 32 := 24#32
  let v2540 : BitVec 32 := Scalar.addi v2192 c24_i32_2046
  let c16_i32_2047 : BitVec 32 := 16#32
  let v2541 : BitVec 32 := Scalar.addi v2540 c16_i32_2047
  v2541
def k0_mult293 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2052 : BitVec 32 := 0#32
  let v2553 : BitVec 32 := Scalar.addi v2192 c0_i32_2052
  let c16_i32_2053 : BitVec 32 := 16#32
  let v2554 : BitVec 32 := Scalar.addi v2553 c16_i32_2053
  v2554
def k0_mult294 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2056 : BitVec 32 := 8#32
  let v2563 : BitVec 32 := Scalar.addi v2192 c8_i32_2056
  let c16_i32_2057 : BitVec 32 := 16#32
  let v2564 : BitVec 32 := Scalar.addi v2563 c16_i32_2057
  v2564
def k0_mult295 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2060 : BitVec 32 := 16#32
  let v2573 : BitVec 32 := Scalar.addi v2192 c16_i32_2060
  let c16_i32_2061 : BitVec 32 := 16#32
  let v2574 : BitVec 32 := Scalar.addi v2573 c16_i32_2061
  v2574
def k0_mult296 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2064 : BitVec 32 := 24#32
  let v2583 : BitVec 32 := Scalar.addi v2192 c24_i32_2064
  let c16_i32_2065 : BitVec 32 := 16#32
  let v2584 : BitVec 32 := Scalar.addi v2583 c16_i32_2065
  v2584
def k0_mult297 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2070 : BitVec 32 := 0#32
  let v2596 : BitVec 32 := Scalar.addi v2192 c0_i32_2070
  let c16_i32_2071 : BitVec 32 := 16#32
  let v2597 : BitVec 32 := Scalar.addi v2596 c16_i32_2071
  v2597
def k0_mult298 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2074 : BitVec 32 := 8#32
  let v2606 : BitVec 32 := Scalar.addi v2192 c8_i32_2074
  let c16_i32_2075 : BitVec 32 := 16#32
  let v2607 : BitVec 32 := Scalar.addi v2606 c16_i32_2075
  v2607
def k0_mult299 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2078 : BitVec 32 := 16#32
  let v2616 : BitVec 32 := Scalar.addi v2192 c16_i32_2078
  let c16_i32_2079 : BitVec 32 := 16#32
  let v2617 : BitVec 32 := Scalar.addi v2616 c16_i32_2079
  v2617
def k0_mult300 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2082 : BitVec 32 := 24#32
  let v2626 : BitVec 32 := Scalar.addi v2192 c24_i32_2082
  let c16_i32_2083 : BitVec 32 := 16#32
  let v2627 : BitVec 32 := Scalar.addi v2626 c16_i32_2083
  v2627
def k0_mult301 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2088 : BitVec 32 := 0#32
  let v2639 : BitVec 32 := Scalar.addi v2192 c0_i32_2088
  let c16_i32_2089 : BitVec 32 := 16#32
  let v2640 : BitVec 32 := Scalar.addi v2639 c16_i32_2089
  v2640
def k0_mult302 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2092 : BitVec 32 := 8#32
  let v2649 : BitVec 32 := Scalar.addi v2192 c8_i32_2092
  let c16_i32_2093 : BitVec 32 := 16#32
  let v2650 : BitVec 32 := Scalar.addi v2649 c16_i32_2093
  v2650
def k0_mult303 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2096 : BitVec 32 := 16#32
  let v2659 : BitVec 32 := Scalar.addi v2192 c16_i32_2096
  let c16_i32_2097 : BitVec 32 := 16#32
  let v2660 : BitVec 32 := Scalar.addi v2659 c16_i32_2097
  v2660
def k0_mult304 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2100 : BitVec 32 := 24#32
  let v2669 : BitVec 32 := Scalar.addi v2192 c24_i32_2100
  let c16_i32_2101 : BitVec 32 := 16#32
  let v2670 : BitVec 32 := Scalar.addi v2669 c16_i32_2101
  v2670
def k0_mult305 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2106 : BitVec 32 := 0#32
  let v2682 : BitVec 32 := Scalar.addi v2192 c0_i32_2106
  let c16_i32_2107 : BitVec 32 := 16#32
  let v2683 : BitVec 32 := Scalar.addi v2682 c16_i32_2107
  v2683
def k0_mult306 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2110 : BitVec 32 := 8#32
  let v2692 : BitVec 32 := Scalar.addi v2192 c8_i32_2110
  let c16_i32_2111 : BitVec 32 := 16#32
  let v2693 : BitVec 32 := Scalar.addi v2692 c16_i32_2111
  v2693
def k0_mult307 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2114 : BitVec 32 := 16#32
  let v2702 : BitVec 32 := Scalar.addi v2192 c16_i32_2114
  let c16_i32_2115 : BitVec 32 := 16#32
  let v2703 : BitVec 32 := Scalar.addi v2702 c16_i32_2115
  v2703
def k0_mult308 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2118 : BitVec 32 := 24#32
  let v2712 : BitVec 32 := Scalar.addi v2192 c24_i32_2118
  let c16_i32_2119 : BitVec 32 := 16#32
  let v2713 : BitVec 32 := Scalar.addi v2712 c16_i32_2119
  v2713
def k0_mult309 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2124 : BitVec 32 := 0#32
  let v2725 : BitVec 32 := Scalar.addi v2192 c0_i32_2124
  let c16_i32_2125 : BitVec 32 := 16#32
  let v2726 : BitVec 32 := Scalar.addi v2725 c16_i32_2125
  v2726
def k0_mult310 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2128 : BitVec 32 := 8#32
  let v2735 : BitVec 32 := Scalar.addi v2192 c8_i32_2128
  let c16_i32_2129 : BitVec 32 := 16#32
  let v2736 : BitVec 32 := Scalar.addi v2735 c16_i32_2129
  v2736
def k0_mult311 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2132 : BitVec 32 := 16#32
  let v2745 : BitVec 32 := Scalar.addi v2192 c16_i32_2132
  let c16_i32_2133 : BitVec 32 := 16#32
  let v2746 : BitVec 32 := Scalar.addi v2745 c16_i32_2133
  v2746
def k0_mult312 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2136 : BitVec 32 := 24#32
  let v2755 : BitVec 32 := Scalar.addi v2192 c24_i32_2136
  let c16_i32_2137 : BitVec 32 := 16#32
  let v2756 : BitVec 32 := Scalar.addi v2755 c16_i32_2137
  v2756
def k0_mult313 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2142 : BitVec 32 := 0#32
  let v2768 : BitVec 32 := Scalar.addi v2192 c0_i32_2142
  let c16_i32_2143 : BitVec 32 := 16#32
  let v2769 : BitVec 32 := Scalar.addi v2768 c16_i32_2143
  v2769
def k0_mult314 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2146 : BitVec 32 := 8#32
  let v2778 : BitVec 32 := Scalar.addi v2192 c8_i32_2146
  let c16_i32_2147 : BitVec 32 := 16#32
  let v2779 : BitVec 32 := Scalar.addi v2778 c16_i32_2147
  v2779
def k0_mult315 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2150 : BitVec 32 := 16#32
  let v2788 : BitVec 32 := Scalar.addi v2192 c16_i32_2150
  let c16_i32_2151 : BitVec 32 := 16#32
  let v2789 : BitVec 32 := Scalar.addi v2788 c16_i32_2151
  v2789
def k0_mult316 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2154 : BitVec 32 := 24#32
  let v2798 : BitVec 32 := Scalar.addi v2192 c24_i32_2154
  let c16_i32_2155 : BitVec 32 := 16#32
  let v2799 : BitVec 32 := Scalar.addi v2798 c16_i32_2155
  v2799
def k0_mult317 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2160 : BitVec 32 := 0#32
  let v2811 : BitVec 32 := Scalar.addi v2192 c0_i32_2160
  let c16_i32_2161 : BitVec 32 := 16#32
  let v2812 : BitVec 32 := Scalar.addi v2811 c16_i32_2161
  v2812
def k0_mult318 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2163 : BitVec 32 := 8#32
  let v2820 : BitVec 32 := Scalar.addi v2192 c8_i32_2163
  let c16_i32_2164 : BitVec 32 := 16#32
  let v2821 : BitVec 32 := Scalar.addi v2820 c16_i32_2164
  v2821
def k0_mult319 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2166 : BitVec 32 := 16#32
  let v2829 : BitVec 32 := Scalar.addi v2192 c16_i32_2166
  let c16_i32_2167 : BitVec 32 := 16#32
  let v2830 : BitVec 32 := Scalar.addi v2829 c16_i32_2167
  v2830
def k0_mult320 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2169 : BitVec 32 := 24#32
  let v2838 : BitVec 32 := Scalar.addi v2192 c24_i32_2169
  let c16_i32_2170 : BitVec 32 := 16#32
  let v2839 : BitVec 32 := Scalar.addi v2838 c16_i32_2170
  v2839
def k0_mult321 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2174 : BitVec 32 := 0#32
  let v2850 : BitVec 32 := Scalar.addi v2192 c0_i32_2174
  let c8_i32_2175 : BitVec 32 := 8#32
  let v2851 : BitVec 32 := Scalar.addi v2850 c8_i32_2175
  v2851
def k0_mult322 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2178 : BitVec 32 := 8#32
  let v2860 : BitVec 32 := Scalar.addi v2192 c8_i32_2178
  let c8_i32_2179 : BitVec 32 := 8#32
  let v2861 : BitVec 32 := Scalar.addi v2860 c8_i32_2179
  v2861
def k0_mult323 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2182 : BitVec 32 := 16#32
  let v2870 : BitVec 32 := Scalar.addi v2192 c16_i32_2182
  let c8_i32_2183 : BitVec 32 := 8#32
  let v2871 : BitVec 32 := Scalar.addi v2870 c8_i32_2183
  v2871
def k0_mult324 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2186 : BitVec 32 := 24#32
  let v2880 : BitVec 32 := Scalar.addi v2192 c24_i32_2186
  let c8_i32_2187 : BitVec 32 := 8#32
  let v2881 : BitVec 32 := Scalar.addi v2880 c8_i32_2187
  v2881
def k0_mult325 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2192 : BitVec 32 := 0#32
  let v2893 : BitVec 32 := Scalar.addi v2192 c0_i32_2192
  let c8_i32_2193 : BitVec 32 := 8#32
  let v2894 : BitVec 32 := Scalar.addi v2893 c8_i32_2193
  v2894
def k0_mult326 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2196 : BitVec 32 := 8#32
  let v2903 : BitVec 32 := Scalar.addi v2192 c8_i32_2196
  let c8_i32_2197 : BitVec 32 := 8#32
  let v2904 : BitVec 32 := Scalar.addi v2903 c8_i32_2197
  v2904
def k0_mult327 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2200 : BitVec 32 := 16#32
  let v2913 : BitVec 32 := Scalar.addi v2192 c16_i32_2200
  let c8_i32_2201 : BitVec 32 := 8#32
  let v2914 : BitVec 32 := Scalar.addi v2913 c8_i32_2201
  v2914
def k0_mult328 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2204 : BitVec 32 := 24#32
  let v2923 : BitVec 32 := Scalar.addi v2192 c24_i32_2204
  let c8_i32_2205 : BitVec 32 := 8#32
  let v2924 : BitVec 32 := Scalar.addi v2923 c8_i32_2205
  v2924
def k0_mult329 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2210 : BitVec 32 := 0#32
  let v2936 : BitVec 32 := Scalar.addi v2192 c0_i32_2210
  let c8_i32_2211 : BitVec 32 := 8#32
  let v2937 : BitVec 32 := Scalar.addi v2936 c8_i32_2211
  v2937
def k0_mult330 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2214 : BitVec 32 := 8#32
  let v2946 : BitVec 32 := Scalar.addi v2192 c8_i32_2214
  let c8_i32_2215 : BitVec 32 := 8#32
  let v2947 : BitVec 32 := Scalar.addi v2946 c8_i32_2215
  v2947
def k0_mult331 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2218 : BitVec 32 := 16#32
  let v2956 : BitVec 32 := Scalar.addi v2192 c16_i32_2218
  let c8_i32_2219 : BitVec 32 := 8#32
  let v2957 : BitVec 32 := Scalar.addi v2956 c8_i32_2219
  v2957
def k0_mult332 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2222 : BitVec 32 := 24#32
  let v2966 : BitVec 32 := Scalar.addi v2192 c24_i32_2222
  let c8_i32_2223 : BitVec 32 := 8#32
  let v2967 : BitVec 32 := Scalar.addi v2966 c8_i32_2223
  v2967
def k0_mult333 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2228 : BitVec 32 := 0#32
  let v2979 : BitVec 32 := Scalar.addi v2192 c0_i32_2228
  let c8_i32_2229 : BitVec 32 := 8#32
  let v2980 : BitVec 32 := Scalar.addi v2979 c8_i32_2229
  v2980
def k0_mult334 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2232 : BitVec 32 := 8#32
  let v2989 : BitVec 32 := Scalar.addi v2192 c8_i32_2232
  let c8_i32_2233 : BitVec 32 := 8#32
  let v2990 : BitVec 32 := Scalar.addi v2989 c8_i32_2233
  v2990
def k0_mult335 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2236 : BitVec 32 := 16#32
  let v2999 : BitVec 32 := Scalar.addi v2192 c16_i32_2236
  let c8_i32_2237 : BitVec 32 := 8#32
  let v3000 : BitVec 32 := Scalar.addi v2999 c8_i32_2237
  v3000
def k0_mult336 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2240 : BitVec 32 := 24#32
  let v3009 : BitVec 32 := Scalar.addi v2192 c24_i32_2240
  let c8_i32_2241 : BitVec 32 := 8#32
  let v3010 : BitVec 32 := Scalar.addi v3009 c8_i32_2241
  v3010
def k0_mult337 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2246 : BitVec 32 := 0#32
  let v3022 : BitVec 32 := Scalar.addi v2192 c0_i32_2246
  let c8_i32_2247 : BitVec 32 := 8#32
  let v3023 : BitVec 32 := Scalar.addi v3022 c8_i32_2247
  v3023
def k0_mult338 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2250 : BitVec 32 := 8#32
  let v3032 : BitVec 32 := Scalar.addi v2192 c8_i32_2250
  let c8_i32_2251 : BitVec 32 := 8#32
  let v3033 : BitVec 32 := Scalar.addi v3032 c8_i32_2251
  v3033
def k0_mult339 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2254 : BitVec 32 := 16#32
  let v3042 : BitVec 32 := Scalar.addi v2192 c16_i32_2254
  let c8_i32_2255 : BitVec 32 := 8#32
  let v3043 : BitVec 32 := Scalar.addi v3042 c8_i32_2255
  v3043
def k0_mult340 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2258 : BitVec 32 := 24#32
  let v3052 : BitVec 32 := Scalar.addi v2192 c24_i32_2258
  let c8_i32_2259 : BitVec 32 := 8#32
  let v3053 : BitVec 32 := Scalar.addi v3052 c8_i32_2259
  v3053
def k0_mult341 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2264 : BitVec 32 := 0#32
  let v3065 : BitVec 32 := Scalar.addi v2192 c0_i32_2264
  let c8_i32_2265 : BitVec 32 := 8#32
  let v3066 : BitVec 32 := Scalar.addi v3065 c8_i32_2265
  v3066
def k0_mult342 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2268 : BitVec 32 := 8#32
  let v3075 : BitVec 32 := Scalar.addi v2192 c8_i32_2268
  let c8_i32_2269 : BitVec 32 := 8#32
  let v3076 : BitVec 32 := Scalar.addi v3075 c8_i32_2269
  v3076
def k0_mult343 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2272 : BitVec 32 := 16#32
  let v3085 : BitVec 32 := Scalar.addi v2192 c16_i32_2272
  let c8_i32_2273 : BitVec 32 := 8#32
  let v3086 : BitVec 32 := Scalar.addi v3085 c8_i32_2273
  v3086
def k0_mult344 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2276 : BitVec 32 := 24#32
  let v3095 : BitVec 32 := Scalar.addi v2192 c24_i32_2276
  let c8_i32_2277 : BitVec 32 := 8#32
  let v3096 : BitVec 32 := Scalar.addi v3095 c8_i32_2277
  v3096
def k0_mult345 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2282 : BitVec 32 := 0#32
  let v3108 : BitVec 32 := Scalar.addi v2192 c0_i32_2282
  let c8_i32_2283 : BitVec 32 := 8#32
  let v3109 : BitVec 32 := Scalar.addi v3108 c8_i32_2283
  v3109
def k0_mult346 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2286 : BitVec 32 := 8#32
  let v3118 : BitVec 32 := Scalar.addi v2192 c8_i32_2286
  let c8_i32_2287 : BitVec 32 := 8#32
  let v3119 : BitVec 32 := Scalar.addi v3118 c8_i32_2287
  v3119
def k0_mult347 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2290 : BitVec 32 := 16#32
  let v3128 : BitVec 32 := Scalar.addi v2192 c16_i32_2290
  let c8_i32_2291 : BitVec 32 := 8#32
  let v3129 : BitVec 32 := Scalar.addi v3128 c8_i32_2291
  v3129
def k0_mult348 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2294 : BitVec 32 := 24#32
  let v3138 : BitVec 32 := Scalar.addi v2192 c24_i32_2294
  let c8_i32_2295 : BitVec 32 := 8#32
  let v3139 : BitVec 32 := Scalar.addi v3138 c8_i32_2295
  v3139
def k0_mult349 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2300 : BitVec 32 := 0#32
  let v3151 : BitVec 32 := Scalar.addi v2192 c0_i32_2300
  let c8_i32_2301 : BitVec 32 := 8#32
  let v3152 : BitVec 32 := Scalar.addi v3151 c8_i32_2301
  v3152
def k0_mult350 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2303 : BitVec 32 := 8#32
  let v3160 : BitVec 32 := Scalar.addi v2192 c8_i32_2303
  let c8_i32_2304 : BitVec 32 := 8#32
  let v3161 : BitVec 32 := Scalar.addi v3160 c8_i32_2304
  v3161
def k0_mult351 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2306 : BitVec 32 := 16#32
  let v3169 : BitVec 32 := Scalar.addi v2192 c16_i32_2306
  let c8_i32_2307 : BitVec 32 := 8#32
  let v3170 : BitVec 32 := Scalar.addi v3169 c8_i32_2307
  v3170
def k0_mult352 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2309 : BitVec 32 := 24#32
  let v3178 : BitVec 32 := Scalar.addi v2192 c24_i32_2309
  let c8_i32_2310 : BitVec 32 := 8#32
  let v3179 : BitVec 32 := Scalar.addi v3178 c8_i32_2310
  v3179
def k0_mult353 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2314 : BitVec 32 := 0#32
  let v3190 : BitVec 32 := Scalar.addi v2192 c0_i32_2314
  let c0_i32_2315 : BitVec 32 := 0#32
  let v3191 : BitVec 32 := Scalar.addi v3190 c0_i32_2315
  v3191
def k0_mult354 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2318 : BitVec 32 := 8#32
  let v3200 : BitVec 32 := Scalar.addi v2192 c8_i32_2318
  let c0_i32_2319 : BitVec 32 := 0#32
  let v3201 : BitVec 32 := Scalar.addi v3200 c0_i32_2319
  v3201
def k0_mult355 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2322 : BitVec 32 := 16#32
  let v3210 : BitVec 32 := Scalar.addi v2192 c16_i32_2322
  let c0_i32_2323 : BitVec 32 := 0#32
  let v3211 : BitVec 32 := Scalar.addi v3210 c0_i32_2323
  v3211
def k0_mult356 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2326 : BitVec 32 := 24#32
  let v3220 : BitVec 32 := Scalar.addi v2192 c24_i32_2326
  let c0_i32_2327 : BitVec 32 := 0#32
  let v3221 : BitVec 32 := Scalar.addi v3220 c0_i32_2327
  v3221
def k0_mult357 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2332 : BitVec 32 := 0#32
  let v3233 : BitVec 32 := Scalar.addi v2192 c0_i32_2332
  let c0_i32_2333 : BitVec 32 := 0#32
  let v3234 : BitVec 32 := Scalar.addi v3233 c0_i32_2333
  v3234
def k0_mult358 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2336 : BitVec 32 := 8#32
  let v3243 : BitVec 32 := Scalar.addi v2192 c8_i32_2336
  let c0_i32_2337 : BitVec 32 := 0#32
  let v3244 : BitVec 32 := Scalar.addi v3243 c0_i32_2337
  v3244
def k0_mult359 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2340 : BitVec 32 := 16#32
  let v3253 : BitVec 32 := Scalar.addi v2192 c16_i32_2340
  let c0_i32_2341 : BitVec 32 := 0#32
  let v3254 : BitVec 32 := Scalar.addi v3253 c0_i32_2341
  v3254
def k0_mult360 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2344 : BitVec 32 := 24#32
  let v3263 : BitVec 32 := Scalar.addi v2192 c24_i32_2344
  let c0_i32_2345 : BitVec 32 := 0#32
  let v3264 : BitVec 32 := Scalar.addi v3263 c0_i32_2345
  v3264
def k0_mult361 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2350 : BitVec 32 := 0#32
  let v3276 : BitVec 32 := Scalar.addi v2192 c0_i32_2350
  let c0_i32_2351 : BitVec 32 := 0#32
  let v3277 : BitVec 32 := Scalar.addi v3276 c0_i32_2351
  v3277
def k0_mult362 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2354 : BitVec 32 := 8#32
  let v3286 : BitVec 32 := Scalar.addi v2192 c8_i32_2354
  let c0_i32_2355 : BitVec 32 := 0#32
  let v3287 : BitVec 32 := Scalar.addi v3286 c0_i32_2355
  v3287
def k0_mult363 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2358 : BitVec 32 := 16#32
  let v3296 : BitVec 32 := Scalar.addi v2192 c16_i32_2358
  let c0_i32_2359 : BitVec 32 := 0#32
  let v3297 : BitVec 32 := Scalar.addi v3296 c0_i32_2359
  v3297
def k0_mult364 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2362 : BitVec 32 := 24#32
  let v3306 : BitVec 32 := Scalar.addi v2192 c24_i32_2362
  let c0_i32_2363 : BitVec 32 := 0#32
  let v3307 : BitVec 32 := Scalar.addi v3306 c0_i32_2363
  v3307
def k0_mult365 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2368 : BitVec 32 := 0#32
  let v3319 : BitVec 32 := Scalar.addi v2192 c0_i32_2368
  let c0_i32_2369 : BitVec 32 := 0#32
  let v3320 : BitVec 32 := Scalar.addi v3319 c0_i32_2369
  v3320
def k0_mult366 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2372 : BitVec 32 := 8#32
  let v3329 : BitVec 32 := Scalar.addi v2192 c8_i32_2372
  let c0_i32_2373 : BitVec 32 := 0#32
  let v3330 : BitVec 32 := Scalar.addi v3329 c0_i32_2373
  v3330
def k0_mult367 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2376 : BitVec 32 := 16#32
  let v3339 : BitVec 32 := Scalar.addi v2192 c16_i32_2376
  let c0_i32_2377 : BitVec 32 := 0#32
  let v3340 : BitVec 32 := Scalar.addi v3339 c0_i32_2377
  v3340
def k0_mult368 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2380 : BitVec 32 := 24#32
  let v3349 : BitVec 32 := Scalar.addi v2192 c24_i32_2380
  let c0_i32_2381 : BitVec 32 := 0#32
  let v3350 : BitVec 32 := Scalar.addi v3349 c0_i32_2381
  v3350
def k0_mult369 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2386 : BitVec 32 := 0#32
  let v3362 : BitVec 32 := Scalar.addi v2192 c0_i32_2386
  let c0_i32_2387 : BitVec 32 := 0#32
  let v3363 : BitVec 32 := Scalar.addi v3362 c0_i32_2387
  v3363
def k0_mult370 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2390 : BitVec 32 := 8#32
  let v3372 : BitVec 32 := Scalar.addi v2192 c8_i32_2390
  let c0_i32_2391 : BitVec 32 := 0#32
  let v3373 : BitVec 32 := Scalar.addi v3372 c0_i32_2391
  v3373
def k0_mult371 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2394 : BitVec 32 := 16#32
  let v3382 : BitVec 32 := Scalar.addi v2192 c16_i32_2394
  let c0_i32_2395 : BitVec 32 := 0#32
  let v3383 : BitVec 32 := Scalar.addi v3382 c0_i32_2395
  v3383
def k0_mult372 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2398 : BitVec 32 := 24#32
  let v3392 : BitVec 32 := Scalar.addi v2192 c24_i32_2398
  let c0_i32_2399 : BitVec 32 := 0#32
  let v3393 : BitVec 32 := Scalar.addi v3392 c0_i32_2399
  v3393
def k0_mult373 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2404 : BitVec 32 := 0#32
  let v3405 : BitVec 32 := Scalar.addi v2192 c0_i32_2404
  let c0_i32_2405 : BitVec 32 := 0#32
  let v3406 : BitVec 32 := Scalar.addi v3405 c0_i32_2405
  v3406
def k0_mult374 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2408 : BitVec 32 := 8#32
  let v3415 : BitVec 32 := Scalar.addi v2192 c8_i32_2408
  let c0_i32_2409 : BitVec 32 := 0#32
  let v3416 : BitVec 32 := Scalar.addi v3415 c0_i32_2409
  v3416
def k0_mult375 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2412 : BitVec 32 := 16#32
  let v3425 : BitVec 32 := Scalar.addi v2192 c16_i32_2412
  let c0_i32_2413 : BitVec 32 := 0#32
  let v3426 : BitVec 32 := Scalar.addi v3425 c0_i32_2413
  v3426
def k0_mult376 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2416 : BitVec 32 := 24#32
  let v3435 : BitVec 32 := Scalar.addi v2192 c24_i32_2416
  let c0_i32_2417 : BitVec 32 := 0#32
  let v3436 : BitVec 32 := Scalar.addi v3435 c0_i32_2417
  v3436
def k0_mult377 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2422 : BitVec 32 := 0#32
  let v3448 : BitVec 32 := Scalar.addi v2192 c0_i32_2422
  let c0_i32_2423 : BitVec 32 := 0#32
  let v3449 : BitVec 32 := Scalar.addi v3448 c0_i32_2423
  v3449
def k0_mult378 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2426 : BitVec 32 := 8#32
  let v3458 : BitVec 32 := Scalar.addi v2192 c8_i32_2426
  let c0_i32_2427 : BitVec 32 := 0#32
  let v3459 : BitVec 32 := Scalar.addi v3458 c0_i32_2427
  v3459
def k0_mult379 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2430 : BitVec 32 := 16#32
  let v3468 : BitVec 32 := Scalar.addi v2192 c16_i32_2430
  let c0_i32_2431 : BitVec 32 := 0#32
  let v3469 : BitVec 32 := Scalar.addi v3468 c0_i32_2431
  v3469
def k0_mult380 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2434 : BitVec 32 := 24#32
  let v3478 : BitVec 32 := Scalar.addi v2192 c24_i32_2434
  let c0_i32_2435 : BitVec 32 := 0#32
  let v3479 : BitVec 32 := Scalar.addi v3478 c0_i32_2435
  v3479
def k0_mult381 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c0_i32_2440 : BitVec 32 := 0#32
  let v3491 : BitVec 32 := Scalar.addi v2192 c0_i32_2440
  let c0_i32_2441 : BitVec 32 := 0#32
  let v3492 : BitVec 32 := Scalar.addi v3491 c0_i32_2441
  v3492
def k0_mult382 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c8_i32_2443 : BitVec 32 := 8#32
  let v3500 : BitVec 32 := Scalar.addi v2192 c8_i32_2443
  let c0_i32_2444 : BitVec 32 := 0#32
  let v3501 : BitVec 32 := Scalar.addi v3500 c0_i32_2444
  v3501
def k0_mult383 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c16_i32_2446 : BitVec 32 := 16#32
  let v3509 : BitVec 32 := Scalar.addi v2192 c16_i32_2446
  let c0_i32_2447 : BitVec 32 := 0#32
  let v3510 : BitVec 32 := Scalar.addi v3509 c0_i32_2447
  v3510
def k0_mult384 (k0_t3 : Fin k0_t3_loop.trips) : BitVec 32 :=
  let c0_i32_616 : BitVec 32 := 0#32
  let c1_i32_618 : BitVec 32 := 1#32
  let arg16 : BitVec 32 := Scf.iv c0_i32_616 c1_i32_618 k0_t3
  let c32_i32 : BitVec 32 := 32#32
  let v2192 : BitVec 32 := Scalar.muli arg16 c32_i32
  let c24_i32_2449 : BitVec 32 := 24#32
  let v3518 : BitVec 32 := Scalar.addi v2192 c24_i32_2449
  let c0_i32_2450 : BitVec 32 := 0#32
  let v3519 : BitVec 32 := Scalar.addi v3518 c0_i32_2450
  v3519
@[reducible] def k0_t4_loop : Scf.Loop 32 :=
  let c0_i32_840 : BitVec 32 := 0#32
  let c16_i32_841 : BitVec 32 := 16#32
  let v1005 : BitVec 32 := Scalar.addi c0_i32_840 c16_i32_841
  let c1_i32_842 : BitVec 32 := 1#32
  ⟨c0_i32_840, v1005, c1_i32_842⟩
def k0_mult385 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_1902 : BitVec 32 := 0#32
  let v2193 : BitVec 32 := Scalar.addi v2192 c0_i32_1902
  v2193
def k0_mult386 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_1903 : BitVec 32 := 8#32
  let v2195 : BitVec 32 := Scalar.addi v2192 c8_i32_1903
  v2195
def k0_mult387 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_1904 : BitVec 32 := 16#32
  let v2197 : BitVec 32 := Scalar.addi v2192 c16_i32_1904
  v2197
def k0_mult388 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32 : BitVec 32 := 24#32
  let v2199 : BitVec 32 := Scalar.addi v2192 c24_i32
  v2199
def k0_off28 (k0_t4 : Fin k0_t4_loop.trips) (c0_i32_1902 : BitVec 32) : Fin 2 → Nat :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let v2193 : BitVec 32 := Scalar.addi v2192 c0_i32_1902
  let v2194 : BitVec 32 := v2193
  let v2201 : Index := Scalar.indexCast v2194
  let c384_1905 : Index := 384#32
  ![v2201.toNat, 384]
def k0_mult389 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_1912 : BitVec 32 := 0#32
  let v2213 : BitVec 32 := Scalar.addi v2192 c0_i32_1912
  let c24_i32_1913 : BitVec 32 := 24#32
  let v2214 : BitVec 32 := Scalar.addi v2213 c24_i32_1913
  v2214
def k0_off29 (k0_t4 : Fin k0_t4_loop.trips) (c0_i32_1912 : BitVec 32) (c24_i32_1913 : BitVec 32) : Fin 3 → Nat :=
  let c5_1914 : Index := 5#32
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let v2213 : BitVec 32 := Scalar.addi v2192 c0_i32_1912
  let v2214 : BitVec 32 := Scalar.addi v2213 c24_i32_1913
  let v2215 : BitVec 32 := v2214
  let v2216 : Index := Scalar.indexCast v2215
  let c0_1915 : Index := 0#32
  ![5, v2216.toNat, 0]
def k0_mult390 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_1916 : BitVec 32 := 8#32
  let v2223 : BitVec 32 := Scalar.addi v2192 c8_i32_1916
  let c24_i32_1917 : BitVec 32 := 24#32
  let v2224 : BitVec 32 := Scalar.addi v2223 c24_i32_1917
  v2224
def k0_mult391 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_1920 : BitVec 32 := 16#32
  let v2233 : BitVec 32 := Scalar.addi v2192 c16_i32_1920
  let c24_i32_1921 : BitVec 32 := 24#32
  let v2234 : BitVec 32 := Scalar.addi v2233 c24_i32_1921
  v2234
def k0_mult392 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_1924 : BitVec 32 := 24#32
  let v2243 : BitVec 32 := Scalar.addi v2192 c24_i32_1924
  let c24_i32_1925 : BitVec 32 := 24#32
  let v2244 : BitVec 32 := Scalar.addi v2243 c24_i32_1925
  v2244
def k0_mult393 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_1930 : BitVec 32 := 0#32
  let v2256 : BitVec 32 := Scalar.addi v2192 c0_i32_1930
  let c24_i32_1931 : BitVec 32 := 24#32
  let v2257 : BitVec 32 := Scalar.addi v2256 c24_i32_1931
  v2257
def k0_off30 (k0_t4 : Fin k0_t4_loop.trips) (c0_i32_1930 : BitVec 32) (c24_i32_1931 : BitVec 32) : Fin 3 → Nat :=
  let c4_1932 : Index := 4#32
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let v2256 : BitVec 32 := Scalar.addi v2192 c0_i32_1930
  let v2257 : BitVec 32 := Scalar.addi v2256 c24_i32_1931
  let v2258 : BitVec 32 := v2257
  let v2259 : Index := Scalar.indexCast v2258
  let c0_1933 : Index := 0#32
  ![4, v2259.toNat, 0]
def k0_mult394 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_1934 : BitVec 32 := 8#32
  let v2266 : BitVec 32 := Scalar.addi v2192 c8_i32_1934
  let c24_i32_1935 : BitVec 32 := 24#32
  let v2267 : BitVec 32 := Scalar.addi v2266 c24_i32_1935
  v2267
def k0_mult395 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_1938 : BitVec 32 := 16#32
  let v2276 : BitVec 32 := Scalar.addi v2192 c16_i32_1938
  let c24_i32_1939 : BitVec 32 := 24#32
  let v2277 : BitVec 32 := Scalar.addi v2276 c24_i32_1939
  v2277
def k0_mult396 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_1942 : BitVec 32 := 24#32
  let v2286 : BitVec 32 := Scalar.addi v2192 c24_i32_1942
  let c24_i32_1943 : BitVec 32 := 24#32
  let v2287 : BitVec 32 := Scalar.addi v2286 c24_i32_1943
  v2287
def k0_mult397 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_1948 : BitVec 32 := 0#32
  let v2299 : BitVec 32 := Scalar.addi v2192 c0_i32_1948
  let c24_i32_1949 : BitVec 32 := 24#32
  let v2300 : BitVec 32 := Scalar.addi v2299 c24_i32_1949
  v2300
def k0_off31 (k0_t4 : Fin k0_t4_loop.trips) (c0_i32_1948 : BitVec 32) (c24_i32_1949 : BitVec 32) : Fin 3 → Nat :=
  let c3_1950 : Index := 3#32
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let v2299 : BitVec 32 := Scalar.addi v2192 c0_i32_1948
  let v2300 : BitVec 32 := Scalar.addi v2299 c24_i32_1949
  let v2301 : BitVec 32 := v2300
  let v2302 : Index := Scalar.indexCast v2301
  let c0_1951 : Index := 0#32
  ![3, v2302.toNat, 0]
def k0_mult398 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_1952 : BitVec 32 := 8#32
  let v2309 : BitVec 32 := Scalar.addi v2192 c8_i32_1952
  let c24_i32_1953 : BitVec 32 := 24#32
  let v2310 : BitVec 32 := Scalar.addi v2309 c24_i32_1953
  v2310
def k0_mult399 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_1956 : BitVec 32 := 16#32
  let v2319 : BitVec 32 := Scalar.addi v2192 c16_i32_1956
  let c24_i32_1957 : BitVec 32 := 24#32
  let v2320 : BitVec 32 := Scalar.addi v2319 c24_i32_1957
  v2320
def k0_mult400 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_1960 : BitVec 32 := 24#32
  let v2329 : BitVec 32 := Scalar.addi v2192 c24_i32_1960
  let c24_i32_1961 : BitVec 32 := 24#32
  let v2330 : BitVec 32 := Scalar.addi v2329 c24_i32_1961
  v2330
def k0_mult401 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_1966 : BitVec 32 := 0#32
  let v2342 : BitVec 32 := Scalar.addi v2192 c0_i32_1966
  let c24_i32_1967 : BitVec 32 := 24#32
  let v2343 : BitVec 32 := Scalar.addi v2342 c24_i32_1967
  v2343
def k0_off32 (k0_t4 : Fin k0_t4_loop.trips) (c0_i32_1966 : BitVec 32) (c24_i32_1967 : BitVec 32) : Fin 3 → Nat :=
  let c2_1968 : Index := 2#32
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let v2342 : BitVec 32 := Scalar.addi v2192 c0_i32_1966
  let v2343 : BitVec 32 := Scalar.addi v2342 c24_i32_1967
  let v2344 : BitVec 32 := v2343
  let v2345 : Index := Scalar.indexCast v2344
  let c0_1969 : Index := 0#32
  ![2, v2345.toNat, 0]
def k0_mult402 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_1970 : BitVec 32 := 8#32
  let v2352 : BitVec 32 := Scalar.addi v2192 c8_i32_1970
  let c24_i32_1971 : BitVec 32 := 24#32
  let v2353 : BitVec 32 := Scalar.addi v2352 c24_i32_1971
  v2353
def k0_mult403 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_1974 : BitVec 32 := 16#32
  let v2362 : BitVec 32 := Scalar.addi v2192 c16_i32_1974
  let c24_i32_1975 : BitVec 32 := 24#32
  let v2363 : BitVec 32 := Scalar.addi v2362 c24_i32_1975
  v2363
def k0_mult404 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_1978 : BitVec 32 := 24#32
  let v2372 : BitVec 32 := Scalar.addi v2192 c24_i32_1978
  let c24_i32_1979 : BitVec 32 := 24#32
  let v2373 : BitVec 32 := Scalar.addi v2372 c24_i32_1979
  v2373
def k0_mult405 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_1984 : BitVec 32 := 0#32
  let v2385 : BitVec 32 := Scalar.addi v2192 c0_i32_1984
  let c24_i32_1985 : BitVec 32 := 24#32
  let v2386 : BitVec 32 := Scalar.addi v2385 c24_i32_1985
  v2386
def k0_off33 (k0_t4 : Fin k0_t4_loop.trips) (c0_i32_1984 : BitVec 32) (c24_i32_1985 : BitVec 32) : Fin 3 → Nat :=
  let c1_1986 : Index := 1#32
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let v2385 : BitVec 32 := Scalar.addi v2192 c0_i32_1984
  let v2386 : BitVec 32 := Scalar.addi v2385 c24_i32_1985
  let v2387 : BitVec 32 := v2386
  let v2388 : Index := Scalar.indexCast v2387
  let c0_1987 : Index := 0#32
  ![1, v2388.toNat, 0]
def k0_mult406 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_1988 : BitVec 32 := 8#32
  let v2395 : BitVec 32 := Scalar.addi v2192 c8_i32_1988
  let c24_i32_1989 : BitVec 32 := 24#32
  let v2396 : BitVec 32 := Scalar.addi v2395 c24_i32_1989
  v2396
def k0_mult407 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_1992 : BitVec 32 := 16#32
  let v2405 : BitVec 32 := Scalar.addi v2192 c16_i32_1992
  let c24_i32_1993 : BitVec 32 := 24#32
  let v2406 : BitVec 32 := Scalar.addi v2405 c24_i32_1993
  v2406
def k0_mult408 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_1996 : BitVec 32 := 24#32
  let v2415 : BitVec 32 := Scalar.addi v2192 c24_i32_1996
  let c24_i32_1997 : BitVec 32 := 24#32
  let v2416 : BitVec 32 := Scalar.addi v2415 c24_i32_1997
  v2416
def k0_mult409 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2002 : BitVec 32 := 0#32
  let v2428 : BitVec 32 := Scalar.addi v2192 c0_i32_2002
  let c24_i32_2003 : BitVec 32 := 24#32
  let v2429 : BitVec 32 := Scalar.addi v2428 c24_i32_2003
  v2429
def k0_off34 (k0_t4 : Fin k0_t4_loop.trips) (c0_i32_2002 : BitVec 32) (c24_i32_2003 : BitVec 32) : Fin 3 → Nat :=
  let c0_2004 : Index := 0#32
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let v2428 : BitVec 32 := Scalar.addi v2192 c0_i32_2002
  let v2429 : BitVec 32 := Scalar.addi v2428 c24_i32_2003
  let v2430 : BitVec 32 := v2429
  let v2431 : Index := Scalar.indexCast v2430
  let c0_2005 : Index := 0#32
  ![0, v2431.toNat, 0]
def k0_mult410 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2006 : BitVec 32 := 8#32
  let v2438 : BitVec 32 := Scalar.addi v2192 c8_i32_2006
  let c24_i32_2007 : BitVec 32 := 24#32
  let v2439 : BitVec 32 := Scalar.addi v2438 c24_i32_2007
  v2439
def k0_mult411 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2010 : BitVec 32 := 16#32
  let v2448 : BitVec 32 := Scalar.addi v2192 c16_i32_2010
  let c24_i32_2011 : BitVec 32 := 24#32
  let v2449 : BitVec 32 := Scalar.addi v2448 c24_i32_2011
  v2449
def k0_mult412 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2014 : BitVec 32 := 24#32
  let v2458 : BitVec 32 := Scalar.addi v2192 c24_i32_2014
  let c24_i32_2015 : BitVec 32 := 24#32
  let v2459 : BitVec 32 := Scalar.addi v2458 c24_i32_2015
  v2459
def k0_mult413 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2020 : BitVec 32 := 0#32
  let v2471 : BitVec 32 := Scalar.addi v2192 c0_i32_2020
  let c24_i32_2021 : BitVec 32 := 24#32
  let v2472 : BitVec 32 := Scalar.addi v2471 c24_i32_2021
  v2472
def k0_off35 (k0_t4 : Fin k0_t4_loop.trips) (c0_i32_2020 : BitVec 32) (c24_i32_2021 : BitVec 32) : Fin 2 → Nat :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let v2471 : BitVec 32 := Scalar.addi v2192 c0_i32_2020
  let v2472 : BitVec 32 := Scalar.addi v2471 c24_i32_2021
  let v2473 : BitVec 32 := v2472
  let v2474 : Index := Scalar.indexCast v2473
  let c384_2022 : Index := 384#32
  ![v2474.toNat, 384]
def k0_mult414 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2023 : BitVec 32 := 8#32
  let v2480 : BitVec 32 := Scalar.addi v2192 c8_i32_2023
  let c24_i32_2024 : BitVec 32 := 24#32
  let v2481 : BitVec 32 := Scalar.addi v2480 c24_i32_2024
  v2481
def k0_mult415 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2026 : BitVec 32 := 16#32
  let v2489 : BitVec 32 := Scalar.addi v2192 c16_i32_2026
  let c24_i32_2027 : BitVec 32 := 24#32
  let v2490 : BitVec 32 := Scalar.addi v2489 c24_i32_2027
  v2490
def k0_mult416 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2029 : BitVec 32 := 24#32
  let v2498 : BitVec 32 := Scalar.addi v2192 c24_i32_2029
  let c24_i32_2030 : BitVec 32 := 24#32
  let v2499 : BitVec 32 := Scalar.addi v2498 c24_i32_2030
  v2499
def k0_mult417 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2034 : BitVec 32 := 0#32
  let v2510 : BitVec 32 := Scalar.addi v2192 c0_i32_2034
  let c16_i32_2035 : BitVec 32 := 16#32
  let v2511 : BitVec 32 := Scalar.addi v2510 c16_i32_2035
  v2511
def k0_off36 (k0_t4 : Fin k0_t4_loop.trips) (c0_i32_2034 : BitVec 32) (c16_i32_2035 : BitVec 32) : Fin 3 → Nat :=
  let c6_2036 : Index := 6#32
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let v2510 : BitVec 32 := Scalar.addi v2192 c0_i32_2034
  let v2511 : BitVec 32 := Scalar.addi v2510 c16_i32_2035
  let v2512 : BitVec 32 := v2511
  let v2513 : Index := Scalar.indexCast v2512
  let c0_2037 : Index := 0#32
  ![6, v2513.toNat, 0]
def k0_mult418 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2038 : BitVec 32 := 8#32
  let v2520 : BitVec 32 := Scalar.addi v2192 c8_i32_2038
  let c16_i32_2039 : BitVec 32 := 16#32
  let v2521 : BitVec 32 := Scalar.addi v2520 c16_i32_2039
  v2521
def k0_mult419 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2042 : BitVec 32 := 16#32
  let v2530 : BitVec 32 := Scalar.addi v2192 c16_i32_2042
  let c16_i32_2043 : BitVec 32 := 16#32
  let v2531 : BitVec 32 := Scalar.addi v2530 c16_i32_2043
  v2531
def k0_mult420 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2046 : BitVec 32 := 24#32
  let v2540 : BitVec 32 := Scalar.addi v2192 c24_i32_2046
  let c16_i32_2047 : BitVec 32 := 16#32
  let v2541 : BitVec 32 := Scalar.addi v2540 c16_i32_2047
  v2541
def k0_mult421 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2052 : BitVec 32 := 0#32
  let v2553 : BitVec 32 := Scalar.addi v2192 c0_i32_2052
  let c16_i32_2053 : BitVec 32 := 16#32
  let v2554 : BitVec 32 := Scalar.addi v2553 c16_i32_2053
  v2554
def k0_mult422 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2056 : BitVec 32 := 8#32
  let v2563 : BitVec 32 := Scalar.addi v2192 c8_i32_2056
  let c16_i32_2057 : BitVec 32 := 16#32
  let v2564 : BitVec 32 := Scalar.addi v2563 c16_i32_2057
  v2564
def k0_mult423 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2060 : BitVec 32 := 16#32
  let v2573 : BitVec 32 := Scalar.addi v2192 c16_i32_2060
  let c16_i32_2061 : BitVec 32 := 16#32
  let v2574 : BitVec 32 := Scalar.addi v2573 c16_i32_2061
  v2574
def k0_mult424 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2064 : BitVec 32 := 24#32
  let v2583 : BitVec 32 := Scalar.addi v2192 c24_i32_2064
  let c16_i32_2065 : BitVec 32 := 16#32
  let v2584 : BitVec 32 := Scalar.addi v2583 c16_i32_2065
  v2584
def k0_mult425 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2070 : BitVec 32 := 0#32
  let v2596 : BitVec 32 := Scalar.addi v2192 c0_i32_2070
  let c16_i32_2071 : BitVec 32 := 16#32
  let v2597 : BitVec 32 := Scalar.addi v2596 c16_i32_2071
  v2597
def k0_mult426 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2074 : BitVec 32 := 8#32
  let v2606 : BitVec 32 := Scalar.addi v2192 c8_i32_2074
  let c16_i32_2075 : BitVec 32 := 16#32
  let v2607 : BitVec 32 := Scalar.addi v2606 c16_i32_2075
  v2607
def k0_mult427 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2078 : BitVec 32 := 16#32
  let v2616 : BitVec 32 := Scalar.addi v2192 c16_i32_2078
  let c16_i32_2079 : BitVec 32 := 16#32
  let v2617 : BitVec 32 := Scalar.addi v2616 c16_i32_2079
  v2617
def k0_mult428 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2082 : BitVec 32 := 24#32
  let v2626 : BitVec 32 := Scalar.addi v2192 c24_i32_2082
  let c16_i32_2083 : BitVec 32 := 16#32
  let v2627 : BitVec 32 := Scalar.addi v2626 c16_i32_2083
  v2627
def k0_mult429 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2088 : BitVec 32 := 0#32
  let v2639 : BitVec 32 := Scalar.addi v2192 c0_i32_2088
  let c16_i32_2089 : BitVec 32 := 16#32
  let v2640 : BitVec 32 := Scalar.addi v2639 c16_i32_2089
  v2640
def k0_mult430 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2092 : BitVec 32 := 8#32
  let v2649 : BitVec 32 := Scalar.addi v2192 c8_i32_2092
  let c16_i32_2093 : BitVec 32 := 16#32
  let v2650 : BitVec 32 := Scalar.addi v2649 c16_i32_2093
  v2650
def k0_mult431 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2096 : BitVec 32 := 16#32
  let v2659 : BitVec 32 := Scalar.addi v2192 c16_i32_2096
  let c16_i32_2097 : BitVec 32 := 16#32
  let v2660 : BitVec 32 := Scalar.addi v2659 c16_i32_2097
  v2660
def k0_mult432 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2100 : BitVec 32 := 24#32
  let v2669 : BitVec 32 := Scalar.addi v2192 c24_i32_2100
  let c16_i32_2101 : BitVec 32 := 16#32
  let v2670 : BitVec 32 := Scalar.addi v2669 c16_i32_2101
  v2670
def k0_mult433 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2106 : BitVec 32 := 0#32
  let v2682 : BitVec 32 := Scalar.addi v2192 c0_i32_2106
  let c16_i32_2107 : BitVec 32 := 16#32
  let v2683 : BitVec 32 := Scalar.addi v2682 c16_i32_2107
  v2683
def k0_mult434 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2110 : BitVec 32 := 8#32
  let v2692 : BitVec 32 := Scalar.addi v2192 c8_i32_2110
  let c16_i32_2111 : BitVec 32 := 16#32
  let v2693 : BitVec 32 := Scalar.addi v2692 c16_i32_2111
  v2693
def k0_mult435 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2114 : BitVec 32 := 16#32
  let v2702 : BitVec 32 := Scalar.addi v2192 c16_i32_2114
  let c16_i32_2115 : BitVec 32 := 16#32
  let v2703 : BitVec 32 := Scalar.addi v2702 c16_i32_2115
  v2703
def k0_mult436 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2118 : BitVec 32 := 24#32
  let v2712 : BitVec 32 := Scalar.addi v2192 c24_i32_2118
  let c16_i32_2119 : BitVec 32 := 16#32
  let v2713 : BitVec 32 := Scalar.addi v2712 c16_i32_2119
  v2713
def k0_mult437 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2124 : BitVec 32 := 0#32
  let v2725 : BitVec 32 := Scalar.addi v2192 c0_i32_2124
  let c16_i32_2125 : BitVec 32 := 16#32
  let v2726 : BitVec 32 := Scalar.addi v2725 c16_i32_2125
  v2726
def k0_mult438 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2128 : BitVec 32 := 8#32
  let v2735 : BitVec 32 := Scalar.addi v2192 c8_i32_2128
  let c16_i32_2129 : BitVec 32 := 16#32
  let v2736 : BitVec 32 := Scalar.addi v2735 c16_i32_2129
  v2736
def k0_mult439 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2132 : BitVec 32 := 16#32
  let v2745 : BitVec 32 := Scalar.addi v2192 c16_i32_2132
  let c16_i32_2133 : BitVec 32 := 16#32
  let v2746 : BitVec 32 := Scalar.addi v2745 c16_i32_2133
  v2746
def k0_mult440 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2136 : BitVec 32 := 24#32
  let v2755 : BitVec 32 := Scalar.addi v2192 c24_i32_2136
  let c16_i32_2137 : BitVec 32 := 16#32
  let v2756 : BitVec 32 := Scalar.addi v2755 c16_i32_2137
  v2756
def k0_mult441 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2142 : BitVec 32 := 0#32
  let v2768 : BitVec 32 := Scalar.addi v2192 c0_i32_2142
  let c16_i32_2143 : BitVec 32 := 16#32
  let v2769 : BitVec 32 := Scalar.addi v2768 c16_i32_2143
  v2769
def k0_mult442 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2146 : BitVec 32 := 8#32
  let v2778 : BitVec 32 := Scalar.addi v2192 c8_i32_2146
  let c16_i32_2147 : BitVec 32 := 16#32
  let v2779 : BitVec 32 := Scalar.addi v2778 c16_i32_2147
  v2779
def k0_mult443 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2150 : BitVec 32 := 16#32
  let v2788 : BitVec 32 := Scalar.addi v2192 c16_i32_2150
  let c16_i32_2151 : BitVec 32 := 16#32
  let v2789 : BitVec 32 := Scalar.addi v2788 c16_i32_2151
  v2789
def k0_mult444 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2154 : BitVec 32 := 24#32
  let v2798 : BitVec 32 := Scalar.addi v2192 c24_i32_2154
  let c16_i32_2155 : BitVec 32 := 16#32
  let v2799 : BitVec 32 := Scalar.addi v2798 c16_i32_2155
  v2799
def k0_mult445 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2160 : BitVec 32 := 0#32
  let v2811 : BitVec 32 := Scalar.addi v2192 c0_i32_2160
  let c16_i32_2161 : BitVec 32 := 16#32
  let v2812 : BitVec 32 := Scalar.addi v2811 c16_i32_2161
  v2812
def k0_mult446 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2163 : BitVec 32 := 8#32
  let v2820 : BitVec 32 := Scalar.addi v2192 c8_i32_2163
  let c16_i32_2164 : BitVec 32 := 16#32
  let v2821 : BitVec 32 := Scalar.addi v2820 c16_i32_2164
  v2821
def k0_mult447 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2166 : BitVec 32 := 16#32
  let v2829 : BitVec 32 := Scalar.addi v2192 c16_i32_2166
  let c16_i32_2167 : BitVec 32 := 16#32
  let v2830 : BitVec 32 := Scalar.addi v2829 c16_i32_2167
  v2830
def k0_mult448 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2169 : BitVec 32 := 24#32
  let v2838 : BitVec 32 := Scalar.addi v2192 c24_i32_2169
  let c16_i32_2170 : BitVec 32 := 16#32
  let v2839 : BitVec 32 := Scalar.addi v2838 c16_i32_2170
  v2839
def k0_mult449 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2174 : BitVec 32 := 0#32
  let v2850 : BitVec 32 := Scalar.addi v2192 c0_i32_2174
  let c8_i32_2175 : BitVec 32 := 8#32
  let v2851 : BitVec 32 := Scalar.addi v2850 c8_i32_2175
  v2851
def k0_mult450 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2178 : BitVec 32 := 8#32
  let v2860 : BitVec 32 := Scalar.addi v2192 c8_i32_2178
  let c8_i32_2179 : BitVec 32 := 8#32
  let v2861 : BitVec 32 := Scalar.addi v2860 c8_i32_2179
  v2861
def k0_mult451 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2182 : BitVec 32 := 16#32
  let v2870 : BitVec 32 := Scalar.addi v2192 c16_i32_2182
  let c8_i32_2183 : BitVec 32 := 8#32
  let v2871 : BitVec 32 := Scalar.addi v2870 c8_i32_2183
  v2871
def k0_mult452 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2186 : BitVec 32 := 24#32
  let v2880 : BitVec 32 := Scalar.addi v2192 c24_i32_2186
  let c8_i32_2187 : BitVec 32 := 8#32
  let v2881 : BitVec 32 := Scalar.addi v2880 c8_i32_2187
  v2881
def k0_mult453 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2192 : BitVec 32 := 0#32
  let v2893 : BitVec 32 := Scalar.addi v2192 c0_i32_2192
  let c8_i32_2193 : BitVec 32 := 8#32
  let v2894 : BitVec 32 := Scalar.addi v2893 c8_i32_2193
  v2894
def k0_mult454 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2196 : BitVec 32 := 8#32
  let v2903 : BitVec 32 := Scalar.addi v2192 c8_i32_2196
  let c8_i32_2197 : BitVec 32 := 8#32
  let v2904 : BitVec 32 := Scalar.addi v2903 c8_i32_2197
  v2904
def k0_mult455 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2200 : BitVec 32 := 16#32
  let v2913 : BitVec 32 := Scalar.addi v2192 c16_i32_2200
  let c8_i32_2201 : BitVec 32 := 8#32
  let v2914 : BitVec 32 := Scalar.addi v2913 c8_i32_2201
  v2914
def k0_mult456 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2204 : BitVec 32 := 24#32
  let v2923 : BitVec 32 := Scalar.addi v2192 c24_i32_2204
  let c8_i32_2205 : BitVec 32 := 8#32
  let v2924 : BitVec 32 := Scalar.addi v2923 c8_i32_2205
  v2924
def k0_mult457 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2210 : BitVec 32 := 0#32
  let v2936 : BitVec 32 := Scalar.addi v2192 c0_i32_2210
  let c8_i32_2211 : BitVec 32 := 8#32
  let v2937 : BitVec 32 := Scalar.addi v2936 c8_i32_2211
  v2937
def k0_mult458 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2214 : BitVec 32 := 8#32
  let v2946 : BitVec 32 := Scalar.addi v2192 c8_i32_2214
  let c8_i32_2215 : BitVec 32 := 8#32
  let v2947 : BitVec 32 := Scalar.addi v2946 c8_i32_2215
  v2947
def k0_mult459 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2218 : BitVec 32 := 16#32
  let v2956 : BitVec 32 := Scalar.addi v2192 c16_i32_2218
  let c8_i32_2219 : BitVec 32 := 8#32
  let v2957 : BitVec 32 := Scalar.addi v2956 c8_i32_2219
  v2957
def k0_mult460 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2222 : BitVec 32 := 24#32
  let v2966 : BitVec 32 := Scalar.addi v2192 c24_i32_2222
  let c8_i32_2223 : BitVec 32 := 8#32
  let v2967 : BitVec 32 := Scalar.addi v2966 c8_i32_2223
  v2967
def k0_mult461 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2228 : BitVec 32 := 0#32
  let v2979 : BitVec 32 := Scalar.addi v2192 c0_i32_2228
  let c8_i32_2229 : BitVec 32 := 8#32
  let v2980 : BitVec 32 := Scalar.addi v2979 c8_i32_2229
  v2980
def k0_mult462 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2232 : BitVec 32 := 8#32
  let v2989 : BitVec 32 := Scalar.addi v2192 c8_i32_2232
  let c8_i32_2233 : BitVec 32 := 8#32
  let v2990 : BitVec 32 := Scalar.addi v2989 c8_i32_2233
  v2990
def k0_mult463 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2236 : BitVec 32 := 16#32
  let v2999 : BitVec 32 := Scalar.addi v2192 c16_i32_2236
  let c8_i32_2237 : BitVec 32 := 8#32
  let v3000 : BitVec 32 := Scalar.addi v2999 c8_i32_2237
  v3000
def k0_mult464 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2240 : BitVec 32 := 24#32
  let v3009 : BitVec 32 := Scalar.addi v2192 c24_i32_2240
  let c8_i32_2241 : BitVec 32 := 8#32
  let v3010 : BitVec 32 := Scalar.addi v3009 c8_i32_2241
  v3010
def k0_mult465 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2246 : BitVec 32 := 0#32
  let v3022 : BitVec 32 := Scalar.addi v2192 c0_i32_2246
  let c8_i32_2247 : BitVec 32 := 8#32
  let v3023 : BitVec 32 := Scalar.addi v3022 c8_i32_2247
  v3023
def k0_mult466 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2250 : BitVec 32 := 8#32
  let v3032 : BitVec 32 := Scalar.addi v2192 c8_i32_2250
  let c8_i32_2251 : BitVec 32 := 8#32
  let v3033 : BitVec 32 := Scalar.addi v3032 c8_i32_2251
  v3033
def k0_mult467 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2254 : BitVec 32 := 16#32
  let v3042 : BitVec 32 := Scalar.addi v2192 c16_i32_2254
  let c8_i32_2255 : BitVec 32 := 8#32
  let v3043 : BitVec 32 := Scalar.addi v3042 c8_i32_2255
  v3043
def k0_mult468 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2258 : BitVec 32 := 24#32
  let v3052 : BitVec 32 := Scalar.addi v2192 c24_i32_2258
  let c8_i32_2259 : BitVec 32 := 8#32
  let v3053 : BitVec 32 := Scalar.addi v3052 c8_i32_2259
  v3053
def k0_mult469 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2264 : BitVec 32 := 0#32
  let v3065 : BitVec 32 := Scalar.addi v2192 c0_i32_2264
  let c8_i32_2265 : BitVec 32 := 8#32
  let v3066 : BitVec 32 := Scalar.addi v3065 c8_i32_2265
  v3066
def k0_mult470 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2268 : BitVec 32 := 8#32
  let v3075 : BitVec 32 := Scalar.addi v2192 c8_i32_2268
  let c8_i32_2269 : BitVec 32 := 8#32
  let v3076 : BitVec 32 := Scalar.addi v3075 c8_i32_2269
  v3076
def k0_mult471 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2272 : BitVec 32 := 16#32
  let v3085 : BitVec 32 := Scalar.addi v2192 c16_i32_2272
  let c8_i32_2273 : BitVec 32 := 8#32
  let v3086 : BitVec 32 := Scalar.addi v3085 c8_i32_2273
  v3086
def k0_mult472 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2276 : BitVec 32 := 24#32
  let v3095 : BitVec 32 := Scalar.addi v2192 c24_i32_2276
  let c8_i32_2277 : BitVec 32 := 8#32
  let v3096 : BitVec 32 := Scalar.addi v3095 c8_i32_2277
  v3096
def k0_mult473 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2282 : BitVec 32 := 0#32
  let v3108 : BitVec 32 := Scalar.addi v2192 c0_i32_2282
  let c8_i32_2283 : BitVec 32 := 8#32
  let v3109 : BitVec 32 := Scalar.addi v3108 c8_i32_2283
  v3109
def k0_mult474 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2286 : BitVec 32 := 8#32
  let v3118 : BitVec 32 := Scalar.addi v2192 c8_i32_2286
  let c8_i32_2287 : BitVec 32 := 8#32
  let v3119 : BitVec 32 := Scalar.addi v3118 c8_i32_2287
  v3119
def k0_mult475 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2290 : BitVec 32 := 16#32
  let v3128 : BitVec 32 := Scalar.addi v2192 c16_i32_2290
  let c8_i32_2291 : BitVec 32 := 8#32
  let v3129 : BitVec 32 := Scalar.addi v3128 c8_i32_2291
  v3129
def k0_mult476 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2294 : BitVec 32 := 24#32
  let v3138 : BitVec 32 := Scalar.addi v2192 c24_i32_2294
  let c8_i32_2295 : BitVec 32 := 8#32
  let v3139 : BitVec 32 := Scalar.addi v3138 c8_i32_2295
  v3139
def k0_mult477 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2300 : BitVec 32 := 0#32
  let v3151 : BitVec 32 := Scalar.addi v2192 c0_i32_2300
  let c8_i32_2301 : BitVec 32 := 8#32
  let v3152 : BitVec 32 := Scalar.addi v3151 c8_i32_2301
  v3152
def k0_mult478 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2303 : BitVec 32 := 8#32
  let v3160 : BitVec 32 := Scalar.addi v2192 c8_i32_2303
  let c8_i32_2304 : BitVec 32 := 8#32
  let v3161 : BitVec 32 := Scalar.addi v3160 c8_i32_2304
  v3161
def k0_mult479 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2306 : BitVec 32 := 16#32
  let v3169 : BitVec 32 := Scalar.addi v2192 c16_i32_2306
  let c8_i32_2307 : BitVec 32 := 8#32
  let v3170 : BitVec 32 := Scalar.addi v3169 c8_i32_2307
  v3170
def k0_mult480 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2309 : BitVec 32 := 24#32
  let v3178 : BitVec 32 := Scalar.addi v2192 c24_i32_2309
  let c8_i32_2310 : BitVec 32 := 8#32
  let v3179 : BitVec 32 := Scalar.addi v3178 c8_i32_2310
  v3179
def k0_mult481 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2314 : BitVec 32 := 0#32
  let v3190 : BitVec 32 := Scalar.addi v2192 c0_i32_2314
  let c0_i32_2315 : BitVec 32 := 0#32
  let v3191 : BitVec 32 := Scalar.addi v3190 c0_i32_2315
  v3191
def k0_mult482 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2318 : BitVec 32 := 8#32
  let v3200 : BitVec 32 := Scalar.addi v2192 c8_i32_2318
  let c0_i32_2319 : BitVec 32 := 0#32
  let v3201 : BitVec 32 := Scalar.addi v3200 c0_i32_2319
  v3201
def k0_mult483 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2322 : BitVec 32 := 16#32
  let v3210 : BitVec 32 := Scalar.addi v2192 c16_i32_2322
  let c0_i32_2323 : BitVec 32 := 0#32
  let v3211 : BitVec 32 := Scalar.addi v3210 c0_i32_2323
  v3211
def k0_mult484 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2326 : BitVec 32 := 24#32
  let v3220 : BitVec 32 := Scalar.addi v2192 c24_i32_2326
  let c0_i32_2327 : BitVec 32 := 0#32
  let v3221 : BitVec 32 := Scalar.addi v3220 c0_i32_2327
  v3221
def k0_mult485 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2332 : BitVec 32 := 0#32
  let v3233 : BitVec 32 := Scalar.addi v2192 c0_i32_2332
  let c0_i32_2333 : BitVec 32 := 0#32
  let v3234 : BitVec 32 := Scalar.addi v3233 c0_i32_2333
  v3234
def k0_mult486 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2336 : BitVec 32 := 8#32
  let v3243 : BitVec 32 := Scalar.addi v2192 c8_i32_2336
  let c0_i32_2337 : BitVec 32 := 0#32
  let v3244 : BitVec 32 := Scalar.addi v3243 c0_i32_2337
  v3244
def k0_mult487 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2340 : BitVec 32 := 16#32
  let v3253 : BitVec 32 := Scalar.addi v2192 c16_i32_2340
  let c0_i32_2341 : BitVec 32 := 0#32
  let v3254 : BitVec 32 := Scalar.addi v3253 c0_i32_2341
  v3254
def k0_mult488 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2344 : BitVec 32 := 24#32
  let v3263 : BitVec 32 := Scalar.addi v2192 c24_i32_2344
  let c0_i32_2345 : BitVec 32 := 0#32
  let v3264 : BitVec 32 := Scalar.addi v3263 c0_i32_2345
  v3264
def k0_mult489 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2350 : BitVec 32 := 0#32
  let v3276 : BitVec 32 := Scalar.addi v2192 c0_i32_2350
  let c0_i32_2351 : BitVec 32 := 0#32
  let v3277 : BitVec 32 := Scalar.addi v3276 c0_i32_2351
  v3277
def k0_mult490 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2354 : BitVec 32 := 8#32
  let v3286 : BitVec 32 := Scalar.addi v2192 c8_i32_2354
  let c0_i32_2355 : BitVec 32 := 0#32
  let v3287 : BitVec 32 := Scalar.addi v3286 c0_i32_2355
  v3287
def k0_mult491 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2358 : BitVec 32 := 16#32
  let v3296 : BitVec 32 := Scalar.addi v2192 c16_i32_2358
  let c0_i32_2359 : BitVec 32 := 0#32
  let v3297 : BitVec 32 := Scalar.addi v3296 c0_i32_2359
  v3297
def k0_mult492 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2362 : BitVec 32 := 24#32
  let v3306 : BitVec 32 := Scalar.addi v2192 c24_i32_2362
  let c0_i32_2363 : BitVec 32 := 0#32
  let v3307 : BitVec 32 := Scalar.addi v3306 c0_i32_2363
  v3307
def k0_mult493 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2368 : BitVec 32 := 0#32
  let v3319 : BitVec 32 := Scalar.addi v2192 c0_i32_2368
  let c0_i32_2369 : BitVec 32 := 0#32
  let v3320 : BitVec 32 := Scalar.addi v3319 c0_i32_2369
  v3320
def k0_mult494 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2372 : BitVec 32 := 8#32
  let v3329 : BitVec 32 := Scalar.addi v2192 c8_i32_2372
  let c0_i32_2373 : BitVec 32 := 0#32
  let v3330 : BitVec 32 := Scalar.addi v3329 c0_i32_2373
  v3330
def k0_mult495 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2376 : BitVec 32 := 16#32
  let v3339 : BitVec 32 := Scalar.addi v2192 c16_i32_2376
  let c0_i32_2377 : BitVec 32 := 0#32
  let v3340 : BitVec 32 := Scalar.addi v3339 c0_i32_2377
  v3340
def k0_mult496 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2380 : BitVec 32 := 24#32
  let v3349 : BitVec 32 := Scalar.addi v2192 c24_i32_2380
  let c0_i32_2381 : BitVec 32 := 0#32
  let v3350 : BitVec 32 := Scalar.addi v3349 c0_i32_2381
  v3350
def k0_mult497 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2386 : BitVec 32 := 0#32
  let v3362 : BitVec 32 := Scalar.addi v2192 c0_i32_2386
  let c0_i32_2387 : BitVec 32 := 0#32
  let v3363 : BitVec 32 := Scalar.addi v3362 c0_i32_2387
  v3363
def k0_mult498 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2390 : BitVec 32 := 8#32
  let v3372 : BitVec 32 := Scalar.addi v2192 c8_i32_2390
  let c0_i32_2391 : BitVec 32 := 0#32
  let v3373 : BitVec 32 := Scalar.addi v3372 c0_i32_2391
  v3373
def k0_mult499 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2394 : BitVec 32 := 16#32
  let v3382 : BitVec 32 := Scalar.addi v2192 c16_i32_2394
  let c0_i32_2395 : BitVec 32 := 0#32
  let v3383 : BitVec 32 := Scalar.addi v3382 c0_i32_2395
  v3383
def k0_mult500 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2398 : BitVec 32 := 24#32
  let v3392 : BitVec 32 := Scalar.addi v2192 c24_i32_2398
  let c0_i32_2399 : BitVec 32 := 0#32
  let v3393 : BitVec 32 := Scalar.addi v3392 c0_i32_2399
  v3393
def k0_mult501 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2404 : BitVec 32 := 0#32
  let v3405 : BitVec 32 := Scalar.addi v2192 c0_i32_2404
  let c0_i32_2405 : BitVec 32 := 0#32
  let v3406 : BitVec 32 := Scalar.addi v3405 c0_i32_2405
  v3406
def k0_mult502 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2408 : BitVec 32 := 8#32
  let v3415 : BitVec 32 := Scalar.addi v2192 c8_i32_2408
  let c0_i32_2409 : BitVec 32 := 0#32
  let v3416 : BitVec 32 := Scalar.addi v3415 c0_i32_2409
  v3416
def k0_mult503 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2412 : BitVec 32 := 16#32
  let v3425 : BitVec 32 := Scalar.addi v2192 c16_i32_2412
  let c0_i32_2413 : BitVec 32 := 0#32
  let v3426 : BitVec 32 := Scalar.addi v3425 c0_i32_2413
  v3426
def k0_mult504 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2416 : BitVec 32 := 24#32
  let v3435 : BitVec 32 := Scalar.addi v2192 c24_i32_2416
  let c0_i32_2417 : BitVec 32 := 0#32
  let v3436 : BitVec 32 := Scalar.addi v3435 c0_i32_2417
  v3436
def k0_mult505 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2422 : BitVec 32 := 0#32
  let v3448 : BitVec 32 := Scalar.addi v2192 c0_i32_2422
  let c0_i32_2423 : BitVec 32 := 0#32
  let v3449 : BitVec 32 := Scalar.addi v3448 c0_i32_2423
  v3449
def k0_mult506 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2426 : BitVec 32 := 8#32
  let v3458 : BitVec 32 := Scalar.addi v2192 c8_i32_2426
  let c0_i32_2427 : BitVec 32 := 0#32
  let v3459 : BitVec 32 := Scalar.addi v3458 c0_i32_2427
  v3459
def k0_mult507 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2430 : BitVec 32 := 16#32
  let v3468 : BitVec 32 := Scalar.addi v2192 c16_i32_2430
  let c0_i32_2431 : BitVec 32 := 0#32
  let v3469 : BitVec 32 := Scalar.addi v3468 c0_i32_2431
  v3469
def k0_mult508 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2434 : BitVec 32 := 24#32
  let v3478 : BitVec 32 := Scalar.addi v2192 c24_i32_2434
  let c0_i32_2435 : BitVec 32 := 0#32
  let v3479 : BitVec 32 := Scalar.addi v3478 c0_i32_2435
  v3479
def k0_mult509 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c0_i32_2440 : BitVec 32 := 0#32
  let v3491 : BitVec 32 := Scalar.addi v2192 c0_i32_2440
  let c0_i32_2441 : BitVec 32 := 0#32
  let v3492 : BitVec 32 := Scalar.addi v3491 c0_i32_2441
  v3492
def k0_mult510 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c8_i32_2443 : BitVec 32 := 8#32
  let v3500 : BitVec 32 := Scalar.addi v2192 c8_i32_2443
  let c0_i32_2444 : BitVec 32 := 0#32
  let v3501 : BitVec 32 := Scalar.addi v3500 c0_i32_2444
  v3501
def k0_mult511 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c16_i32_2446 : BitVec 32 := 16#32
  let v3509 : BitVec 32 := Scalar.addi v2192 c16_i32_2446
  let c0_i32_2447 : BitVec 32 := 0#32
  let v3510 : BitVec 32 := Scalar.addi v3509 c0_i32_2447
  v3510
def k0_mult512 (k0_t4 : Fin k0_t4_loop.trips) : BitVec 32 :=
  let c0_i32_840 : BitVec 32 := 0#32
  let c1_i32_842 : BitVec 32 := 1#32
  let arg16 : BitVec 32 := Scf.iv c0_i32_840 c1_i32_842 k0_t4
  let c32_i32 : BitVec 32 := 32#32
  let v2192 : BitVec 32 := Scalar.muli arg16 c32_i32
  let c24_i32_2449 : BitVec 32 := 24#32
  let v3518 : BitVec 32 := Scalar.addi v2192 c24_i32_2449
  let c0_i32_2450 : BitVec 32 := 0#32
  let v3519 : BitVec 32 := Scalar.addi v3518 c0_i32_2450
  v3519
@[reducible] def k0_t5_loop : Scf.Loop 32 :=
  let c0_i32_1065 : BitVec 32 := 0#32
  let c16_i32_1066 : BitVec 32 := 16#32
  let v1252 : BitVec 32 := Scalar.addi c0_i32_1065 c16_i32_1066
  let c1_i32_1067 : BitVec 32 := 1#32
  ⟨c0_i32_1065, v1252, c1_i32_1067⟩
def k0_mult513 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_1902 : BitVec 32 := 0#32
  let v2193 : BitVec 32 := Scalar.addi v2192 c0_i32_1902
  v2193
def k0_mult514 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_1903 : BitVec 32 := 8#32
  let v2195 : BitVec 32 := Scalar.addi v2192 c8_i32_1903
  v2195
def k0_mult515 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_1904 : BitVec 32 := 16#32
  let v2197 : BitVec 32 := Scalar.addi v2192 c16_i32_1904
  v2197
def k0_mult516 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32 : BitVec 32 := 24#32
  let v2199 : BitVec 32 := Scalar.addi v2192 c24_i32
  v2199
def k0_off37 (k0_t5 : Fin k0_t5_loop.trips) (c0_i32_1902 : BitVec 32) : Fin 2 → Nat :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let v2193 : BitVec 32 := Scalar.addi v2192 c0_i32_1902
  let v2194 : BitVec 32 := v2193
  let v2201 : Index := Scalar.indexCast v2194
  let c512_1905 : Index := 512#32
  ![v2201.toNat, 512]
def k0_mult517 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_1912 : BitVec 32 := 0#32
  let v2213 : BitVec 32 := Scalar.addi v2192 c0_i32_1912
  let c24_i32_1913 : BitVec 32 := 24#32
  let v2214 : BitVec 32 := Scalar.addi v2213 c24_i32_1913
  v2214
def k0_off38 (k0_t5 : Fin k0_t5_loop.trips) (c0_i32_1912 : BitVec 32) (c24_i32_1913 : BitVec 32) : Fin 3 → Nat :=
  let c5_1914 : Index := 5#32
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let v2213 : BitVec 32 := Scalar.addi v2192 c0_i32_1912
  let v2214 : BitVec 32 := Scalar.addi v2213 c24_i32_1913
  let v2215 : BitVec 32 := v2214
  let v2216 : Index := Scalar.indexCast v2215
  let c0_1915 : Index := 0#32
  ![5, v2216.toNat, 0]
def k0_mult518 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_1916 : BitVec 32 := 8#32
  let v2223 : BitVec 32 := Scalar.addi v2192 c8_i32_1916
  let c24_i32_1917 : BitVec 32 := 24#32
  let v2224 : BitVec 32 := Scalar.addi v2223 c24_i32_1917
  v2224
def k0_mult519 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_1920 : BitVec 32 := 16#32
  let v2233 : BitVec 32 := Scalar.addi v2192 c16_i32_1920
  let c24_i32_1921 : BitVec 32 := 24#32
  let v2234 : BitVec 32 := Scalar.addi v2233 c24_i32_1921
  v2234
def k0_mult520 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_1924 : BitVec 32 := 24#32
  let v2243 : BitVec 32 := Scalar.addi v2192 c24_i32_1924
  let c24_i32_1925 : BitVec 32 := 24#32
  let v2244 : BitVec 32 := Scalar.addi v2243 c24_i32_1925
  v2244
def k0_mult521 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_1930 : BitVec 32 := 0#32
  let v2256 : BitVec 32 := Scalar.addi v2192 c0_i32_1930
  let c24_i32_1931 : BitVec 32 := 24#32
  let v2257 : BitVec 32 := Scalar.addi v2256 c24_i32_1931
  v2257
def k0_off39 (k0_t5 : Fin k0_t5_loop.trips) (c0_i32_1930 : BitVec 32) (c24_i32_1931 : BitVec 32) : Fin 3 → Nat :=
  let c4_1932 : Index := 4#32
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let v2256 : BitVec 32 := Scalar.addi v2192 c0_i32_1930
  let v2257 : BitVec 32 := Scalar.addi v2256 c24_i32_1931
  let v2258 : BitVec 32 := v2257
  let v2259 : Index := Scalar.indexCast v2258
  let c0_1933 : Index := 0#32
  ![4, v2259.toNat, 0]
def k0_mult522 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_1934 : BitVec 32 := 8#32
  let v2266 : BitVec 32 := Scalar.addi v2192 c8_i32_1934
  let c24_i32_1935 : BitVec 32 := 24#32
  let v2267 : BitVec 32 := Scalar.addi v2266 c24_i32_1935
  v2267
def k0_mult523 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_1938 : BitVec 32 := 16#32
  let v2276 : BitVec 32 := Scalar.addi v2192 c16_i32_1938
  let c24_i32_1939 : BitVec 32 := 24#32
  let v2277 : BitVec 32 := Scalar.addi v2276 c24_i32_1939
  v2277
def k0_mult524 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_1942 : BitVec 32 := 24#32
  let v2286 : BitVec 32 := Scalar.addi v2192 c24_i32_1942
  let c24_i32_1943 : BitVec 32 := 24#32
  let v2287 : BitVec 32 := Scalar.addi v2286 c24_i32_1943
  v2287
def k0_mult525 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_1948 : BitVec 32 := 0#32
  let v2299 : BitVec 32 := Scalar.addi v2192 c0_i32_1948
  let c24_i32_1949 : BitVec 32 := 24#32
  let v2300 : BitVec 32 := Scalar.addi v2299 c24_i32_1949
  v2300
def k0_off40 (k0_t5 : Fin k0_t5_loop.trips) (c0_i32_1948 : BitVec 32) (c24_i32_1949 : BitVec 32) : Fin 3 → Nat :=
  let c3_1950 : Index := 3#32
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let v2299 : BitVec 32 := Scalar.addi v2192 c0_i32_1948
  let v2300 : BitVec 32 := Scalar.addi v2299 c24_i32_1949
  let v2301 : BitVec 32 := v2300
  let v2302 : Index := Scalar.indexCast v2301
  let c0_1951 : Index := 0#32
  ![3, v2302.toNat, 0]
def k0_mult526 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_1952 : BitVec 32 := 8#32
  let v2309 : BitVec 32 := Scalar.addi v2192 c8_i32_1952
  let c24_i32_1953 : BitVec 32 := 24#32
  let v2310 : BitVec 32 := Scalar.addi v2309 c24_i32_1953
  v2310
def k0_mult527 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_1956 : BitVec 32 := 16#32
  let v2319 : BitVec 32 := Scalar.addi v2192 c16_i32_1956
  let c24_i32_1957 : BitVec 32 := 24#32
  let v2320 : BitVec 32 := Scalar.addi v2319 c24_i32_1957
  v2320
def k0_mult528 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_1960 : BitVec 32 := 24#32
  let v2329 : BitVec 32 := Scalar.addi v2192 c24_i32_1960
  let c24_i32_1961 : BitVec 32 := 24#32
  let v2330 : BitVec 32 := Scalar.addi v2329 c24_i32_1961
  v2330
def k0_mult529 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_1966 : BitVec 32 := 0#32
  let v2342 : BitVec 32 := Scalar.addi v2192 c0_i32_1966
  let c24_i32_1967 : BitVec 32 := 24#32
  let v2343 : BitVec 32 := Scalar.addi v2342 c24_i32_1967
  v2343
def k0_off41 (k0_t5 : Fin k0_t5_loop.trips) (c0_i32_1966 : BitVec 32) (c24_i32_1967 : BitVec 32) : Fin 3 → Nat :=
  let c2_1968 : Index := 2#32
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let v2342 : BitVec 32 := Scalar.addi v2192 c0_i32_1966
  let v2343 : BitVec 32 := Scalar.addi v2342 c24_i32_1967
  let v2344 : BitVec 32 := v2343
  let v2345 : Index := Scalar.indexCast v2344
  let c0_1969 : Index := 0#32
  ![2, v2345.toNat, 0]
def k0_mult530 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_1970 : BitVec 32 := 8#32
  let v2352 : BitVec 32 := Scalar.addi v2192 c8_i32_1970
  let c24_i32_1971 : BitVec 32 := 24#32
  let v2353 : BitVec 32 := Scalar.addi v2352 c24_i32_1971
  v2353
def k0_mult531 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_1974 : BitVec 32 := 16#32
  let v2362 : BitVec 32 := Scalar.addi v2192 c16_i32_1974
  let c24_i32_1975 : BitVec 32 := 24#32
  let v2363 : BitVec 32 := Scalar.addi v2362 c24_i32_1975
  v2363
def k0_mult532 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_1978 : BitVec 32 := 24#32
  let v2372 : BitVec 32 := Scalar.addi v2192 c24_i32_1978
  let c24_i32_1979 : BitVec 32 := 24#32
  let v2373 : BitVec 32 := Scalar.addi v2372 c24_i32_1979
  v2373
def k0_mult533 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_1984 : BitVec 32 := 0#32
  let v2385 : BitVec 32 := Scalar.addi v2192 c0_i32_1984
  let c24_i32_1985 : BitVec 32 := 24#32
  let v2386 : BitVec 32 := Scalar.addi v2385 c24_i32_1985
  v2386
def k0_off42 (k0_t5 : Fin k0_t5_loop.trips) (c0_i32_1984 : BitVec 32) (c24_i32_1985 : BitVec 32) : Fin 3 → Nat :=
  let c1_1986 : Index := 1#32
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let v2385 : BitVec 32 := Scalar.addi v2192 c0_i32_1984
  let v2386 : BitVec 32 := Scalar.addi v2385 c24_i32_1985
  let v2387 : BitVec 32 := v2386
  let v2388 : Index := Scalar.indexCast v2387
  let c0_1987 : Index := 0#32
  ![1, v2388.toNat, 0]
def k0_mult534 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_1988 : BitVec 32 := 8#32
  let v2395 : BitVec 32 := Scalar.addi v2192 c8_i32_1988
  let c24_i32_1989 : BitVec 32 := 24#32
  let v2396 : BitVec 32 := Scalar.addi v2395 c24_i32_1989
  v2396
def k0_mult535 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_1992 : BitVec 32 := 16#32
  let v2405 : BitVec 32 := Scalar.addi v2192 c16_i32_1992
  let c24_i32_1993 : BitVec 32 := 24#32
  let v2406 : BitVec 32 := Scalar.addi v2405 c24_i32_1993
  v2406
def k0_mult536 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_1996 : BitVec 32 := 24#32
  let v2415 : BitVec 32 := Scalar.addi v2192 c24_i32_1996
  let c24_i32_1997 : BitVec 32 := 24#32
  let v2416 : BitVec 32 := Scalar.addi v2415 c24_i32_1997
  v2416
def k0_mult537 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2002 : BitVec 32 := 0#32
  let v2428 : BitVec 32 := Scalar.addi v2192 c0_i32_2002
  let c24_i32_2003 : BitVec 32 := 24#32
  let v2429 : BitVec 32 := Scalar.addi v2428 c24_i32_2003
  v2429
def k0_off43 (k0_t5 : Fin k0_t5_loop.trips) (c0_i32_2002 : BitVec 32) (c24_i32_2003 : BitVec 32) : Fin 3 → Nat :=
  let c0_2004 : Index := 0#32
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let v2428 : BitVec 32 := Scalar.addi v2192 c0_i32_2002
  let v2429 : BitVec 32 := Scalar.addi v2428 c24_i32_2003
  let v2430 : BitVec 32 := v2429
  let v2431 : Index := Scalar.indexCast v2430
  let c0_2005 : Index := 0#32
  ![0, v2431.toNat, 0]
def k0_mult538 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2006 : BitVec 32 := 8#32
  let v2438 : BitVec 32 := Scalar.addi v2192 c8_i32_2006
  let c24_i32_2007 : BitVec 32 := 24#32
  let v2439 : BitVec 32 := Scalar.addi v2438 c24_i32_2007
  v2439
def k0_mult539 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2010 : BitVec 32 := 16#32
  let v2448 : BitVec 32 := Scalar.addi v2192 c16_i32_2010
  let c24_i32_2011 : BitVec 32 := 24#32
  let v2449 : BitVec 32 := Scalar.addi v2448 c24_i32_2011
  v2449
def k0_mult540 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2014 : BitVec 32 := 24#32
  let v2458 : BitVec 32 := Scalar.addi v2192 c24_i32_2014
  let c24_i32_2015 : BitVec 32 := 24#32
  let v2459 : BitVec 32 := Scalar.addi v2458 c24_i32_2015
  v2459
def k0_mult541 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2020 : BitVec 32 := 0#32
  let v2471 : BitVec 32 := Scalar.addi v2192 c0_i32_2020
  let c24_i32_2021 : BitVec 32 := 24#32
  let v2472 : BitVec 32 := Scalar.addi v2471 c24_i32_2021
  v2472
def k0_off44 (k0_t5 : Fin k0_t5_loop.trips) (c0_i32_2020 : BitVec 32) (c24_i32_2021 : BitVec 32) : Fin 2 → Nat :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let v2471 : BitVec 32 := Scalar.addi v2192 c0_i32_2020
  let v2472 : BitVec 32 := Scalar.addi v2471 c24_i32_2021
  let v2473 : BitVec 32 := v2472
  let v2474 : Index := Scalar.indexCast v2473
  let c512_2022 : Index := 512#32
  ![v2474.toNat, 512]
def k0_mult542 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2023 : BitVec 32 := 8#32
  let v2480 : BitVec 32 := Scalar.addi v2192 c8_i32_2023
  let c24_i32_2024 : BitVec 32 := 24#32
  let v2481 : BitVec 32 := Scalar.addi v2480 c24_i32_2024
  v2481
def k0_mult543 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2026 : BitVec 32 := 16#32
  let v2489 : BitVec 32 := Scalar.addi v2192 c16_i32_2026
  let c24_i32_2027 : BitVec 32 := 24#32
  let v2490 : BitVec 32 := Scalar.addi v2489 c24_i32_2027
  v2490
def k0_mult544 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2029 : BitVec 32 := 24#32
  let v2498 : BitVec 32 := Scalar.addi v2192 c24_i32_2029
  let c24_i32_2030 : BitVec 32 := 24#32
  let v2499 : BitVec 32 := Scalar.addi v2498 c24_i32_2030
  v2499
def k0_mult545 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2034 : BitVec 32 := 0#32
  let v2510 : BitVec 32 := Scalar.addi v2192 c0_i32_2034
  let c16_i32_2035 : BitVec 32 := 16#32
  let v2511 : BitVec 32 := Scalar.addi v2510 c16_i32_2035
  v2511
def k0_off45 (k0_t5 : Fin k0_t5_loop.trips) (c0_i32_2034 : BitVec 32) (c16_i32_2035 : BitVec 32) : Fin 3 → Nat :=
  let c6_2036 : Index := 6#32
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let v2510 : BitVec 32 := Scalar.addi v2192 c0_i32_2034
  let v2511 : BitVec 32 := Scalar.addi v2510 c16_i32_2035
  let v2512 : BitVec 32 := v2511
  let v2513 : Index := Scalar.indexCast v2512
  let c0_2037 : Index := 0#32
  ![6, v2513.toNat, 0]
def k0_mult546 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2038 : BitVec 32 := 8#32
  let v2520 : BitVec 32 := Scalar.addi v2192 c8_i32_2038
  let c16_i32_2039 : BitVec 32 := 16#32
  let v2521 : BitVec 32 := Scalar.addi v2520 c16_i32_2039
  v2521
def k0_mult547 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2042 : BitVec 32 := 16#32
  let v2530 : BitVec 32 := Scalar.addi v2192 c16_i32_2042
  let c16_i32_2043 : BitVec 32 := 16#32
  let v2531 : BitVec 32 := Scalar.addi v2530 c16_i32_2043
  v2531
def k0_mult548 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2046 : BitVec 32 := 24#32
  let v2540 : BitVec 32 := Scalar.addi v2192 c24_i32_2046
  let c16_i32_2047 : BitVec 32 := 16#32
  let v2541 : BitVec 32 := Scalar.addi v2540 c16_i32_2047
  v2541
def k0_mult549 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2052 : BitVec 32 := 0#32
  let v2553 : BitVec 32 := Scalar.addi v2192 c0_i32_2052
  let c16_i32_2053 : BitVec 32 := 16#32
  let v2554 : BitVec 32 := Scalar.addi v2553 c16_i32_2053
  v2554
def k0_mult550 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2056 : BitVec 32 := 8#32
  let v2563 : BitVec 32 := Scalar.addi v2192 c8_i32_2056
  let c16_i32_2057 : BitVec 32 := 16#32
  let v2564 : BitVec 32 := Scalar.addi v2563 c16_i32_2057
  v2564
def k0_mult551 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2060 : BitVec 32 := 16#32
  let v2573 : BitVec 32 := Scalar.addi v2192 c16_i32_2060
  let c16_i32_2061 : BitVec 32 := 16#32
  let v2574 : BitVec 32 := Scalar.addi v2573 c16_i32_2061
  v2574
def k0_mult552 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2064 : BitVec 32 := 24#32
  let v2583 : BitVec 32 := Scalar.addi v2192 c24_i32_2064
  let c16_i32_2065 : BitVec 32 := 16#32
  let v2584 : BitVec 32 := Scalar.addi v2583 c16_i32_2065
  v2584
def k0_mult553 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2070 : BitVec 32 := 0#32
  let v2596 : BitVec 32 := Scalar.addi v2192 c0_i32_2070
  let c16_i32_2071 : BitVec 32 := 16#32
  let v2597 : BitVec 32 := Scalar.addi v2596 c16_i32_2071
  v2597
def k0_mult554 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2074 : BitVec 32 := 8#32
  let v2606 : BitVec 32 := Scalar.addi v2192 c8_i32_2074
  let c16_i32_2075 : BitVec 32 := 16#32
  let v2607 : BitVec 32 := Scalar.addi v2606 c16_i32_2075
  v2607
def k0_mult555 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2078 : BitVec 32 := 16#32
  let v2616 : BitVec 32 := Scalar.addi v2192 c16_i32_2078
  let c16_i32_2079 : BitVec 32 := 16#32
  let v2617 : BitVec 32 := Scalar.addi v2616 c16_i32_2079
  v2617
def k0_mult556 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2082 : BitVec 32 := 24#32
  let v2626 : BitVec 32 := Scalar.addi v2192 c24_i32_2082
  let c16_i32_2083 : BitVec 32 := 16#32
  let v2627 : BitVec 32 := Scalar.addi v2626 c16_i32_2083
  v2627
def k0_mult557 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2088 : BitVec 32 := 0#32
  let v2639 : BitVec 32 := Scalar.addi v2192 c0_i32_2088
  let c16_i32_2089 : BitVec 32 := 16#32
  let v2640 : BitVec 32 := Scalar.addi v2639 c16_i32_2089
  v2640
def k0_mult558 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2092 : BitVec 32 := 8#32
  let v2649 : BitVec 32 := Scalar.addi v2192 c8_i32_2092
  let c16_i32_2093 : BitVec 32 := 16#32
  let v2650 : BitVec 32 := Scalar.addi v2649 c16_i32_2093
  v2650
def k0_mult559 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2096 : BitVec 32 := 16#32
  let v2659 : BitVec 32 := Scalar.addi v2192 c16_i32_2096
  let c16_i32_2097 : BitVec 32 := 16#32
  let v2660 : BitVec 32 := Scalar.addi v2659 c16_i32_2097
  v2660
def k0_mult560 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2100 : BitVec 32 := 24#32
  let v2669 : BitVec 32 := Scalar.addi v2192 c24_i32_2100
  let c16_i32_2101 : BitVec 32 := 16#32
  let v2670 : BitVec 32 := Scalar.addi v2669 c16_i32_2101
  v2670
def k0_mult561 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2106 : BitVec 32 := 0#32
  let v2682 : BitVec 32 := Scalar.addi v2192 c0_i32_2106
  let c16_i32_2107 : BitVec 32 := 16#32
  let v2683 : BitVec 32 := Scalar.addi v2682 c16_i32_2107
  v2683
def k0_mult562 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2110 : BitVec 32 := 8#32
  let v2692 : BitVec 32 := Scalar.addi v2192 c8_i32_2110
  let c16_i32_2111 : BitVec 32 := 16#32
  let v2693 : BitVec 32 := Scalar.addi v2692 c16_i32_2111
  v2693
def k0_mult563 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2114 : BitVec 32 := 16#32
  let v2702 : BitVec 32 := Scalar.addi v2192 c16_i32_2114
  let c16_i32_2115 : BitVec 32 := 16#32
  let v2703 : BitVec 32 := Scalar.addi v2702 c16_i32_2115
  v2703
def k0_mult564 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2118 : BitVec 32 := 24#32
  let v2712 : BitVec 32 := Scalar.addi v2192 c24_i32_2118
  let c16_i32_2119 : BitVec 32 := 16#32
  let v2713 : BitVec 32 := Scalar.addi v2712 c16_i32_2119
  v2713
def k0_mult565 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2124 : BitVec 32 := 0#32
  let v2725 : BitVec 32 := Scalar.addi v2192 c0_i32_2124
  let c16_i32_2125 : BitVec 32 := 16#32
  let v2726 : BitVec 32 := Scalar.addi v2725 c16_i32_2125
  v2726
def k0_mult566 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2128 : BitVec 32 := 8#32
  let v2735 : BitVec 32 := Scalar.addi v2192 c8_i32_2128
  let c16_i32_2129 : BitVec 32 := 16#32
  let v2736 : BitVec 32 := Scalar.addi v2735 c16_i32_2129
  v2736
def k0_mult567 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2132 : BitVec 32 := 16#32
  let v2745 : BitVec 32 := Scalar.addi v2192 c16_i32_2132
  let c16_i32_2133 : BitVec 32 := 16#32
  let v2746 : BitVec 32 := Scalar.addi v2745 c16_i32_2133
  v2746
def k0_mult568 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2136 : BitVec 32 := 24#32
  let v2755 : BitVec 32 := Scalar.addi v2192 c24_i32_2136
  let c16_i32_2137 : BitVec 32 := 16#32
  let v2756 : BitVec 32 := Scalar.addi v2755 c16_i32_2137
  v2756
def k0_mult569 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2142 : BitVec 32 := 0#32
  let v2768 : BitVec 32 := Scalar.addi v2192 c0_i32_2142
  let c16_i32_2143 : BitVec 32 := 16#32
  let v2769 : BitVec 32 := Scalar.addi v2768 c16_i32_2143
  v2769
def k0_mult570 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2146 : BitVec 32 := 8#32
  let v2778 : BitVec 32 := Scalar.addi v2192 c8_i32_2146
  let c16_i32_2147 : BitVec 32 := 16#32
  let v2779 : BitVec 32 := Scalar.addi v2778 c16_i32_2147
  v2779
def k0_mult571 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2150 : BitVec 32 := 16#32
  let v2788 : BitVec 32 := Scalar.addi v2192 c16_i32_2150
  let c16_i32_2151 : BitVec 32 := 16#32
  let v2789 : BitVec 32 := Scalar.addi v2788 c16_i32_2151
  v2789
def k0_mult572 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2154 : BitVec 32 := 24#32
  let v2798 : BitVec 32 := Scalar.addi v2192 c24_i32_2154
  let c16_i32_2155 : BitVec 32 := 16#32
  let v2799 : BitVec 32 := Scalar.addi v2798 c16_i32_2155
  v2799
def k0_mult573 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2160 : BitVec 32 := 0#32
  let v2811 : BitVec 32 := Scalar.addi v2192 c0_i32_2160
  let c16_i32_2161 : BitVec 32 := 16#32
  let v2812 : BitVec 32 := Scalar.addi v2811 c16_i32_2161
  v2812
def k0_mult574 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2163 : BitVec 32 := 8#32
  let v2820 : BitVec 32 := Scalar.addi v2192 c8_i32_2163
  let c16_i32_2164 : BitVec 32 := 16#32
  let v2821 : BitVec 32 := Scalar.addi v2820 c16_i32_2164
  v2821
def k0_mult575 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2166 : BitVec 32 := 16#32
  let v2829 : BitVec 32 := Scalar.addi v2192 c16_i32_2166
  let c16_i32_2167 : BitVec 32 := 16#32
  let v2830 : BitVec 32 := Scalar.addi v2829 c16_i32_2167
  v2830
def k0_mult576 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2169 : BitVec 32 := 24#32
  let v2838 : BitVec 32 := Scalar.addi v2192 c24_i32_2169
  let c16_i32_2170 : BitVec 32 := 16#32
  let v2839 : BitVec 32 := Scalar.addi v2838 c16_i32_2170
  v2839
def k0_mult577 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2174 : BitVec 32 := 0#32
  let v2850 : BitVec 32 := Scalar.addi v2192 c0_i32_2174
  let c8_i32_2175 : BitVec 32 := 8#32
  let v2851 : BitVec 32 := Scalar.addi v2850 c8_i32_2175
  v2851
def k0_mult578 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2178 : BitVec 32 := 8#32
  let v2860 : BitVec 32 := Scalar.addi v2192 c8_i32_2178
  let c8_i32_2179 : BitVec 32 := 8#32
  let v2861 : BitVec 32 := Scalar.addi v2860 c8_i32_2179
  v2861
def k0_mult579 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2182 : BitVec 32 := 16#32
  let v2870 : BitVec 32 := Scalar.addi v2192 c16_i32_2182
  let c8_i32_2183 : BitVec 32 := 8#32
  let v2871 : BitVec 32 := Scalar.addi v2870 c8_i32_2183
  v2871
def k0_mult580 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2186 : BitVec 32 := 24#32
  let v2880 : BitVec 32 := Scalar.addi v2192 c24_i32_2186
  let c8_i32_2187 : BitVec 32 := 8#32
  let v2881 : BitVec 32 := Scalar.addi v2880 c8_i32_2187
  v2881
def k0_mult581 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2192 : BitVec 32 := 0#32
  let v2893 : BitVec 32 := Scalar.addi v2192 c0_i32_2192
  let c8_i32_2193 : BitVec 32 := 8#32
  let v2894 : BitVec 32 := Scalar.addi v2893 c8_i32_2193
  v2894
def k0_mult582 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2196 : BitVec 32 := 8#32
  let v2903 : BitVec 32 := Scalar.addi v2192 c8_i32_2196
  let c8_i32_2197 : BitVec 32 := 8#32
  let v2904 : BitVec 32 := Scalar.addi v2903 c8_i32_2197
  v2904
def k0_mult583 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2200 : BitVec 32 := 16#32
  let v2913 : BitVec 32 := Scalar.addi v2192 c16_i32_2200
  let c8_i32_2201 : BitVec 32 := 8#32
  let v2914 : BitVec 32 := Scalar.addi v2913 c8_i32_2201
  v2914
def k0_mult584 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2204 : BitVec 32 := 24#32
  let v2923 : BitVec 32 := Scalar.addi v2192 c24_i32_2204
  let c8_i32_2205 : BitVec 32 := 8#32
  let v2924 : BitVec 32 := Scalar.addi v2923 c8_i32_2205
  v2924
def k0_mult585 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2210 : BitVec 32 := 0#32
  let v2936 : BitVec 32 := Scalar.addi v2192 c0_i32_2210
  let c8_i32_2211 : BitVec 32 := 8#32
  let v2937 : BitVec 32 := Scalar.addi v2936 c8_i32_2211
  v2937
def k0_mult586 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2214 : BitVec 32 := 8#32
  let v2946 : BitVec 32 := Scalar.addi v2192 c8_i32_2214
  let c8_i32_2215 : BitVec 32 := 8#32
  let v2947 : BitVec 32 := Scalar.addi v2946 c8_i32_2215
  v2947
def k0_mult587 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2218 : BitVec 32 := 16#32
  let v2956 : BitVec 32 := Scalar.addi v2192 c16_i32_2218
  let c8_i32_2219 : BitVec 32 := 8#32
  let v2957 : BitVec 32 := Scalar.addi v2956 c8_i32_2219
  v2957
def k0_mult588 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2222 : BitVec 32 := 24#32
  let v2966 : BitVec 32 := Scalar.addi v2192 c24_i32_2222
  let c8_i32_2223 : BitVec 32 := 8#32
  let v2967 : BitVec 32 := Scalar.addi v2966 c8_i32_2223
  v2967
def k0_mult589 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2228 : BitVec 32 := 0#32
  let v2979 : BitVec 32 := Scalar.addi v2192 c0_i32_2228
  let c8_i32_2229 : BitVec 32 := 8#32
  let v2980 : BitVec 32 := Scalar.addi v2979 c8_i32_2229
  v2980
def k0_mult590 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2232 : BitVec 32 := 8#32
  let v2989 : BitVec 32 := Scalar.addi v2192 c8_i32_2232
  let c8_i32_2233 : BitVec 32 := 8#32
  let v2990 : BitVec 32 := Scalar.addi v2989 c8_i32_2233
  v2990
def k0_mult591 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2236 : BitVec 32 := 16#32
  let v2999 : BitVec 32 := Scalar.addi v2192 c16_i32_2236
  let c8_i32_2237 : BitVec 32 := 8#32
  let v3000 : BitVec 32 := Scalar.addi v2999 c8_i32_2237
  v3000
def k0_mult592 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2240 : BitVec 32 := 24#32
  let v3009 : BitVec 32 := Scalar.addi v2192 c24_i32_2240
  let c8_i32_2241 : BitVec 32 := 8#32
  let v3010 : BitVec 32 := Scalar.addi v3009 c8_i32_2241
  v3010
def k0_mult593 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2246 : BitVec 32 := 0#32
  let v3022 : BitVec 32 := Scalar.addi v2192 c0_i32_2246
  let c8_i32_2247 : BitVec 32 := 8#32
  let v3023 : BitVec 32 := Scalar.addi v3022 c8_i32_2247
  v3023
def k0_mult594 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2250 : BitVec 32 := 8#32
  let v3032 : BitVec 32 := Scalar.addi v2192 c8_i32_2250
  let c8_i32_2251 : BitVec 32 := 8#32
  let v3033 : BitVec 32 := Scalar.addi v3032 c8_i32_2251
  v3033
def k0_mult595 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2254 : BitVec 32 := 16#32
  let v3042 : BitVec 32 := Scalar.addi v2192 c16_i32_2254
  let c8_i32_2255 : BitVec 32 := 8#32
  let v3043 : BitVec 32 := Scalar.addi v3042 c8_i32_2255
  v3043
def k0_mult596 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2258 : BitVec 32 := 24#32
  let v3052 : BitVec 32 := Scalar.addi v2192 c24_i32_2258
  let c8_i32_2259 : BitVec 32 := 8#32
  let v3053 : BitVec 32 := Scalar.addi v3052 c8_i32_2259
  v3053
def k0_mult597 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2264 : BitVec 32 := 0#32
  let v3065 : BitVec 32 := Scalar.addi v2192 c0_i32_2264
  let c8_i32_2265 : BitVec 32 := 8#32
  let v3066 : BitVec 32 := Scalar.addi v3065 c8_i32_2265
  v3066
def k0_mult598 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2268 : BitVec 32 := 8#32
  let v3075 : BitVec 32 := Scalar.addi v2192 c8_i32_2268
  let c8_i32_2269 : BitVec 32 := 8#32
  let v3076 : BitVec 32 := Scalar.addi v3075 c8_i32_2269
  v3076
def k0_mult599 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2272 : BitVec 32 := 16#32
  let v3085 : BitVec 32 := Scalar.addi v2192 c16_i32_2272
  let c8_i32_2273 : BitVec 32 := 8#32
  let v3086 : BitVec 32 := Scalar.addi v3085 c8_i32_2273
  v3086
def k0_mult600 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2276 : BitVec 32 := 24#32
  let v3095 : BitVec 32 := Scalar.addi v2192 c24_i32_2276
  let c8_i32_2277 : BitVec 32 := 8#32
  let v3096 : BitVec 32 := Scalar.addi v3095 c8_i32_2277
  v3096
def k0_mult601 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2282 : BitVec 32 := 0#32
  let v3108 : BitVec 32 := Scalar.addi v2192 c0_i32_2282
  let c8_i32_2283 : BitVec 32 := 8#32
  let v3109 : BitVec 32 := Scalar.addi v3108 c8_i32_2283
  v3109
def k0_mult602 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2286 : BitVec 32 := 8#32
  let v3118 : BitVec 32 := Scalar.addi v2192 c8_i32_2286
  let c8_i32_2287 : BitVec 32 := 8#32
  let v3119 : BitVec 32 := Scalar.addi v3118 c8_i32_2287
  v3119
def k0_mult603 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2290 : BitVec 32 := 16#32
  let v3128 : BitVec 32 := Scalar.addi v2192 c16_i32_2290
  let c8_i32_2291 : BitVec 32 := 8#32
  let v3129 : BitVec 32 := Scalar.addi v3128 c8_i32_2291
  v3129
def k0_mult604 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2294 : BitVec 32 := 24#32
  let v3138 : BitVec 32 := Scalar.addi v2192 c24_i32_2294
  let c8_i32_2295 : BitVec 32 := 8#32
  let v3139 : BitVec 32 := Scalar.addi v3138 c8_i32_2295
  v3139
def k0_mult605 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2300 : BitVec 32 := 0#32
  let v3151 : BitVec 32 := Scalar.addi v2192 c0_i32_2300
  let c8_i32_2301 : BitVec 32 := 8#32
  let v3152 : BitVec 32 := Scalar.addi v3151 c8_i32_2301
  v3152
def k0_mult606 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2303 : BitVec 32 := 8#32
  let v3160 : BitVec 32 := Scalar.addi v2192 c8_i32_2303
  let c8_i32_2304 : BitVec 32 := 8#32
  let v3161 : BitVec 32 := Scalar.addi v3160 c8_i32_2304
  v3161
def k0_mult607 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2306 : BitVec 32 := 16#32
  let v3169 : BitVec 32 := Scalar.addi v2192 c16_i32_2306
  let c8_i32_2307 : BitVec 32 := 8#32
  let v3170 : BitVec 32 := Scalar.addi v3169 c8_i32_2307
  v3170
def k0_mult608 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2309 : BitVec 32 := 24#32
  let v3178 : BitVec 32 := Scalar.addi v2192 c24_i32_2309
  let c8_i32_2310 : BitVec 32 := 8#32
  let v3179 : BitVec 32 := Scalar.addi v3178 c8_i32_2310
  v3179
def k0_mult609 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2314 : BitVec 32 := 0#32
  let v3190 : BitVec 32 := Scalar.addi v2192 c0_i32_2314
  let c0_i32_2315 : BitVec 32 := 0#32
  let v3191 : BitVec 32 := Scalar.addi v3190 c0_i32_2315
  v3191
def k0_mult610 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2318 : BitVec 32 := 8#32
  let v3200 : BitVec 32 := Scalar.addi v2192 c8_i32_2318
  let c0_i32_2319 : BitVec 32 := 0#32
  let v3201 : BitVec 32 := Scalar.addi v3200 c0_i32_2319
  v3201
def k0_mult611 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2322 : BitVec 32 := 16#32
  let v3210 : BitVec 32 := Scalar.addi v2192 c16_i32_2322
  let c0_i32_2323 : BitVec 32 := 0#32
  let v3211 : BitVec 32 := Scalar.addi v3210 c0_i32_2323
  v3211
def k0_mult612 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2326 : BitVec 32 := 24#32
  let v3220 : BitVec 32 := Scalar.addi v2192 c24_i32_2326
  let c0_i32_2327 : BitVec 32 := 0#32
  let v3221 : BitVec 32 := Scalar.addi v3220 c0_i32_2327
  v3221
def k0_mult613 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2332 : BitVec 32 := 0#32
  let v3233 : BitVec 32 := Scalar.addi v2192 c0_i32_2332
  let c0_i32_2333 : BitVec 32 := 0#32
  let v3234 : BitVec 32 := Scalar.addi v3233 c0_i32_2333
  v3234
def k0_mult614 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2336 : BitVec 32 := 8#32
  let v3243 : BitVec 32 := Scalar.addi v2192 c8_i32_2336
  let c0_i32_2337 : BitVec 32 := 0#32
  let v3244 : BitVec 32 := Scalar.addi v3243 c0_i32_2337
  v3244
def k0_mult615 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2340 : BitVec 32 := 16#32
  let v3253 : BitVec 32 := Scalar.addi v2192 c16_i32_2340
  let c0_i32_2341 : BitVec 32 := 0#32
  let v3254 : BitVec 32 := Scalar.addi v3253 c0_i32_2341
  v3254
def k0_mult616 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2344 : BitVec 32 := 24#32
  let v3263 : BitVec 32 := Scalar.addi v2192 c24_i32_2344
  let c0_i32_2345 : BitVec 32 := 0#32
  let v3264 : BitVec 32 := Scalar.addi v3263 c0_i32_2345
  v3264
def k0_mult617 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2350 : BitVec 32 := 0#32
  let v3276 : BitVec 32 := Scalar.addi v2192 c0_i32_2350
  let c0_i32_2351 : BitVec 32 := 0#32
  let v3277 : BitVec 32 := Scalar.addi v3276 c0_i32_2351
  v3277
def k0_mult618 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2354 : BitVec 32 := 8#32
  let v3286 : BitVec 32 := Scalar.addi v2192 c8_i32_2354
  let c0_i32_2355 : BitVec 32 := 0#32
  let v3287 : BitVec 32 := Scalar.addi v3286 c0_i32_2355
  v3287
def k0_mult619 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2358 : BitVec 32 := 16#32
  let v3296 : BitVec 32 := Scalar.addi v2192 c16_i32_2358
  let c0_i32_2359 : BitVec 32 := 0#32
  let v3297 : BitVec 32 := Scalar.addi v3296 c0_i32_2359
  v3297
def k0_mult620 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2362 : BitVec 32 := 24#32
  let v3306 : BitVec 32 := Scalar.addi v2192 c24_i32_2362
  let c0_i32_2363 : BitVec 32 := 0#32
  let v3307 : BitVec 32 := Scalar.addi v3306 c0_i32_2363
  v3307
def k0_mult621 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2368 : BitVec 32 := 0#32
  let v3319 : BitVec 32 := Scalar.addi v2192 c0_i32_2368
  let c0_i32_2369 : BitVec 32 := 0#32
  let v3320 : BitVec 32 := Scalar.addi v3319 c0_i32_2369
  v3320
def k0_mult622 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2372 : BitVec 32 := 8#32
  let v3329 : BitVec 32 := Scalar.addi v2192 c8_i32_2372
  let c0_i32_2373 : BitVec 32 := 0#32
  let v3330 : BitVec 32 := Scalar.addi v3329 c0_i32_2373
  v3330
def k0_mult623 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2376 : BitVec 32 := 16#32
  let v3339 : BitVec 32 := Scalar.addi v2192 c16_i32_2376
  let c0_i32_2377 : BitVec 32 := 0#32
  let v3340 : BitVec 32 := Scalar.addi v3339 c0_i32_2377
  v3340
def k0_mult624 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2380 : BitVec 32 := 24#32
  let v3349 : BitVec 32 := Scalar.addi v2192 c24_i32_2380
  let c0_i32_2381 : BitVec 32 := 0#32
  let v3350 : BitVec 32 := Scalar.addi v3349 c0_i32_2381
  v3350
def k0_mult625 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2386 : BitVec 32 := 0#32
  let v3362 : BitVec 32 := Scalar.addi v2192 c0_i32_2386
  let c0_i32_2387 : BitVec 32 := 0#32
  let v3363 : BitVec 32 := Scalar.addi v3362 c0_i32_2387
  v3363
def k0_mult626 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2390 : BitVec 32 := 8#32
  let v3372 : BitVec 32 := Scalar.addi v2192 c8_i32_2390
  let c0_i32_2391 : BitVec 32 := 0#32
  let v3373 : BitVec 32 := Scalar.addi v3372 c0_i32_2391
  v3373
def k0_mult627 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2394 : BitVec 32 := 16#32
  let v3382 : BitVec 32 := Scalar.addi v2192 c16_i32_2394
  let c0_i32_2395 : BitVec 32 := 0#32
  let v3383 : BitVec 32 := Scalar.addi v3382 c0_i32_2395
  v3383
def k0_mult628 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2398 : BitVec 32 := 24#32
  let v3392 : BitVec 32 := Scalar.addi v2192 c24_i32_2398
  let c0_i32_2399 : BitVec 32 := 0#32
  let v3393 : BitVec 32 := Scalar.addi v3392 c0_i32_2399
  v3393
def k0_mult629 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2404 : BitVec 32 := 0#32
  let v3405 : BitVec 32 := Scalar.addi v2192 c0_i32_2404
  let c0_i32_2405 : BitVec 32 := 0#32
  let v3406 : BitVec 32 := Scalar.addi v3405 c0_i32_2405
  v3406
def k0_mult630 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2408 : BitVec 32 := 8#32
  let v3415 : BitVec 32 := Scalar.addi v2192 c8_i32_2408
  let c0_i32_2409 : BitVec 32 := 0#32
  let v3416 : BitVec 32 := Scalar.addi v3415 c0_i32_2409
  v3416
def k0_mult631 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2412 : BitVec 32 := 16#32
  let v3425 : BitVec 32 := Scalar.addi v2192 c16_i32_2412
  let c0_i32_2413 : BitVec 32 := 0#32
  let v3426 : BitVec 32 := Scalar.addi v3425 c0_i32_2413
  v3426
def k0_mult632 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2416 : BitVec 32 := 24#32
  let v3435 : BitVec 32 := Scalar.addi v2192 c24_i32_2416
  let c0_i32_2417 : BitVec 32 := 0#32
  let v3436 : BitVec 32 := Scalar.addi v3435 c0_i32_2417
  v3436
def k0_mult633 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2422 : BitVec 32 := 0#32
  let v3448 : BitVec 32 := Scalar.addi v2192 c0_i32_2422
  let c0_i32_2423 : BitVec 32 := 0#32
  let v3449 : BitVec 32 := Scalar.addi v3448 c0_i32_2423
  v3449
def k0_mult634 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2426 : BitVec 32 := 8#32
  let v3458 : BitVec 32 := Scalar.addi v2192 c8_i32_2426
  let c0_i32_2427 : BitVec 32 := 0#32
  let v3459 : BitVec 32 := Scalar.addi v3458 c0_i32_2427
  v3459
def k0_mult635 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2430 : BitVec 32 := 16#32
  let v3468 : BitVec 32 := Scalar.addi v2192 c16_i32_2430
  let c0_i32_2431 : BitVec 32 := 0#32
  let v3469 : BitVec 32 := Scalar.addi v3468 c0_i32_2431
  v3469
def k0_mult636 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2434 : BitVec 32 := 24#32
  let v3478 : BitVec 32 := Scalar.addi v2192 c24_i32_2434
  let c0_i32_2435 : BitVec 32 := 0#32
  let v3479 : BitVec 32 := Scalar.addi v3478 c0_i32_2435
  v3479
def k0_mult637 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c0_i32_2440 : BitVec 32 := 0#32
  let v3491 : BitVec 32 := Scalar.addi v2192 c0_i32_2440
  let c0_i32_2441 : BitVec 32 := 0#32
  let v3492 : BitVec 32 := Scalar.addi v3491 c0_i32_2441
  v3492
def k0_mult638 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c8_i32_2443 : BitVec 32 := 8#32
  let v3500 : BitVec 32 := Scalar.addi v2192 c8_i32_2443
  let c0_i32_2444 : BitVec 32 := 0#32
  let v3501 : BitVec 32 := Scalar.addi v3500 c0_i32_2444
  v3501
def k0_mult639 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c16_i32_2446 : BitVec 32 := 16#32
  let v3509 : BitVec 32 := Scalar.addi v2192 c16_i32_2446
  let c0_i32_2447 : BitVec 32 := 0#32
  let v3510 : BitVec 32 := Scalar.addi v3509 c0_i32_2447
  v3510
def k0_mult640 (k0_t5 : Fin k0_t5_loop.trips) : BitVec 32 :=
  let c0_i32_1065 : BitVec 32 := 0#32
  let c1_i32_1067 : BitVec 32 := 1#32
  let arg16 : BitVec 32 := Scf.iv c0_i32_1065 c1_i32_1067 k0_t5
  let c32_i32 : BitVec 32 := 32#32
  let v2192 : BitVec 32 := Scalar.muli arg16 c32_i32
  let c24_i32_2449 : BitVec 32 := 24#32
  let v3518 : BitVec 32 := Scalar.addi v2192 c24_i32_2449
  let c0_i32_2450 : BitVec 32 := 0#32
  let v3519 : BitVec 32 := Scalar.addi v3518 c0_i32_2450
  v3519
@[reducible] def k0_t6_loop : Scf.Loop 32 :=
  let c0_i32_1289 : BitVec 32 := 0#32
  let c16_i32_1290 : BitVec 32 := 16#32
  let v1499 : BitVec 32 := Scalar.addi c0_i32_1289 c16_i32_1290
  let c1_i32_1291 : BitVec 32 := 1#32
  ⟨c0_i32_1289, v1499, c1_i32_1291⟩
def k0_mult641 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_1902 : BitVec 32 := 0#32
  let v2193 : BitVec 32 := Scalar.addi v2192 c0_i32_1902
  v2193
def k0_mult642 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_1903 : BitVec 32 := 8#32
  let v2195 : BitVec 32 := Scalar.addi v2192 c8_i32_1903
  v2195
def k0_mult643 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_1904 : BitVec 32 := 16#32
  let v2197 : BitVec 32 := Scalar.addi v2192 c16_i32_1904
  v2197
def k0_mult644 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32 : BitVec 32 := 24#32
  let v2199 : BitVec 32 := Scalar.addi v2192 c24_i32
  v2199
def k0_off46 (k0_t6 : Fin k0_t6_loop.trips) (c0_i32_1902 : BitVec 32) : Fin 2 → Nat :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let v2193 : BitVec 32 := Scalar.addi v2192 c0_i32_1902
  let v2194 : BitVec 32 := v2193
  let v2201 : Index := Scalar.indexCast v2194
  let c640_1905 : Index := 640#32
  ![v2201.toNat, 640]
def k0_mult645 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_1912 : BitVec 32 := 0#32
  let v2213 : BitVec 32 := Scalar.addi v2192 c0_i32_1912
  let c24_i32_1913 : BitVec 32 := 24#32
  let v2214 : BitVec 32 := Scalar.addi v2213 c24_i32_1913
  v2214
def k0_off47 (k0_t6 : Fin k0_t6_loop.trips) (c0_i32_1912 : BitVec 32) (c24_i32_1913 : BitVec 32) : Fin 3 → Nat :=
  let c5_1914 : Index := 5#32
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let v2213 : BitVec 32 := Scalar.addi v2192 c0_i32_1912
  let v2214 : BitVec 32 := Scalar.addi v2213 c24_i32_1913
  let v2215 : BitVec 32 := v2214
  let v2216 : Index := Scalar.indexCast v2215
  let c0_1915 : Index := 0#32
  ![5, v2216.toNat, 0]
def k0_mult646 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_1916 : BitVec 32 := 8#32
  let v2223 : BitVec 32 := Scalar.addi v2192 c8_i32_1916
  let c24_i32_1917 : BitVec 32 := 24#32
  let v2224 : BitVec 32 := Scalar.addi v2223 c24_i32_1917
  v2224
def k0_mult647 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_1920 : BitVec 32 := 16#32
  let v2233 : BitVec 32 := Scalar.addi v2192 c16_i32_1920
  let c24_i32_1921 : BitVec 32 := 24#32
  let v2234 : BitVec 32 := Scalar.addi v2233 c24_i32_1921
  v2234
def k0_mult648 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_1924 : BitVec 32 := 24#32
  let v2243 : BitVec 32 := Scalar.addi v2192 c24_i32_1924
  let c24_i32_1925 : BitVec 32 := 24#32
  let v2244 : BitVec 32 := Scalar.addi v2243 c24_i32_1925
  v2244
def k0_mult649 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_1930 : BitVec 32 := 0#32
  let v2256 : BitVec 32 := Scalar.addi v2192 c0_i32_1930
  let c24_i32_1931 : BitVec 32 := 24#32
  let v2257 : BitVec 32 := Scalar.addi v2256 c24_i32_1931
  v2257
def k0_off48 (k0_t6 : Fin k0_t6_loop.trips) (c0_i32_1930 : BitVec 32) (c24_i32_1931 : BitVec 32) : Fin 3 → Nat :=
  let c4_1932 : Index := 4#32
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let v2256 : BitVec 32 := Scalar.addi v2192 c0_i32_1930
  let v2257 : BitVec 32 := Scalar.addi v2256 c24_i32_1931
  let v2258 : BitVec 32 := v2257
  let v2259 : Index := Scalar.indexCast v2258
  let c0_1933 : Index := 0#32
  ![4, v2259.toNat, 0]
def k0_mult650 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_1934 : BitVec 32 := 8#32
  let v2266 : BitVec 32 := Scalar.addi v2192 c8_i32_1934
  let c24_i32_1935 : BitVec 32 := 24#32
  let v2267 : BitVec 32 := Scalar.addi v2266 c24_i32_1935
  v2267
def k0_mult651 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_1938 : BitVec 32 := 16#32
  let v2276 : BitVec 32 := Scalar.addi v2192 c16_i32_1938
  let c24_i32_1939 : BitVec 32 := 24#32
  let v2277 : BitVec 32 := Scalar.addi v2276 c24_i32_1939
  v2277
def k0_mult652 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_1942 : BitVec 32 := 24#32
  let v2286 : BitVec 32 := Scalar.addi v2192 c24_i32_1942
  let c24_i32_1943 : BitVec 32 := 24#32
  let v2287 : BitVec 32 := Scalar.addi v2286 c24_i32_1943
  v2287
def k0_mult653 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_1948 : BitVec 32 := 0#32
  let v2299 : BitVec 32 := Scalar.addi v2192 c0_i32_1948
  let c24_i32_1949 : BitVec 32 := 24#32
  let v2300 : BitVec 32 := Scalar.addi v2299 c24_i32_1949
  v2300
def k0_off49 (k0_t6 : Fin k0_t6_loop.trips) (c0_i32_1948 : BitVec 32) (c24_i32_1949 : BitVec 32) : Fin 3 → Nat :=
  let c3_1950 : Index := 3#32
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let v2299 : BitVec 32 := Scalar.addi v2192 c0_i32_1948
  let v2300 : BitVec 32 := Scalar.addi v2299 c24_i32_1949
  let v2301 : BitVec 32 := v2300
  let v2302 : Index := Scalar.indexCast v2301
  let c0_1951 : Index := 0#32
  ![3, v2302.toNat, 0]
def k0_mult654 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_1952 : BitVec 32 := 8#32
  let v2309 : BitVec 32 := Scalar.addi v2192 c8_i32_1952
  let c24_i32_1953 : BitVec 32 := 24#32
  let v2310 : BitVec 32 := Scalar.addi v2309 c24_i32_1953
  v2310
def k0_mult655 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_1956 : BitVec 32 := 16#32
  let v2319 : BitVec 32 := Scalar.addi v2192 c16_i32_1956
  let c24_i32_1957 : BitVec 32 := 24#32
  let v2320 : BitVec 32 := Scalar.addi v2319 c24_i32_1957
  v2320
def k0_mult656 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_1960 : BitVec 32 := 24#32
  let v2329 : BitVec 32 := Scalar.addi v2192 c24_i32_1960
  let c24_i32_1961 : BitVec 32 := 24#32
  let v2330 : BitVec 32 := Scalar.addi v2329 c24_i32_1961
  v2330
def k0_mult657 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_1966 : BitVec 32 := 0#32
  let v2342 : BitVec 32 := Scalar.addi v2192 c0_i32_1966
  let c24_i32_1967 : BitVec 32 := 24#32
  let v2343 : BitVec 32 := Scalar.addi v2342 c24_i32_1967
  v2343
def k0_off50 (k0_t6 : Fin k0_t6_loop.trips) (c0_i32_1966 : BitVec 32) (c24_i32_1967 : BitVec 32) : Fin 3 → Nat :=
  let c2_1968 : Index := 2#32
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let v2342 : BitVec 32 := Scalar.addi v2192 c0_i32_1966
  let v2343 : BitVec 32 := Scalar.addi v2342 c24_i32_1967
  let v2344 : BitVec 32 := v2343
  let v2345 : Index := Scalar.indexCast v2344
  let c0_1969 : Index := 0#32
  ![2, v2345.toNat, 0]
def k0_mult658 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_1970 : BitVec 32 := 8#32
  let v2352 : BitVec 32 := Scalar.addi v2192 c8_i32_1970
  let c24_i32_1971 : BitVec 32 := 24#32
  let v2353 : BitVec 32 := Scalar.addi v2352 c24_i32_1971
  v2353
def k0_mult659 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_1974 : BitVec 32 := 16#32
  let v2362 : BitVec 32 := Scalar.addi v2192 c16_i32_1974
  let c24_i32_1975 : BitVec 32 := 24#32
  let v2363 : BitVec 32 := Scalar.addi v2362 c24_i32_1975
  v2363
def k0_mult660 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_1978 : BitVec 32 := 24#32
  let v2372 : BitVec 32 := Scalar.addi v2192 c24_i32_1978
  let c24_i32_1979 : BitVec 32 := 24#32
  let v2373 : BitVec 32 := Scalar.addi v2372 c24_i32_1979
  v2373
def k0_mult661 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_1984 : BitVec 32 := 0#32
  let v2385 : BitVec 32 := Scalar.addi v2192 c0_i32_1984
  let c24_i32_1985 : BitVec 32 := 24#32
  let v2386 : BitVec 32 := Scalar.addi v2385 c24_i32_1985
  v2386
def k0_off51 (k0_t6 : Fin k0_t6_loop.trips) (c0_i32_1984 : BitVec 32) (c24_i32_1985 : BitVec 32) : Fin 3 → Nat :=
  let c1_1986 : Index := 1#32
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let v2385 : BitVec 32 := Scalar.addi v2192 c0_i32_1984
  let v2386 : BitVec 32 := Scalar.addi v2385 c24_i32_1985
  let v2387 : BitVec 32 := v2386
  let v2388 : Index := Scalar.indexCast v2387
  let c0_1987 : Index := 0#32
  ![1, v2388.toNat, 0]
def k0_mult662 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_1988 : BitVec 32 := 8#32
  let v2395 : BitVec 32 := Scalar.addi v2192 c8_i32_1988
  let c24_i32_1989 : BitVec 32 := 24#32
  let v2396 : BitVec 32 := Scalar.addi v2395 c24_i32_1989
  v2396
def k0_mult663 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_1992 : BitVec 32 := 16#32
  let v2405 : BitVec 32 := Scalar.addi v2192 c16_i32_1992
  let c24_i32_1993 : BitVec 32 := 24#32
  let v2406 : BitVec 32 := Scalar.addi v2405 c24_i32_1993
  v2406
def k0_mult664 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_1996 : BitVec 32 := 24#32
  let v2415 : BitVec 32 := Scalar.addi v2192 c24_i32_1996
  let c24_i32_1997 : BitVec 32 := 24#32
  let v2416 : BitVec 32 := Scalar.addi v2415 c24_i32_1997
  v2416
def k0_mult665 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2002 : BitVec 32 := 0#32
  let v2428 : BitVec 32 := Scalar.addi v2192 c0_i32_2002
  let c24_i32_2003 : BitVec 32 := 24#32
  let v2429 : BitVec 32 := Scalar.addi v2428 c24_i32_2003
  v2429
def k0_off52 (k0_t6 : Fin k0_t6_loop.trips) (c0_i32_2002 : BitVec 32) (c24_i32_2003 : BitVec 32) : Fin 3 → Nat :=
  let c0_2004 : Index := 0#32
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let v2428 : BitVec 32 := Scalar.addi v2192 c0_i32_2002
  let v2429 : BitVec 32 := Scalar.addi v2428 c24_i32_2003
  let v2430 : BitVec 32 := v2429
  let v2431 : Index := Scalar.indexCast v2430
  let c0_2005 : Index := 0#32
  ![0, v2431.toNat, 0]
def k0_mult666 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2006 : BitVec 32 := 8#32
  let v2438 : BitVec 32 := Scalar.addi v2192 c8_i32_2006
  let c24_i32_2007 : BitVec 32 := 24#32
  let v2439 : BitVec 32 := Scalar.addi v2438 c24_i32_2007
  v2439
def k0_mult667 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2010 : BitVec 32 := 16#32
  let v2448 : BitVec 32 := Scalar.addi v2192 c16_i32_2010
  let c24_i32_2011 : BitVec 32 := 24#32
  let v2449 : BitVec 32 := Scalar.addi v2448 c24_i32_2011
  v2449
def k0_mult668 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2014 : BitVec 32 := 24#32
  let v2458 : BitVec 32 := Scalar.addi v2192 c24_i32_2014
  let c24_i32_2015 : BitVec 32 := 24#32
  let v2459 : BitVec 32 := Scalar.addi v2458 c24_i32_2015
  v2459
def k0_mult669 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2020 : BitVec 32 := 0#32
  let v2471 : BitVec 32 := Scalar.addi v2192 c0_i32_2020
  let c24_i32_2021 : BitVec 32 := 24#32
  let v2472 : BitVec 32 := Scalar.addi v2471 c24_i32_2021
  v2472
def k0_off53 (k0_t6 : Fin k0_t6_loop.trips) (c0_i32_2020 : BitVec 32) (c24_i32_2021 : BitVec 32) : Fin 2 → Nat :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let v2471 : BitVec 32 := Scalar.addi v2192 c0_i32_2020
  let v2472 : BitVec 32 := Scalar.addi v2471 c24_i32_2021
  let v2473 : BitVec 32 := v2472
  let v2474 : Index := Scalar.indexCast v2473
  let c640_2022 : Index := 640#32
  ![v2474.toNat, 640]
def k0_mult670 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2023 : BitVec 32 := 8#32
  let v2480 : BitVec 32 := Scalar.addi v2192 c8_i32_2023
  let c24_i32_2024 : BitVec 32 := 24#32
  let v2481 : BitVec 32 := Scalar.addi v2480 c24_i32_2024
  v2481
def k0_mult671 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2026 : BitVec 32 := 16#32
  let v2489 : BitVec 32 := Scalar.addi v2192 c16_i32_2026
  let c24_i32_2027 : BitVec 32 := 24#32
  let v2490 : BitVec 32 := Scalar.addi v2489 c24_i32_2027
  v2490
def k0_mult672 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2029 : BitVec 32 := 24#32
  let v2498 : BitVec 32 := Scalar.addi v2192 c24_i32_2029
  let c24_i32_2030 : BitVec 32 := 24#32
  let v2499 : BitVec 32 := Scalar.addi v2498 c24_i32_2030
  v2499
def k0_mult673 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2034 : BitVec 32 := 0#32
  let v2510 : BitVec 32 := Scalar.addi v2192 c0_i32_2034
  let c16_i32_2035 : BitVec 32 := 16#32
  let v2511 : BitVec 32 := Scalar.addi v2510 c16_i32_2035
  v2511
def k0_off54 (k0_t6 : Fin k0_t6_loop.trips) (c0_i32_2034 : BitVec 32) (c16_i32_2035 : BitVec 32) : Fin 3 → Nat :=
  let c6_2036 : Index := 6#32
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let v2510 : BitVec 32 := Scalar.addi v2192 c0_i32_2034
  let v2511 : BitVec 32 := Scalar.addi v2510 c16_i32_2035
  let v2512 : BitVec 32 := v2511
  let v2513 : Index := Scalar.indexCast v2512
  let c0_2037 : Index := 0#32
  ![6, v2513.toNat, 0]
def k0_mult674 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2038 : BitVec 32 := 8#32
  let v2520 : BitVec 32 := Scalar.addi v2192 c8_i32_2038
  let c16_i32_2039 : BitVec 32 := 16#32
  let v2521 : BitVec 32 := Scalar.addi v2520 c16_i32_2039
  v2521
def k0_mult675 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2042 : BitVec 32 := 16#32
  let v2530 : BitVec 32 := Scalar.addi v2192 c16_i32_2042
  let c16_i32_2043 : BitVec 32 := 16#32
  let v2531 : BitVec 32 := Scalar.addi v2530 c16_i32_2043
  v2531
def k0_mult676 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2046 : BitVec 32 := 24#32
  let v2540 : BitVec 32 := Scalar.addi v2192 c24_i32_2046
  let c16_i32_2047 : BitVec 32 := 16#32
  let v2541 : BitVec 32 := Scalar.addi v2540 c16_i32_2047
  v2541
def k0_mult677 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2052 : BitVec 32 := 0#32
  let v2553 : BitVec 32 := Scalar.addi v2192 c0_i32_2052
  let c16_i32_2053 : BitVec 32 := 16#32
  let v2554 : BitVec 32 := Scalar.addi v2553 c16_i32_2053
  v2554
def k0_mult678 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2056 : BitVec 32 := 8#32
  let v2563 : BitVec 32 := Scalar.addi v2192 c8_i32_2056
  let c16_i32_2057 : BitVec 32 := 16#32
  let v2564 : BitVec 32 := Scalar.addi v2563 c16_i32_2057
  v2564
def k0_mult679 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2060 : BitVec 32 := 16#32
  let v2573 : BitVec 32 := Scalar.addi v2192 c16_i32_2060
  let c16_i32_2061 : BitVec 32 := 16#32
  let v2574 : BitVec 32 := Scalar.addi v2573 c16_i32_2061
  v2574
def k0_mult680 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2064 : BitVec 32 := 24#32
  let v2583 : BitVec 32 := Scalar.addi v2192 c24_i32_2064
  let c16_i32_2065 : BitVec 32 := 16#32
  let v2584 : BitVec 32 := Scalar.addi v2583 c16_i32_2065
  v2584
def k0_mult681 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2070 : BitVec 32 := 0#32
  let v2596 : BitVec 32 := Scalar.addi v2192 c0_i32_2070
  let c16_i32_2071 : BitVec 32 := 16#32
  let v2597 : BitVec 32 := Scalar.addi v2596 c16_i32_2071
  v2597
def k0_mult682 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2074 : BitVec 32 := 8#32
  let v2606 : BitVec 32 := Scalar.addi v2192 c8_i32_2074
  let c16_i32_2075 : BitVec 32 := 16#32
  let v2607 : BitVec 32 := Scalar.addi v2606 c16_i32_2075
  v2607
def k0_mult683 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2078 : BitVec 32 := 16#32
  let v2616 : BitVec 32 := Scalar.addi v2192 c16_i32_2078
  let c16_i32_2079 : BitVec 32 := 16#32
  let v2617 : BitVec 32 := Scalar.addi v2616 c16_i32_2079
  v2617
def k0_mult684 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2082 : BitVec 32 := 24#32
  let v2626 : BitVec 32 := Scalar.addi v2192 c24_i32_2082
  let c16_i32_2083 : BitVec 32 := 16#32
  let v2627 : BitVec 32 := Scalar.addi v2626 c16_i32_2083
  v2627
def k0_mult685 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2088 : BitVec 32 := 0#32
  let v2639 : BitVec 32 := Scalar.addi v2192 c0_i32_2088
  let c16_i32_2089 : BitVec 32 := 16#32
  let v2640 : BitVec 32 := Scalar.addi v2639 c16_i32_2089
  v2640
def k0_mult686 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2092 : BitVec 32 := 8#32
  let v2649 : BitVec 32 := Scalar.addi v2192 c8_i32_2092
  let c16_i32_2093 : BitVec 32 := 16#32
  let v2650 : BitVec 32 := Scalar.addi v2649 c16_i32_2093
  v2650
def k0_mult687 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2096 : BitVec 32 := 16#32
  let v2659 : BitVec 32 := Scalar.addi v2192 c16_i32_2096
  let c16_i32_2097 : BitVec 32 := 16#32
  let v2660 : BitVec 32 := Scalar.addi v2659 c16_i32_2097
  v2660
def k0_mult688 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2100 : BitVec 32 := 24#32
  let v2669 : BitVec 32 := Scalar.addi v2192 c24_i32_2100
  let c16_i32_2101 : BitVec 32 := 16#32
  let v2670 : BitVec 32 := Scalar.addi v2669 c16_i32_2101
  v2670
def k0_mult689 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2106 : BitVec 32 := 0#32
  let v2682 : BitVec 32 := Scalar.addi v2192 c0_i32_2106
  let c16_i32_2107 : BitVec 32 := 16#32
  let v2683 : BitVec 32 := Scalar.addi v2682 c16_i32_2107
  v2683
def k0_mult690 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2110 : BitVec 32 := 8#32
  let v2692 : BitVec 32 := Scalar.addi v2192 c8_i32_2110
  let c16_i32_2111 : BitVec 32 := 16#32
  let v2693 : BitVec 32 := Scalar.addi v2692 c16_i32_2111
  v2693
def k0_mult691 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2114 : BitVec 32 := 16#32
  let v2702 : BitVec 32 := Scalar.addi v2192 c16_i32_2114
  let c16_i32_2115 : BitVec 32 := 16#32
  let v2703 : BitVec 32 := Scalar.addi v2702 c16_i32_2115
  v2703
def k0_mult692 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2118 : BitVec 32 := 24#32
  let v2712 : BitVec 32 := Scalar.addi v2192 c24_i32_2118
  let c16_i32_2119 : BitVec 32 := 16#32
  let v2713 : BitVec 32 := Scalar.addi v2712 c16_i32_2119
  v2713
def k0_mult693 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2124 : BitVec 32 := 0#32
  let v2725 : BitVec 32 := Scalar.addi v2192 c0_i32_2124
  let c16_i32_2125 : BitVec 32 := 16#32
  let v2726 : BitVec 32 := Scalar.addi v2725 c16_i32_2125
  v2726
def k0_mult694 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2128 : BitVec 32 := 8#32
  let v2735 : BitVec 32 := Scalar.addi v2192 c8_i32_2128
  let c16_i32_2129 : BitVec 32 := 16#32
  let v2736 : BitVec 32 := Scalar.addi v2735 c16_i32_2129
  v2736
def k0_mult695 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2132 : BitVec 32 := 16#32
  let v2745 : BitVec 32 := Scalar.addi v2192 c16_i32_2132
  let c16_i32_2133 : BitVec 32 := 16#32
  let v2746 : BitVec 32 := Scalar.addi v2745 c16_i32_2133
  v2746
def k0_mult696 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2136 : BitVec 32 := 24#32
  let v2755 : BitVec 32 := Scalar.addi v2192 c24_i32_2136
  let c16_i32_2137 : BitVec 32 := 16#32
  let v2756 : BitVec 32 := Scalar.addi v2755 c16_i32_2137
  v2756
def k0_mult697 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2142 : BitVec 32 := 0#32
  let v2768 : BitVec 32 := Scalar.addi v2192 c0_i32_2142
  let c16_i32_2143 : BitVec 32 := 16#32
  let v2769 : BitVec 32 := Scalar.addi v2768 c16_i32_2143
  v2769
def k0_mult698 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2146 : BitVec 32 := 8#32
  let v2778 : BitVec 32 := Scalar.addi v2192 c8_i32_2146
  let c16_i32_2147 : BitVec 32 := 16#32
  let v2779 : BitVec 32 := Scalar.addi v2778 c16_i32_2147
  v2779
def k0_mult699 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2150 : BitVec 32 := 16#32
  let v2788 : BitVec 32 := Scalar.addi v2192 c16_i32_2150
  let c16_i32_2151 : BitVec 32 := 16#32
  let v2789 : BitVec 32 := Scalar.addi v2788 c16_i32_2151
  v2789
def k0_mult700 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2154 : BitVec 32 := 24#32
  let v2798 : BitVec 32 := Scalar.addi v2192 c24_i32_2154
  let c16_i32_2155 : BitVec 32 := 16#32
  let v2799 : BitVec 32 := Scalar.addi v2798 c16_i32_2155
  v2799
def k0_mult701 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2160 : BitVec 32 := 0#32
  let v2811 : BitVec 32 := Scalar.addi v2192 c0_i32_2160
  let c16_i32_2161 : BitVec 32 := 16#32
  let v2812 : BitVec 32 := Scalar.addi v2811 c16_i32_2161
  v2812
def k0_mult702 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2163 : BitVec 32 := 8#32
  let v2820 : BitVec 32 := Scalar.addi v2192 c8_i32_2163
  let c16_i32_2164 : BitVec 32 := 16#32
  let v2821 : BitVec 32 := Scalar.addi v2820 c16_i32_2164
  v2821
def k0_mult703 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2166 : BitVec 32 := 16#32
  let v2829 : BitVec 32 := Scalar.addi v2192 c16_i32_2166
  let c16_i32_2167 : BitVec 32 := 16#32
  let v2830 : BitVec 32 := Scalar.addi v2829 c16_i32_2167
  v2830
def k0_mult704 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2169 : BitVec 32 := 24#32
  let v2838 : BitVec 32 := Scalar.addi v2192 c24_i32_2169
  let c16_i32_2170 : BitVec 32 := 16#32
  let v2839 : BitVec 32 := Scalar.addi v2838 c16_i32_2170
  v2839
def k0_mult705 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2174 : BitVec 32 := 0#32
  let v2850 : BitVec 32 := Scalar.addi v2192 c0_i32_2174
  let c8_i32_2175 : BitVec 32 := 8#32
  let v2851 : BitVec 32 := Scalar.addi v2850 c8_i32_2175
  v2851
def k0_mult706 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2178 : BitVec 32 := 8#32
  let v2860 : BitVec 32 := Scalar.addi v2192 c8_i32_2178
  let c8_i32_2179 : BitVec 32 := 8#32
  let v2861 : BitVec 32 := Scalar.addi v2860 c8_i32_2179
  v2861
def k0_mult707 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2182 : BitVec 32 := 16#32
  let v2870 : BitVec 32 := Scalar.addi v2192 c16_i32_2182
  let c8_i32_2183 : BitVec 32 := 8#32
  let v2871 : BitVec 32 := Scalar.addi v2870 c8_i32_2183
  v2871
def k0_mult708 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2186 : BitVec 32 := 24#32
  let v2880 : BitVec 32 := Scalar.addi v2192 c24_i32_2186
  let c8_i32_2187 : BitVec 32 := 8#32
  let v2881 : BitVec 32 := Scalar.addi v2880 c8_i32_2187
  v2881
def k0_mult709 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2192 : BitVec 32 := 0#32
  let v2893 : BitVec 32 := Scalar.addi v2192 c0_i32_2192
  let c8_i32_2193 : BitVec 32 := 8#32
  let v2894 : BitVec 32 := Scalar.addi v2893 c8_i32_2193
  v2894
def k0_mult710 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2196 : BitVec 32 := 8#32
  let v2903 : BitVec 32 := Scalar.addi v2192 c8_i32_2196
  let c8_i32_2197 : BitVec 32 := 8#32
  let v2904 : BitVec 32 := Scalar.addi v2903 c8_i32_2197
  v2904
def k0_mult711 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2200 : BitVec 32 := 16#32
  let v2913 : BitVec 32 := Scalar.addi v2192 c16_i32_2200
  let c8_i32_2201 : BitVec 32 := 8#32
  let v2914 : BitVec 32 := Scalar.addi v2913 c8_i32_2201
  v2914
def k0_mult712 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2204 : BitVec 32 := 24#32
  let v2923 : BitVec 32 := Scalar.addi v2192 c24_i32_2204
  let c8_i32_2205 : BitVec 32 := 8#32
  let v2924 : BitVec 32 := Scalar.addi v2923 c8_i32_2205
  v2924
def k0_mult713 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2210 : BitVec 32 := 0#32
  let v2936 : BitVec 32 := Scalar.addi v2192 c0_i32_2210
  let c8_i32_2211 : BitVec 32 := 8#32
  let v2937 : BitVec 32 := Scalar.addi v2936 c8_i32_2211
  v2937
def k0_mult714 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2214 : BitVec 32 := 8#32
  let v2946 : BitVec 32 := Scalar.addi v2192 c8_i32_2214
  let c8_i32_2215 : BitVec 32 := 8#32
  let v2947 : BitVec 32 := Scalar.addi v2946 c8_i32_2215
  v2947
def k0_mult715 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2218 : BitVec 32 := 16#32
  let v2956 : BitVec 32 := Scalar.addi v2192 c16_i32_2218
  let c8_i32_2219 : BitVec 32 := 8#32
  let v2957 : BitVec 32 := Scalar.addi v2956 c8_i32_2219
  v2957
def k0_mult716 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2222 : BitVec 32 := 24#32
  let v2966 : BitVec 32 := Scalar.addi v2192 c24_i32_2222
  let c8_i32_2223 : BitVec 32 := 8#32
  let v2967 : BitVec 32 := Scalar.addi v2966 c8_i32_2223
  v2967
def k0_mult717 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2228 : BitVec 32 := 0#32
  let v2979 : BitVec 32 := Scalar.addi v2192 c0_i32_2228
  let c8_i32_2229 : BitVec 32 := 8#32
  let v2980 : BitVec 32 := Scalar.addi v2979 c8_i32_2229
  v2980
def k0_mult718 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2232 : BitVec 32 := 8#32
  let v2989 : BitVec 32 := Scalar.addi v2192 c8_i32_2232
  let c8_i32_2233 : BitVec 32 := 8#32
  let v2990 : BitVec 32 := Scalar.addi v2989 c8_i32_2233
  v2990
def k0_mult719 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2236 : BitVec 32 := 16#32
  let v2999 : BitVec 32 := Scalar.addi v2192 c16_i32_2236
  let c8_i32_2237 : BitVec 32 := 8#32
  let v3000 : BitVec 32 := Scalar.addi v2999 c8_i32_2237
  v3000
def k0_mult720 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2240 : BitVec 32 := 24#32
  let v3009 : BitVec 32 := Scalar.addi v2192 c24_i32_2240
  let c8_i32_2241 : BitVec 32 := 8#32
  let v3010 : BitVec 32 := Scalar.addi v3009 c8_i32_2241
  v3010
def k0_mult721 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2246 : BitVec 32 := 0#32
  let v3022 : BitVec 32 := Scalar.addi v2192 c0_i32_2246
  let c8_i32_2247 : BitVec 32 := 8#32
  let v3023 : BitVec 32 := Scalar.addi v3022 c8_i32_2247
  v3023
def k0_mult722 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2250 : BitVec 32 := 8#32
  let v3032 : BitVec 32 := Scalar.addi v2192 c8_i32_2250
  let c8_i32_2251 : BitVec 32 := 8#32
  let v3033 : BitVec 32 := Scalar.addi v3032 c8_i32_2251
  v3033
def k0_mult723 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2254 : BitVec 32 := 16#32
  let v3042 : BitVec 32 := Scalar.addi v2192 c16_i32_2254
  let c8_i32_2255 : BitVec 32 := 8#32
  let v3043 : BitVec 32 := Scalar.addi v3042 c8_i32_2255
  v3043
def k0_mult724 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2258 : BitVec 32 := 24#32
  let v3052 : BitVec 32 := Scalar.addi v2192 c24_i32_2258
  let c8_i32_2259 : BitVec 32 := 8#32
  let v3053 : BitVec 32 := Scalar.addi v3052 c8_i32_2259
  v3053
def k0_mult725 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2264 : BitVec 32 := 0#32
  let v3065 : BitVec 32 := Scalar.addi v2192 c0_i32_2264
  let c8_i32_2265 : BitVec 32 := 8#32
  let v3066 : BitVec 32 := Scalar.addi v3065 c8_i32_2265
  v3066
def k0_mult726 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2268 : BitVec 32 := 8#32
  let v3075 : BitVec 32 := Scalar.addi v2192 c8_i32_2268
  let c8_i32_2269 : BitVec 32 := 8#32
  let v3076 : BitVec 32 := Scalar.addi v3075 c8_i32_2269
  v3076
def k0_mult727 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2272 : BitVec 32 := 16#32
  let v3085 : BitVec 32 := Scalar.addi v2192 c16_i32_2272
  let c8_i32_2273 : BitVec 32 := 8#32
  let v3086 : BitVec 32 := Scalar.addi v3085 c8_i32_2273
  v3086
def k0_mult728 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2276 : BitVec 32 := 24#32
  let v3095 : BitVec 32 := Scalar.addi v2192 c24_i32_2276
  let c8_i32_2277 : BitVec 32 := 8#32
  let v3096 : BitVec 32 := Scalar.addi v3095 c8_i32_2277
  v3096
def k0_mult729 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2282 : BitVec 32 := 0#32
  let v3108 : BitVec 32 := Scalar.addi v2192 c0_i32_2282
  let c8_i32_2283 : BitVec 32 := 8#32
  let v3109 : BitVec 32 := Scalar.addi v3108 c8_i32_2283
  v3109
def k0_mult730 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2286 : BitVec 32 := 8#32
  let v3118 : BitVec 32 := Scalar.addi v2192 c8_i32_2286
  let c8_i32_2287 : BitVec 32 := 8#32
  let v3119 : BitVec 32 := Scalar.addi v3118 c8_i32_2287
  v3119
def k0_mult731 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2290 : BitVec 32 := 16#32
  let v3128 : BitVec 32 := Scalar.addi v2192 c16_i32_2290
  let c8_i32_2291 : BitVec 32 := 8#32
  let v3129 : BitVec 32 := Scalar.addi v3128 c8_i32_2291
  v3129
def k0_mult732 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2294 : BitVec 32 := 24#32
  let v3138 : BitVec 32 := Scalar.addi v2192 c24_i32_2294
  let c8_i32_2295 : BitVec 32 := 8#32
  let v3139 : BitVec 32 := Scalar.addi v3138 c8_i32_2295
  v3139
def k0_mult733 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2300 : BitVec 32 := 0#32
  let v3151 : BitVec 32 := Scalar.addi v2192 c0_i32_2300
  let c8_i32_2301 : BitVec 32 := 8#32
  let v3152 : BitVec 32 := Scalar.addi v3151 c8_i32_2301
  v3152
def k0_mult734 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2303 : BitVec 32 := 8#32
  let v3160 : BitVec 32 := Scalar.addi v2192 c8_i32_2303
  let c8_i32_2304 : BitVec 32 := 8#32
  let v3161 : BitVec 32 := Scalar.addi v3160 c8_i32_2304
  v3161
def k0_mult735 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2306 : BitVec 32 := 16#32
  let v3169 : BitVec 32 := Scalar.addi v2192 c16_i32_2306
  let c8_i32_2307 : BitVec 32 := 8#32
  let v3170 : BitVec 32 := Scalar.addi v3169 c8_i32_2307
  v3170
def k0_mult736 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2309 : BitVec 32 := 24#32
  let v3178 : BitVec 32 := Scalar.addi v2192 c24_i32_2309
  let c8_i32_2310 : BitVec 32 := 8#32
  let v3179 : BitVec 32 := Scalar.addi v3178 c8_i32_2310
  v3179
def k0_mult737 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2314 : BitVec 32 := 0#32
  let v3190 : BitVec 32 := Scalar.addi v2192 c0_i32_2314
  let c0_i32_2315 : BitVec 32 := 0#32
  let v3191 : BitVec 32 := Scalar.addi v3190 c0_i32_2315
  v3191
def k0_mult738 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2318 : BitVec 32 := 8#32
  let v3200 : BitVec 32 := Scalar.addi v2192 c8_i32_2318
  let c0_i32_2319 : BitVec 32 := 0#32
  let v3201 : BitVec 32 := Scalar.addi v3200 c0_i32_2319
  v3201
def k0_mult739 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2322 : BitVec 32 := 16#32
  let v3210 : BitVec 32 := Scalar.addi v2192 c16_i32_2322
  let c0_i32_2323 : BitVec 32 := 0#32
  let v3211 : BitVec 32 := Scalar.addi v3210 c0_i32_2323
  v3211
def k0_mult740 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2326 : BitVec 32 := 24#32
  let v3220 : BitVec 32 := Scalar.addi v2192 c24_i32_2326
  let c0_i32_2327 : BitVec 32 := 0#32
  let v3221 : BitVec 32 := Scalar.addi v3220 c0_i32_2327
  v3221
def k0_mult741 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2332 : BitVec 32 := 0#32
  let v3233 : BitVec 32 := Scalar.addi v2192 c0_i32_2332
  let c0_i32_2333 : BitVec 32 := 0#32
  let v3234 : BitVec 32 := Scalar.addi v3233 c0_i32_2333
  v3234
def k0_mult742 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2336 : BitVec 32 := 8#32
  let v3243 : BitVec 32 := Scalar.addi v2192 c8_i32_2336
  let c0_i32_2337 : BitVec 32 := 0#32
  let v3244 : BitVec 32 := Scalar.addi v3243 c0_i32_2337
  v3244
def k0_mult743 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2340 : BitVec 32 := 16#32
  let v3253 : BitVec 32 := Scalar.addi v2192 c16_i32_2340
  let c0_i32_2341 : BitVec 32 := 0#32
  let v3254 : BitVec 32 := Scalar.addi v3253 c0_i32_2341
  v3254
def k0_mult744 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2344 : BitVec 32 := 24#32
  let v3263 : BitVec 32 := Scalar.addi v2192 c24_i32_2344
  let c0_i32_2345 : BitVec 32 := 0#32
  let v3264 : BitVec 32 := Scalar.addi v3263 c0_i32_2345
  v3264
def k0_mult745 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2350 : BitVec 32 := 0#32
  let v3276 : BitVec 32 := Scalar.addi v2192 c0_i32_2350
  let c0_i32_2351 : BitVec 32 := 0#32
  let v3277 : BitVec 32 := Scalar.addi v3276 c0_i32_2351
  v3277
def k0_mult746 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2354 : BitVec 32 := 8#32
  let v3286 : BitVec 32 := Scalar.addi v2192 c8_i32_2354
  let c0_i32_2355 : BitVec 32 := 0#32
  let v3287 : BitVec 32 := Scalar.addi v3286 c0_i32_2355
  v3287
def k0_mult747 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2358 : BitVec 32 := 16#32
  let v3296 : BitVec 32 := Scalar.addi v2192 c16_i32_2358
  let c0_i32_2359 : BitVec 32 := 0#32
  let v3297 : BitVec 32 := Scalar.addi v3296 c0_i32_2359
  v3297
def k0_mult748 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2362 : BitVec 32 := 24#32
  let v3306 : BitVec 32 := Scalar.addi v2192 c24_i32_2362
  let c0_i32_2363 : BitVec 32 := 0#32
  let v3307 : BitVec 32 := Scalar.addi v3306 c0_i32_2363
  v3307
def k0_mult749 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2368 : BitVec 32 := 0#32
  let v3319 : BitVec 32 := Scalar.addi v2192 c0_i32_2368
  let c0_i32_2369 : BitVec 32 := 0#32
  let v3320 : BitVec 32 := Scalar.addi v3319 c0_i32_2369
  v3320
def k0_mult750 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2372 : BitVec 32 := 8#32
  let v3329 : BitVec 32 := Scalar.addi v2192 c8_i32_2372
  let c0_i32_2373 : BitVec 32 := 0#32
  let v3330 : BitVec 32 := Scalar.addi v3329 c0_i32_2373
  v3330
def k0_mult751 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2376 : BitVec 32 := 16#32
  let v3339 : BitVec 32 := Scalar.addi v2192 c16_i32_2376
  let c0_i32_2377 : BitVec 32 := 0#32
  let v3340 : BitVec 32 := Scalar.addi v3339 c0_i32_2377
  v3340
def k0_mult752 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2380 : BitVec 32 := 24#32
  let v3349 : BitVec 32 := Scalar.addi v2192 c24_i32_2380
  let c0_i32_2381 : BitVec 32 := 0#32
  let v3350 : BitVec 32 := Scalar.addi v3349 c0_i32_2381
  v3350
def k0_mult753 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2386 : BitVec 32 := 0#32
  let v3362 : BitVec 32 := Scalar.addi v2192 c0_i32_2386
  let c0_i32_2387 : BitVec 32 := 0#32
  let v3363 : BitVec 32 := Scalar.addi v3362 c0_i32_2387
  v3363
def k0_mult754 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2390 : BitVec 32 := 8#32
  let v3372 : BitVec 32 := Scalar.addi v2192 c8_i32_2390
  let c0_i32_2391 : BitVec 32 := 0#32
  let v3373 : BitVec 32 := Scalar.addi v3372 c0_i32_2391
  v3373
def k0_mult755 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2394 : BitVec 32 := 16#32
  let v3382 : BitVec 32 := Scalar.addi v2192 c16_i32_2394
  let c0_i32_2395 : BitVec 32 := 0#32
  let v3383 : BitVec 32 := Scalar.addi v3382 c0_i32_2395
  v3383
def k0_mult756 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2398 : BitVec 32 := 24#32
  let v3392 : BitVec 32 := Scalar.addi v2192 c24_i32_2398
  let c0_i32_2399 : BitVec 32 := 0#32
  let v3393 : BitVec 32 := Scalar.addi v3392 c0_i32_2399
  v3393
def k0_mult757 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2404 : BitVec 32 := 0#32
  let v3405 : BitVec 32 := Scalar.addi v2192 c0_i32_2404
  let c0_i32_2405 : BitVec 32 := 0#32
  let v3406 : BitVec 32 := Scalar.addi v3405 c0_i32_2405
  v3406
def k0_mult758 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2408 : BitVec 32 := 8#32
  let v3415 : BitVec 32 := Scalar.addi v2192 c8_i32_2408
  let c0_i32_2409 : BitVec 32 := 0#32
  let v3416 : BitVec 32 := Scalar.addi v3415 c0_i32_2409
  v3416
def k0_mult759 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2412 : BitVec 32 := 16#32
  let v3425 : BitVec 32 := Scalar.addi v2192 c16_i32_2412
  let c0_i32_2413 : BitVec 32 := 0#32
  let v3426 : BitVec 32 := Scalar.addi v3425 c0_i32_2413
  v3426
def k0_mult760 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2416 : BitVec 32 := 24#32
  let v3435 : BitVec 32 := Scalar.addi v2192 c24_i32_2416
  let c0_i32_2417 : BitVec 32 := 0#32
  let v3436 : BitVec 32 := Scalar.addi v3435 c0_i32_2417
  v3436
def k0_mult761 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2422 : BitVec 32 := 0#32
  let v3448 : BitVec 32 := Scalar.addi v2192 c0_i32_2422
  let c0_i32_2423 : BitVec 32 := 0#32
  let v3449 : BitVec 32 := Scalar.addi v3448 c0_i32_2423
  v3449
def k0_mult762 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2426 : BitVec 32 := 8#32
  let v3458 : BitVec 32 := Scalar.addi v2192 c8_i32_2426
  let c0_i32_2427 : BitVec 32 := 0#32
  let v3459 : BitVec 32 := Scalar.addi v3458 c0_i32_2427
  v3459
def k0_mult763 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2430 : BitVec 32 := 16#32
  let v3468 : BitVec 32 := Scalar.addi v2192 c16_i32_2430
  let c0_i32_2431 : BitVec 32 := 0#32
  let v3469 : BitVec 32 := Scalar.addi v3468 c0_i32_2431
  v3469
def k0_mult764 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2434 : BitVec 32 := 24#32
  let v3478 : BitVec 32 := Scalar.addi v2192 c24_i32_2434
  let c0_i32_2435 : BitVec 32 := 0#32
  let v3479 : BitVec 32 := Scalar.addi v3478 c0_i32_2435
  v3479
def k0_mult765 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c0_i32_2440 : BitVec 32 := 0#32
  let v3491 : BitVec 32 := Scalar.addi v2192 c0_i32_2440
  let c0_i32_2441 : BitVec 32 := 0#32
  let v3492 : BitVec 32 := Scalar.addi v3491 c0_i32_2441
  v3492
def k0_mult766 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c8_i32_2443 : BitVec 32 := 8#32
  let v3500 : BitVec 32 := Scalar.addi v2192 c8_i32_2443
  let c0_i32_2444 : BitVec 32 := 0#32
  let v3501 : BitVec 32 := Scalar.addi v3500 c0_i32_2444
  v3501
def k0_mult767 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c16_i32_2446 : BitVec 32 := 16#32
  let v3509 : BitVec 32 := Scalar.addi v2192 c16_i32_2446
  let c0_i32_2447 : BitVec 32 := 0#32
  let v3510 : BitVec 32 := Scalar.addi v3509 c0_i32_2447
  v3510
def k0_mult768 (k0_t6 : Fin k0_t6_loop.trips) : BitVec 32 :=
  let c0_i32_1289 : BitVec 32 := 0#32
  let c1_i32_1291 : BitVec 32 := 1#32
  let arg16 : BitVec 32 := Scf.iv c0_i32_1289 c1_i32_1291 k0_t6
  let c32_i32 : BitVec 32 := 32#32
  let v2192 : BitVec 32 := Scalar.muli arg16 c32_i32
  let c24_i32_2449 : BitVec 32 := 24#32
  let v3518 : BitVec 32 := Scalar.addi v2192 c24_i32_2449
  let c0_i32_2450 : BitVec 32 := 0#32
  let v3519 : BitVec 32 := Scalar.addi v3518 c0_i32_2450
  v3519
@[reducible] def k0_t7_loop : Scf.Loop 32 :=
  let c0_i32_1514 : BitVec 32 := 0#32
  let c16_i32_1515 : BitVec 32 := 16#32
  let v1746 : BitVec 32 := Scalar.addi c0_i32_1514 c16_i32_1515
  let c1_i32_1516 : BitVec 32 := 1#32
  ⟨c0_i32_1514, v1746, c1_i32_1516⟩
def k0_mult769 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_1902 : BitVec 32 := 0#32
  let v2193 : BitVec 32 := Scalar.addi v2192 c0_i32_1902
  v2193
def k0_mult770 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_1903 : BitVec 32 := 8#32
  let v2195 : BitVec 32 := Scalar.addi v2192 c8_i32_1903
  v2195
def k0_mult771 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_1904 : BitVec 32 := 16#32
  let v2197 : BitVec 32 := Scalar.addi v2192 c16_i32_1904
  v2197
def k0_mult772 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32 : BitVec 32 := 24#32
  let v2199 : BitVec 32 := Scalar.addi v2192 c24_i32
  v2199
def k0_off55 (k0_t7 : Fin k0_t7_loop.trips) (c0_i32_1902 : BitVec 32) : Fin 2 → Nat :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let v2193 : BitVec 32 := Scalar.addi v2192 c0_i32_1902
  let v2194 : BitVec 32 := v2193
  let v2201 : Index := Scalar.indexCast v2194
  let c768_1905 : Index := 768#32
  ![v2201.toNat, 768]
def k0_mult773 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_1912 : BitVec 32 := 0#32
  let v2213 : BitVec 32 := Scalar.addi v2192 c0_i32_1912
  let c24_i32_1913 : BitVec 32 := 24#32
  let v2214 : BitVec 32 := Scalar.addi v2213 c24_i32_1913
  v2214
def k0_off56 (k0_t7 : Fin k0_t7_loop.trips) (c0_i32_1912 : BitVec 32) (c24_i32_1913 : BitVec 32) : Fin 3 → Nat :=
  let c5_1914 : Index := 5#32
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let v2213 : BitVec 32 := Scalar.addi v2192 c0_i32_1912
  let v2214 : BitVec 32 := Scalar.addi v2213 c24_i32_1913
  let v2215 : BitVec 32 := v2214
  let v2216 : Index := Scalar.indexCast v2215
  let c0_1915 : Index := 0#32
  ![5, v2216.toNat, 0]
def k0_mult774 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_1916 : BitVec 32 := 8#32
  let v2223 : BitVec 32 := Scalar.addi v2192 c8_i32_1916
  let c24_i32_1917 : BitVec 32 := 24#32
  let v2224 : BitVec 32 := Scalar.addi v2223 c24_i32_1917
  v2224
def k0_mult775 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_1920 : BitVec 32 := 16#32
  let v2233 : BitVec 32 := Scalar.addi v2192 c16_i32_1920
  let c24_i32_1921 : BitVec 32 := 24#32
  let v2234 : BitVec 32 := Scalar.addi v2233 c24_i32_1921
  v2234
def k0_mult776 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_1924 : BitVec 32 := 24#32
  let v2243 : BitVec 32 := Scalar.addi v2192 c24_i32_1924
  let c24_i32_1925 : BitVec 32 := 24#32
  let v2244 : BitVec 32 := Scalar.addi v2243 c24_i32_1925
  v2244
def k0_mult777 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_1930 : BitVec 32 := 0#32
  let v2256 : BitVec 32 := Scalar.addi v2192 c0_i32_1930
  let c24_i32_1931 : BitVec 32 := 24#32
  let v2257 : BitVec 32 := Scalar.addi v2256 c24_i32_1931
  v2257
def k0_off57 (k0_t7 : Fin k0_t7_loop.trips) (c0_i32_1930 : BitVec 32) (c24_i32_1931 : BitVec 32) : Fin 3 → Nat :=
  let c4_1932 : Index := 4#32
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let v2256 : BitVec 32 := Scalar.addi v2192 c0_i32_1930
  let v2257 : BitVec 32 := Scalar.addi v2256 c24_i32_1931
  let v2258 : BitVec 32 := v2257
  let v2259 : Index := Scalar.indexCast v2258
  let c0_1933 : Index := 0#32
  ![4, v2259.toNat, 0]
def k0_mult778 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_1934 : BitVec 32 := 8#32
  let v2266 : BitVec 32 := Scalar.addi v2192 c8_i32_1934
  let c24_i32_1935 : BitVec 32 := 24#32
  let v2267 : BitVec 32 := Scalar.addi v2266 c24_i32_1935
  v2267
def k0_mult779 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_1938 : BitVec 32 := 16#32
  let v2276 : BitVec 32 := Scalar.addi v2192 c16_i32_1938
  let c24_i32_1939 : BitVec 32 := 24#32
  let v2277 : BitVec 32 := Scalar.addi v2276 c24_i32_1939
  v2277
def k0_mult780 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_1942 : BitVec 32 := 24#32
  let v2286 : BitVec 32 := Scalar.addi v2192 c24_i32_1942
  let c24_i32_1943 : BitVec 32 := 24#32
  let v2287 : BitVec 32 := Scalar.addi v2286 c24_i32_1943
  v2287
def k0_mult781 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_1948 : BitVec 32 := 0#32
  let v2299 : BitVec 32 := Scalar.addi v2192 c0_i32_1948
  let c24_i32_1949 : BitVec 32 := 24#32
  let v2300 : BitVec 32 := Scalar.addi v2299 c24_i32_1949
  v2300
def k0_off58 (k0_t7 : Fin k0_t7_loop.trips) (c0_i32_1948 : BitVec 32) (c24_i32_1949 : BitVec 32) : Fin 3 → Nat :=
  let c3_1950 : Index := 3#32
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let v2299 : BitVec 32 := Scalar.addi v2192 c0_i32_1948
  let v2300 : BitVec 32 := Scalar.addi v2299 c24_i32_1949
  let v2301 : BitVec 32 := v2300
  let v2302 : Index := Scalar.indexCast v2301
  let c0_1951 : Index := 0#32
  ![3, v2302.toNat, 0]
def k0_mult782 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_1952 : BitVec 32 := 8#32
  let v2309 : BitVec 32 := Scalar.addi v2192 c8_i32_1952
  let c24_i32_1953 : BitVec 32 := 24#32
  let v2310 : BitVec 32 := Scalar.addi v2309 c24_i32_1953
  v2310
def k0_mult783 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_1956 : BitVec 32 := 16#32
  let v2319 : BitVec 32 := Scalar.addi v2192 c16_i32_1956
  let c24_i32_1957 : BitVec 32 := 24#32
  let v2320 : BitVec 32 := Scalar.addi v2319 c24_i32_1957
  v2320
def k0_mult784 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_1960 : BitVec 32 := 24#32
  let v2329 : BitVec 32 := Scalar.addi v2192 c24_i32_1960
  let c24_i32_1961 : BitVec 32 := 24#32
  let v2330 : BitVec 32 := Scalar.addi v2329 c24_i32_1961
  v2330
def k0_mult785 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_1966 : BitVec 32 := 0#32
  let v2342 : BitVec 32 := Scalar.addi v2192 c0_i32_1966
  let c24_i32_1967 : BitVec 32 := 24#32
  let v2343 : BitVec 32 := Scalar.addi v2342 c24_i32_1967
  v2343
def k0_off59 (k0_t7 : Fin k0_t7_loop.trips) (c0_i32_1966 : BitVec 32) (c24_i32_1967 : BitVec 32) : Fin 3 → Nat :=
  let c2_1968 : Index := 2#32
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let v2342 : BitVec 32 := Scalar.addi v2192 c0_i32_1966
  let v2343 : BitVec 32 := Scalar.addi v2342 c24_i32_1967
  let v2344 : BitVec 32 := v2343
  let v2345 : Index := Scalar.indexCast v2344
  let c0_1969 : Index := 0#32
  ![2, v2345.toNat, 0]
def k0_mult786 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_1970 : BitVec 32 := 8#32
  let v2352 : BitVec 32 := Scalar.addi v2192 c8_i32_1970
  let c24_i32_1971 : BitVec 32 := 24#32
  let v2353 : BitVec 32 := Scalar.addi v2352 c24_i32_1971
  v2353
def k0_mult787 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_1974 : BitVec 32 := 16#32
  let v2362 : BitVec 32 := Scalar.addi v2192 c16_i32_1974
  let c24_i32_1975 : BitVec 32 := 24#32
  let v2363 : BitVec 32 := Scalar.addi v2362 c24_i32_1975
  v2363
def k0_mult788 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_1978 : BitVec 32 := 24#32
  let v2372 : BitVec 32 := Scalar.addi v2192 c24_i32_1978
  let c24_i32_1979 : BitVec 32 := 24#32
  let v2373 : BitVec 32 := Scalar.addi v2372 c24_i32_1979
  v2373
def k0_mult789 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_1984 : BitVec 32 := 0#32
  let v2385 : BitVec 32 := Scalar.addi v2192 c0_i32_1984
  let c24_i32_1985 : BitVec 32 := 24#32
  let v2386 : BitVec 32 := Scalar.addi v2385 c24_i32_1985
  v2386
def k0_off60 (k0_t7 : Fin k0_t7_loop.trips) (c0_i32_1984 : BitVec 32) (c24_i32_1985 : BitVec 32) : Fin 3 → Nat :=
  let c1_1986 : Index := 1#32
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let v2385 : BitVec 32 := Scalar.addi v2192 c0_i32_1984
  let v2386 : BitVec 32 := Scalar.addi v2385 c24_i32_1985
  let v2387 : BitVec 32 := v2386
  let v2388 : Index := Scalar.indexCast v2387
  let c0_1987 : Index := 0#32
  ![1, v2388.toNat, 0]
def k0_mult790 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_1988 : BitVec 32 := 8#32
  let v2395 : BitVec 32 := Scalar.addi v2192 c8_i32_1988
  let c24_i32_1989 : BitVec 32 := 24#32
  let v2396 : BitVec 32 := Scalar.addi v2395 c24_i32_1989
  v2396
def k0_mult791 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_1992 : BitVec 32 := 16#32
  let v2405 : BitVec 32 := Scalar.addi v2192 c16_i32_1992
  let c24_i32_1993 : BitVec 32 := 24#32
  let v2406 : BitVec 32 := Scalar.addi v2405 c24_i32_1993
  v2406
def k0_mult792 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_1996 : BitVec 32 := 24#32
  let v2415 : BitVec 32 := Scalar.addi v2192 c24_i32_1996
  let c24_i32_1997 : BitVec 32 := 24#32
  let v2416 : BitVec 32 := Scalar.addi v2415 c24_i32_1997
  v2416
def k0_mult793 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2002 : BitVec 32 := 0#32
  let v2428 : BitVec 32 := Scalar.addi v2192 c0_i32_2002
  let c24_i32_2003 : BitVec 32 := 24#32
  let v2429 : BitVec 32 := Scalar.addi v2428 c24_i32_2003
  v2429
def k0_off61 (k0_t7 : Fin k0_t7_loop.trips) (c0_i32_2002 : BitVec 32) (c24_i32_2003 : BitVec 32) : Fin 3 → Nat :=
  let c0_2004 : Index := 0#32
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let v2428 : BitVec 32 := Scalar.addi v2192 c0_i32_2002
  let v2429 : BitVec 32 := Scalar.addi v2428 c24_i32_2003
  let v2430 : BitVec 32 := v2429
  let v2431 : Index := Scalar.indexCast v2430
  let c0_2005 : Index := 0#32
  ![0, v2431.toNat, 0]
def k0_mult794 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2006 : BitVec 32 := 8#32
  let v2438 : BitVec 32 := Scalar.addi v2192 c8_i32_2006
  let c24_i32_2007 : BitVec 32 := 24#32
  let v2439 : BitVec 32 := Scalar.addi v2438 c24_i32_2007
  v2439
def k0_mult795 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2010 : BitVec 32 := 16#32
  let v2448 : BitVec 32 := Scalar.addi v2192 c16_i32_2010
  let c24_i32_2011 : BitVec 32 := 24#32
  let v2449 : BitVec 32 := Scalar.addi v2448 c24_i32_2011
  v2449
def k0_mult796 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2014 : BitVec 32 := 24#32
  let v2458 : BitVec 32 := Scalar.addi v2192 c24_i32_2014
  let c24_i32_2015 : BitVec 32 := 24#32
  let v2459 : BitVec 32 := Scalar.addi v2458 c24_i32_2015
  v2459
def k0_mult797 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2020 : BitVec 32 := 0#32
  let v2471 : BitVec 32 := Scalar.addi v2192 c0_i32_2020
  let c24_i32_2021 : BitVec 32 := 24#32
  let v2472 : BitVec 32 := Scalar.addi v2471 c24_i32_2021
  v2472
def k0_off62 (k0_t7 : Fin k0_t7_loop.trips) (c0_i32_2020 : BitVec 32) (c24_i32_2021 : BitVec 32) : Fin 2 → Nat :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let v2471 : BitVec 32 := Scalar.addi v2192 c0_i32_2020
  let v2472 : BitVec 32 := Scalar.addi v2471 c24_i32_2021
  let v2473 : BitVec 32 := v2472
  let v2474 : Index := Scalar.indexCast v2473
  let c768_2022 : Index := 768#32
  ![v2474.toNat, 768]
def k0_mult798 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2023 : BitVec 32 := 8#32
  let v2480 : BitVec 32 := Scalar.addi v2192 c8_i32_2023
  let c24_i32_2024 : BitVec 32 := 24#32
  let v2481 : BitVec 32 := Scalar.addi v2480 c24_i32_2024
  v2481
def k0_mult799 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2026 : BitVec 32 := 16#32
  let v2489 : BitVec 32 := Scalar.addi v2192 c16_i32_2026
  let c24_i32_2027 : BitVec 32 := 24#32
  let v2490 : BitVec 32 := Scalar.addi v2489 c24_i32_2027
  v2490
def k0_mult800 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2029 : BitVec 32 := 24#32
  let v2498 : BitVec 32 := Scalar.addi v2192 c24_i32_2029
  let c24_i32_2030 : BitVec 32 := 24#32
  let v2499 : BitVec 32 := Scalar.addi v2498 c24_i32_2030
  v2499
def k0_mult801 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2034 : BitVec 32 := 0#32
  let v2510 : BitVec 32 := Scalar.addi v2192 c0_i32_2034
  let c16_i32_2035 : BitVec 32 := 16#32
  let v2511 : BitVec 32 := Scalar.addi v2510 c16_i32_2035
  v2511
def k0_off63 (k0_t7 : Fin k0_t7_loop.trips) (c0_i32_2034 : BitVec 32) (c16_i32_2035 : BitVec 32) : Fin 3 → Nat :=
  let c6_2036 : Index := 6#32
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let v2510 : BitVec 32 := Scalar.addi v2192 c0_i32_2034
  let v2511 : BitVec 32 := Scalar.addi v2510 c16_i32_2035
  let v2512 : BitVec 32 := v2511
  let v2513 : Index := Scalar.indexCast v2512
  let c0_2037 : Index := 0#32
  ![6, v2513.toNat, 0]
def k0_mult802 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2038 : BitVec 32 := 8#32
  let v2520 : BitVec 32 := Scalar.addi v2192 c8_i32_2038
  let c16_i32_2039 : BitVec 32 := 16#32
  let v2521 : BitVec 32 := Scalar.addi v2520 c16_i32_2039
  v2521
def k0_mult803 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2042 : BitVec 32 := 16#32
  let v2530 : BitVec 32 := Scalar.addi v2192 c16_i32_2042
  let c16_i32_2043 : BitVec 32 := 16#32
  let v2531 : BitVec 32 := Scalar.addi v2530 c16_i32_2043
  v2531
def k0_mult804 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2046 : BitVec 32 := 24#32
  let v2540 : BitVec 32 := Scalar.addi v2192 c24_i32_2046
  let c16_i32_2047 : BitVec 32 := 16#32
  let v2541 : BitVec 32 := Scalar.addi v2540 c16_i32_2047
  v2541
def k0_mult805 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2052 : BitVec 32 := 0#32
  let v2553 : BitVec 32 := Scalar.addi v2192 c0_i32_2052
  let c16_i32_2053 : BitVec 32 := 16#32
  let v2554 : BitVec 32 := Scalar.addi v2553 c16_i32_2053
  v2554
def k0_mult806 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2056 : BitVec 32 := 8#32
  let v2563 : BitVec 32 := Scalar.addi v2192 c8_i32_2056
  let c16_i32_2057 : BitVec 32 := 16#32
  let v2564 : BitVec 32 := Scalar.addi v2563 c16_i32_2057
  v2564
def k0_mult807 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2060 : BitVec 32 := 16#32
  let v2573 : BitVec 32 := Scalar.addi v2192 c16_i32_2060
  let c16_i32_2061 : BitVec 32 := 16#32
  let v2574 : BitVec 32 := Scalar.addi v2573 c16_i32_2061
  v2574
def k0_mult808 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2064 : BitVec 32 := 24#32
  let v2583 : BitVec 32 := Scalar.addi v2192 c24_i32_2064
  let c16_i32_2065 : BitVec 32 := 16#32
  let v2584 : BitVec 32 := Scalar.addi v2583 c16_i32_2065
  v2584
def k0_mult809 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2070 : BitVec 32 := 0#32
  let v2596 : BitVec 32 := Scalar.addi v2192 c0_i32_2070
  let c16_i32_2071 : BitVec 32 := 16#32
  let v2597 : BitVec 32 := Scalar.addi v2596 c16_i32_2071
  v2597
def k0_mult810 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2074 : BitVec 32 := 8#32
  let v2606 : BitVec 32 := Scalar.addi v2192 c8_i32_2074
  let c16_i32_2075 : BitVec 32 := 16#32
  let v2607 : BitVec 32 := Scalar.addi v2606 c16_i32_2075
  v2607
def k0_mult811 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2078 : BitVec 32 := 16#32
  let v2616 : BitVec 32 := Scalar.addi v2192 c16_i32_2078
  let c16_i32_2079 : BitVec 32 := 16#32
  let v2617 : BitVec 32 := Scalar.addi v2616 c16_i32_2079
  v2617
def k0_mult812 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2082 : BitVec 32 := 24#32
  let v2626 : BitVec 32 := Scalar.addi v2192 c24_i32_2082
  let c16_i32_2083 : BitVec 32 := 16#32
  let v2627 : BitVec 32 := Scalar.addi v2626 c16_i32_2083
  v2627
def k0_mult813 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2088 : BitVec 32 := 0#32
  let v2639 : BitVec 32 := Scalar.addi v2192 c0_i32_2088
  let c16_i32_2089 : BitVec 32 := 16#32
  let v2640 : BitVec 32 := Scalar.addi v2639 c16_i32_2089
  v2640
def k0_mult814 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2092 : BitVec 32 := 8#32
  let v2649 : BitVec 32 := Scalar.addi v2192 c8_i32_2092
  let c16_i32_2093 : BitVec 32 := 16#32
  let v2650 : BitVec 32 := Scalar.addi v2649 c16_i32_2093
  v2650
def k0_mult815 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2096 : BitVec 32 := 16#32
  let v2659 : BitVec 32 := Scalar.addi v2192 c16_i32_2096
  let c16_i32_2097 : BitVec 32 := 16#32
  let v2660 : BitVec 32 := Scalar.addi v2659 c16_i32_2097
  v2660
def k0_mult816 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2100 : BitVec 32 := 24#32
  let v2669 : BitVec 32 := Scalar.addi v2192 c24_i32_2100
  let c16_i32_2101 : BitVec 32 := 16#32
  let v2670 : BitVec 32 := Scalar.addi v2669 c16_i32_2101
  v2670
def k0_mult817 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2106 : BitVec 32 := 0#32
  let v2682 : BitVec 32 := Scalar.addi v2192 c0_i32_2106
  let c16_i32_2107 : BitVec 32 := 16#32
  let v2683 : BitVec 32 := Scalar.addi v2682 c16_i32_2107
  v2683
def k0_mult818 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2110 : BitVec 32 := 8#32
  let v2692 : BitVec 32 := Scalar.addi v2192 c8_i32_2110
  let c16_i32_2111 : BitVec 32 := 16#32
  let v2693 : BitVec 32 := Scalar.addi v2692 c16_i32_2111
  v2693
def k0_mult819 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2114 : BitVec 32 := 16#32
  let v2702 : BitVec 32 := Scalar.addi v2192 c16_i32_2114
  let c16_i32_2115 : BitVec 32 := 16#32
  let v2703 : BitVec 32 := Scalar.addi v2702 c16_i32_2115
  v2703
def k0_mult820 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2118 : BitVec 32 := 24#32
  let v2712 : BitVec 32 := Scalar.addi v2192 c24_i32_2118
  let c16_i32_2119 : BitVec 32 := 16#32
  let v2713 : BitVec 32 := Scalar.addi v2712 c16_i32_2119
  v2713
def k0_mult821 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2124 : BitVec 32 := 0#32
  let v2725 : BitVec 32 := Scalar.addi v2192 c0_i32_2124
  let c16_i32_2125 : BitVec 32 := 16#32
  let v2726 : BitVec 32 := Scalar.addi v2725 c16_i32_2125
  v2726
def k0_mult822 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2128 : BitVec 32 := 8#32
  let v2735 : BitVec 32 := Scalar.addi v2192 c8_i32_2128
  let c16_i32_2129 : BitVec 32 := 16#32
  let v2736 : BitVec 32 := Scalar.addi v2735 c16_i32_2129
  v2736
def k0_mult823 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2132 : BitVec 32 := 16#32
  let v2745 : BitVec 32 := Scalar.addi v2192 c16_i32_2132
  let c16_i32_2133 : BitVec 32 := 16#32
  let v2746 : BitVec 32 := Scalar.addi v2745 c16_i32_2133
  v2746
def k0_mult824 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2136 : BitVec 32 := 24#32
  let v2755 : BitVec 32 := Scalar.addi v2192 c24_i32_2136
  let c16_i32_2137 : BitVec 32 := 16#32
  let v2756 : BitVec 32 := Scalar.addi v2755 c16_i32_2137
  v2756
def k0_mult825 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2142 : BitVec 32 := 0#32
  let v2768 : BitVec 32 := Scalar.addi v2192 c0_i32_2142
  let c16_i32_2143 : BitVec 32 := 16#32
  let v2769 : BitVec 32 := Scalar.addi v2768 c16_i32_2143
  v2769
def k0_mult826 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2146 : BitVec 32 := 8#32
  let v2778 : BitVec 32 := Scalar.addi v2192 c8_i32_2146
  let c16_i32_2147 : BitVec 32 := 16#32
  let v2779 : BitVec 32 := Scalar.addi v2778 c16_i32_2147
  v2779
def k0_mult827 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2150 : BitVec 32 := 16#32
  let v2788 : BitVec 32 := Scalar.addi v2192 c16_i32_2150
  let c16_i32_2151 : BitVec 32 := 16#32
  let v2789 : BitVec 32 := Scalar.addi v2788 c16_i32_2151
  v2789
def k0_mult828 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2154 : BitVec 32 := 24#32
  let v2798 : BitVec 32 := Scalar.addi v2192 c24_i32_2154
  let c16_i32_2155 : BitVec 32 := 16#32
  let v2799 : BitVec 32 := Scalar.addi v2798 c16_i32_2155
  v2799
def k0_mult829 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2160 : BitVec 32 := 0#32
  let v2811 : BitVec 32 := Scalar.addi v2192 c0_i32_2160
  let c16_i32_2161 : BitVec 32 := 16#32
  let v2812 : BitVec 32 := Scalar.addi v2811 c16_i32_2161
  v2812
def k0_mult830 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2163 : BitVec 32 := 8#32
  let v2820 : BitVec 32 := Scalar.addi v2192 c8_i32_2163
  let c16_i32_2164 : BitVec 32 := 16#32
  let v2821 : BitVec 32 := Scalar.addi v2820 c16_i32_2164
  v2821
def k0_mult831 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2166 : BitVec 32 := 16#32
  let v2829 : BitVec 32 := Scalar.addi v2192 c16_i32_2166
  let c16_i32_2167 : BitVec 32 := 16#32
  let v2830 : BitVec 32 := Scalar.addi v2829 c16_i32_2167
  v2830
def k0_mult832 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2169 : BitVec 32 := 24#32
  let v2838 : BitVec 32 := Scalar.addi v2192 c24_i32_2169
  let c16_i32_2170 : BitVec 32 := 16#32
  let v2839 : BitVec 32 := Scalar.addi v2838 c16_i32_2170
  v2839
def k0_mult833 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2174 : BitVec 32 := 0#32
  let v2850 : BitVec 32 := Scalar.addi v2192 c0_i32_2174
  let c8_i32_2175 : BitVec 32 := 8#32
  let v2851 : BitVec 32 := Scalar.addi v2850 c8_i32_2175
  v2851
def k0_mult834 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2178 : BitVec 32 := 8#32
  let v2860 : BitVec 32 := Scalar.addi v2192 c8_i32_2178
  let c8_i32_2179 : BitVec 32 := 8#32
  let v2861 : BitVec 32 := Scalar.addi v2860 c8_i32_2179
  v2861
def k0_mult835 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2182 : BitVec 32 := 16#32
  let v2870 : BitVec 32 := Scalar.addi v2192 c16_i32_2182
  let c8_i32_2183 : BitVec 32 := 8#32
  let v2871 : BitVec 32 := Scalar.addi v2870 c8_i32_2183
  v2871
def k0_mult836 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2186 : BitVec 32 := 24#32
  let v2880 : BitVec 32 := Scalar.addi v2192 c24_i32_2186
  let c8_i32_2187 : BitVec 32 := 8#32
  let v2881 : BitVec 32 := Scalar.addi v2880 c8_i32_2187
  v2881
def k0_mult837 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2192 : BitVec 32 := 0#32
  let v2893 : BitVec 32 := Scalar.addi v2192 c0_i32_2192
  let c8_i32_2193 : BitVec 32 := 8#32
  let v2894 : BitVec 32 := Scalar.addi v2893 c8_i32_2193
  v2894
def k0_mult838 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2196 : BitVec 32 := 8#32
  let v2903 : BitVec 32 := Scalar.addi v2192 c8_i32_2196
  let c8_i32_2197 : BitVec 32 := 8#32
  let v2904 : BitVec 32 := Scalar.addi v2903 c8_i32_2197
  v2904
def k0_mult839 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2200 : BitVec 32 := 16#32
  let v2913 : BitVec 32 := Scalar.addi v2192 c16_i32_2200
  let c8_i32_2201 : BitVec 32 := 8#32
  let v2914 : BitVec 32 := Scalar.addi v2913 c8_i32_2201
  v2914
def k0_mult840 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2204 : BitVec 32 := 24#32
  let v2923 : BitVec 32 := Scalar.addi v2192 c24_i32_2204
  let c8_i32_2205 : BitVec 32 := 8#32
  let v2924 : BitVec 32 := Scalar.addi v2923 c8_i32_2205
  v2924
def k0_mult841 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2210 : BitVec 32 := 0#32
  let v2936 : BitVec 32 := Scalar.addi v2192 c0_i32_2210
  let c8_i32_2211 : BitVec 32 := 8#32
  let v2937 : BitVec 32 := Scalar.addi v2936 c8_i32_2211
  v2937
def k0_mult842 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2214 : BitVec 32 := 8#32
  let v2946 : BitVec 32 := Scalar.addi v2192 c8_i32_2214
  let c8_i32_2215 : BitVec 32 := 8#32
  let v2947 : BitVec 32 := Scalar.addi v2946 c8_i32_2215
  v2947
def k0_mult843 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2218 : BitVec 32 := 16#32
  let v2956 : BitVec 32 := Scalar.addi v2192 c16_i32_2218
  let c8_i32_2219 : BitVec 32 := 8#32
  let v2957 : BitVec 32 := Scalar.addi v2956 c8_i32_2219
  v2957
def k0_mult844 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2222 : BitVec 32 := 24#32
  let v2966 : BitVec 32 := Scalar.addi v2192 c24_i32_2222
  let c8_i32_2223 : BitVec 32 := 8#32
  let v2967 : BitVec 32 := Scalar.addi v2966 c8_i32_2223
  v2967
def k0_mult845 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2228 : BitVec 32 := 0#32
  let v2979 : BitVec 32 := Scalar.addi v2192 c0_i32_2228
  let c8_i32_2229 : BitVec 32 := 8#32
  let v2980 : BitVec 32 := Scalar.addi v2979 c8_i32_2229
  v2980
def k0_mult846 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2232 : BitVec 32 := 8#32
  let v2989 : BitVec 32 := Scalar.addi v2192 c8_i32_2232
  let c8_i32_2233 : BitVec 32 := 8#32
  let v2990 : BitVec 32 := Scalar.addi v2989 c8_i32_2233
  v2990
def k0_mult847 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2236 : BitVec 32 := 16#32
  let v2999 : BitVec 32 := Scalar.addi v2192 c16_i32_2236
  let c8_i32_2237 : BitVec 32 := 8#32
  let v3000 : BitVec 32 := Scalar.addi v2999 c8_i32_2237
  v3000
def k0_mult848 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2240 : BitVec 32 := 24#32
  let v3009 : BitVec 32 := Scalar.addi v2192 c24_i32_2240
  let c8_i32_2241 : BitVec 32 := 8#32
  let v3010 : BitVec 32 := Scalar.addi v3009 c8_i32_2241
  v3010
def k0_mult849 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2246 : BitVec 32 := 0#32
  let v3022 : BitVec 32 := Scalar.addi v2192 c0_i32_2246
  let c8_i32_2247 : BitVec 32 := 8#32
  let v3023 : BitVec 32 := Scalar.addi v3022 c8_i32_2247
  v3023
def k0_mult850 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2250 : BitVec 32 := 8#32
  let v3032 : BitVec 32 := Scalar.addi v2192 c8_i32_2250
  let c8_i32_2251 : BitVec 32 := 8#32
  let v3033 : BitVec 32 := Scalar.addi v3032 c8_i32_2251
  v3033
def k0_mult851 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2254 : BitVec 32 := 16#32
  let v3042 : BitVec 32 := Scalar.addi v2192 c16_i32_2254
  let c8_i32_2255 : BitVec 32 := 8#32
  let v3043 : BitVec 32 := Scalar.addi v3042 c8_i32_2255
  v3043
def k0_mult852 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2258 : BitVec 32 := 24#32
  let v3052 : BitVec 32 := Scalar.addi v2192 c24_i32_2258
  let c8_i32_2259 : BitVec 32 := 8#32
  let v3053 : BitVec 32 := Scalar.addi v3052 c8_i32_2259
  v3053
def k0_mult853 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2264 : BitVec 32 := 0#32
  let v3065 : BitVec 32 := Scalar.addi v2192 c0_i32_2264
  let c8_i32_2265 : BitVec 32 := 8#32
  let v3066 : BitVec 32 := Scalar.addi v3065 c8_i32_2265
  v3066
def k0_mult854 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2268 : BitVec 32 := 8#32
  let v3075 : BitVec 32 := Scalar.addi v2192 c8_i32_2268
  let c8_i32_2269 : BitVec 32 := 8#32
  let v3076 : BitVec 32 := Scalar.addi v3075 c8_i32_2269
  v3076
def k0_mult855 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2272 : BitVec 32 := 16#32
  let v3085 : BitVec 32 := Scalar.addi v2192 c16_i32_2272
  let c8_i32_2273 : BitVec 32 := 8#32
  let v3086 : BitVec 32 := Scalar.addi v3085 c8_i32_2273
  v3086
def k0_mult856 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2276 : BitVec 32 := 24#32
  let v3095 : BitVec 32 := Scalar.addi v2192 c24_i32_2276
  let c8_i32_2277 : BitVec 32 := 8#32
  let v3096 : BitVec 32 := Scalar.addi v3095 c8_i32_2277
  v3096
def k0_mult857 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2282 : BitVec 32 := 0#32
  let v3108 : BitVec 32 := Scalar.addi v2192 c0_i32_2282
  let c8_i32_2283 : BitVec 32 := 8#32
  let v3109 : BitVec 32 := Scalar.addi v3108 c8_i32_2283
  v3109
def k0_mult858 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2286 : BitVec 32 := 8#32
  let v3118 : BitVec 32 := Scalar.addi v2192 c8_i32_2286
  let c8_i32_2287 : BitVec 32 := 8#32
  let v3119 : BitVec 32 := Scalar.addi v3118 c8_i32_2287
  v3119
def k0_mult859 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2290 : BitVec 32 := 16#32
  let v3128 : BitVec 32 := Scalar.addi v2192 c16_i32_2290
  let c8_i32_2291 : BitVec 32 := 8#32
  let v3129 : BitVec 32 := Scalar.addi v3128 c8_i32_2291
  v3129
def k0_mult860 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2294 : BitVec 32 := 24#32
  let v3138 : BitVec 32 := Scalar.addi v2192 c24_i32_2294
  let c8_i32_2295 : BitVec 32 := 8#32
  let v3139 : BitVec 32 := Scalar.addi v3138 c8_i32_2295
  v3139
def k0_mult861 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2300 : BitVec 32 := 0#32
  let v3151 : BitVec 32 := Scalar.addi v2192 c0_i32_2300
  let c8_i32_2301 : BitVec 32 := 8#32
  let v3152 : BitVec 32 := Scalar.addi v3151 c8_i32_2301
  v3152
def k0_mult862 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2303 : BitVec 32 := 8#32
  let v3160 : BitVec 32 := Scalar.addi v2192 c8_i32_2303
  let c8_i32_2304 : BitVec 32 := 8#32
  let v3161 : BitVec 32 := Scalar.addi v3160 c8_i32_2304
  v3161
def k0_mult863 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2306 : BitVec 32 := 16#32
  let v3169 : BitVec 32 := Scalar.addi v2192 c16_i32_2306
  let c8_i32_2307 : BitVec 32 := 8#32
  let v3170 : BitVec 32 := Scalar.addi v3169 c8_i32_2307
  v3170
def k0_mult864 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2309 : BitVec 32 := 24#32
  let v3178 : BitVec 32 := Scalar.addi v2192 c24_i32_2309
  let c8_i32_2310 : BitVec 32 := 8#32
  let v3179 : BitVec 32 := Scalar.addi v3178 c8_i32_2310
  v3179
def k0_mult865 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2314 : BitVec 32 := 0#32
  let v3190 : BitVec 32 := Scalar.addi v2192 c0_i32_2314
  let c0_i32_2315 : BitVec 32 := 0#32
  let v3191 : BitVec 32 := Scalar.addi v3190 c0_i32_2315
  v3191
def k0_mult866 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2318 : BitVec 32 := 8#32
  let v3200 : BitVec 32 := Scalar.addi v2192 c8_i32_2318
  let c0_i32_2319 : BitVec 32 := 0#32
  let v3201 : BitVec 32 := Scalar.addi v3200 c0_i32_2319
  v3201
def k0_mult867 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2322 : BitVec 32 := 16#32
  let v3210 : BitVec 32 := Scalar.addi v2192 c16_i32_2322
  let c0_i32_2323 : BitVec 32 := 0#32
  let v3211 : BitVec 32 := Scalar.addi v3210 c0_i32_2323
  v3211
def k0_mult868 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2326 : BitVec 32 := 24#32
  let v3220 : BitVec 32 := Scalar.addi v2192 c24_i32_2326
  let c0_i32_2327 : BitVec 32 := 0#32
  let v3221 : BitVec 32 := Scalar.addi v3220 c0_i32_2327
  v3221
def k0_mult869 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2332 : BitVec 32 := 0#32
  let v3233 : BitVec 32 := Scalar.addi v2192 c0_i32_2332
  let c0_i32_2333 : BitVec 32 := 0#32
  let v3234 : BitVec 32 := Scalar.addi v3233 c0_i32_2333
  v3234
def k0_mult870 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2336 : BitVec 32 := 8#32
  let v3243 : BitVec 32 := Scalar.addi v2192 c8_i32_2336
  let c0_i32_2337 : BitVec 32 := 0#32
  let v3244 : BitVec 32 := Scalar.addi v3243 c0_i32_2337
  v3244
def k0_mult871 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2340 : BitVec 32 := 16#32
  let v3253 : BitVec 32 := Scalar.addi v2192 c16_i32_2340
  let c0_i32_2341 : BitVec 32 := 0#32
  let v3254 : BitVec 32 := Scalar.addi v3253 c0_i32_2341
  v3254
def k0_mult872 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2344 : BitVec 32 := 24#32
  let v3263 : BitVec 32 := Scalar.addi v2192 c24_i32_2344
  let c0_i32_2345 : BitVec 32 := 0#32
  let v3264 : BitVec 32 := Scalar.addi v3263 c0_i32_2345
  v3264
def k0_mult873 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2350 : BitVec 32 := 0#32
  let v3276 : BitVec 32 := Scalar.addi v2192 c0_i32_2350
  let c0_i32_2351 : BitVec 32 := 0#32
  let v3277 : BitVec 32 := Scalar.addi v3276 c0_i32_2351
  v3277
def k0_mult874 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2354 : BitVec 32 := 8#32
  let v3286 : BitVec 32 := Scalar.addi v2192 c8_i32_2354
  let c0_i32_2355 : BitVec 32 := 0#32
  let v3287 : BitVec 32 := Scalar.addi v3286 c0_i32_2355
  v3287
def k0_mult875 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2358 : BitVec 32 := 16#32
  let v3296 : BitVec 32 := Scalar.addi v2192 c16_i32_2358
  let c0_i32_2359 : BitVec 32 := 0#32
  let v3297 : BitVec 32 := Scalar.addi v3296 c0_i32_2359
  v3297
def k0_mult876 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2362 : BitVec 32 := 24#32
  let v3306 : BitVec 32 := Scalar.addi v2192 c24_i32_2362
  let c0_i32_2363 : BitVec 32 := 0#32
  let v3307 : BitVec 32 := Scalar.addi v3306 c0_i32_2363
  v3307
def k0_mult877 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2368 : BitVec 32 := 0#32
  let v3319 : BitVec 32 := Scalar.addi v2192 c0_i32_2368
  let c0_i32_2369 : BitVec 32 := 0#32
  let v3320 : BitVec 32 := Scalar.addi v3319 c0_i32_2369
  v3320
def k0_mult878 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2372 : BitVec 32 := 8#32
  let v3329 : BitVec 32 := Scalar.addi v2192 c8_i32_2372
  let c0_i32_2373 : BitVec 32 := 0#32
  let v3330 : BitVec 32 := Scalar.addi v3329 c0_i32_2373
  v3330
def k0_mult879 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2376 : BitVec 32 := 16#32
  let v3339 : BitVec 32 := Scalar.addi v2192 c16_i32_2376
  let c0_i32_2377 : BitVec 32 := 0#32
  let v3340 : BitVec 32 := Scalar.addi v3339 c0_i32_2377
  v3340
def k0_mult880 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2380 : BitVec 32 := 24#32
  let v3349 : BitVec 32 := Scalar.addi v2192 c24_i32_2380
  let c0_i32_2381 : BitVec 32 := 0#32
  let v3350 : BitVec 32 := Scalar.addi v3349 c0_i32_2381
  v3350
def k0_mult881 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2386 : BitVec 32 := 0#32
  let v3362 : BitVec 32 := Scalar.addi v2192 c0_i32_2386
  let c0_i32_2387 : BitVec 32 := 0#32
  let v3363 : BitVec 32 := Scalar.addi v3362 c0_i32_2387
  v3363
def k0_mult882 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2390 : BitVec 32 := 8#32
  let v3372 : BitVec 32 := Scalar.addi v2192 c8_i32_2390
  let c0_i32_2391 : BitVec 32 := 0#32
  let v3373 : BitVec 32 := Scalar.addi v3372 c0_i32_2391
  v3373
def k0_mult883 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2394 : BitVec 32 := 16#32
  let v3382 : BitVec 32 := Scalar.addi v2192 c16_i32_2394
  let c0_i32_2395 : BitVec 32 := 0#32
  let v3383 : BitVec 32 := Scalar.addi v3382 c0_i32_2395
  v3383
def k0_mult884 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2398 : BitVec 32 := 24#32
  let v3392 : BitVec 32 := Scalar.addi v2192 c24_i32_2398
  let c0_i32_2399 : BitVec 32 := 0#32
  let v3393 : BitVec 32 := Scalar.addi v3392 c0_i32_2399
  v3393
def k0_mult885 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2404 : BitVec 32 := 0#32
  let v3405 : BitVec 32 := Scalar.addi v2192 c0_i32_2404
  let c0_i32_2405 : BitVec 32 := 0#32
  let v3406 : BitVec 32 := Scalar.addi v3405 c0_i32_2405
  v3406
def k0_mult886 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2408 : BitVec 32 := 8#32
  let v3415 : BitVec 32 := Scalar.addi v2192 c8_i32_2408
  let c0_i32_2409 : BitVec 32 := 0#32
  let v3416 : BitVec 32 := Scalar.addi v3415 c0_i32_2409
  v3416
def k0_mult887 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2412 : BitVec 32 := 16#32
  let v3425 : BitVec 32 := Scalar.addi v2192 c16_i32_2412
  let c0_i32_2413 : BitVec 32 := 0#32
  let v3426 : BitVec 32 := Scalar.addi v3425 c0_i32_2413
  v3426
def k0_mult888 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2416 : BitVec 32 := 24#32
  let v3435 : BitVec 32 := Scalar.addi v2192 c24_i32_2416
  let c0_i32_2417 : BitVec 32 := 0#32
  let v3436 : BitVec 32 := Scalar.addi v3435 c0_i32_2417
  v3436
def k0_mult889 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2422 : BitVec 32 := 0#32
  let v3448 : BitVec 32 := Scalar.addi v2192 c0_i32_2422
  let c0_i32_2423 : BitVec 32 := 0#32
  let v3449 : BitVec 32 := Scalar.addi v3448 c0_i32_2423
  v3449
def k0_mult890 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2426 : BitVec 32 := 8#32
  let v3458 : BitVec 32 := Scalar.addi v2192 c8_i32_2426
  let c0_i32_2427 : BitVec 32 := 0#32
  let v3459 : BitVec 32 := Scalar.addi v3458 c0_i32_2427
  v3459
def k0_mult891 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2430 : BitVec 32 := 16#32
  let v3468 : BitVec 32 := Scalar.addi v2192 c16_i32_2430
  let c0_i32_2431 : BitVec 32 := 0#32
  let v3469 : BitVec 32 := Scalar.addi v3468 c0_i32_2431
  v3469
def k0_mult892 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2434 : BitVec 32 := 24#32
  let v3478 : BitVec 32 := Scalar.addi v2192 c24_i32_2434
  let c0_i32_2435 : BitVec 32 := 0#32
  let v3479 : BitVec 32 := Scalar.addi v3478 c0_i32_2435
  v3479
def k0_mult893 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c0_i32_2440 : BitVec 32 := 0#32
  let v3491 : BitVec 32 := Scalar.addi v2192 c0_i32_2440
  let c0_i32_2441 : BitVec 32 := 0#32
  let v3492 : BitVec 32 := Scalar.addi v3491 c0_i32_2441
  v3492
def k0_mult894 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c8_i32_2443 : BitVec 32 := 8#32
  let v3500 : BitVec 32 := Scalar.addi v2192 c8_i32_2443
  let c0_i32_2444 : BitVec 32 := 0#32
  let v3501 : BitVec 32 := Scalar.addi v3500 c0_i32_2444
  v3501
def k0_mult895 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c16_i32_2446 : BitVec 32 := 16#32
  let v3509 : BitVec 32 := Scalar.addi v2192 c16_i32_2446
  let c0_i32_2447 : BitVec 32 := 0#32
  let v3510 : BitVec 32 := Scalar.addi v3509 c0_i32_2447
  v3510
def k0_mult896 (k0_t7 : Fin k0_t7_loop.trips) : BitVec 32 :=
  let c0_i32_1514 : BitVec 32 := 0#32
  let c1_i32_1516 : BitVec 32 := 1#32
  let arg16 : BitVec 32 := Scf.iv c0_i32_1514 c1_i32_1516 k0_t7
  let c32_i32 : BitVec 32 := 32#32
  let v2192 : BitVec 32 := Scalar.muli arg16 c32_i32
  let c24_i32_2449 : BitVec 32 := 24#32
  let v3518 : BitVec 32 := Scalar.addi v2192 c24_i32_2449
  let c0_i32_2450 : BitVec 32 := 0#32
  let v3519 : BitVec 32 := Scalar.addi v3518 c0_i32_2450
  v3519
@[reducible] def k0_t8_loop : Scf.Loop 32 :=
  let c0_i32_1738 : BitVec 32 := 0#32
  let c16_i32_1739 : BitVec 32 := 16#32
  let v1993 : BitVec 32 := Scalar.addi c0_i32_1738 c16_i32_1739
  let c1_i32_1740 : BitVec 32 := 1#32
  ⟨c0_i32_1738, v1993, c1_i32_1740⟩
def k0_mult897 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_1902 : BitVec 32 := 0#32
  let v2193 : BitVec 32 := Scalar.addi v2192 c0_i32_1902
  v2193
def k0_mult898 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_1903 : BitVec 32 := 8#32
  let v2195 : BitVec 32 := Scalar.addi v2192 c8_i32_1903
  v2195
def k0_mult899 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_1904 : BitVec 32 := 16#32
  let v2197 : BitVec 32 := Scalar.addi v2192 c16_i32_1904
  v2197
def k0_mult900 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32 : BitVec 32 := 24#32
  let v2199 : BitVec 32 := Scalar.addi v2192 c24_i32
  v2199
def k0_off64 (k0_t8 : Fin k0_t8_loop.trips) (c0_i32_1902 : BitVec 32) : Fin 2 → Nat :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let v2193 : BitVec 32 := Scalar.addi v2192 c0_i32_1902
  let v2194 : BitVec 32 := v2193
  let v2201 : Index := Scalar.indexCast v2194
  let c896_1905 : Index := 896#32
  ![v2201.toNat, 896]
def k0_mult901 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_1912 : BitVec 32 := 0#32
  let v2213 : BitVec 32 := Scalar.addi v2192 c0_i32_1912
  let c24_i32_1913 : BitVec 32 := 24#32
  let v2214 : BitVec 32 := Scalar.addi v2213 c24_i32_1913
  v2214
def k0_off65 (k0_t8 : Fin k0_t8_loop.trips) (c0_i32_1912 : BitVec 32) (c24_i32_1913 : BitVec 32) : Fin 3 → Nat :=
  let c5_1914 : Index := 5#32
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let v2213 : BitVec 32 := Scalar.addi v2192 c0_i32_1912
  let v2214 : BitVec 32 := Scalar.addi v2213 c24_i32_1913
  let v2215 : BitVec 32 := v2214
  let v2216 : Index := Scalar.indexCast v2215
  let c0_1915 : Index := 0#32
  ![5, v2216.toNat, 0]
def k0_mult902 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_1916 : BitVec 32 := 8#32
  let v2223 : BitVec 32 := Scalar.addi v2192 c8_i32_1916
  let c24_i32_1917 : BitVec 32 := 24#32
  let v2224 : BitVec 32 := Scalar.addi v2223 c24_i32_1917
  v2224
def k0_mult903 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_1920 : BitVec 32 := 16#32
  let v2233 : BitVec 32 := Scalar.addi v2192 c16_i32_1920
  let c24_i32_1921 : BitVec 32 := 24#32
  let v2234 : BitVec 32 := Scalar.addi v2233 c24_i32_1921
  v2234
def k0_mult904 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_1924 : BitVec 32 := 24#32
  let v2243 : BitVec 32 := Scalar.addi v2192 c24_i32_1924
  let c24_i32_1925 : BitVec 32 := 24#32
  let v2244 : BitVec 32 := Scalar.addi v2243 c24_i32_1925
  v2244
def k0_mult905 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_1930 : BitVec 32 := 0#32
  let v2256 : BitVec 32 := Scalar.addi v2192 c0_i32_1930
  let c24_i32_1931 : BitVec 32 := 24#32
  let v2257 : BitVec 32 := Scalar.addi v2256 c24_i32_1931
  v2257
def k0_off66 (k0_t8 : Fin k0_t8_loop.trips) (c0_i32_1930 : BitVec 32) (c24_i32_1931 : BitVec 32) : Fin 3 → Nat :=
  let c4_1932 : Index := 4#32
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let v2256 : BitVec 32 := Scalar.addi v2192 c0_i32_1930
  let v2257 : BitVec 32 := Scalar.addi v2256 c24_i32_1931
  let v2258 : BitVec 32 := v2257
  let v2259 : Index := Scalar.indexCast v2258
  let c0_1933 : Index := 0#32
  ![4, v2259.toNat, 0]
def k0_mult906 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_1934 : BitVec 32 := 8#32
  let v2266 : BitVec 32 := Scalar.addi v2192 c8_i32_1934
  let c24_i32_1935 : BitVec 32 := 24#32
  let v2267 : BitVec 32 := Scalar.addi v2266 c24_i32_1935
  v2267
def k0_mult907 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_1938 : BitVec 32 := 16#32
  let v2276 : BitVec 32 := Scalar.addi v2192 c16_i32_1938
  let c24_i32_1939 : BitVec 32 := 24#32
  let v2277 : BitVec 32 := Scalar.addi v2276 c24_i32_1939
  v2277
def k0_mult908 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_1942 : BitVec 32 := 24#32
  let v2286 : BitVec 32 := Scalar.addi v2192 c24_i32_1942
  let c24_i32_1943 : BitVec 32 := 24#32
  let v2287 : BitVec 32 := Scalar.addi v2286 c24_i32_1943
  v2287
def k0_mult909 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_1948 : BitVec 32 := 0#32
  let v2299 : BitVec 32 := Scalar.addi v2192 c0_i32_1948
  let c24_i32_1949 : BitVec 32 := 24#32
  let v2300 : BitVec 32 := Scalar.addi v2299 c24_i32_1949
  v2300
def k0_off67 (k0_t8 : Fin k0_t8_loop.trips) (c0_i32_1948 : BitVec 32) (c24_i32_1949 : BitVec 32) : Fin 3 → Nat :=
  let c3_1950 : Index := 3#32
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let v2299 : BitVec 32 := Scalar.addi v2192 c0_i32_1948
  let v2300 : BitVec 32 := Scalar.addi v2299 c24_i32_1949
  let v2301 : BitVec 32 := v2300
  let v2302 : Index := Scalar.indexCast v2301
  let c0_1951 : Index := 0#32
  ![3, v2302.toNat, 0]
def k0_mult910 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_1952 : BitVec 32 := 8#32
  let v2309 : BitVec 32 := Scalar.addi v2192 c8_i32_1952
  let c24_i32_1953 : BitVec 32 := 24#32
  let v2310 : BitVec 32 := Scalar.addi v2309 c24_i32_1953
  v2310
def k0_mult911 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_1956 : BitVec 32 := 16#32
  let v2319 : BitVec 32 := Scalar.addi v2192 c16_i32_1956
  let c24_i32_1957 : BitVec 32 := 24#32
  let v2320 : BitVec 32 := Scalar.addi v2319 c24_i32_1957
  v2320
def k0_mult912 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_1960 : BitVec 32 := 24#32
  let v2329 : BitVec 32 := Scalar.addi v2192 c24_i32_1960
  let c24_i32_1961 : BitVec 32 := 24#32
  let v2330 : BitVec 32 := Scalar.addi v2329 c24_i32_1961
  v2330
def k0_mult913 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_1966 : BitVec 32 := 0#32
  let v2342 : BitVec 32 := Scalar.addi v2192 c0_i32_1966
  let c24_i32_1967 : BitVec 32 := 24#32
  let v2343 : BitVec 32 := Scalar.addi v2342 c24_i32_1967
  v2343
def k0_off68 (k0_t8 : Fin k0_t8_loop.trips) (c0_i32_1966 : BitVec 32) (c24_i32_1967 : BitVec 32) : Fin 3 → Nat :=
  let c2_1968 : Index := 2#32
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let v2342 : BitVec 32 := Scalar.addi v2192 c0_i32_1966
  let v2343 : BitVec 32 := Scalar.addi v2342 c24_i32_1967
  let v2344 : BitVec 32 := v2343
  let v2345 : Index := Scalar.indexCast v2344
  let c0_1969 : Index := 0#32
  ![2, v2345.toNat, 0]
def k0_mult914 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_1970 : BitVec 32 := 8#32
  let v2352 : BitVec 32 := Scalar.addi v2192 c8_i32_1970
  let c24_i32_1971 : BitVec 32 := 24#32
  let v2353 : BitVec 32 := Scalar.addi v2352 c24_i32_1971
  v2353
def k0_mult915 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_1974 : BitVec 32 := 16#32
  let v2362 : BitVec 32 := Scalar.addi v2192 c16_i32_1974
  let c24_i32_1975 : BitVec 32 := 24#32
  let v2363 : BitVec 32 := Scalar.addi v2362 c24_i32_1975
  v2363
def k0_mult916 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_1978 : BitVec 32 := 24#32
  let v2372 : BitVec 32 := Scalar.addi v2192 c24_i32_1978
  let c24_i32_1979 : BitVec 32 := 24#32
  let v2373 : BitVec 32 := Scalar.addi v2372 c24_i32_1979
  v2373
def k0_mult917 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_1984 : BitVec 32 := 0#32
  let v2385 : BitVec 32 := Scalar.addi v2192 c0_i32_1984
  let c24_i32_1985 : BitVec 32 := 24#32
  let v2386 : BitVec 32 := Scalar.addi v2385 c24_i32_1985
  v2386
def k0_off69 (k0_t8 : Fin k0_t8_loop.trips) (c0_i32_1984 : BitVec 32) (c24_i32_1985 : BitVec 32) : Fin 3 → Nat :=
  let c1_1986 : Index := 1#32
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let v2385 : BitVec 32 := Scalar.addi v2192 c0_i32_1984
  let v2386 : BitVec 32 := Scalar.addi v2385 c24_i32_1985
  let v2387 : BitVec 32 := v2386
  let v2388 : Index := Scalar.indexCast v2387
  let c0_1987 : Index := 0#32
  ![1, v2388.toNat, 0]
def k0_mult918 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_1988 : BitVec 32 := 8#32
  let v2395 : BitVec 32 := Scalar.addi v2192 c8_i32_1988
  let c24_i32_1989 : BitVec 32 := 24#32
  let v2396 : BitVec 32 := Scalar.addi v2395 c24_i32_1989
  v2396
def k0_mult919 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_1992 : BitVec 32 := 16#32
  let v2405 : BitVec 32 := Scalar.addi v2192 c16_i32_1992
  let c24_i32_1993 : BitVec 32 := 24#32
  let v2406 : BitVec 32 := Scalar.addi v2405 c24_i32_1993
  v2406
def k0_mult920 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_1996 : BitVec 32 := 24#32
  let v2415 : BitVec 32 := Scalar.addi v2192 c24_i32_1996
  let c24_i32_1997 : BitVec 32 := 24#32
  let v2416 : BitVec 32 := Scalar.addi v2415 c24_i32_1997
  v2416
def k0_mult921 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2002 : BitVec 32 := 0#32
  let v2428 : BitVec 32 := Scalar.addi v2192 c0_i32_2002
  let c24_i32_2003 : BitVec 32 := 24#32
  let v2429 : BitVec 32 := Scalar.addi v2428 c24_i32_2003
  v2429
def k0_off70 (k0_t8 : Fin k0_t8_loop.trips) (c0_i32_2002 : BitVec 32) (c24_i32_2003 : BitVec 32) : Fin 3 → Nat :=
  let c0_2004 : Index := 0#32
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let v2428 : BitVec 32 := Scalar.addi v2192 c0_i32_2002
  let v2429 : BitVec 32 := Scalar.addi v2428 c24_i32_2003
  let v2430 : BitVec 32 := v2429
  let v2431 : Index := Scalar.indexCast v2430
  let c0_2005 : Index := 0#32
  ![0, v2431.toNat, 0]
def k0_mult922 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2006 : BitVec 32 := 8#32
  let v2438 : BitVec 32 := Scalar.addi v2192 c8_i32_2006
  let c24_i32_2007 : BitVec 32 := 24#32
  let v2439 : BitVec 32 := Scalar.addi v2438 c24_i32_2007
  v2439
def k0_mult923 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2010 : BitVec 32 := 16#32
  let v2448 : BitVec 32 := Scalar.addi v2192 c16_i32_2010
  let c24_i32_2011 : BitVec 32 := 24#32
  let v2449 : BitVec 32 := Scalar.addi v2448 c24_i32_2011
  v2449
def k0_mult924 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2014 : BitVec 32 := 24#32
  let v2458 : BitVec 32 := Scalar.addi v2192 c24_i32_2014
  let c24_i32_2015 : BitVec 32 := 24#32
  let v2459 : BitVec 32 := Scalar.addi v2458 c24_i32_2015
  v2459
def k0_mult925 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2020 : BitVec 32 := 0#32
  let v2471 : BitVec 32 := Scalar.addi v2192 c0_i32_2020
  let c24_i32_2021 : BitVec 32 := 24#32
  let v2472 : BitVec 32 := Scalar.addi v2471 c24_i32_2021
  v2472
def k0_off71 (k0_t8 : Fin k0_t8_loop.trips) (c0_i32_2020 : BitVec 32) (c24_i32_2021 : BitVec 32) : Fin 2 → Nat :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let v2471 : BitVec 32 := Scalar.addi v2192 c0_i32_2020
  let v2472 : BitVec 32 := Scalar.addi v2471 c24_i32_2021
  let v2473 : BitVec 32 := v2472
  let v2474 : Index := Scalar.indexCast v2473
  let c896_2022 : Index := 896#32
  ![v2474.toNat, 896]
def k0_mult926 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2023 : BitVec 32 := 8#32
  let v2480 : BitVec 32 := Scalar.addi v2192 c8_i32_2023
  let c24_i32_2024 : BitVec 32 := 24#32
  let v2481 : BitVec 32 := Scalar.addi v2480 c24_i32_2024
  v2481
def k0_mult927 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2026 : BitVec 32 := 16#32
  let v2489 : BitVec 32 := Scalar.addi v2192 c16_i32_2026
  let c24_i32_2027 : BitVec 32 := 24#32
  let v2490 : BitVec 32 := Scalar.addi v2489 c24_i32_2027
  v2490
def k0_mult928 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2029 : BitVec 32 := 24#32
  let v2498 : BitVec 32 := Scalar.addi v2192 c24_i32_2029
  let c24_i32_2030 : BitVec 32 := 24#32
  let v2499 : BitVec 32 := Scalar.addi v2498 c24_i32_2030
  v2499
def k0_mult929 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2034 : BitVec 32 := 0#32
  let v2510 : BitVec 32 := Scalar.addi v2192 c0_i32_2034
  let c16_i32_2035 : BitVec 32 := 16#32
  let v2511 : BitVec 32 := Scalar.addi v2510 c16_i32_2035
  v2511
def k0_off72 (k0_t8 : Fin k0_t8_loop.trips) (c0_i32_2034 : BitVec 32) (c16_i32_2035 : BitVec 32) : Fin 3 → Nat :=
  let c6_2036 : Index := 6#32
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let v2510 : BitVec 32 := Scalar.addi v2192 c0_i32_2034
  let v2511 : BitVec 32 := Scalar.addi v2510 c16_i32_2035
  let v2512 : BitVec 32 := v2511
  let v2513 : Index := Scalar.indexCast v2512
  let c0_2037 : Index := 0#32
  ![6, v2513.toNat, 0]
def k0_mult930 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2038 : BitVec 32 := 8#32
  let v2520 : BitVec 32 := Scalar.addi v2192 c8_i32_2038
  let c16_i32_2039 : BitVec 32 := 16#32
  let v2521 : BitVec 32 := Scalar.addi v2520 c16_i32_2039
  v2521
def k0_mult931 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2042 : BitVec 32 := 16#32
  let v2530 : BitVec 32 := Scalar.addi v2192 c16_i32_2042
  let c16_i32_2043 : BitVec 32 := 16#32
  let v2531 : BitVec 32 := Scalar.addi v2530 c16_i32_2043
  v2531
def k0_mult932 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2046 : BitVec 32 := 24#32
  let v2540 : BitVec 32 := Scalar.addi v2192 c24_i32_2046
  let c16_i32_2047 : BitVec 32 := 16#32
  let v2541 : BitVec 32 := Scalar.addi v2540 c16_i32_2047
  v2541
def k0_mult933 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2052 : BitVec 32 := 0#32
  let v2553 : BitVec 32 := Scalar.addi v2192 c0_i32_2052
  let c16_i32_2053 : BitVec 32 := 16#32
  let v2554 : BitVec 32 := Scalar.addi v2553 c16_i32_2053
  v2554
def k0_mult934 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2056 : BitVec 32 := 8#32
  let v2563 : BitVec 32 := Scalar.addi v2192 c8_i32_2056
  let c16_i32_2057 : BitVec 32 := 16#32
  let v2564 : BitVec 32 := Scalar.addi v2563 c16_i32_2057
  v2564
def k0_mult935 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2060 : BitVec 32 := 16#32
  let v2573 : BitVec 32 := Scalar.addi v2192 c16_i32_2060
  let c16_i32_2061 : BitVec 32 := 16#32
  let v2574 : BitVec 32 := Scalar.addi v2573 c16_i32_2061
  v2574
def k0_mult936 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2064 : BitVec 32 := 24#32
  let v2583 : BitVec 32 := Scalar.addi v2192 c24_i32_2064
  let c16_i32_2065 : BitVec 32 := 16#32
  let v2584 : BitVec 32 := Scalar.addi v2583 c16_i32_2065
  v2584
def k0_mult937 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2070 : BitVec 32 := 0#32
  let v2596 : BitVec 32 := Scalar.addi v2192 c0_i32_2070
  let c16_i32_2071 : BitVec 32 := 16#32
  let v2597 : BitVec 32 := Scalar.addi v2596 c16_i32_2071
  v2597
def k0_mult938 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2074 : BitVec 32 := 8#32
  let v2606 : BitVec 32 := Scalar.addi v2192 c8_i32_2074
  let c16_i32_2075 : BitVec 32 := 16#32
  let v2607 : BitVec 32 := Scalar.addi v2606 c16_i32_2075
  v2607
def k0_mult939 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2078 : BitVec 32 := 16#32
  let v2616 : BitVec 32 := Scalar.addi v2192 c16_i32_2078
  let c16_i32_2079 : BitVec 32 := 16#32
  let v2617 : BitVec 32 := Scalar.addi v2616 c16_i32_2079
  v2617
def k0_mult940 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2082 : BitVec 32 := 24#32
  let v2626 : BitVec 32 := Scalar.addi v2192 c24_i32_2082
  let c16_i32_2083 : BitVec 32 := 16#32
  let v2627 : BitVec 32 := Scalar.addi v2626 c16_i32_2083
  v2627
def k0_mult941 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2088 : BitVec 32 := 0#32
  let v2639 : BitVec 32 := Scalar.addi v2192 c0_i32_2088
  let c16_i32_2089 : BitVec 32 := 16#32
  let v2640 : BitVec 32 := Scalar.addi v2639 c16_i32_2089
  v2640
def k0_mult942 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2092 : BitVec 32 := 8#32
  let v2649 : BitVec 32 := Scalar.addi v2192 c8_i32_2092
  let c16_i32_2093 : BitVec 32 := 16#32
  let v2650 : BitVec 32 := Scalar.addi v2649 c16_i32_2093
  v2650
def k0_mult943 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2096 : BitVec 32 := 16#32
  let v2659 : BitVec 32 := Scalar.addi v2192 c16_i32_2096
  let c16_i32_2097 : BitVec 32 := 16#32
  let v2660 : BitVec 32 := Scalar.addi v2659 c16_i32_2097
  v2660
def k0_mult944 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2100 : BitVec 32 := 24#32
  let v2669 : BitVec 32 := Scalar.addi v2192 c24_i32_2100
  let c16_i32_2101 : BitVec 32 := 16#32
  let v2670 : BitVec 32 := Scalar.addi v2669 c16_i32_2101
  v2670
def k0_mult945 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2106 : BitVec 32 := 0#32
  let v2682 : BitVec 32 := Scalar.addi v2192 c0_i32_2106
  let c16_i32_2107 : BitVec 32 := 16#32
  let v2683 : BitVec 32 := Scalar.addi v2682 c16_i32_2107
  v2683
def k0_mult946 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2110 : BitVec 32 := 8#32
  let v2692 : BitVec 32 := Scalar.addi v2192 c8_i32_2110
  let c16_i32_2111 : BitVec 32 := 16#32
  let v2693 : BitVec 32 := Scalar.addi v2692 c16_i32_2111
  v2693
def k0_mult947 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2114 : BitVec 32 := 16#32
  let v2702 : BitVec 32 := Scalar.addi v2192 c16_i32_2114
  let c16_i32_2115 : BitVec 32 := 16#32
  let v2703 : BitVec 32 := Scalar.addi v2702 c16_i32_2115
  v2703
def k0_mult948 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2118 : BitVec 32 := 24#32
  let v2712 : BitVec 32 := Scalar.addi v2192 c24_i32_2118
  let c16_i32_2119 : BitVec 32 := 16#32
  let v2713 : BitVec 32 := Scalar.addi v2712 c16_i32_2119
  v2713
def k0_mult949 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2124 : BitVec 32 := 0#32
  let v2725 : BitVec 32 := Scalar.addi v2192 c0_i32_2124
  let c16_i32_2125 : BitVec 32 := 16#32
  let v2726 : BitVec 32 := Scalar.addi v2725 c16_i32_2125
  v2726
def k0_mult950 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2128 : BitVec 32 := 8#32
  let v2735 : BitVec 32 := Scalar.addi v2192 c8_i32_2128
  let c16_i32_2129 : BitVec 32 := 16#32
  let v2736 : BitVec 32 := Scalar.addi v2735 c16_i32_2129
  v2736
def k0_mult951 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2132 : BitVec 32 := 16#32
  let v2745 : BitVec 32 := Scalar.addi v2192 c16_i32_2132
  let c16_i32_2133 : BitVec 32 := 16#32
  let v2746 : BitVec 32 := Scalar.addi v2745 c16_i32_2133
  v2746
def k0_mult952 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2136 : BitVec 32 := 24#32
  let v2755 : BitVec 32 := Scalar.addi v2192 c24_i32_2136
  let c16_i32_2137 : BitVec 32 := 16#32
  let v2756 : BitVec 32 := Scalar.addi v2755 c16_i32_2137
  v2756
def k0_mult953 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2142 : BitVec 32 := 0#32
  let v2768 : BitVec 32 := Scalar.addi v2192 c0_i32_2142
  let c16_i32_2143 : BitVec 32 := 16#32
  let v2769 : BitVec 32 := Scalar.addi v2768 c16_i32_2143
  v2769
def k0_mult954 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2146 : BitVec 32 := 8#32
  let v2778 : BitVec 32 := Scalar.addi v2192 c8_i32_2146
  let c16_i32_2147 : BitVec 32 := 16#32
  let v2779 : BitVec 32 := Scalar.addi v2778 c16_i32_2147
  v2779
def k0_mult955 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2150 : BitVec 32 := 16#32
  let v2788 : BitVec 32 := Scalar.addi v2192 c16_i32_2150
  let c16_i32_2151 : BitVec 32 := 16#32
  let v2789 : BitVec 32 := Scalar.addi v2788 c16_i32_2151
  v2789
def k0_mult956 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2154 : BitVec 32 := 24#32
  let v2798 : BitVec 32 := Scalar.addi v2192 c24_i32_2154
  let c16_i32_2155 : BitVec 32 := 16#32
  let v2799 : BitVec 32 := Scalar.addi v2798 c16_i32_2155
  v2799
def k0_mult957 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2160 : BitVec 32 := 0#32
  let v2811 : BitVec 32 := Scalar.addi v2192 c0_i32_2160
  let c16_i32_2161 : BitVec 32 := 16#32
  let v2812 : BitVec 32 := Scalar.addi v2811 c16_i32_2161
  v2812
def k0_mult958 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2163 : BitVec 32 := 8#32
  let v2820 : BitVec 32 := Scalar.addi v2192 c8_i32_2163
  let c16_i32_2164 : BitVec 32 := 16#32
  let v2821 : BitVec 32 := Scalar.addi v2820 c16_i32_2164
  v2821
def k0_mult959 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2166 : BitVec 32 := 16#32
  let v2829 : BitVec 32 := Scalar.addi v2192 c16_i32_2166
  let c16_i32_2167 : BitVec 32 := 16#32
  let v2830 : BitVec 32 := Scalar.addi v2829 c16_i32_2167
  v2830
def k0_mult960 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2169 : BitVec 32 := 24#32
  let v2838 : BitVec 32 := Scalar.addi v2192 c24_i32_2169
  let c16_i32_2170 : BitVec 32 := 16#32
  let v2839 : BitVec 32 := Scalar.addi v2838 c16_i32_2170
  v2839
def k0_mult961 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2174 : BitVec 32 := 0#32
  let v2850 : BitVec 32 := Scalar.addi v2192 c0_i32_2174
  let c8_i32_2175 : BitVec 32 := 8#32
  let v2851 : BitVec 32 := Scalar.addi v2850 c8_i32_2175
  v2851
def k0_mult962 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2178 : BitVec 32 := 8#32
  let v2860 : BitVec 32 := Scalar.addi v2192 c8_i32_2178
  let c8_i32_2179 : BitVec 32 := 8#32
  let v2861 : BitVec 32 := Scalar.addi v2860 c8_i32_2179
  v2861
def k0_mult963 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2182 : BitVec 32 := 16#32
  let v2870 : BitVec 32 := Scalar.addi v2192 c16_i32_2182
  let c8_i32_2183 : BitVec 32 := 8#32
  let v2871 : BitVec 32 := Scalar.addi v2870 c8_i32_2183
  v2871
def k0_mult964 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2186 : BitVec 32 := 24#32
  let v2880 : BitVec 32 := Scalar.addi v2192 c24_i32_2186
  let c8_i32_2187 : BitVec 32 := 8#32
  let v2881 : BitVec 32 := Scalar.addi v2880 c8_i32_2187
  v2881
def k0_mult965 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2192 : BitVec 32 := 0#32
  let v2893 : BitVec 32 := Scalar.addi v2192 c0_i32_2192
  let c8_i32_2193 : BitVec 32 := 8#32
  let v2894 : BitVec 32 := Scalar.addi v2893 c8_i32_2193
  v2894
def k0_mult966 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2196 : BitVec 32 := 8#32
  let v2903 : BitVec 32 := Scalar.addi v2192 c8_i32_2196
  let c8_i32_2197 : BitVec 32 := 8#32
  let v2904 : BitVec 32 := Scalar.addi v2903 c8_i32_2197
  v2904
def k0_mult967 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2200 : BitVec 32 := 16#32
  let v2913 : BitVec 32 := Scalar.addi v2192 c16_i32_2200
  let c8_i32_2201 : BitVec 32 := 8#32
  let v2914 : BitVec 32 := Scalar.addi v2913 c8_i32_2201
  v2914
def k0_mult968 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2204 : BitVec 32 := 24#32
  let v2923 : BitVec 32 := Scalar.addi v2192 c24_i32_2204
  let c8_i32_2205 : BitVec 32 := 8#32
  let v2924 : BitVec 32 := Scalar.addi v2923 c8_i32_2205
  v2924
def k0_mult969 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2210 : BitVec 32 := 0#32
  let v2936 : BitVec 32 := Scalar.addi v2192 c0_i32_2210
  let c8_i32_2211 : BitVec 32 := 8#32
  let v2937 : BitVec 32 := Scalar.addi v2936 c8_i32_2211
  v2937
def k0_mult970 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2214 : BitVec 32 := 8#32
  let v2946 : BitVec 32 := Scalar.addi v2192 c8_i32_2214
  let c8_i32_2215 : BitVec 32 := 8#32
  let v2947 : BitVec 32 := Scalar.addi v2946 c8_i32_2215
  v2947
def k0_mult971 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2218 : BitVec 32 := 16#32
  let v2956 : BitVec 32 := Scalar.addi v2192 c16_i32_2218
  let c8_i32_2219 : BitVec 32 := 8#32
  let v2957 : BitVec 32 := Scalar.addi v2956 c8_i32_2219
  v2957
def k0_mult972 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2222 : BitVec 32 := 24#32
  let v2966 : BitVec 32 := Scalar.addi v2192 c24_i32_2222
  let c8_i32_2223 : BitVec 32 := 8#32
  let v2967 : BitVec 32 := Scalar.addi v2966 c8_i32_2223
  v2967
def k0_mult973 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2228 : BitVec 32 := 0#32
  let v2979 : BitVec 32 := Scalar.addi v2192 c0_i32_2228
  let c8_i32_2229 : BitVec 32 := 8#32
  let v2980 : BitVec 32 := Scalar.addi v2979 c8_i32_2229
  v2980
def k0_mult974 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2232 : BitVec 32 := 8#32
  let v2989 : BitVec 32 := Scalar.addi v2192 c8_i32_2232
  let c8_i32_2233 : BitVec 32 := 8#32
  let v2990 : BitVec 32 := Scalar.addi v2989 c8_i32_2233
  v2990
def k0_mult975 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2236 : BitVec 32 := 16#32
  let v2999 : BitVec 32 := Scalar.addi v2192 c16_i32_2236
  let c8_i32_2237 : BitVec 32 := 8#32
  let v3000 : BitVec 32 := Scalar.addi v2999 c8_i32_2237
  v3000
def k0_mult976 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2240 : BitVec 32 := 24#32
  let v3009 : BitVec 32 := Scalar.addi v2192 c24_i32_2240
  let c8_i32_2241 : BitVec 32 := 8#32
  let v3010 : BitVec 32 := Scalar.addi v3009 c8_i32_2241
  v3010
def k0_mult977 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2246 : BitVec 32 := 0#32
  let v3022 : BitVec 32 := Scalar.addi v2192 c0_i32_2246
  let c8_i32_2247 : BitVec 32 := 8#32
  let v3023 : BitVec 32 := Scalar.addi v3022 c8_i32_2247
  v3023
def k0_mult978 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2250 : BitVec 32 := 8#32
  let v3032 : BitVec 32 := Scalar.addi v2192 c8_i32_2250
  let c8_i32_2251 : BitVec 32 := 8#32
  let v3033 : BitVec 32 := Scalar.addi v3032 c8_i32_2251
  v3033
def k0_mult979 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2254 : BitVec 32 := 16#32
  let v3042 : BitVec 32 := Scalar.addi v2192 c16_i32_2254
  let c8_i32_2255 : BitVec 32 := 8#32
  let v3043 : BitVec 32 := Scalar.addi v3042 c8_i32_2255
  v3043
def k0_mult980 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2258 : BitVec 32 := 24#32
  let v3052 : BitVec 32 := Scalar.addi v2192 c24_i32_2258
  let c8_i32_2259 : BitVec 32 := 8#32
  let v3053 : BitVec 32 := Scalar.addi v3052 c8_i32_2259
  v3053
def k0_mult981 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2264 : BitVec 32 := 0#32
  let v3065 : BitVec 32 := Scalar.addi v2192 c0_i32_2264
  let c8_i32_2265 : BitVec 32 := 8#32
  let v3066 : BitVec 32 := Scalar.addi v3065 c8_i32_2265
  v3066
def k0_mult982 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2268 : BitVec 32 := 8#32
  let v3075 : BitVec 32 := Scalar.addi v2192 c8_i32_2268
  let c8_i32_2269 : BitVec 32 := 8#32
  let v3076 : BitVec 32 := Scalar.addi v3075 c8_i32_2269
  v3076
def k0_mult983 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2272 : BitVec 32 := 16#32
  let v3085 : BitVec 32 := Scalar.addi v2192 c16_i32_2272
  let c8_i32_2273 : BitVec 32 := 8#32
  let v3086 : BitVec 32 := Scalar.addi v3085 c8_i32_2273
  v3086
def k0_mult984 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2276 : BitVec 32 := 24#32
  let v3095 : BitVec 32 := Scalar.addi v2192 c24_i32_2276
  let c8_i32_2277 : BitVec 32 := 8#32
  let v3096 : BitVec 32 := Scalar.addi v3095 c8_i32_2277
  v3096
def k0_mult985 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2282 : BitVec 32 := 0#32
  let v3108 : BitVec 32 := Scalar.addi v2192 c0_i32_2282
  let c8_i32_2283 : BitVec 32 := 8#32
  let v3109 : BitVec 32 := Scalar.addi v3108 c8_i32_2283
  v3109
def k0_mult986 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2286 : BitVec 32 := 8#32
  let v3118 : BitVec 32 := Scalar.addi v2192 c8_i32_2286
  let c8_i32_2287 : BitVec 32 := 8#32
  let v3119 : BitVec 32 := Scalar.addi v3118 c8_i32_2287
  v3119
def k0_mult987 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2290 : BitVec 32 := 16#32
  let v3128 : BitVec 32 := Scalar.addi v2192 c16_i32_2290
  let c8_i32_2291 : BitVec 32 := 8#32
  let v3129 : BitVec 32 := Scalar.addi v3128 c8_i32_2291
  v3129
def k0_mult988 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2294 : BitVec 32 := 24#32
  let v3138 : BitVec 32 := Scalar.addi v2192 c24_i32_2294
  let c8_i32_2295 : BitVec 32 := 8#32
  let v3139 : BitVec 32 := Scalar.addi v3138 c8_i32_2295
  v3139
def k0_mult989 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2300 : BitVec 32 := 0#32
  let v3151 : BitVec 32 := Scalar.addi v2192 c0_i32_2300
  let c8_i32_2301 : BitVec 32 := 8#32
  let v3152 : BitVec 32 := Scalar.addi v3151 c8_i32_2301
  v3152
def k0_mult990 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2303 : BitVec 32 := 8#32
  let v3160 : BitVec 32 := Scalar.addi v2192 c8_i32_2303
  let c8_i32_2304 : BitVec 32 := 8#32
  let v3161 : BitVec 32 := Scalar.addi v3160 c8_i32_2304
  v3161
def k0_mult991 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2306 : BitVec 32 := 16#32
  let v3169 : BitVec 32 := Scalar.addi v2192 c16_i32_2306
  let c8_i32_2307 : BitVec 32 := 8#32
  let v3170 : BitVec 32 := Scalar.addi v3169 c8_i32_2307
  v3170
def k0_mult992 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2309 : BitVec 32 := 24#32
  let v3178 : BitVec 32 := Scalar.addi v2192 c24_i32_2309
  let c8_i32_2310 : BitVec 32 := 8#32
  let v3179 : BitVec 32 := Scalar.addi v3178 c8_i32_2310
  v3179
def k0_mult993 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2314 : BitVec 32 := 0#32
  let v3190 : BitVec 32 := Scalar.addi v2192 c0_i32_2314
  let c0_i32_2315 : BitVec 32 := 0#32
  let v3191 : BitVec 32 := Scalar.addi v3190 c0_i32_2315
  v3191
def k0_mult994 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2318 : BitVec 32 := 8#32
  let v3200 : BitVec 32 := Scalar.addi v2192 c8_i32_2318
  let c0_i32_2319 : BitVec 32 := 0#32
  let v3201 : BitVec 32 := Scalar.addi v3200 c0_i32_2319
  v3201
def k0_mult995 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2322 : BitVec 32 := 16#32
  let v3210 : BitVec 32 := Scalar.addi v2192 c16_i32_2322
  let c0_i32_2323 : BitVec 32 := 0#32
  let v3211 : BitVec 32 := Scalar.addi v3210 c0_i32_2323
  v3211
def k0_mult996 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2326 : BitVec 32 := 24#32
  let v3220 : BitVec 32 := Scalar.addi v2192 c24_i32_2326
  let c0_i32_2327 : BitVec 32 := 0#32
  let v3221 : BitVec 32 := Scalar.addi v3220 c0_i32_2327
  v3221
def k0_mult997 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2332 : BitVec 32 := 0#32
  let v3233 : BitVec 32 := Scalar.addi v2192 c0_i32_2332
  let c0_i32_2333 : BitVec 32 := 0#32
  let v3234 : BitVec 32 := Scalar.addi v3233 c0_i32_2333
  v3234
def k0_mult998 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2336 : BitVec 32 := 8#32
  let v3243 : BitVec 32 := Scalar.addi v2192 c8_i32_2336
  let c0_i32_2337 : BitVec 32 := 0#32
  let v3244 : BitVec 32 := Scalar.addi v3243 c0_i32_2337
  v3244
def k0_mult999 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2340 : BitVec 32 := 16#32
  let v3253 : BitVec 32 := Scalar.addi v2192 c16_i32_2340
  let c0_i32_2341 : BitVec 32 := 0#32
  let v3254 : BitVec 32 := Scalar.addi v3253 c0_i32_2341
  v3254
def k0_mult1000 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2344 : BitVec 32 := 24#32
  let v3263 : BitVec 32 := Scalar.addi v2192 c24_i32_2344
  let c0_i32_2345 : BitVec 32 := 0#32
  let v3264 : BitVec 32 := Scalar.addi v3263 c0_i32_2345
  v3264
def k0_mult1001 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2350 : BitVec 32 := 0#32
  let v3276 : BitVec 32 := Scalar.addi v2192 c0_i32_2350
  let c0_i32_2351 : BitVec 32 := 0#32
  let v3277 : BitVec 32 := Scalar.addi v3276 c0_i32_2351
  v3277
def k0_mult1002 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2354 : BitVec 32 := 8#32
  let v3286 : BitVec 32 := Scalar.addi v2192 c8_i32_2354
  let c0_i32_2355 : BitVec 32 := 0#32
  let v3287 : BitVec 32 := Scalar.addi v3286 c0_i32_2355
  v3287
def k0_mult1003 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2358 : BitVec 32 := 16#32
  let v3296 : BitVec 32 := Scalar.addi v2192 c16_i32_2358
  let c0_i32_2359 : BitVec 32 := 0#32
  let v3297 : BitVec 32 := Scalar.addi v3296 c0_i32_2359
  v3297
def k0_mult1004 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2362 : BitVec 32 := 24#32
  let v3306 : BitVec 32 := Scalar.addi v2192 c24_i32_2362
  let c0_i32_2363 : BitVec 32 := 0#32
  let v3307 : BitVec 32 := Scalar.addi v3306 c0_i32_2363
  v3307
def k0_mult1005 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2368 : BitVec 32 := 0#32
  let v3319 : BitVec 32 := Scalar.addi v2192 c0_i32_2368
  let c0_i32_2369 : BitVec 32 := 0#32
  let v3320 : BitVec 32 := Scalar.addi v3319 c0_i32_2369
  v3320
def k0_mult1006 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2372 : BitVec 32 := 8#32
  let v3329 : BitVec 32 := Scalar.addi v2192 c8_i32_2372
  let c0_i32_2373 : BitVec 32 := 0#32
  let v3330 : BitVec 32 := Scalar.addi v3329 c0_i32_2373
  v3330
def k0_mult1007 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2376 : BitVec 32 := 16#32
  let v3339 : BitVec 32 := Scalar.addi v2192 c16_i32_2376
  let c0_i32_2377 : BitVec 32 := 0#32
  let v3340 : BitVec 32 := Scalar.addi v3339 c0_i32_2377
  v3340
def k0_mult1008 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2380 : BitVec 32 := 24#32
  let v3349 : BitVec 32 := Scalar.addi v2192 c24_i32_2380
  let c0_i32_2381 : BitVec 32 := 0#32
  let v3350 : BitVec 32 := Scalar.addi v3349 c0_i32_2381
  v3350
def k0_mult1009 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2386 : BitVec 32 := 0#32
  let v3362 : BitVec 32 := Scalar.addi v2192 c0_i32_2386
  let c0_i32_2387 : BitVec 32 := 0#32
  let v3363 : BitVec 32 := Scalar.addi v3362 c0_i32_2387
  v3363
def k0_mult1010 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2390 : BitVec 32 := 8#32
  let v3372 : BitVec 32 := Scalar.addi v2192 c8_i32_2390
  let c0_i32_2391 : BitVec 32 := 0#32
  let v3373 : BitVec 32 := Scalar.addi v3372 c0_i32_2391
  v3373
def k0_mult1011 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2394 : BitVec 32 := 16#32
  let v3382 : BitVec 32 := Scalar.addi v2192 c16_i32_2394
  let c0_i32_2395 : BitVec 32 := 0#32
  let v3383 : BitVec 32 := Scalar.addi v3382 c0_i32_2395
  v3383
def k0_mult1012 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2398 : BitVec 32 := 24#32
  let v3392 : BitVec 32 := Scalar.addi v2192 c24_i32_2398
  let c0_i32_2399 : BitVec 32 := 0#32
  let v3393 : BitVec 32 := Scalar.addi v3392 c0_i32_2399
  v3393
def k0_mult1013 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2404 : BitVec 32 := 0#32
  let v3405 : BitVec 32 := Scalar.addi v2192 c0_i32_2404
  let c0_i32_2405 : BitVec 32 := 0#32
  let v3406 : BitVec 32 := Scalar.addi v3405 c0_i32_2405
  v3406
def k0_mult1014 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2408 : BitVec 32 := 8#32
  let v3415 : BitVec 32 := Scalar.addi v2192 c8_i32_2408
  let c0_i32_2409 : BitVec 32 := 0#32
  let v3416 : BitVec 32 := Scalar.addi v3415 c0_i32_2409
  v3416
def k0_mult1015 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2412 : BitVec 32 := 16#32
  let v3425 : BitVec 32 := Scalar.addi v2192 c16_i32_2412
  let c0_i32_2413 : BitVec 32 := 0#32
  let v3426 : BitVec 32 := Scalar.addi v3425 c0_i32_2413
  v3426
def k0_mult1016 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2416 : BitVec 32 := 24#32
  let v3435 : BitVec 32 := Scalar.addi v2192 c24_i32_2416
  let c0_i32_2417 : BitVec 32 := 0#32
  let v3436 : BitVec 32 := Scalar.addi v3435 c0_i32_2417
  v3436
def k0_mult1017 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2422 : BitVec 32 := 0#32
  let v3448 : BitVec 32 := Scalar.addi v2192 c0_i32_2422
  let c0_i32_2423 : BitVec 32 := 0#32
  let v3449 : BitVec 32 := Scalar.addi v3448 c0_i32_2423
  v3449
def k0_mult1018 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2426 : BitVec 32 := 8#32
  let v3458 : BitVec 32 := Scalar.addi v2192 c8_i32_2426
  let c0_i32_2427 : BitVec 32 := 0#32
  let v3459 : BitVec 32 := Scalar.addi v3458 c0_i32_2427
  v3459
def k0_mult1019 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2430 : BitVec 32 := 16#32
  let v3468 : BitVec 32 := Scalar.addi v2192 c16_i32_2430
  let c0_i32_2431 : BitVec 32 := 0#32
  let v3469 : BitVec 32 := Scalar.addi v3468 c0_i32_2431
  v3469
def k0_mult1020 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2434 : BitVec 32 := 24#32
  let v3478 : BitVec 32 := Scalar.addi v2192 c24_i32_2434
  let c0_i32_2435 : BitVec 32 := 0#32
  let v3479 : BitVec 32 := Scalar.addi v3478 c0_i32_2435
  v3479
def k0_mult1021 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c0_i32_2440 : BitVec 32 := 0#32
  let v3491 : BitVec 32 := Scalar.addi v2192 c0_i32_2440
  let c0_i32_2441 : BitVec 32 := 0#32
  let v3492 : BitVec 32 := Scalar.addi v3491 c0_i32_2441
  v3492
def k0_mult1022 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c8_i32_2443 : BitVec 32 := 8#32
  let v3500 : BitVec 32 := Scalar.addi v2192 c8_i32_2443
  let c0_i32_2444 : BitVec 32 := 0#32
  let v3501 : BitVec 32 := Scalar.addi v3500 c0_i32_2444
  v3501
def k0_mult1023 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c16_i32_2446 : BitVec 32 := 16#32
  let v3509 : BitVec 32 := Scalar.addi v2192 c16_i32_2446
  let c0_i32_2447 : BitVec 32 := 0#32
  let v3510 : BitVec 32 := Scalar.addi v3509 c0_i32_2447
  v3510
def k0_mult1024 (k0_t8 : Fin k0_t8_loop.trips) : BitVec 32 :=
  let c0_i32_1738 : BitVec 32 := 0#32
  let c1_i32_1740 : BitVec 32 := 1#32
  let arg16 : BitVec 32 := Scf.iv c0_i32_1738 c1_i32_1740 k0_t8
  let c32_i32 : BitVec 32 := 32#32
  let v2192 : BitVec 32 := Scalar.muli arg16 c32_i32
  let c24_i32_2449 : BitVec 32 := 24#32
  let v3518 : BitVec 32 := Scalar.addi v2192 c24_i32_2449
  let c0_i32_2450 : BitVec 32 := 0#32
  let v3519 : BitVec 32 := Scalar.addi v3518 c0_i32_2450
  v3519
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelPle.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S4x256x1024 : Shape := ⟨3, ![4, 256, 1024]⟩
abbrev S_ : Shape := ⟨0, ![]⟩
abbrev S4x4288x1024 : Shape := ⟨3, ![4, 4288, 1024]⟩
abbrev S512x1024 : Shape := ⟨2, ![512, 1024]⟩
abbrev S512x256 : Shape := ⟨2, ![512, 256]⟩
abbrev S4 : Shape := ⟨1, ![4]⟩
abbrev S1 : Shape := ⟨1, ![1]⟩
abbrev S1x256x1024 : Shape := ⟨3, ![1, 256, 1024]⟩
abbrev S512 : Shape := ⟨1, ![512]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024x256, .f32⟩
  | .hbm, ⟨7, _⟩ => ⟨S1024x256, .bf16⟩
  | .hbm, ⟨8, _⟩ => ⟨S1024x1024, .bf16⟩
  | .hbm, ⟨9, _⟩ => ⟨S4x256x1024, .bf16⟩
  | .hbm, ⟨10, _⟩ => ⟨S_, .i32⟩
  | .hbm, ⟨11, _⟩ => ⟨S_, .bf16⟩
  | .hbm, ⟨12, _⟩ => ⟨S4x4288x1024, .bf16⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x256, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferencePleIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== KernelPleb.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S4x256x1024 : Shape := ⟨3, ![4, 256, 1024]⟩
abbrev S_ : Shape := ⟨0, ![]⟩
abbrev S4x4288x1024 : Shape := ⟨3, ![4, 4288, 1024]⟩
abbrev S512x1024 : Shape := ⟨2, ![512, 1024]⟩
abbrev S512x256 : Shape := ⟨2, ![512, 256]⟩
abbrev S4 : Shape := ⟨1, ![4]⟩
abbrev S1 : Shape := ⟨1, ![1]⟩
abbrev S1x256x1024 : Shape := ⟨3, ![1, 256, 1024]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S1024x256, .f32⟩
  | .hbm, ⟨8, _⟩ => ⟨S1024x256, .bf16⟩
  | .hbm, ⟨9, _⟩ => ⟨S1024x1024, .bf16⟩
  | .hbm, ⟨10, _⟩ => ⟨S4x256x1024, .bf16⟩
  | .hbm, ⟨11, _⟩ => ⟨S_, .i32⟩
  | .hbm, ⟨12, _⟩ => ⟨S_, .bf16⟩
  | .hbm, ⟨13, _⟩ => ⟨S4x4288x1024, .bf16⟩
  | .hbm, ⟨14, _⟩ => ⟨S8192x1024, .f32⟩
  | .hbm, ⟨15, _⟩ => ⟨S1x1024, .f32⟩
  | .hbm, ⟨16, _⟩ => ⟨S1024x256, .f32⟩
  | .hbm, ⟨17, _⟩ => ⟨S4x4288x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x256, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x256, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferencePlebIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x256, .f32⟩
  | .hbm, ⟨46, _⟩ => ⟨S256x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Proof.Own.lean ====
/- What a core holds of a buffer and of a copy's semaphore, in short. -/
module

public import Idealize.ShloMosaic.Lib.Pipeline.FrameValue
public import Idealize.ShloMosaic.Lib.Claim

@[expose] public section

noncomputable section

namespace Cert.Own

open Idealize.ShloMosaic Idealize.ShloMosaic.TcCoe Idealize.SL Idealize.SL.RA Idealize.SL.BI
open scoped Idealize.SL.BI
open Idealize.SL.BI.BIBase Idealize.SL.BI.Laws Idealize.SL.ProofMode

variable {nD : Nat} {τ : Topo} {sig : RefSig} {F : FTy → Type} [FloatOps F]

local notation "𝕄" => MT nD τ sig Unit (Elt F) ℕ (Pipeline.UD sig nD τ) ℕ

/-- The block `r` at contents `x`. -/
abbrev ow (c : Dev nD) {s : Shape} {e : EltTy} (r : Memref sig .tc .vmem s e) (x : Vec F s e) : sProp 𝕄 := owns (c : Thread nD τ) r fullShare x

/-- A copy's semaphore, at rest. -/
abbrev sv (c : Dev nD) (n : DmaSem sig) : sProp 𝕄 := semVal ((c : Thread nD τ), SemLoc.dma n) 0

/-- The block `r` after the stores `L`. -/
abbrev wr (c : Dev nD) {s : Shape} {e : EltTy} (r : Memref sig .tc .vmem s e) (L : List (View.Piece (Elt F) s e)) : sProp 𝕄 :=
  iprop(∃ f, r.view.loc (c : Thread nD τ) ↦[r.view.set]{fullShare} r.view.writes (Elt F) f L)

/-- Stores that cover the block leave in it what they leave anywhere. -/
theorem wr_ow (c : Dev nD) {s : Shape} {e : EltTy} (r : Memref sig .tc .vmem s e) {κ} {sp : Space} (v : View sig κ sp s e) (f : v.ty.Contents (Elt F)) (L : List (View.Piece (Elt F) s e))
    (h : ∀ y, ∃ p ∈ L, y ∈ p.1.set) : (wr c r L : sProp 𝕄) ⊢ ow c r (v.read (Elt F) (v.writes (Elt F) f L)) := by
  unfold wr ow owns
  iintro ⟨%g, H⟩
  iexists _; isplitr
  swap; · iexact H
  ipureintro; exact View.read_writes_of_cover _ _ _ _ _ h

end Cert.Own

end
-- ==== Proof.FfnRun.lean ====
/- The body's run in case A: the stores it leaves in every buffer, found by the executor. -/
module

public import proofs.«01_k».proof.Proof.Gen.KernelIdeal.Frame.Runs
public import proofs.«01_k».proof.Proof.Own

@[expose] public section

set_option maxRecDepth 16384

noncomputable section

namespace Cert.KernelIdeal.Own

open KernelIdeal.Gen
open Idealize.ShloMosaic
open TcCoe Tactic
open Idealize.SL
open RA BI ProofMode Sem
open BIBase Laws
open Rounds Cert.Own
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg7 : Memref sig .tc .vmem S256x1024 .f32) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : cond0_1 i)
    (x0 : Vec F S256x1024 .f32) (x1 : Vec F S256x1024 .f32) (x2 : Vec F S256x2816 .bf16) (x3 : Vec F S256x2816 .bf16) (x4 : Vec F S1x1024 .f32) (fh0 : HbBuf0 (F := F) c hbM0_0) :
    Σ' (L5 : List (View.Piece (Elt F) S256x1024 .f32)), Σ' (L6 : List (View.Piece (Elt F) S256x2816 .bf16)), Σ' (L7 : List (View.Piece (Elt F) S256x2816 .bf16)), Σ' (L8 : List (View.Piece (Elt F) S256x2816 .bf16)), Σ' (L9 : List (View.Piece (Elt F) S256x1024 .bf16)), Σ' (L10 : List (View.Piece (Elt F) S1x1024 .f32)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(ow c arg1 x0 ∗ ow c arg2 x1 ∗ ow c arg3 x2 ∗ ow c arg4 x3 ∗ ow c arg5 x4 ∗ (∃ d, ow c arg7 d) ∗ (∃ d, ow c arg8 d) ∗ (∃ d, ow c arg9 d) ∗ (∃ d, ow c arg10 d) ∗ (∃ d, ow c arg11 d) ∗ (∃ d, ow c arg12 d) ∗ (∃ d, ow c arg13 d) ∗ (∃ d, ow c arg14 d) ∗ (∃ d, ow c arg15 d) ∗ sv c 20 ∗ sv c 21 ∗ sv c 22 ∗ sv c 23 ∗ sv c 24 ∗ sv c 25 ∗ sv c 26 ∗ sv c 27 ∗ sv c 28 ∗ sv c 29 ∗ sv c 30 ∗ sv c 31 ∗ hbPt0 c hbM0_0 fh0 ∗ owes (c : Thread nD τ) 0 W
            ∗ (iprop(ow c arg1 x0 ∗ ow c arg2 x1 ∗ ow c arg3 x2 ∗ ow c arg4 x3 ∗ ow c arg5 x4 ∗ wr c arg7 L5 ∗ wr c arg8 L6 ∗ wr c arg9 L7 ∗ wr c arg10 L8 ∗ wr c arg11 L9 ∗ wr c arg12 L10 ∗ wr c arg13 LS0 ∗ wr c arg14 LS1 ∗ wr c arg15 LS2 ∗ sv c 20 ∗ sv c 21 ∗ sv c 22 ∗ sv c 23 ∗ sv c 24 ∗ sv c 25 ∗ sv c 26 ∗ sv c 27 ∗ sv c 28 ∗ sv c 29 ∗ sv c 30 ∗ sv c 31 ∗ hbPt0 c hbM0_0 fh0 ∗ (∃ W', owes (c : Thread nD τ) 0 W')) -∗ K ⟨⟩))
          ⊢ wp frame (wpE (defs₀ (F := F)) Variants.none c none) Set.univ (cc0_ffn_bwd i arg1 harg1 arg2 harg2 arg3 harg3 arg4 harg4 arg5 harg5 (Memref.whole main_v26) (Memref.isWhole_whole _) arg7 harg7 arg8 harg8 arg9 harg9 arg10 harg10 arg11 harg11 arg12 harg12 arg13 harg13 arg14 harg14 arg15 harg15 cc0_scratch3) K } := by
  refine ⟨?_, ?_, ?_, ?_, ?_, ?_, ?_, ?_, ?_, fun W K => ?run⟩
  case run =>
    simp only [cc0_ffn_bwd_eq_skeleton]; unfold cc0_ffn_bwd_skel
    simp only [k0_part5_eq_skeleton, k0_part1_eq_skeleton, k0_part2_eq_skeleton, k0_part3_eq_skeleton, k0_part4_eq_skeleton, k0_part6_eq_skeleton, k0_part7_eq_skeleton]
    unfold ow owns wr
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hh0, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    iframe Hq0 Hq1 Hq2 Hq3 Hq4 Hq5 Hq6 Hq7 Hq8 Hq9 Hq10 Hq11 Hh0
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    iexists _; iexact HW

set_option maxHeartbeats 1200000 in
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg7 : Memref sig .tc .vmem S256x1024 .f32) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S1x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S256x2816 .bf16) (x3 : Vec F S256x2816 .bf16) (x4 : Vec F S1x1024 .f32) (xo10 : Vec F S1x1024 .f32) (xs0 : Vec F S2816x1024 .bf16) (xs1 : Vec F S2816x1024 .bf16) (xs2 : Vec F S2816x1024 .bf16) (fh0 : HbBuf0 (F := F) c hbM0_0) :
    Σ' (L5 : List (View.Piece (Elt F) S256x1024 .f32)), Σ' (L6 : List (View.Piece (Elt F) S256x2816 .bf16)), Σ' (L7 : List (View.Piece (Elt F) S256x2816 .bf16)), Σ' (L8 : List (View.Piece (Elt F) S256x2816 .bf16)), Σ' (L9 : List (View.Piece (Elt F) S256x1024 .bf16)), Σ' (L10 : List (View.Piece (Elt F) S1x1024 .f32)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(ow c arg1 x0 ∗ ow c arg2 x1 ∗ ow c arg3 x2 ∗ ow c arg4 x3 ∗ ow c arg5 x4 ∗ (∃ d, ow c arg7 d) ∗ (∃ d, ow c arg8 d) ∗ (∃ d, ow c arg9 d) ∗ (∃ d, ow c arg10 d) ∗ (∃ d, ow c arg11 d) ∗ ow c arg12 xo10 ∗ ow c arg13 xs0 ∗ ow c arg14 xs1 ∗ ow c arg15 xs2 ∗ sv c 20 ∗ sv c 21 ∗ sv c 22 ∗ sv c 23 ∗ sv c 24 ∗ sv c 25 ∗ sv c 26 ∗ sv c 27 ∗ sv c 28 ∗ sv c 29 ∗ sv c 30 ∗ sv c 31 ∗ hbPt0 c hbM0_0 fh0 ∗ owes (c : Thread nD τ) 0 W
            ∗ (iprop(ow c arg1 x0 ∗ ow c arg2 x1 ∗ ow c arg3 x2 ∗ ow c arg4 x3 ∗ ow c arg5 x4 ∗ wr c arg7 L5 ∗ wr c arg8 L6 ∗ wr c arg9 L7 ∗ wr c arg10 L8 ∗ wr c arg11 L9 ∗ wr c arg12 L10 ∗ ow c arg13 xs0 ∗ ow c arg14 xs1 ∗ ow c arg15 xs2 ∗ sv c 20 ∗ sv c 21 ∗ sv c 22 ∗ sv c 23 ∗ sv c 24 ∗ sv c 25 ∗ sv c 26 ∗ sv c 27 ∗ sv c 28 ∗ sv c 29 ∗ sv c 30 ∗ sv c 31 ∗ hbPt0 c hbM0_0 fh0 ∗ (∃ W', owes (c : Thread nD τ) 0 W')) -∗ K ⟨⟩))
          ⊢ wp frame (wpE (defs₀ (F := F)) Variants.none c none) Set.univ (cc0_ffn_bwd i arg1 harg1 arg2 harg2 arg3 harg3 arg4 harg4 arg5 harg5 (Memref.whole main_v26) (Memref.isWhole_whole _) arg7 harg7 arg8 harg8 arg9 harg9 arg10 harg10 arg11 harg11 arg12 harg12 arg13 harg13 arg14 harg14 arg15 harg15 cc0_scratch3) K } := by
  refine ⟨?_, ?_, ?_, ?_, ?_, ?_, [], [], [], fun W K => ?run⟩
  case run =>
    simp only [cc0_ffn_bwd_eq_skeleton]; unfold cc0_ffn_bwd_skel
    simp only [k0_part5_eq_skeleton, k0_part6_eq_skeleton, k0_part7_eq_skeleton]
    unfold ow owns wr
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%fs0, %hfs0, HS0⟩, ⟨%fs1, %hfs1, HS1⟩, ⟨%fs2, %hfs2, HS2⟩, Hq0, Hq1, Hq2, Hq3, Hq4, Hq5, Hq6, Hq7, Hq8, Hq9, Hq10, Hq11, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg12.eq_unread hf10; obtain rfl := harg13.eq_unread hfs0; obtain rfl := harg14.eq_unread hfs1; obtain rfl := harg15.eq_unread hfs2
    sl_exec (disch := first | sl_exact hc0 | sl_exact hc1)
    sl_step
    iapply Hk
    iframe Hq0 Hq1 Hq2 Hq3 Hq4 Hq5 Hq6 Hq7 Hq8 Hq9 Hq10 Hq11 Hh0
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg13.read_unread _
      iexact HS0
    isplitl [HS1]
    · iexists _; isplitr; · ipureintro; exact harg14.read_unread _
      iexact HS1
    isplitl [HS2]
    · iexists _; isplitr; · ipureintro; exact harg15.read_unread _
      iexact HS2
    iexists _; iexact HW

end Cert.KernelIdeal.Own

end
-- ==== Proof.FfnFrame.lean ====
/- The frame: covers of the cases' stores, what every buffer holds after each grid point, the body's obligation and the launch. -/
module

public import proofs.«01_k».proof.Proof.FfnRun
public import Idealize.ShloMosaic.Lib.Claim

@[expose] public section

set_option maxRecDepth 16384

noncomputable section

namespace Cert.KernelIdeal.Own

open KernelIdeal.Gen

open Idealize.ShloMosaic
open TcCoe Tactic
open Idealize.SL
open RA BI ProofMode Sem
open BIBase Laws
open Rounds Cert.Own
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The run at a grid point, in case A. -/
def rA (c : Dev nD) (t : Fin cfg0.N) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _)

/-- The run at a grid point, in case B. -/
def rB (c : Dev nD) (t : Fin cfg0.N) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _)

/-- What the buffers hold after a point. -/
abbrev Pt (F : FTy → Type) [FloatOps F] : Type := Vec F S256x1024 .f32 × Vec F S256x2816 .bf16 × Vec F S256x2816 .bf16 × Vec F S256x2816 .bf16 × Vec F S256x1024 .bf16 × Vec F S1x1024 .f32 × Vec F S2816x1024 .bf16 × Vec F S2816x1024 .bf16 × Vec F S2816x1024 .bf16

section
variable (c : Dev nD) (t : Fin cfg0.N) (hc0 : cond0_0 (grid0.coords t)) (hc1 : cond0_1 (grid0.coords t))
    (x0 : Vec F S256x1024 .f32) (x1 : Vec F S256x1024 .f32) (x2 : Vec F S256x2816 .bf16) (x3 : Vec F S256x2816 .bf16) (x4 : Vec F S1x1024 .f32) (fh0 : HbBuf0 (F := F) c hbM0_0)

theorem cover0_A_5 (y : S256x1024.Idx) :
    ∃ pc ∈ (rA c t hc0 hc1 x0 x1 x2 x3 x4 fh0).1, y ∈ pc.1.set :=
  View.cover_of_tiledL (rA c t hc0 hc1 x0 x1 x2 x3 x4 fh0).1 S256x1024.size (by sl_kernel_rfl) y

def out0_A_5 : Vec F S256x1024 .f32 :=
  VO0_5.read (Elt F) (VO0_5.writes (Elt F) VO0_5.junk (rA c t hc0 hc1 x0 x1 x2 x3 x4 fh0).1)

theorem cover0_A_6 (y : S256x2816.Idx) :
    ∃ pc ∈ (rA c t hc0 hc1 x0 x1 x2 x3 x4 fh0).2.1, y ∈ pc.1.set :=
  View.cover_of_tiledBy (rA c t hc0 hc1 x0 x1 x2 x3 x4 fh0).2.1 ![256, 256] (by sl_kernel_rfl) y

def out0_A_6 : Vec F S256x2816 .bf16 :=
  VO0_6.read (Elt F) (VO0_6.writes (Elt F) VO0_6.junk (rA c t hc0 hc1 x0 x1 x2 x3 x4 fh0).2.1)

theorem cover0_A_7 (y : S256x2816.Idx) :
    ∃ pc ∈ (rA c t hc0 hc1 x0 x1 x2 x3 x4 fh0).2.2.1, y ∈ pc.1.set :=
  View.cover_of_tiledBy (rA c t hc0 hc1 x0 x1 x2 x3 x4 fh0).2.2.1 ![256, 256] (by sl_kernel_rfl) y

def out0_A_7 : Vec F S256x2816 .bf16 :=
  VO0_7.read (Elt F) (VO0_7.writes (Elt F) VO0_7.junk (rA c t hc0 hc1 x0 x1 x2 x3 x4 fh0).2.2.1)

theorem cover0_A_8 (y : S256x2816.Idx) :
    ∃ pc ∈ (rA c t hc0 hc1 x0 x1 x2 x3 x4 fh0).2.2.2.1, y ∈ pc.1.set :=
  View.cover_of_tiledBy (rA c t hc0 hc1 x0 x1 x2 x3 x4 fh0).2.2.2.1 ![256, 256] (by sl_kernel_rfl) y

def out0_A_8 : Vec F S256x2816 .bf16 :=
  VO0_8.read (Elt F) (VO0_8.writes (Elt F) VO0_8.junk (rA c t hc0 hc1 x0 x1 x2 x3 x4 fh0).2.2.2.1)

theorem cover0_A_9 (y : S256x1024.Idx) :
    ∃ pc ∈ (rA c t hc0 hc1 x0 x1 x2 x3 x4 fh0).2.2.2.2.1, y ∈ pc.1.set :=
  View.cover_of_tiledL (rA c t hc0 hc1 x0 x1 x2 x3 x4 fh0).2.2.2.2.1 S256x1024.size (by sl_kernel_rfl) y

def out0_A_9 : Vec F S256x1024 .bf16 :=
  VO0_9.read (Elt F) (VO0_9.writes (Elt F) VO0_9.junk (rA c t hc0 hc1 x0 x1 x2 x3 x4 fh0).2.2.2.2.1)

theorem cover0_A_10 (y : S1x1024.Idx) :
    ∃ pc ∈ (rA c t hc0 hc1 x0 x1 x2 x3 x4 fh0).2.2.2.2.2.1, y ∈ pc.1.set :=
  View.cover_of_tiledL (rA c t hc0 hc1 x0 x1 x2 x3 x4 fh0).2.2.2.2.2.1 S1x1024.size (by sl_kernel_rfl) y

def out0_A_10 : Vec F S1x1024 .f32 :=
  VO0_10.read (Elt F) (VO0_10.writes (Elt F) VO0_10.junk (rA c t hc0 hc1 x0 x1 x2 x3 x4 fh0).2.2.2.2.2.1)

theorem scover0_A_0 (y : S2816x1024.Idx) :
    ∃ pc ∈ (rA c t hc0 hc1 x0 x1 x2 x3 x4 fh0).2.2.2.2.2.2.1, y ∈ pc.1.set :=
  View.cover_of_tiledL (rA c t hc0 hc1 x0 x1 x2 x3 x4 fh0).2.2.2.2.2.2.1 S704x1024.size (by sl_kernel_rfl) y

def sout0_A_0 : Vec F S2816x1024 .bf16 :=
  VS0_0.read (Elt F) (VS0_0.writes (Elt F) VS0_0.junk (rA c t hc0 hc1 x0 x1 x2 x3 x4 fh0).2.2.2.2.2.2.1)

theorem scover0_A_1 (y : S2816x1024.Idx) :
    ∃ pc ∈ (rA c t hc0 hc1 x0 x1 x2 x3 x4 fh0).2.2.2.2.2.2.2.1, y ∈ pc.1.set :=
  View.cover_of_tiledL (rA c t hc0 hc1 x0 x1 x2 x3 x4 fh0).2.2.2.2.2.2.2.1 S704x1024.size (by sl_kernel_rfl) y

def sout0_A_1 : Vec F S2816x1024 .bf16 :=
  VS0_1.read (Elt F) (VS0_1.writes (Elt F) VS0_1.junk (rA c t hc0 hc1 x0 x1 x2 x3 x4 fh0).2.2.2.2.2.2.2.1)

theorem scover0_A_2 (y : S2816x1024.Idx) :
    ∃ pc ∈ (rA c t hc0 hc1 x0 x1 x2 x3 x4 fh0).2.2.2.2.2.2.2.2.1, y ∈ pc.1.set :=
  View.cover_of_tiledL (rA c t hc0 hc1 x0 x1 x2 x3 x4 fh0).2.2.2.2.2.2.2.2.1 S704x1024.size (by sl_kernel_rfl) y

def sout0_A_2 : Vec F S2816x1024 .bf16 :=
  VS0_2.read (Elt F) (VS0_2.writes (Elt F) VS0_2.junk (rA c t hc0 hc1 x0 x1 x2 x3 x4 fh0).2.2.2.2.2.2.2.2.1)

/-- What the buffers hold after a point in case A. -/
def tA : Pt F := (out0_A_5 c t hc0 hc1 x0 x1 x2 x3 x4 fh0, out0_A_6 c t hc0 hc1 x0 x1 x2 x3 x4 fh0, out0_A_7 c t hc0 hc1 x0 x1 x2 x3 x4 fh0, out0_A_8 c t hc0 hc1 x0 x1 x2 x3 x4 fh0, out0_A_9 c t hc0 hc1 x0 x1 x2 x3 x4 fh0, out0_A_10 c t hc0 hc1 x0 x1 x2 x3 x4 fh0, sout0_A_0 c t hc0 hc1 x0 x1 x2 x3 x4 fh0, sout0_A_1 c t hc0 hc1 x0 x1 x2 x3 x4 fh0, sout0_A_2 c t hc0 hc1 x0 x1 x2 x3 x4 fh0)

end

section
variable (c : Dev nD) (t : Fin cfg0.N) (hc0 : ¬cond0_0 (grid0.coords t)) (hc1 : ¬cond0_1 (grid0.coords t))
    (x0 : Vec F S256x1024 .f32) (x1 : Vec F S256x1024 .f32) (x2 : Vec F S256x2816 .bf16) (x3 : Vec F S256x2816 .bf16) (x4 : Vec F S1x1024 .f32) (xo10 : Vec F S1x1024 .f32) (xs0 : Vec F S2816x1024 .bf16) (xs1 : Vec F S2816x1024 .bf16) (xs2 : Vec F S2816x1024 .bf16) (fh0 : HbBuf0 (F := F) c hbM0_0)

theorem cover0_B_5 (y : S256x1024.Idx) :
    ∃ pc ∈ (rB c t hc0 hc1 x0 x1 x2 x3 x4 xo10 xs0 xs1 xs2 fh0).1, y ∈ pc.1.set :=
  View.cover_of_tiledL (rB c t hc0 hc1 x0 x1 x2 x3 x4 xo10 xs0 xs1 xs2 fh0).1 S256x1024.size (by sl_kernel_rfl) y

def out0_B_5 : Vec F S256x1024 .f32 :=
  VO0_5.read (Elt F) (VO0_5.writes (Elt F) VO0_5.junk (rB c t hc0 hc1 x0 x1 x2 x3 x4 xo10 xs0 xs1 xs2 fh0).1)

theorem cover0_B_6 (y : S256x2816.Idx) :
    ∃ pc ∈ (rB c t hc0 hc1 x0 x1 x2 x3 x4 xo10 xs0 xs1 xs2 fh0).2.1, y ∈ pc.1.set :=
  View.cover_of_tiledBy (rB c t hc0 hc1 x0 x1 x2 x3 x4 xo10 xs0 xs1 xs2 fh0).2.1 ![256, 256] (by sl_kernel_rfl) y

def out0_B_6 : Vec F S256x2816 .bf16 :=
  VO0_6.read (Elt F) (VO0_6.writes (Elt F) VO0_6.junk (rB c t hc0 hc1 x0 x1 x2 x3 x4 xo10 xs0 xs1 xs2 fh0).2.1)

theorem cover0_B_7 (y : S256x2816.Idx) :
    ∃ pc ∈ (rB c t hc0 hc1 x0 x1 x2 x3 x4 xo10 xs0 xs1 xs2 fh0).2.2.1, y ∈ pc.1.set :=
  View.cover_of_tiledBy (rB c t hc0 hc1 x0 x1 x2 x3 x4 xo10 xs0 xs1 xs2 fh0).2.2.1 ![256, 256] (by sl_kernel_rfl) y

def out0_B_7 : Vec F S256x2816 .bf16 :=
  VO0_7.read (Elt F) (VO0_7.writes (Elt F) VO0_7.junk (rB c t hc0 hc1 x0 x1 x2 x3 x4 xo10 xs0 xs1 xs2 fh0).2.2.1)

theorem cover0_B_8 (y : S256x2816.Idx) :
    ∃ pc ∈ (rB c t hc0 hc1 x0 x1 x2 x3 x4 xo10 xs0 xs1 xs2 fh0).2.2.2.1, y ∈ pc.1.set :=
  View.cover_of_tiledBy (rB c t hc0 hc1 x0 x1 x2 x3 x4 xo10 xs0 xs1 xs2 fh0).2.2.2.1 ![256, 256] (by sl_kernel_rfl) y

def out0_B_8 : Vec F S256x2816 .bf16 :=
  VO0_8.read (Elt F) (VO0_8.writes (Elt F) VO0_8.junk (rB c t hc0 hc1 x0 x1 x2 x3 x4 xo10 xs0 xs1 xs2 fh0).2.2.2.1)

theorem cover0_B_9 (y : S256x1024.Idx) :
    ∃ pc ∈ (rB c t hc0 hc1 x0 x1 x2 x3 x4 xo10 xs0 xs1 xs2 fh0).2.2.2.2.1, y ∈ pc.1.set :=
  View.cover_of_tiledL (rB c t hc0 hc1 x0 x1 x2 x3 x4 xo10 xs0 xs1 xs2 fh0).2.2.2.2.1 S256x1024.size (by sl_kernel_rfl) y

def out0_B_9 : Vec F S256x1024 .bf16 :=
  VO0_9.read (Elt F) (VO0_9.writes (Elt F) VO0_9.junk (rB c t hc0 hc1 x0 x1 x2 x3 x4 xo10 xs0 xs1 xs2 fh0).2.2.2.2.1)

theorem cover0_B_10 (y : S1x1024.Idx) :
    ∃ pc ∈ (rB c t hc0 hc1 x0 x1 x2 x3 x4 xo10 xs0 xs1 xs2 fh0).2.2.2.2.2.1, y ∈ pc.1.set :=
  View.cover_of_tiledL (rB c t hc0 hc1 x0 x1 x2 x3 x4 xo10 xs0 xs1 xs2 fh0).2.2.2.2.2.1 S1x1024.size (by sl_kernel_rfl) y

def out0_B_10 : Vec F S1x1024 .f32 :=
  VO0_10.read (Elt F) (VO0_10.writes (Elt F) VO0_10.junk (rB c t hc0 hc1 x0 x1 x2 x3 x4 xo10 xs0 xs1 xs2 fh0).2.2.2.2.2.1)

/-- What the buffers hold after a point in case B. -/
def tB : Pt F := (out0_B_5 c t hc0 hc1 x0 x1 x2 x3 x4 xo10 xs0 xs1 xs2 fh0, out0_B_6 c t hc0 hc1 x0 x1 x2 x3 x4 xo10 xs0 xs1 xs2 fh0, out0_B_7 c t hc0 hc1 x0 x1 x2 x3 x4 xo10 xs0 xs1 xs2 fh0, out0_B_8 c t hc0 hc1 x0 x1 x2 x3 x4 xo10 xs0 xs1 xs2 fh0, out0_B_9 c t hc0 hc1 x0 x1 x2 x3 x4 xo10 xs0 xs1 xs2 fh0, out0_B_10 c t hc0 hc1 x0 x1 x2 x3 x4 xo10 xs0 xs1 xs2 fh0, xs0, xs1, xs2)

end

/-- The results after a point at a multiple of 32. -/
abbrev atA (c : Dev nD) (t : Fin cfg0.N) (h0 : t.val % 32 = 0) : Pt F := tA c t ((hcond0_0 t).mpr h0) ((hcond0_1 t).mpr h0) (iblk m c 0 t) (iblk m c 1 t) (iblk m c 2 t) (iblk m c 3 t) (iblk m c 4 t) (V m c main_v26)

/-- The results after another point, which found `p`. -/
abbrev atB (c : Dev nD) (t : Fin cfg0.N) (h0 : ¬t.val % 32 = 0) (p : Pt F) : Pt F := tB c t (fun h => h0 ((hcond0_0 t).mp h)) (fun h => h0 ((hcond0_1 t).mp h)) (iblk m c 0 t) (iblk m c 1 t) (iblk m c 2 t) (iblk m c 3 t) (iblk m c 4 t) p.2.2.2.2.2.1 p.2.2.2.2.2.2.1 p.2.2.2.2.2.2.2.1 p.2.2.2.2.2.2.2.2 (V m c main_v26)

/-- What the buffers hold after point `n`. -/
def outsAt0 (c : Dev nD) : (n : ℕ) → n < cfg0.N → Pt F
  | 0, hn => atA m c ⟨0, hn⟩ (Nat.zero_mod _)
  | n + 1, hn => if h0 : (n + 1) % 32 = 0 then atA m c ⟨n + 1, hn⟩ h0 else atB m c ⟨n + 1, hn⟩ h0 (outsAt0 c n (Nat.lt_of_succ_lt hn))

theorem outsAt0_A (c : Dev nD) (t : Fin cfg0.N) (h0 : t.val % 32 = 0) : outsAt0 m c t.val t.isLt = atA m c t h0 := by
  obtain ⟨n, hn⟩ := t
  cases n with
  | zero => rfl
  | succ n => exact dif_pos h0

/-- What the point before left. -/
abbrev prev (c : Dev nD) (t : Fin cfg0.N) : Pt F := outsAt0 m c (t.val - 1) (Nat.lt_of_le_of_lt (Nat.sub_le _ _) t.isLt)

theorem outsAt0_B (c : Dev nD) (t : Fin cfg0.N) (h0 : ¬t.val % 32 = 0) : outsAt0 m c t.val t.isLt = atB m c t h0 (prev m c t) := by
  obtain ⟨n, hn⟩ := t
  cases n with
  | zero => exact absurd (Nat.zero_mod _) h0
  | succ n => exact dif_neg h0

abbrev rest (c : Dev nD) : sProp 𝕄 := iprop((∃ r, prngReg c r) ∗ iprop(sv c 20 ∗ sv c 21 ∗ sv c 22 ∗ sv c 23 ∗ sv c 24 ∗ sv c 25 ∗ sv c 26 ∗ sv c 27 ∗ sv c 28 ∗ sv c 29 ∗ sv c 30 ∗ sv c 31) ∗ hbPt0 c hbM0_0 (V m c main_v26))

/-- What a point leaves to the next. -/
abbrev held (c : Dev nD) (p : Pt F) : sProp 𝕄 := iprop((ow c scM0_0 p.2.2.2.2.2.2.1 ∗ ow c scM0_1 p.2.2.2.2.2.2.2.1 ∗ ow c scM0_2 p.2.2.2.2.2.2.2.2) ∗ rest m c)

def PhiS (c : Dev nD) : (n : ℕ) → n ≤ cfg0.N → sProp 𝕄
  | 0, _ => Pipeline.ΦD osem0 spec0 H0 (V m) c
  | n + 1, hn => held m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) : PhiS m c (n + 1) hn = held m c (outsAt0 m c n hn) := rfl

theorem PhiS_pos (c : Dev nD) (n : ℕ) (h : n ≤ cfg0.N) (hz : n ≠ 0) : PhiS m c n h = held m c (outsAt0 m c (n - 1) (by omega)) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_10_B (c : Dev nD) (t : Fin cfg0.N) (h0 : ¬t.val % 32 = 0) (d) :
    (dats m 0 c).before 10 t d = (prev m c t).2.2.2.2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, ow c (ms0_0 t) ((dats m 0 c).before 0 t d))
    ∗ (∃ d, ow c (ms0_1 t) ((dats m 0 c).before 1 t d))
    ∗ (∃ d, ow c (ms0_2 t) ((dats m 0 c).before 2 t d))
    ∗ (∃ d, ow c (ms0_3 t) ((dats m 0 c).before 3 t d))
    ∗ (∃ d, ow c (ms0_4 t) ((dats m 0 c).before 4 t d))
    ∗ (∃ d, ow c (ms0_5 t) ((dats m 0 c).before 5 t d))
    ∗ (∃ d, ow c (ms0_6 t) ((dats m 0 c).before 6 t d))
    ∗ (∃ d, ow c (ms0_7 t) ((dats m 0 c).before 7 t d))
    ∗ (∃ d, ow c (ms0_8 t) ((dats m 0 c).before 8 t d))
    ∗ (∃ d, ow c (ms0_9 t) ((dats m 0 c).before 9 t d))
    ∗ (∃ d, ow c (ms0_10 t) ((dats m 0 c).before 10 t d)))

def bodyPost (c : Dev nD) (t : Fin cfg0.N) : sProp 𝕄 :=
  iprop((dats m 0 c).Φ t.succ ∗ (dats m 0 c).owesAt () t.succ
    ∗ ow c (ms0_0 t) ((dats m 0 c).after 0 t)
    ∗ ow c (ms0_1 t) ((dats m 0 c).after 1 t)
    ∗ ow c (ms0_2 t) ((dats m 0 c).after 2 t)
    ∗ ow c (ms0_3 t) ((dats m 0 c).after 3 t)
    ∗ ow c (ms0_4 t) ((dats m 0 c).after 4 t)
    ∗ ow c (ms0_5 t) ((dats m 0 c).after 5 t)
    ∗ ow c (ms0_6 t) ((dats m 0 c).after 6 t)
    ∗ ow c (ms0_7 t) ((dats m 0 c).after 7 t)
    ∗ ow c (ms0_8 t) ((dats m 0 c).after 8 t)
    ∗ ow c (ms0_9 t) ((dats m 0 c).after 9 t)
    ∗ ow c (ms0_10 t) ((dats m 0 c).after 10 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8, after0_9, after0_10]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · have hz : t.val = 0 := by omega
    rw [PhiS_castSucc m c t, PhiS_zero m c _ _ hz, PhiD0_eq]
    rw [outsAt0_A m c t h0]
    unfold held rest atA tA out0_A_5 out0_A_6 out0_A_7 out0_A_8 out0_A_9 out0_A_10 sout0_A_0 sout0_A_1 sout0_A_2; dsimp only
    iintro ⟨⟨⟨HS0, HS1, HS2⟩, Hg, ⟨Hq0, Hq1, Hq2, Hq3, Hq4, Hq5, Hq6, Hq7, Hq8, Hq9, Hq10, Hq11⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((rA c t ((hcond0_0 t).mpr h0) ((hcond0_1 t).mpr h0) (iblk m c 0 t) (iblk m c 1 t) (iblk m c 2 t) (iblk m c 3 t) (iblk m c 4 t) (V m c main_v26)).2.2.2.2.2.2.2.2.2 W _)
    iframe H0 H1 H2 H3 H4 HS0 HS1 HS2 Hq0 Hq1 Hq2 Hq3 Hq4 Hq5 Hq6 Hq7 Hq8 Hq9 Hq10 Hq11 Hh0 HW
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10, HS0, HS1, HS2, Hq0, Hq1, Hq2, Hq3, Hq4, Hq5, Hq6, Hq7, Hq8, Hq9, Hq10, Hq11, Hh0, ⟨%W', HW'⟩⟩
    iframe Hg Hq0 Hq1 Hq2 Hq3 Hq4 Hq5 Hq6 Hq7 Hq8 Hq9 Hq10 Hq11 Hh0 H0 H1 H2 H3 H4
    isplitl [HS0 HS1 HS2]
    · isplitl [HS0]; · iapply wr_ow c _ _ _ _ (fun _ => scover0_A_0 ..); iexact HS0
      isplitl [HS1]; · iapply wr_ow c _ _ _ _ (fun _ => scover0_A_1 ..); iexact HS1
      iapply wr_ow c _ _ _ _ (fun _ => scover0_A_2 ..); iexact HS2
    isplitl [HW']
    · iexists W'; isplitr; · ipureintro; exact fun _ _ => Or.inl trivial
      iexact HW'
    isplitl [H5]; · iapply wr_ow c _ _ _ _ (fun _ => cover0_A_5 ..); iexact H5
    isplitl [H6]; · iapply wr_ow c _ _ _ _ (fun _ => cover0_A_6 ..); iexact H6
    isplitl [H7]; · iapply wr_ow c _ _ _ _ (fun _ => cover0_A_7 ..); iexact H7
    isplitl [H8]; · iapply wr_ow c _ _ _ _ (fun _ => cover0_A_8 ..); iexact H8
    isplitl [H9]; · iapply wr_ow c _ _ _ _ (fun _ => cover0_A_9 ..); iexact H9
    iapply wr_ow c _ _ _ _ (fun _ => cover0_A_10 ..); iexact H10
  · have hz : t.val ≠ 0 := fun e => h0 (by rw [e])
    rw [PhiS_castSucc m c t, PhiS_pos m c _ _ hz]
    rw [outsAt0_B m c t h0]
    simp only [before0_10_B m c t h0]
    unfold held rest atB tB out0_B_5 out0_B_6 out0_B_7 out0_B_8 out0_B_9 out0_B_10; dsimp only
    iintro ⟨⟨⟨HS0, HS1, HS2⟩, Hg, ⟨Hq0, Hq1, Hq2, Hq3, Hq4, Hq5, Hq6, Hq7, Hq8, Hq9, Hq10, Hq11⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((rB c t (fun h => h0 ((hcond0_0 t).mp h)) (fun h => h0 ((hcond0_1 t).mp h)) (iblk m c 0 t) (iblk m c 1 t) (iblk m c 2 t) (iblk m c 3 t) (iblk m c 4 t) _ _ _ _ (V m c main_v26)).2.2.2.2.2.2.2.2.2 W _)
    iframe H0 H1 H2 H3 H4 H10 HS0 HS1 HS2 Hq0 Hq1 Hq2 Hq3 Hq4 Hq5 Hq6 Hq7 Hq8 Hq9 Hq10 Hq11 Hh0 HW
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9, H10, HS0, HS1, HS2, Hq0, Hq1, Hq2, Hq3, Hq4, Hq5, Hq6, Hq7, Hq8, Hq9, Hq10, Hq11, Hh0, ⟨%W', HW'⟩⟩
    iframe HS0 HS1 HS2 Hg Hq0 Hq1 Hq2 Hq3 Hq4 Hq5 Hq6 Hq7 Hq8 Hq9 Hq10 Hq11 Hh0 H0 H1 H2 H3 H4
    isplitl [HW']
    · iexists W'; isplitr; · ipureintro; exact fun _ _ => Or.inl trivial
      iexact HW'
    isplitl [H5]; · iapply wr_ow c _ _ _ _ (fun _ => cover0_B_5 ..); iexact H5
    isplitl [H6]; · iapply wr_ow c _ _ _ _ (fun _ => cover0_B_6 ..); iexact H6
    isplitl [H7]; · iapply wr_ow c _ _ _ _ (fun _ => cover0_B_7 ..); iexact H7
    isplitl [H8]; · iapply wr_ow c _ _ _ _ (fun _ => cover0_B_8 ..); iexact H8
    isplitl [H9]; · iapply wr_ow c _ _ _ _ (fun _ => cover0_B_9 ..); iexact H9
    iapply wr_ow c _ _ _ _ (fun _ => cover0_B_10 ..); iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7, Hq8, Hq9, Hq10, Hq11⟩, Hh0⟩
  iframe Hg Hq0 Hq1 Hq2 Hq3 Hq4 Hq5 Hq6 Hq7 Hq8 Hq9 Hq10 Hq11 Hh0
  isplitl [HS0]; · iexists _; iexact HS0
  isplitl [HS1]; · iexists _; iexact HS1
  iexists _; iexact HS2

theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments as they were. -/
abbrev kept (r : (ℓ : Loc nD τ sig) → Buf (Elt F) ℓ) (c : Dev nD) : Prop :=
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)

theorem unchanged : θ_run defs (onTc (τ := τ) (main (F := F))) ⟨m, fun _ => 0, ρ⟩ (fun r => ∀ c : Dev nD, kept m r.2.mem c) :=
  frame_of m ρ (dats m) (A_eq m) (run_main m ρ)

theorem frame : θ_run defs (onTc (τ := τ) (main (F := F))) ⟨m, fun _ => 0, ρ⟩ (fun r => (∀ c : Dev nD, kept m r.2.mem c) ∧ r.2.sem = fun _ => 0) :=
  θ_run_and (unchanged m ρ) ((θ_run defs _ _).mono (fun _ h => h.2) (run_main_quiescent m ρ))

end Cert.KernelIdeal.Own

end
-- ==== Proof.FfnPoint.lean ====
/- What the body leaves at one grid point: each result block as a function of the blocks read and the weights carried. -/
module

public import proofs.«01_k».proof.Proof.FfnFrame
public import Idealize.ShloMosaic.Lib.Pipeline.Value
public import Idealize.ShloMosaic.Lib.ValueLayout

@[expose] public section

set_option maxRecDepth 16384

noncomputable section

namespace Cert.KernelIdeal.Own

open KernelIdeal KernelIdeal.Gen Idealize.ShloMosaic Idealize.ShloMosaic.TcCoe Idealize.SL.Sem Idealize.ShloMosaic.ValueIdx

variable {F : FTy → Type} [FloatOps F]

theorem sw0 : scM0_0.IsWhole := Memref.isWhole_whole _
theorem sw1 : scM0_1.IsWhole := Memref.isWhole_whole _
theorem sw2 : scM0_2.IsWhole := Memref.isWhole_whole _

theorem off2 : (![0, 0] : Fin 2 → Nat) = fun _ => 0 := funext fun a => by fin_cases a <;> rfl

/-- The two column chunks of the `a` and `b` blocks, and the two row chunks of the weights. -/
def cL (x : Vec F S256x2816 .bf16) : Vec F S256x1536 .bf16 := View.ld x (Rect.unit ![0, 0] ![256, 1536] inb_S256x2816_S256x1536_0_0)
def cR (x : Vec F S256x2816 .bf16) : Vec F S256x1280 .bf16 := View.ld x (Rect.unit ![0, 1536] ![256, 1280] inb_S256x2816_S256x1280_0_1536)
def wL (w : Vec F S2816x1024 .bf16) : Vec F S1536x1024 .bf16 := View.ld w (Rect.unit ![0, 0] ![1536, 1024] inb_S2816x1024_S1536x1024_0_0)
def wR (w : Vec F S2816x1024 .bf16) : Vec F S1280x1024 .bf16 := View.ld w (Rect.unit ![1536, 0] ![1280, 1024] inb_S2816x1024_S1280x1024_1536_0)

/-- The gradient of the normed rows. -/
def ptDn (x1 : Vec F S256x1024 .f32) (x2 x3 : Vec F S256x2816 .bf16) (w0 w1 w2 : Vec F S2816x1024 .bf16) : Vec F S256x1024 .f32 :=
  k0_pay27 (k0_pay8 x1)
    (k0_pay18 (k0_pay8 x1) k0_pay9 (k0_pay10 (cL x2)) (k0_pay11 (cL x3)) (wL w2) (wL w0) (wL w1))
    (k0_pay19 (cR x2)) (cR x3) (wR w2) (wR w0) (wR w1)

def pt5 (x0 x1 : Vec F S256x1024 .f32) (x2 x3 : Vec F S256x2816 .bf16) (x4 : Vec F S1x1024 .f32) (w0 w1 w2 : Vec F S2816x1024 .bf16) : Vec F S256x1024 .f32 :=
  k0_pay2 (k0_pay4 x0) (k0_pay5 x0) (k0_pay6 x4) x1 (ptDn x1 x2 x3 w0 w1 w2)

def pt6 (x1 : Vec F S256x1024 .f32) (x2 x3 : Vec F S256x2816 .bf16) (w2 : Vec F S2816x1024 .bf16) : Vec F S256x2816 .bf16 :=
  View.canon [⟨Rect.unit ![0, 1536] ![256, 1280] inb_S256x2816_S256x1280_0_1536, k0_pay25 (k0_pay8 x1) (k0_pay19 (cR x2)) (cR x3) (wR w2)⟩,
    ⟨Rect.unit ![0, 0] ![256, 1536] inb_S256x2816_S256x1536_0_0, k0_pay16 (k0_pay8 x1) (k0_pay10 (cL x2)) (k0_pay11 (cL x3)) (wL w2)⟩]

def pt7 (x1 : Vec F S256x1024 .f32) (x2 : Vec F S256x2816 .bf16) (w2 : Vec F S2816x1024 .bf16) : Vec F S256x2816 .bf16 :=
  View.canon [⟨Rect.unit ![0, 1536] ![256, 1280] inb_S256x2816_S256x1280_0_1536, k0_pay26 (k0_pay8 x1) (k0_pay19 (cR x2)) (wR w2)⟩,
    ⟨Rect.unit ![0, 0] ![256, 1536] inb_S256x2816_S256x1536_0_0, k0_pay17 (k0_pay8 x1) (k0_pay10 (cL x2)) (wL w2)⟩]

def pt8 (x2 x3 : Vec F S256x2816 .bf16) : Vec F S256x2816 .bf16 :=
  View.canon [⟨Rect.unit ![0, 1536] ![256, 1280] inb_S256x2816_S256x1280_0_1536, k0_pay24 (k0_pay19 (cR x2)) (cR x3)⟩,
    ⟨Rect.unit ![0, 0] ![256, 1536] inb_S256x2816_S256x1536_0_0, k0_pay15 (k0_pay10 (cL x2)) (k0_pay11 (cL x3))⟩]

def pt10 (x0 x1 : Vec F S256x1024 .f32) (x2 x3 : Vec F S256x2816 .bf16) (old : Vec F S1x1024 .f32) (w0 w1 w2 : Vec F S2816x1024 .bf16) : Vec F S1x1024 .f32 :=
  k0_pay1 (k0_pay5 x0) (ptDn x1 x2 x3 w0 w1 w2) old

/-- What the four copies of one weight leave: row `y` of the weight is row `off + y % 704` of slab `y / 704`. -/
def wG (c : Dev nD) (off : ℕ) (fh0 : HbBuf0 (F := F) c hbM0_0) (hoff : off + 704 ≤ 2112) : Vec F S2816x1024 .bf16 := fun y =>
  (fh0 : S4x2112x1024.Idx → Elt F .bf16) (ix3 ⟨(y 0 : ℕ) / 704, by have h : (y 0 : ℕ) < 2816 := (y 0).isLt; omega⟩ ⟨off + (y 0 : ℕ) % 704, by have h := Nat.mod_lt (y 0 : ℕ) (show 0 < 704 by norm_num); omega⟩ ⟨(y 1 : ℕ), (y 1).isLt⟩)

theorem numel_slab : S704x1024.numel = S1x704x1024.numel := squeezes_S1x704x1024_S704x1024.numel_eq

theorem slab_piece (c : Dev nD) (off q : ℕ) (fh0 : HbBuf0 (F := F) c hbM0_0) (hoff : off + 704 ≤ 2112) (o : ℕ) (ho : o = 704 * q)
    (inb : ∀ a, (![o, 0] : Fin 2 → ℕ) a + (![704, 1024] : Fin 2 → ℕ) a ≤ S2816x1024.size a)
    (inb' : ∀ a, (![q, off, 0] : Fin 3 → ℕ) a + (![1, 704, 1024] : Fin 3 → ℕ) a ≤ S4x2112x1024.size a)
    (x : S704x1024.Idx) :
    (ReadAs.same.apply (View.read (Elt F)
      (((View.whole main_v26).slice (Rect.unit (s := S4x2112x1024) ![q, off, 0] ![1, 704, 1024] inb')).reshape S704x1024 numel_slab) fh0) : S704x1024.Idx → Elt F .bf16) x
      = wG c off fh0 hoff ((Rect.unit (s := S2816x1024) ![o, 0] ![704, 1024] inb).emb x) := by
  subst ho
  obtain ⟨i, j, rfl⟩ : ∃ (i : Fin 704) (j : Fin 1024), x = ix2 i j := ⟨x 0, x 1, eq_ix2 x⟩
  show shapeCast S704x1024 (View.read (Elt F) ((View.whole main_v26).slice (Rect.unit (s := S4x2112x1024) ![q, off, 0] ![1, 704, 1024] inb')) fh0 : S1x704x1024.Idx → Elt F .bf16) numel_slab (ix2 i j) = _
  rw [shapeCast_1ab_ab_apply]
  show (fh0 : S4x2112x1024.Idx → Elt F .bf16) _ = (fh0 : S4x2112x1024.Idx → Elt F .bf16) _
  have hi : (i : ℕ) < 704 := i.isLt
  refine congrArg _ (funext fun a => Fin.ext ?_)
  match a with
  | ⟨0, _⟩ => show q + 1 * 0 = (704 * q + 1 * i.val) / 704; omega
  | ⟨1, _⟩ => show off + 1 * i.val = off + (704 * q + 1 * i.val) % 704; omega
  | ⟨2, _⟩ => show 0 + 1 * j.val = 0 + 1 * j.val; rfl

theorem inb_slab {off : ℕ} (h : off + 704 ≤ 2112) (q : ℕ) (hq : q < 4) : ∀ a, (![q, off, 0] : Fin 3 → ℕ) a + (![1, 704, 1024] : Fin 3 → ℕ) a ≤ S4x2112x1024.size a
  | ⟨0, _⟩ => show q + 1 ≤ 4 by omega
  | ⟨1, _⟩ => h
  | ⟨2, _⟩ => Nat.le_refl 1024

/-- Slab `q`'s rows of a weight, as a copy carries them. -/
def slab (c : Dev nD) (off q : ℕ) (h : off + 704 ≤ 2112) (hq : q < 4) (fh0 : HbBuf0 (F := F) c hbM0_0) : S704x1024.Idx → Elt F .bf16 :=
  ReadAs.same.apply (View.read (Elt F) (((View.whole main_v26).slice (Rect.unit (s := S4x2112x1024) ![q, off, 0] ![1, 704, 1024] (inb_slab h q hq))).reshape S704x1024 numel_slab) fh0)

/-- What the four copies of one weight store. -/
def carried (c : Dev nD) (off : ℕ) (fh0 : HbBuf0 (F := F) c hbM0_0) (h : off + 704 ≤ 2112) : List (View.Piece (Elt F) S2816x1024 .bf16) :=
  [⟨Rect.unit ![2112, 0] ![704, 1024] inb_S2816x1024_S704x1024_2112_0, slab c off 3 h (by decide) fh0⟩,
    ⟨Rect.unit ![1408, 0] ![704, 1024] inb_S2816x1024_S704x1024_1408_0, slab c off 2 h (by decide) fh0⟩,
    ⟨Rect.unit ![704, 0] ![704, 1024] inb_S2816x1024_S704x1024_704_0, slab c off 1 h (by decide) fh0⟩,
    ⟨Rect.unit ![0, 0] ![704, 1024] inb_S2816x1024_S704x1024_0_0, slab c off 0 h (by decide) fh0⟩]

theorem canon_carried (c : Dev nD) (off : ℕ) (fh0 : HbBuf0 (F := F) c hbM0_0) (h : off + 704 ≤ 2112) : View.canon (carried c off fh0 h) = wG c off fh0 h := by
  funext y
  refine View.canon_apply_of_pieces _ _ ?_ y ?_
  · intro p hp x
    simp only [carried, List.mem_cons, List.not_mem_nil, or_false] at hp
    rcases hp with rfl | rfl | rfl | rfl
    · exact slab_piece c off 3 fh0 h 2112 (by norm_num) inb_S2816x1024_S704x1024_2112_0 (inb_slab h 3 (by decide)) x
    · exact slab_piece c off 2 fh0 h 1408 (by norm_num) inb_S2816x1024_S704x1024_1408_0 (inb_slab h 2 (by decide)) x
    · exact slab_piece c off 1 fh0 h 704 (by norm_num) inb_S2816x1024_S704x1024_704_0 (inb_slab h 1 (by decide)) x
    · exact slab_piece c off 0 fh0 h 0 (by norm_num) inb_S2816x1024_S704x1024_0_0 (inb_slab h 0 (by decide)) x
  · have h0 : (y 0 : ℕ) < 2816 := (y 0).isLt
    have h1 : (y 1 : ℕ) < 1024 := (y 1).isLt
    rcases (by omega : (y 0 : ℕ) < 704 ∨ (704 ≤ (y 0 : ℕ) ∧ (y 0 : ℕ) < 1408) ∨ (1408 ≤ (y 0 : ℕ) ∧ (y 0 : ℕ) < 2112) ∨ 2112 ≤ (y 0 : ℕ)) with g | g | g | g
    · exact ⟨_, List.mem_cons_of_mem _ (List.mem_cons_of_mem _ (List.mem_cons_of_mem _ (List.mem_cons_self ..))), by
        rw [Rect.mem_set_unit]
        intro a
        match a with
        | ⟨0, _⟩ => show 0 ≤ (y 0 : ℕ) ∧ (y 0 : ℕ) < 0 + 704; omega
        | ⟨1, _⟩ => show 0 ≤ (y 1 : ℕ) ∧ (y 1 : ℕ) < 0 + 1024; omega⟩
    · exact ⟨_, List.mem_cons_of_mem _ (List.mem_cons_of_mem _ (List.mem_cons_self ..)), by
        rw [Rect.mem_set_unit]
        intro a
        match a with
        | ⟨0, _⟩ => show 704 ≤ (y 0 : ℕ) ∧ (y 0 : ℕ) < 704 + 704; omega
        | ⟨1, _⟩ => show 0 ≤ (y 1 : ℕ) ∧ (y 1 : ℕ) < 0 + 1024; omega⟩
    · exact ⟨_, List.mem_cons_of_mem _ (List.mem_cons_self ..), by
        rw [Rect.mem_set_unit]
        intro a
        match a with
        | ⟨0, _⟩ => show 1408 ≤ (y 0 : ℕ) ∧ (y 0 : ℕ) < 1408 + 704; omega
        | ⟨1, _⟩ => show 0 ≤ (y 1 : ℕ) ∧ (y 1 : ℕ) < 0 + 1024; omega⟩
    · exact ⟨_, List.mem_cons_self .., by
        rw [Rect.mem_set_unit]
        intro a
        match a with
        | ⟨0, _⟩ => show 2112 ≤ (y 0 : ℕ) ∧ (y 0 : ℕ) < 2112 + 704; omega
        | ⟨1, _⟩ => show 0 ≤ (y 1 : ℕ) ∧ (y 1 : ℕ) < 0 + 1024; omega⟩

section
variable (c : Dev nD) (t : Fin cfg0.N) (hc0 : cond0_0 (grid0.coords t)) (hc1 : cond0_1 (grid0.coords t))
    (x0 : Vec F S256x1024 .f32) (x1 : Vec F S256x1024 .f32) (x2 : Vec F S256x2816 .bf16) (x3 : Vec F S256x2816 .bf16) (x4 : Vec F S1x1024 .f32) (fh0 : HbBuf0 (F := F) c hbM0_0)

theorem outA_5 : out0_A_5 c t hc0 hc1 x0 x1 x2 x3 x4 fh0 = pt5 x0 x1 x2 x3 x4 (wG c 0 fh0 (by norm_num)) (wG c 704 fh0 (by norm_num)) (wG c 1408 fh0 (by norm_num)) := by
  unfold out0_A_5
  rw [View.read_writes_junk_eq_canon]
  unfold rA kernelRun0_A
  dsimp only
  sl_unfold_words
  rw [View.canon_cons_unit_zero (S := S256x1024) off2]
  simp only [View.readCov_eq_canon', View.readAt_eq_ld, (hs0_0 t).read_unread, (hs0_1 t).read_unread, (hs0_2 t).read_unread, (hs0_3 t).read_unread, (hs0_4 t).read_unread, View.ld_unit_zero (S := S256x1024) off2, View.ld_unit_zero (S := S1x1024) off2]
  have e0 := canon_carried c 0 fh0 (by norm_num)
  have e1 := canon_carried c 704 fh0 (by norm_num)
  have e2 := canon_carried c 1408 fh0 (by norm_num)
  simp only [carried, slab] at *
  simp only [e0, e1, e2]
  rfl

theorem outA_6 : out0_A_6 c t hc0 hc1 x0 x1 x2 x3 x4 fh0 = pt6 x1 x2 x3 (wG c 1408 fh0 (by norm_num)) := by
  unfold out0_A_6
  rw [View.read_writes_junk_eq_canon]
  unfold rA kernelRun0_A
  dsimp only
  sl_unfold_words
  simp only [View.readCov_eq_canon', View.readAt_eq_ld, (hs0_0 t).read_unread, (hs0_1 t).read_unread, (hs0_2 t).read_unread, (hs0_3 t).read_unread, (hs0_4 t).read_unread, View.ld_unit_zero (S := S256x1024) off2, View.ld_unit_zero (S := S1x1024) off2]
  have e2 := canon_carried c 1408 fh0 (by norm_num)
  simp only [carried, slab] at *
  simp only [e2]
  rfl

theorem outA_7 : out0_A_7 c t hc0 hc1 x0 x1 x2 x3 x4 fh0 = pt7 x1 x2 (wG c 1408 fh0 (by norm_num)) := by
  unfold out0_A_7
  rw [View.read_writes_junk_eq_canon]
  unfold rA kernelRun0_A
  dsimp only
  sl_unfold_words
  simp only [View.readCov_eq_canon', View.readAt_eq_ld, (hs0_0 t).read_unread, (hs0_1 t).read_unread, (hs0_2 t).read_unread, (hs0_3 t).read_unread, (hs0_4 t).read_unread, View.ld_unit_zero (S := S256x1024) off2, View.ld_unit_zero (S := S1x1024) off2]
  have e2 := canon_carried c 1408 fh0 (by norm_num)
  simp only [carried, slab] at *
  simp only [e2]
  rfl

theorem outA_8 : out0_A_8 c t hc0 hc1 x0 x1 x2 x3 x4 fh0 = pt8 x2 x3 := by
  unfold out0_A_8
  rw [View.read_writes_junk_eq_canon]
  unfold rA kernelRun0_A
  dsimp only
  sl_unfold_words
  simp only [View.readCov_eq_canon', View.readAt_eq_ld, (hs0_0 t).read_unread, (hs0_1 t).read_unread, (hs0_2 t).read_unread, (hs0_3 t).read_unread, (hs0_4 t).read_unread, View.ld_unit_zero (S := S256x1024) off2, View.ld_unit_zero (S := S1x1024) off2]
  rfl

theorem outA_9 : out0_A_9 c t hc0 hc1 x0 x1 x2 x3 x4 fh0 = k0_pay7 x0 x4 := by
  unfold out0_A_9
  rw [View.read_writes_junk_eq_canon]
  unfold rA kernelRun0_A
  dsimp only
  sl_unfold_words
  rw [View.canon_cons_unit_zero (S := S256x1024) off2]
  simp only [View.readCov_eq_canon', View.readAt_eq_ld, (hs0_0 t).read_unread, (hs0_1 t).read_unread, (hs0_2 t).read_unread, (hs0_3 t).read_unread, (hs0_4 t).read_unread, View.ld_unit_zero (S := S256x1024) off2, View.ld_unit_zero (S := S1x1024) off2]

theorem outA_10 : out0_A_10 c t hc0 hc1 x0 x1 x2 x3 x4 fh0 = pt10 x0 x1 x2 x3 k0_pay3 (wG c 0 fh0 (by norm_num)) (wG c 704 fh0 (by norm_num)) (wG c 1408 fh0 (by norm_num)) := by
  unfold out0_A_10
  rw [View.read_writes_junk_eq_canon]
  unfold rA kernelRun0_A
  dsimp only
  sl_unfold_words
  rw [View.canon_cons_unit_zero (S := S1x1024) off2]
  rw [View.readCov_unit_zero (S := S1x1024) _ off2]
  simp only [View.readCov_eq_canon', View.readAt_eq_ld, (hs0_0 t).read_unread, (hs0_1 t).read_unread, (hs0_2 t).read_unread, (hs0_3 t).read_unread, (hs0_4 t).read_unread, View.ld_unit_zero (S := S256x1024) off2, View.ld_unit_zero (S := S1x1024) off2]
  have e0 := canon_carried c 0 fh0 (by norm_num)
  have e1 := canon_carried c 704 fh0 (by norm_num)
  have e2 := canon_carried c 1408 fh0 (by norm_num)
  simp only [carried, slab] at *
  simp only [e0, e1, e2]
  rfl

theorem soutA_0 : sout0_A_0 c t hc0 hc1 x0 x1 x2 x3 x4 fh0 = wG c 0 fh0 (by norm_num) := by
  unfold sout0_A_0
  rw [View.read_writes_junk_eq_canon]
  unfold rA kernelRun0_A
  dsimp only
  sl_unfold_words
  exact canon_carried c 0 fh0 (by norm_num)

theorem soutA_1 : sout0_A_1 c t hc0 hc1 x0 x1 x2 x3 x4 fh0 = wG c 704 fh0 (by norm_num) := by
  unfold sout0_A_1
  rw [View.read_writes_junk_eq_canon]
  unfold rA kernelRun0_A
  dsimp only
  sl_unfold_words
  exact canon_carried c 704 fh0 (by norm_num)

theorem soutA_2 : sout0_A_2 c t hc0 hc1 x0 x1 x2 x3 x4 fh0 = wG c 1408 fh0 (by norm_num) := by
  unfold sout0_A_2
  rw [View.read_writes_junk_eq_canon]
  unfold rA kernelRun0_A
  dsimp only
  sl_unfold_words
  exact canon_carried c 1408 fh0 (by norm_num)

end

section
variable (c : Dev nD) (t : Fin cfg0.N) (hc0 : ¬cond0_0 (grid0.coords t)) (hc1 : ¬cond0_1 (grid0.coords t))
    (x0 : Vec F S256x1024 .f32) (x1 : Vec F S256x1024 .f32) (x2 : Vec F S256x2816 .bf16) (x3 : Vec F S256x2816 .bf16) (x4 : Vec F S1x1024 .f32) (xo10 : Vec F S1x1024 .f32) (xs0 : Vec F S2816x1024 .bf16) (xs1 : Vec F S2816x1024 .bf16) (xs2 : Vec F S2816x1024 .bf16) (fh0 : HbBuf0 (F := F) c hbM0_0)

theorem outB_5 : out0_B_5 c t hc0 hc1 x0 x1 x2 x3 x4 xo10 xs0 xs1 xs2 fh0 = pt5 x0 x1 x2 x3 x4 xs0 xs1 xs2 := by
  unfold out0_B_5
  rw [View.read_writes_junk_eq_canon]
  unfold rB kernelRun0_B
  dsimp only
  sl_unfold_words
  rw [View.canon_cons_unit_zero (S := S256x1024) off2]
  simp only [View.readCov_eq_canon', View.readAt_eq_ld, (hs0_0 t).read_unread, (hs0_1 t).read_unread, (hs0_2 t).read_unread, (hs0_3 t).read_unread, (hs0_4 t).read_unread, (hs0_10 t).read_unread, sw0.read_unread, sw1.read_unread, sw2.read_unread, View.ld_unit_zero (S := S256x1024) off2, View.ld_unit_zero (S := S1x1024) off2]
  rfl

theorem outB_6 : out0_B_6 c t hc0 hc1 x0 x1 x2 x3 x4 xo10 xs0 xs1 xs2 fh0 = pt6 x1 x2 x3 xs2 := by
  unfold out0_B_6
  rw [View.read_writes_junk_eq_canon]
  unfold rB kernelRun0_B
  dsimp only
  sl_unfold_words
  simp only [View.readCov_eq_canon', View.readAt_eq_ld, (hs0_0 t).read_unread, (hs0_1 t).read_unread, (hs0_2 t).read_unread, (hs0_3 t).read_unread, (hs0_4 t).read_unread, (hs0_10 t).read_unread, sw0.read_unread, sw1.read_unread, sw2.read_unread, View.ld_unit_zero (S := S256x1024) off2, View.ld_unit_zero (S := S1x1024) off2]
  rfl

theorem outB_7 : out0_B_7 c t hc0 hc1 x0 x1 x2 x3 x4 xo10 xs0 xs1 xs2 fh0 = pt7 x1 x2 xs2 := by
  unfold out0_B_7
  rw [View.read_writes_junk_eq_canon]
  unfold rB kernelRun0_B
  dsimp only
  sl_unfold_words
  simp only [View.readCov_eq_canon', View.readAt_eq_ld, (hs0_0 t).read_unread, (hs0_1 t).read_unread, (hs0_2 t).read_unread, (hs0_3 t).read_unread, (hs0_4 t).read_unread, (hs0_10 t).read_unread, sw0.read_unread, sw1.read_unread, sw2.read_unread, View.ld_unit_zero (S := S256x1024) off2, View.ld_unit_zero (S := S1x1024) off2]
  rfl

theorem outB_8 : out0_B_8 c t hc0 hc1 x0 x1 x2 x3 x4 xo10 xs0 xs1 xs2 fh0 = pt8 x2 x3 := by
  unfold out0_B_8
  rw [View.read_writes_junk_eq_canon]
  unfold rB kernelRun0_B
  dsimp only
  sl_unfold_words
  simp only [View.readCov_eq_canon', View.readAt_eq_ld, (hs0_0 t).read_unread, (hs0_1 t).read_unread, (hs0_2 t).read_unread, (hs0_3 t).read_unread, (hs0_4 t).read_unread, (hs0_10 t).read_unread, sw0.read_unread, sw1.read_unread, sw2.read_unread, View.ld_unit_zero (S := S256x1024) off2, View.ld_unit_zero (S := S1x1024) off2]
  rfl

theorem outB_9 : out0_B_9 c t hc0 hc1 x0 x1 x2 x3 x4 xo10 xs0 xs1 xs2 fh0 = k0_pay7 x0 x4 := by
  unfold out0_B_9
  rw [View.read_writes_junk_eq_canon]
  unfold rB kernelRun0_B
  dsimp only
  sl_unfold_words
  rw [View.canon_cons_unit_zero (S := S256x1024) off2]
  simp only [View.readCov_eq_canon', View.readAt_eq_ld, (hs0_0 t).read_unread, (hs0_1 t).read_unread, (hs0_2 t).read_unread, (hs0_3 t).read_unread, (hs0_4 t).read_unread, (hs0_10 t).read_unread, sw0.read_unread, sw1.read_unread, sw2.read_unread, View.ld_unit_zero (S := S256x1024) off2, View.ld_unit_zero (S := S1x1024) off2]

theorem outB_10 : out0_B_10 c t hc0 hc1 x0 x1 x2 x3 x4 xo10 xs0 xs1 xs2 fh0 = pt10 x0 x1 x2 x3 xo10 xs0 xs1 xs2 := by
  unfold out0_B_10
  rw [View.read_writes_junk_eq_canon]
  unfold rB kernelRun0_B
  dsimp only
  sl_unfold_words
  rw [View.canon_cons_unit_zero (S := S1x1024) off2]
  simp only [View.readCov_eq_canon', View.readAt_eq_ld, (hs0_0 t).read_unread, (hs0_1 t).read_unread, (hs0_2 t).read_unread, (hs0_3 t).read_unread, (hs0_4 t).read_unread, (hs0_10 t).read_unread, sw0.read_unread, sw1.read_unread, sw2.read_unread, View.ld_unit_zero (S := S256x1024) off2, View.ld_unit_zero (S := S1x1024) off2]
  rfl

end

end Cert.KernelIdeal.Own
-- ==== Proof.FfnSweep.lean ====
/- The grid's 32 points one after the other: the weights stay in the scratches, the last result accumulates, and every other result's block is one point's. -/
module

public import proofs.«01_k».proof.Proof.FfnFrame
public import Idealize.ShloMosaic.Lib.Pipeline.Value
public import proofs.«01_k».proof.Proof.FfnPoint

@[expose] public section

set_option maxRecDepth 16384

noncomputable section

namespace Cert.KernelIdeal.Own

open KernelIdeal.Gen

open KernelIdeal KernelIdeal.Gen Idealize.ShloMosaic Idealize.ShloMosaic.TcCoe Idealize.SL.Sem
open Pipeline (Dat)

variable {F : FTy → Type} [FloatOps F]
variable (m : (ℓ : Loc nD τ sig) → Buf (Elt F) ℓ) (ρ : Dev nD → PrngReg)

theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

theorem flushed9 (c : Dev nD) (t : Fin cfg0.N) :
    (dats m 0 c).flushed 9 t = (cfg0.win 9).cut (grid0.coords t) ((outsAt0 m c t.val t.isLt).2.2.2.2.1) := by
  show (cfg0.win 9).cut (grid0.coords t) ((dats m 0 c).after 9 t) = _
  rw [after0_9]

theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

theorem flushed10 (c : Dev nD) (t : Fin cfg0.N) :
    (dats m 0 c).flushed 10 t = (cfg0.win 10).cut (grid0.coords t) ((outsAt0 m c t.val t.isLt).2.2.2.2.2.1) := by
  show (cfg0.win 10).cut (grid0.coords t) ((dats m 0 c).after 10 t) = _
  rw [after0_10]

theorem run_blocks : θ_run defs (onTc (τ := τ) (main (F := F))) ⟨m, fun _ => 0, ρ⟩ fun r => ∀ c : Dev nD,
      r.2.mem ((c : Thread nD τ).loc main_v27_0) = (dats m 0 c).arrAt 5 cfg0.N
      ∧ r.2.mem ((c : Thread nD τ).loc main_v27_1) = (dats m 0 c).arrAt 6 cfg0.N
      ∧ r.2.mem ((c : Thread nD τ).loc main_v27_2) = (dats m 0 c).arrAt 7 cfg0.N
      ∧ r.2.mem ((c : Thread nD τ).loc main_v27_3) = (dats m 0 c).arrAt 8 cfg0.N
      ∧ r.2.mem ((c : Thread nD τ).loc main_v27_4) = (dats m 0 c).arrAt 9 cfg0.N
      ∧ r.2.mem ((c : Thread nD τ).loc main_v27_5) = (dats m 0 c).arrAt 10 cfg0.N
      ∧ kept m r.2.mem c :=
  (θ_run defs _ _).mono (fun _ h c => ⟨(h.2 c).1 5, (h.2 c).1 6, (h.2 c).1 7, (h.2 c).1 8, (h.2 c).1 9, (h.2 c).1 10, h.1 c⟩) (θ_run_and (unchanged m ρ) (run_main m ρ))

end Cert.KernelIdeal.Own

namespace Cert.KernelIdeal.Own

open KernelIdeal KernelIdeal.Gen Idealize.ShloMosaic Idealize.ShloMosaic.TcCoe Idealize.SL.Sem Idealize.ShloMosaic.ValueIdx
open Pipeline (Dat)

variable {F : FTy → Type} [FloatOps F]
variable (m : (ℓ : Loc nD τ sig) → Buf (Elt F) ℓ) (c : Dev nD)

/-- The three weights as the scratches hold them. -/
def wA : Vec F S2816x1024 .bf16 := wG c 0 (V m c main_v26) (by norm_num)
def wB : Vec F S2816x1024 .bf16 := wG c 704 (V m c main_v26) (by norm_num)
def wD : Vec F S2816x1024 .bf16 := wG c 1408 (V m c main_v26) (by norm_num)

/-- The accumulated gradient of the gain after point `n`. -/
def dgs : (n : ℕ) → n < cfg0.N → Vec F S1x1024 .f32
  | 0, h => pt10 (iblk m c 0 ⟨0, h⟩) (iblk m c 1 ⟨0, h⟩) (iblk m c 2 ⟨0, h⟩) (iblk m c 3 ⟨0, h⟩) k0_pay3 (wA m c) (wB m c) (wD m c)
  | n + 1, h => pt10 (iblk m c 0 ⟨n + 1, h⟩) (iblk m c 1 ⟨n + 1, h⟩) (iblk m c 2 ⟨n + 1, h⟩) (iblk m c 3 ⟨n + 1, h⟩) (dgs n (Nat.lt_of_succ_lt h)) (wA m c) (wB m c) (wD m c)

theorem outs_eq : ∀ (n : ℕ) (h : n < cfg0.N), outsAt0 m c n h =
    (pt5 (iblk m c 0 ⟨n, h⟩) (iblk m c 1 ⟨n, h⟩) (iblk m c 2 ⟨n, h⟩) (iblk m c 3 ⟨n, h⟩) (iblk m c 4 ⟨n, h⟩) (wA m c) (wB m c) (wD m c),
     pt6 (iblk m c 1 ⟨n, h⟩) (iblk m c 2 ⟨n, h⟩) (iblk m c 3 ⟨n, h⟩) (wD m c),
     pt7 (iblk m c 1 ⟨n, h⟩) (iblk m c 2 ⟨n, h⟩) (wD m c),
     pt8 (iblk m c 2 ⟨n, h⟩) (iblk m c 3 ⟨n, h⟩),
     k0_pay7 (iblk m c 0 ⟨n, h⟩) (iblk m c 4 ⟨n, h⟩), dgs m c n h, wA m c, wB m c, wD m c)
  | 0, h => by
    rw [show outsAt0 m c 0 h = _ from outsAt0_A m c ⟨0, h⟩ rfl]
    simp only [tA, outA_5, outA_6, outA_7, outA_8, outA_9, outA_10, soutA_0, soutA_1, soutA_2]
    rfl
  | n + 1, h => by
    have hN : cfg0.N = 32 := N_0
    have hB : ¬(⟨n + 1, h⟩ : Fin cfg0.N).val % 32 = 0 := by dsimp only; omega
    have ih := outs_eq n (Nat.lt_of_succ_lt h)
    rw [show outsAt0 m c (n + 1) h = _ from outsAt0_B m c ⟨n + 1, h⟩ hB]
    simp only [tB, outB_5, outB_6, outB_7, outB_8, outB_9, outB_10]
    simp only [show prev m c ⟨n + 1, h⟩ = _ from ih]
    rfl

attribute [local irreducible] pt6 pt7 pt8

theorem index5 : ∀ t : Fin cfg0.N, win0_5.index t 0 = t.val ∧ win0_5.index t 1 = 0 :=
  (by decide +kernel : ∀ t : Fin grid0.N, win0_5.index t 0 = t.val ∧ win0_5.index t 1 = 0)

theorem cut5 (t : Fin cfg0.N) (X : Vec F S256x1024 .f32) (p : Fin 256) (j : Fin 1024) :
    ((cfg0.win 5).cut (grid0.coords t) X : S256x1024.Idx → _) (ix2 p j) = X (ix2 p j) := rfl

theorem arr5 (t : Fin cfg0.N) (p : Fin 256) (j : Fin 1024) (q : Fin 8192) (hq : (q : ℕ) = 256 * t.val + p.val) :
    ((dats m 0 c).arrAt 5 cfg0.N : S8192x1024.Idx → _) (ix2 q j) = (pt5 (iblk m c 0 t) (iblk m c 1 t) (iblk m c 2 t) (iblk m c 3 t) (iblk m c 4 t) (wA m c) (wB m c) (wD m c)) (ix2 p j) := by
  have h := congrFun (blocks5 m c t (flush0_5 t)) (ix2 p j)
  rw [flushed5, outs_eq] at h
  dsimp only at h
  refine Eq.trans ?_ (h.trans (cut5 t _ p j))
  rw [View.read_apply]
  refine congrArg ((dats m 0 c).arrAt 5 cfg0.N : S8192x1024.Idx → _) (funext fun a => Fin.ext ?_)
  match a with
  | ⟨0, _⟩ => show q.val = win0_5.index t 0 * 256 + 1 * p.val; rw [(index5 t).1]; omega
  | ⟨1, _⟩ => show j.val = win0_5.index t 1 * 1024 + 1 * j.val; rw [(index5 t).2]; omega

theorem index6 : ∀ t : Fin cfg0.N, win0_6.index t 0 = t.val ∧ win0_6.index t 1 = 0 :=
  (by decide +kernel : ∀ t : Fin grid0.N, win0_6.index t 0 = t.val ∧ win0_6.index t 1 = 0)

theorem cut6 (t : Fin cfg0.N) (X : Vec F S256x2816 .bf16) (p : Fin 256) (j : Fin 2816) :
    ((cfg0.win 6).cut (grid0.coords t) X : S256x2816.Idx → _) (ix2 p j) = X (ix2 p j) := rfl

theorem arr6 (t : Fin cfg0.N) (p : Fin 256) (j : Fin 2816) (q : Fin 8192) (hq : (q : ℕ) = 256 * t.val + p.val) :
    ((dats m 0 c).arrAt 6 cfg0.N : S8192x2816.Idx → _) (ix2 q j) = (pt6 (iblk m c 1 t) (iblk m c 2 t) (iblk m c 3 t) (wD m c)) (ix2 p j) := by
  have h := congrFun (blocks6 m c t (flush0_6 t)) (ix2 p j)
  rw [flushed6, outs_eq] at h
  dsimp only at h
  refine Eq.trans ?_ (h.trans (cut6 t _ p j))
  rw [View.read_apply]
  refine congrArg ((dats m 0 c).arrAt 6 cfg0.N : S8192x2816.Idx → _) (funext fun a => Fin.ext ?_)
  match a with
  | ⟨0, _⟩ => show q.val = win0_6.index t 0 * 256 + 1 * p.val; rw [(index6 t).1]; omega
  | ⟨1, _⟩ => show j.val = win0_6.index t 1 * 2816 + 1 * j.val; rw [(index6 t).2]; omega

theorem index7 : ∀ t : Fin cfg0.N, win0_7.index t 0 = t.val ∧ win0_7.index t 1 = 0 :=
  (by decide +kernel : ∀ t : Fin grid0.N, win0_7.index t 0 = t.val ∧ win0_7.index t 1 = 0)

theorem cut7 (t : Fin cfg0.N) (X : Vec F S256x2816 .bf16) (p : Fin 256) (j : Fin 2816) :
    ((cfg0.win 7).cut (grid0.coords t) X : S256x2816.Idx → _) (ix2 p j) = X (ix2 p j) := rfl

theorem arr7 (t : Fin cfg0.N) (p : Fin 256) (j : Fin 2816) (q : Fin 8192) (hq : (q : ℕ) = 256 * t.val + p.val) :
    ((dats m 0 c).arrAt 7 cfg0.N : S8192x2816.Idx → _) (ix2 q j) = (pt7 (iblk m c 1 t) (iblk m c 2 t) (wD m c)) (ix2 p j) := by
  have h := congrFun (blocks7 m c t (flush0_7 t)) (ix2 p j)
  rw [flushed7, outs_eq] at h
  dsimp only at h
  refine Eq.trans ?_ (h.trans (cut7 t _ p j))
  rw [View.read_apply]
  refine congrArg ((dats m 0 c).arrAt 7 cfg0.N : S8192x2816.Idx → _) (funext fun a => Fin.ext ?_)
  match a with
  | ⟨0, _⟩ => show q.val = win0_7.index t 0 * 256 + 1 * p.val; rw [(index7 t).1]; omega
  | ⟨1, _⟩ => show j.val = win0_7.index t 1 * 2816 + 1 * j.val; rw [(index7 t).2]; omega

theorem index8 : ∀ t : Fin cfg0.N, win0_8.index t 0 = t.val ∧ win0_8.index t 1 = 0 :=
  (by decide +kernel : ∀ t : Fin grid0.N, win0_8.index t 0 = t.val ∧ win0_8.index t 1 = 0)

theorem cut8 (t : Fin cfg0.N) (X : Vec F S256x2816 .bf16) (p : Fin 256) (j : Fin 2816) :
    ((cfg0.win 8).cut (grid0.coords t) X : S256x2816.Idx → _) (ix2 p j) = X (ix2 p j) := rfl

theorem arr8 (t : Fin cfg0.N) (p : Fin 256) (j : Fin 2816) (q : Fin 8192) (hq : (q : ℕ) = 256 * t.val + p.val) :
    ((dats m 0 c).arrAt 8 cfg0.N : S8192x2816.Idx → _) (ix2 q j) = (pt8 (iblk m c 2 t) (iblk m c 3 t)) (ix2 p j) := by
  have h := congrFun (blocks8 m c t (flush0_8 t)) (ix2 p j)
  rw [flushed8, outs_eq] at h
  dsimp only at h
  refine Eq.trans ?_ (h.trans (cut8 t _ p j))
  rw [View.read_apply]
  refine congrArg ((dats m 0 c).arrAt 8 cfg0.N : S8192x2816.Idx → _) (funext fun a => Fin.ext ?_)
  match a with
  | ⟨0, _⟩ => show q.val = win0_8.index t 0 * 256 + 1 * p.val; rw [(index8 t).1]; omega
  | ⟨1, _⟩ => show j.val = win0_8.index t 1 * 2816 + 1 * j.val; rw [(index8 t).2]; omega

theorem index9 : ∀ t : Fin cfg0.N, win0_9.index t 0 = t.val ∧ win0_9.index t 1 = 0 :=
  (by decide +kernel : ∀ t : Fin grid0.N, win0_9.index t 0 = t.val ∧ win0_9.index t 1 = 0)

theorem cut9 (t : Fin cfg0.N) (X : Vec F S256x1024 .bf16) (p : Fin 256) (j : Fin 1024) :
    ((cfg0.win 9).cut (grid0.coords t) X : S256x1024.Idx → _) (ix2 p j) = X (ix2 p j) := rfl

theorem arr9 (t : Fin cfg0.N) (p : Fin 256) (j : Fin 1024) (q : Fin 8192) (hq : (q : ℕ) = 256 * t.val + p.val) :
    ((dats m 0 c).arrAt 9 cfg0.N : S8192x1024.Idx → _) (ix2 q j) = (k0_pay7 (iblk m c 0 t) (iblk m c 4 t)) (ix2 p j) := by
  have h := congrFun (blocks9 m c t (flush0_9 t)) (ix2 p j)
  rw [flushed9, outs_eq] at h
  dsimp only at h
  refine Eq.trans ?_ (h.trans (cut9 t _ p j))
  rw [View.read_apply]
  refine congrArg ((dats m 0 c).arrAt 9 cfg0.N : S8192x1024.Idx → _) (funext fun a => Fin.ext ?_)
  match a with
  | ⟨0, _⟩ => show q.val = win0_9.index t 0 * 256 + 1 * p.val; rw [(index9 t).1]; omega
  | ⟨1, _⟩ => show j.val = win0_9.index t 1 * 1024 + 1 * j.val; rw [(index9 t).2]; omega

theorem index0 : ∀ t : Fin cfg0.N, win0_0.index t 0 = t.val ∧ win0_0.index t 1 = 0 :=
  (by decide +kernel : ∀ t : Fin grid0.N, win0_0.index t 0 = t.val ∧ win0_0.index t 1 = 0)

theorem blk0 (t : Fin cfg0.N) (p : Fin 256) (j : Fin 1024) (q : Fin 8192) (hq : (q : ℕ) = 256 * t.val + p.val) :
    (iblk m c 0 t : S256x1024.Idx → _) (ix2 p j) = (V m c main_arg0 : S8192x1024.Idx → _) (ix2 q j) := by
  unfold iblk
  rw [View.read_apply]
  refine congrArg (V m c main_arg0 : S8192x1024.Idx → _) (funext fun a => Fin.ext ?_)
  match a with
  | ⟨0, _⟩ => show win0_0.index t 0 * 256 + 1 * p.val = q.val; rw [(index0 t).1]; omega
  | ⟨1, _⟩ => show win0_0.index t 1 * 1024 + 1 * j.val = j.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

theorem blk1 (t : Fin cfg0.N) (p : Fin 256) (j : Fin 1024) (q : Fin 8192) (hq : (q : ℕ) = 256 * t.val + p.val) :
    (iblk m c 1 t : S256x1024.Idx → _) (ix2 p j) = (V m c main_arg1 : S8192x1024.Idx → _) (ix2 q j) := by
  unfold iblk
  rw [View.read_apply]
  refine congrArg (V m c main_arg1 : S8192x1024.Idx → _) (funext fun a => Fin.ext ?_)
  match a with
  | ⟨0, _⟩ => show win0_1.index t 0 * 256 + 1 * p.val = q.val; rw [(index1 t).1]; omega
  | ⟨1, _⟩ => show win0_1.index t 1 * 1024 + 1 * j.val = j.val; rw [(index1 t).2]; omega

theorem index2 : ∀ t : Fin cfg0.N, win0_2.index t 0 = t.val ∧ win0_2.index t 1 = 0 :=
  (by decide +kernel : ∀ t : Fin grid0.N, win0_2.index t 0 = t.val ∧ win0_2.index t 1 = 0)

theorem blk2 (t : Fin cfg0.N) (p : Fin 256) (j : Fin 2816) (q : Fin 8192) (hq : (q : ℕ) = 256 * t.val + p.val) :
    (iblk m c 2 t : S256x2816.Idx → _) (ix2 p j) = (V m c main_v14 : S8192x2816.Idx → _) (ix2 q j) := by
  unfold iblk
  rw [View.read_apply]
  refine congrArg (V m c main_v14 : S8192x2816.Idx → _) (funext fun a => Fin.ext ?_)
  match a with
  | ⟨0, _⟩ => show win0_2.index t 0 * 256 + 1 * p.val = q.val; rw [(index2 t).1]; omega
  | ⟨1, _⟩ => show win0_2.index t 1 * 2816 + 1 * j.val = j.val; rw [(index2 t).2]; omega

theorem index3 : ∀ t : Fin cfg0.N, win0_3.index t 0 = t.val ∧ win0_3.index t 1 = 0 :=
  (by decide +kernel : ∀ t : Fin grid0.N, win0_3.index t 0 = t.val ∧ win0_3.index t 1 = 0)

theorem blk3 (t : Fin cfg0.N) (p : Fin 256) (j : Fin 2816) (q : Fin 8192) (hq : (q : ℕ) = 256 * t.val + p.val) :
    (iblk m c 3 t : S256x2816.Idx → _) (ix2 p j) = (V m c main_v16 : S8192x2816.Idx → _) (ix2 q j) := by
  unfold iblk
  rw [View.read_apply]
  refine congrArg (V m c main_v16 : S8192x2816.Idx → _) (funext fun a => Fin.ext ?_)
  match a with
  | ⟨0, _⟩ => show win0_3.index t 0 * 256 + 1 * p.val = q.val; rw [(index3 t).1]; omega
  | ⟨1, _⟩ => show win0_3.index t 1 * 2816 + 1 * j.val = j.val; rw [(index3 t).2]; omega

theorem index4 : ∀ t : Fin cfg0.N, win0_4.index t 0 = 0 ∧ win0_4.index t 1 = 0 :=
  (by decide +kernel : ∀ t : Fin grid0.N, win0_4.index t 0 = 0 ∧ win0_4.index t 1 = 0)

theorem blk4 (t : Fin cfg0.N) (p : Fin 1) (j : Fin 1024) :
    (iblk m c 4 t : S1x1024.Idx → _) (ix2 p j) = (V m c main_v17 : S1x1024.Idx → _) (ix2 p j) := by
  unfold iblk
  rw [View.read_apply]
  refine congrArg (V m c main_v17 : S1x1024.Idx → _) (funext fun a => Fin.ext ?_)
  match a with
  | ⟨0, _⟩ => show win0_4.index t 0 * 1 + 1 * p.val = p.val; rw [(index4 t).1]; omega
  | ⟨1, _⟩ => show win0_4.index t 1 * 1024 + 1 * j.val = j.val; rw [(index4 t).2]; omega

theorem index10 : ∀ t : Fin cfg0.N, win0_10.index t 0 = 0 ∧ win0_10.index t 1 = 0 :=
  (by decide +kernel : ∀ t : Fin grid0.N, win0_10.index t 0 = 0 ∧ win0_10.index t 1 = 0)

/-- The gain's gradient is written back once, after the last point. -/
theorem lt31 : 31 < cfg0.N := by rw [show cfg0.N = 32 from N_0]; decide

/-- The last point. -/
abbrev t31 : Fin cfg0.N := ⟨31, lt31⟩

theorem arr10 : ((dats m 0 c).arrAt 10 cfg0.N : S1x1024.Idx → _) = dgs m c 31 lt31 := by
  have hN : cfg0.N = 32 := N_0
  refine (dats m 0 c).arrAt_eq_of_cover 10 (dgs m c 31 lt31) (fun t hf => ?_) fun i =>
    ⟨t31, (flush0_10 _).mpr rfl, ?_⟩
  · have h31 : t.val = 31 := by have := (flush0_10 t).mp hf; have := t.isLt; omega
    obtain rfl : t = t31 := Fin.ext h31
    rw [flushed10, outs_eq]
    have hz' : (fun a => win0_10.index t31 a * main_v27_5.ty.shape.size a) = fun _ => 0 := funext fun a => by
      match a with
      | ⟨0, _⟩ => show win0_10.index t31 0 * _ = 0; rw [(index10 t31).1, Nat.zero_mul]
      | ⟨1, _⟩ => show win0_10.index t31 1 * _ = 0; rw [(index10 t31).2, Nat.zero_mul]
    exact (Memref.read_access_unit_zero (Elt F) main_v27_5 hz' (fun a => by rw [congrFun hz' a]; simp) (dgs m c 31 _)).symm
  · show i ∈ ((View.whole main_v27_5).slice (win0_10.rect t31)).set
    rw [View.set_slice_whole, Rect.mem_set_unit]
    intro a
    have h0 : (i 0 : Nat) < 1 := (i 0).isLt
    have h1 : (i 1 : Nat) < 1024 := (i 1).isLt
    match a with
    | ⟨0, _⟩ => show win0_10.index t31 0 * 1 ≤ (i 0 : Nat) ∧ (i 0 : Nat) < win0_10.index t31 0 * 1 + 1; rw [(index10 t31).1]; omega
    | ⟨1, _⟩ => show win0_10.index t31 1 * 1024 ≤ (i 1 : Nat) ∧ (i 1 : Nat) < win0_10.index t31 1 * 1024 + 1024; rw [(index10 t31).2]; omega

end Cert.KernelIdeal.Own

end
-- ==== Proof.RealRow.lean ====
/- Real numbers among the ideal floats: sums, constants, quotients, roots and the sigmoid of real
   operands, and the row operations of a two-axis block read at an index. -/
module

public import Idealize.ShloMosaic.PureOps
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pipeline.Value

@[expose] public section

noncomputable section

namespace Cert.RealRow

open Idealize.ShloMosaic Idealize.ShloMosaic.ValueIdx
open scoped BigOperators

/-- The real values as an additive map into the extended reals. -/
def coeHom : ℝ →+ EReal := ⟨⟨fun r => (r : EReal), rfl⟩, EReal.coe_add⟩

theorem coe_sum {ι : Type*} (s : Finset ι) (f : ι → ℝ) : ((∑ i ∈ s, f i : ℝ) : EReal) = ∑ i ∈ s, (f i : EReal) :=
  map_sum coeHom f s

/-- A sum of real terms is the real sum. -/
theorem sum_real {ι : Type*} [Fintype ι] {u : ι → EReal} {f : ι → ℝ} (h : ∀ i, u i = (f i : EReal)) :
    ∑ i, u i = ((∑ i, f i : ℝ) : EReal) := by
  rw [coe_sum]; exact Finset.sum_congr rfl fun i _ => h i

theorem half_f32 : Ideal.ofBits .f32 0x3F000000#32 = (((1 : ℝ) / 2 : ℝ) : EReal) := by
  simp [Ideal.ofBits, Ideal.ieee, -EReal.coe_mul]; norm_num

theorem neg_half_f32 : Ideal.ofBits .f32 0xBF000000#32 = ((-((1 : ℝ) / 2) : ℝ) : EReal) := by
  simp [Ideal.ofBits, Ideal.ieee, -EReal.coe_mul]; norm_num

theorem thousand_f32 : Ideal.ofBits .f32 0x44800000#32 = ((1024 : ℝ) : EReal) := by
  simp [Ideal.ofBits, Ideal.ieee, -EReal.coe_mul]; norm_num

theorem zero_f32 : Ideal.ofBits .f32 0x00000000#32 = ((0 : ℝ) : EReal) := by
  simp [Ideal.ofBits, Ideal.ieee, -EReal.coe_mul]

theorem one_f32 : Ideal.ofBits .f32 0x3F800000#32 = ((1 : ℝ) : EReal) := by
  rw [Ideal.ofBits_one_f32]; rfl

/-- The number the norm adds under its root. -/
def eps : ℝ := 8796093 * (2 : ℝ) ^ (-43 : ℤ)

theorem eps_f32 : Ideal.ofBits .f32 0x358637BD#32 = (eps : EReal) := by
  unfold eps
  simp [Ideal.ofBits, Ideal.ieee, -EReal.coe_mul]

theorem eps_pos : 0 < eps := by unfold eps; positivity

theorem div_real {y : ℝ} (hy : y ≠ 0) (x : ℝ) : Ideal.div (x : EReal) (y : EReal) = ((x / y : ℝ) : EReal) := by
  rw [Ideal.div_coe hy, ← EReal.coe_mul]; congr 1; ring

theorem rsqrt_real {x : ℝ} (hx : 0 < x) : Ideal.rsqrt (x : EReal) = (((Real.sqrt x)⁻¹ : ℝ) : EReal) := by
  rw [Ideal.rsqrt_coe, if_neg (not_lt.mpr hx.le), if_neg hx.ne']

/-- The logistic function. -/
def sig (v : ℝ) : ℝ := 1 / (1 + Real.exp (-v))

theorem one_add_exp_ne (v : ℝ) : 1 + Real.exp (-v) ≠ 0 := by have := Real.exp_pos (-v); positivity

/-- The logistic function by the hyperbolic tangent of half its argument. -/
theorem sig_tanh (v : ℝ) : 1 / 2 * Real.tanh (1 / 2 * v) + 1 / 2 = sig v := by
  have e : Real.exp (-v) = Real.exp (-(1 / 2 * v)) * Real.exp (-(1 / 2 * v)) := by rw [← Real.exp_add]; congr 1; ring
  have h1 := Real.exp_pos (1 / 2 * v)
  have h2 := Real.exp_pos (-(1 / 2 * v))
  have h3 : Real.exp (1 / 2 * v) * Real.exp (-(1 / 2 * v)) = 1 := by rw [← Real.exp_add]; simp
  rw [sig, e, Real.tanh_eq_sinh_div_cosh, Real.sinh_eq, Real.cosh_eq]
  generalize Real.exp (1 / 2 * v) = a at *
  generalize Real.exp (-(1 / 2 * v)) = b at *
  have hb : b = a⁻¹ := eq_inv_of_mul_eq_one_right h3
  subst hb
  have : a ^ 2 + 1 ≠ 0 := by positivity
  field_simp
  ring

/-- A row's sum over its lanes. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) := by
  rw [Ideal.multiReduction_add_single]
  exact Finset.sum_congr rfl fun k _ => congrArg v (funext fun x => Fin.ext (by match x with | ⟨0, _⟩ => rfl | ⟨1, _⟩ => rfl))

/-- A column's sum over the rows. -/
theorem colSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ v acc h hφ hacc (ix1 c) = ∑ k : Fin a, v (ix2 k c) := by
  rw [Ideal.multiReduction_add_single]
  exact Finset.sum_congr rfl fun k _ => congrArg v (funext fun x => Fin.ext (by match x with | ⟨0, _⟩ => rfl | ⟨1, _⟩ => rfl))

/-- A column broadcast over the lanes. -/
theorem bcol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rsqrt_apply {s : Shape} {φ : FTy} (a : FVec Ideal s φ) (i : s.Idx) : rsqrt a i = Ideal.rsqrt (a i) := rfl
theorem tanh_apply {s : Shape} {φ : FTy} (a : FVec Ideal s φ) (i : s.Idx) : tanh a i = Ideal.tanh (a i) := rfl
end Cert.RealRow

end
-- ==== Proof.FfnReal.lean ====
/- The half-step SwiGLU block's gradient at one row, over the real numbers: `x` the row of `h`, `d`
   the row of the incoming gradient, `g` the norm's gain, `wg`, `wu`, `wd` the three weights. -/
module

public import proofs.«01_k».proof.Proof.RealRow

@[expose] public section

noncomputable section

namespace Cert.FfnReal

open Idealize.ShloMosaic Idealize.ShloMosaic.ValueIdx RealRow
open scoped BigOperators

/-- A two-axis array by its two coordinates. -/
def at2 {a b : ℕ} (X : (⟨2, ![a, b]⟩ : Shape).Idx → ℝ) (p : Fin a) (q : Fin b) : ℝ := X (ix2 p q)
/-- A one-axis array by its coordinate. -/
def at1 {a : ℕ} (X : (⟨1, ![a]⟩ : Shape).Idx → ℝ) (p : Fin a) : ℝ := X (ix1 p)

/-- The mean of the squares. -/
def ms (x : Fin 1024 → ℝ) : ℝ := (∑ k, x k * x k) / 1024
/-- The norm's reciprocal root. -/
def rr (x : Fin 1024 → ℝ) : ℝ := (Real.sqrt (ms x + eps))⁻¹
/-- The normed row before the gain. -/
def xh (x : Fin 1024 → ℝ) (j : Fin 1024) : ℝ := x j * rr x
/-- The normed row. -/
def nn (x g : Fin 1024 → ℝ) (j : Fin 1024) : ℝ := xh x j * g j
/-- A hidden unit before its activation. -/
def pr (x g : Fin 1024 → ℝ) (w : Fin 1024 → Fin 2816 → ℝ) (f : Fin 2816) : ℝ := ∑ k, nn x g k * w k f
/-- The gradient at the product of the two hidden branches. -/
def dsv (d : Fin 1024 → ℝ) (wd : Fin 2816 → Fin 1024 → ℝ) (f : Fin 2816) : ℝ := ∑ k, (1 / 2 * d k) * wd f k

section
variable (x d g : Fin 1024 → ℝ) (wg wu : Fin 1024 → Fin 2816 → ℝ) (wd : Fin 2816 → Fin 1024 → ℝ)

/-- The product of the two hidden branches. -/
def sv (f : Fin 2816) : ℝ := pr x g wg f * sig (pr x g wg f) * pr x g wu f
/-- The gradient at the gate's branch. -/
def dav (f : Fin 2816) : ℝ :=
  dsv d wd f * pr x g wu f * (sig (pr x g wg f) * (1 + pr x g wg f * (1 - sig (pr x g wg f))))
/-- The gradient at the other branch. -/
def dbv (f : Fin 2816) : ℝ := dsv d wd f * (pr x g wg f * sig (pr x g wg f))
/-- The gradient at the normed row. -/
def dnv (j : Fin 1024) : ℝ := ∑ f, dav x d g wg wu wd f * wg j f + ∑ f, dbv x d g wg wd f * wu j f
/-- The mean that the norm's gradient takes off. -/
def mv : ℝ := (∑ k, dnv x d g wg wu wd k * g k * xh x k) / 1024
/-- The gradient at the row. -/
def dhv (j : Fin 1024) : ℝ := d j + rr x * (dnv x d g wg wu wd j * g j - xh x j * mv x d g wg wu wd)

theorem ms_eps_pos : 0 < ms x + eps := by
  have : 0 ≤ ms x := div_nonneg (Finset.sum_nonneg fun k _ => mul_self_nonneg _) (by norm_num)
  have := eps_pos
  linarith

theorem rr_sq : rr x * rr x * (ms x + eps) = 1 := by
  have h := ms_eps_pos x
  unfold rr
  rw [← mul_inv, Real.mul_self_sqrt h.le, inv_mul_cancel₀ h.ne']

/-- The gradient as the differentiated lines give it: through the normed row, and twice through the root. -/
theorem dhv_vjp (j : Fin 1024) :
    d j + dnv x d g wg wu wd j * g j * rr x
        + x j * ((∑ k, x k * (dnv x d g wg wu wd k * g k)) * (-(1 / 2) * (rr x / (ms x + eps))) / 1024)
        + (∑ k, x k * (dnv x d g wg wu wd k * g k)) * (-(1 / 2) * (rr x / (ms x + eps))) / 1024 * x j
      = dhv x d g wg wu wd j := by
  have hS : ∑ k, dnv x d g wg wu wd k * g k * xh x k = rr x * ∑ k, x k * (dnv x d g wg wu wd k * g k) := by
    rw [Finset.mul_sum]; exact Finset.sum_congr rfl fun k _ => by unfold xh; ring
  have hq : rr x / (ms x + eps) = rr x * (rr x * rr x) := by
    have h := rr_sq x
    have h0 := (ms_eps_pos x).ne'
    field_simp
    linear_combination (- rr x) * h
  unfold dhv mv
  rw [hS, hq]
  unfold xh
  ring

theorem dav_vjp (f : Fin 2816) :
    dsv d wd f * pr x g wu f * sig (pr x g wg f)
      + pr x g wg f * (dsv d wd f * pr x g wu f) * (sig (pr x g wg f) * (1 - sig (pr x g wg f)))
      = dav x d g wg wu wd f := by unfold dav; ring

theorem dbv_vjp (f : Fin 2816) :
    pr x g wg f * sig (pr x g wg f) * dsv d wd f = dbv x d g wg wd f := by unfold dbv; ring

theorem dnv_vjp (j : Fin 1024) :
    ∑ f, dbv x d g wg wd f * wu j f + ∑ f, dav x d g wg wu wd f * wg j f = dnv x d g wg wu wd j := by
  unfold dnv; ring

end

/-! ## The ideal operations at real operands -/

/-- An array of reals among the ideal floats. -/
def up {s : Shape} (X : s.Idx → ℝ) : s.Idx → EReal := fun i => (X i : EReal)

section
variable {φ : FTy} {a b : Ideal φ} {x y : ℝ}
theorem mulR (ha : a = (x : EReal)) (hb : b = (y : EReal)) : (FloatOps.mulf a b : Ideal φ) = ((x * y : ℝ) : EReal) := by
  rw [Ideal.mulf_def, ha, hb, EReal.coe_mul]
theorem addR (ha : a = (x : EReal)) (hb : b = (y : EReal)) : (FloatOps.addf a b : Ideal φ) = ((x + y : ℝ) : EReal) := by
  rw [Ideal.addf_def, ha, hb, EReal.coe_add]
theorem subR (ha : a = (x : EReal)) (hb : b = (y : EReal)) : (FloatOps.subf a b : Ideal φ) = ((x - y : ℝ) : EReal) := by
  rw [Ideal.subf_def, ha, hb, EReal.coe_sub]
theorem hdivR (hy : y ≠ 0) (ha : a = (x : EReal)) (hb : b = (y : EReal)) : (FloatOps.hostDivf a b : Ideal φ) = ((x / y : ℝ) : EReal) := by
  rw [Ideal.hostDivf_def, ha, hb, div_real hy]
theorem hnegR (ha : a = (x : EReal)) : (FloatOps.hostNegf a : Ideal φ) = ((-x : ℝ) : EReal) := by
  show -a = _
  rw [ha, EReal.coe_neg]
theorem hexpR (ha : a = (x : EReal)) : (FloatOps.hostUnary .exp a : Ideal φ) = ((Real.exp x : ℝ) : EReal) := by
  show Ideal.exp a = _
  rw [ha, Ideal.exp_coe]
theorem hrsqrtR (hx : 0 < x) (ha : a = (x : EReal)) : (FloatOps.hostUnary .rsqrt a : Ideal φ) = (((Real.sqrt x)⁻¹ : ℝ) : EReal) := by
  show Ideal.rsqrt a = _
  rw [ha, rsqrt_real hx]
end

theorem dotR {n : ℕ} {u v : Fin n → EReal} {p q : Fin n → ℝ} (hu : ∀ k, u k = (p k : EReal)) (hv : ∀ k, v k = (q k : EReal)) :
    ∑ k, u k * v k = ((∑ k, p k * q k : ℝ) : EReal) :=
  sum_real fun k => by rw [hu k, hv k, EReal.coe_mul]

theorem sum0R {n : ℕ} {c : EReal} {u : Fin n → EReal} {p : Fin n → ℝ} (hc : c = ((0 : ℝ) : EReal)) (hu : ∀ k, u k = (p k : EReal)) :
    c + ∑ k, u k = ((∑ k, p k : ℝ) : EReal) := by
  rw [hc, sum_real hu, ← EReal.coe_add, zero_add]

theorem up2 {a b : ℕ} (X : (⟨2, ![a, b]⟩ : Shape).Idx → ℝ) (i : (⟨2, ![a, b]⟩ : Shape).Idx) :
    up X i = ((at2 X (i 0) (i 1) : ℝ) : EReal) := congrArg (fun j => ((X j : ℝ) : EReal)) (eq_ix2 i)
theorem up1 {a : ℕ} (X : (⟨1, ![a]⟩ : Shape).Idx → ℝ) (i : (⟨1, ![a]⟩ : Shape).Idx) :
    up X i = ((at1 X (i 0) : ℝ) : EReal) := congrArg (fun j => ((X j : ℝ) : EReal)) (eq_ix1 i)

end Cert.FfnReal

end
-- ==== Proof.FfnRef.lean ====
/- The reference at finite arguments: each of its operations' elements is the real number the
   block's gradient has there (FfnReal). One lemma per operation, in program order. -/
module

public import proofs.«01_k».proof.Proof.FfnReal
public import proofs.«01_k».proof.Proof.Gen.ReferenceIdeal.Read

@[expose] public section

noncomputable section

namespace Cert.FfnRef

open ReferenceIdeal ReferenceIdeal.Read RealRow FfnReal Idealize.ShloMosaic Idealize.ShloMosaic.ValueIdx
open scoped BigOperators

variable (X D : S8192x1024.Idx → ℝ) (G : S1024.Idx → ℝ) (Wg Wu : S1024x2816.Idx → ℝ) (Wd : S2816x1024.Idx → ℝ)

theorem idx24 (i : S8192x1024.Idx) : idx_main_v24 i = i := by
  have h0 : (i 0).val < 8192 := (i 0).isLt
  have h1 : (i 1).val < 1024 := (i 1).isLt
  funext a
  match a with
  | ⟨0, _⟩ => exact Fin.ext (show ((i 0).val * 1024 + (i 1).val) / 1024 = (i 0).val by omega)
  | ⟨1, _⟩ => exact Fin.ext (show ((i 0).val * 1024 + (i 1).val) % 1024 = (i 1).val by omega)

theorem idx36 (i : S1x1024.Idx) : idx_main_v36 i = ix1 (i 1) := by
  have h0 : (i 0).val < 1 := (i 0).isLt
  funext a
  match a with
  | ⟨0, _⟩ => exact Fin.ext (show (i 0).val * 1024 + (i 1).val = (i 1).val by omega)

theorem idx42 (i : S8192x1.Idx) : idx_main_v42 i = ix1 (i 0) := by
  have h1 : (i 1).val < 1 := (i 1).isLt
  funext a
  match a with
  | ⟨0, _⟩ => exact Fin.ext (show (i 0).val * 1 + (i 1).val = (i 0).val by omega)

theorem r_v6 (i : S8192x1.Idx) : val_main_v6 (F := Ideal) (up X) i = (((ms (at2 X (i 0)) + eps) : ℝ) : EReal) :=
  (val_main_v6_apply _ i).trans (addR ((val_main_v4_apply _ i).trans (hdivR (by norm_num) ((val_main_v2_apply _ i).trans ((val_main_v1_apply _ _).trans (sum0R ((val_main_cst_apply _).trans zero_f32) fun k => ((val_main_v0_apply _ _).trans (mulR (up2 X _) (up2 X _)))))) ((val_main_v3_apply  i).trans ((val_main_cst_0_apply _).trans thousand_f32)))) ((val_main_v5_apply  i).trans ((val_main_cst_1_apply _).trans eps_f32)))

theorem r_v7 (i : S8192x1.Idx) : val_main_v7 (F := Ideal) (up X) i = (((rr (at2 X (i 0))) : ℝ) : EReal) :=
  (val_main_v7_apply _ i).trans (hrsqrtR (ms_eps_pos _) (r_v6 X i))

theorem r_v8 (i : S8192x1.Idx) : val_main_v8 (F := Ideal) (up X) i = (((rr (at2 X (i 0)) / (ms (at2 X (i 0)) + eps)) : ℝ) : EReal) :=
  (val_main_v8_apply _ i).trans (hdivR (ms_eps_pos _).ne' (r_v7 X i) (r_v6 X i))

theorem r_cst_2 (i : S_.Idx) : val_main_cst_2 (F := Ideal)  i = (((-(1 / 2)) : ℝ) : EReal) :=
  (val_main_cst_2_apply i).trans neg_half_f32

theorem r_v9 (i : S8192x1.Idx) : val_main_v9 (F := Ideal)  i = (((-(1 / 2)) : ℝ) : EReal) :=
  (val_main_v9_apply  i).trans (r_cst_2 _)

theorem r_v10 (i : S8192x1.Idx) : val_main_v10 (F := Ideal) (up X) i = (((-(1 / 2) * (rr (at2 X (i 0)) / (ms (at2 X (i 0)) + eps))) : ℝ) : EReal) :=
  (val_main_v10_apply _ i).trans (mulR (r_v9 i) (r_v8 X i))

theorem r_v12 (i : S8192x1024.Idx) : val_main_v12 (F := Ideal) (up X) i = (((xh (at2 X (i 0)) (i 1)) : ℝ) : EReal) :=
  (val_main_v12_apply _ i).trans (mulR (up2 X i) ((val_main_v11_apply _ i).trans (r_v7 X _)))

theorem r_v13 (i : S1x1024.Idx) : val_main_v13 (F := Ideal) (up G) i = (((at1 G (i 1)) : ℝ) : EReal) :=
  (val_main_v13_apply _ i).trans (up1 G _)

theorem r_v15 (i : S8192x1024.Idx) : val_main_v15 (F := Ideal) (up X) (up G) i = (((nn (at2 X (i 0)) (at1 G) (i 1)) : ℝ) : EReal) :=
  (val_main_v15_apply _ _ i).trans (mulR (r_v12 X i) ((val_main_v14_apply _ i).trans (r_v13 G _)))

theorem r_v16 (i : S8192x2816.Idx) : val_main_v16 (F := Ideal) (up X) (up G) (up Wg) i = (((pr (at2 X (i 0)) (at1 G) (at2 Wg) (i 1)) : ℝ) : EReal) :=
  (val_main_v16_apply _ _ _ i).trans (dotR (fun k => r_v15 X G _) fun k => up2 Wg _)

theorem r_v17_2 (i : S8192x2816.Idx) : val_main_v17_2 (F := Ideal) (up X) (up G) (up Wg) i = (((sig (pr (at2 X (i 0)) (at1 G) (at2 Wg) (i 1))) : ℝ) : EReal) :=
  (val_main_v17_2_apply _ _ _ i).trans (hdivR (one_add_exp_ne _) ((val_main_call0_v4_apply  i).trans ((val_main_call0_cst_0_apply _).trans one_f32)) ((val_main_call0_v3_apply _ _ _ i).trans (addR ((val_main_call0_v2_apply  i).trans ((val_main_call0_cst_apply _).trans one_f32)) ((val_main_call0_v1_apply _ _ _ i).trans (hexpR ((val_main_call0_v0_apply _ _ _ i).trans (hnegR (r_v16 X G Wg i))))))))

theorem r_v27 (i : S8192x2816.Idx) : val_main_v27 (F := Ideal) (up D) (up Wd) i = (((dsv (at2 D (i 0)) (at2 Wd) (i 1)) : ℝ) : EReal) :=
  (val_main_v27_apply _ _ i).trans (dotR (fun k => ((val_main_v26_apply _ _).trans (mulR ((val_main_v25_apply  _).trans ((val_main_cst_4_apply _).trans half_f32)) ((val_main_v24_apply _ _).trans ((congrArg (up D) (idx24 _)).trans (up2 D _)))))) fun k => up2 Wd _)

theorem r_v29 (i : S8192x2816.Idx) : val_main_v29 (F := Ideal) (up X) (up D) (up G) (up Wu) (up Wd) i = (((dsv (at2 D (i 0)) (at2 Wd) (i 1) * pr (at2 X (i 0)) (at1 G) (at2 Wu) (i 1)) : ℝ) : EReal) :=
  (val_main_v29_apply _ _ _ _ _ i).trans (mulR (r_v27 D Wd i) ((val_main_v18_apply _ _ _ i).trans (dotR (fun k => r_v15 X G _) fun k => up2 Wu _)))

theorem r_v33 (i : S8192x1024.Idx) : val_main_v33 (F := Ideal) (up X) (up D) (up G) (up Wg) (up Wu) (up Wd) i = (((dnv (at2 X (i 0)) (at2 D (i 0)) (at1 G) (at2 Wg) (at2 Wu) (at2 Wd) (i 1)) : ℝ) : EReal) :=
  (val_main_v33_apply _ _ _ _ _ _ i).trans ((addR ((val_main_v30_apply _ _ _ _ _ _ i).trans (dotR (fun k => ((val_main_v28_apply _ _ _ _ _ _).trans ((mulR ((val_main_v17_0_apply _ _ _ _).trans (mulR (r_v16 X G Wg _) (r_v17_2 X G Wg _))) (r_v27 D Wd _)).trans (congrArg _ (dbv_vjp ..))))) fun k => up2 Wu _)) ((val_main_v32_apply _ _ _ _ _ _ i).trans (dotR (fun k => ((val_main_v31_apply _ _ _ _ _ _ _).trans ((addR ((val_main_call1_v1_apply _ _ _ _ _ _ _).trans (mulR (r_v29 X D G Wu Wd _) (r_v17_2 X G Wg _))) ((val_main_call1_v2_apply _ _ _ _ _ _ _).trans (mulR ((val_main_call1_v0_apply _ _ _ _ _ _ _).trans (mulR (r_v16 X G Wg _) (r_v29 X D G Wu Wd _))) ((val_main_v17_1_apply _ _ _ _).trans (mulR (r_v17_2 X G Wg _) ((val_main_call0_v7_apply _ _ _ _).trans (subR ((val_main_call0_v6_apply  _).trans ((val_main_call0_cst_1_apply _).trans one_f32)) (r_v17_2 X G Wg _)))))))).trans (congrArg _ (dav_vjp ..))))) fun k => up2 Wg _))).trans (congrArg _ (dnv_vjp ..)))

theorem r_v34 (i : S8192x1024.Idx) : val_main_v34 (F := Ideal) (up X) (up D) (up G) (up Wg) (up Wu) (up Wd) i = (((xh (at2 X (i 0)) (i 1) * dnv (at2 X (i 0)) (at2 D (i 0)) (at1 G) (at2 Wg) (at2 Wu) (at2 Wd) (i 1)) : ℝ) : EReal) :=
  (val_main_v34_apply _ _ _ _ _ _ i).trans (mulR (r_v12 X i) (r_v33 X D G Wg Wu Wd i))

theorem r_cst_5 (i : S_.Idx) : val_main_cst_5 (F := Ideal)  i = (((0) : ℝ) : EReal) :=
  (val_main_cst_5_apply i).trans zero_f32

theorem r_v35 (i : S1024.Idx) : val_main_v35 (F := Ideal) (up X) (up D) (up G) (up Wg) (up Wu) (up Wd) i = (((∑ t, xh (at2 X t) (i 0) * dnv (at2 X t) (at2 D t) (at1 G) (at2 Wg) (at2 Wu) (at2 Wd) (i 0)) : ℝ) : EReal) :=
  (val_main_v35_apply _ _ _ _ _ _ i).trans (sum0R (r_cst_5 _) fun k => r_v34 X D G Wg Wu Wd _)

theorem r_v36 (i : S1x1024.Idx) : val_main_v36 (F := Ideal) (up X) (up D) (up G) (up Wg) (up Wu) (up Wd) i = (((∑ t, xh (at2 X t) (i 1) * dnv (at2 X t) (at2 D t) (at1 G) (at2 Wg) (at2 Wu) (at2 Wd) (i 1)) : ℝ) : EReal) :=
  (val_main_v36_apply _ _ _ _ _ _ i).trans ((congrArg (val_main_v35 (F := Ideal) (up X) (up D) (up G) (up Wg) (up Wu) (up Wd)) (idx36 i)).trans (r_v35 X D G Wg Wu Wd (ix1 (i 1))))

theorem r_v38 (i : S8192x1024.Idx) : val_main_v38 (F := Ideal) (up X) (up D) (up G) (up Wg) (up Wu) (up Wd) i = (((dnv (at2 X (i 0)) (at2 D (i 0)) (at1 G) (at2 Wg) (at2 Wu) (at2 Wd) (i 1) * at1 G (i 1)) : ℝ) : EReal) :=
  (val_main_v38_apply _ _ _ _ _ _ i).trans (mulR (r_v33 X D G Wg Wu Wd i) ((val_main_v37_apply _ i).trans (r_v13 G _)))

theorem r_cst_6 (i : S_.Idx) : val_main_cst_6 (F := Ideal)  i = (((0) : ℝ) : EReal) :=
  (val_main_cst_6_apply i).trans zero_f32

theorem r_v39 (i : S1024.Idx) : val_main_v39 (F := Ideal) (up X) (up D) (up G) (up Wg) (up Wu) (up Wd) i = (((∑ t, xh (at2 X t) (i 0) * dnv (at2 X t) (at2 D t) (at1 G) (at2 Wg) (at2 Wu) (at2 Wd) (i 0)) : ℝ) : EReal) :=
  (val_main_v39_apply _ _ _ _ _ _ i).trans ((sum0R (r_cst_6 _) fun k => r_v36 X D G Wg Wu Wd _).trans (congrArg _ (Fin.sum_univ_one _)))

theorem r_v40 (i : S8192x1024.Idx) : val_main_v40 (F := Ideal) (up X) (up D) (up G) (up Wg) (up Wu) (up Wd) i = (((at2 X (i 0) (i 1) * (dnv (at2 X (i 0)) (at2 D (i 0)) (at1 G) (at2 Wg) (at2 Wu) (at2 Wd) (i 1) * at1 G (i 1))) : ℝ) : EReal) :=
  (val_main_v40_apply _ _ _ _ _ _ i).trans (mulR (up2 X i) (r_v38 X D G Wg Wu Wd i))

theorem r_cst_7 (i : S_.Idx) : val_main_cst_7 (F := Ideal)  i = (((0) : ℝ) : EReal) :=
  (val_main_cst_7_apply i).trans zero_f32

theorem r_v41 (i : S8192.Idx) : val_main_v41 (F := Ideal) (up X) (up D) (up G) (up Wg) (up Wu) (up Wd) i = ((((∑ k, at2 X (i 0) k * (dnv (at2 X (i 0)) (at2 D (i 0)) (at1 G) (at2 Wg) (at2 Wu) (at2 Wd) k * at1 G k))) : ℝ) : EReal) :=
  (val_main_v41_apply _ _ _ _ _ _ i).trans (sum0R (r_cst_7 _) fun k => r_v40 X D G Wg Wu Wd _)

theorem r_v42 (i : S8192x1.Idx) : val_main_v42 (F := Ideal) (up X) (up D) (up G) (up Wg) (up Wu) (up Wd) i = ((((∑ k, at2 X (i 0) k * (dnv (at2 X (i 0)) (at2 D (i 0)) (at1 G) (at2 Wg) (at2 Wu) (at2 Wd) k * at1 G k))) : ℝ) : EReal) :=
  (val_main_v42_apply _ _ _ _ _ _ i).trans ((congrArg (val_main_v41 (F := Ideal) (up X) (up D) (up G) (up Wg) (up Wu) (up Wd)) (idx42 i)).trans (r_v41 X D G Wg Wu Wd (ix1 (i 0))))

theorem r_v43 (i : S8192x1024.Idx) : val_main_v43 (F := Ideal) (up X) i = (((rr (at2 X (i 0))) : ℝ) : EReal) :=
  (val_main_v43_apply _ i).trans (r_v7 X _)

theorem r_v44 (i : S8192x1024.Idx) : val_main_v44 (F := Ideal) (up X) (up D) (up G) (up Wg) (up Wu) (up Wd) i = (((dnv (at2 X (i 0)) (at2 D (i 0)) (at1 G) (at2 Wg) (at2 Wu) (at2 Wd) (i 1) * at1 G (i 1) * rr (at2 X (i 0))) : ℝ) : EReal) :=
  (val_main_v44_apply _ _ _ _ _ _ i).trans (mulR (r_v38 X D G Wg Wu Wd i) (r_v43 X i))

theorem r_v45 (i : S8192x1024.Idx) : val_main_v45 (F := Ideal) (up X) (up D) (up G) (up Wg) (up Wu) (up Wd) i = (((at2 D (i 0) (i 1) + dnv (at2 X (i 0)) (at2 D (i 0)) (at1 G) (at2 Wg) (at2 Wu) (at2 Wd) (i 1) * at1 G (i 1) * rr (at2 X (i 0))) : ℝ) : EReal) :=
  (val_main_v45_apply _ _ _ _ _ _ i).trans (addR (up2 D i) (r_v44 X D G Wg Wu Wd i))

theorem r_v46 (i : S8192x1.Idx) : val_main_v46 (F := Ideal) (up X) (up D) (up G) (up Wg) (up Wu) (up Wd) i = ((((∑ k, at2 X (i 0) k * (dnv (at2 X (i 0)) (at2 D (i 0)) (at1 G) (at2 Wg) (at2 Wu) (at2 Wd) k * at1 G k)) * (-(1 / 2) * (rr (at2 X (i 0)) / (ms (at2 X (i 0)) + eps)))) : ℝ) : EReal) :=
  (val_main_v46_apply _ _ _ _ _ _ i).trans (mulR (r_v42 X D G Wg Wu Wd i) (r_v10 X i))

theorem r_cst_8 (i : S_.Idx) : val_main_cst_8 (F := Ideal)  i = (((1024) : ℝ) : EReal) :=
  (val_main_cst_8_apply i).trans thousand_f32

theorem r_v47 (i : S8192x1.Idx) : val_main_v47 (F := Ideal)  i = (((1024) : ℝ) : EReal) :=
  (val_main_v47_apply  i).trans (r_cst_8 _)

theorem r_v48 (i : S8192x1.Idx) : val_main_v48 (F := Ideal) (up X) (up D) (up G) (up Wg) (up Wu) (up Wd) i = ((((∑ k, at2 X (i 0) k * (dnv (at2 X (i 0)) (at2 D (i 0)) (at1 G) (at2 Wg) (at2 Wu) (at2 Wd) k * at1 G k)) * (-(1 / 2) * (rr (at2 X (i 0)) / (ms (at2 X (i 0)) + eps))) / 1024) : ℝ) : EReal) :=
  (val_main_v48_apply _ _ _ _ _ _ i).trans (hdivR (by norm_num) (r_v46 X D G Wg Wu Wd i) (r_v47 i))

theorem r_cst_9 (i : S_.Idx) : val_main_cst_9 (F := Ideal)  i = (((0) : ℝ) : EReal) :=
  (val_main_cst_9_apply i).trans zero_f32

theorem r_v49 (i : S8192.Idx) : val_main_v49 (F := Ideal) (up X) (up D) (up G) (up Wg) (up Wu) (up Wd) i = ((((∑ k, at2 X (i 0) k * (dnv (at2 X (i 0)) (at2 D (i 0)) (at1 G) (at2 Wg) (at2 Wu) (at2 Wd) k * at1 G k)) * (-(1 / 2) * (rr (at2 X (i 0)) / (ms (at2 X (i 0)) + eps))) / 1024) : ℝ) : EReal) :=
  (val_main_v49_apply _ _ _ _ _ _ i).trans ((sum0R (r_cst_9 _) fun k => r_v48 X D G Wg Wu Wd _).trans (congrArg _ (Fin.sum_univ_one _)))

theorem r_v50 (i : S8192x1024.Idx) : val_main_v50 (F := Ideal) (up X) (up D) (up G) (up Wg) (up Wu) (up Wd) i = ((((∑ k, at2 X (i 0) k * (dnv (at2 X (i 0)) (at2 D (i 0)) (at1 G) (at2 Wg) (at2 Wu) (at2 Wd) k * at1 G k)) * (-(1 / 2) * (rr (at2 X (i 0)) / (ms (at2 X (i 0)) + eps))) / 1024) : ℝ) : EReal) :=
  (val_main_v50_apply _ _ _ _ _ _ i).trans (r_v49 X D G Wg Wu Wd _)

theorem r_v51 (i : S8192x1024.Idx) : val_main_v51 (F := Ideal) (up X) (up D) (up G) (up Wg) (up Wu) (up Wd) i = (((at2 X (i 0) (i 1) * ((∑ k, at2 X (i 0) k * (dnv (at2 X (i 0)) (at2 D (i 0)) (at1 G) (at2 Wg) (at2 Wu) (at2 Wd) k * at1 G k)) * (-(1 / 2) * (rr (at2 X (i 0)) / (ms (at2 X (i 0)) + eps))) / 1024)) : ℝ) : EReal) :=
  (val_main_v51_apply _ _ _ _ _ _ i).trans (mulR (up2 X i) (r_v50 X D G Wg Wu Wd i))

theorem r_v52 (i : S8192x1024.Idx) : val_main_v52 (F := Ideal) (up X) (up D) (up G) (up Wg) (up Wu) (up Wd) i = (((at2 D (i 0) (i 1) + dnv (at2 X (i 0)) (at2 D (i 0)) (at1 G) (at2 Wg) (at2 Wu) (at2 Wd) (i 1) * at1 G (i 1) * rr (at2 X (i 0)) + at2 X (i 0) (i 1) * ((∑ k, at2 X (i 0) k * (dnv (at2 X (i 0)) (at2 D (i 0)) (at1 G) (at2 Wg) (at2 Wu) (at2 Wd) k * at1 G k)) * (-(1 / 2) * (rr (at2 X (i 0)) / (ms (at2 X (i 0)) + eps))) / 1024)) : ℝ) : EReal) :=
  (val_main_v52_apply _ _ _ _ _ _ i).trans (addR (r_v45 X D G Wg Wu Wd i) (r_v51 X D G Wg Wu Wd i))

theorem r_v53 (i : S8192x1024.Idx) : val_main_v53 (F := Ideal) (up X) (up D) (up G) (up Wg) (up Wu) (up Wd) i = ((((∑ k, at2 X (i 0) k * (dnv (at2 X (i 0)) (at2 D (i 0)) (at1 G) (at2 Wg) (at2 Wu) (at2 Wd) k * at1 G k)) * (-(1 / 2) * (rr (at2 X (i 0)) / (ms (at2 X (i 0)) + eps))) / 1024 * at2 X (i 0) (i 1)) : ℝ) : EReal) :=
  (val_main_v53_apply _ _ _ _ _ _ i).trans (mulR (r_v50 X D G Wg Wu Wd i) (up2 X i))

theorem r_v54 (i : S8192x1024.Idx) : val_main_v54 (F := Ideal) (up X) (up D) (up G) (up Wg) (up Wu) (up Wd) i = (((dhv (at2 X (i 0)) (at2 D (i 0)) (at1 G) (at2 Wg) (at2 Wu) (at2 Wd) (i 1)) : ℝ) : EReal) :=
  (val_main_v54_apply _ _ _ _ _ _ i).trans ((addR (r_v52 X D G Wg Wu Wd i) (r_v53 X D G Wg Wu Wd i)).trans (congrArg _ (dhv_vjp ..)))

theorem r_v67 (i : S8192x1024.Idx) : val_main_v67 (F := Ideal) (up X) (up G) i = (((nn (at2 X (i 0)) (at1 G) (i 1)) : ℝ) : EReal) :=
  (val_main_v67_apply _ _ i).trans (mulR ((val_main_v64_apply _ i).trans (mulR (up2 X i) ((val_main_v63_apply _ i).trans ((val_main_v62_apply _ _).trans (hrsqrtR (ms_eps_pos _) ((val_main_v61_apply _ _).trans (addR ((val_main_v59_apply _ _).trans (hdivR (by norm_num) ((val_main_v57_apply _ _).trans ((val_main_v56_apply _ _).trans (sum0R ((val_main_cst_10_apply _).trans zero_f32) fun k => ((val_main_v55_apply _ _).trans (mulR (up2 X _) (up2 X _)))))) ((val_main_v58_apply  _).trans ((val_main_cst_11_apply _).trans thousand_f32)))) ((val_main_v60_apply  _).trans ((val_main_cst_12_apply _).trans eps_f32))))))))) ((val_main_v66_apply _ i).trans ((val_main_v65_apply _ _).trans (up1 G _))))

theorem r_v68 (i : S8192x2816.Idx) : val_main_v68 (F := Ideal) (up X) (up G) (up Wg) i = (((pr (at2 X (i 0)) (at1 G) (at2 Wg) (i 1)) : ℝ) : EReal) :=
  (val_main_v68_apply _ _ _ i).trans (dotR (fun k => r_v67 X G _) fun k => up2 Wg _)

theorem r_v69 (i : S8192x2816.Idx) : val_main_v69 (F := Ideal) (up X) (up G) (up Wu) i = (((pr (at2 X (i 0)) (at1 G) (at2 Wu) (i 1)) : ℝ) : EReal) :=
  (val_main_v69_apply _ _ _ i).trans (dotR (fun k => r_v67 X G _) fun k => up2 Wu _)

theorem r_v70_2 (i : S8192x2816.Idx) : val_main_v70_2 (F := Ideal) (up X) (up G) (up Wg) i = (((sig (pr (at2 X (i 0)) (at1 G) (at2 Wg) (i 1))) : ℝ) : EReal) :=
  (val_main_v70_2_apply _ _ _ i).trans (hdivR (one_add_exp_ne _) ((val_main_call2_v4_apply  i).trans ((val_main_call2_cst_0_apply _).trans one_f32)) ((val_main_call2_v3_apply _ _ _ i).trans (addR ((val_main_call2_v2_apply  i).trans ((val_main_call2_cst_apply _).trans one_f32)) ((val_main_call2_v1_apply _ _ _ i).trans (hexpR ((val_main_call2_v0_apply _ _ _ i).trans (hnegR (r_v68 X G Wg i))))))))

theorem r_v77 (i : S8192x2816.Idx) : val_main_v77 (F := Ideal) (up D) (up Wd) i = (((dsv (at2 D (i 0)) (at2 Wd) (i 1)) : ℝ) : EReal) :=
  (val_main_v77_apply _ _ i).trans (dotR (fun k => ((val_main_v76_apply _ _).trans (mulR ((val_main_v75_apply  _).trans ((val_main_cst_14_apply _).trans half_f32)) (up2 D _)))) fun k => up2 Wd _)

theorem r_v79 (i : S8192x2816.Idx) : val_main_v79 (F := Ideal) (up X) (up D) (up G) (up Wu) (up Wd) i = (((dsv (at2 D (i 0)) (at2 Wd) (i 1) * pr (at2 X (i 0)) (at1 G) (at2 Wu) (i 1)) : ℝ) : EReal) :=
  (val_main_v79_apply _ _ _ _ _ i).trans (mulR (r_v77 D Wd i) (r_v69 X G Wu i))

theorem r_v83 (i : S8192x2816.Idx) : val_main_v83 (F := Ideal) (up X) (up D) (up G) (up Wg) (up Wu) (up Wd) i = (((dav (at2 X (i 0)) (at2 D (i 0)) (at1 G) (at2 Wg) (at2 Wu) (at2 Wd) (i 1)) : ℝ) : EReal) :=
  (val_main_v83_apply _ _ _ _ _ _ i).trans ((val_main_v80_apply _ _ _ _ _ _ i).trans ((addR ((val_main_call3_v1_apply _ _ _ _ _ _ i).trans (mulR (r_v79 X D G Wu Wd i) (r_v70_2 X G Wg i))) ((val_main_call3_v2_apply _ _ _ _ _ _ i).trans (mulR ((val_main_call3_v0_apply _ _ _ _ _ _ i).trans (mulR (r_v68 X G Wg i) (r_v79 X D G Wu Wd i))) ((val_main_v70_1_apply _ _ _ i).trans (mulR (r_v70_2 X G Wg i) ((val_main_call2_v7_apply _ _ _ i).trans (subR ((val_main_call2_v6_apply  i).trans ((val_main_call2_cst_1_apply _).trans one_f32)) (r_v70_2 X G Wg i)))))))).trans (congrArg _ (dav_vjp ..))))

theorem r_v84 (i : S8192x2816.Idx) : val_main_v84 (F := Ideal) (up X) (up D) (up G) (up Wg) (up Wd) i = (((dbv (at2 X (i 0)) (at2 D (i 0)) (at1 G) (at2 Wg) (at2 Wd) (i 1)) : ℝ) : EReal) :=
  (val_main_v84_apply _ _ _ _ _ i).trans ((val_main_v78_apply _ _ _ _ _ i).trans ((mulR ((val_main_v70_0_apply _ _ _ i).trans (mulR (r_v68 X G Wg i) (r_v70_2 X G Wg i))) (r_v77 D Wd i)).trans (congrArg _ (dbv_vjp ..))))

theorem r_v85 (i : S8192x2816.Idx) : val_main_v85 (F := Ideal) (up X) (up G) (up Wg) (up Wu) i = (((sv (at2 X (i 0)) (at1 G) (at2 Wg) (at2 Wu) (i 1)) : ℝ) : EReal) :=
  (val_main_v85_apply _ _ _ _ i).trans ((val_main_v82_apply _ _ _ _ i).trans (mulR ((val_main_v81_apply _ _ _ i).trans (mulR (r_v68 X G Wg i) ((val_main_call4_v5_apply _ _ _ i).trans (hdivR (one_add_exp_ne _) ((val_main_call4_v4_apply  i).trans ((val_main_call4_cst_0_apply _).trans one_f32)) ((val_main_call4_v3_apply _ _ _ i).trans (addR ((val_main_call4_v2_apply  i).trans ((val_main_call4_cst_apply _).trans one_f32)) ((val_main_call4_v1_apply _ _ _ i).trans (hexpR ((val_main_call4_v0_apply _ _ _ i).trans (hnegR (r_v68 X G Wg i))))))))))) (r_v69 X G Wu i)))

theorem r_v86 (i : S8192x1024.Idx) : val_main_v86 (F := Ideal) (up X) (up G) i = (((nn (at2 X (i 0)) (at1 G) (i 1)) : ℝ) : EReal) :=
  (val_main_v86_apply _ _ i).trans (r_v67 X G i)

theorem r_v87 (i : S1x1024.Idx) : val_main_v87 (F := Ideal) (up X) (up D) (up G) (up Wg) (up Wu) (up Wd) i = (((∑ t, xh (at2 X t) (i 1) * dnv (at2 X t) (at2 D t) (at1 G) (at2 Wg) (at2 Wu) (at2 Wd) (i 1)) : ℝ) : EReal) :=
  (val_main_v87_apply _ _ _ _ _ _ i).trans (r_v39 X D G Wg Wu Wd _)

end Cert.FfnRef

end
-- ==== Proof.FfnHost.lean ====
/- What the host computes before the kernel: the two products, the gain as a row, and the packed weights, read at an index. -/
module

public import proofs.«01_k».proof.Proof.FfnSweep
public import proofs.«01_k».proof.Proof.FfnRef
public import Idealize.ShloMosaic.Lib.StableHlo.Run

@[expose] public section

set_option maxRecDepth 16384

noncomputable section

namespace Cert.KernelIdeal.Own

open KernelIdeal KernelIdeal.Gen Idealize.ShloMosaic Idealize.ShloMosaic.TcCoe Idealize.SL.Sem Idealize.ShloMosaic.ValueIdx

variable (m : (ℓ : Loc nD τ sig) → Buf (Elt Ideal) ℓ) (c : Dev nD)

theorem V14 : (V m c main_v14 : S8192x2816.Idx → Ideal .bf16) =
    (truncf .bf16 (ReferenceIdeal.Read.val_main_v68 (F := Ideal) (m ((c : Thread nD τ).loc main_arg0)) (m ((c : Thread nD τ).loc main_arg2)) (m ((c : Thread nD τ).loc main_arg3))) bitsLt_bf16_f32 : FVec Ideal S8192x2816 .bf16) := by
  unfold V
  simp only [hostOps0, List.flatten_cons, List.flatten_nil, List.append_nil, List.cons_append, List.nil_append]
  after_results_simp <;> rfl

theorem V16 : (V m c main_v16 : S8192x2816.Idx → Ideal .bf16) =
    (truncf .bf16 (ReferenceIdeal.Read.val_main_v69 (F := Ideal) (m ((c : Thread nD τ).loc main_arg0)) (m ((c : Thread nD τ).loc main_arg2)) (m ((c : Thread nD τ).loc main_arg4))) bitsLt_bf16_f32 : FVec Ideal S8192x2816 .bf16) := by
  unfold V
  simp only [hostOps0, List.flatten_cons, List.flatten_nil, List.append_nil, List.cons_append, List.nil_append]
  after_results_simp <;> rfl

theorem V17 : (V m c main_v17 : S1x1024.Idx → Ideal .f32) =
    shapeCast S1x1024 (m ((c : Thread nD τ).loc main_arg2) : S1024.Idx → Ideal .f32) shapeCasts_S1024_S1x1024 := by
  unfold V
  simp only [hostOps0, List.flatten_cons, List.flatten_nil, List.append_nil, List.cons_append, List.nil_append]
  after_results_simp <;> rfl

theorem V26 : (V m c main_v26 : S4x2112x1024.Idx → Ideal .bf16) =
    (concatenate S4x2112x1024 1
      [⟨S4x704x1024, shapeCast S4x704x1024 (truncf .bf16 (transpose S2816x1024 [1, 0] (m ((c : Thread nD τ).loc main_arg3) : S1024x2816.Idx → Ideal .f32) transposes_S1024x2816_S2816x1024_1_0) bitsLt_bf16_f32) shapeCasts_S2816x1024_S4x704x1024⟩,
       ⟨S4x704x1024, shapeCast S4x704x1024 (truncf .bf16 (transpose S2816x1024 [1, 0] (m ((c : Thread nD τ).loc main_arg4) : S1024x2816.Idx → Ideal .f32) transposes_S1024x2816_S2816x1024_1_0) bitsLt_bf16_f32) shapeCasts_S2816x1024_S4x704x1024⟩,
       ⟨S4x704x1024, shapeCast S4x704x1024 (truncf .bf16 (m ((c : Thread nD τ).loc main_arg5) : S2816x1024.Idx → Ideal .f32) bitsLt_bf16_f32) shapeCasts_S2816x1024_S4x704x1024⟩] concatenates_S4x704x1024_S4x704x1024_S4x704x1024_S4x2112x1024_d1 : S4x2112x1024.Idx → Ideal .bf16) := by
  unfold V
  simp only [hostOps0, List.flatten_cons, List.flatten_nil, List.append_nil, List.cons_append, List.nil_append]
  after_results_simp <;> rfl

/-- A weight of 2816 rows cut into four slabs of 704. -/
theorem slab_apply {α : Type} (x : S2816x1024.Idx → α) (q : Fin 4) (r : Fin 704) (j : Fin 1024) (f : Fin 2816) (hf : (f : ℕ) = 704 * q.val + r.val) :
    shapeCast S4x704x1024 x shapeCasts_S2816x1024_S4x704x1024 (ix3 q r j) = x (ix2 f j) :=
  shapeCast_apply x _ _ _ (by
    rw [Shape.rowMajor_val_three, Shape.rowMajor_val_two]
    show f.val * 1024 + j.val = (q.val * 704 + r.val) * 1024 + j.val
    omega)

theorem concat_apply {α : Type} (x y z : S4x704x1024.Idx → α) (q : Fin 4) (r : Fin 704) (j : Fin 1024) (h : _) :
    (∀ r' : Fin 2112, r'.val = r.val → concatenate S4x2112x1024 1 [⟨S4x704x1024, x⟩, ⟨S4x704x1024, y⟩, ⟨S4x704x1024, z⟩] h (ix3 q r' j) = x (ix3 q r j)) ∧
    (∀ r' : Fin 2112, r'.val = 704 + r.val → concatenate S4x2112x1024 1 [⟨S4x704x1024, x⟩, ⟨S4x704x1024, y⟩, ⟨S4x704x1024, z⟩] h (ix3 q r' j) = y (ix3 q r j)) ∧
    (∀ r' : Fin 2112, r'.val = 1408 + r.val → concatenate S4x2112x1024 1 [⟨S4x704x1024, x⟩, ⟨S4x704x1024, y⟩, ⟨S4x704x1024, z⟩] h (ix3 q r' j) = z (ix3 q r j)) := by
  refine ⟨fun r' hr => ?_, fun r' hr => ?_, fun r' hr => ?_⟩
  · refine concatenate_apply_piece (1 : Fin S4x2112x1024.rank) _ h (ix3 q r' j) 0 (by simp) S4x704x1024 x rfl rfl 0 rfl (ix3 q r j) (fun b hb => ?_) ?_
    · match b with
      | ⟨0, _⟩ => rfl
      | ⟨1, _⟩ => exact absurd rfl hb
      | ⟨2, _⟩ => rfl
    · show 0 + r.val = r'.val; omega
  · refine concatenate_apply_piece (1 : Fin S4x2112x1024.rank) _ h (ix3 q r' j) 1 (by simp) S4x704x1024 y rfl rfl 704 rfl (ix3 q r j) (fun b hb => ?_) ?_
    · match b with
      | ⟨0, _⟩ => rfl
      | ⟨1, _⟩ => exact absurd rfl hb
      | ⟨2, _⟩ => rfl
    · show 704 + r.val = r'.val; omega
  · refine concatenate_apply_piece (1 : Fin S4x2112x1024.rank) _ h (ix3 q r' j) 2 (by simp) S4x704x1024 z rfl rfl 1408 rfl (ix3 q r j) (fun b hb => ?_) ?_
    · match b with
      | ⟨0, _⟩ => rfl
      | ⟨1, _⟩ => exact absurd rfl hb
      | ⟨2, _⟩ => rfl
    · show 1408 + r.val = r'.val; omega

theorem wA_apply (f : Fin 2816) (j : Fin 1024) :
    (wA m c : S2816x1024.Idx → EReal) (ix2 f j) = (m ((c : Thread nD τ).loc main_arg3) : S1024x2816.Idx → EReal) (ix2 j f) := by
  have hf : (f : ℕ) < 2816 := f.isLt
  unfold wA wG
  refine (congrFun (V26 m c) _).trans ?_
  refine ((concat_apply _ _ _ ⟨f.val / 704, by omega⟩ ⟨f.val % 704, by omega⟩ j _).1 _ (by show 0 + f.val % 704 = f.val % 704; omega)).trans ?_
  rw [slab_apply _ _ _ _ f (by show f.val = 704 * (f.val / 704) + f.val % 704; omega), truncf_apply]
  exact transpose_ix2_apply _ _ _ _

theorem wB_apply (f : Fin 2816) (j : Fin 1024) :
    (wB m c : S2816x1024.Idx → EReal) (ix2 f j) = (m ((c : Thread nD τ).loc main_arg4) : S1024x2816.Idx → EReal) (ix2 j f) := by
  have hf : (f : ℕ) < 2816 := f.isLt
  unfold wB wG
  refine (congrFun (V26 m c) _).trans ?_
  refine ((concat_apply _ _ _ ⟨f.val / 704, by omega⟩ ⟨f.val % 704, by omega⟩ j _).2.1 _ rfl).trans ?_
  rw [slab_apply _ _ _ _ f (by show f.val = 704 * (f.val / 704) + f.val % 704; omega), truncf_apply]
  exact transpose_ix2_apply _ _ _ _

theorem wD_apply (f : Fin 2816) (j : Fin 1024) :
    (wD m c : S2816x1024.Idx → EReal) (ix2 f j) = (m ((c : Thread nD τ).loc main_arg5) : S2816x1024.Idx → EReal) (ix2 f j) := by
  have hf : (f : ℕ) < 2816 := f.isLt
  unfold wD wG
  refine (congrFun (V26 m c) _).trans ?_
  refine ((concat_apply _ _ _ ⟨f.val / 704, by omega⟩ ⟨f.val % 704, by omega⟩ j _).2.2 _ rfl).trans ?_
  rw [slab_apply _ _ _ _ f (by show f.val = 704 * (f.val / 704) + f.val % 704; omega), truncf_apply]

theorem gain_apply (p : Fin 1) (j : Fin 1024) :
    (V m c main_v17 : S1x1024.Idx → EReal) (ix2 p j) = (m ((c : Thread nD τ).loc main_arg2) : S1024.Idx → EReal) (ix1 j) := by
  rw [V17]
  exact shapeCast_apply (s := S1024) _ _ _ _ (by
    rw [Shape.rowMajor_val_one, Shape.rowMajor_val_two]
    have hp : (p : ℕ) < 1 := p.isLt
    show j.val = p.val * 1024 + j.val
    omega)

end Cert.KernelIdeal.Own
-- ==== Proof.RealMat.lean ====
/- Matrices of finite elements: what each vector operation of a kernel's body does to the real numbers in them. -/
module

public import proofs.«01_k».proof.Proof.RealRow
public import Idealize.ShloMosaic.Lib.MatmulPlain
public import Idealize.ShloMosaic.Lib.ValueLayout
public import Idealize.ShloMosaic.Lib.ValueLayoutCasts

@[expose] public section

noncomputable section

namespace Cert.RealMat

open Idealize.ShloMosaic Idealize.ShloMosaic.ValueIdx RealRow
open scoped BigOperators

variable {a b c : ℕ} {φ ψ : FTy}

/-- The matrix `A` holds the real numbers `f`. -/
def R2 (A : FVec Ideal ⟨2, ![a, b]⟩ φ) (f : Fin a → Fin b → ℝ) : Prop := ∀ p q, A (ix2 p q) = ((f p q : ℝ) : EReal)

section
variable {A B : FVec Ideal ⟨2, ![a, b]⟩ φ} {f g : Fin a → Fin b → ℝ}

theorem R2.mul (hA : R2 A f) (hB : R2 B g) : R2 (mulf A B) (fun p q => f p q * g p q) := fun p q => by
  rw [mulf_apply, hA, hB]; exact (EReal.coe_mul _ _).symm
theorem R2.add (hA : R2 A f) (hB : R2 B g) : R2 (addf A B) (fun p q => f p q + g p q) := fun p q => by
  rw [addf_apply, hA, hB]; exact (EReal.coe_add _ _).symm
theorem R2.sub (hA : R2 A f) (hB : R2 B g) : R2 (subf A B) (fun p q => f p q - g p q) := fun p q => by
  rw [subf_apply, hA, hB]; exact (EReal.coe_sub _ _).symm
theorem R2.div (hA : R2 A f) (hB : R2 B g) (h0 : ∀ p q, g p q ≠ 0) : R2 (divf A B) (fun p q => f p q / g p q) := fun p q => by
  rw [divf_apply, hA, hB, div_real (h0 p q)]
theorem R2.rsqrt (hA : R2 A f) (h0 : ∀ p q, 0 < f p q) : R2 (Idealize.ShloMosaic.rsqrt A) (fun p q => (Real.sqrt (f p q))⁻¹) := fun p q => by
  rw [rsqrt_apply, hA, rsqrt_real (h0 p q)]
theorem R2.tanh (hA : R2 A f) : R2 (Idealize.ShloMosaic.tanh A) (fun p q => Real.tanh (f p q)) := fun p q => by
  rw [tanh_apply, hA, Ideal.tanh_coe]
theorem R2.trunc (hA : R2 A f) (h : ψ.bits < φ.bits) : R2 (truncf ψ A h) f := fun p q => by rw [truncf_apply, hA]
theorem R2.ext (hA : R2 A f) (h : φ.bits < ψ.bits) : R2 (extf ψ A h) f := fun p q => by rw [extf_apply, hA]
theorem R2.cast (hA : R2 A f) (h : (⟨2, ![a, b]⟩ : Shape).ShapeCasts ⟨2, ![a, b]⟩) : R2 (shapeCast ⟨2, ![a, b]⟩ A h) f := by
  rw [shapeCast_self]; exact hA
theorem R2.congr (hA : R2 A f) (h : ∀ p q, f p q = g p q) : R2 A g := fun p q => by rw [hA, h]
end

/-- A constant's word, spread over a matrix. -/
theorem R2.const {w : BitVec 32} {r : ℝ} (h : Ideal.ofBits .f32 w = (r : EReal)) :
    R2 (broadcast ⟨2, ![a, b]⟩ (Scalar.ofBits .f32 w : Ideal .f32)) (fun _ _ => r) := fun _ _ => h
theorem R2.zero : R2 (constant (F := Ideal) ⟨2, ![a, b]⟩ .f32 0x00000000#32) (fun _ _ => 0) := fun _ _ => zero_f32

/-- A row over the rows. -/
theorem R2.row {A : FVec Ideal ⟨2, ![1, b]⟩ φ} {f : Fin 1 → Fin b → ℝ} (hA : R2 A f) (h : (⟨2, ![1, b]⟩ : Shape).Broadcasts ⟨2, ![a, b]⟩) :
    R2 (broadcastTo ⟨2, ![a, b]⟩ A h) (fun _ q => f 0 q) := fun p q => by rw [broadcastTo_1b_ab_apply, hA]
/-- A column over the lanes. -/
theorem R2.col {A : FVec Ideal ⟨2, ![a, 1]⟩ φ} {f : Fin a → Fin 1 → ℝ} (hA : R2 A f) (h : (⟨2, ![a, 1]⟩ : Shape).Broadcasts ⟨2, ![a, b]⟩) :
    R2 (broadcastTo ⟨2, ![a, b]⟩ A h) (fun p _ => f p 0) := fun p q => by rw [bcol_apply, hA]
/-- The rows' sums, as a column. -/
theorem R2.rowSum {A : FVec Ideal ⟨2, ![a, b]⟩ φ} {f : Fin a → Fin b → ℝ} (hA : R2 A f) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) :
    R2 (shapeCast ⟨2, ![a, 1]⟩ (multiReduction .add [1] ⟨1, ![a]⟩ A acc h hφ hacc) hc) (fun p _ => ∑ k, f p k) := fun p q => by
  rw [shapeCast_a_a1_apply, rowSum_apply]; exact sum_real fun k => hA p k
/-- The columns' sums, as a row. -/
theorem R2.colSum {A : FVec Ideal ⟨2, ![a, b]⟩ φ} {f : Fin a → Fin b → ℝ} (hA : R2 A f) (acc : BitVec φ.bits)
    (h : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) :
    R2 (shapeCast ⟨2, ![1, b]⟩ (multiReduction .add [0] ⟨1, ![b]⟩ A acc h hφ hacc) hc) (fun _ q => ∑ k, f k q) := fun p q => by
  rw [shapeCast_a_1a_apply, colSum_apply]; exact sum_real fun k => hA k q

/-- A product of two matrices. -/
theorem R2.nn {A : FVec Ideal ⟨2, ![a, b]⟩ φ} {B : FVec Ideal ⟨2, ![b, c]⟩ ψ} {C : FVec Ideal ⟨2, ![a, c]⟩ .f32}
    {f : Fin a → Fin b → ℝ} {g : Fin b → Fin c → ℝ} (hA : R2 A f) (hB : R2 B g) (hC : R2 C (fun _ _ => 0)) (prec : Option ContractPrecision)
    (d : DotDims ⟨2, ![a, b]⟩ ⟨2, ![b, c]⟩ ⟨2, ![a, c]⟩) (hd : d = DotDims.plain a b c) :
    R2 (matmul d prec A B C) (fun p q => ∑ k, f p k * g k q) := fun p q => by
  subst hd
  refine (Ideal.matmul_plain_apply prec A B C p q).trans ?_
  rw [hC p q, EReal.coe_zero, zero_add]
  exact sum_real fun k => by rw [hA, hB, EReal.coe_mul]
/-- A product with the second matrix transposed. -/
theorem R2.nt {A : FVec Ideal ⟨2, ![a, b]⟩ φ} {B : FVec Ideal ⟨2, ![c, b]⟩ ψ} {C : FVec Ideal ⟨2, ![a, c]⟩ .f32}
    {f : Fin a → Fin b → ℝ} {g : Fin c → Fin b → ℝ} (hA : R2 A f) (hB : R2 B g) (hC : R2 C (fun _ _ => 0)) (prec : Option ContractPrecision)
    (d : DotDims ⟨2, ![a, b]⟩ ⟨2, ![c, b]⟩ ⟨2, ![a, c]⟩) (hd : d = DotDims.transposedRhs a b c) :
    R2 (matmul d prec A B C) (fun p q => ∑ k, f p k * g q k) := fun p q => by
  subst hd
  refine (Ideal.matmul_transposedRhs_apply prec A B C p q).trans ?_
  rw [hC p q, EReal.coe_zero, zero_add]
  exact sum_real fun k => by rw [hA, hB, EReal.coe_mul]

end Cert.RealMat

end
-- ==== Proof.FfnPay.lean ====
/- The kernel's body on finite blocks: each block it leaves holds the real numbers of the gradient (FfnReal). -/
module

public import proofs.«01_k».proof.Proof.FfnPoint
public import proofs.«01_k».proof.Proof.FfnReal
public import proofs.«01_k».proof.Proof.RealMat

@[expose] public section

noncomputable section

namespace Cert.KernelIdeal.Own

open KernelIdeal KernelIdeal.Gen Idealize.ShloMosaic Idealize.ShloMosaic.ValueIdx RealRow RealMat FfnReal
open scoped BigOperators

/-- The hidden units of the two chunks. -/
def eL (k : Fin 1536) : Fin 2816 := ⟨k.val, by omega⟩
def eR (k : Fin 1280) : Fin 2816 := ⟨1536 + k.val, by omega⟩

theorem sum_chunks (F : Fin 2816 → ℝ) : ∑ k, F (eL k) + ∑ k, F (eR k) = ∑ f, F f :=
  (Fin.sum_univ_add (M := ℝ) (a := 1536) (b := 1280) F).symm

theorem _root_.Cert.RealMat.R2.cL {x : FVec Ideal S256x2816 .bf16} {f : Fin 256 → Fin 2816 → ℝ} (h : R2 x f) : R2 (φ := .bf16) (cL (F := Ideal) x) (fun p k => f p (eL k)) := fun p k =>
  (congrArg x (funext fun a => Fin.ext (by
    match a with
    | ⟨0, _⟩ => show 0 + 1 * p.val = p.val; omega
    | ⟨1, _⟩ => show 0 + 1 * k.val = k.val; omega))).trans (h p (eL k))
theorem _root_.Cert.RealMat.R2.cR {x : FVec Ideal S256x2816 .bf16} {f : Fin 256 → Fin 2816 → ℝ} (h : R2 x f) : R2 (φ := .bf16) (cR (F := Ideal) x) (fun p k => f p (eR k)) := fun p k =>
  (congrArg x (funext fun a => Fin.ext (by
    match a with
    | ⟨0, _⟩ => show 0 + 1 * p.val = p.val; omega
    | ⟨1, _⟩ => show 1536 + 1 * k.val = 1536 + k.val; omega))).trans (h p (eR k))
theorem _root_.Cert.RealMat.R2.wL {x : FVec Ideal S2816x1024 .bf16} {f : Fin 2816 → Fin 1024 → ℝ} (h : R2 x f) : R2 (φ := .bf16) (wL (F := Ideal) x) (fun k j => f (eL k) j) := fun k j =>
  (congrArg x (funext fun a => Fin.ext (by
    match a with
    | ⟨0, _⟩ => show 0 + 1 * k.val = k.val; omega
    | ⟨1, _⟩ => show 0 + 1 * j.val = j.val; omega))).trans (h (eL k) j)
theorem _root_.Cert.RealMat.R2.wR {x : FVec Ideal S2816x1024 .bf16} {f : Fin 2816 → Fin 1024 → ℝ} (h : R2 x f) : R2 (φ := .bf16) (wR (F := Ideal) x) (fun k j => f (eR k) j) := fun k j =>
  (congrArg x (funext fun a => Fin.ext (by
    match a with
    | ⟨0, _⟩ => show 1536 + 1 * k.val = 1536 + k.val; omega
    | ⟨1, _⟩ => show 0 + 1 * j.val = j.val; omega))).trans (h (eR k) j)

/-! ## The rows -/

section
variable {x d : FVec Ideal S256x1024 .f32} {X D : Fin 256 → Fin 1024 → ℝ} {gv : FVec Ideal S1x1024 .f32} {G : Fin 1024 → ℝ}

theorem pay4R (hx : R2 x X) : R2 (k0_pay4 (F := Ideal) x) (fun p _ => rr (X p)) :=
  ((((hx.mul hx).rowSum _ _ _ _ _).div (R2.const thousand_f32) fun _ _ => by norm_num).add (R2.const eps_f32)).rsqrt fun p _ => ms_eps_pos (X p)

theorem pay5R (hx : R2 x X) : R2 (k0_pay5 (F := Ideal) x) (fun p j => xh (X p) j) := hx.mul ((pay4R hx).col _)

theorem pay6R (hg : R2 gv (fun _ j => G j)) : R2 (k0_pay6 (F := Ideal) gv) (fun _ j => G j) := hg.cast _

theorem pay7R (hx : R2 x X) (hg : R2 gv (fun _ j => G j)) : R2 (k0_pay7 (F := Ideal) x gv) (fun p j => nn (X p) G j) :=
  ((pay5R hx).mul ((pay6R hg).row _)).trunc _

theorem pay8R (hd : R2 d D) : R2 (k0_pay8 (F := Ideal) d) (fun p j => 1 / 2 * D p j) := ((R2.const half_f32).mul hd).trunc _

theorem pay9R : R2 (k0_pay9 (F := Ideal)) (fun _ _ => 0) := R2.const zero_f32
theorem pay3R : R2 (k0_pay3 (F := Ideal)) (fun _ _ => 0) := R2.const zero_f32

theorem pay2R {r : FVec Ideal S256x1 .f32} {h dn : FVec Ideal S256x1024 .f32} {R : Fin 256 → ℝ} {H DN : Fin 256 → Fin 1024 → ℝ}
    (hr : R2 r (fun p _ => R p)) (hh : R2 h H) (hg : R2 gv (fun _ j => G j)) (hd : R2 d D) (hn : R2 dn DN) :
    R2 (k0_pay2 (F := Ideal) r h gv d dn) (fun p j => D p j + R p * (DN p j * G j - H p j * ((∑ k, DN p k * G k * H p k) / 1024))) :=
  hd.add ((hr.col _).mul ((hn.mul (hg.row _)).sub
    (hh.mul (((((hn.mul (hg.row _)).mul hh).rowSum _ _ _ _ _).div (R2.const thousand_f32) fun _ _ => by norm_num).col _))))

theorem pay1R {h dn : FVec Ideal S256x1024 .f32} {old : FVec Ideal S1x1024 .f32} {H DN : Fin 256 → Fin 1024 → ℝ} {O : Fin 1024 → ℝ}
    (hh : R2 h H) (hn : R2 dn DN) (ho : R2 old (fun _ j => O j)) :
    R2 (k0_pay1 (F := Ideal) h dn old) (fun _ j => O j + ∑ p, DN p j * H p j) :=
  (ho.cast _).add ((hn.mul hh).colSum _ _ _ _ _)
end

/-! ## One chunk of 1536 hidden units -/

section
variable {df : FVec Ideal S256x1024 .bf16} {E : Fin 256 → Fin 1024 → ℝ} {va : FVec Ideal S256x1536 .f32} {vb : FVec Ideal S256x1536 .f32} {A B : Fin 256 → Fin 1536 → ℝ}
  {wd wg wu : FVec Ideal S1536x1024 .bf16} {WD WG WU : Fin 1536 → Fin 1024 → ℝ}

theorem pay10R {v : FVec Ideal S256x1536 .bf16} (h : R2 v A) : R2 (k0_pay10 (F := Ideal) v) A := (h.cast _).ext _
theorem pay11R {v : FVec Ideal S256x1536 .bf16} (h : R2 v A) : R2 (k0_pay11 (F := Ideal) v) A := (h.cast _).ext _

theorem pay12R (hd : R2 df E) (hw : R2 wd WD) : R2 (k0_pay12 (F := Ideal) df wd) (fun p f => ∑ k, E p k * WD f k) :=
  hd.nt hw R2.zero _ _ rfl

theorem pay13R (ha : R2 va A) : R2 (k0_pay13 (F := Ideal) va) (fun p f => RealRow.sig (A p f)) :=
  (((R2.const half_f32).mul ((R2.const half_f32).mul ha).tanh).add (R2.const half_f32)).congr fun p f => sig_tanh _

theorem pay14R (ha : R2 va A) : R2 (k0_pay14 (F := Ideal) va) (fun p f => A p f * RealRow.sig (A p f)) := ha.mul (pay13R ha)

theorem pay15R (ha : R2 va A) (hb : R2 vb B) : R2 (k0_pay15 (F := Ideal) va vb) (fun p f => A p f * RealRow.sig (A p f) * B p f) :=
  ((pay14R ha).mul hb).trunc _

theorem pay16R (hd : R2 df E) (ha : R2 va A) (hb : R2 vb B) (hw : R2 wd WD) :
    R2 (k0_pay16 (F := Ideal) df va vb wd) (fun p f => (∑ k, E p k * WD f k) * B p f * (RealRow.sig (A p f) * (1 + A p f * (1 - RealRow.sig (A p f))))) :=
  (((pay12R hd hw).mul hb).mul ((pay13R ha).mul ((R2.const one_f32).add (ha.mul ((R2.const one_f32).sub (pay13R ha)))))).trunc _

theorem pay17R (hd : R2 df E) (ha : R2 va A) (hw : R2 wd WD) :
    R2 (k0_pay17 (F := Ideal) df va wd) (fun p f => (∑ k, E p k * WD f k) * (A p f * RealRow.sig (A p f))) :=
  ((pay12R hd hw).mul (pay14R ha)).trunc _

theorem pay18R {o : FVec Ideal S256x1024 .f32} {O : Fin 256 → Fin 1024 → ℝ} (ho : R2 o O) (hd : R2 df E) (ha : R2 va A) (hb : R2 vb B) (hw : R2 wd WD)
    (hg : R2 wg WG) (hu : R2 wu WU) :
    R2 (k0_pay18 (F := Ideal) df o va vb wd wg wu) (fun p j => O p j
      + ∑ f, (∑ k, E p k * WD f k) * B p f * (RealRow.sig (A p f) * (1 + A p f * (1 - RealRow.sig (A p f)))) * WG f j
      + ∑ f, (∑ k, E p k * WD f k) * (A p f * RealRow.sig (A p f)) * WU f j) :=
  (ho.add ((pay16R hd ha hb hw).nn hg R2.zero _ _ rfl)).add ((pay17R hd ha hw).nn hu R2.zero _ _ rfl)
end

/-! ## One chunk of 1280 hidden units -/

section
variable {df : FVec Ideal S256x1024 .bf16} {E : Fin 256 → Fin 1024 → ℝ} {va : FVec Ideal S256x1280 .f32} {vb : FVec Ideal S256x1280 .bf16} {A B : Fin 256 → Fin 1280 → ℝ}
  {wd wg wu : FVec Ideal S1280x1024 .bf16} {WD WG WU : Fin 1280 → Fin 1024 → ℝ}

theorem pay19R {v : FVec Ideal S256x1280 .bf16} (h : R2 v A) : R2 (k0_pay19 (F := Ideal) v) A := (h.cast _).ext _
theorem pay20R {v : FVec Ideal S256x1280 .bf16} (h : R2 v A) : R2 (k0_pay20 (F := Ideal) v) A := (h.cast _).ext _

theorem pay21R (hd : R2 df E) (hw : R2 wd WD) : R2 (k0_pay21 (F := Ideal) df wd) (fun p f => ∑ k, E p k * WD f k) :=
  hd.nt hw R2.zero _ _ rfl

theorem pay22R (ha : R2 va A) : R2 (k0_pay22 (F := Ideal) va) (fun p f => RealRow.sig (A p f)) :=
  (((R2.const half_f32).mul ((R2.const half_f32).mul ha).tanh).add (R2.const half_f32)).congr fun p f => sig_tanh _

theorem pay23R (ha : R2 va A) : R2 (k0_pay23 (F := Ideal) va) (fun p f => A p f * RealRow.sig (A p f)) := ha.mul (pay22R ha)

theorem pay24R (ha : R2 va A) (hb : R2 vb B) : R2 (k0_pay24 (F := Ideal) va vb) (fun p f => A p f * RealRow.sig (A p f) * B p f) :=
  ((pay23R ha).mul (pay20R hb)).trunc _

theorem pay25R (hd : R2 df E) (ha : R2 va A) (hb : R2 vb B) (hw : R2 wd WD) :
    R2 (k0_pay25 (F := Ideal) df va vb wd) (fun p f => (∑ k, E p k * WD f k) * B p f * (RealRow.sig (A p f) * (1 + A p f * (1 - RealRow.sig (A p f))))) :=
  (((pay21R hd hw).mul (pay20R hb)).mul ((pay22R ha).mul ((R2.const one_f32).add (ha.mul ((R2.const one_f32).sub (pay22R ha)))))).trunc _

theorem pay26R (hd : R2 df E) (ha : R2 va A) (hw : R2 wd WD) :
    R2 (k0_pay26 (F := Ideal) df va wd) (fun p f => (∑ k, E p k * WD f k) * (A p f * RealRow.sig (A p f))) :=
  ((pay21R hd hw).mul (pay23R ha)).trunc _

theorem pay27R {o : FVec Ideal S256x1024 .f32} {O : Fin 256 → Fin 1024 → ℝ} (ho : R2 o O) (hd : R2 df E) (ha : R2 va A) (hb : R2 vb B) (hw : R2 wd WD)
    (hg : R2 wg WG) (hu : R2 wu WU) :
    R2 (k0_pay27 (F := Ideal) df o va vb wd wg wu) (fun p j => O p j
      + ∑ f, (∑ k, E p k * WD f k) * B p f * (RealRow.sig (A p f) * (1 + A p f * (1 - RealRow.sig (A p f)))) * WG f j
      + ∑ f, (∑ k, E p k * WD f k) * (A p f * RealRow.sig (A p f)) * WU f j) :=
  (ho.add ((pay25R hd ha hb hw).nn hg R2.zero _ _ rfl)).add ((pay26R hd ha hw).nn hu R2.zero _ _ rfl)
end

/-! ## The blocks -/

section
variable {x0 x1 : FVec Ideal S256x1024 .f32} {x2 x3 : FVec Ideal S256x2816 .bf16} {x4 : FVec Ideal S1x1024 .f32} {w0 w1 w2 : FVec Ideal S2816x1024 .bf16}
  {X D : Fin 256 → Fin 1024 → ℝ} {G : Fin 1024 → ℝ} {Wg Wu : Fin 1024 → Fin 2816 → ℝ} {Wd : Fin 2816 → Fin 1024 → ℝ}
  (h0 : R2 x0 X) (h1 : R2 x1 D) (h2 : R2 x2 fun p f => pr (X p) G Wg f) (h3 : R2 x3 fun p f => pr (X p) G Wu f) (h4 : R2 x4 fun _ j => G j)
  (hg : R2 w0 fun f j => Wg j f) (hu : R2 w1 fun f j => Wu j f) (hd : R2 w2 Wd)

include h1 h2 h3 hg hu hd in
theorem ptDnR : R2 (φ := .f32) (ptDn (F := Ideal) x1 x2 x3 w0 w1 w2) (fun p j => dnv (X p) (D p) G Wg Wu Wd j) :=
  (pay27R (pay18R pay9R (pay8R h1) (pay10R h2.cL) (pay11R h3.cL) hd.wL hg.wL hu.wL) (pay8R h1) (pay19R h2.cR) h3.cR hd.wR hg.wR hu.wR).congr fun p j => by
    show 0 + ∑ k, dav (X p) (D p) G Wg Wu Wd (eL k) * Wg j (eL k) + ∑ k, dbv (X p) (D p) G Wg Wd (eL k) * Wu j (eL k)
      + ∑ k, dav (X p) (D p) G Wg Wu Wd (eR k) * Wg j (eR k) + ∑ k, dbv (X p) (D p) G Wg Wd (eR k) * Wu j (eR k) = _
    unfold dnv
    rw [← sum_chunks fun f => dav (X p) (D p) G Wg Wu Wd f * Wg j f, ← sum_chunks fun f => dbv (X p) (D p) G Wg Wd f * Wu j f]
    ring

include h0 h1 h2 h3 h4 hg hu hd in
theorem pt5R : R2 (φ := .f32) (pt5 (F := Ideal) x0 x1 x2 x3 x4 w0 w1 w2) (fun p j => dhv (X p) (D p) G Wg Wu Wd j) :=
  pay2R (pay4R h0) (pay5R h0) (pay6R h4) h1 (ptDnR h1 h2 h3 hg hu hd)

include h0 h1 h2 h3 hg hu hd in
theorem pt10R {old : FVec Ideal S1x1024 .f32} {O : Fin 1024 → ℝ} (ho : R2 old fun _ j => O j) :
    R2 (φ := .f32) (pt10 (F := Ideal) x0 x1 x2 x3 old w0 w1 w2) (fun _ j => O j + ∑ p, dnv (X p) (D p) G Wg Wu Wd j * xh (X p) j) :=
  pay1R (pay5R h0) (ptDnR h1 h2 h3 hg hu hd) ho

/-- Two stores, one per chunk, leave the block that both are chunks of. -/
theorem two_chunks {l : FVec Ideal S256x1536 .bf16} {r : FVec Ideal S256x1280 .bf16} {f : Fin 256 → Fin 2816 → ℝ}
    (hl : R2 l fun p k => f p (eL k)) (hr : R2 r fun p k => f p (eR k)) :
    R2 (φ := .bf16) (View.canon (Val := Elt Ideal) (s := S256x2816) (e := .bf16) [⟨Rect.unit ![0, 1536] ![256, 1280] inb_S256x2816_S256x1280_0_1536, r⟩,
      ⟨Rect.unit ![0, 0] ![256, 1536] inb_S256x2816_S256x1536_0_0, l⟩]) f := fun p q => by
  refine View.canon_apply_of_pieces (Val := Elt Ideal) (e := .bf16) (S := S256x2816) (fun y => ((f (y 0) (y 1) : ℝ) : EReal)) _ ?_ (ix2 p q) ?_
  · intro pc hp x
    simp only [List.mem_cons, List.not_mem_nil, or_false] at hp
    rcases hp with rfl | rfl
    · obtain ⟨i, j, rfl⟩ : ∃ (i : Fin 256) (j : Fin 1280), x = ix2 i j := ⟨x 0, x 1, eq_ix2 x⟩
      refine (hr i j).trans (congrArg (fun v : ℝ => (v : EReal)) ?_)
      exact congrArg₂ f (Fin.ext (show i.val = 0 + 1 * i.val by omega)) (Fin.ext (show 1536 + j.val = 1536 + 1 * j.val by omega))
    · obtain ⟨i, j, rfl⟩ : ∃ (i : Fin 256) (j : Fin 1536), x = ix2 i j := ⟨x 0, x 1, eq_ix2 x⟩
      refine (hl i j).trans (congrArg (fun v : ℝ => (v : EReal)) ?_)
      exact congrArg₂ f (Fin.ext (show i.val = 0 + 1 * i.val by omega)) (Fin.ext (show j.val = 0 + 1 * j.val by omega))
  · have hp := p.isLt
    have hq := q.isLt
    by_cases h : q.val < 1536
    · refine ⟨_, List.mem_cons_of_mem _ (List.mem_cons_self ..), ?_⟩
      rw [Rect.mem_set_unit]
      intro a
      match a with
      | ⟨0, _⟩ => show 0 ≤ p.val ∧ p.val < 0 + 256; omega
      | ⟨1, _⟩ => show 0 ≤ q.val ∧ q.val < 0 + 1536; omega
    · refine ⟨_, List.mem_cons_self .., ?_⟩
      rw [Rect.mem_set_unit]
      intro a
      match a with
      | ⟨0, _⟩ => show 0 ≤ p.val ∧ p.val < 0 + 256; omega
      | ⟨1, _⟩ => show 1536 ≤ q.val ∧ q.val < 1536 + 1280; omega

include h1 h2 h3 hd in
theorem pt6R : R2 (φ := .bf16) (pt6 (F := Ideal) x1 x2 x3 w2) (fun p f => dav (X p) (D p) G Wg Wu Wd f) :=
  two_chunks (pay16R (pay8R h1) (pay10R h2.cL) (pay11R h3.cL) hd.wL) (pay25R (pay8R h1) (pay19R h2.cR) h3.cR hd.wR)

include h1 h2 hd in
theorem pt7R : R2 (φ := .bf16) (pt7 (F := Ideal) x1 x2 w2) (fun p f => dbv (X p) (D p) G Wg Wd f) :=
  two_chunks (pay17R (pay8R h1) (pay10R h2.cL) hd.wL) (pay26R (pay8R h1) (pay19R h2.cR) hd.wR)

include h2 h3 in
theorem pt8R : R2 (φ := .bf16) (pt8 (F := Ideal) x2 x3) (fun p f => sv (X p) G Wg Wu f) :=
  two_chunks (pay15R (pay10R h2.cL) (pay11R h3.cL)) (pay24R (pay19R h2.cR) h3.cR)
end

end Cert.KernelIdeal.Own
-- ==== Proof.FfnValue.lean ====
/- The arrays the kernel leaves, at finite arguments, are the reference's: block by block from the point's values
   (FfnPay), and for the gain's gradient the sum over all blocks. -/
module

public import proofs.«01_k».proof.Proof.FfnHost
public import proofs.«01_k».proof.Proof.FfnPay

@[expose] public section

noncomputable section

namespace Cert.KernelIdeal.Own

open KernelIdeal KernelIdeal.Gen Idealize.ShloMosaic Idealize.ShloMosaic.TcCoe Idealize.SL.Sem Idealize.ShloMosaic.ValueIdx RealMat FfnReal FfnRef
open scoped BigOperators

/-- Row `p` of block `t`. -/
def rowAt (t : Fin cfg0.N) (p : Fin 256) : Fin 8192 :=
  ⟨256 * t.val + p.val, by have := t.isLt; have hN : cfg0.N = 32 := N_0; omega⟩

/-- The block a row lies in. -/
def blkOf (q : Fin 8192) : Fin cfg0.N := ⟨q.val / 256, by have hN : cfg0.N = 32 := N_0; omega⟩
def rowIn (q : Fin 8192) : Fin 256 := ⟨q.val % 256, by omega⟩
theorem rowAt_eq (q : Fin 8192) : rowAt (blkOf q) (rowIn q) = q := Fin.ext (show 256 * (q.val / 256) + q.val % 256 = q.val by omega)

/-- A sum over all rows is the sum over blocks of the sums over their rows. -/
theorem sum_rows (f : ℕ → ℝ) (N : ℕ) : ∑ t ∈ Finset.range N, ∑ p : Fin 256, f (256 * t + p.val) = ∑ q ∈ Finset.range (256 * N), f q := by
  induction N with
  | zero => rfl
  | succ N ih =>
    rw [Finset.sum_range_succ, ih, show 256 * (N + 1) = 256 * N + 256 by ring, Finset.sum_range_add, Fin.sum_univ_eq_sum_range fun k => f (256 * N + k)]

variable (m : (ℓ : Loc nD τ sig) → Buf (Elt Ideal) ℓ) (c : Dev nD)
variable {X D : S8192x1024.Idx → ℝ} {G : S1024.Idx → ℝ} {Wg Wu : S1024x2816.Idx → ℝ} {Wd : S2816x1024.Idx → ℝ}
  (e0 : (m ((c : Thread nD τ).loc main_arg0) : S8192x1024.Idx → EReal) = up X) (e1 : (m ((c : Thread nD τ).loc main_arg1) : S8192x1024.Idx → EReal) = up D)
  (e2 : (m ((c : Thread nD τ).loc main_arg2) : S1024.Idx → EReal) = up G)
  (e3 : (m ((c : Thread nD τ).loc main_arg3) : S1024x2816.Idx → EReal) = up Wg) (e4 : (m ((c : Thread nD τ).loc main_arg4) : S1024x2816.Idx → EReal) = up Wu)
  (e5 : (m ((c : Thread nD τ).loc main_arg5) : S2816x1024.Idx → EReal) = up Wd)

include e0 in
theorem rows0 (t : Fin cfg0.N) : R2 (φ := .f32) (iblk m c 0 t : Vec Ideal S256x1024 .f32) (fun p => at2 X (rowAt t p)) := fun p j =>
  (blk0 m c t p j (rowAt t p) rfl).trans (congrFun ((V_main_arg0 m c).trans e0) _)
include e1 in
theorem rows1 (t : Fin cfg0.N) : R2 (φ := .f32) (iblk m c 1 t : Vec Ideal S256x1024 .f32) (fun p => at2 D (rowAt t p)) := fun p j =>
  (blk1 m c t p j (rowAt t p) rfl).trans (congrFun ((V_main_arg1 m c).trans e1) _)
include e0 e2 e3 in
theorem rows2 (t : Fin cfg0.N) : R2 (φ := .bf16) (iblk m c 2 t : Vec Ideal S256x2816 .bf16) (fun p f => pr (at2 X (rowAt t p)) (at1 G) (at2 Wg) f) := fun p j => by
  refine (blk2 m c t p j (rowAt t p) rfl).trans ?_
  rw [V14, e0, e2, e3]
  exact r_v68 X G Wg _
include e0 e2 e4 in
theorem rows3 (t : Fin cfg0.N) : R2 (φ := .bf16) (iblk m c 3 t : Vec Ideal S256x2816 .bf16) (fun p f => pr (at2 X (rowAt t p)) (at1 G) (at2 Wu) f) := fun p j => by
  refine (blk3 m c t p j (rowAt t p) rfl).trans ?_
  rw [V16, e0, e2, e4]
  exact r_v69 X G Wu _
include e2 in
theorem rows4 (t : Fin cfg0.N) : R2 (φ := .f32) (iblk m c 4 t : Vec Ideal S1x1024 .f32) (fun _ j => at1 G j) := fun p j =>
  (blk4 m c t p j).trans ((gain_apply m c p j).trans (congrFun e2 _))
include e3 in
theorem heldA : R2 (φ := .bf16) (wA m c : Vec Ideal S2816x1024 .bf16) (fun f j => at2 Wg j f) := fun f j => (wA_apply m c f j).trans (congrFun e3 _)
include e4 in
theorem heldB : R2 (φ := .bf16) (wB m c : Vec Ideal S2816x1024 .bf16) (fun f j => at2 Wu j f) := fun f j => (wB_apply m c f j).trans (congrFun e4 _)
include e5 in
theorem heldD : R2 (φ := .bf16) (wD m c : Vec Ideal S2816x1024 .bf16) (at2 Wd) := fun f j => (wD_apply m c f j).trans (congrFun e5 _)

include e0 e1 e2 e3 e4 e5 in
theorem val5 : ((dats m 0 c).arrAt 5 cfg0.N : S8192x1024.Idx → EReal) = ReferenceIdeal.Read.val_main_v54 (F := Ideal) (up X) (up D) (up G) (up Wg) (up Wu) (up Wd) := by
  have key : ∀ (q : Fin 8192) (j : Fin 1024), ((dats m 0 c).arrAt 5 cfg0.N : S8192x1024.Idx → EReal) (ix2 q j) = ReferenceIdeal.Read.val_main_v54 (F := Ideal) (up X) (up D) (up G) (up Wg) (up Wu) (up Wd) (ix2 q j) := fun q j => by
    have hq : (q : ℕ) = 256 * (blkOf q).val + (rowIn q).val := (congrArg Fin.val (rowAt_eq q)).symm
    refine (arr5 m c (blkOf q) (rowIn q) j q hq).trans ((pt5R (rows0 m c e0 _) (rows1 m c e1 _) (rows2 m c e0 e2 e3 _) (rows3 m c e0 e2 e4 _) (rows4 m c e2 _) (heldA m c e3) (heldB m c e4) (heldD m c e5) (rowIn q) j).trans ?_)
    dsimp only
    rw [rowAt_eq]
    exact (r_v54 X D G Wg Wu Wd (ix2 q j)).symm
  refine funext fun (i : S8192x1024.Idx) => ?_
  rw [eq_ix2 i]
  exact key _ _

include e0 e1 e2 e3 e4 e5 in
theorem val6 : ((dats m 0 c).arrAt 6 cfg0.N : S8192x2816.Idx → EReal) = ReferenceIdeal.Read.val_main_v83 (F := Ideal) (up X) (up D) (up G) (up Wg) (up Wu) (up Wd) := by
  have key : ∀ (q : Fin 8192) (j : Fin 2816), ((dats m 0 c).arrAt 6 cfg0.N : S8192x2816.Idx → EReal) (ix2 q j) = ReferenceIdeal.Read.val_main_v83 (F := Ideal) (up X) (up D) (up G) (up Wg) (up Wu) (up Wd) (ix2 q j) := fun q j => by
    have hq : (q : ℕ) = 256 * (blkOf q).val + (rowIn q).val := (congrArg Fin.val (rowAt_eq q)).symm
    refine (arr6 m c (blkOf q) (rowIn q) j q hq).trans ((pt6R (rows1 m c e1 _) (rows2 m c e0 e2 e3 _) (rows3 m c e0 e2 e4 _) (heldD m c e5) (rowIn q) j).trans ?_)
    dsimp only
    rw [rowAt_eq]
    exact (r_v83 X D G Wg Wu Wd (ix2 q j)).symm
  refine funext fun (i : S8192x2816.Idx) => ?_
  rw [eq_ix2 i]
  exact key _ _

include e0 e1 e2 e3 e5 in
theorem val7 : ((dats m 0 c).arrAt 7 cfg0.N : S8192x2816.Idx → EReal) = ReferenceIdeal.Read.val_main_v84 (F := Ideal) (up X) (up D) (up G) (up Wg) (up Wd) := by
  have key : ∀ (q : Fin 8192) (j : Fin 2816), ((dats m 0 c).arrAt 7 cfg0.N : S8192x2816.Idx → EReal) (ix2 q j) = ReferenceIdeal.Read.val_main_v84 (F := Ideal) (up X) (up D) (up G) (up Wg) (up Wd) (ix2 q j) := fun q j => by
    have hq : (q : ℕ) = 256 * (blkOf q).val + (rowIn q).val := (congrArg Fin.val (rowAt_eq q)).symm
    refine (arr7 m c (blkOf q) (rowIn q) j q hq).trans ((pt7R (rows1 m c e1 _) (rows2 m c e0 e2 e3 _) (heldD m c e5) (rowIn q) j).trans ?_)
    dsimp only
    rw [rowAt_eq]
    exact (r_v84 X D G Wg Wd (ix2 q j)).symm
  refine funext fun (i : S8192x2816.Idx) => ?_
  rw [eq_ix2 i]
  exact key _ _

include e0 e2 e3 e4 in
theorem val8 : ((dats m 0 c).arrAt 8 cfg0.N : S8192x2816.Idx → EReal) = ReferenceIdeal.Read.val_main_v85 (F := Ideal) (up X) (up G) (up Wg) (up Wu) := by
  have key : ∀ (q : Fin 8192) (j : Fin 2816), ((dats m 0 c).arrAt 8 cfg0.N : S8192x2816.Idx → EReal) (ix2 q j) = ReferenceIdeal.Read.val_main_v85 (F := Ideal) (up X) (up G) (up Wg) (up Wu) (ix2 q j) := fun q j => by
    have hq : (q : ℕ) = 256 * (blkOf q).val + (rowIn q).val := (congrArg Fin.val (rowAt_eq q)).symm
    refine (arr8 m c (blkOf q) (rowIn q) j q hq).trans ((pt8R (rows2 m c e0 e2 e3 _) (rows3 m c e0 e2 e4 _) (rowIn q) j).trans ?_)
    dsimp only
    rw [rowAt_eq]
    exact (r_v85 X G Wg Wu (ix2 q j)).symm
  refine funext fun (i : S8192x2816.Idx) => ?_
  rw [eq_ix2 i]
  exact key _ _

include e0 e2 in
theorem val9 : ((dats m 0 c).arrAt 9 cfg0.N : S8192x1024.Idx → EReal) = ReferenceIdeal.Read.val_main_v86 (F := Ideal) (up X) (up G) := by
  have key : ∀ (q : Fin 8192) (j : Fin 1024), ((dats m 0 c).arrAt 9 cfg0.N : S8192x1024.Idx → EReal) (ix2 q j) = ReferenceIdeal.Read.val_main_v86 (F := Ideal) (up X) (up G) (ix2 q j) := fun q j => by
    have hq : (q : ℕ) = 256 * (blkOf q).val + (rowIn q).val := (congrArg Fin.val (rowAt_eq q)).symm
    refine (arr9 m c (blkOf q) (rowIn q) j q hq).trans ((pay7R (rows0 m c e0 _) (rows4 m c e2 _) (rowIn q) j).trans ?_)
    dsimp only
    rw [rowAt_eq]
    exact (r_v86 X G (ix2 q j)).symm
  refine funext fun (i : S8192x1024.Idx) => ?_
  rw [eq_ix2 i]
  exact key _ _

/-- The gain's gradient at one row. -/
def dgRow (X D : S8192x1024.Idx → ℝ) (G : S1024.Idx → ℝ) (Wg Wu : S1024x2816.Idx → ℝ) (Wd : S2816x1024.Idx → ℝ) (j : Fin 1024) (q : ℕ) : ℝ :=
  if h : q < 8192 then dnv (at2 X ⟨q, h⟩) (at2 D ⟨q, h⟩) (at1 G) (at2 Wg) (at2 Wu) (at2 Wd) j * xh (at2 X ⟨q, h⟩) j else 0

theorem dgRow_at (t : Fin cfg0.N) (p : Fin 256) (j : Fin 1024) :
    dgRow X D G Wg Wu Wd j (256 * t.val + p.val) = dnv (at2 X (rowAt t p)) (at2 D (rowAt t p)) (at1 G) (at2 Wg) (at2 Wu) (at2 Wd) j * xh (at2 X (rowAt t p)) j :=
  dif_pos (rowAt t p).isLt

include e0 e1 e2 e3 e4 e5 in
theorem dgs_sum : ∀ (n : ℕ) (h : n < cfg0.N), R2 (φ := .f32) (dgs m c n h : Vec Ideal S1x1024 .f32)
    (fun _ j => ∑ t ∈ Finset.range (n + 1), ∑ p : Fin 256, dgRow X D G Wg Wu Wd j (256 * t + p.val))
  | 0, h => (pt10R (rows0 m c e0 _) (rows1 m c e1 _) (rows2 m c e0 e2 e3 _) (rows3 m c e0 e2 e4 _) (heldA m c e3) (heldB m c e4) (heldD m c e5) pay3R).congr fun p j => by
      rw [Finset.sum_range_one, zero_add]
      exact Finset.sum_congr rfl fun p _ => (dgRow_at ⟨0, h⟩ p j).symm
  | n + 1, h => (pt10R (rows0 m c e0 _) (rows1 m c e1 _) (rows2 m c e0 e2 e3 _) (rows3 m c e0 e2 e4 _) (heldA m c e3) (heldB m c e4) (heldD m c e5) (dgs_sum n (Nat.lt_of_succ_lt h))).congr fun p j => by
      rw [Finset.sum_range_succ _ (n + 1)]
      exact congrArg _ (Finset.sum_congr rfl fun p _ => (dgRow_at ⟨n + 1, h⟩ p j).symm)

include e0 e1 e2 e3 e4 e5 in
theorem val10 : ((dats m 0 c).arrAt 10 cfg0.N : S1x1024.Idx → EReal) = ReferenceIdeal.Read.val_main_v87 (F := Ideal) (up X) (up D) (up G) (up Wg) (up Wu) (up Wd) := by
  have key : ∀ (q : Fin 1) (j : Fin 1024), (dgs m c 31 lt31 : S1x1024.Idx → EReal) (ix2 q j) = ReferenceIdeal.Read.val_main_v87 (F := Ideal) (up X) (up D) (up G) (up Wg) (up Wu) (up Wd) (ix2 q j) := fun q j => by
    refine (dgs_sum m c e0 e1 e2 e3 e4 e5 31 lt31 q j).trans ?_
    dsimp only
    rw [sum_rows, ← Fin.sum_univ_eq_sum_range]
    refine Eq.trans (congrArg _ (Finset.sum_congr rfl fun q _ => ?_)) (r_v87 X D G Wg Wu Wd (ix2 q j)).symm
    exact (dif_pos q.isLt).trans (mul_comm _ _)
  rw [arr10]
  refine funext fun (i : S1x1024.Idx) => ?_
  rw [eq_ix2 i]
  exact key _ _

end Cert.KernelIdeal.Own

end
-- ==== Proof.FfnWords.lean ====
/- The kernel at machine words: its program is the ideal reading's program, so one frame serves both. -/
module

public import proofs.«01_k».proof.Defs
public import proofs.«01_k».proof.Proof.Gen.Kernel
public import proofs.«01_k».proof.Proof.FfnFrame

@[expose] public section

noncomputable section

namespace Cert.Proof

open Idealize.ShloMosaic Idealize.SL.Sem
set_option maxHeartbeats 0

theorem bodies : Kernel.defs₀ (F := Bits) = KernelIdeal.defs₀ (F := Bits) := by
  unfold Kernel.defs₀ KernelIdeal.defs₀
  refine congrArg Defs.onTc ?_
  funext l a
  match l, a with
  | 0, (t, s) => rfl

theorem tables : (Kernel.defs (F := Bits)) = (KernelIdeal.defs (F := Bits)) :=
  congrArg (Pipeline.defs (KernelIdeal.pcfgs (F := Bits))) bodies

theorem mains : Kernel.main (F := Bits) = KernelIdeal.main (F := Bits) := rfl

theorem frame_kernel : Cert.quiescent_Kernel := by
  intro m ρ _
  rw [tables, mains]
  exact KernelIdeal.Own.frame (F := Bits) m ρ

end Cert.Proof

end
-- ==== Proof.FfnFinite.lean ====
/- The precondition: its printed facts, and what it says — every argument is an array of real numbers. -/
module

public import proofs.«01_k».proof.Defs
public import proofs.«01_k».proof.Proof.FfnReal
public import Idealize.ShloMosaic.Lib.ReduceAll
public import Idealize.ShloMosaic.Lib.Exec

@[expose] public section

noncomputable section

namespace Cert.FfnFinite

open Idealize.ShloMosaic Idealize.SL.Sem Pre_finite FfnReal

instance facts : Pre_finite.Facts where
  bcast_S_S8192x1024 := by decide
  reducesTo_S8192x1024_S_d0_1 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

/-- A value whose magnitude is below infinity is a real number. -/
theorem real_of_lt (x : Ideal .f32) (h : FloatOps.cmpf .olt (FloatOps.hostAbsf x) (FloatOps.ofBits (F := Ideal) .f32 0x7F800000#32) = 1#1) :
    ((EReal.toReal x : ℝ) : EReal) = x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine EReal.coe_toReal hlt.1.ne ?_
  rintro rfl
  simp at hlt

theorem sub0 : Subsingleton S_.Idx := ⟨fun a b => funext fun k => k.elim0⟩

theorem up_of_all {s : Shape} (x : FVec Ideal s .f32) (h : ∀ i, FloatOps.cmpf .olt (FloatOps.hostAbsf (x i)) (FloatOps.ofBits (F := Ideal) .f32 0x7F800000#32) = 1#1) :
    (x : s.Idx → EReal) = up fun i => EReal.toReal (x i) := funext fun i => (real_of_lt _ (h i)).symm

theorem finite_iff (x0 x1 : FVec Ideal S8192x1024 .f32) (x2 : FVec Ideal S1024 .f32) (x3 x4 : FVec Ideal S1024x2816 .f32) (x5 : FVec Ideal S2816x1024 .f32)
    (h : Pre_finite.fn (F := Ideal) x0 x1 x2 x3 x4 x5 = fun _ => 1#1) :
    ((((((x0 : S8192x1024.Idx → EReal) = up fun i => EReal.toReal (x0 i))
    ∧ (x1 : S8192x1024.Idx → EReal) = up fun i => EReal.toReal (x1 i))
    ∧ (x2 : S1024.Idx → EReal) = up fun i => EReal.toReal (x2 i))
    ∧ (x3 : S1024x2816.Idx → EReal) = up fun i => EReal.toReal (x3 i))
    ∧ (x4 : S1024x2816.Idx → EReal) = up fun i => EReal.toReal (x4 i))
    ∧ (x5 : S2816x1024.Idx → EReal) = up fun i => EReal.toReal (x5 i) := by
  have h0 := congrFun h (Shape.Idx.first facts.h_S_)
  haveI := sub0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨a0, a1⟩ := IntOp.andi_eq_one.1 h0
  exact ⟨⟨⟨⟨⟨up_of_all _ (Host.reduce_andi_all _ _ _ _ _ a0), up_of_all _ (Host.reduce_andi_all _ _ _ _ _ a1)⟩, up_of_all _ (Host.reduce_andi_all _ _ _ _ _ a2)⟩,
    up_of_all _ (Host.reduce_andi_all _ _ _ _ _ a3)⟩, up_of_all _ (Host.reduce_andi_all _ _ _ _ _ a4)⟩, up_of_all _ (Host.reduce_andi_all _ _ _ _ _ a5)⟩

end Cert.FfnFinite

end
-- ==== Proof.InRun.lean ====
/- The body's run in case A: the stores it leaves in every buffer, found by the executor. -/
module

public import proofs.«01_k».proof.Proof.Gen.KernelInIdeal.Frame.Runs
public import proofs.«01_k».proof.Proof.Own

@[expose] public section

set_option maxRecDepth 16384

noncomputable section

namespace Cert.KernelInIdeal.Own

open KernelInIdeal.Gen
open Idealize.ShloMosaic
open TcCoe Tactic
open Idealize.SL
open RA BI ProofMode Sem
open BIBase Laws
open Rounds Cert.Own
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S5120x1024 .bf16) (harg10 : arg10.IsWhole) (hc0 : cond0_0 i) (hc1 : cond0_1 i)
    (x0 : Vec F S512x1024 .f32) (x1 : Vec F S512x1024 .f32) (x2 : Vec F S512x3072 .bf16) (x3 : Vec F S512x2048 .bf16) (x4 : Vec F S1x1024 .f32) (fh0 : HbBuf0 (F := F) c hbM0_0) :
    Σ' (L5 : List (View.Piece (Elt F) S512x1024 .f32)), Σ' (L6 : List (View.Piece (Elt F) S512x1024 .bf16)), Σ' (L7 : List (View.Piece (Elt F) S1x1024 .f32)), { LS0 : List (View.Piece (Elt F) S5120x1024 .bf16) //
      ∀ (W : Waits sig Unit) (K : PUnit → sProp 𝕄),
        iprop(ow c arg1 x0 ∗ ow c arg2 x1 ∗ ow c arg3 x2 ∗ ow c arg4 x3 ∗ ow c arg5 x4 ∗ (∃ d, ow c arg7 d) ∗ (∃ d, ow c arg8 d) ∗ (∃ d, ow c arg9 d) ∗ (∃ d, ow c arg10 d) ∗ sv c 14 ∗ sv c 15 ∗ sv c 16 ∗ sv c 17 ∗ hbPt0 c hbM0_0 fh0 ∗ owes (c : Thread nD τ) 0 W
            ∗ (iprop(ow c arg1 x0 ∗ ow c arg2 x1 ∗ ow c arg3 x2 ∗ ow c arg4 x3 ∗ ow c arg5 x4 ∗ wr c arg7 L5 ∗ wr c arg8 L6 ∗ wr c arg9 L7 ∗ wr c arg10 LS0 ∗ sv c 14 ∗ sv c 15 ∗ sv c 16 ∗ sv c 17 ∗ hbPt0 c hbM0_0 fh0 ∗ (∃ W', owes (c : Thread nD τ) 0 W')) -∗ K ⟨⟩))
          ⊢ wp frame (wpE (defs₀ (F := F)) Variants.none c none) Set.univ (cc0_mix_b3 i arg1 harg1 arg2 harg2 arg3 harg3 arg4 harg4 arg5 harg5 (Memref.whole main_v3) (Memref.isWhole_whole _) arg7 harg7 arg8 harg8 arg9 harg9 arg10 harg10 cc0_scratch1) K } := by
  refine ⟨?_, ?_, ?_, ?_, fun W K => ?run⟩
  case run =>
    simp only [cc0_mix_b3_eq_skeleton]; unfold cc0_mix_b3_skel
    simp only [k0_part2_eq_skeleton, k0_part1_eq_skeleton]
    unfold ow owns wr
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    iframe Hq0 Hq1 Hq2 Hq3 Hh0
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HW

set_option maxHeartbeats 1000000 in
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S1x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S5120x1024 .bf16) (harg10 : arg10.IsWhole) (hc0 : ¬cond0_0 i) (hc1 : ¬cond0_1 i)
    (x0 : Vec F S512x1024 .f32) (x1 : Vec F S512x1024 .f32) (x2 : Vec F S512x3072 .bf16) (x3 : Vec F S512x2048 .bf16) (x4 : Vec F S1x1024 .f32) (xo7 : Vec F S1x1024 .f32) (xs0 : Vec F S5120x1024 .bf16) (fh0 : HbBuf0 (F := F) c hbM0_0) :
    Σ' (L5 : List (View.Piece (Elt F) S512x1024 .f32)), Σ' (L6 : List (View.Piece (Elt F) S512x1024 .bf16)), Σ' (L7 : List (View.Piece (Elt F) S1x1024 .f32)), { LS0 : List (View.Piece (Elt F) S5120x1024 .bf16) //
      ∀ (W : Waits sig Unit) (K : PUnit → sProp 𝕄),
        iprop(ow c arg1 x0 ∗ ow c arg2 x1 ∗ ow c arg3 x2 ∗ ow c arg4 x3 ∗ ow c arg5 x4 ∗ (∃ d, ow c arg7 d) ∗ (∃ d, ow c arg8 d) ∗ ow c arg9 xo7 ∗ ow c arg10 xs0 ∗ sv c 14 ∗ sv c 15 ∗ sv c 16 ∗ sv c 17 ∗ hbPt0 c hbM0_0 fh0 ∗ owes (c : Thread nD τ) 0 W
            ∗ (iprop(ow c arg1 x0 ∗ ow c arg2 x1 ∗ ow c arg3 x2 ∗ ow c arg4 x3 ∗ ow c arg5 x4 ∗ wr c arg7 L5 ∗ wr c arg8 L6 ∗ wr c arg9 L7 ∗ ow c arg10 xs0 ∗ sv c 14 ∗ sv c 15 ∗ sv c 16 ∗ sv c 17 ∗ hbPt0 c hbM0_0 fh0 ∗ (∃ W', owes (c : Thread nD τ) 0 W')) -∗ K ⟨⟩))
          ⊢ wp frame (wpE (defs₀ (F := F)) Variants.none c none) Set.univ (cc0_mix_b3 i arg1 harg1 arg2 harg2 arg3 harg3 arg4 harg4 arg5 harg5 (Memref.whole main_v3) (Memref.isWhole_whole _) arg7 harg7 arg8 harg8 arg9 harg9 arg10 harg10 cc0_scratch1) K } := by
  refine ⟨?_, ?_, ?_, [], fun W K => ?run⟩
  case run =>
    simp only [cc0_mix_b3_eq_skeleton]; unfold cc0_mix_b3_skel
    simp only [k0_part2_eq_skeleton]
    unfold ow owns wr
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf7; obtain rfl := harg10.eq_unread hfs0
    sl_exec (disch := first | sl_exact hc0 | sl_exact hc1)
    sl_step
    iapply Hk
    iframe Hq0 Hq1 Hq2 Hq3 Hh0
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    iexists _; iexact HW

end Cert.KernelInIdeal.Own

end
-- ==== Proof.InFrame.lean ====
/- The frame: covers of the cases' stores, what every buffer holds after each grid point, the body's obligation and the launch. -/
module

public import proofs.«01_k».proof.Proof.InRun
public import Idealize.ShloMosaic.Lib.Claim

@[expose] public section

set_option maxRecDepth 16384

noncomputable section

namespace Cert.KernelInIdeal.Own

open KernelInIdeal.Gen

open Idealize.ShloMosaic
open TcCoe Tactic
open Idealize.SL
open RA BI ProofMode Sem
open BIBase Laws
open Rounds Cert.Own
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The run at a grid point, in case A. -/
def rA (c : Dev nD) (t : Fin cfg0.N) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)

/-- The run at a grid point, in case B. -/
def rB (c : Dev nD) (t : Fin cfg0.N) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)

/-- What the buffers hold after a point. -/
abbrev Pt (F : FTy → Type) [FloatOps F] : Type := Vec F S512x1024 .f32 × Vec F S512x1024 .bf16 × Vec F S1x1024 .f32 × Vec F S5120x1024 .bf16

section
variable (c : Dev nD) (t : Fin cfg0.N) (hc0 : cond0_0 (grid0.coords t)) (hc1 : cond0_1 (grid0.coords t))
    (x0 : Vec F S512x1024 .f32) (x1 : Vec F S512x1024 .f32) (x2 : Vec F S512x3072 .bf16) (x3 : Vec F S512x2048 .bf16) (x4 : Vec F S1x1024 .f32) (fh0 : HbBuf0 (F := F) c hbM0_0)

theorem cover0_A_5 (y : S512x1024.Idx) :
    ∃ pc ∈ (rA c t hc0 hc1 x0 x1 x2 x3 x4 fh0).1, y ∈ pc.1.set :=
  View.cover_of_tiledL (rA c t hc0 hc1 x0 x1 x2 x3 x4 fh0).1 S512x1024.size (by sl_kernel_rfl) y

def out0_A_5 : Vec F S512x1024 .f32 :=
  VO0_5.read (Elt F) (VO0_5.writes (Elt F) VO0_5.junk (rA c t hc0 hc1 x0 x1 x2 x3 x4 fh0).1)

theorem cover0_A_6 (y : S512x1024.Idx) :
    ∃ pc ∈ (rA c t hc0 hc1 x0 x1 x2 x3 x4 fh0).2.1, y ∈ pc.1.set :=
  View.cover_of_tiledL (rA c t hc0 hc1 x0 x1 x2 x3 x4 fh0).2.1 S512x1024.size (by sl_kernel_rfl) y

def out0_A_6 : Vec F S512x1024 .bf16 :=
  VO0_6.read (Elt F) (VO0_6.writes (Elt F) VO0_6.junk (rA c t hc0 hc1 x0 x1 x2 x3 x4 fh0).2.1)

theorem cover0_A_7 (y : S1x1024.Idx) :
    ∃ pc ∈ (rA c t hc0 hc1 x0 x1 x2 x3 x4 fh0).2.2.1, y ∈ pc.1.set :=
  View.cover_of_tiledL (rA c t hc0 hc1 x0 x1 x2 x3 x4 fh0).2.2.1 S1x1024.size (by sl_kernel_rfl) y

def out0_A_7 : Vec F S1x1024 .f32 :=
  VO0_7.read (Elt F) (VO0_7.writes (Elt F) VO0_7.junk (rA c t hc0 hc1 x0 x1 x2 x3 x4 fh0).2.2.1)

theorem scover0_A_0 (y : S5120x1024.Idx) :
    ∃ pc ∈ (rA c t hc0 hc1 x0 x1 x2 x3 x4 fh0).2.2.2.1, y ∈ pc.1.set :=
  View.cover_of_tiledL (rA c t hc0 hc1 x0 x1 x2 x3 x4 fh0).2.2.2.1 S1280x1024.size (by sl_kernel_rfl) y

def sout0_A_0 : Vec F S5120x1024 .bf16 :=
  VS0_0.read (Elt F) (VS0_0.writes (Elt F) VS0_0.junk (rA c t hc0 hc1 x0 x1 x2 x3 x4 fh0).2.2.2.1)

/-- What the buffers hold after a point in case A. -/
def tA : Pt F := (out0_A_5 c t hc0 hc1 x0 x1 x2 x3 x4 fh0, out0_A_6 c t hc0 hc1 x0 x1 x2 x3 x4 fh0, out0_A_7 c t hc0 hc1 x0 x1 x2 x3 x4 fh0, sout0_A_0 c t hc0 hc1 x0 x1 x2 x3 x4 fh0)

end

section
variable (c : Dev nD) (t : Fin cfg0.N) (hc0 : ¬cond0_0 (grid0.coords t)) (hc1 : ¬cond0_1 (grid0.coords t))
    (x0 : Vec F S512x1024 .f32) (x1 : Vec F S512x1024 .f32) (x2 : Vec F S512x3072 .bf16) (x3 : Vec F S512x2048 .bf16) (x4 : Vec F S1x1024 .f32) (xo7 : Vec F S1x1024 .f32) (xs0 : Vec F S5120x1024 .bf16) (fh0 : HbBuf0 (F := F) c hbM0_0)

theorem cover0_B_5 (y : S512x1024.Idx) :
    ∃ pc ∈ (rB c t hc0 hc1 x0 x1 x2 x3 x4 xo7 xs0 fh0).1, y ∈ pc.1.set :=
  View.cover_of_tiledL (rB c t hc0 hc1 x0 x1 x2 x3 x4 xo7 xs0 fh0).1 S512x1024.size (by sl_kernel_rfl) y

def out0_B_5 : Vec F S512x1024 .f32 :=
  VO0_5.read (Elt F) (VO0_5.writes (Elt F) VO0_5.junk (rB c t hc0 hc1 x0 x1 x2 x3 x4 xo7 xs0 fh0).1)

theorem cover0_B_6 (y : S512x1024.Idx) :
    ∃ pc ∈ (rB c t hc0 hc1 x0 x1 x2 x3 x4 xo7 xs0 fh0).2.1, y ∈ pc.1.set :=
  View.cover_of_tiledL (rB c t hc0 hc1 x0 x1 x2 x3 x4 xo7 xs0 fh0).2.1 S512x1024.size (by sl_kernel_rfl) y

def out0_B_6 : Vec F S512x1024 .bf16 :=
  VO0_6.read (Elt F) (VO0_6.writes (Elt F) VO0_6.junk (rB c t hc0 hc1 x0 x1 x2 x3 x4 xo7 xs0 fh0).2.1)

theorem cover0_B_7 (y : S1x1024.Idx) :
    ∃ pc ∈ (rB c t hc0 hc1 x0 x1 x2 x3 x4 xo7 xs0 fh0).2.2.1, y ∈ pc.1.set :=
  View.cover_of_tiledL (rB c t hc0 hc1 x0 x1 x2 x3 x4 xo7 xs0 fh0).2.2.1 S1x1024.size (by sl_kernel_rfl) y

def out0_B_7 : Vec F S1x1024 .f32 :=
  VO0_7.read (Elt F) (VO0_7.writes (Elt F) VO0_7.junk (rB c t hc0 hc1 x0 x1 x2 x3 x4 xo7 xs0 fh0).2.2.1)

/-- What the buffers hold after a point in case B. -/
def tB : Pt F := (out0_B_5 c t hc0 hc1 x0 x1 x2 x3 x4 xo7 xs0 fh0, out0_B_6 c t hc0 hc1 x0 x1 x2 x3 x4 xo7 xs0 fh0, out0_B_7 c t hc0 hc1 x0 x1 x2 x3 x4 xo7 xs0 fh0, xs0)

end

/-- The results after a point at a multiple of 16. -/
abbrev atA (c : Dev nD) (t : Fin cfg0.N) (h0 : t.val % 16 = 0) : Pt F := tA c t ((hcond0_0 t).mpr h0) ((hcond0_1 t).mpr h0) (iblk m c 0 t) (iblk m c 1 t) (iblk m c 2 t) (iblk m c 3 t) (iblk m c 4 t) (V m c main_v3)

/-- The results after another point, which found `p`. -/
abbrev atB (c : Dev nD) (t : Fin cfg0.N) (h0 : ¬t.val % 16 = 0) (p : Pt F) : Pt F := tB c t (fun h => h0 ((hcond0_0 t).mp h)) (fun h => h0 ((hcond0_1 t).mp h)) (iblk m c 0 t) (iblk m c 1 t) (iblk m c 2 t) (iblk m c 3 t) (iblk m c 4 t) p.2.2.1 p.2.2.2 (V m c main_v3)

/-- What the buffers hold after point `n`. -/
def outsAt0 (c : Dev nD) : (n : ℕ) → n < cfg0.N → Pt F
  | 0, hn => atA m c ⟨0, hn⟩ (Nat.zero_mod _)
  | n + 1, hn => if h0 : (n + 1) % 16 = 0 then atA m c ⟨n + 1, hn⟩ h0 else atB m c ⟨n + 1, hn⟩ h0 (outsAt0 c n (Nat.lt_of_succ_lt hn))

theorem outsAt0_A (c : Dev nD) (t : Fin cfg0.N) (h0 : t.val % 16 = 0) : outsAt0 m c t.val t.isLt = atA m c t h0 := by
  obtain ⟨n, hn⟩ := t
  cases n with
  | zero => rfl
  | succ n => exact dif_pos h0

/-- What the point before left. -/
abbrev prev (c : Dev nD) (t : Fin cfg0.N) : Pt F := outsAt0 m c (t.val - 1) (Nat.lt_of_le_of_lt (Nat.sub_le _ _) t.isLt)

theorem outsAt0_B (c : Dev nD) (t : Fin cfg0.N) (h0 : ¬t.val % 16 = 0) : outsAt0 m c t.val t.isLt = atB m c t h0 (prev m c t) := by
  obtain ⟨n, hn⟩ := t
  cases n with
  | zero => exact absurd (Nat.zero_mod _) h0
  | succ n => exact dif_neg h0

abbrev rest (c : Dev nD) : sProp 𝕄 := iprop((∃ r, prngReg c r) ∗ iprop(sv c 14 ∗ sv c 15 ∗ sv c 16 ∗ sv c 17) ∗ hbPt0 c hbM0_0 (V m c main_v3))

/-- What a point leaves to the next. -/
abbrev held (c : Dev nD) (p : Pt F) : sProp 𝕄 := iprop(ow c scM0_0 p.2.2.2 ∗ rest m c)

def PhiS (c : Dev nD) : (n : ℕ) → n ≤ cfg0.N → sProp 𝕄
  | 0, _ => Pipeline.ΦD osem0 spec0 H0 (V m) c
  | n + 1, hn => held m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) : PhiS m c (n + 1) hn = held m c (outsAt0 m c n hn) := rfl

theorem PhiS_pos (c : Dev nD) (n : ℕ) (h : n ≤ cfg0.N) (hz : n ≠ 0) : PhiS m c n h = held m c (outsAt0 m c (n - 1) (by omega)) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_7_B (c : Dev nD) (t : Fin cfg0.N) (h0 : ¬t.val % 16 = 0) (d) :
    (dats m 0 c).before 7 t d = (prev m c t).2.2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, ow c (ms0_0 t) ((dats m 0 c).before 0 t d))
    ∗ (∃ d, ow c (ms0_1 t) ((dats m 0 c).before 1 t d))
    ∗ (∃ d, ow c (ms0_2 t) ((dats m 0 c).before 2 t d))
    ∗ (∃ d, ow c (ms0_3 t) ((dats m 0 c).before 3 t d))
    ∗ (∃ d, ow c (ms0_4 t) ((dats m 0 c).before 4 t d))
    ∗ (∃ d, ow c (ms0_5 t) ((dats m 0 c).before 5 t d))
    ∗ (∃ d, ow c (ms0_6 t) ((dats m 0 c).before 6 t d))
    ∗ (∃ d, ow c (ms0_7 t) ((dats m 0 c).before 7 t d)))

def bodyPost (c : Dev nD) (t : Fin cfg0.N) : sProp 𝕄 :=
  iprop((dats m 0 c).Φ t.succ ∗ (dats m 0 c).owesAt () t.succ
    ∗ ow c (ms0_0 t) ((dats m 0 c).after 0 t)
    ∗ ow c (ms0_1 t) ((dats m 0 c).after 1 t)
    ∗ ow c (ms0_2 t) ((dats m 0 c).after 2 t)
    ∗ ow c (ms0_3 t) ((dats m 0 c).after 3 t)
    ∗ ow c (ms0_4 t) ((dats m 0 c).after 4 t)
    ∗ ow c (ms0_5 t) ((dats m 0 c).after 5 t)
    ∗ ow c (ms0_6 t) ((dats m 0 c).after 6 t)
    ∗ ow c (ms0_7 t) ((dats m 0 c).after 7 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · have hz : t.val = 0 := by omega
    rw [PhiS_castSucc m c t, PhiS_zero m c _ _ hz, PhiD0_eq]
    rw [outsAt0_A m c t h0]
    unfold held rest atA tA out0_A_5 out0_A_6 out0_A_7 sout0_A_0; dsimp only
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((rA c t ((hcond0_0 t).mpr h0) ((hcond0_1 t).mpr h0) (iblk m c 0 t) (iblk m c 1 t) (iblk m c 2 t) (iblk m c 3 t) (iblk m c 4 t) (V m c main_v3)).2.2.2.2 W _)
    iframe H0 H1 H2 H3 H4 HS0 Hq0 Hq1 Hq2 Hq3 Hh0 HW
    isplitl [H5]; · iexists _; iexact H5
    isplitl [H6]; · iexists _; iexact H6
    isplitl [H7]; · iexists _; iexact H7
    iintro ⟨H0, H1, H2, H3, H4, H5, H6, H7, HS0, Hq0, Hq1, Hq2, Hq3, Hh0, ⟨%W', HW'⟩⟩
    iframe Hg Hq0 Hq1 Hq2 Hq3 Hh0 H0 H1 H2 H3 H4
    isplitl [HS0]; · iapply wr_ow c _ _ _ _ (fun _ => scover0_A_0 ..); iexact HS0
    isplitl [HW']
    · iexists W'; isplitr; · ipureintro; exact fun _ _ => Or.inl trivial
      iexact HW'
    isplitl [H5]; · iapply wr_ow c _ _ _ _ (fun _ => cover0_A_5 ..); iexact H5
    isplitl [H6]; · iapply wr_ow c _ _ _ _ (fun _ => cover0_A_6 ..); iexact H6
    iapply wr_ow c _ _ _ _ (fun _ => cover0_A_7 ..); iexact H7
  · have hz : t.val ≠ 0 := fun e => h0 (by rw [e])
    rw [PhiS_castSucc m c t, PhiS_pos m c _ _ hz]
    rw [outsAt0_B m c t h0]
    simp only [before0_7_B m c t h0]
    unfold held rest atB tB out0_B_5 out0_B_6 out0_B_7; dsimp only
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((rB c t (fun h => h0 ((hcond0_0 t).mp h)) (fun h => h0 ((hcond0_1 t).mp h)) (iblk m c 0 t) (iblk m c 1 t) (iblk m c 2 t) (iblk m c 3 t) (iblk m c 4 t) _ _ (V m c main_v3)).2.2.2.2 W _)
    iframe H0 H1 H2 H3 H4 H7 HS0 Hq0 Hq1 Hq2 Hq3 Hh0 HW
    isplitl [H5]; · iexists _; iexact H5
    isplitl [H6]; · iexists _; iexact H6
    iintro ⟨H0, H1, H2, H3, H4, H5, H6, H7, HS0, Hq0, Hq1, Hq2, Hq3, Hh0, ⟨%W', HW'⟩⟩
    iframe HS0 Hg Hq0 Hq1 Hq2 Hq3 Hh0 H0 H1 H2 H3 H4
    isplitl [HW']
    · iexists W'; isplitr; · ipureintro; exact fun _ _ => Or.inl trivial
      iexact HW'
    isplitl [H5]; · iapply wr_ow c _ _ _ _ (fun _ => cover0_B_5 ..); iexact H5
    isplitl [H6]; · iapply wr_ow c _ _ _ _ (fun _ => cover0_B_6 ..); iexact H6
    iapply wr_ow c _ _ _ _ (fun _ => cover0_B_7 ..); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3⟩, Hh0⟩
  iframe Hg Hq0 Hq1 Hq2 Hq3 Hh0
  iexists _; iexact HS0

theorem hout (c : Dev nD) : (dats m 0 c).Φ (Fin.last cfg0.N) ⊢ Pipeline.ΦD osem0 spec0 H0 (V m) c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments as they were. -/
abbrev kept (r : (ℓ : Loc nD τ sig) → Buf (Elt F) ℓ) (c : Dev nD) : Prop :=
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)

theorem unchanged : θ_run defs (onTc (τ := τ) (main (F := F))) ⟨m, fun _ => 0, ρ⟩ (fun r => ∀ c : Dev nD, kept m r.2.mem c) :=
  frame_of m ρ (dats m) (A_eq m) (run_main m ρ)

theorem frame : θ_run defs (onTc (τ := τ) (main (F := F))) ⟨m, fun _ => 0, ρ⟩ (fun r => (∀ c : Dev nD, kept m r.2.mem c) ∧ r.2.sem = fun _ => 0) :=
  θ_run_and (unchanged m ρ) ((θ_run defs _ _).mono (fun _ h => h.2) (run_main_quiescent m ρ))

end Cert.KernelInIdeal.Own

end
-- ==== Proof.InPoint.lean ====
/- What the body leaves at one grid point: each result block as a function of the blocks read and the weights held. -/
module

public import proofs.«01_k».proof.Proof.InFrame
public import Idealize.ShloMosaic.Lib.Pipeline.Value
public import Idealize.ShloMosaic.Lib.ValueLayout

@[expose] public section

set_option maxRecDepth 16384

noncomputable section

namespace Cert.KernelInIdeal.Own

open KernelInIdeal KernelInIdeal.Gen Idealize.ShloMosaic Idealize.ShloMosaic.TcCoe Idealize.SL.Sem Idealize.ShloMosaic.ValueIdx

variable {F : FTy → Type} [FloatOps F]

theorem sw0 : scM0_0.IsWhole := Memref.isWhole_whole _

theorem off2 : (![0, 0] : Fin 2 → Nat) = fun _ => 0 := funext fun a => by fin_cases a <;> rfl

def wT (w : Vec F S5120x1024 .bf16) : Vec F S3072x1024 .bf16 := View.ld w (Rect.unit ![0, 0] ![3072, 1024] inb_S5120x1024_S3072x1024_0_0)
def wU (w : Vec F S5120x1024 .bf16) : Vec F S2048x1024 .bf16 := View.ld w (Rect.unit ![3072, 0] ![2048, 1024] inb_S5120x1024_S2048x1024_3072_0)

/-- The gradient of the normed rows. -/
def ptDu (x2 : Vec F S512x3072 .bf16) (x3 : Vec F S512x2048 .bf16) (w : Vec F S5120x1024 .bf16) : Vec F S512x1024 .f32 :=
  k0_pay8 x2 (wT w) x3 (wU w)

def pt5 (x0 x1 : Vec F S512x1024 .f32) (x2 : Vec F S512x3072 .bf16) (x3 : Vec F S512x2048 .bf16) (x4 : Vec F S1x1024 .f32) (w : Vec F S5120x1024 .bf16) : Vec F S512x1024 .f32 :=
  k0_pay2 (k0_pay4 x0) (k0_pay5 x0) (k0_pay6 x4) (ptDu x2 x3 w) x1

def pt7 (x0 : Vec F S512x1024 .f32) (x2 : Vec F S512x3072 .bf16) (x3 : Vec F S512x2048 .bf16) (old : Vec F S1x1024 .f32) (w : Vec F S5120x1024 .bf16) : Vec F S1x1024 .f32 :=
  k0_pay1 (k0_pay5 x0) (ptDu x2 x3 w) old

/-- What the four copies of one weight leave: row `y` of the weight is row `off + y % 1280` of slab `y / 1280`. -/
def wG (c : Dev nD) (off : ℕ) (fh0 : HbBuf0 (F := F) c hbM0_0) (hoff : off + 1280 ≤ 1280) : Vec F S5120x1024 .bf16 := fun y =>
  (fh0 : S4x1280x1024.Idx → Elt F .bf16) (ix3 ⟨(y 0 : ℕ) / 1280, by have h : (y 0 : ℕ) < 5120 := (y 0).isLt; omega⟩ ⟨off + (y 0 : ℕ) % 1280, by have h := Nat.mod_lt (y 0 : ℕ) (show 0 < 1280 by norm_num); omega⟩ ⟨(y 1 : ℕ), (y 1).isLt⟩)

theorem numel_slab : S1280x1024.numel = S1x1280x1024.numel := squeezes_S1x1280x1024_S1280x1024.numel_eq

theorem slab_piece (c : Dev nD) (off q : ℕ) (fh0 : HbBuf0 (F := F) c hbM0_0) (hoff : off + 1280 ≤ 1280) (o : ℕ) (ho : o = 1280 * q)
    (inb : ∀ a, (![o, 0] : Fin 2 → ℕ) a + (![1280, 1024] : Fin 2 → ℕ) a ≤ S5120x1024.size a)
    (inb' : ∀ a, (![q, off, 0] : Fin 3 → ℕ) a + (![1, 1280, 1024] : Fin 3 → ℕ) a ≤ S4x1280x1024.size a)
    (x : S1280x1024.Idx) :
    (ReadAs.same.apply (View.read (Elt F)
      (((View.whole main_v3).slice (Rect.unit (s := S4x1280x1024) ![q, off, 0] ![1, 1280, 1024] inb')).reshape S1280x1024 numel_slab) fh0) : S1280x1024.Idx → Elt F .bf16) x
      = wG c off fh0 hoff ((Rect.unit (s := S5120x1024) ![o, 0] ![1280, 1024] inb).emb x) := by
  subst ho
  obtain ⟨i, j, rfl⟩ : ∃ (i : Fin 1280) (j : Fin 1024), x = ix2 i j := ⟨x 0, x 1, eq_ix2 x⟩
  show shapeCast S1280x1024 (View.read (Elt F) ((View.whole main_v3).slice (Rect.unit (s := S4x1280x1024) ![q, off, 0] ![1, 1280, 1024] inb')) fh0 : S1x1280x1024.Idx → Elt F .bf16) numel_slab (ix2 i j) = _
  rw [shapeCast_1ab_ab_apply]
  show (fh0 : S4x1280x1024.Idx → Elt F .bf16) _ = (fh0 : S4x1280x1024.Idx → Elt F .bf16) _
  have hi : (i : ℕ) < 1280 := i.isLt
  refine congrArg _ (funext fun a => Fin.ext ?_)
  match a with
  | ⟨0, _⟩ => show q + 1 * 0 = (1280 * q + 1 * i.val) / 1280; omega
  | ⟨1, _⟩ => show off + 1 * i.val = off + (1280 * q + 1 * i.val) % 1280; omega
  | ⟨2, _⟩ => show 0 + 1 * j.val = 0 + 1 * j.val; rfl

def held0 (c : Dev nD) (fh0 : HbBuf0 (F := F) c hbM0_0) : List (View.Piece (Elt F) S5120x1024 .bf16) :=
  [⟨Rect.unit ![3840, 0] ![1280, 1024] inb_S5120x1024_S1280x1024_3840_0, ReadAs.same.apply (View.read (Elt F)
      (((View.whole main_v3).slice (Rect.unit (s := S4x1280x1024) ![3, 0, 0] ![1, 1280, 1024] inb_S4x1280x1024_S1x1280x1024_3_0_0)).reshape S1280x1024 numel_slab) fh0)⟩,
    ⟨Rect.unit ![2560, 0] ![1280, 1024] inb_S5120x1024_S1280x1024_2560_0, ReadAs.same.apply (View.read (Elt F)
      (((View.whole main_v3).slice (Rect.unit (s := S4x1280x1024) ![2, 0, 0] ![1, 1280, 1024] inb_S4x1280x1024_S1x1280x1024_2_0_0)).reshape S1280x1024 numel_slab) fh0)⟩,
    ⟨Rect.unit ![1280, 0] ![1280, 1024] inb_S5120x1024_S1280x1024_1280_0, ReadAs.same.apply (View.read (Elt F)
      (((View.whole main_v3).slice (Rect.unit (s := S4x1280x1024) ![1, 0, 0] ![1, 1280, 1024] inb_S4x1280x1024_S1x1280x1024_1_0_0)).reshape S1280x1024 numel_slab) fh0)⟩,
    ⟨Rect.unit ![0, 0] ![1280, 1024] inb_S5120x1024_S1280x1024_0_0, ReadAs.same.apply (View.read (Elt F)
      (((View.whole main_v3).slice (Rect.unit (s := S4x1280x1024) ![0, 0, 0] ![1, 1280, 1024] inb_S4x1280x1024_S1x1280x1024_0_0_0)).reshape S1280x1024 numel_slab) fh0)⟩]

theorem canon_held0 (c : Dev nD) (fh0 : HbBuf0 (F := F) c hbM0_0) : View.canon (held0 c fh0) = wG c 0 fh0 (by norm_num) := by
  funext y
  refine View.canon_apply_of_pieces _ _ ?_ y ?_
  · intro p hp x
    simp only [held0, List.mem_cons, List.not_mem_nil, or_false] at hp
    rcases hp with rfl | rfl | rfl | rfl
    · exact slab_piece c 0 3 fh0 (by norm_num) 3840 (by norm_num) inb_S5120x1024_S1280x1024_3840_0 inb_S4x1280x1024_S1x1280x1024_3_0_0 x
    · exact slab_piece c 0 2 fh0 (by norm_num) 2560 (by norm_num) inb_S5120x1024_S1280x1024_2560_0 inb_S4x1280x1024_S1x1280x1024_2_0_0 x
    · exact slab_piece c 0 1 fh0 (by norm_num) 1280 (by norm_num) inb_S5120x1024_S1280x1024_1280_0 inb_S4x1280x1024_S1x1280x1024_1_0_0 x
    · exact slab_piece c 0 0 fh0 (by norm_num) 0 (by norm_num) inb_S5120x1024_S1280x1024_0_0 inb_S4x1280x1024_S1x1280x1024_0_0_0 x
  · have h0 : (y 0 : ℕ) < 5120 := (y 0).isLt
    have h1 : (y 1 : ℕ) < 1024 := (y 1).isLt
    rcases (by omega : (y 0 : ℕ) < 1280 ∨ (1280 ≤ (y 0 : ℕ) ∧ (y 0 : ℕ) < 2560) ∨ (2560 ≤ (y 0 : ℕ) ∧ (y 0 : ℕ) < 3840) ∨ 3840 ≤ (y 0 : ℕ)) with h | h | h | h
    · exact ⟨_, List.mem_cons_of_mem _ (List.mem_cons_of_mem _ (List.mem_cons_of_mem _ (List.mem_cons_self ..))), by
        rw [Rect.mem_set_unit]
        intro a
        match a with
        | ⟨0, _⟩ => show 0 ≤ (y 0 : ℕ) ∧ (y 0 : ℕ) < 0 + 1280; omega
        | ⟨1, _⟩ => show 0 ≤ (y 1 : ℕ) ∧ (y 1 : ℕ) < 0 + 1024; omega⟩
    · exact ⟨_, List.mem_cons_of_mem _ (List.mem_cons_of_mem _ (List.mem_cons_self ..)), by
        rw [Rect.mem_set_unit]
        intro a
        match a with
        | ⟨0, _⟩ => show 1280 ≤ (y 0 : ℕ) ∧ (y 0 : ℕ) < 1280 + 1280; omega
        | ⟨1, _⟩ => show 0 ≤ (y 1 : ℕ) ∧ (y 1 : ℕ) < 0 + 1024; omega⟩
    · exact ⟨_, List.mem_cons_of_mem _ (List.mem_cons_self ..), by
        rw [Rect.mem_set_unit]
        intro a
        match a with
        | ⟨0, _⟩ => show 2560 ≤ (y 0 : ℕ) ∧ (y 0 : ℕ) < 2560 + 1280; omega
        | ⟨1, _⟩ => show 0 ≤ (y 1 : ℕ) ∧ (y 1 : ℕ) < 0 + 1024; omega⟩
    · exact ⟨_, List.mem_cons_self .., by
        rw [Rect.mem_set_unit]
        intro a
        match a with
        | ⟨0, _⟩ => show 3840 ≤ (y 0 : ℕ) ∧ (y 0 : ℕ) < 3840 + 1280; omega
        | ⟨1, _⟩ => show 0 ≤ (y 1 : ℕ) ∧ (y 1 : ℕ) < 0 + 1024; omega⟩

section
variable (c : Dev nD) (t : Fin cfg0.N) (hc0 : cond0_0 (grid0.coords t)) (hc1 : cond0_1 (grid0.coords t))
    (x0 : Vec F S512x1024 .f32) (x1 : Vec F S512x1024 .f32) (x2 : Vec F S512x3072 .bf16) (x3 : Vec F S512x2048 .bf16) (x4 : Vec F S1x1024 .f32) (fh0 : HbBuf0 (F := F) c hbM0_0)

theorem outA_5 : out0_A_5 c t hc0 hc1 x0 x1 x2 x3 x4 fh0 = pt5 x0 x1 x2 x3 x4 (wG c 0 fh0 (by norm_num)) := by
  unfold out0_A_5
  rw [View.read_writes_junk_eq_canon]
  unfold rA kernelRun0_A
  dsimp only
  sl_unfold_words
  rw [View.canon_cons_unit_zero (S := S512x1024) off2]
  simp only [View.readCov_eq_canon', View.readAt_eq_ld, (hs0_0 t).read_unread, (hs0_1 t).read_unread, (hs0_2 t).read_unread, (hs0_3 t).read_unread, (hs0_4 t).read_unread, View.ld_unit_zero (S := S512x1024) off2, View.ld_unit_zero (S := S1x1024) off2, View.ld_unit_zero (S := S512x3072) off2, View.ld_unit_zero (S := S512x2048) off2]
  have e0 := canon_held0 c fh0
  simp only [held0] at *
  simp only [e0]
  rfl

theorem outA_6 : out0_A_6 c t hc0 hc1 x0 x1 x2 x3 x4 fh0 = k0_pay7 x0 x4 := by
  unfold out0_A_6
  rw [View.read_writes_junk_eq_canon]
  unfold rA kernelRun0_A
  dsimp only
  sl_unfold_words
  rw [View.canon_cons_unit_zero (S := S512x1024) off2]
  simp only [View.readCov_eq_canon', View.readAt_eq_ld, (hs0_0 t).read_unread, (hs0_1 t).read_unread, (hs0_2 t).read_unread, (hs0_3 t).read_unread, (hs0_4 t).read_unread, View.ld_unit_zero (S := S512x1024) off2, View.ld_unit_zero (S := S1x1024) off2, View.ld_unit_zero (S := S512x3072) off2, View.ld_unit_zero (S := S512x2048) off2]

theorem outA_7 : out0_A_7 c t hc0 hc1 x0 x1 x2 x3 x4 fh0 = pt7 x0 x2 x3 k0_pay3 (wG c 0 fh0 (by norm_num)) := by
  unfold out0_A_7
  rw [View.read_writes_junk_eq_canon]
  unfold rA kernelRun0_A
  dsimp only
  sl_unfold_words
  rw [View.canon_cons_unit_zero (S := S1x1024) off2]
  rw [View.readCov_unit_zero (S := S1x1024) _ off2]
  simp only [View.readCov_eq_canon', View.readAt_eq_ld, (hs0_0 t).read_unread, (hs0_1 t).read_unread, (hs0_2 t).read_unread, (hs0_3 t).read_unread, (hs0_4 t).read_unread, View.ld_unit_zero (S := S512x1024) off2, View.ld_unit_zero (S := S1x1024) off2, View.ld_unit_zero (S := S512x3072) off2, View.ld_unit_zero (S := S512x2048) off2]
  have e0 := canon_held0 c fh0
  simp only [held0] at *
  simp only [e0]
  rfl

theorem soutA_0 : sout0_A_0 c t hc0 hc1 x0 x1 x2 x3 x4 fh0 = wG c 0 fh0 (by norm_num) := by
  unfold sout0_A_0
  rw [View.read_writes_junk_eq_canon]
  unfold rA kernelRun0_A
  dsimp only
  sl_unfold_words
  exact canon_held0 c fh0

end

section
variable (c : Dev nD) (t : Fin cfg0.N) (hc0 : ¬cond0_0 (grid0.coords t)) (hc1 : ¬cond0_1 (grid0.coords t))
    (x0 : Vec F S512x1024 .f32) (x1 : Vec F S512x1024 .f32) (x2 : Vec F S512x3072 .bf16) (x3 : Vec F S512x2048 .bf16) (x4 : Vec F S1x1024 .f32) (xo7 : Vec F S1x1024 .f32) (xs0 : Vec F S5120x1024 .bf16) (fh0 : HbBuf0 (F := F) c hbM0_0)

theorem outB_5 : out0_B_5 c t hc0 hc1 x0 x1 x2 x3 x4 xo7 xs0 fh0 = pt5 x0 x1 x2 x3 x4 xs0 := by
  unfold out0_B_5
  rw [View.read_writes_junk_eq_canon]
  unfold rB kernelRun0_B
  dsimp only
  sl_unfold_words
  rw [View.canon_cons_unit_zero (S := S512x1024) off2]
  simp only [View.readCov_eq_canon', View.readAt_eq_ld, (hs0_0 t).read_unread, (hs0_1 t).read_unread, (hs0_2 t).read_unread, (hs0_3 t).read_unread, (hs0_4 t).read_unread, (hs0_7 t).read_unread, sw0.read_unread, View.ld_unit_zero (S := S512x1024) off2, View.ld_unit_zero (S := S1x1024) off2, View.ld_unit_zero (S := S512x3072) off2, View.ld_unit_zero (S := S512x2048) off2]
  rfl

theorem outB_6 : out0_B_6 c t hc0 hc1 x0 x1 x2 x3 x4 xo7 xs0 fh0 = k0_pay7 x0 x4 := by
  unfold out0_B_6
  rw [View.read_writes_junk_eq_canon]
  unfold rB kernelRun0_B
  dsimp only
  sl_unfold_words
  rw [View.canon_cons_unit_zero (S := S512x1024) off2]
  simp only [View.readCov_eq_canon', View.readAt_eq_ld, (hs0_0 t).read_unread, (hs0_1 t).read_unread, (hs0_2 t).read_unread, (hs0_3 t).read_unread, (hs0_4 t).read_unread, (hs0_7 t).read_unread, sw0.read_unread, View.ld_unit_zero (S := S512x1024) off2, View.ld_unit_zero (S := S1x1024) off2, View.ld_unit_zero (S := S512x3072) off2, View.ld_unit_zero (S := S512x2048) off2]

theorem outB_7 : out0_B_7 c t hc0 hc1 x0 x1 x2 x3 x4 xo7 xs0 fh0 = pt7 x0 x2 x3 xo7 xs0 := by
  unfold out0_B_7
  rw [View.read_writes_junk_eq_canon]
  unfold rB kernelRun0_B
  dsimp only
  sl_unfold_words
  rw [View.canon_cons_unit_zero (S := S1x1024) off2]
  simp only [View.readCov_eq_canon', View.readAt_eq_ld, (hs0_0 t).read_unread, (hs0_1 t).read_unread, (hs0_2 t).read_unread, (hs0_3 t).read_unread, (hs0_4 t).read_unread, (hs0_7 t).read_unread, sw0.read_unread, View.ld_unit_zero (S := S512x1024) off2, View.ld_unit_zero (S := S1x1024) off2, View.ld_unit_zero (S := S512x3072) off2, View.ld_unit_zero (S := S512x2048) off2]
  rfl

end

end Cert.KernelInIdeal.Own
-- ==== Proof.InSweep.lean ====
/- The grid's 16 points one after the other: the weights stay in the scratch, and every result's block is one point's. -/
module

public import proofs.«01_k».proof.Proof.InFrame
public import Idealize.ShloMosaic.Lib.Pipeline.Value
public import proofs.«01_k».proof.Proof.InPoint

@[expose] public section

set_option maxRecDepth 16384

noncomputable section

namespace Cert.KernelInIdeal.Own

open KernelInIdeal.Gen

open KernelInIdeal KernelInIdeal.Gen Idealize.ShloMosaic Idealize.ShloMosaic.TcCoe Idealize.SL.Sem
open Pipeline (Dat)

variable {F : FTy → Type} [FloatOps F]
variable (m : (ℓ : Loc nD τ sig) → Buf (Elt F) ℓ) (ρ : Dev nD → PrngReg)

theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ kept m r.2.mem c :=
  (θ_run defs _ _).mono (fun _ h c => ⟨(h.2 c).1 5, (h.2 c).1 6, (h.2 c).1 7, h.1 c⟩) (θ_run_and (unchanged m ρ) (run_main m ρ))

end Cert.KernelInIdeal.Own

namespace Cert.KernelInIdeal.Own

open KernelInIdeal KernelInIdeal.Gen Idealize.ShloMosaic Idealize.ShloMosaic.TcCoe Idealize.SL.Sem Idealize.ShloMosaic.ValueIdx
open Pipeline (Dat)

variable {F : FTy → Type} [FloatOps F]
variable (m : (ℓ : Loc nD τ sig) → Buf (Elt F) ℓ) (c : Dev nD)

/-- The weight rows as the scratch holds them. -/
def wI : Vec F S5120x1024 .bf16 := wG c 0 (V m c main_v3) (by norm_num)

/-- The accumulated gradient of the gain after point `n`. -/
def dgs : (n : ℕ) → n < cfg0.N → Vec F S1x1024 .f32
  | 0, h => pt7 (iblk m c 0 ⟨0, h⟩) (iblk m c 2 ⟨0, h⟩) (iblk m c 3 ⟨0, h⟩) k0_pay3 (wI m c)
  | n + 1, h => pt7 (iblk m c 0 ⟨n + 1, h⟩) (iblk m c 2 ⟨n + 1, h⟩) (iblk m c 3 ⟨n + 1, h⟩) (dgs n (Nat.lt_of_succ_lt h)) (wI m c)

theorem outs_eq : ∀ (n : ℕ) (h : n < cfg0.N), outsAt0 m c n h =
    (pt5 (iblk m c 0 ⟨n, h⟩) (iblk m c 1 ⟨n, h⟩) (iblk m c 2 ⟨n, h⟩) (iblk m c 3 ⟨n, h⟩) (iblk m c 4 ⟨n, h⟩) (wI m c),
     k0_pay7 (iblk m c 0 ⟨n, h⟩) (iblk m c 4 ⟨n, h⟩),
     dgs m c n h,
     wI m c)
  | 0, h => by
    rw [show outsAt0 m c 0 h = _ from outsAt0_A m c ⟨0, h⟩ rfl]
    simp only [tA, outA_5, outA_6, outA_7, soutA_0]
    rfl
  | n + 1, h => by
    have hN : cfg0.N = 16 := N_0
    have hB : ¬(⟨n + 1, h⟩ : Fin cfg0.N).val % 16 = 0 := by dsimp only; omega
    have ih := outs_eq n (Nat.lt_of_succ_lt h)
    rw [show outsAt0 m c (n + 1) h = _ from outsAt0_B m c ⟨n + 1, h⟩ hB]
    simp only [tB, outB_5, outB_6, outB_7]
    simp only [show prev m c ⟨n + 1, h⟩ = _ from ih]
    rfl

theorem index5 : ∀ t : Fin cfg0.N, win0_5.index t 0 = t.val ∧ win0_5.index t 1 = 0 :=
  (by decide +kernel : ∀ t : Fin grid0.N, win0_5.index t 0 = t.val ∧ win0_5.index t 1 = 0)

theorem cut5 (t : Fin cfg0.N) (X : Vec F S512x1024 .f32) (p : Fin 512) (j : Fin 1024) :
    ((cfg0.win 5).cut (grid0.coords t) X : S512x1024.Idx → _) (ix2 p j) = X (ix2 p j) := rfl

theorem arr5 (t : Fin cfg0.N) (p : Fin 512) (j : Fin 1024) (q : Fin 8192) (hq : (q : ℕ) = 512 * t.val + p.val) :
    ((dats m 0 c).arrAt 5 cfg0.N : S8192x1024.Idx → _) (ix2 q j) = (pt5 (iblk m c 0 t) (iblk m c 1 t) (iblk m c 2 t) (iblk m c 3 t) (iblk m c 4 t) (wI m c)) (ix2 p j) := by
  have h := congrFun (blocks5 m c t (flush0_5 t)) (ix2 p j)
  rw [flushed5, outs_eq] at h
  dsimp only at h
  refine Eq.trans ?_ (h.trans (cut5 t _ p j))
  rw [View.read_apply]
  refine congrArg ((dats m 0 c).arrAt 5 cfg0.N : S8192x1024.Idx → _) (funext fun a => Fin.ext ?_)
  match a with
  | ⟨0, _⟩ => show q.val = win0_5.index t 0 * 512 + 1 * p.val; rw [(index5 t).1]; omega
  | ⟨1, _⟩ => show j.val = win0_5.index t 1 * 1024 + 1 * j.val; rw [(index5 t).2]; omega

theorem index6 : ∀ t : Fin cfg0.N, win0_6.index t 0 = t.val ∧ win0_6.index t 1 = 0 :=
  (by decide +kernel : ∀ t : Fin grid0.N, win0_6.index t 0 = t.val ∧ win0_6.index t 1 = 0)

theorem cut6 (t : Fin cfg0.N) (X : Vec F S512x1024 .bf16) (p : Fin 512) (j : Fin 1024) :
    ((cfg0.win 6).cut (grid0.coords t) X : S512x1024.Idx → _) (ix2 p j) = X (ix2 p j) := rfl

theorem arr6 (t : Fin cfg0.N) (p : Fin 512) (j : Fin 1024) (q : Fin 8192) (hq : (q : ℕ) = 512 * t.val + p.val) :
    ((dats m 0 c).arrAt 6 cfg0.N : S8192x1024.Idx → _) (ix2 q j) = (k0_pay7 (iblk m c 0 t) (iblk m c 4 t)) (ix2 p j) := by
  have h := congrFun (blocks6 m c t (flush0_6 t)) (ix2 p j)
  rw [flushed6, outs_eq] at h
  dsimp only at h
  refine Eq.trans ?_ (h.trans (cut6 t _ p j))
  rw [View.read_apply]
  refine congrArg ((dats m 0 c).arrAt 6 cfg0.N : S8192x1024.Idx → _) (funext fun a => Fin.ext ?_)
  match a with
  | ⟨0, _⟩ => show q.val = win0_6.index t 0 * 512 + 1 * p.val; rw [(index6 t).1]; omega
  | ⟨1, _⟩ => show j.val = win0_6.index t 1 * 1024 + 1 * j.val; rw [(index6 t).2]; omega

theorem index0 : ∀ t : Fin cfg0.N, win0_0.index t 0 = t.val ∧ win0_0.index t 1 = 0 :=
  (by decide +kernel : ∀ t : Fin grid0.N, win0_0.index t 0 = t.val ∧ win0_0.index t 1 = 0)

theorem blk0 (t : Fin cfg0.N) (p : Fin 512) (j : Fin 1024) (q : Fin 8192) (hq : (q : ℕ) = 512 * t.val + p.val) :
    (iblk m c 0 t : S512x1024.Idx → _) (ix2 p j) = (V m c main_arg0 : S8192x1024.Idx → _) (ix2 q j) := by
  unfold iblk
  rw [View.read_apply]
  refine congrArg (V m c main_arg0 : S8192x1024.Idx → _) (funext fun a => Fin.ext ?_)
  match a with
  | ⟨0, _⟩ => show win0_0.index t 0 * 512 + 1 * p.val = q.val; rw [(index0 t).1]; omega
  | ⟨1, _⟩ => show win0_0.index t 1 * 1024 + 1 * j.val = j.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

theorem blk1 (t : Fin cfg0.N) (p : Fin 512) (j : Fin 1024) (q : Fin 8192) (hq : (q : ℕ) = 512 * t.val + p.val) :
    (iblk m c 1 t : S512x1024.Idx → _) (ix2 p j) = (V m c main_arg1 : S8192x1024.Idx → _) (ix2 q j) := by
  unfold iblk
  rw [View.read_apply]
  refine congrArg (V m c main_arg1 : S8192x1024.Idx → _) (funext fun a => Fin.ext ?_)
  match a with
  | ⟨0, _⟩ => show win0_1.index t 0 * 512 + 1 * p.val = q.val; rw [(index1 t).1]; omega
  | ⟨1, _⟩ => show win0_1.index t 1 * 1024 + 1 * j.val = j.val; rw [(index1 t).2]; omega

theorem index2 : ∀ t : Fin cfg0.N, win0_2.index t 0 = t.val ∧ win0_2.index t 1 = 0 :=
  (by decide +kernel : ∀ t : Fin grid0.N, win0_2.index t 0 = t.val ∧ win0_2.index t 1 = 0)

theorem blk2 (t : Fin cfg0.N) (p : Fin 512) (j : Fin 3072) (q : Fin 8192) (hq : (q : ℕ) = 512 * t.val + p.val) :
    (iblk m c 2 t : S512x3072.Idx → _) (ix2 p j) = (V m c main_arg2 : S8192x3072.Idx → _) (ix2 q j) := by
  unfold iblk
  rw [View.read_apply]
  refine congrArg (V m c main_arg2 : S8192x3072.Idx → _) (funext fun a => Fin.ext ?_)
  match a with
  | ⟨0, _⟩ => show win0_2.index t 0 * 512 + 1 * p.val = q.val; rw [(index2 t).1]; omega
  | ⟨1, _⟩ => show win0_2.index t 1 * 3072 + 1 * j.val = j.val; rw [(index2 t).2]; omega

theorem index3 : ∀ t : Fin cfg0.N, win0_3.index t 0 = t.val ∧ win0_3.index t 1 = 0 :=
  (by decide +kernel : ∀ t : Fin grid0.N, win0_3.index t 0 = t.val ∧ win0_3.index t 1 = 0)

theorem blk3 (t : Fin cfg0.N) (p : Fin 512) (j : Fin 2048) (q : Fin 8192) (hq : (q : ℕ) = 512 * t.val + p.val) :
    (iblk m c 3 t : S512x2048.Idx → _) (ix2 p j) = (V m c main_arg3 : S8192x2048.Idx → _) (ix2 q j) := by
  unfold iblk
  rw [View.read_apply]
  refine congrArg (V m c main_arg3 : S8192x2048.Idx → _) (funext fun a => Fin.ext ?_)
  match a with
  | ⟨0, _⟩ => show win0_3.index t 0 * 512 + 1 * p.val = q.val; rw [(index3 t).1]; omega
  | ⟨1, _⟩ => show win0_3.index t 1 * 2048 + 1 * j.val = j.val; rw [(index3 t).2]; omega

theorem index4 : ∀ t : Fin cfg0.N, win0_4.index t 0 = 0 ∧ win0_4.index t 1 = 0 :=
  (by decide +kernel : ∀ t : Fin grid0.N, win0_4.index t 0 = 0 ∧ win0_4.index t 1 = 0)

theorem blk4 (t : Fin cfg0.N) (p : Fin 1) (j : Fin 1024) :
    (iblk m c 4 t : S1x1024.Idx → _) (ix2 p j) = (V m c main_v0 : S1x1024.Idx → _) (ix2 p j) := by
  unfold iblk
  rw [View.read_apply]
  refine congrArg (V m c main_v0 : S1x1024.Idx → _) (funext fun a => Fin.ext ?_)
  match a with
  | ⟨0, _⟩ => show win0_4.index t 0 * 1 + 1 * p.val = p.val; rw [(index4 t).1]; omega
  | ⟨1, _⟩ => show win0_4.index t 1 * 1024 + 1 * j.val = j.val; rw [(index4 t).2]; omega

theorem index7 : ∀ t : Fin cfg0.N, win0_7.index t 0 = 0 ∧ win0_7.index t 1 = 0 :=
  (by decide +kernel : ∀ t : Fin grid0.N, win0_7.index t 0 = 0 ∧ win0_7.index t 1 = 0)

/-- The gain's gradient is written back once, after the last point. -/
theorem lt15 : 15 < cfg0.N := by rw [show cfg0.N = 16 from N_0]; decide

/-- The last point. -/
abbrev t15 : Fin cfg0.N := ⟨15, lt15⟩

theorem arr7 : ((dats m 0 c).arrAt 7 cfg0.N : S1x1024.Idx → _) = dgs m c 15 lt15 := by
  have hN : cfg0.N = 16 := N_0
  refine (dats m 0 c).arrAt_eq_of_cover 7 (dgs m c 15 lt15) (fun t hf => ?_) fun i =>
    ⟨t15, (flush0_7 _).mpr rfl, ?_⟩
  · have h15 : t.val = 15 := by have := (flush0_7 t).mp hf; have := t.isLt; omega
    obtain rfl : t = t15 := Fin.ext h15
    rw [flushed7, outs_eq]
    have hz' : (fun a => win0_7.index t15 a * main_v4_2.ty.shape.size a) = fun _ => 0 := funext fun a => by
      match a with
      | ⟨0, _⟩ => show win0_7.index t15 0 * _ = 0; rw [(index7 t15).1, Nat.zero_mul]
      | ⟨1, _⟩ => show win0_7.index t15 1 * _ = 0; rw [(index7 t15).2, Nat.zero_mul]
    exact (Memref.read_access_unit_zero (Elt F) main_v4_2 hz' (fun a => by rw [congrFun hz' a]; simp) (dgs m c 15 _)).symm
  · show i ∈ ((View.whole main_v4_2).slice (win0_7.rect t15)).set
    rw [View.set_slice_whole, Rect.mem_set_unit]
    intro a
    have h0 : (i 0 : Nat) < 1 := (i 0).isLt
    have h1 : (i 1 : Nat) < 1024 := (i 1).isLt
    match a with
    | ⟨0, _⟩ => show win0_7.index t15 0 * 1 ≤ (i 0 : Nat) ∧ (i 0 : Nat) < win0_7.index t15 0 * 1 + 1; rw [(index7 t15).1]; omega
    | ⟨1, _⟩ => show win0_7.index t15 1 * 1024 ≤ (i 1 : Nat) ∧ (i 1 : Nat) < win0_7.index t15 1 * 1024 + 1024; rw [(index7 t15).2]; omega

end Cert.KernelInIdeal.Own

end
-- ==== Proof.InReal.lean ====
/- The mixer's input projection's gradient at one row, over the real numbers: `x` the row of `h`, `d` the row of the
   incoming gradient, `za`, `zb` the row of the projection's gradient in its two parts, `g` the norm's gain, `w` the weight. -/
module

public import proofs.«01_k».proof.Proof.FfnReal

@[expose] public section

noncomputable section

namespace Cert.InReal

open Idealize.ShloMosaic Idealize.ShloMosaic.ValueIdx RealRow FfnReal
open scoped BigOperators

/-- The projected channels of the two parts. -/
def iL (k : Fin 3072) : Fin 5120 := ⟨k.val, by omega⟩
def iR (k : Fin 2048) : Fin 5120 := ⟨3072 + k.val, by omega⟩

theorem sum_parts (F : Fin 5120 → ℝ) : ∑ k, F (iL k) + ∑ k, F (iR k) = ∑ f, F f :=
  (Fin.sum_univ_add (M := ℝ) (a := 3072) (b := 2048) F).symm

/-- The two parts side by side. -/
def zz (za : Fin 3072 → ℝ) (zb : Fin 2048 → ℝ) (f : Fin 5120) : ℝ :=
  if h : f.val < 3072 then za ⟨f.val, h⟩ else zb ⟨f.val - 3072, by have := f.isLt; omega⟩

theorem zz_iL (za : Fin 3072 → ℝ) (zb : Fin 2048 → ℝ) (k : Fin 3072) : zz za zb (iL k) = za k := dif_pos k.isLt
theorem zz_iR (za : Fin 3072 → ℝ) (zb : Fin 2048 → ℝ) (k : Fin 2048) : zz za zb (iR k) = zb k := by
  unfold zz
  rw [dif_neg (show ¬ (iR k).val < 3072 by show ¬ 3072 + k.val < 3072; omega)]
  exact congrArg zb (Fin.ext (show 3072 + k.val - 3072 = k.val by omega))

/-- The gradient at the normed row. -/
def duv (za : Fin 3072 → ℝ) (zb : Fin 2048 → ℝ) (w : Fin 1024 → Fin 5120 → ℝ) (j : Fin 1024) : ℝ := ∑ f, zz za zb f * w j f

theorem duv_parts (za : Fin 3072 → ℝ) (zb : Fin 2048 → ℝ) (w : Fin 1024 → Fin 5120 → ℝ) (j : Fin 1024) :
    ∑ k, za k * w j (iL k) + ∑ k, zb k * w j (iR k) = duv za zb w j := by
  unfold duv
  rw [← sum_parts]
  simp only [zz_iL, zz_iR]

/-- The gradient at the row, from the gradient `n` at the normed row. -/
def gh (x d g n : Fin 1024 → ℝ) (j : Fin 1024) : ℝ :=
  d j + rr x * (n j * g j - xh x j * ((∑ k, n k * g k * xh x k) / 1024))

/-- The gradient as the differentiated lines give it: through the normed row, and twice through the root. -/
theorem gh_vjp (x d g n : Fin 1024 → ℝ) (j : Fin 1024) :
    d j + n j * g j * rr x
        + x j * ((∑ k, x k * (n k * g k)) * (-(1 / 2) * (rr x / (ms x + eps))) / 1024)
        + (∑ k, x k * (n k * g k)) * (-(1 / 2) * (rr x / (ms x + eps))) / 1024 * x j
      = gh x d g n j := by
  have hS : ∑ k, n k * g k * xh x k = rr x * ∑ k, x k * (n k * g k) := by
    rw [Finset.mul_sum]; exact Finset.sum_congr rfl fun k _ => by unfold xh; ring
  have hq : rr x / (ms x + eps) = rr x * (rr x * rr x) := by
    have h := rr_sq x
    have h0 := (ms_eps_pos x).ne'
    field_simp
    linear_combination (- rr x) * h
  unfold gh
  rw [hS, hq]
  unfold xh
  ring

end Cert.InReal

end
-- ==== Proof.InPay.lean ====
/- The body of the input projection's gradient on finite blocks: each block it leaves holds the real numbers of InReal. -/
module

public import proofs.«01_k».proof.Proof.InPoint
public import proofs.«01_k».proof.Proof.InReal
public import proofs.«01_k».proof.Proof.RealMat

@[expose] public section

noncomputable section

namespace Cert.KernelInIdeal.Own

open KernelInIdeal KernelInIdeal.Gen Idealize.ShloMosaic Idealize.ShloMosaic.ValueIdx RealRow RealMat FfnReal InReal
open scoped BigOperators

theorem _root_.Cert.RealMat.R2.wT {x : FVec Ideal S5120x1024 .bf16} {f : Fin 5120 → Fin 1024 → ℝ} (h : R2 x f) : R2 (φ := .bf16) (wT (F := Ideal) x) (fun k j => f (iL k) j) := fun k j =>
  (congrArg x (funext fun a => Fin.ext (by
    match a with
    | ⟨0, _⟩ => show 0 + 1 * k.val = k.val; omega
    | ⟨1, _⟩ => show 0 + 1 * j.val = j.val; omega))).trans (h (iL k) j)
theorem _root_.Cert.RealMat.R2.wU {x : FVec Ideal S5120x1024 .bf16} {f : Fin 5120 → Fin 1024 → ℝ} (h : R2 x f) : R2 (φ := .bf16) (wU (F := Ideal) x) (fun k j => f (iR k) j) := fun k j =>
  (congrArg x (funext fun a => Fin.ext (by
    match a with
    | ⟨0, _⟩ => show 3072 + 1 * k.val = 3072 + k.val; omega
    | ⟨1, _⟩ => show 0 + 1 * j.val = j.val; omega))).trans (h (iR k) j)

section
variable {x d : FVec Ideal S512x1024 .f32} {X D : Fin 512 → Fin 1024 → ℝ} {gv : FVec Ideal S1x1024 .f32} {G : Fin 1024 → ℝ}

theorem pay4R (hx : R2 x X) : R2 (k0_pay4 (F := Ideal) x) (fun p _ => rr (X p)) :=
  ((((hx.mul hx).rowSum _ _ _ _ _).div (R2.const thousand_f32) fun _ _ => by norm_num).add (R2.const eps_f32)).rsqrt fun p _ => ms_eps_pos (X p)

theorem pay5R (hx : R2 x X) : R2 (k0_pay5 (F := Ideal) x) (fun p j => xh (X p) j) := hx.mul ((pay4R hx).col _)

theorem pay6R (hg : R2 gv (fun _ j => G j)) : R2 (k0_pay6 (F := Ideal) gv) (fun _ j => G j) := hg.cast _

theorem pay7R (hx : R2 x X) (hg : R2 gv (fun _ j => G j)) : R2 (k0_pay7 (F := Ideal) x gv) (fun p j => nn (X p) G j) :=
  ((pay5R hx).mul ((pay6R hg).row _)).trunc _

theorem pay3R : R2 (k0_pay3 (F := Ideal)) (fun _ _ => 0) := R2.const zero_f32

theorem pay2R {r : FVec Ideal S512x1 .f32} {h dn : FVec Ideal S512x1024 .f32} {R : Fin 512 → ℝ} {H DN : Fin 512 → Fin 1024 → ℝ}
    (hr : R2 r (fun p _ => R p)) (hh : R2 h H) (hg : R2 gv (fun _ j => G j)) (hn : R2 dn DN) (hd : R2 d D) :
    R2 (k0_pay2 (F := Ideal) r h gv dn d) (fun p j => D p j + R p * (DN p j * G j - H p j * ((∑ k, DN p k * G k * H p k) / 1024))) :=
  hd.add ((hr.col _).mul ((hn.mul (hg.row _)).sub
    (hh.mul (((((hn.mul (hg.row _)).mul hh).rowSum _ _ _ _ _).div (R2.const thousand_f32) fun _ _ => by norm_num).col _))))

theorem pay1R {h dn : FVec Ideal S512x1024 .f32} {old : FVec Ideal S1x1024 .f32} {H DN : Fin 512 → Fin 1024 → ℝ} {O : Fin 1024 → ℝ}
    (hh : R2 h H) (hn : R2 dn DN) (ho : R2 old (fun _ j => O j)) :
    R2 (k0_pay1 (F := Ideal) h dn old) (fun _ j => O j + ∑ p, DN p j * H p j) :=
  (ho.cast _).add ((hn.mul hh).colSum _ _ _ _ _)

theorem pay8R {za : FVec Ideal S512x3072 .bf16} {zb : FVec Ideal S512x2048 .bf16} {wa : FVec Ideal S3072x1024 .bf16} {wb : FVec Ideal S2048x1024 .bf16}
    {ZA : Fin 512 → Fin 3072 → ℝ} {ZB : Fin 512 → Fin 2048 → ℝ} {WA : Fin 3072 → Fin 1024 → ℝ} {WB : Fin 2048 → Fin 1024 → ℝ}
    (ha : R2 za ZA) (hwa : R2 wa WA) (hb : R2 zb ZB) (hwb : R2 wb WB) :
    R2 (k0_pay8 (F := Ideal) za wa zb wb) (fun p j => ∑ k, ZA p k * WA k j + ∑ k, ZB p k * WB k j) :=
  (ha.nn hwa R2.zero _ _ rfl).add (hb.nn hwb R2.zero _ _ rfl)
end

section
variable {x0 x1 : FVec Ideal S512x1024 .f32} {x2 : FVec Ideal S512x3072 .bf16} {x3 : FVec Ideal S512x2048 .bf16} {x4 : FVec Ideal S1x1024 .f32} {w : FVec Ideal S5120x1024 .bf16}
  {X D : Fin 512 → Fin 1024 → ℝ} {Za : Fin 512 → Fin 3072 → ℝ} {Zb : Fin 512 → Fin 2048 → ℝ} {G : Fin 1024 → ℝ} {W : Fin 1024 → Fin 5120 → ℝ}
  (h0 : R2 x0 X) (h1 : R2 x1 D) (h2 : R2 x2 Za) (h3 : R2 x3 Zb) (h4 : R2 x4 fun _ j => G j) (hw : R2 w fun f j => W j f)

include h2 h3 hw in
theorem ptDuR : R2 (φ := .f32) (ptDu (F := Ideal) x2 x3 w) (fun p j => duv (Za p) (Zb p) W j) :=
  (pay8R h2 hw.wT h3 hw.wU).congr fun p j => duv_parts ..

include h0 h1 h2 h3 h4 hw in
theorem pt5R : R2 (φ := .f32) (pt5 (F := Ideal) x0 x1 x2 x3 x4 w) (fun p j => gh (X p) (D p) G (duv (Za p) (Zb p) W) j) :=
  pay2R (pay4R h0) (pay5R h0) (pay6R h4) (ptDuR h2 h3 hw) h1

include h0 h2 h3 hw in
theorem pt7R {old : FVec Ideal S1x1024 .f32} {O : Fin 1024 → ℝ} (ho : R2 old fun _ j => O j) :
    R2 (φ := .f32) (pt7 (F := Ideal) x0 x2 x3 old w) (fun _ j => O j + ∑ p, duv (Za p) (Zb p) W j * xh (X p) j) :=
  pay1R (pay5R h0) (ptDuR h2 h3 hw) ho
end

end Cert.KernelInIdeal.Own

end
-- ==== Proof.InRef.lean ====
/- The reference of the input projection's gradient at finite arguments: each of its operations' elements is the
   real number the gradient has there (InReal). One lemma per operation, in program order. -/
module

public import proofs.«01_k».proof.Proof.InReal
public import proofs.«01_k».proof.Proof.Gen.ReferenceInIdeal.Read

@[expose] public section

noncomputable section

namespace Cert.InRef

open ReferenceInIdeal ReferenceInIdeal.Read RealRow FfnReal InReal Idealize.ShloMosaic Idealize.ShloMosaic.ValueIdx
open scoped BigOperators

variable (X D : S8192x1024.Idx → ℝ) (Za : S8192x3072.Idx → ℝ) (Zb : S8192x2048.Idx → ℝ) (G : S1024.Idx → ℝ) (W : S1024x5120.Idx → ℝ)

theorem idx23 (i : S1x1024.Idx) : idx_main_v23 i = ix1 (i 1) := by
  have h0 : (i 0).val < 1 := (i 0).isLt
  funext a
  match a with
  | ⟨0, _⟩ => exact Fin.ext (show (i 0).val * 1024 + (i 1).val = (i 1).val by omega)

theorem idx29 (i : S8192x1.Idx) : idx_main_v29 i = ix1 (i 0) := by
  have h1 : (i 1).val < 1 := (i 1).isLt
  funext a
  match a with
  | ⟨0, _⟩ => exact Fin.ext (show (i 0).val * 1 + (i 1).val = (i 0).val by omega)

theorem r_v9 (i : S8192x1.Idx) : val_main_v9 (F := Ideal) (up X) i = (((ms (at2 X (i 0)) + eps) : ℝ) : EReal) :=
  (val_main_v9_apply _ i).trans (addR ((val_main_v7_apply _ i).trans (hdivR (by norm_num) ((val_main_v5_apply _ i).trans ((val_main_v4_apply _ _).trans (sum0R ((val_main_cst_apply _).trans zero_f32) fun k => ((val_main_v3_apply _ _).trans (mulR (up2 X _) (up2 X _)))))) ((val_main_v6_apply  i).trans ((val_main_cst_0_apply _).trans thousand_f32)))) ((val_main_v8_apply  i).trans ((val_main_cst_1_apply _).trans eps_f32)))

theorem r_v10 (i : S8192x1.Idx) : val_main_v10 (F := Ideal) (up X) i = (((rr (at2 X (i 0))) : ℝ) : EReal) :=
  (val_main_v10_apply _ i).trans (hrsqrtR (ms_eps_pos _) (r_v9 X i))

theorem r_v11 (i : S8192x1.Idx) : val_main_v11 (F := Ideal) (up X) i = (((rr (at2 X (i 0)) / (ms (at2 X (i 0)) + eps)) : ℝ) : EReal) :=
  (val_main_v11_apply _ i).trans (hdivR (ms_eps_pos _).ne' (r_v10 X i) (r_v9 X i))

theorem r_cst_2 (i : S_.Idx) : val_main_cst_2 (F := Ideal)  i = (((-(1 / 2)) : ℝ) : EReal) :=
  (val_main_cst_2_apply i).trans neg_half_f32

theorem r_v12 (i : S8192x1.Idx) : val_main_v12 (F := Ideal)  i = (((-(1 / 2)) : ℝ) : EReal) :=
  (val_main_v12_apply  i).trans (r_cst_2 _)

theorem r_v13 (i : S8192x1.Idx) : val_main_v13 (F := Ideal) (up X) i = (((-(1 / 2) * (rr (at2 X (i 0)) / (ms (at2 X (i 0)) + eps))) : ℝ) : EReal) :=
  (val_main_v13_apply _ i).trans (mulR (r_v12 i) (r_v11 X i))

theorem r_v14 (i : S8192x1024.Idx) : val_main_v14 (F := Ideal) (up X) i = (((rr (at2 X (i 0))) : ℝ) : EReal) :=
  (val_main_v14_apply _ i).trans (r_v10 X _)

theorem r_v15 (i : S8192x1024.Idx) : val_main_v15 (F := Ideal) (up X) i = (((xh (at2 X (i 0)) (i 1)) : ℝ) : EReal) :=
  (val_main_v15_apply _ i).trans (mulR (up2 X i) (r_v14 X i))

theorem r_v0 (i : S8192x3072.Idx) : val_main_v0 (F := Ideal) (up Za) i = (((at2 Za (i 0) (i 1)) : ℝ) : EReal) :=
  (val_main_v0_apply _ i).trans (up2 Za i)

theorem r_v1 (i : S8192x2048.Idx) : val_main_v1 (F := Ideal) (up Zb) i = (((at2 Zb (i 0) (i 1)) : ℝ) : EReal) :=
  (val_main_v1_apply _ i).trans (up2 Zb i)

theorem r_v2 (i : S8192x5120.Idx) : val_main_v2 (F := Ideal) (up Za) (up Zb) i = ((zz (at2 Za (i 0)) (at2 Zb (i 0)) (i 1) : ℝ) : EReal) := by
  have h1 : (i 1).val < 5120 := (i 1).isLt
  unfold val_main_v2
  by_cases h : (i 1).val < 3072
  · refine (concatenate_apply_piece (1 : Fin S8192x5120.rank) _ _ i 0 (by simp) S8192x3072 _ rfl rfl 0 rfl
      (ix2 (i 0) ⟨(i 1).val, h⟩) (fun b hb => ?_) (Nat.zero_add _)).trans ?_
    · match b with
      | ⟨0, _⟩ => rfl
      | ⟨1, _⟩ => exact absurd rfl hb
    · exact (r_v0 Za _).trans (congrArg (fun v : ℝ => (v : EReal)) (zz_iL (at2 Za (i 0)) (at2 Zb (i 0)) ⟨(i 1).val, h⟩).symm)
  · refine (concatenate_apply_piece (1 : Fin S8192x5120.rank) _ _ i 1 (by simp) S8192x2048 _ rfl rfl 3072 rfl
      (ix2 (i 0) ⟨(i 1).val - 3072, by omega⟩) (fun b hb => ?_) (show 3072 + ((i 1).val - 3072) = (i 1).val by omega)).trans ?_
    · match b with
      | ⟨0, _⟩ => rfl
      | ⟨1, _⟩ => exact absurd rfl hb
    · refine (r_v1 Zb _).trans (congrArg (fun v : ℝ => (v : EReal)) ?_)
      show Zb (ix2 (i 0) ⟨(i 1).val - 3072, _⟩) = _
      unfold zz
      rw [dif_neg h]
      rfl

theorem r_v20 (i : S8192x1024.Idx) : val_main_v20 (F := Ideal) (up Za) (up Zb) (up W) i = ((((duv (at2 Za (i 0)) (at2 Zb (i 0)) (at2 W)) (i 1)) : ℝ) : EReal) :=
  (val_main_v20_apply _ _ _ i).trans (dotR (fun k => r_v2 Za Zb _) fun k => up2 W _)

theorem r_v21 (i : S8192x1024.Idx) : val_main_v21 (F := Ideal) (up X) (up Za) (up Zb) (up W) i = (((xh (at2 X (i 0)) (i 1) * (duv (at2 Za (i 0)) (at2 Zb (i 0)) (at2 W)) (i 1)) : ℝ) : EReal) :=
  (val_main_v21_apply _ _ _ _ i).trans (mulR (r_v15 X i) (r_v20 Za Zb W i))

theorem r_cst_3 (i : S_.Idx) : val_main_cst_3 (F := Ideal)  i = (((0) : ℝ) : EReal) :=
  (val_main_cst_3_apply i).trans zero_f32

theorem r_v22 (i : S1024.Idx) : val_main_v22 (F := Ideal) (up X) (up Za) (up Zb) (up W) i = (((∑ t, xh (at2 X t) (i 0) * duv (at2 Za t) (at2 Zb t) (at2 W) (i 0)) : ℝ) : EReal) :=
  (val_main_v22_apply _ _ _ _ i).trans (sum0R (r_cst_3 _) fun k => r_v21 X Za Zb W _)

theorem r_v23 (i : S1x1024.Idx) : val_main_v23 (F := Ideal) (up X) (up Za) (up Zb) (up W) i = (((∑ t, xh (at2 X t) (i 1) * duv (at2 Za t) (at2 Zb t) (at2 W) (i 1)) : ℝ) : EReal) :=
  (val_main_v23_apply _ _ _ _ i).trans ((congrArg (val_main_v22 (F := Ideal) (up X) (up Za) (up Zb) (up W)) (idx23 i)).trans (r_v22 X Za Zb W (ix1 (i 1))))

theorem r_v25 (i : S8192x1024.Idx) : val_main_v25 (F := Ideal) (up Za) (up Zb) (up G) (up W) i = ((((duv (at2 Za (i 0)) (at2 Zb (i 0)) (at2 W)) (i 1) * at1 G (i 1)) : ℝ) : EReal) :=
  (val_main_v25_apply _ _ _ _ i).trans (mulR (r_v20 Za Zb W i) ((val_main_v24_apply _ i).trans ((val_main_v16_apply _ _).trans (up1 G _))))

theorem r_cst_4 (i : S_.Idx) : val_main_cst_4 (F := Ideal)  i = (((0) : ℝ) : EReal) :=
  (val_main_cst_4_apply i).trans zero_f32

theorem r_v26 (i : S1024.Idx) : val_main_v26 (F := Ideal) (up X) (up Za) (up Zb) (up W) i = (((∑ t, xh (at2 X t) (i 0) * duv (at2 Za t) (at2 Zb t) (at2 W) (i 0)) : ℝ) : EReal) :=
  (val_main_v26_apply _ _ _ _ i).trans ((sum0R (r_cst_4 _) fun k => r_v23 X Za Zb W _).trans (congrArg _ (Fin.sum_univ_one _)))

theorem r_v27 (i : S8192x1024.Idx) : val_main_v27 (F := Ideal) (up X) (up Za) (up Zb) (up G) (up W) i = (((at2 X (i 0) (i 1) * ((duv (at2 Za (i 0)) (at2 Zb (i 0)) (at2 W)) (i 1) * at1 G (i 1))) : ℝ) : EReal) :=
  (val_main_v27_apply _ _ _ _ _ i).trans (mulR (up2 X i) (r_v25 Za Zb G W i))

theorem r_cst_5 (i : S_.Idx) : val_main_cst_5 (F := Ideal)  i = (((0) : ℝ) : EReal) :=
  (val_main_cst_5_apply i).trans zero_f32

theorem r_v28 (i : S8192.Idx) : val_main_v28 (F := Ideal) (up X) (up Za) (up Zb) (up G) (up W) i = ((((∑ k, at2 X (i 0) k * ((duv (at2 Za (i 0)) (at2 Zb (i 0)) (at2 W)) k * at1 G k))) : ℝ) : EReal) :=
  (val_main_v28_apply _ _ _ _ _ i).trans (sum0R (r_cst_5 _) fun k => r_v27 X Za Zb G W _)

theorem r_v29 (i : S8192x1.Idx) : val_main_v29 (F := Ideal) (up X) (up Za) (up Zb) (up G) (up W) i = ((((∑ k, at2 X (i 0) k * ((duv (at2 Za (i 0)) (at2 Zb (i 0)) (at2 W)) k * at1 G k))) : ℝ) : EReal) :=
  (val_main_v29_apply _ _ _ _ _ i).trans ((congrArg (val_main_v28 (F := Ideal) (up X) (up Za) (up Zb) (up G) (up W)) (idx29 i)).trans (r_v28 X Za Zb G W (ix1 (i 0))))

theorem r_v30 (i : S8192x1024.Idx) : val_main_v30 (F := Ideal) (up X) i = (((rr (at2 X (i 0))) : ℝ) : EReal) :=
  (val_main_v30_apply _ i).trans (r_v10 X _)

theorem r_v31 (i : S8192x1024.Idx) : val_main_v31 (F := Ideal) (up X) (up Za) (up Zb) (up G) (up W) i = ((((duv (at2 Za (i 0)) (at2 Zb (i 0)) (at2 W)) (i 1) * at1 G (i 1) * rr (at2 X (i 0))) : ℝ) : EReal) :=
  (val_main_v31_apply _ _ _ _ _ i).trans (mulR (r_v25 Za Zb G W i) (r_v30 X i))

theorem r_v32 (i : S8192x1024.Idx) : val_main_v32 (F := Ideal) (up X) (up D) (up Za) (up Zb) (up G) (up W) i = (((at2 D (i 0) (i 1) + (duv (at2 Za (i 0)) (at2 Zb (i 0)) (at2 W)) (i 1) * at1 G (i 1) * rr (at2 X (i 0))) : ℝ) : EReal) :=
  (val_main_v32_apply _ _ _ _ _ _ i).trans (addR (up2 D i) (r_v31 X Za Zb G W i))

theorem r_v33 (i : S8192x1.Idx) : val_main_v33 (F := Ideal) (up X) (up Za) (up Zb) (up G) (up W) i = ((((∑ k, at2 X (i 0) k * ((duv (at2 Za (i 0)) (at2 Zb (i 0)) (at2 W)) k * at1 G k)) * (-(1 / 2) * (rr (at2 X (i 0)) / (ms (at2 X (i 0)) + eps)))) : ℝ) : EReal) :=
  (val_main_v33_apply _ _ _ _ _ i).trans (mulR (r_v29 X Za Zb G W i) (r_v13 X i))

theorem r_cst_6 (i : S_.Idx) : val_main_cst_6 (F := Ideal)  i = (((1024) : ℝ) : EReal) :=
  (val_main_cst_6_apply i).trans thousand_f32

theorem r_v34 (i : S8192x1.Idx) : val_main_v34 (F := Ideal)  i = (((1024) : ℝ) : EReal) :=
  (val_main_v34_apply  i).trans (r_cst_6 _)

theorem r_v35 (i : S8192x1.Idx) : val_main_v35 (F := Ideal) (up X) (up Za) (up Zb) (up G) (up W) i = ((((∑ k, at2 X (i 0) k * ((duv (at2 Za (i 0)) (at2 Zb (i 0)) (at2 W)) k * at1 G k)) * (-(1 / 2) * (rr (at2 X (i 0)) / (ms (at2 X (i 0)) + eps))) / 1024) : ℝ) : EReal) :=
  (val_main_v35_apply _ _ _ _ _ i).trans (hdivR (by norm_num) (r_v33 X Za Zb G W i) (r_v34 i))

theorem r_cst_7 (i : S_.Idx) : val_main_cst_7 (F := Ideal)  i = (((0) : ℝ) : EReal) :=
  (val_main_cst_7_apply i).trans zero_f32

theorem r_v36 (i : S8192.Idx) : val_main_v36 (F := Ideal) (up X) (up Za) (up Zb) (up G) (up W) i = ((((∑ k, at2 X (i 0) k * ((duv (at2 Za (i 0)) (at2 Zb (i 0)) (at2 W)) k * at1 G k)) * (-(1 / 2) * (rr (at2 X (i 0)) / (ms (at2 X (i 0)) + eps))) / 1024) : ℝ) : EReal) :=
  (val_main_v36_apply _ _ _ _ _ i).trans ((sum0R (r_cst_7 _) fun k => r_v35 X Za Zb G W _).trans (congrArg _ (Fin.sum_univ_one _)))

theorem r_v37 (i : S8192x1024.Idx) : val_main_v37 (F := Ideal) (up X) (up Za) (up Zb) (up G) (up W) i = ((((∑ k, at2 X (i 0) k * ((duv (at2 Za (i 0)) (at2 Zb (i 0)) (at2 W)) k * at1 G k)) * (-(1 / 2) * (rr (at2 X (i 0)) / (ms (at2 X (i 0)) + eps))) / 1024) : ℝ) : EReal) :=
  (val_main_v37_apply _ _ _ _ _ i).trans (r_v36 X Za Zb G W _)

theorem r_v38 (i : S8192x1024.Idx) : val_main_v38 (F := Ideal) (up X) (up Za) (up Zb) (up G) (up W) i = (((at2 X (i 0) (i 1) * ((∑ k, at2 X (i 0) k * ((duv (at2 Za (i 0)) (at2 Zb (i 0)) (at2 W)) k * at1 G k)) * (-(1 / 2) * (rr (at2 X (i 0)) / (ms (at2 X (i 0)) + eps))) / 1024)) : ℝ) : EReal) :=
  (val_main_v38_apply _ _ _ _ _ i).trans (mulR (up2 X i) (r_v37 X Za Zb G W i))

theorem r_v39 (i : S8192x1024.Idx) : val_main_v39 (F := Ideal) (up X) (up D) (up Za) (up Zb) (up G) (up W) i = (((at2 D (i 0) (i 1) + (duv (at2 Za (i 0)) (at2 Zb (i 0)) (at2 W)) (i 1) * at1 G (i 1) * rr (at2 X (i 0)) + at2 X (i 0) (i 1) * ((∑ k, at2 X (i 0) k * ((duv (at2 Za (i 0)) (at2 Zb (i 0)) (at2 W)) k * at1 G k)) * (-(1 / 2) * (rr (at2 X (i 0)) / (ms (at2 X (i 0)) + eps))) / 1024)) : ℝ) : EReal) :=
  (val_main_v39_apply _ _ _ _ _ _ i).trans (addR (r_v32 X D Za Zb G W i) (r_v38 X Za Zb G W i))

theorem r_v40 (i : S8192x1024.Idx) : val_main_v40 (F := Ideal) (up X) (up Za) (up Zb) (up G) (up W) i = ((((∑ k, at2 X (i 0) k * ((duv (at2 Za (i 0)) (at2 Zb (i 0)) (at2 W)) k * at1 G k)) * (-(1 / 2) * (rr (at2 X (i 0)) / (ms (at2 X (i 0)) + eps))) / 1024 * at2 X (i 0) (i 1)) : ℝ) : EReal) :=
  (val_main_v40_apply _ _ _ _ _ i).trans (mulR (r_v37 X Za Zb G W i) (up2 X i))

theorem r_v41 (i : S8192x1024.Idx) : val_main_v41 (F := Ideal) (up X) (up D) (up Za) (up Zb) (up G) (up W) i = (((gh (at2 X (i 0)) (at2 D (i 0)) (at1 G) (duv (at2 Za (i 0)) (at2 Zb (i 0)) (at2 W)) (i 1)) : ℝ) : EReal) :=
  (val_main_v41_apply _ _ _ _ _ _ i).trans ((addR (r_v39 X D Za Zb G W i) (r_v40 X Za Zb G W i)).trans (congrArg _ (gh_vjp ..)))

theorem r_v55 (i : S8192x1024.Idx) : val_main_v55 (F := Ideal) (up X) (up G) i = (((nn (at2 X (i 0)) (at1 G) (i 1)) : ℝ) : EReal) :=
  (val_main_v55_apply _ _ i).trans ((val_main_v54_apply _ _ i).trans (mulR ((val_main_v51_apply _ i).trans (mulR (up2 X i) ((val_main_v50_apply _ i).trans ((val_main_v49_apply _ _).trans (hrsqrtR (ms_eps_pos _) ((val_main_v48_apply _ _).trans (addR ((val_main_v46_apply _ _).trans (hdivR (by norm_num) ((val_main_v44_apply _ _).trans ((val_main_v43_apply _ _).trans (sum0R ((val_main_cst_8_apply _).trans zero_f32) fun k => ((val_main_v42_apply _ _).trans (mulR (up2 X _) (up2 X _)))))) ((val_main_v45_apply  _).trans ((val_main_cst_9_apply _).trans thousand_f32)))) ((val_main_v47_apply  _).trans ((val_main_cst_10_apply _).trans eps_f32))))))))) ((val_main_v53_apply _ i).trans ((val_main_v52_apply _ _).trans (up1 G _)))))

theorem r_v56 (i : S1x1024.Idx) : val_main_v56 (F := Ideal) (up X) (up Za) (up Zb) (up W) i = (((∑ t, xh (at2 X t) (i 1) * duv (at2 Za t) (at2 Zb t) (at2 W) (i 1)) : ℝ) : EReal) :=
  (val_main_v56_apply _ _ _ _ i).trans (r_v26 X Za Zb W _)

end Cert.InRef

end
-- ==== Proof.InValue.lean ====
/- The arrays the input projection's gradient leaves, at finite arguments, are the reference's: block by block from the
   point's values (InPay), and for the gain's gradient the sum over all blocks. -/
module

public import proofs.«01_k».proof.Proof.InSweep
public import proofs.«01_k».proof.Proof.InPay
public import Idealize.ShloMosaic.Lib.StableHlo.Run
public import proofs.«01_k».proof.Proof.InRef

@[expose] public section

set_option maxRecDepth 16384

noncomputable section

namespace Cert.KernelInIdeal.Own

open KernelInIdeal KernelInIdeal.Gen Idealize.ShloMosaic Idealize.ShloMosaic.TcCoe Idealize.SL.Sem Idealize.ShloMosaic.ValueIdx

variable (m : (ℓ : Loc nD τ sig) → Buf (Elt Ideal) ℓ) (c : Dev nD)

theorem V0 : (V m c main_v0 : S1x1024.Idx → Ideal .f32) =
    shapeCast S1x1024 (m ((c : Thread nD τ).loc main_arg4) : S1024.Idx → Ideal .f32) shapeCasts_S1024_S1x1024 := by
  unfold V
  simp only [hostOps0, List.flatten_cons, List.flatten_nil, List.append_nil, List.cons_append, List.nil_append]
  after_results_simp <;> rfl

theorem V3 : (V m c main_v3 : S4x1280x1024.Idx → Ideal .bf16) =
    (shapeCast S4x1280x1024 (truncf .bf16 (transpose S5120x1024 [1, 0] (m ((c : Thread nD τ).loc main_arg5) : S1024x5120.Idx → Ideal .f32) transposes_S1024x5120_S5120x1024_1_0) bitsLt_bf16_f32) shapeCasts_S5120x1024_S4x1280x1024 : S4x1280x1024.Idx → Ideal .bf16) := by
  unfold V
  simp only [hostOps0, List.flatten_cons, List.flatten_nil, List.append_nil, List.cons_append, List.nil_append]
  after_results_simp <;> rfl

/-- A weight of 5120 rows cut into four slabs of 1280. -/
theorem slab_apply {α : Type} (x : S5120x1024.Idx → α) (q : Fin 4) (r : Fin 1280) (j : Fin 1024) (f : Fin 5120) (hf : (f : ℕ) = 1280 * q.val + r.val) :
    shapeCast S4x1280x1024 x shapeCasts_S5120x1024_S4x1280x1024 (ix3 q r j) = x (ix2 f j) :=
  shapeCast_apply x _ _ _ (by
    rw [Shape.rowMajor_val_three, Shape.rowMajor_val_two]
    show f.val * 1024 + j.val = (q.val * 1280 + r.val) * 1024 + j.val
    omega)

theorem wI_apply (f : Fin 5120) (j : Fin 1024) :
    (wI m c : S5120x1024.Idx → EReal) (ix2 f j) = (m ((c : Thread nD τ).loc main_arg5) : S1024x5120.Idx → EReal) (ix2 j f) := by
  have hf : (f : ℕ) < 5120 := f.isLt
  unfold wI wG
  refine (congrFun (V3 m c) _).trans ?_
  refine (slab_apply _ _ _ _ f (by show f.val = 1280 * (f.val / 1280) + (0 + f.val % 1280); omega)).trans ?_
  rw [truncf_apply]
  exact transpose_ix2_apply _ _ _ _

theorem gain_apply (p : Fin 1) (j : Fin 1024) :
    (V m c main_v0 : S1x1024.Idx → EReal) (ix2 p j) = (m ((c : Thread nD τ).loc main_arg4) : S1024.Idx → EReal) (ix1 j) := by
  rw [V0]
  exact shapeCast_apply (s := S1024) _ _ _ _ (by
    rw [Shape.rowMajor_val_one, Shape.rowMajor_val_two]
    have hp : (p : ℕ) < 1 := p.isLt
    show j.val = p.val * 1024 + j.val
    omega)

end Cert.KernelInIdeal.Own

namespace Cert.KernelInIdeal.Own

open KernelInIdeal KernelInIdeal.Gen Idealize.ShloMosaic Idealize.ShloMosaic.TcCoe Idealize.SL.Sem Idealize.ShloMosaic.ValueIdx RealMat FfnReal InReal InRef
open scoped BigOperators

/-- Row `p` of block `t`. -/
def rowAt (t : Fin cfg0.N) (p : Fin 512) : Fin 8192 :=
  ⟨512 * t.val + p.val, by have := t.isLt; have hN : cfg0.N = 16 := N_0; omega⟩

/-- The block a row lies in. -/
def blkOf (q : Fin 8192) : Fin cfg0.N := ⟨q.val / 512, by have hN : cfg0.N = 16 := N_0; omega⟩
def rowIn (q : Fin 8192) : Fin 512 := ⟨q.val % 512, by omega⟩
theorem rowAt_eq (q : Fin 8192) : rowAt (blkOf q) (rowIn q) = q := Fin.ext (show 512 * (q.val / 512) + q.val % 512 = q.val by omega)

/-- A sum over all rows is the sum over blocks of the sums over their rows. -/
theorem sum_rows (f : ℕ → ℝ) (N : ℕ) : ∑ t ∈ Finset.range N, ∑ p : Fin 512, f (512 * t + p.val) = ∑ q ∈ Finset.range (512 * N), f q := by
  induction N with
  | zero => rfl
  | succ N ih =>
    rw [Finset.sum_range_succ, ih, show 512 * (N + 1) = 512 * N + 512 by ring, Finset.sum_range_add, Fin.sum_univ_eq_sum_range fun k => f (512 * N + k)]

variable (m : (ℓ : Loc nD τ sig) → Buf (Elt Ideal) ℓ) (c : Dev nD)
variable {X D : S8192x1024.Idx → ℝ} {Za : S8192x3072.Idx → ℝ} {Zb : S8192x2048.Idx → ℝ} {G : S1024.Idx → ℝ} {W : S1024x5120.Idx → ℝ}
  (e0 : (m ((c : Thread nD τ).loc main_arg0) : S8192x1024.Idx → EReal) = up X) (e1 : (m ((c : Thread nD τ).loc main_arg1) : S8192x1024.Idx → EReal) = up D)
  (e2 : (m ((c : Thread nD τ).loc main_arg2) : S8192x3072.Idx → EReal) = up Za) (e3 : (m ((c : Thread nD τ).loc main_arg3) : S8192x2048.Idx → EReal) = up Zb)
  (e4 : (m ((c : Thread nD τ).loc main_arg4) : S1024.Idx → EReal) = up G)
  (e5 : (m ((c : Thread nD τ).loc main_arg5) : S1024x5120.Idx → EReal) = up W)

include e0 in
theorem rows0 (t : Fin cfg0.N) : R2 (φ := .f32) (iblk m c 0 t : Vec Ideal S512x1024 .f32) (fun p => at2 X (rowAt t p)) := fun p j =>
  (blk0 m c t p j (rowAt t p) rfl).trans (congrFun ((V_main_arg0 m c).trans e0) _)

include e1 in
theorem rows1 (t : Fin cfg0.N) : R2 (φ := .f32) (iblk m c 1 t : Vec Ideal S512x1024 .f32) (fun p => at2 D (rowAt t p)) := fun p j =>
  (blk1 m c t p j (rowAt t p) rfl).trans (congrFun ((V_main_arg1 m c).trans e1) _)

include e2 in
theorem rows2 (t : Fin cfg0.N) : R2 (φ := .bf16) (iblk m c 2 t : Vec Ideal S512x3072 .bf16) (fun p => at2 Za (rowAt t p)) := fun p j =>
  (blk2 m c t p j (rowAt t p) rfl).trans (congrFun ((V_main_arg2 m c).trans e2) _)

include e3 in
theorem rows3 (t : Fin cfg0.N) : R2 (φ := .bf16) (iblk m c 3 t : Vec Ideal S512x2048 .bf16) (fun p => at2 Zb (rowAt t p)) := fun p j =>
  (blk3 m c t p j (rowAt t p) rfl).trans (congrFun ((V_main_arg3 m c).trans e3) _)

include e4 in
theorem rows4 (t : Fin cfg0.N) : R2 (φ := .f32) (iblk m c 4 t : Vec Ideal S1x1024 .f32) (fun _ j => at1 G j) := fun p j =>
  (blk4 m c t p j).trans ((gain_apply m c p j).trans (congrFun e4 _))
include e5 in
theorem heldI : R2 (φ := .bf16) (wI m c : Vec Ideal S5120x1024 .bf16) (fun f j => at2 W j f) := fun f j => (wI_apply m c f j).trans (congrFun e5 _)

include e0 e1 e2 e3 e4 e5 in
theorem val5 : ((dats m 0 c).arrAt 5 cfg0.N : S8192x1024.Idx → EReal) = ReferenceInIdeal.Read.val_main_v41 (F := Ideal) (up X) (up D) (up Za) (up Zb) (up G) (up W) := by
  have key : ∀ (q : Fin 8192) (j : Fin 1024), ((dats m 0 c).arrAt 5 cfg0.N : S8192x1024.Idx → EReal) (ix2 q j) = ReferenceInIdeal.Read.val_main_v41 (F := Ideal) (up X) (up D) (up Za) (up Zb) (up G) (up W) (ix2 q j) := fun q j => by
    have hq : (q : ℕ) = 512 * (blkOf q).val + (rowIn q).val := (congrArg Fin.val (rowAt_eq q)).symm
    refine (arr5 m c (blkOf q) (rowIn q) j q hq).trans ((pt5R (rows0 m c e0 _) (rows1 m c e1 _) (rows2 m c e2 _) (rows3 m c e3 _) (rows4 m c e4 _) (heldI m c e5) (rowIn q) j).trans ?_)
    dsimp only
    rw [rowAt_eq]
    exact (r_v41 X D Za Zb G W (ix2 q j)).symm
  refine funext fun (i : S8192x1024.Idx) => ?_
  rw [eq_ix2 i]
  exact key _ _

include e0 e4 in
theorem val6 : ((dats m 0 c).arrAt 6 cfg0.N : S8192x1024.Idx → EReal) = ReferenceInIdeal.Read.val_main_v55 (F := Ideal) (up X) (up G) := by
  have key : ∀ (q : Fin 8192) (j : Fin 1024), ((dats m 0 c).arrAt 6 cfg0.N : S8192x1024.Idx → EReal) (ix2 q j) = ReferenceInIdeal.Read.val_main_v55 (F := Ideal) (up X) (up G) (ix2 q j) := fun q j => by
    have hq : (q : ℕ) = 512 * (blkOf q).val + (rowIn q).val := (congrArg Fin.val (rowAt_eq q)).symm
    refine (arr6 m c (blkOf q) (rowIn q) j q hq).trans ((pay7R (rows0 m c e0 _) (rows4 m c e4 _) (rowIn q) j).trans ?_)
    dsimp only
    rw [rowAt_eq]
    exact (r_v55 X G (ix2 q j)).symm
  refine funext fun (i : S8192x1024.Idx) => ?_
  rw [eq_ix2 i]
  exact key _ _

/-- The gain's gradient at one row. -/
def dgRow (X : S8192x1024.Idx → ℝ) (Za : S8192x3072.Idx → ℝ) (Zb : S8192x2048.Idx → ℝ) (W : S1024x5120.Idx → ℝ) (j : Fin 1024) (q : ℕ) : ℝ :=
  if h : q < 8192 then duv (at2 Za ⟨q, h⟩) (at2 Zb ⟨q, h⟩) (at2 W) j * xh (at2 X ⟨q, h⟩) j else 0

theorem dgRow_at (t : Fin cfg0.N) (p : Fin 512) (j : Fin 1024) :
    dgRow X Za Zb W j (512 * t.val + p.val) = duv (at2 Za (rowAt t p)) (at2 Zb (rowAt t p)) (at2 W) j * xh (at2 X (rowAt t p)) j :=
  dif_pos (rowAt t p).isLt

include e0 e2 e3 e5 in
theorem dgs_sum : ∀ (n : ℕ) (h : n < cfg0.N), R2 (φ := .f32) (dgs m c n h : Vec Ideal S1x1024 .f32)
    (fun _ j => ∑ t ∈ Finset.range (n + 1), ∑ p : Fin 512, dgRow X Za Zb W j (512 * t + p.val))
  | 0, h => (pt7R (rows0 m c e0 _) (rows2 m c e2 _) (rows3 m c e3 _) (heldI m c e5) pay3R).congr fun p j => by
      rw [Finset.sum_range_one, zero_add]
      exact Finset.sum_congr rfl fun p _ => (dgRow_at ⟨0, h⟩ p j).symm
  | n + 1, h => (pt7R (rows0 m c e0 _) (rows2 m c e2 _) (rows3 m c e3 _) (heldI m c e5) (dgs_sum n (Nat.lt_of_succ_lt h))).congr fun p j => by
      rw [Finset.sum_range_succ _ (n + 1)]
      exact congrArg _ (Finset.sum_congr rfl fun p _ => (dgRow_at ⟨n + 1, h⟩ p j).symm)

include e0 e2 e3 e5 in
theorem val7 : ((dats m 0 c).arrAt 7 cfg0.N : S1x1024.Idx → EReal) = ReferenceInIdeal.Read.val_main_v56 (F := Ideal) (up X) (up Za) (up Zb) (up W) := by
  have key : ∀ (q : Fin 1) (j : Fin 1024), (dgs m c 15 lt15 : S1x1024.Idx → EReal) (ix2 q j) = ReferenceInIdeal.Read.val_main_v56 (F := Ideal) (up X) (up Za) (up Zb) (up W) (ix2 q j) := fun q j => by
    refine (dgs_sum m c e0 e2 e3 e5 15 lt15 q j).trans ?_
    dsimp only
    rw [sum_rows, ← Fin.sum_univ_eq_sum_range]
    refine Eq.trans (congrArg _ (Finset.sum_congr rfl fun q _ => ?_)) (r_v56 X Za Zb W (ix2 q j)).symm
    exact (dif_pos q.isLt).trans (mul_comm _ _)
  rw [arr7]
  refine funext fun (i : S1x1024.Idx) => ?_
  rw [eq_ix2 i]
  exact key _ _

end Cert.KernelInIdeal.Own

end
-- ==== Proof.InWords.lean ====
/- The kernel at machine words: its program is the ideal reading's program, so one frame serves both. -/
module

public import proofs.«01_k».proof.Defs
public import proofs.«01_k».proof.Proof.Gen.KernelIn
public import proofs.«01_k».proof.Proof.InFrame

@[expose] public section

noncomputable section

namespace Cert.Proof.In

open Idealize.ShloMosaic Idealize.SL.Sem
set_option maxHeartbeats 0

theorem bodies : KernelIn.defs₀ (F := Bits) = KernelInIdeal.defs₀ (F := Bits) := by
  unfold KernelIn.defs₀ KernelInIdeal.defs₀
  refine congrArg Defs.onTc ?_
  funext l a
  match l, a with
  | 0, (t, s) => rfl

theorem tables : (KernelIn.defs (F := Bits)) = (KernelInIdeal.defs (F := Bits)) :=
  congrArg (Pipeline.defs (KernelInIdeal.pcfgs (F := Bits))) bodies

theorem mains : KernelIn.main (F := Bits) = KernelInIdeal.main (F := Bits) := rfl

theorem frame_kernel : Cert.quiescent_KernelIn := by
  intro m ρ _
  rw [tables, mains]
  exact KernelInIdeal.Own.frame (F := Bits) m ρ

end Cert.Proof.In

end
-- ==== Proof.InFinite.lean ====
/- The precondition of the input projection's gradient: its printed facts, and what it says — every argument is an array of real numbers. -/
module

public import proofs.«01_k».proof.Defs
public import proofs.«01_k».proof.Proof.FfnFinite

@[expose] public section

noncomputable section

namespace Cert.InFinite

open Idealize.ShloMosaic Idealize.SL.Sem Pre_finite_in FfnReal FfnFinite

instance facts : Pre_finite_in.Facts where
  bcast_S_S8192x1024 := by decide
  reducesTo_S8192x1024_S_d0_1 := by decide
  h_S_ := by decide
  bitsLt_bf16_f32 := by decide
  bcast_S_S8192x3072 := by decide
  reducesTo_S8192x3072_S_d0_1 := by decide
  bcast_S_S8192x2048 := by decide
  reducesTo_S8192x2048_S_d0_1 := by decide
  bcast_S_S1024 := by decide
  reducesTo_S1024_S_d0 := by decide
  bcast_S_S1024x5120 := by decide
  reducesTo_S1024x5120_S_d0_1 := by decide

/-- The same of an array held as bfloat16: widened, each element is the number it was. -/
theorem up_of_all_ext {s : Shape} (x : FVec Ideal s .bf16) (h : ∀ i, FloatOps.cmpf .olt (FloatOps.hostAbsf (extf .f32 x facts.bitsLt_bf16_f32 i)) (FloatOps.ofBits (F := Ideal) .f32 0x7F800000#32) = 1#1) :
    (x : s.Idx → EReal) = up fun i => EReal.toReal (x i) := up_of_all (extf .f32 x facts.bitsLt_bf16_f32) h

theorem finite_iff (x0 x1 : FVec Ideal S8192x1024 .f32) (x2 : FVec Ideal S8192x3072 .bf16) (x3 : FVec Ideal S8192x2048 .bf16) (x4 : FVec Ideal S1024 .f32) (x5 : FVec Ideal S1024x5120 .f32)
    (h : Pre_finite_in.fn (F := Ideal) x0 x1 x2 x3 x4 x5 = fun _ => 1#1) :
    ((((((x0 : S8192x1024.Idx → EReal) = up fun i => EReal.toReal (x0 i))
    ∧ (x1 : S8192x1024.Idx → EReal) = up fun i => EReal.toReal (x1 i))
    ∧ (x2 : S8192x3072.Idx → EReal) = up fun i => EReal.toReal (x2 i))
    ∧ (x3 : S8192x2048.Idx → EReal) = up fun i => EReal.toReal (x3 i))
    ∧ (x4 : S1024.Idx → EReal) = up fun i => EReal.toReal (x4 i))
    ∧ (x5 : S1024x5120.Idx → EReal) = up fun i => EReal.toReal (x5 i) := by
  have h0 := congrFun h (Shape.Idx.first facts.h_S_)
  haveI : Subsingleton S_.Idx := ⟨fun a b => funext fun k => k.elim0⟩
  unfold Pre_finite_in.fn Pre_finite_in.fn_part1 at h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨a0, a1⟩ := IntOp.andi_eq_one.1 h0
  exact ⟨⟨⟨⟨⟨up_of_all _ (Host.reduce_andi_all _ _ _ _ _ a0), up_of_all _ (Host.reduce_andi_all _ _ _ _ _ a1)⟩, up_of_all_ext _ (Host.reduce_andi_all _ _ _ _ _ a2)⟩,
    up_of_all_ext _ (Host.reduce_andi_all _ _ _ _ _ a3)⟩, up_of_all _ (Host.reduce_andi_all _ _ _ _ _ a4)⟩, up_of_all _ (Host.reduce_andi_all _ _ _ _ _ a5)⟩

end Cert.InFinite

end
-- ==== Proof.FwdRun.lean ====
/- The body's run in case A: the stores it leaves in every buffer, found by the executor. -/
module

public import proofs.«01_k».proof.Proof.Gen.KernelFwdIdeal.Frame.Runs
public import proofs.«01_k».proof.Proof.Own

@[expose] public section

set_option maxRecDepth 16384

noncomputable section

namespace Cert.KernelFwdIdeal.Own

open KernelFwdIdeal.Gen
open Idealize.ShloMosaic
open TcCoe Tactic
open Idealize.SL
open RA BI ProofMode Sem
open BIBase Laws
open Rounds Cert.Own
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (hc0 : cond0_0 i)
    (x0 : Vec F S512x1024 .f32) (x1 : Vec F S1x1024 .f32) (fh0 : HbBuf0 (F := F) c hbM0_0) :
    Σ' (L2 : List (View.Piece (Elt F) S512x1024 .f32)), Σ' (L3 : List (View.Piece (Elt F) S512x2816 .bf16)), Σ' (L4 : List (View.Piece (Elt F) S512x2816 .bf16)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(ow c arg1 x0 ∗ ow c arg2 x1 ∗ (∃ d, ow c arg4 d) ∗ (∃ d, ow c arg5 d) ∗ (∃ d, ow c arg6 d) ∗ (∃ d, ow c arg7 d) ∗ (∃ d, ow c arg8 d) ∗ (∃ d, ow c arg9 d) ∗ sv c 9 ∗ sv c 10 ∗ sv c 11 ∗ sv c 12 ∗ sv c 13 ∗ sv c 14 ∗ sv c 15 ∗ sv c 16 ∗ sv c 17 ∗ sv c 18 ∗ sv c 19 ∗ sv c 20 ∗ hbPt0 c hbM0_0 fh0 ∗ owes (c : Thread nD τ) 0 W
            ∗ (iprop(ow c arg1 x0 ∗ ow c arg2 x1 ∗ wr c arg4 L2 ∗ wr c arg5 L3 ∗ wr c arg6 L4 ∗ wr c arg7 LS0 ∗ wr c arg8 LS1 ∗ wr c arg9 LS2 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 (Memref.whole main_v9) (Memref.isWhole_whole _) arg4 harg4 arg5 harg5 arg6 harg6 arg7 harg7 arg8 harg8 arg9 harg9 cc0_scratch3) K } := by
  refine ⟨?_, ?_, ?_, ?_, ?_, ?_, fun W K => ?run⟩
  case run =>
    simp only [cc0_ffn_fwd_eq_skeleton]; unfold cc0_ffn_fwd_skel
    simp only [k0_part5_eq_skeleton, k0_part1_eq_skeleton, k0_part2_eq_skeleton, k0_part3_eq_skeleton, k0_part4_eq_skeleton]
    unfold ow owns wr
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hh0, HW, Hk⟩
    obtain rfl := harg1.eq_unread hf0; obtain rfl := harg2.eq_unread hf1
    sl_exec (disch := first | sl_exact hc0)
    sl_step
    iapply Hk
    iframe Hq0 Hq1 Hq2 Hq3 Hq4 Hq5 Hq6 Hq7 Hq8 Hq9 Hq10 Hq11 Hh0
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HW

set_option maxHeartbeats 1200000 in
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) :
    Σ' (L2 : List (View.Piece (Elt F) S512x1024 .f32)), Σ' (L3 : List (View.Piece (Elt F) S512x2816 .bf16)), Σ' (L4 : List (View.Piece (Elt F) S512x2816 .bf16)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(ow c arg1 x0 ∗ ow c arg2 x1 ∗ (∃ d, ow c arg4 d) ∗ (∃ d, ow c arg5 d) ∗ (∃ d, ow c arg6 d) ∗ ow c arg7 xs0 ∗ ow c arg8 xs1 ∗ ow c arg9 xs2 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ hbPt0 c hbM0_0 fh0 ∗ owes (c : Thread nD τ) 0 W
            ∗ (iprop(ow c arg1 x0 ∗ ow c arg2 x1 ∗ wr c arg4 L2 ∗ wr c arg5 L3 ∗ wr c arg6 L4 ∗ ow c arg7 xs0 ∗ ow c arg8 xs1 ∗ ow c arg9 xs2 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 (Memref.whole main_v9) (Memref.isWhole_whole _) arg4 harg4 arg5 harg5 arg6 harg6 arg7 harg7 arg8 harg8 arg9 harg9 cc0_scratch3) K } := by
  refine ⟨?_, ?_, ?_, [], [], [], fun W K => ?run⟩
  case run =>
    simp only [cc0_ffn_fwd_eq_skeleton]; unfold cc0_ffn_fwd_skel
    simp only [k0_part5_eq_skeleton]
    unfold ow owns wr
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hq0, Hq1, Hq2, Hq3, Hq4, Hq5, Hq6, Hq7, Hq8, Hq9, Hq10, Hq11, Hh0, HW, Hk⟩
    obtain rfl := harg1.eq_unread hf0; obtain rfl := harg2.eq_unread hf1; obtain rfl := harg7.eq_unread hfs0; obtain rfl := harg8.eq_unread hfs1; obtain rfl := harg9.eq_unread hfs2
    sl_exec (disch := first | sl_exact hc0)
    sl_step
    iapply Hk
    iframe Hq0 Hq1 Hq2 Hq3 Hq4 Hq5 Hq6 Hq7 Hq8 Hq9 Hq10 Hq11 Hh0
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    iexists _; iexact HW

end Cert.KernelFwdIdeal.Own

end
-- ==== Proof.FwdFrame.lean ====
/- The frame: covers of the cases' stores, what every buffer holds after each grid point, the body's obligation and the launch. -/
module

public import proofs.«01_k».proof.Proof.FwdRun
public import Idealize.ShloMosaic.Lib.Claim

@[expose] public section

set_option maxRecDepth 16384

noncomputable section

namespace Cert.KernelFwdIdeal.Own

open KernelFwdIdeal.Gen

open Idealize.ShloMosaic
open TcCoe Tactic
open Idealize.SL
open RA BI ProofMode Sem
open BIBase Laws
open Rounds Cert.Own
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The run at a grid point, in case A. -/
def rA (c : Dev nD) (t : Fin cfg0.N) := kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)

/-- The run at a grid point, in case B. -/
def rB (c : Dev nD) (t : Fin cfg0.N) := kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)

/-- What the buffers hold after a point. -/
abbrev Pt (F : FTy → Type) [FloatOps F] : Type := Vec F S512x1024 .f32 × Vec F S512x2816 .bf16 × Vec F S512x2816 .bf16 × Vec F S2816x1024 .bf16 × Vec F S2816x1024 .bf16 × Vec F S2816x1024 .bf16

section
variable (c : Dev nD) (t : Fin cfg0.N) (hc0 : cond0_0 (grid0.coords t))
    (x0 : Vec F S512x1024 .f32) (x1 : Vec F S1x1024 .f32) (fh0 : HbBuf0 (F := F) c hbM0_0)

theorem cover0_A_2 (y : S512x1024.Idx) :
    ∃ pc ∈ (rA c t hc0 x0 x1 fh0).1, y ∈ pc.1.set :=
  View.cover_of_tiledL (rA c t hc0 x0 x1 fh0).1 S512x1024.size (by sl_kernel_rfl) y

def out0_A_2 : Vec F S512x1024 .f32 :=
  VO0_2.read (Elt F) (VO0_2.writes (Elt F) VO0_2.junk (rA c t hc0 x0 x1 fh0).1)

theorem cover0_A_3 (y : S512x2816.Idx) :
    ∃ pc ∈ (rA c t hc0 x0 x1 fh0).2.1, y ∈ pc.1.set :=
  View.cover_of_tiledBy (rA c t hc0 x0 x1 fh0).2.1 ![512, 256] (by sl_kernel_rfl) y

def out0_A_3 : Vec F S512x2816 .bf16 :=
  VO0_3.read (Elt F) (VO0_3.writes (Elt F) VO0_3.junk (rA c t hc0 x0 x1 fh0).2.1)

theorem cover0_A_4 (y : S512x2816.Idx) :
    ∃ pc ∈ (rA c t hc0 x0 x1 fh0).2.2.1, y ∈ pc.1.set :=
  View.cover_of_tiledBy (rA c t hc0 x0 x1 fh0).2.2.1 ![512, 256] (by sl_kernel_rfl) y

def out0_A_4 : Vec F S512x2816 .bf16 :=
  VO0_4.read (Elt F) (VO0_4.writes (Elt F) VO0_4.junk (rA c t hc0 x0 x1 fh0).2.2.1)

theorem scover0_A_0 (y : S2816x1024.Idx) :
    ∃ pc ∈ (rA c t hc0 x0 x1 fh0).2.2.2.1, y ∈ pc.1.set :=
  View.cover_of_tiledL (rA c t hc0 x0 x1 fh0).2.2.2.1 S704x1024.size (by sl_kernel_rfl) y

def sout0_A_0 : Vec F S2816x1024 .bf16 :=
  VS0_0.read (Elt F) (VS0_0.writes (Elt F) VS0_0.junk (rA c t hc0 x0 x1 fh0).2.2.2.1)

theorem scover0_A_1 (y : S2816x1024.Idx) :
    ∃ pc ∈ (rA c t hc0 x0 x1 fh0).2.2.2.2.1, y ∈ pc.1.set :=
  View.cover_of_tiledL (rA c t hc0 x0 x1 fh0).2.2.2.2.1 S704x1024.size (by sl_kernel_rfl) y

def sout0_A_1 : Vec F S2816x1024 .bf16 :=
  VS0_1.read (Elt F) (VS0_1.writes (Elt F) VS0_1.junk (rA c t hc0 x0 x1 fh0).2.2.2.2.1)

theorem scover0_A_2 (y : S2816x1024.Idx) :
    ∃ pc ∈ (rA c t hc0 x0 x1 fh0).2.2.2.2.2.1, y ∈ pc.1.set :=
  View.cover_of_tiledL (rA c t hc0 x0 x1 fh0).2.2.2.2.2.1 S704x1024.size (by sl_kernel_rfl) y

def sout0_A_2 : Vec F S2816x1024 .bf16 :=
  VS0_2.read (Elt F) (VS0_2.writes (Elt F) VS0_2.junk (rA c t hc0 x0 x1 fh0).2.2.2.2.2.1)

/-- What the buffers hold after a point in case A. -/
def tA : Pt F := (out0_A_2 c t hc0 x0 x1 fh0, out0_A_3 c t hc0 x0 x1 fh0, out0_A_4 c t hc0 x0 x1 fh0, sout0_A_0 c t hc0 x0 x1 fh0, sout0_A_1 c t hc0 x0 x1 fh0, sout0_A_2 c t hc0 x0 x1 fh0)

end

section
variable (c : Dev nD) (t : Fin cfg0.N) (hc0 : ¬cond0_0 (grid0.coords t))
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0)

theorem cover0_B_2 (y : S512x1024.Idx) :
    ∃ pc ∈ (rB c t hc0 x0 x1 xs0 xs1 xs2 fh0).1, y ∈ pc.1.set :=
  View.cover_of_tiledL (rB c t hc0 x0 x1 xs0 xs1 xs2 fh0).1 S512x1024.size (by sl_kernel_rfl) y

def out0_B_2 : Vec F S512x1024 .f32 :=
  VO0_2.read (Elt F) (VO0_2.writes (Elt F) VO0_2.junk (rB c t hc0 x0 x1 xs0 xs1 xs2 fh0).1)

theorem cover0_B_3 (y : S512x2816.Idx) :
    ∃ pc ∈ (rB c t hc0 x0 x1 xs0 xs1 xs2 fh0).2.1, y ∈ pc.1.set :=
  View.cover_of_tiledBy (rB c t hc0 x0 x1 xs0 xs1 xs2 fh0).2.1 ![512, 256] (by sl_kernel_rfl) y

def out0_B_3 : Vec F S512x2816 .bf16 :=
  VO0_3.read (Elt F) (VO0_3.writes (Elt F) VO0_3.junk (rB c t hc0 x0 x1 xs0 xs1 xs2 fh0).2.1)

theorem cover0_B_4 (y : S512x2816.Idx) :
    ∃ pc ∈ (rB c t hc0 x0 x1 xs0 xs1 xs2 fh0).2.2.1, y ∈ pc.1.set :=
  View.cover_of_tiledBy (rB c t hc0 x0 x1 xs0 xs1 xs2 fh0).2.2.1 ![512, 256] (by sl_kernel_rfl) y

def out0_B_4 : Vec F S512x2816 .bf16 :=
  VO0_4.read (Elt F) (VO0_4.writes (Elt F) VO0_4.junk (rB c t hc0 x0 x1 xs0 xs1 xs2 fh0).2.2.1)

/-- What the buffers hold after a point in case B. -/
def tB : Pt F := (out0_B_2 c t hc0 x0 x1 xs0 xs1 xs2 fh0, out0_B_3 c t hc0 x0 x1 xs0 xs1 xs2 fh0, out0_B_4 c t hc0 x0 x1 xs0 xs1 xs2 fh0, xs0, xs1, xs2)

end

/-- The results after a point at a multiple of 16. -/
abbrev atA (c : Dev nD) (t : Fin cfg0.N) (h0 : t.val % 16 = 0) : Pt F := tA c t ((hcond0_0 t).mpr h0) (iblk m c 0 t) (iblk m c 1 t) (V m c main_v9)

/-- The results after another point, which found `p`. -/
abbrev atB (c : Dev nD) (t : Fin cfg0.N) (h0 : ¬t.val % 16 = 0) (p : Pt F) : Pt F := tB c t (fun h => h0 ((hcond0_0 t).mp h)) (iblk m c 0 t) (iblk m c 1 t) p.2.2.2.1 p.2.2.2.2.1 p.2.2.2.2.2 (V m c main_v9)

/-- What the buffers hold after point `n`. -/
def outsAt0 (c : Dev nD) : (n : ℕ) → n < cfg0.N → Pt F
  | 0, hn => atA m c ⟨0, hn⟩ (Nat.zero_mod _)
  | n + 1, hn => if h0 : (n + 1) % 16 = 0 then atA m c ⟨n + 1, hn⟩ h0 else atB m c ⟨n + 1, hn⟩ h0 (outsAt0 c n (Nat.lt_of_succ_lt hn))

theorem outsAt0_A (c : Dev nD) (t : Fin cfg0.N) (h0 : t.val % 16 = 0) : outsAt0 m c t.val t.isLt = atA m c t h0 := by
  obtain ⟨n, hn⟩ := t
  cases n with
  | zero => rfl
  | succ n => exact dif_pos h0

/-- What the point before left. -/
abbrev prev (c : Dev nD) (t : Fin cfg0.N) : Pt F := outsAt0 m c (t.val - 1) (Nat.lt_of_le_of_lt (Nat.sub_le _ _) t.isLt)

theorem outsAt0_B (c : Dev nD) (t : Fin cfg0.N) (h0 : ¬t.val % 16 = 0) : outsAt0 m c t.val t.isLt = atB m c t h0 (prev m c t) := by
  obtain ⟨n, hn⟩ := t
  cases n with
  | zero => exact absurd (Nat.zero_mod _) h0
  | succ n => exact dif_neg h0

abbrev rest (c : Dev nD) : sProp 𝕄 := iprop((∃ r, prngReg c r) ∗ iprop(sv c 9 ∗ sv c 10 ∗ sv c 11 ∗ sv c 12 ∗ sv c 13 ∗ sv c 14 ∗ sv c 15 ∗ sv c 16 ∗ sv c 17 ∗ sv c 18 ∗ sv c 19 ∗ sv c 20) ∗ hbPt0 c hbM0_0 (V m c main_v9))

/-- What a point leaves to the next. -/
abbrev held (c : Dev nD) (p : Pt F) : sProp 𝕄 := iprop((ow c scM0_0 p.2.2.2.1 ∗ ow c scM0_1 p.2.2.2.2.1 ∗ ow c scM0_2 p.2.2.2.2.2) ∗ rest m c)

def PhiS (c : Dev nD) : (n : ℕ) → n ≤ cfg0.N → sProp 𝕄
  | 0, _ => Pipeline.ΦD osem0 spec0 H0 (V m) c
  | n + 1, hn => held m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) : PhiS m c (n + 1) hn = held m c (outsAt0 m c n hn) := rfl

theorem PhiS_pos (c : Dev nD) (n : ℕ) (h : n ≤ cfg0.N) (hz : n ≠ 0) : PhiS m c n h = held m c (outsAt0 m c (n - 1) (by omega)) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, ow c (ms0_0 t) ((dats m 0 c).before 0 t d))
    ∗ (∃ d, ow c (ms0_1 t) ((dats m 0 c).before 1 t d))
    ∗ (∃ d, ow c (ms0_2 t) ((dats m 0 c).before 2 t d))
    ∗ (∃ d, ow c (ms0_3 t) ((dats m 0 c).before 3 t d))
    ∗ (∃ d, ow c (ms0_4 t) ((dats m 0 c).before 4 t d)))

def bodyPost (c : Dev nD) (t : Fin cfg0.N) : sProp 𝕄 :=
  iprop((dats m 0 c).Φ t.succ ∗ (dats m 0 c).owesAt () t.succ
    ∗ ow c (ms0_0 t) ((dats m 0 c).after 0 t)
    ∗ ow c (ms0_1 t) ((dats m 0 c).after 1 t)
    ∗ ow c (ms0_2 t) ((dats m 0 c).after 2 t)
    ∗ ow c (ms0_3 t) ((dats m 0 c).after 3 t)
    ∗ ow c (ms0_4 t) ((dats m 0 c).after 4 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2, after0_3, after0_4]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · have hz : t.val = 0 := by omega
    rw [PhiS_castSucc m c t, PhiS_zero m c _ _ hz, PhiD0_eq]
    rw [outsAt0_A m c t h0]
    unfold held rest atA tA out0_A_2 out0_A_3 out0_A_4 sout0_A_0 sout0_A_1 sout0_A_2; dsimp only
    iintro ⟨⟨⟨HS0, HS1, HS2⟩, Hg, ⟨Hq0, Hq1, Hq2, Hq3, Hq4, Hq5, Hq6, Hq7, Hq8, Hq9, Hq10, Hq11⟩, Hh0⟩, ⟨%W, -, HW⟩, ⟨%d0, H0⟩, ⟨%d1, H1⟩, ⟨%d2, H2⟩, ⟨%d3, H3⟩, ⟨%d4, H4⟩⟩
    iapply ((rA c t ((hcond0_0 t).mpr h0) (iblk m c 0 t) (iblk m c 1 t) (V m c main_v9)).2.2.2.2.2.2 W _)
    iframe H0 H1 HS0 HS1 HS2 Hq0 Hq1 Hq2 Hq3 Hq4 Hq5 Hq6 Hq7 Hq8 Hq9 Hq10 Hq11 Hh0 HW
    isplitl [H2]; · iexists _; iexact H2
    isplitl [H3]; · iexists _; iexact H3
    isplitl [H4]; · iexists _; iexact H4
    iintro ⟨H0, H1, H2, H3, H4, HS0, HS1, HS2, Hq0, Hq1, Hq2, Hq3, Hq4, Hq5, Hq6, Hq7, Hq8, Hq9, Hq10, Hq11, Hh0, ⟨%W', HW'⟩⟩
    iframe Hg Hq0 Hq1 Hq2 Hq3 Hq4 Hq5 Hq6 Hq7 Hq8 Hq9 Hq10 Hq11 Hh0 H0 H1
    isplitl [HS0 HS1 HS2]
    · isplitl [HS0]; · iapply wr_ow c _ _ _ _ (fun _ => scover0_A_0 ..); iexact HS0
      isplitl [HS1]; · iapply wr_ow c _ _ _ _ (fun _ => scover0_A_1 ..); iexact HS1
      iapply wr_ow c _ _ _ _ (fun _ => scover0_A_2 ..); iexact HS2
    isplitl [HW']
    · iexists W'; isplitr; · ipureintro; exact fun _ _ => Or.inl trivial
      iexact HW'
    isplitl [H2]; · iapply wr_ow c _ _ _ _ (fun _ => cover0_A_2 ..); iexact H2
    isplitl [H3]; · iapply wr_ow c _ _ _ _ (fun _ => cover0_A_3 ..); iexact H3
    iapply wr_ow c _ _ _ _ (fun _ => cover0_A_4 ..); iexact H4
  · have hz : t.val ≠ 0 := fun e => h0 (by rw [e])
    rw [PhiS_castSucc m c t, PhiS_pos m c _ _ hz]
    rw [outsAt0_B m c t h0]
    unfold held rest atB tB out0_B_2 out0_B_3 out0_B_4; dsimp only
    iintro ⟨⟨⟨HS0, HS1, HS2⟩, Hg, ⟨Hq0, Hq1, Hq2, Hq3, Hq4, Hq5, Hq6, Hq7, Hq8, Hq9, Hq10, Hq11⟩, Hh0⟩, ⟨%W, -, HW⟩, ⟨%d0, H0⟩, ⟨%d1, H1⟩, ⟨%d2, H2⟩, ⟨%d3, H3⟩, ⟨%d4, H4⟩⟩
    iapply ((rB c t (fun h => h0 ((hcond0_0 t).mp h)) (iblk m c 0 t) (iblk m c 1 t) _ _ _ (V m c main_v9)).2.2.2.2.2.2 W _)
    iframe H0 H1 HS0 HS1 HS2 Hq0 Hq1 Hq2 Hq3 Hq4 Hq5 Hq6 Hq7 Hq8 Hq9 Hq10 Hq11 Hh0 HW
    isplitl [H2]; · iexists _; iexact H2
    isplitl [H3]; · iexists _; iexact H3
    isplitl [H4]; · iexists _; iexact H4
    iintro ⟨H0, H1, H2, H3, H4, HS0, HS1, HS2, Hq0, Hq1, Hq2, Hq3, Hq4, Hq5, Hq6, Hq7, Hq8, Hq9, Hq10, Hq11, Hh0, ⟨%W', HW'⟩⟩
    iframe HS0 HS1 HS2 Hg Hq0 Hq1 Hq2 Hq3 Hq4 Hq5 Hq6 Hq7 Hq8 Hq9 Hq10 Hq11 Hh0 H0 H1
    isplitl [HW']
    · iexists W'; isplitr; · ipureintro; exact fun _ _ => Or.inl trivial
      iexact HW'
    isplitl [H2]; · iapply wr_ow c _ _ _ _ (fun _ => cover0_B_2 ..); iexact H2
    isplitl [H3]; · iapply wr_ow c _ _ _ _ (fun _ => cover0_B_3 ..); iexact H3
    iapply wr_ow c _ _ _ _ (fun _ => cover0_B_4 ..); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7, Hq8, Hq9, Hq10, Hq11⟩, Hh0⟩
  iframe Hg Hq0 Hq1 Hq2 Hq3 Hq4 Hq5 Hq6 Hq7 Hq8 Hq9 Hq10 Hq11 Hh0
  isplitl [HS0]; · iexists _; iexact HS0
  isplitl [HS1]; · iexists _; iexact HS1
  iexists _; iexact HS2

theorem hout (c : Dev nD) : (dats m 0 c).Φ (Fin.last cfg0.N) ⊢ Pipeline.ΦD osem0 spec0 H0 (V m) c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments as they were. -/
abbrev kept (r : (ℓ : Loc nD τ sig) → Buf (Elt F) ℓ) (c : Dev nD) : Prop :=
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)

theorem unchanged : θ_run defs (onTc (τ := τ) (main (F := F))) ⟨m, fun _ => 0, ρ⟩ (fun r => ∀ c : Dev nD, kept m r.2.mem c) :=
  frame_of m ρ (dats m) (A_eq m) (run_main m ρ)

theorem frame : θ_run defs (onTc (τ := τ) (main (F := F))) ⟨m, fun _ => 0, ρ⟩ (fun r => (∀ c : Dev nD, kept m r.2.mem c) ∧ r.2.sem = fun _ => 0) :=
  θ_run_and (unchanged m ρ) ((θ_run defs _ _).mono (fun _ h => h.2) (run_main_quiescent m ρ))

end Cert.KernelFwdIdeal.Own

end
-- ==== Proof.FwdPoint.lean ====
/- What the body leaves at one grid point: each result block as a function of the blocks read and the weights carried. -/
module

public import proofs.«01_k».proof.Proof.FwdFrame
public import Idealize.ShloMosaic.Lib.Pipeline.Value
public import Idealize.ShloMosaic.Lib.ValueLayout

@[expose] public section

set_option maxRecDepth 16384

noncomputable section

namespace Cert.KernelFwdIdeal.Own

open KernelFwdIdeal KernelFwdIdeal.Gen Idealize.ShloMosaic Idealize.ShloMosaic.TcCoe Idealize.SL.Sem Idealize.ShloMosaic.ValueIdx

variable {F : FTy → Type} [FloatOps F]

theorem sw0 : scM0_0.IsWhole := Memref.isWhole_whole _
theorem sw1 : scM0_1.IsWhole := Memref.isWhole_whole _
theorem sw2 : scM0_2.IsWhole := Memref.isWhole_whole _

theorem off2 : (![0, 0] : Fin 2 → Nat) = fun _ => 0 := funext fun a => by fin_cases a <;> rfl

def wL (w : Vec F S2816x1024 .bf16) : Vec F S1536x1024 .bf16 := View.ld w (Rect.unit ![0, 0] ![1536, 1024] inb_S2816x1024_S1536x1024_0_0)
def wR (w : Vec F S2816x1024 .bf16) : Vec F S1280x1024 .bf16 := View.ld w (Rect.unit ![1536, 0] ![1280, 1024] inb_S2816x1024_S1280x1024_1536_0)

def pt2 (x0 : Vec F S512x1024 .f32) (x1 : Vec F S1x1024 .f32) (w0 w1 w2 : Vec F S2816x1024 .bf16) : Vec F S512x1024 .f32 :=
  k0_pay5 x0 (k0_pay6 x0 x1) k0_pay7 (k0_pay8 x0 x1 (wL w0)) (k0_pay9 x0 x1 (wL w1)) (k0_pay12 x0 x1 (wL w0)) (Scalar.ofBits .f32 0x3F000000#32) (wL w2) (wR w0) (wR w1) (wR w2)

def pt3 (x0 : Vec F S512x1024 .f32) (x1 : Vec F S1x1024 .f32) (w0 : Vec F S2816x1024 .bf16) : Vec F S512x2816 .bf16 :=
  View.canon [⟨Rect.unit ![0, 1536] ![512, 1280] inb_S512x2816_S512x1280_0_1536, k0_pay3 (k0_pay6 x0 x1) (wR w0)⟩,
    ⟨Rect.unit ![0, 0] ![512, 1536] inb_S512x2816_S512x1536_0_0, k0_pay10 x0 x1 (wL w0)⟩]

def pt4 (x0 : Vec F S512x1024 .f32) (x1 : Vec F S1x1024 .f32) (w1 : Vec F S2816x1024 .bf16) : Vec F S512x2816 .bf16 :=
  View.canon [⟨Rect.unit ![0, 1536] ![512, 1280] inb_S512x2816_S512x1280_0_1536, k0_pay4 (k0_pay6 x0 x1) (wR w1)⟩,
    ⟨Rect.unit ![0, 0] ![512, 1536] inb_S512x2816_S512x1536_0_0, k0_pay11 x0 x1 (wL w1)⟩]

/-- What the four copies of one weight leave: row `y` of the weight is row `off + y % 704` of slab `y / 704`. -/
def wG (c : Dev nD) (off : ℕ) (fh0 : HbBuf0 (F := F) c hbM0_0) (hoff : off + 704 ≤ 2112) : Vec F S2816x1024 .bf16 := fun y =>
  (fh0 : S4x2112x1024.Idx → Elt F .bf16) (ix3 ⟨(y 0 : ℕ) / 704, by have h : (y 0 : ℕ) < 2816 := (y 0).isLt; omega⟩ ⟨off + (y 0 : ℕ) % 704, by have h := Nat.mod_lt (y 0 : ℕ) (show 0 < 704 by norm_num); omega⟩ ⟨(y 1 : ℕ), (y 1).isLt⟩)

theorem numel_slab : S704x1024.numel = S1x704x1024.numel := squeezes_S1x704x1024_S704x1024.numel_eq

theorem slab_piece (c : Dev nD) (off q : ℕ) (fh0 : HbBuf0 (F := F) c hbM0_0) (hoff : off + 704 ≤ 2112) (o : ℕ) (ho : o = 704 * q)
    (inb : ∀ a, (![o, 0] : Fin 2 → ℕ) a + (![704, 1024] : Fin 2 → ℕ) a ≤ S2816x1024.size a)
    (inb' : ∀ a, (![q, off, 0] : Fin 3 → ℕ) a + (![1, 704, 1024] : Fin 3 → ℕ) a ≤ S4x2112x1024.size a)
    (x : S704x1024.Idx) :
    (ReadAs.same.apply (View.read (Elt F)
      (((View.whole main_v9).slice (Rect.unit (s := S4x2112x1024) ![q, off, 0] ![1, 704, 1024] inb')).reshape S704x1024 numel_slab) fh0) : S704x1024.Idx → Elt F .bf16) x
      = wG c off fh0 hoff ((Rect.unit (s := S2816x1024) ![o, 0] ![704, 1024] inb).emb x) := by
  subst ho
  obtain ⟨i, j, rfl⟩ : ∃ (i : Fin 704) (j : Fin 1024), x = ix2 i j := ⟨x 0, x 1, eq_ix2 x⟩
  show shapeCast S704x1024 (View.read (Elt F) ((View.whole main_v9).slice (Rect.unit (s := S4x2112x1024) ![q, off, 0] ![1, 704, 1024] inb')) fh0 : S1x704x1024.Idx → Elt F .bf16) numel_slab (ix2 i j) = _
  rw [shapeCast_1ab_ab_apply]
  show (fh0 : S4x2112x1024.Idx → Elt F .bf16) _ = (fh0 : S4x2112x1024.Idx → Elt F .bf16) _
  have hi : (i : ℕ) < 704 := i.isLt
  refine congrArg _ (funext fun a => Fin.ext ?_)
  match a with
  | ⟨0, _⟩ => show q + 1 * 0 = (704 * q + 1 * i.val) / 704; omega
  | ⟨1, _⟩ => show off + 1 * i.val = off + (704 * q + 1 * i.val) % 704; omega
  | ⟨2, _⟩ => show 0 + 1 * j.val = 0 + 1 * j.val; rfl

theorem inb_slab {off : ℕ} (h : off + 704 ≤ 2112) (q : ℕ) (hq : q < 4) : ∀ a, (![q, off, 0] : Fin 3 → ℕ) a + (![1, 704, 1024] : Fin 3 → ℕ) a ≤ S4x2112x1024.size a
  | ⟨0, _⟩ => show q + 1 ≤ 4 by omega
  | ⟨1, _⟩ => h
  | ⟨2, _⟩ => Nat.le_refl 1024

/-- Slab `q`'s rows of a weight, as a copy carries them. -/
def slab (c : Dev nD) (off q : ℕ) (h : off + 704 ≤ 2112) (hq : q < 4) (fh0 : HbBuf0 (F := F) c hbM0_0) : S704x1024.Idx → Elt F .bf16 :=
  ReadAs.same.apply (View.read (Elt F) (((View.whole main_v9).slice (Rect.unit (s := S4x2112x1024) ![q, off, 0] ![1, 704, 1024] (inb_slab h q hq))).reshape S704x1024 numel_slab) fh0)

/-- What the four copies of one weight store. -/
def carried (c : Dev nD) (off : ℕ) (fh0 : HbBuf0 (F := F) c hbM0_0) (h : off + 704 ≤ 2112) : List (View.Piece (Elt F) S2816x1024 .bf16) :=
  [⟨Rect.unit ![2112, 0] ![704, 1024] inb_S2816x1024_S704x1024_2112_0, slab c off 3 h (by decide) fh0⟩,
    ⟨Rect.unit ![1408, 0] ![704, 1024] inb_S2816x1024_S704x1024_1408_0, slab c off 2 h (by decide) fh0⟩,
    ⟨Rect.unit ![704, 0] ![704, 1024] inb_S2816x1024_S704x1024_704_0, slab c off 1 h (by decide) fh0⟩,
    ⟨Rect.unit ![0, 0] ![704, 1024] inb_S2816x1024_S704x1024_0_0, slab c off 0 h (by decide) fh0⟩]

theorem canon_carried (c : Dev nD) (off : ℕ) (fh0 : HbBuf0 (F := F) c hbM0_0) (h : off + 704 ≤ 2112) : View.canon (carried c off fh0 h) = wG c off fh0 h := by
  funext y
  refine View.canon_apply_of_pieces _ _ ?_ y ?_
  · intro p hp x
    simp only [carried, List.mem_cons, List.not_mem_nil, or_false] at hp
    rcases hp with rfl | rfl | rfl | rfl
    · exact slab_piece c off 3 fh0 h 2112 (by norm_num) inb_S2816x1024_S704x1024_2112_0 (inb_slab h 3 (by decide)) x
    · exact slab_piece c off 2 fh0 h 1408 (by norm_num) inb_S2816x1024_S704x1024_1408_0 (inb_slab h 2 (by decide)) x
    · exact slab_piece c off 1 fh0 h 704 (by norm_num) inb_S2816x1024_S704x1024_704_0 (inb_slab h 1 (by decide)) x
    · exact slab_piece c off 0 fh0 h 0 (by norm_num) inb_S2816x1024_S704x1024_0_0 (inb_slab h 0 (by decide)) x
  · have h0 : (y 0 : ℕ) < 2816 := (y 0).isLt
    have h1 : (y 1 : ℕ) < 1024 := (y 1).isLt
    rcases (by omega : (y 0 : ℕ) < 704 ∨ (704 ≤ (y 0 : ℕ) ∧ (y 0 : ℕ) < 1408) ∨ (1408 ≤ (y 0 : ℕ) ∧ (y 0 : ℕ) < 2112) ∨ 2112 ≤ (y 0 : ℕ)) with g | g | g | g
    · exact ⟨_, List.mem_cons_of_mem _ (List.mem_cons_of_mem _ (List.mem_cons_of_mem _ (List.mem_cons_self ..))), by
        rw [Rect.mem_set_unit]
        intro a
        match a with
        | ⟨0, _⟩ => show 0 ≤ (y 0 : ℕ) ∧ (y 0 : ℕ) < 0 + 704; omega
        | ⟨1, _⟩ => show 0 ≤ (y 1 : ℕ) ∧ (y 1 : ℕ) < 0 + 1024; omega⟩
    · exact ⟨_, List.mem_cons_of_mem _ (List.mem_cons_of_mem _ (List.mem_cons_self ..)), by
        rw [Rect.mem_set_unit]
        intro a
        match a with
        | ⟨0, _⟩ => show 704 ≤ (y 0 : ℕ) ∧ (y 0 : ℕ) < 704 + 704; omega
        | ⟨1, _⟩ => show 0 ≤ (y 1 : ℕ) ∧ (y 1 : ℕ) < 0 + 1024; omega⟩
    · exact ⟨_, List.mem_cons_of_mem _ (List.mem_cons_self ..), by
        rw [Rect.mem_set_unit]
        intro a
        match a with
        | ⟨0, _⟩ => show 1408 ≤ (y 0 : ℕ) ∧ (y 0 : ℕ) < 1408 + 704; omega
        | ⟨1, _⟩ => show 0 ≤ (y 1 : ℕ) ∧ (y 1 : ℕ) < 0 + 1024; omega⟩
    · exact ⟨_, List.mem_cons_self .., by
        rw [Rect.mem_set_unit]
        intro a
        match a with
        | ⟨0, _⟩ => show 2112 ≤ (y 0 : ℕ) ∧ (y 0 : ℕ) < 2112 + 704; omega
        | ⟨1, _⟩ => show 0 ≤ (y 1 : ℕ) ∧ (y 1 : ℕ) < 0 + 1024; omega⟩

section
variable (c : Dev nD) (t : Fin cfg0.N) (hc0 : cond0_0 (grid0.coords t))
    (x0 : Vec F S512x1024 .f32) (x1 : Vec F S1x1024 .f32) (fh0 : HbBuf0 (F := F) c hbM0_0)

theorem outA_2 : out0_A_2 c t hc0 x0 x1 fh0 = pt2 x0 x1 (wG c 0 fh0 (by norm_num)) (wG c 704 fh0 (by norm_num)) (wG c 1408 fh0 (by norm_num)) := by
  unfold out0_A_2
  rw [View.read_writes_junk_eq_canon]
  unfold rA kernelRun0_A
  dsimp only
  sl_unfold_words
  rw [View.canon_cons_unit_zero (S := S512x1024) off2]
  simp only [View.readCov_eq_canon', View.readAt_eq_ld, (hs0_0 t).read_unread, (hs0_1 t).read_unread, View.ld_unit_zero (S := S512x1024) off2, View.ld_unit_zero (S := S1x1024) off2]
  have e0 := canon_carried c 0 fh0 (by norm_num)
  have e1 := canon_carried c 704 fh0 (by norm_num)
  have e2 := canon_carried c 1408 fh0 (by norm_num)
  simp only [carried, slab] at *
  simp only [e0, e1, e2]
  rfl

theorem outA_3 : out0_A_3 c t hc0 x0 x1 fh0 = pt3 x0 x1 (wG c 0 fh0 (by norm_num)) := by
  unfold out0_A_3
  rw [View.read_writes_junk_eq_canon]
  unfold rA kernelRun0_A
  dsimp only
  sl_unfold_words
  simp only [View.readCov_eq_canon', View.readAt_eq_ld, (hs0_0 t).read_unread, (hs0_1 t).read_unread, View.ld_unit_zero (S := S512x1024) off2, View.ld_unit_zero (S := S1x1024) off2]
  have e0 := canon_carried c 0 fh0 (by norm_num)
  simp only [carried, slab] at *
  simp only [e0]
  rfl

theorem outA_4 : out0_A_4 c t hc0 x0 x1 fh0 = pt4 x0 x1 (wG c 704 fh0 (by norm_num)) := by
  unfold out0_A_4
  rw [View.read_writes_junk_eq_canon]
  unfold rA kernelRun0_A
  dsimp only
  sl_unfold_words
  simp only [View.readCov_eq_canon', View.readAt_eq_ld, (hs0_0 t).read_unread, (hs0_1 t).read_unread, View.ld_unit_zero (S := S512x1024) off2, View.ld_unit_zero (S := S1x1024) off2]
  have e1 := canon_carried c 704 fh0 (by norm_num)
  simp only [carried, slab] at *
  simp only [e1]
  rfl

theorem soutA_0 : sout0_A_0 c t hc0 x0 x1 fh0 = wG c 0 fh0 (by norm_num) := by
  unfold sout0_A_0
  rw [View.read_writes_junk_eq_canon]
  unfold rA kernelRun0_A
  dsimp only
  sl_unfold_words
  exact canon_carried c 0 fh0 (by norm_num)

theorem soutA_1 : sout0_A_1 c t hc0 x0 x1 fh0 = wG c 704 fh0 (by norm_num) := by
  unfold sout0_A_1
  rw [View.read_writes_junk_eq_canon]
  unfold rA kernelRun0_A
  dsimp only
  sl_unfold_words
  exact canon_carried c 704 fh0 (by norm_num)

theorem soutA_2 : sout0_A_2 c t hc0 x0 x1 fh0 = wG c 1408 fh0 (by norm_num) := by
  unfold sout0_A_2
  rw [View.read_writes_junk_eq_canon]
  unfold rA kernelRun0_A
  dsimp only
  sl_unfold_words
  exact canon_carried c 1408 fh0 (by norm_num)

end

section
variable (c : Dev nD) (t : Fin cfg0.N) (hc0 : ¬cond0_0 (grid0.coords t))
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0)

theorem outB_2 : out0_B_2 c t hc0 x0 x1 xs0 xs1 xs2 fh0 = pt2 x0 x1 xs0 xs1 xs2 := by
  unfold out0_B_2
  rw [View.read_writes_junk_eq_canon]
  unfold rB kernelRun0_B
  dsimp only
  sl_unfold_words
  rw [View.canon_cons_unit_zero (S := S512x1024) off2]
  simp only [View.readCov_eq_canon', View.readAt_eq_ld, (hs0_0 t).read_unread, (hs0_1 t).read_unread, sw0.read_unread, sw1.read_unread, sw2.read_unread, View.ld_unit_zero (S := S512x1024) off2, View.ld_unit_zero (S := S1x1024) off2]
  rfl

theorem outB_3 : out0_B_3 c t hc0 x0 x1 xs0 xs1 xs2 fh0 = pt3 x0 x1 xs0 := by
  unfold out0_B_3
  rw [View.read_writes_junk_eq_canon]
  unfold rB kernelRun0_B
  dsimp only
  sl_unfold_words
  simp only [View.readCov_eq_canon', View.readAt_eq_ld, (hs0_0 t).read_unread, (hs0_1 t).read_unread, sw0.read_unread, sw1.read_unread, sw2.read_unread, View.ld_unit_zero (S := S512x1024) off2, View.ld_unit_zero (S := S1x1024) off2]
  rfl

theorem outB_4 : out0_B_4 c t hc0 x0 x1 xs0 xs1 xs2 fh0 = pt4 x0 x1 xs1 := by
  unfold out0_B_4
  rw [View.read_writes_junk_eq_canon]
  unfold rB kernelRun0_B
  dsimp only
  sl_unfold_words
  simp only [View.readCov_eq_canon', View.readAt_eq_ld, (hs0_0 t).read_unread, (hs0_1 t).read_unread, sw0.read_unread, sw1.read_unread, sw2.read_unread, View.ld_unit_zero (S := S512x1024) off2, View.ld_unit_zero (S := S1x1024) off2]
  rfl

end

end Cert.KernelFwdIdeal.Own
-- ==== Proof.FwdSweep.lean ====
/- The grid's 16 points one after the other: the weights stay in the scratch, and every result's block is one point's. -/
module

public import proofs.«01_k».proof.Proof.FwdFrame
public import Idealize.ShloMosaic.Lib.Pipeline.Value
public import proofs.«01_k».proof.Proof.FwdPoint

@[expose] public section

set_option maxRecDepth 16384

noncomputable section

namespace Cert.KernelFwdIdeal.Own

open KernelFwdIdeal.Gen

open KernelFwdIdeal KernelFwdIdeal.Gen Idealize.ShloMosaic Idealize.ShloMosaic.TcCoe Idealize.SL.Sem
open Pipeline (Dat)

variable {F : FTy → Type} [FloatOps F]
variable (m : (ℓ : Loc nD τ sig) → Buf (Elt F) ℓ) (ρ : Dev nD → PrngReg)

theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

theorem flushed3 (c : Dev nD) (t : Fin cfg0.N) :
    (dats m 0 c).flushed 3 t = (cfg0.win 3).cut (grid0.coords t) ((outsAt0 m c t.val t.isLt).2.1) := by
  show (cfg0.win 3).cut (grid0.coords t) ((dats m 0 c).after 3 t) = _
  rw [after0_3]

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

theorem flushed4 (c : Dev nD) (t : Fin cfg0.N) :
    (dats m 0 c).flushed 4 t = (cfg0.win 4).cut (grid0.coords t) ((outsAt0 m c t.val t.isLt).2.2.1) := by
  show (cfg0.win 4).cut (grid0.coords t) ((dats m 0 c).after 4 t) = _
  rw [after0_4]

theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

theorem run_blocks : θ_run defs (onTc (τ := τ) (main (F := F))) ⟨m, fun _ => 0, ρ⟩ fun r => ∀ c : Dev nD,
      r.2.mem ((c : Thread nD τ).loc main_v10_0) = (dats m 0 c).arrAt 2 cfg0.N
      ∧ r.2.mem ((c : Thread nD τ).loc main_v10_1) = (dats m 0 c).arrAt 3 cfg0.N
      ∧ r.2.mem ((c : Thread nD τ).loc main_v10_2) = (dats m 0 c).arrAt 4 cfg0.N
      ∧ kept m r.2.mem c :=
  (θ_run defs _ _).mono (fun _ h c => ⟨(h.2 c).1 2, (h.2 c).1 3, (h.2 c).1 4, h.1 c⟩) (θ_run_and (unchanged m ρ) (run_main m ρ))

end Cert.KernelFwdIdeal.Own

namespace Cert.KernelFwdIdeal.Own

open KernelFwdIdeal KernelFwdIdeal.Gen Idealize.ShloMosaic Idealize.ShloMosaic.TcCoe Idealize.SL.Sem Idealize.ShloMosaic.ValueIdx
open Pipeline (Dat)

variable {F : FTy → Type} [FloatOps F]
variable (m : (ℓ : Loc nD τ sig) → Buf (Elt F) ℓ) (c : Dev nD)

/-- The weight rows as the scratch holds them. -/
def wA : Vec F S2816x1024 .bf16 := wG c 0 (V m c main_v9) (by norm_num)
def wB : Vec F S2816x1024 .bf16 := wG c 704 (V m c main_v9) (by norm_num)
def wD : Vec F S2816x1024 .bf16 := wG c 1408 (V m c main_v9) (by norm_num)

theorem outs_eq : ∀ (n : ℕ) (h : n < cfg0.N), outsAt0 m c n h =
    (pt2 (iblk m c 0 ⟨n, h⟩) (iblk m c 1 ⟨n, h⟩) (wA m c) (wB m c) (wD m c),
     pt3 (iblk m c 0 ⟨n, h⟩) (iblk m c 1 ⟨n, h⟩) (wA m c),
     pt4 (iblk m c 0 ⟨n, h⟩) (iblk m c 1 ⟨n, h⟩) (wB m c),
     wA m c,
     wB m c,
     wD m c)
  | 0, h => by
    rw [show outsAt0 m c 0 h = _ from outsAt0_A m c ⟨0, h⟩ rfl]
    simp only [tA, outA_2, outA_3, outA_4, soutA_0, soutA_1, soutA_2]
    rfl
  | n + 1, h => by
    have hN : cfg0.N = 16 := N_0
    have hB : ¬(⟨n + 1, h⟩ : Fin cfg0.N).val % 16 = 0 := by dsimp only; omega
    have ih := outs_eq n (Nat.lt_of_succ_lt h)
    rw [show outsAt0 m c (n + 1) h = _ from outsAt0_B m c ⟨n + 1, h⟩ hB]
    simp only [tB, outB_2, outB_3, outB_4]
    simp only [show prev m c ⟨n + 1, h⟩ = _ from ih]

attribute [local irreducible] pt3 pt4

theorem index2 : ∀ t : Fin cfg0.N, win0_2.index t 0 = t.val ∧ win0_2.index t 1 = 0 :=
  (by decide +kernel : ∀ t : Fin grid0.N, win0_2.index t 0 = t.val ∧ win0_2.index t 1 = 0)

theorem cut2 (t : Fin cfg0.N) (X : Vec F S512x1024 .f32) (p : Fin 512) (j : Fin 1024) :
    ((cfg0.win 2).cut (grid0.coords t) X : S512x1024.Idx → _) (ix2 p j) = X (ix2 p j) := rfl

theorem arr2 (t : Fin cfg0.N) (p : Fin 512) (j : Fin 1024) (q : Fin 8192) (hq : (q : ℕ) = 512 * t.val + p.val) :
    ((dats m 0 c).arrAt 2 cfg0.N : S8192x1024.Idx → _) (ix2 q j) = (pt2 (iblk m c 0 t) (iblk m c 1 t) (wA m c) (wB m c) (wD m c)) (ix2 p j) := by
  have h := congrFun (blocks2 m c t (flush0_2 t)) (ix2 p j)
  rw [flushed2, outs_eq] at h
  dsimp only at h
  refine Eq.trans ?_ (h.trans (cut2 t _ p j))
  rw [View.read_apply]
  refine congrArg ((dats m 0 c).arrAt 2 cfg0.N : S8192x1024.Idx → _) (funext fun a => Fin.ext ?_)
  match a with
  | ⟨0, _⟩ => show q.val = win0_2.index t 0 * 512 + 1 * p.val; rw [(index2 t).1]; omega
  | ⟨1, _⟩ => show j.val = win0_2.index t 1 * 1024 + 1 * j.val; rw [(index2 t).2]; omega

theorem index3 : ∀ t : Fin cfg0.N, win0_3.index t 0 = t.val ∧ win0_3.index t 1 = 0 :=
  (by decide +kernel : ∀ t : Fin grid0.N, win0_3.index t 0 = t.val ∧ win0_3.index t 1 = 0)

theorem cut3 (t : Fin cfg0.N) (X : Vec F S512x2816 .bf16) (p : Fin 512) (j : Fin 2816) :
    ((cfg0.win 3).cut (grid0.coords t) X : S512x2816.Idx → _) (ix2 p j) = X (ix2 p j) := rfl

theorem arr3 (t : Fin cfg0.N) (p : Fin 512) (j : Fin 2816) (q : Fin 8192) (hq : (q : ℕ) = 512 * t.val + p.val) :
    ((dats m 0 c).arrAt 3 cfg0.N : S8192x2816.Idx → _) (ix2 q j) = (pt3 (iblk m c 0 t) (iblk m c 1 t) (wA m c)) (ix2 p j) := by
  have h := congrFun (blocks3 m c t (flush0_3 t)) (ix2 p j)
  rw [flushed3, outs_eq] at h
  dsimp only at h
  refine Eq.trans ?_ (h.trans (cut3 t _ p j))
  rw [View.read_apply]
  refine congrArg ((dats m 0 c).arrAt 3 cfg0.N : S8192x2816.Idx → _) (funext fun a => Fin.ext ?_)
  match a with
  | ⟨0, _⟩ => show q.val = win0_3.index t 0 * 512 + 1 * p.val; rw [(index3 t).1]; omega
  | ⟨1, _⟩ => show j.val = win0_3.index t 1 * 2816 + 1 * j.val; rw [(index3 t).2]; omega

theorem index4 : ∀ t : Fin cfg0.N, win0_4.index t 0 = t.val ∧ win0_4.index t 1 = 0 :=
  (by decide +kernel : ∀ t : Fin grid0.N, win0_4.index t 0 = t.val ∧ win0_4.index t 1 = 0)

theorem cut4 (t : Fin cfg0.N) (X : Vec F S512x2816 .bf16) (p : Fin 512) (j : Fin 2816) :
    ((cfg0.win 4).cut (grid0.coords t) X : S512x2816.Idx → _) (ix2 p j) = X (ix2 p j) := rfl

theorem arr4 (t : Fin cfg0.N) (p : Fin 512) (j : Fin 2816) (q : Fin 8192) (hq : (q : ℕ) = 512 * t.val + p.val) :
    ((dats m 0 c).arrAt 4 cfg0.N : S8192x2816.Idx → _) (ix2 q j) = (pt4 (iblk m c 0 t) (iblk m c 1 t) (wB m c)) (ix2 p j) := by
  have h := congrFun (blocks4 m c t (flush0_4 t)) (ix2 p j)
  rw [flushed4, outs_eq] at h
  dsimp only at h
  refine Eq.trans ?_ (h.trans (cut4 t _ p j))
  rw [View.read_apply]
  refine congrArg ((dats m 0 c).arrAt 4 cfg0.N : S8192x2816.Idx → _) (funext fun a => Fin.ext ?_)
  match a with
  | ⟨0, _⟩ => show q.val = win0_4.index t 0 * 512 + 1 * p.val; rw [(index4 t).1]; omega
  | ⟨1, _⟩ => show j.val = win0_4.index t 1 * 2816 + 1 * j.val; rw [(index4 t).2]; omega

theorem index0 : ∀ t : Fin cfg0.N, win0_0.index t 0 = t.val ∧ win0_0.index t 1 = 0 :=
  (by decide +kernel : ∀ t : Fin grid0.N, win0_0.index t 0 = t.val ∧ win0_0.index t 1 = 0)

theorem blk0 (t : Fin cfg0.N) (p : Fin 512) (j : Fin 1024) (q : Fin 8192) (hq : (q : ℕ) = 512 * t.val + p.val) :
    (iblk m c 0 t : S512x1024.Idx → _) (ix2 p j) = (V m c main_arg0 : S8192x1024.Idx → _) (ix2 q j) := by
  unfold iblk
  rw [View.read_apply]
  refine congrArg (V m c main_arg0 : S8192x1024.Idx → _) (funext fun a => Fin.ext ?_)
  match a with
  | ⟨0, _⟩ => show win0_0.index t 0 * 512 + 1 * p.val = q.val; rw [(index0 t).1]; omega
  | ⟨1, _⟩ => show win0_0.index t 1 * 1024 + 1 * j.val = j.val; rw [(index0 t).2]; omega

theorem index1 : ∀ t : Fin cfg0.N, win0_1.index t 0 = 0 ∧ win0_1.index t 1 = 0 :=
  (by decide +kernel : ∀ t : Fin grid0.N, win0_1.index t 0 = 0 ∧ win0_1.index t 1 = 0)

theorem blk1 (t : Fin cfg0.N) (p : Fin 1) (j : Fin 1024) :
    (iblk m c 1 t : S1x1024.Idx → _) (ix2 p j) = (V m c main_v0 : S1x1024.Idx → _) (ix2 p j) := by
  unfold iblk
  rw [View.read_apply]
  refine congrArg (V m c main_v0 : S1x1024.Idx → _) (funext fun a => Fin.ext ?_)
  match a with
  | ⟨0, _⟩ => show win0_1.index t 0 * 1 + 1 * p.val = p.val; rw [(index1 t).1]; omega
  | ⟨1, _⟩ => show win0_1.index t 1 * 1024 + 1 * j.val = j.val; rw [(index1 t).2]; omega

end Cert.KernelFwdIdeal.Own

end
-- ==== Proof.EMat.lean ====
/- Matrices of extended reals: what each vector operation of a kernel's body does to the elements, and the functions
   of one row that the forward calls compute. Nothing here asks the elements to be finite. -/
module

public import proofs.«01_k».proof.Proof.RealRow
public import Idealize.ShloMosaic.Lib.MatmulPlain
public import Idealize.ShloMosaic.Lib.ValueLayout
public import Idealize.ShloMosaic.Lib.ValueLayoutCasts

@[expose] public section

noncomputable section

namespace Cert.EMat

open Idealize.ShloMosaic Idealize.ShloMosaic.ValueIdx RealRow
open scoped BigOperators

variable {a b c : ℕ} {φ ψ : FTy}

/-- The elements of the matrix `A` are `f`'s values. -/
def E2 (A : FVec Ideal ⟨2, ![a, b]⟩ φ) (f : Fin a → Fin b → EReal) : Prop := ∀ p q, A (ix2 p q) = f p q

section
variable {A B : FVec Ideal ⟨2, ![a, b]⟩ φ} {f g : Fin a → Fin b → EReal}

theorem E2.mul (hA : E2 A f) (hB : E2 B g) : E2 (mulf A B) (fun p q => f p q * g p q) := fun p q => by rw [mulf_apply, hA, hB]
theorem E2.add (hA : E2 A f) (hB : E2 B g) : E2 (addf A B) (fun p q => f p q + g p q) := fun p q => by rw [addf_apply, hA, hB]
theorem E2.div (hA : E2 A f) (hB : E2 B g) : E2 (divf A B) (fun p q => Ideal.div (f p q) (g p q)) := fun p q => by rw [divf_apply, hA, hB]
theorem E2.rsqrt (hA : E2 A f) : E2 (Idealize.ShloMosaic.rsqrt A) (fun p q => Ideal.rsqrt (f p q)) := fun p q => by rw [rsqrt_apply, hA]
theorem E2.tanh (hA : E2 A f) : E2 (Idealize.ShloMosaic.tanh A) (fun p q => Ideal.tanh (f p q)) := fun p q => by rw [tanh_apply, hA]
theorem E2.trunc (hA : E2 A f) (h : ψ.bits < φ.bits) : E2 (truncf ψ A h) f := fun p q => by rw [truncf_apply, hA]
theorem E2.ext (hA : E2 A f) (h : φ.bits < ψ.bits) : E2 (extf ψ A h) f := fun p q => by rw [extf_apply, hA]
theorem E2.cast (hA : E2 A f) (h : (⟨2, ![a, b]⟩ : Shape).ShapeCasts ⟨2, ![a, b]⟩) : E2 (shapeCast ⟨2, ![a, b]⟩ A h) f := by
  rw [shapeCast_self]; exact hA
theorem E2.congr (hA : E2 A f) (h : ∀ p q, f p q = g p q) : E2 A g := fun p q => by rw [hA, h]
end

/-- A constant's word, spread over a matrix. -/
theorem E2.const (w : BitVec 32) : E2 (broadcast ⟨2, ![a, b]⟩ (Scalar.ofBits .f32 w : Ideal .f32)) (fun _ _ => Ideal.ofBits .f32 w) := fun _ _ => rfl
theorem E2.zero : E2 (constant (F := Ideal) ⟨2, ![a, b]⟩ .f32 0x00000000#32) (fun _ _ => 0) := fun _ _ => zero_f32

/-- A row over the rows. -/
theorem E2.row {A : FVec Ideal ⟨2, ![1, b]⟩ φ} {f : Fin 1 → Fin b → EReal} (hA : E2 A f) (h : (⟨2, ![1, b]⟩ : Shape).Broadcasts ⟨2, ![a, b]⟩) :
    E2 (broadcastTo ⟨2, ![a, b]⟩ A h) (fun _ q => f 0 q) := fun p q => by rw [broadcastTo_1b_ab_apply, hA]
/-- A column over the lanes. -/
theorem E2.col {A : FVec Ideal ⟨2, ![a, 1]⟩ φ} {f : Fin a → Fin 1 → EReal} (hA : E2 A f) (h : (⟨2, ![a, 1]⟩ : Shape).Broadcasts ⟨2, ![a, b]⟩) :
    E2 (broadcastTo ⟨2, ![a, b]⟩ A h) (fun p _ => f p 0) := fun p q => by rw [bcol_apply, hA]
/-- The rows' sums, as a column. -/
theorem E2.rowSum {A : FVec Ideal ⟨2, ![a, b]⟩ φ} {f : Fin a → Fin b → EReal} (hA : E2 A f) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) :
    E2 (shapeCast ⟨2, ![a, 1]⟩ (multiReduction .add [1] ⟨1, ![a]⟩ A acc h hφ hacc) hc) (fun p _ => ∑ k, f p k) := fun p q => by
  rw [shapeCast_a_a1_apply, rowSum_apply]; exact Finset.sum_congr rfl fun k _ => hA p k

/-- A product of two matrices. -/
theorem E2.nn {A : FVec Ideal ⟨2, ![a, b]⟩ φ} {B : FVec Ideal ⟨2, ![b, c]⟩ ψ} {C : FVec Ideal ⟨2, ![a, c]⟩ .f32}
    {f : Fin a → Fin b → EReal} {g : Fin b → Fin c → EReal} (hA : E2 A f) (hB : E2 B g) (hC : E2 C (fun _ _ => 0)) (prec : Option ContractPrecision)
    (d : DotDims ⟨2, ![a, b]⟩ ⟨2, ![b, c]⟩ ⟨2, ![a, c]⟩) (hd : d = DotDims.plain a b c) :
    E2 (matmul d prec A B C) (fun p q => ∑ k, f p k * g k q) := fun p q => by
  subst hd
  refine (Ideal.matmul_plain_apply prec A B C p q).trans ?_
  rw [hC p q, zero_add]
  exact Finset.sum_congr rfl fun k _ => by rw [hA, hB]
/-- A product with the second matrix transposed. -/
theorem E2.nt {A : FVec Ideal ⟨2, ![a, b]⟩ φ} {B : FVec Ideal ⟨2, ![c, b]⟩ ψ} {C : FVec Ideal ⟨2, ![a, c]⟩ .f32}
    {f : Fin a → Fin b → EReal} {g : Fin c → Fin b → EReal} (hA : E2 A f) (hB : E2 B g) (hC : E2 C (fun _ _ => 0)) (prec : Option ContractPrecision)
    (d : DotDims ⟨2, ![a, b]⟩ ⟨2, ![c, b]⟩ ⟨2, ![a, c]⟩) (hd : d = DotDims.transposedRhs a b c) :
    E2 (matmul d prec A B C) (fun p q => ∑ k, f p k * g q k) := fun p q => by
  subst hd
  refine (Ideal.matmul_transposedRhs_apply prec A B C p q).trans ?_
  rw [hC p q, zero_add]
  exact Finset.sum_congr rfl fun k _ => by rw [hA, hB]

/-! ## One row -/

/-- A two-axis array by its two coordinates. -/
def at2 {a b : ℕ} (X : (⟨2, ![a, b]⟩ : Shape).Idx → EReal) (p : Fin a) (q : Fin b) : EReal := X (ix2 p q)
/-- A one-axis array by its coordinate. -/
def at1 {a : ℕ} (X : (⟨1, ![a]⟩ : Shape).Idx → EReal) (p : Fin a) : EReal := X (ix1 p)
theorem at2_eq {a b : ℕ} (X : (⟨2, ![a, b]⟩ : Shape).Idx → EReal) (i : (⟨2, ![a, b]⟩ : Shape).Idx) : X i = at2 X (i 0) (i 1) := congrArg X (eq_ix2 i)
theorem at1_eq {a : ℕ} (X : (⟨1, ![a]⟩ : Shape).Idx → EReal) (i : (⟨1, ![a]⟩ : Shape).Idx) : X i = at1 X (i 0) := congrArg X (eq_ix1 i)

abbrev half : EReal := Ideal.ofBits .f32 0x3F000000#32

/-- The mean of the squares. -/
def ms (x : Fin 1024 → EReal) : EReal := Ideal.div (∑ k, x k * x k) (Ideal.ofBits .f32 0x44800000#32)
/-- The norm's reciprocal root. -/
def rr (x : Fin 1024 → EReal) : EReal := Ideal.rsqrt (ms x + Ideal.ofBits .f32 0x358637BD#32)
/-- The normed row. -/
def nn (x g : Fin 1024 → EReal) (j : Fin 1024) : EReal := x j * rr x * g j
/-- One channel of the normed row's projection. -/
def pr {F : ℕ} (x g : Fin 1024 → EReal) (w : Fin 1024 → Fin F → EReal) (f : Fin F) : EReal := ∑ k, nn x g k * w k f
/-- The logistic function. -/
def sg (v : EReal) : EReal := Ideal.div 1 (1 + Ideal.exp (-v))
/-- The product of the two hidden branches. -/
def sv {F : ℕ} (x g : Fin 1024 → EReal) (wg wu : Fin 1024 → Fin F → EReal) (f : Fin F) : EReal := pr x g wg f * sg (pr x g wg f) * pr x g wu f
/-- The half-step block at one row. -/
def ho {F : ℕ} (x g : Fin 1024 → EReal) (wg wu : Fin 1024 → Fin F → EReal) (wd : Fin F → Fin 1024 → EReal) (j : Fin 1024) : EReal :=
  x j + half * ∑ f, sv x g wg wu f * wd f j

/-- The logistic function by the hyperbolic tangent of half its argument, at every extended real. -/
theorem sg_tanh (v : EReal) : half * Ideal.tanh (half * v) + half = sg v := by
  have hp : (0 : ℝ) < 1 / 2 := by norm_num
  unfold half
  rw [half_f32]
  unfold sg
  induction v using EReal.rec with
  | bot =>
    rw [EReal.coe_mul_bot_of_pos hp, EReal.neg_bot, Ideal.tanh_bot, Ideal.exp_top, EReal.add_top_of_ne_bot (by decide)]
    unfold Ideal.div
    rw [if_neg (by decide), EReal.inv_top, mul_zero, mul_neg, mul_one, ← EReal.coe_neg, ← EReal.coe_add]
    norm_num
  | top =>
    rw [EReal.coe_mul_top_of_pos hp, EReal.neg_top, Ideal.tanh_top, Ideal.exp_bot, add_zero, mul_one, ← EReal.coe_add]
    unfold Ideal.div
    rw [if_neg one_ne_zero, one_mul]
    rw [← EReal.coe_one, ← EReal.coe_inv]
    norm_num
  | coe r =>
    rw [← EReal.coe_mul, Ideal.tanh_coe, ← EReal.coe_mul, ← EReal.coe_add, sig_tanh, ← EReal.coe_neg, Ideal.exp_coe, ← EReal.coe_one, ← EReal.coe_add,
      div_real (one_add_exp_ne r)]
    rfl

/-! ## The host's operations -/

section
variable {x y a b : EReal} {φ : FTy}
theorem mulE {p q : Ideal φ} (hp : p = x) (hq : q = y) : (FloatOps.mulf p q : Ideal φ) = x * y := by rw [Ideal.mulf_def, hp, hq]
theorem addE {p q : Ideal φ} (hp : p = x) (hq : q = y) : (FloatOps.addf p q : Ideal φ) = x + y := by rw [Ideal.addf_def, hp, hq]
theorem hdivE {p q : Ideal φ} (hp : p = x) (hq : q = y) : (FloatOps.hostDivf p q : Ideal φ) = Ideal.div x y := by rw [Ideal.hostDivf_def, hp, hq]
theorem hnegE {p : Ideal φ} (hp : p = x) : (FloatOps.hostNegf p : Ideal φ) = -x := by
  show -p = _
  rw [hp]
theorem hexpE {p : Ideal φ} (hp : p = x) : (FloatOps.hostUnary .exp p : Ideal φ) = Ideal.exp x := by
  show Ideal.exp p = _
  rw [hp]
theorem hrsqrtE {p : Ideal φ} (hp : p = x) : (FloatOps.hostUnary .rsqrt p : Ideal φ) = Ideal.rsqrt x := by
  show Ideal.rsqrt p = _
  rw [hp]
end

theorem dotE {n : ℕ} {u v p q : Fin n → EReal} (hu : ∀ k, u k = p k) (hv : ∀ k, v k = q k) : ∑ k, u k * v k = ∑ k, p k * q k :=
  Finset.sum_congr rfl fun k _ => by rw [hu k, hv k]

theorem sum0E {n : ℕ} {c : EReal} {u p : Fin n → EReal} (hc : c = 0) (hu : ∀ k, u k = p k) : c + ∑ k, u k = ∑ k, p k := by
  rw [hc, zero_add]; exact Finset.sum_congr rfl fun k _ => hu k

end Cert.EMat

end
-- ==== Proof.FwdPay.lean ====
/- The body of the half-step block on blocks of any elements (EMat). -/
module

public import proofs.«01_k».proof.Proof.FwdPoint
public import proofs.«01_k».proof.Proof.EMat

@[expose] public section

set_option maxRecDepth 16384

noncomputable section

namespace Cert.KernelFwdIdeal.Own

open KernelFwdIdeal KernelFwdIdeal.Gen Idealize.ShloMosaic Idealize.ShloMosaic.ValueIdx RealRow EMat
open scoped BigOperators

/-- The hidden units of the two chunks. -/
def eL (k : Fin 1536) : Fin 2816 := ⟨0 + k.val, by omega⟩
def eR (k : Fin 1280) : Fin 2816 := ⟨1536 + k.val, by omega⟩

theorem sum_chunks (F : Fin 2816 → EReal) : ∑ k, F (eL k) + ∑ k, F (eR k) = ∑ f, F f := by
  have hL : ∀ k : Fin 1536, eL k = Fin.castAdd 1280 k := fun k => Fin.ext (Nat.zero_add k.val)
  simp only [hL]
  exact (Fin.sum_univ_add (M := EReal) (a := 1536) (b := 1280) F).symm

theorem _root_.Cert.EMat.E2.wL {x : FVec Ideal S2816x1024 .bf16} {f : Fin 2816 → Fin 1024 → EReal} (h : E2 x f) : E2 (φ := .bf16) (wL (F := Ideal) x) (fun k j => f (eL k) j) := fun k j =>
  (congrArg x (funext fun a => Fin.ext (by
    match a with
    | ⟨0, _⟩ => show 0 + 1 * k.val = 0 + k.val; omega
    | ⟨1, _⟩ => show 0 + 1 * j.val = j.val; omega))).trans (h (eL k) j)
theorem _root_.Cert.EMat.E2.wR {x : FVec Ideal S2816x1024 .bf16} {f : Fin 2816 → Fin 1024 → EReal} (h : E2 x f) : E2 (φ := .bf16) (wR (F := Ideal) x) (fun k j => f (eR k) j) := fun k j =>
  (congrArg x (funext fun a => Fin.ext (by
    match a with
    | ⟨0, _⟩ => show 1536 + 1 * k.val = 1536 + k.val; omega
    | ⟨1, _⟩ => show 0 + 1 * j.val = j.val; omega))).trans (h (eR k) j)

/-- Two stores, one per chunk, leave the block that both are chunks of. -/
theorem two_chunks {c0 : FVec Ideal S512x1280 .bf16} {c1 : FVec Ideal S512x1536 .bf16} {f : Fin 512 → Fin 2816 → EReal}
    (h0 : E2 c0 fun p k => f p (eR k)) (h1 : E2 c1 fun p k => f p (eL k)) :
    E2 (φ := .bf16) (View.canon (Val := Elt Ideal) (s := S512x2816) (e := .bf16) [⟨Rect.unit ![0, 1536] ![512, 1280] inb_S512x2816_S512x1280_0_1536, c0⟩,
      ⟨Rect.unit ![0, 0] ![512, 1536] inb_S512x2816_S512x1536_0_0, c1⟩]) f := fun p q => by
  refine View.canon_apply_of_pieces (Val := Elt Ideal) (e := .bf16) (S := S512x2816) (fun y => f (y 0) (y 1)) _ ?_ (ix2 p q) ?_
  · intro pc hp x
    simp only [List.mem_cons, List.not_mem_nil, or_false] at hp
    rcases hp with rfl | rfl
    · obtain ⟨i, j, rfl⟩ : ∃ (i : Fin 512) (j : Fin 1280), x = ix2 i j := ⟨x 0, x 1, eq_ix2 x⟩
      refine (h0 i j).trans ?_
      exact congrArg₂ f (Fin.ext (show i.val = 0 + 1 * i.val by omega)) (Fin.ext (show 1536 + j.val = 1536 + 1 * j.val by omega))
    · obtain ⟨i, j, rfl⟩ : ∃ (i : Fin 512) (j : Fin 1536), x = ix2 i j := ⟨x 0, x 1, eq_ix2 x⟩
      refine (h1 i j).trans ?_
      exact congrArg₂ f (Fin.ext (show i.val = 0 + 1 * i.val by omega)) (Fin.ext (show 0 + j.val = 0 + 1 * j.val by omega))
  · have hp := p.isLt
    have hq := q.isLt
    by_cases g0 : 1536 ≤ q.val
    · refine ⟨_, List.mem_cons_self .., ?_⟩
      rw [Rect.mem_set_unit]
      intro a
      match a with
      | ⟨0, _⟩ => show 0 ≤ p.val ∧ p.val < 0 + 512; omega
      | ⟨1, _⟩ => show 1536 ≤ q.val ∧ q.val < 1536 + 1280; omega
    refine ⟨_, List.mem_cons_of_mem _ (List.mem_cons_self ..), ?_⟩
    rw [Rect.mem_set_unit]
    intro a
    match a with
    | ⟨0, _⟩ => show 0 ≤ p.val ∧ p.val < 0 + 512; omega
    | ⟨1, _⟩ => show 0 ≤ q.val ∧ q.val < 0 + 1536; omega

section
variable {x : FVec Ideal S512x1024 .f32} {gv : FVec Ideal S1x1024 .f32} {wa wb wd : FVec Ideal S2816x1024 .bf16} {X : Fin 512 → Fin 1024 → EReal} {G : Fin 1024 → EReal}
  {Wg Wu : Fin 1024 → Fin 2816 → EReal} {Wd : Fin 2816 → Fin 1024 → EReal}
  (hx : E2 x X) (hg : E2 gv fun _ j => G j) (ha : E2 wa fun f j => Wg j f) (hb : E2 wb fun f j => Wu j f) (hd : E2 wd Wd)

include hx hg in
theorem pay6E : E2 (k0_pay6 (F := Ideal) x gv) (fun p j => nn (X p) G j) :=
  ((hx.mul ((((((hx.mul hx).rowSum _ _ _ _ _).div (E2.const _)).add (E2.const _)).rsqrt).col _)).mul ((hg.cast _).row _)).trunc _
include hx hg ha in
theorem pay8E : E2 (k0_pay8 (F := Ideal) x gv (wL wa)) (fun p k => pr (X p) G Wg (eL k)) := (pay6E hx hg).nt ha.wL E2.zero _ _ rfl
include hx hg hb in
theorem pay9E : E2 (k0_pay9 (F := Ideal) x gv (wL wb)) (fun p k => pr (X p) G Wu (eL k)) := (pay6E hx hg).nt hb.wL E2.zero _ _ rfl
include hx hg ha in
theorem pay1E : E2 (k0_pay1 (F := Ideal) (k0_pay6 x gv) (wR wa)) (fun p k => pr (X p) G Wg (eR k)) := (pay6E hx hg).nt ha.wR E2.zero _ _ rfl
include hx hg hb in
theorem pay2E : E2 (k0_pay2 (F := Ideal) (k0_pay6 x gv) (wR wb)) (fun p k => pr (X p) G Wu (eR k)) := (pay6E hx hg).nt hb.wR E2.zero _ _ rfl

include hx hg ha in
theorem pt3E : E2 (φ := .bf16) (pt3 (F := Ideal) x gv wa) (fun p f => pr (X p) G Wg f) := two_chunks ((pay1E hx hg ha).trunc _) ((pay8E hx hg ha).trunc _)
include hx hg hb in
theorem pt4E : E2 (φ := .bf16) (pt4 (F := Ideal) x gv wb) (fun p f => pr (X p) G Wu f) := two_chunks ((pay2E hx hg hb).trunc _) ((pay9E hx hg hb).trunc _)

include hx hg ha hb hd in
theorem pt2E : E2 (φ := .f32) (pt2 (F := Ideal) x gv wa wb wd) (fun p j => ho (X p) G Wg Wu Wd j) :=
  (hx.add ((E2.const _).mul
    (((E2.const _).add ((((((pay8E hx hg ha).mul (((E2.const _).mul ((E2.const _).mul (pay8E hx hg ha)).tanh).add (E2.const _))).mul (pay9E hx hg hb)).trunc _).nn hd.wL E2.zero _ _ rfl))).add
      (((((pay1E hx hg ha).mul (((E2.const _).mul ((E2.const _).mul (pay1E hx hg ha)).tanh).add (E2.const _))).mul (pay2E hx hg hb)).trunc _).nn hd.wR E2.zero _ _ rfl)))).congr fun p j => by
    unfold ho
    rw [← sum_chunks]
    simp only [show ∀ v : EReal, Ideal.ofBits .f32 0x3F000000#32 * Ideal.tanh (Ideal.ofBits .f32 0x3F000000#32 * v) + Ideal.ofBits .f32 0x3F000000#32 = EMat.sg v from sg_tanh]
    rw [zero_f32, EReal.coe_zero, zero_add]
    rfl
end

end Cert.KernelFwdIdeal.Own

end
-- ==== Proof.FwdValue.lean ====
/- The arrays the half-step block leaves are the reference's, block by block from the point's values (FwdPay). -/
module

public import proofs.«01_k».proof.Proof.FwdSweep
public import proofs.«01_k».proof.Proof.FwdPay
public import Idealize.ShloMosaic.Lib.StableHlo.Run
public import proofs.«01_k».proof.Proof.EMat
public import proofs.«01_k».proof.Proof.Gen.ReferenceFwdIdeal.Read

@[expose] public section

set_option maxRecDepth 16384

noncomputable section

namespace Cert.KernelFwdIdeal.Own

open KernelFwdIdeal KernelFwdIdeal.Gen Idealize.ShloMosaic Idealize.ShloMosaic.TcCoe Idealize.SL.Sem Idealize.ShloMosaic.ValueIdx

variable (m : (ℓ : Loc nD τ sig) → Buf (Elt Ideal) ℓ) (c : Dev nD)

theorem V0 : (V m c main_v0 : S1x1024.Idx → Ideal .f32) =
    shapeCast S1x1024 (m ((c : Thread nD τ).loc main_arg1) : S1024.Idx → Ideal .f32) shapeCasts_S1024_S1x1024 := by
  unfold V
  simp only [hostOps0, List.flatten_cons, List.flatten_nil, List.append_nil, List.cons_append, List.nil_append]
  after_results_simp <;> rfl

theorem V9 : (V m c main_v9 : S4x2112x1024.Idx → Ideal .bf16) =
    (concatenate S4x2112x1024 1
      [⟨S4x704x1024, shapeCast S4x704x1024 (truncf .bf16 (transpose S2816x1024 [1, 0] (m ((c : Thread nD τ).loc main_arg2) : S1024x2816.Idx → Ideal .f32) transposes_S1024x2816_S2816x1024_1_0) bitsLt_bf16_f32) shapeCasts_S2816x1024_S4x704x1024⟩,
       ⟨S4x704x1024, shapeCast S4x704x1024 (truncf .bf16 (transpose S2816x1024 [1, 0] (m ((c : Thread nD τ).loc main_arg3) : S1024x2816.Idx → Ideal .f32) transposes_S1024x2816_S2816x1024_1_0) bitsLt_bf16_f32) shapeCasts_S2816x1024_S4x704x1024⟩,
       ⟨S4x704x1024, shapeCast S4x704x1024 (truncf .bf16 (m ((c : Thread nD τ).loc main_arg4) : S2816x1024.Idx → Ideal .f32) bitsLt_bf16_f32) shapeCasts_S2816x1024_S4x704x1024⟩] concatenates_S4x704x1024_S4x704x1024_S4x704x1024_S4x2112x1024_d1 : S4x2112x1024.Idx → Ideal .bf16) := by
  unfold V
  simp only [hostOps0, List.flatten_cons, List.flatten_nil, List.append_nil, List.cons_append, List.nil_append]
  after_results_simp <;> rfl

/-- A weight of 2816 rows cut into four slabs of 704. -/
theorem slab_apply {α : Type} (x : S2816x1024.Idx → α) (q : Fin 4) (r : Fin 704) (j : Fin 1024) (f : Fin 2816) (hf : (f : ℕ) = 704 * q.val + r.val) :
    shapeCast S4x704x1024 x shapeCasts_S2816x1024_S4x704x1024 (ix3 q r j) = x (ix2 f j) :=
  shapeCast_apply x _ _ _ (by
    rw [Shape.rowMajor_val_three, Shape.rowMajor_val_two]
    show f.val * 1024 + j.val = (q.val * 704 + r.val) * 1024 + j.val
    omega)

theorem concat_apply {α : Type} (x y z : S4x704x1024.Idx → α) (q : Fin 4) (r : Fin 704) (j : Fin 1024) (h : _) :
    (∀ r' : Fin 2112, r'.val = r.val → concatenate S4x2112x1024 1 [⟨S4x704x1024, x⟩, ⟨S4x704x1024, y⟩, ⟨S4x704x1024, z⟩] h (ix3 q r' j) = x (ix3 q r j)) ∧
    (∀ r' : Fin 2112, r'.val = 704 + r.val → concatenate S4x2112x1024 1 [⟨S4x704x1024, x⟩, ⟨S4x704x1024, y⟩, ⟨S4x704x1024, z⟩] h (ix3 q r' j) = y (ix3 q r j)) ∧
    (∀ r' : Fin 2112, r'.val = 1408 + r.val → concatenate S4x2112x1024 1 [⟨S4x704x1024, x⟩, ⟨S4x704x1024, y⟩, ⟨S4x704x1024, z⟩] h (ix3 q r' j) = z (ix3 q r j)) := by
  refine ⟨fun r' hr => ?_, fun r' hr => ?_, fun r' hr => ?_⟩
  · refine concatenate_apply_piece (1 : Fin S4x2112x1024.rank) _ h (ix3 q r' j) 0 (by simp) S4x704x1024 x rfl rfl 0 rfl (ix3 q r j) (fun b hb => ?_) ?_
    · match b with
      | ⟨0, _⟩ => rfl
      | ⟨1, _⟩ => exact absurd rfl hb
      | ⟨2, _⟩ => rfl
    · show 0 + r.val = r'.val; omega
  · refine concatenate_apply_piece (1 : Fin S4x2112x1024.rank) _ h (ix3 q r' j) 1 (by simp) S4x704x1024 y rfl rfl 704 rfl (ix3 q r j) (fun b hb => ?_) ?_
    · match b with
      | ⟨0, _⟩ => rfl
      | ⟨1, _⟩ => exact absurd rfl hb
      | ⟨2, _⟩ => rfl
    · show 704 + r.val = r'.val; omega
  · refine concatenate_apply_piece (1 : Fin S4x2112x1024.rank) _ h (ix3 q r' j) 2 (by simp) S4x704x1024 z rfl rfl 1408 rfl (ix3 q r j) (fun b hb => ?_) ?_
    · match b with
      | ⟨0, _⟩ => rfl
      | ⟨1, _⟩ => exact absurd rfl hb
      | ⟨2, _⟩ => rfl
    · show 1408 + r.val = r'.val; omega

theorem wA_apply (f : Fin 2816) (j : Fin 1024) :
    (wA m c : S2816x1024.Idx → EReal) (ix2 f j) = (m ((c : Thread nD τ).loc main_arg2) : S1024x2816.Idx → EReal) (ix2 j f) := by
  have hf : (f : ℕ) < 2816 := f.isLt
  unfold wA wG
  refine (congrFun (V9 m c) _).trans ?_
  refine ((concat_apply _ _ _ ⟨f.val / 704, by omega⟩ ⟨f.val % 704, by omega⟩ j _).1 _ (by show 0 + f.val % 704 = f.val % 704; omega)).trans ?_
  rw [slab_apply _ _ _ _ f (by show f.val = 704 * (f.val / 704) + f.val % 704; omega), truncf_apply]
  exact transpose_ix2_apply _ _ _ _

theorem wB_apply (f : Fin 2816) (j : Fin 1024) :
    (wB m c : S2816x1024.Idx → EReal) (ix2 f j) = (m ((c : Thread nD τ).loc main_arg3) : S1024x2816.Idx → EReal) (ix2 j f) := by
  have hf : (f : ℕ) < 2816 := f.isLt
  unfold wB wG
  refine (congrFun (V9 m c) _).trans ?_
  refine ((concat_apply _ _ _ ⟨f.val / 704, by omega⟩ ⟨f.val % 704, by omega⟩ j _).2.1 _ rfl).trans ?_
  rw [slab_apply _ _ _ _ f (by show f.val = 704 * (f.val / 704) + f.val % 704; omega), truncf_apply]
  exact transpose_ix2_apply _ _ _ _

theorem wD_apply (f : Fin 2816) (j : Fin 1024) :
    (wD m c : S2816x1024.Idx → EReal) (ix2 f j) = (m ((c : Thread nD τ).loc main_arg4) : S2816x1024.Idx → EReal) (ix2 f j) := by
  have hf : (f : ℕ) < 2816 := f.isLt
  unfold wD wG
  refine (congrFun (V9 m c) _).trans ?_
  refine ((concat_apply _ _ _ ⟨f.val / 704, by omega⟩ ⟨f.val % 704, by omega⟩ j _).2.2 _ rfl).trans ?_
  rw [slab_apply _ _ _ _ f (by show f.val = 704 * (f.val / 704) + f.val % 704; omega), truncf_apply]

theorem gain_apply (p : Fin 1) (j : Fin 1024) :
    (V m c main_v0 : S1x1024.Idx → EReal) (ix2 p j) = (m ((c : Thread nD τ).loc main_arg1) : S1024.Idx → EReal) (ix1 j) := by
  rw [V0]
  exact shapeCast_apply (s := S1024) _ _ _ _ (by
    rw [Shape.rowMajor_val_one, Shape.rowMajor_val_two]
    have hp : (p : ℕ) < 1 := p.isLt
    show j.val = p.val * 1024 + j.val
    omega)

end Cert.KernelFwdIdeal.Own

namespace Cert.FwdRef

open ReferenceFwdIdeal ReferenceFwdIdeal.Read RealRow EMat Idealize.ShloMosaic Idealize.ShloMosaic.ValueIdx
open scoped BigOperators

variable (X : S8192x1024.Idx → EReal) (G : S1024.Idx → EReal) (Wg Wu : S1024x2816.Idx → EReal) (Wd : S2816x1024.Idx → EReal)

theorem r_v12 (i : S8192x1024.Idx) : val_main_v12 (F := Ideal) X G i = (nn (at2 X (i 0)) (at1 G) (i 1) : EReal) :=
  (val_main_v12_apply _ _ i).trans (mulE ((val_main_v9_apply _ i).trans (mulE (at2_eq X i) ((val_main_v8_apply _ i).trans ((val_main_v7_apply _ _).trans (hrsqrtE ((val_main_v6_apply _ _).trans (addE ((val_main_v4_apply _ _).trans (hdivE ((val_main_v2_apply _ _).trans ((val_main_v1_apply _ _).trans (sum0E ((val_main_cst_apply _).trans zero_f32) (fun k => ((val_main_v0_apply _ _).trans (mulE (at2_eq X _) (at2_eq X _))))))) ((val_main_v3_apply  _).trans ((val_main_cst_0_apply _).trans rfl)))) ((val_main_v5_apply  _).trans ((val_main_cst_1_apply _).trans rfl))))))))) ((val_main_v11_apply _ i).trans ((val_main_v10_apply _ _).trans (at1_eq G _))))

theorem r_v25 (i : S8192x1024.Idx) : val_main_v25 (F := Ideal) X G i = (nn (at2 X (i 0)) (at1 G) (i 1) : EReal) :=
  (val_main_v25_apply _ _ i).trans (mulE ((val_main_v22_apply _ i).trans (mulE (at2_eq X i) ((val_main_v21_apply _ i).trans ((val_main_v20_apply _ _).trans (hrsqrtE ((val_main_v19_apply _ _).trans (addE ((val_main_v17_apply _ _).trans (hdivE ((val_main_v15_apply _ _).trans ((val_main_v14_apply _ _).trans (sum0E ((val_main_cst_2_apply _).trans zero_f32) (fun k => ((val_main_v13_apply _ _).trans (mulE (at2_eq X _) (at2_eq X _))))))) ((val_main_v16_apply  _).trans ((val_main_cst_3_apply _).trans rfl)))) ((val_main_v18_apply  _).trans ((val_main_cst_4_apply _).trans rfl))))))))) ((val_main_v24_apply _ i).trans ((val_main_v23_apply _ _).trans (at1_eq G _))))

theorem r_v26 (i : S8192x2816.Idx) : val_main_v26 (F := Ideal) X G Wg i = (pr (at2 X (i 0)) (at1 G) (at2 Wg) (i 1) : EReal) :=
  (val_main_v26_apply _ _ _ i).trans (dotE (fun k => r_v25 X G _) fun k => at2_eq Wg _)

theorem r_v33 (i : S8192x1024.Idx) : val_main_v33 (F := Ideal) X G Wg Wu Wd i = (ho (at2 X (i 0)) (at1 G) (at2 Wg) (at2 Wu) (at2 Wd) (i 1) : EReal) :=
  (val_main_v33_apply _ _ _ _ _ i).trans (addE (at2_eq X i) ((val_main_v32_apply _ _ _ _ _ i).trans (mulE ((val_main_v31_apply  i).trans ((val_main_cst_5_apply _).trans rfl)) ((val_main_v30_apply _ _ _ _ _ i).trans (dotE (fun k => ((val_main_v29_apply _ _ _ _ _).trans (mulE ((val_main_v27_apply _ _ _ _).trans (mulE (r_v26 X G Wg _) ((val_main_call0_v5_apply _ _ _ _).trans (hdivE ((val_main_call0_v4_apply  _).trans ((val_main_call0_cst_0_apply _).trans Ideal.ofBits_one_f32)) ((val_main_call0_v3_apply _ _ _ _).trans (addE ((val_main_call0_v2_apply  _).trans ((val_main_call0_cst_apply _).trans Ideal.ofBits_one_f32)) ((val_main_call0_v1_apply _ _ _ _).trans (hexpE ((val_main_call0_v0_apply _ _ _ _).trans (hnegE (r_v26 X G Wg _))))))))))) ((val_main_v28_apply _ _ _ _).trans (dotE (fun k => r_v25 X G _) fun k => at2_eq Wu _))))) fun k => at2_eq Wd _)))))

theorem r_v35 (i : S8192x2816.Idx) : val_main_v35 (F := Ideal) X G Wg i = (pr (at2 X (i 0)) (at1 G) (at2 Wg) (i 1) : EReal) :=
  (val_main_v35_apply _ _ _ i).trans (((val_main_v34_apply _ _ _ i).trans (dotE (fun k => r_v12 X G _) fun k => at2_eq Wg _)))

theorem r_v37 (i : S8192x2816.Idx) : val_main_v37 (F := Ideal) X G Wu i = (pr (at2 X (i 0)) (at1 G) (at2 Wu) (i 1) : EReal) :=
  (val_main_v37_apply _ _ _ i).trans (((val_main_v36_apply _ _ _ i).trans (dotE (fun k => r_v12 X G _) fun k => at2_eq Wu _)))

end Cert.FwdRef

namespace Cert.KernelFwdIdeal.Own

open KernelFwdIdeal KernelFwdIdeal.Gen Idealize.ShloMosaic Idealize.ShloMosaic.TcCoe Idealize.SL.Sem Idealize.ShloMosaic.ValueIdx EMat FwdRef
open scoped BigOperators

/-- Row `p` of block `t`. -/
def rowAt (t : Fin cfg0.N) (p : Fin 512) : Fin 8192 :=
  ⟨512 * t.val + p.val, by have := t.isLt; have hN : cfg0.N = 16 := N_0; omega⟩

/-- The block a row lies in. -/
def blkOf (q : Fin 8192) : Fin cfg0.N := ⟨q.val / 512, by have hN : cfg0.N = 16 := N_0; omega⟩
def rowIn (q : Fin 8192) : Fin 512 := ⟨q.val % 512, by omega⟩
theorem rowAt_eq (q : Fin 8192) : rowAt (blkOf q) (rowIn q) = q := Fin.ext (show 512 * (q.val / 512) + q.val % 512 = q.val by omega)

variable (m : (ℓ : Loc nD τ sig) → Buf (Elt Ideal) ℓ) (c : Dev nD)

abbrev a0 : S8192x1024.Idx → EReal := m ((c : Thread nD τ).loc main_arg0)
abbrev a1 : S1024.Idx → EReal := m ((c : Thread nD τ).loc main_arg1)
abbrev a2 : S1024x2816.Idx → EReal := m ((c : Thread nD τ).loc main_arg2)
abbrev a3 : S1024x2816.Idx → EReal := m ((c : Thread nD τ).loc main_arg3)
abbrev a4 : S2816x1024.Idx → EReal := m ((c : Thread nD τ).loc main_arg4)

theorem rows0 (t : Fin cfg0.N) : E2 (φ := .f32) (iblk m c 0 t : Vec Ideal S512x1024 .f32) (fun p => at2 (a0 m c) (rowAt t p)) := fun p j =>
  (blk0 m c t p j (rowAt t p) rfl).trans (congrFun (V_main_arg0 m c) _)
theorem rows1 (t : Fin cfg0.N) : E2 (φ := .f32) (iblk m c 1 t : Vec Ideal S1x1024 .f32) (fun _ j => at1 (a1 m c) j) := fun p j =>
  (blk1 m c t p j).trans (gain_apply m c p j)
theorem heldA : E2 (φ := .bf16) (wA m c : Vec Ideal S2816x1024 .bf16) (fun f j => at2 (a2 m c) j f) := fun f j => wA_apply m c f j
theorem heldB : E2 (φ := .bf16) (wB m c : Vec Ideal S2816x1024 .bf16) (fun f j => at2 (a3 m c) j f) := fun f j => wB_apply m c f j
theorem heldD : E2 (φ := .bf16) (wD m c : Vec Ideal S2816x1024 .bf16) (at2 (a4 m c)) := fun f j => wD_apply m c f j

theorem val2 : ((dats m 0 c).arrAt 2 cfg0.N : S8192x1024.Idx → EReal) = ReferenceFwdIdeal.Read.val_main_v33 (F := Ideal) (a0 m c) (a1 m c) (a2 m c) (a3 m c) (a4 m c) := by
  have key : ∀ (q : Fin 8192) (j : Fin 1024), ((dats m 0 c).arrAt 2 cfg0.N : S8192x1024.Idx → EReal) (ix2 q j) = ReferenceFwdIdeal.Read.val_main_v33 (F := Ideal) (a0 m c) (a1 m c) (a2 m c) (a3 m c) (a4 m c) (ix2 q j) := fun q j => by
    have hq : (q : ℕ) = 512 * (blkOf q).val + (rowIn q).val := (congrArg Fin.val (rowAt_eq q)).symm
    refine (arr2 m c (blkOf q) (rowIn q) j q hq).trans ((pt2E (rows0 m c _) (rows1 m c _) (heldA m c) (heldB m c) (heldD m c) (rowIn q) j).trans ?_)
    dsimp only
    rw [rowAt_eq]
    exact (r_v33 (a0 m c) (a1 m c) (a2 m c) (a3 m c) (a4 m c) (ix2 q j)).symm
  refine funext fun (i : S8192x1024.Idx) => ?_
  rw [eq_ix2 i]
  exact key _ _

theorem val3 : ((dats m 0 c).arrAt 3 cfg0.N : S8192x2816.Idx → EReal) = ReferenceFwdIdeal.Read.val_main_v35 (F := Ideal) (a0 m c) (a1 m c) (a2 m c) := by
  have key : ∀ (q : Fin 8192) (j : Fin 2816), ((dats m 0 c).arrAt 3 cfg0.N : S8192x2816.Idx → EReal) (ix2 q j) = ReferenceFwdIdeal.Read.val_main_v35 (F := Ideal) (a0 m c) (a1 m c) (a2 m c) (ix2 q j) := fun q j => by
    have hq : (q : ℕ) = 512 * (blkOf q).val + (rowIn q).val := (congrArg Fin.val (rowAt_eq q)).symm
    refine (arr3 m c (blkOf q) (rowIn q) j q hq).trans ((pt3E (rows0 m c _) (rows1 m c _) (heldA m c) (rowIn q) j).trans ?_)
    dsimp only
    rw [rowAt_eq]
    exact (r_v35 (a0 m c) (a1 m c) (a2 m c) (ix2 q j)).symm
  refine funext fun (i : S8192x2816.Idx) => ?_
  rw [eq_ix2 i]
  exact key _ _

theorem val4 : ((dats m 0 c).arrAt 4 cfg0.N : S8192x2816.Idx → EReal) = ReferenceFwdIdeal.Read.val_main_v37 (F := Ideal) (a0 m c) (a1 m c) (a3 m c) := by
  have key : ∀ (q : Fin 8192) (j : Fin 2816), ((dats m 0 c).arrAt 4 cfg0.N : S8192x2816.Idx → EReal) (ix2 q j) = ReferenceFwdIdeal.Read.val_main_v37 (F := Ideal) (a0 m c) (a1 m c) (a3 m c) (ix2 q j) := fun q j => by
    have hq : (q : ℕ) = 512 * (blkOf q).val + (rowIn q).val := (congrArg Fin.val (rowAt_eq q)).symm
    refine (arr4 m c (blkOf q) (rowIn q) j q hq).trans ((pt4E (rows0 m c _) (rows1 m c _) (heldB m c) (rowIn q) j).trans ?_)
    dsimp only
    rw [rowAt_eq]
    exact (r_v37 (a0 m c) (a1 m c) (a3 m c) (ix2 q j)).symm
  refine funext fun (i : S8192x2816.Idx) => ?_
  rw [eq_ix2 i]
  exact key _ _

end Cert.KernelFwdIdeal.Own

end
-- ==== Proof.FwdWords.lean ====
/- The kernel at machine words: its program is the ideal reading's program, so one frame serves both. -/
module

public import proofs.«01_k».proof.Defs
public import proofs.«01_k».proof.Proof.Gen.KernelFwd
public import proofs.«01_k».proof.Proof.FwdFrame

@[expose] public section

noncomputable section

namespace Cert.Proof.Fwd

open Idealize.ShloMosaic Idealize.SL.Sem
set_option maxHeartbeats 0

theorem bodies : KernelFwd.defs₀ (F := Bits) = KernelFwdIdeal.defs₀ (F := Bits) := by
  unfold KernelFwd.defs₀ KernelFwdIdeal.defs₀
  refine congrArg Defs.onTc ?_
  funext l a
  match l, a with
  | 0, (t, s) => rfl

theorem tables : (KernelFwd.defs (F := Bits)) = (KernelFwdIdeal.defs (F := Bits)) :=
  congrArg (Pipeline.defs (KernelFwdIdeal.pcfgs (F := Bits))) bodies

theorem mains : KernelFwd.main (F := Bits) = KernelFwdIdeal.main (F := Bits) := rfl

theorem frame_kernel : Cert.quiescent_KernelFwd := by
  intro m ρ _
  rw [tables, mains]
  exact KernelFwdIdeal.Own.frame (F := Bits) m ρ

end Cert.Proof.Fwd

end
-- ==== Proof.ZinRun.lean ====
/- The body's run in case A: the stores it leaves in every buffer, found by the executor. -/
module

public import proofs.«01_k».proof.Proof.Gen.KernelZinIdeal.Frame.Runs
public import proofs.«01_k».proof.Proof.Own

@[expose] public section

set_option maxRecDepth 16384

noncomputable section

namespace Cert.KernelZinIdeal.Own

open KernelZinIdeal.Gen
open Idealize.ShloMosaic
open TcCoe Tactic
open Idealize.SL
open RA BI ProofMode Sem
open BIBase Laws
open Rounds Cert.Own
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 1000000 in
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x5120 .bf16) (harg4 : arg4.IsWhole) (arg5 : Memref sig .tc .vmem S5120x1024 .bf16) (harg5 : arg5.IsWhole) (hc0 : cond0_0 i)
    (x0 : Vec F S512x1024 .f32) (x1 : Vec F S1x1024 .f32) (fh0 : HbBuf0 (F := F) c hbM0_0) :
    Σ' (L2 : List (View.Piece (Elt F) S512x5120 .bf16)), { LS0 : List (View.Piece (Elt F) S5120x1024 .bf16) //
      ∀ (W : Waits sig Unit) (K : PUnit → sProp 𝕄),
        iprop(ow c arg1 x0 ∗ ow c arg2 x1 ∗ (∃ d, ow c arg4 d) ∗ (∃ d, ow c arg5 d) ∗ sv c 5 ∗ sv c 6 ∗ sv c 7 ∗ sv c 8 ∗ hbPt0 c hbM0_0 fh0 ∗ owes (c : Thread nD τ) 0 W
            ∗ (iprop(ow c arg1 x0 ∗ ow c arg2 x1 ∗ wr c arg4 L2 ∗ wr c arg5 LS0 ∗ sv c 5 ∗ sv c 6 ∗ sv c 7 ∗ sv c 8 ∗ hbPt0 c hbM0_0 fh0 ∗ (∃ W', owes (c : Thread nD τ) 0 W')) -∗ K ⟨⟩))
          ⊢ wp frame (wpE (defs₀ (F := F)) Variants.none c none) Set.univ (cc0_mix_in_fwd i arg1 harg1 arg2 harg2 (Memref.whole main_v3) (Memref.isWhole_whole _) arg4 harg4 arg5 harg5 cc0_scratch1) K } := by
  refine ⟨?_, ?_, fun W K => ?run⟩
  case run =>
    simp only [cc0_mix_in_fwd_eq_skeleton]; unfold cc0_mix_in_fwd_skel
    simp only [k0_part2_eq_skeleton, k0_part1_eq_skeleton]
    unfold ow owns wr
    iintro ⟨⟨%f0, %hf0, H0⟩, ⟨%f1, %hf1, H1⟩, ⟨%d2, %f2, -, H2⟩, ⟨%ds0, %fs0, -, HS0⟩, Hq0, Hq1, Hq2, Hq3, Hh0, HW, Hk⟩
    obtain rfl := harg1.eq_unread hf0; obtain rfl := harg2.eq_unread hf1
    sl_exec (disch := first | sl_exact hc0)
    sl_step
    iapply Hk
    iframe Hq0 Hq1 Hq2 Hq3 Hh0
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HW

set_option maxHeartbeats 1000000 in
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x5120 .bf16) (harg4 : arg4.IsWhole) (arg5 : Memref sig .tc .vmem S5120x1024 .bf16) (harg5 : arg5.IsWhole) (hc0 : ¬cond0_0 i)
    (x0 : Vec F S512x1024 .f32) (x1 : Vec F S1x1024 .f32) (xs0 : Vec F S5120x1024 .bf16) (fh0 : HbBuf0 (F := F) c hbM0_0) :
    Σ' (L2 : List (View.Piece (Elt F) S512x5120 .bf16)), { LS0 : List (View.Piece (Elt F) S5120x1024 .bf16) //
      ∀ (W : Waits sig Unit) (K : PUnit → sProp 𝕄),
        iprop(ow c arg1 x0 ∗ ow c arg2 x1 ∗ (∃ d, ow c arg4 d) ∗ ow c arg5 xs0 ∗ sv c 5 ∗ sv c 6 ∗ sv c 7 ∗ sv c 8 ∗ hbPt0 c hbM0_0 fh0 ∗ owes (c : Thread nD τ) 0 W
            ∗ (iprop(ow c arg1 x0 ∗ ow c arg2 x1 ∗ wr c arg4 L2 ∗ ow c arg5 xs0 ∗ sv c 5 ∗ sv c 6 ∗ sv c 7 ∗ sv c 8 ∗ hbPt0 c hbM0_0 fh0 ∗ (∃ W', owes (c : Thread nD τ) 0 W')) -∗ K ⟨⟩))
          ⊢ wp frame (wpE (defs₀ (F := F)) Variants.none c none) Set.univ (cc0_mix_in_fwd i arg1 harg1 arg2 harg2 (Memref.whole main_v3) (Memref.isWhole_whole _) arg4 harg4 arg5 harg5 cc0_scratch1) K } := by
  refine ⟨?_, [], fun W K => ?run⟩
  case run =>
    simp only [cc0_mix_in_fwd_eq_skeleton]; unfold cc0_mix_in_fwd_skel
    simp only [k0_part2_eq_skeleton]
    unfold ow owns wr
    iintro ⟨⟨%f0, %hf0, H0⟩, ⟨%f1, %hf1, H1⟩, ⟨%d2, %f2, -, H2⟩, ⟨%fs0, %hfs0, HS0⟩, Hq0, Hq1, Hq2, Hq3, Hh0, HW, Hk⟩
    obtain rfl := harg1.eq_unread hf0; obtain rfl := harg2.eq_unread hf1; obtain rfl := harg5.eq_unread hfs0
    sl_exec (disch := first | sl_exact hc0)
    sl_step
    iapply Hk
    iframe Hq0 Hq1 Hq2 Hq3 Hh0
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg5.read_unread _
      iexact HS0
    iexists _; iexact HW

end Cert.KernelZinIdeal.Own

end
-- ==== Proof.ZinFrame.lean ====
/- The frame: covers of the cases' stores, what every buffer holds after each grid point, the body's obligation and the launch. -/
module

public import proofs.«01_k».proof.Proof.ZinRun
public import Idealize.ShloMosaic.Lib.Claim

@[expose] public section

set_option maxRecDepth 16384

noncomputable section

namespace Cert.KernelZinIdeal.Own

open KernelZinIdeal.Gen

open Idealize.ShloMosaic
open TcCoe Tactic
open Idealize.SL
open RA BI ProofMode Sem
open BIBase Laws
open Rounds Cert.Own
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The run at a grid point, in case A. -/
def rA (c : Dev nD) (t : Fin cfg0.N) := kernelRun0_A (F := F) c (grid0.coords t) (ms0_0 t) (hs0_0 t) (ms0_1 t) (hs0_1 t) (ms0_2 t) (hs0_2 t) scM0_0 (Memref.isWhole_whole _)

/-- The run at a grid point, in case B. -/
def rB (c : Dev nD) (t : Fin cfg0.N) := kernelRun0_B (F := F) c (grid0.coords t) (ms0_0 t) (hs0_0 t) (ms0_1 t) (hs0_1 t) (ms0_2 t) (hs0_2 t) scM0_0 (Memref.isWhole_whole _)

/-- What the buffers hold after a point. -/
abbrev Pt (F : FTy → Type) [FloatOps F] : Type := Vec F S512x5120 .bf16 × Vec F S5120x1024 .bf16

section
variable (c : Dev nD) (t : Fin cfg0.N) (hc0 : cond0_0 (grid0.coords t))
    (x0 : Vec F S512x1024 .f32) (x1 : Vec F S1x1024 .f32) (fh0 : HbBuf0 (F := F) c hbM0_0)

theorem cover0_A_2 (y : S512x5120.Idx) :
    ∃ pc ∈ (rA c t hc0 x0 x1 fh0).1, y ∈ pc.1.set :=
  View.cover_of_tiledL (rA c t hc0 x0 x1 fh0).1 S512x1024.size (by sl_kernel_rfl) y

def out0_A_2 : Vec F S512x5120 .bf16 :=
  VO0_2.read (Elt F) (VO0_2.writes (Elt F) VO0_2.junk (rA c t hc0 x0 x1 fh0).1)

theorem scover0_A_0 (y : S5120x1024.Idx) :
    ∃ pc ∈ (rA c t hc0 x0 x1 fh0).2.1, y ∈ pc.1.set :=
  View.cover_of_tiledL (rA c t hc0 x0 x1 fh0).2.1 S1280x1024.size (by sl_kernel_rfl) y

def sout0_A_0 : Vec F S5120x1024 .bf16 :=
  VS0_0.read (Elt F) (VS0_0.writes (Elt F) VS0_0.junk (rA c t hc0 x0 x1 fh0).2.1)

/-- What the buffers hold after a point in case A. -/
def tA : Pt F := (out0_A_2 c t hc0 x0 x1 fh0, sout0_A_0 c t hc0 x0 x1 fh0)

end

section
variable (c : Dev nD) (t : Fin cfg0.N) (hc0 : ¬cond0_0 (grid0.coords t))
    (x0 : Vec F S512x1024 .f32) (x1 : Vec F S1x1024 .f32) (xs0 : Vec F S5120x1024 .bf16) (fh0 : HbBuf0 (F := F) c hbM0_0)

theorem cover0_B_2 (y : S512x5120.Idx) :
    ∃ pc ∈ (rB c t hc0 x0 x1 xs0 fh0).1, y ∈ pc.1.set :=
  View.cover_of_tiledL (rB c t hc0 x0 x1 xs0 fh0).1 S512x1024.size (by sl_kernel_rfl) y

def out0_B_2 : Vec F S512x5120 .bf16 :=
  VO0_2.read (Elt F) (VO0_2.writes (Elt F) VO0_2.junk (rB c t hc0 x0 x1 xs0 fh0).1)

/-- What the buffers hold after a point in case B. -/
def tB : Pt F := (out0_B_2 c t hc0 x0 x1 xs0 fh0, xs0)

end

/-- The results after a point at a multiple of 16. -/
abbrev atA (c : Dev nD) (t : Fin cfg0.N) (h0 : t.val % 16 = 0) : Pt F := tA c t ((hcond0_0 t).mpr h0) (iblk m c 0 t) (iblk m c 1 t) (V m c main_v3)

/-- The results after another point, which found `p`. -/
abbrev atB (c : Dev nD) (t : Fin cfg0.N) (h0 : ¬t.val % 16 = 0) (p : Pt F) : Pt F := tB c t (fun h => h0 ((hcond0_0 t).mp h)) (iblk m c 0 t) (iblk m c 1 t) p.2 (V m c main_v3)

/-- What the buffers hold after point `n`. -/
def outsAt0 (c : Dev nD) : (n : ℕ) → n < cfg0.N → Pt F
  | 0, hn => atA m c ⟨0, hn⟩ (Nat.zero_mod _)
  | n + 1, hn => if h0 : (n + 1) % 16 = 0 then atA m c ⟨n + 1, hn⟩ h0 else atB m c ⟨n + 1, hn⟩ h0 (outsAt0 c n (Nat.lt_of_succ_lt hn))

theorem outsAt0_A (c : Dev nD) (t : Fin cfg0.N) (h0 : t.val % 16 = 0) : outsAt0 m c t.val t.isLt = atA m c t h0 := by
  obtain ⟨n, hn⟩ := t
  cases n with
  | zero => rfl
  | succ n => exact dif_pos h0

/-- What the point before left. -/
abbrev prev (c : Dev nD) (t : Fin cfg0.N) : Pt F := outsAt0 m c (t.val - 1) (Nat.lt_of_le_of_lt (Nat.sub_le _ _) t.isLt)

theorem outsAt0_B (c : Dev nD) (t : Fin cfg0.N) (h0 : ¬t.val % 16 = 0) : outsAt0 m c t.val t.isLt = atB m c t h0 (prev m c t) := by
  obtain ⟨n, hn⟩ := t
  cases n with
  | zero => exact absurd (Nat.zero_mod _) h0
  | succ n => exact dif_neg h0

abbrev rest (c : Dev nD) : sProp 𝕄 := iprop((∃ r, prngReg c r) ∗ iprop(sv c 5 ∗ sv c 6 ∗ sv c 7 ∗ sv c 8) ∗ hbPt0 c hbM0_0 (V m c main_v3))

/-- What a point leaves to the next. -/
abbrev held (c : Dev nD) (p : Pt F) : sProp 𝕄 := iprop(ow c scM0_0 p.2 ∗ rest m c)

def PhiS (c : Dev nD) : (n : ℕ) → n ≤ cfg0.N → sProp 𝕄
  | 0, _ => Pipeline.ΦD osem0 spec0 H0 (V m) c
  | n + 1, hn => held m c (outsAt0 m c n hn)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) : PhiS m c (n + 1) hn = held m c (outsAt0 m c n hn) := rfl

theorem PhiS_pos (c : Dev nD) (n : ℕ) (h : n ≤ cfg0.N) (hz : n ≠ 0) : PhiS m c n h = held m c (outsAt0 m c (n - 1) (by omega)) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, ow c (ms0_0 t) ((dats m 0 c).before 0 t d))
    ∗ (∃ d, ow c (ms0_1 t) ((dats m 0 c).before 1 t d))
    ∗ (∃ d, ow c (ms0_2 t) ((dats m 0 c).before 2 t d)))

def bodyPost (c : Dev nD) (t : Fin cfg0.N) : sProp 𝕄 :=
  iprop((dats m 0 c).Φ t.succ ∗ (dats m 0 c).owesAt () t.succ
    ∗ ow c (ms0_0 t) ((dats m 0 c).after 0 t)
    ∗ ow c (ms0_1 t) ((dats m 0 c).after 1 t)
    ∗ ow c (ms0_2 t) ((dats m 0 c).after 2 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · have hz : t.val = 0 := by omega
    rw [PhiS_castSucc m c t, PhiS_zero m c _ _ hz, PhiD0_eq]
    rw [outsAt0_A m c t h0]
    unfold held rest atA tA out0_A_2 sout0_A_0; dsimp only
    iintro ⟨⟨HS0, Hg, ⟨Hq0, Hq1, Hq2, Hq3⟩, Hh0⟩, ⟨%W, -, HW⟩, ⟨%d0, H0⟩, ⟨%d1, H1⟩, ⟨%d2, H2⟩⟩
    iapply ((rA c t ((hcond0_0 t).mpr h0) (iblk m c 0 t) (iblk m c 1 t) (V m c main_v3)).2.2 W _)
    iframe H0 H1 HS0 Hq0 Hq1 Hq2 Hq3 Hh0 HW
    isplitl [H2]; · iexists _; iexact H2
    iintro ⟨H0, H1, H2, HS0, Hq0, Hq1, Hq2, Hq3, Hh0, ⟨%W', HW'⟩⟩
    iframe Hg Hq0 Hq1 Hq2 Hq3 Hh0 H0 H1
    isplitl [HS0]; · iapply wr_ow c _ _ _ _ (fun _ => scover0_A_0 ..); iexact HS0
    isplitl [HW']
    · iexists W'; isplitr; · ipureintro; exact fun _ _ => Or.inl trivial
      iexact HW'
    iapply wr_ow c _ _ _ _ (fun _ => cover0_A_2 ..); iexact H2
  · have hz : t.val ≠ 0 := fun e => h0 (by rw [e])
    rw [PhiS_castSucc m c t, PhiS_pos m c _ _ hz]
    rw [outsAt0_B m c t h0]
    unfold held rest atB tB out0_B_2; dsimp only
    iintro ⟨⟨HS0, Hg, ⟨Hq0, Hq1, Hq2, Hq3⟩, Hh0⟩, ⟨%W, -, HW⟩, ⟨%d0, H0⟩, ⟨%d1, H1⟩, ⟨%d2, H2⟩⟩
    iapply ((rB c t (fun h => h0 ((hcond0_0 t).mp h)) (iblk m c 0 t) (iblk m c 1 t) _ (V m c main_v3)).2.2 W _)
    iframe H0 H1 HS0 Hq0 Hq1 Hq2 Hq3 Hh0 HW
    isplitl [H2]; · iexists _; iexact H2
    iintro ⟨H0, H1, H2, HS0, Hq0, Hq1, Hq2, Hq3, Hh0, ⟨%W', HW'⟩⟩
    iframe HS0 Hg Hq0 Hq1 Hq2 Hq3 Hh0 H0 H1
    isplitl [HW']
    · iexists W'; isplitr; · ipureintro; exact fun _ _ => Or.inl trivial
      iexact HW'
    iapply wr_ow c _ _ _ _ (fun _ => cover0_B_2 ..); iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3⟩, Hh0⟩
  iframe Hg Hq0 Hq1 Hq2 Hq3 Hh0
  iexists _; iexact HS0

theorem hout (c : Dev nD) : (dats m 0 c).Φ (Fin.last cfg0.N) ⊢ Pipeline.ΦD osem0 spec0 H0 (V m) c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments as they were. -/
abbrev kept (r : (ℓ : Loc nD τ sig) → Buf (Elt F) ℓ) (c : Dev nD) : Prop :=
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)

theorem unchanged : θ_run defs (onTc (τ := τ) (main (F := F))) ⟨m, fun _ => 0, ρ⟩ (fun r => ∀ c : Dev nD, kept m r.2.mem c) :=
  frame_of m ρ (dats m) (A_eq m) (run_main m ρ)

theorem frame : θ_run defs (onTc (τ := τ) (main (F := F))) ⟨m, fun _ => 0, ρ⟩ (fun r => (∀ c : Dev nD, kept m r.2.mem c) ∧ r.2.sem = fun _ => 0) :=
  θ_run_and (unchanged m ρ) ((θ_run defs _ _).mono (fun _ h => h.2) (run_main_quiescent m ρ))

end Cert.KernelZinIdeal.Own

end
-- ==== Proof.ZinPoint.lean ====
/- What the body leaves at one grid point: each result block as a function of the blocks read and the weights held. -/
module

public import proofs.«01_k».proof.Proof.ZinFrame
public import Idealize.ShloMosaic.Lib.Pipeline.Value
public import Idealize.ShloMosaic.Lib.ValueLayout

@[expose] public section

set_option maxRecDepth 16384

noncomputable section

namespace Cert.KernelZinIdeal.Own

open KernelZinIdeal KernelZinIdeal.Gen Idealize.ShloMosaic Idealize.ShloMosaic.TcCoe Idealize.SL.Sem Idealize.ShloMosaic.ValueIdx

variable {F : FTy → Type} [FloatOps F]

theorem off2 : (![0, 0] : Fin 2 → Nat) = fun _ => 0 := funext fun a => by fin_cases a <;> rfl

def wC0 (w : Vec F S5120x1024 .bf16) : Vec F S1024x1024 .bf16 := View.ld w (Rect.unit ![0, 0] ![1024, 1024] inb_S5120x1024_S1024x1024_0_0)
def wC1 (w : Vec F S5120x1024 .bf16) : Vec F S1024x1024 .bf16 := View.ld w (Rect.unit ![1024, 0] ![1024, 1024] inb_S5120x1024_S1024x1024_1024_0)
def wC2 (w : Vec F S5120x1024 .bf16) : Vec F S1024x1024 .bf16 := View.ld w (Rect.unit ![2048, 0] ![1024, 1024] inb_S5120x1024_S1024x1024_2048_0)
def wC3 (w : Vec F S5120x1024 .bf16) : Vec F S1024x1024 .bf16 := View.ld w (Rect.unit ![3072, 0] ![1024, 1024] inb_S5120x1024_S1024x1024_3072_0)
def wC4 (w : Vec F S5120x1024 .bf16) : Vec F S1024x1024 .bf16 := View.ld w (Rect.unit ![4096, 0] ![1024, 1024] inb_S5120x1024_S1024x1024_4096_0)

def pt2 (x0 : Vec F S512x1024 .f32) (x1 : Vec F S1x1024 .f32) (w : Vec F S5120x1024 .bf16) : Vec F S512x5120 .bf16 :=
  View.canon [⟨Rect.unit ![0, 4096] ![512, 1024] inb_S512x5120_S512x1024_0_4096, k0_pay2 (k0_pay3 x0 x1) (wC4 w)⟩,
    ⟨Rect.unit ![0, 3072] ![512, 1024] inb_S512x5120_S512x1024_0_3072, k0_pay1 (k0_pay3 x0 x1) (wC3 w)⟩,
    ⟨Rect.unit ![0, 2048] ![512, 1024] inb_S512x5120_S512x1024_0_2048, k0_pay6 x0 x1 (wC2 w)⟩,
    ⟨Rect.unit ![0, 1024] ![512, 1024] inb_S512x5120_S512x1024_0_1024, k0_pay5 x0 x1 (wC1 w)⟩,
    ⟨Rect.unit ![0, 0] ![512, 1024] inb_S512x5120_S512x1024_0_0, k0_pay4 x0 x1 (wC0 w)⟩]

/-- What the four copies of one weight leave: row `y` of the weight is row `off + y % 1280` of slab `y / 1280`. -/
def wG (c : Dev nD) (off : ℕ) (fh0 : HbBuf0 (F := F) c hbM0_0) (hoff : off + 1280 ≤ 1280) : Vec F S5120x1024 .bf16 := fun y =>
  (fh0 : S4x1280x1024.Idx → Elt F .bf16) (ix3 ⟨(y 0 : ℕ) / 1280, by have h : (y 0 : ℕ) < 5120 := (y 0).isLt; omega⟩ ⟨off + (y 0 : ℕ) % 1280, by have h := Nat.mod_lt (y 0 : ℕ) (show 0 < 1280 by norm_num); omega⟩ ⟨(y 1 : ℕ), (y 1).isLt⟩)

theorem numel_slab : S1280x1024.numel = S1x1280x1024.numel := squeezes_S1x1280x1024_S1280x1024.numel_eq

theorem slab_piece (c : Dev nD) (off q : ℕ) (fh0 : HbBuf0 (F := F) c hbM0_0) (hoff : off + 1280 ≤ 1280) (o : ℕ) (ho : o = 1280 * q)
    (inb : ∀ a, (![o, 0] : Fin 2 → ℕ) a + (![1280, 1024] : Fin 2 → ℕ) a ≤ S5120x1024.size a)
    (inb' : ∀ a, (![q, off, 0] : Fin 3 → ℕ) a + (![1, 1280, 1024] : Fin 3 → ℕ) a ≤ S4x1280x1024.size a)
    (x : S1280x1024.Idx) :
    (ReadAs.same.apply (View.read (Elt F)
      (((View.whole main_v3).slice (Rect.unit (s := S4x1280x1024) ![q, off, 0] ![1, 1280, 1024] inb')).reshape S1280x1024 numel_slab) fh0) : S1280x1024.Idx → Elt F .bf16) x
      = wG c off fh0 hoff ((Rect.unit (s := S5120x1024) ![o, 0] ![1280, 1024] inb).emb x) := by
  subst ho
  obtain ⟨i, j, rfl⟩ : ∃ (i : Fin 1280) (j : Fin 1024), x = ix2 i j := ⟨x 0, x 1, eq_ix2 x⟩
  show shapeCast S1280x1024 (View.read (Elt F) ((View.whole main_v3).slice (Rect.unit (s := S4x1280x1024) ![q, off, 0] ![1, 1280, 1024] inb')) fh0 : S1x1280x1024.Idx → Elt F .bf16) numel_slab (ix2 i j) = _
  rw [shapeCast_1ab_ab_apply]
  show (fh0 : S4x1280x1024.Idx → Elt F .bf16) _ = (fh0 : S4x1280x1024.Idx → Elt F .bf16) _
  have hi : (i : ℕ) < 1280 := i.isLt
  refine congrArg _ (funext fun a => Fin.ext ?_)
  match a with
  | ⟨0, _⟩ => show q + 1 * 0 = (1280 * q + 1 * i.val) / 1280; omega
  | ⟨1, _⟩ => show off + 1 * i.val = off + (1280 * q + 1 * i.val) % 1280; omega
  | ⟨2, _⟩ => show 0 + 1 * j.val = 0 + 1 * j.val; rfl

def held0 (c : Dev nD) (fh0 : HbBuf0 (F := F) c hbM0_0) : List (View.Piece (Elt F) S5120x1024 .bf16) :=
  [⟨Rect.unit ![3840, 0] ![1280, 1024] inb_S5120x1024_S1280x1024_3840_0, ReadAs.same.apply (View.read (Elt F)
      (((View.whole main_v3).slice (Rect.unit (s := S4x1280x1024) ![3, 0, 0] ![1, 1280, 1024] inb_S4x1280x1024_S1x1280x1024_3_0_0)).reshape S1280x1024 numel_slab) fh0)⟩,
    ⟨Rect.unit ![2560, 0] ![1280, 1024] inb_S5120x1024_S1280x1024_2560_0, ReadAs.same.apply (View.read (Elt F)
      (((View.whole main_v3).slice (Rect.unit (s := S4x1280x1024) ![2, 0, 0] ![1, 1280, 1024] inb_S4x1280x1024_S1x1280x1024_2_0_0)).reshape S1280x1024 numel_slab) fh0)⟩,
    ⟨Rect.unit ![1280, 0] ![1280, 1024] inb_S5120x1024_S1280x1024_1280_0, ReadAs.same.apply (View.read (Elt F)
      (((View.whole main_v3).slice (Rect.unit (s := S4x1280x1024) ![1, 0, 0] ![1, 1280, 1024] inb_S4x1280x1024_S1x1280x1024_1_0_0)).reshape S1280x1024 numel_slab) fh0)⟩,
    ⟨Rect.unit ![0, 0] ![1280, 1024] inb_S5120x1024_S1280x1024_0_0, ReadAs.same.apply (View.read (Elt F)
      (((View.whole main_v3).slice (Rect.unit (s := S4x1280x1024) ![0, 0, 0] ![1, 1280, 1024] inb_S4x1280x1024_S1x1280x1024_0_0_0)).reshape S1280x1024 numel_slab) fh0)⟩]

theorem canon_held0 (c : Dev nD) (fh0 : HbBuf0 (F := F) c hbM0_0) : View.canon (held0 c fh0) = wG c 0 fh0 (by norm_num) := by
  funext y
  refine View.canon_apply_of_pieces _ _ ?_ y ?_
  · intro p hp x
    simp only [held0, List.mem_cons, List.not_mem_nil, or_false] at hp
    rcases hp with rfl | rfl | rfl | rfl
    · exact slab_piece c 0 3 fh0 (by norm_num) 3840 (by norm_num) inb_S5120x1024_S1280x1024_3840_0 inb_S4x1280x1024_S1x1280x1024_3_0_0 x
    · exact slab_piece c 0 2 fh0 (by norm_num) 2560 (by norm_num) inb_S5120x1024_S1280x1024_2560_0 inb_S4x1280x1024_S1x1280x1024_2_0_0 x
    · exact slab_piece c 0 1 fh0 (by norm_num) 1280 (by norm_num) inb_S5120x1024_S1280x1024_1280_0 inb_S4x1280x1024_S1x1280x1024_1_0_0 x
    · exact slab_piece c 0 0 fh0 (by norm_num) 0 (by norm_num) inb_S5120x1024_S1280x1024_0_0 inb_S4x1280x1024_S1x1280x1024_0_0_0 x
  · have h0 : (y 0 : ℕ) < 5120 := (y 0).isLt
    have h1 : (y 1 : ℕ) < 1024 := (y 1).isLt
    rcases (by omega : (y 0 : ℕ) < 1280 ∨ (1280 ≤ (y 0 : ℕ) ∧ (y 0 : ℕ) < 2560) ∨ (2560 ≤ (y 0 : ℕ) ∧ (y 0 : ℕ) < 3840) ∨ 3840 ≤ (y 0 : ℕ)) with h | h | h | h
    · exact ⟨_, List.mem_cons_of_mem _ (List.mem_cons_of_mem _ (List.mem_cons_of_mem _ (List.mem_cons_self ..))), by
        rw [Rect.mem_set_unit]
        intro a
        match a with
        | ⟨0, _⟩ => show 0 ≤ (y 0 : ℕ) ∧ (y 0 : ℕ) < 0 + 1280; omega
        | ⟨1, _⟩ => show 0 ≤ (y 1 : ℕ) ∧ (y 1 : ℕ) < 0 + 1024; omega⟩
    · exact ⟨_, List.mem_cons_of_mem _ (List.mem_cons_of_mem _ (List.mem_cons_self ..)), by
        rw [Rect.mem_set_unit]
        intro a
        match a with
        | ⟨0, _⟩ => show 1280 ≤ (y 0 : ℕ) ∧ (y 0 : ℕ) < 1280 + 1280; omega
        | ⟨1, _⟩ => show 0 ≤ (y 1 : ℕ) ∧ (y 1 : ℕ) < 0 + 1024; omega⟩
    · exact ⟨_, List.mem_cons_of_mem _ (List.mem_cons_self ..), by
        rw [Rect.mem_set_unit]
        intro a
        match a with
        | ⟨0, _⟩ => show 2560 ≤ (y 0 : ℕ) ∧ (y 0 : ℕ) < 2560 + 1280; omega
        | ⟨1, _⟩ => show 0 ≤ (y 1 : ℕ) ∧ (y 1 : ℕ) < 0 + 1024; omega⟩
    · exact ⟨_, List.mem_cons_self .., by
        rw [Rect.mem_set_unit]
        intro a
        match a with
        | ⟨0, _⟩ => show 3840 ≤ (y 0 : ℕ) ∧ (y 0 : ℕ) < 3840 + 1280; omega
        | ⟨1, _⟩ => show 0 ≤ (y 1 : ℕ) ∧ (y 1 : ℕ) < 0 + 1024; omega⟩

section
variable (c : Dev nD) (t : Fin cfg0.N) (hc0 : cond0_0 (grid0.coords t))
    (x0 : Vec F S512x1024 .f32) (x1 : Vec F S1x1024 .f32) (fh0 : HbBuf0 (F := F) c hbM0_0)

theorem outA_2 : out0_A_2 c t hc0 x0 x1 fh0 = pt2 x0 x1 (wG c 0 fh0 (by norm_num)) := by
  unfold out0_A_2
  rw [View.read_writes_junk_eq_canon]
  unfold rA kernelRun0_A
  dsimp only
  sl_unfold_words
  simp only [View.readCov_eq_canon', View.readAt_eq_ld, (hs0_0 t).read_unread, (hs0_1 t).read_unread, View.ld_unit_zero (S := S512x1024) off2, View.ld_unit_zero (S := S1x1024) off2]
  have e0 := canon_held0 c fh0
  simp only [held0] at *
  simp only [e0]
  rfl

theorem soutA_0 : sout0_A_0 c t hc0 x0 x1 fh0 = wG c 0 fh0 (by norm_num) := by
  unfold sout0_A_0
  rw [View.read_writes_junk_eq_canon]
  unfold rA kernelRun0_A
  dsimp only
  sl_unfold_words
  exact canon_held0 c fh0

end

section
variable (c : Dev nD) (t : Fin cfg0.N) (hc0 : ¬cond0_0 (grid0.coords t))
    (x0 : Vec F S512x1024 .f32) (x1 : Vec F S1x1024 .f32) (xs0 : Vec F S5120x1024 .bf16) (fh0 : HbBuf0 (F := F) c hbM0_0)

theorem outB_2 : out0_B_2 c t hc0 x0 x1 xs0 fh0 = pt2 x0 x1 xs0 := by
  unfold out0_B_2
  rw [View.read_writes_junk_eq_canon]
  unfold rB kernelRun0_B
  dsimp only
  sl_unfold_words
  simp only [View.readCov_eq_canon', View.readAt_eq_ld, (hs0_0 t).read_unread, (hs0_1 t).read_unread, (show scM0_0.IsWhole from Memref.isWhole_whole _).read_unread, View.ld_unit_zero (S := S512x1024) off2, View.ld_unit_zero (S := S1x1024) off2]
  rfl

end

end Cert.KernelZinIdeal.Own
-- ==== Proof.ZinSweep.lean ====
/- The grid's 16 points one after the other: the weights stay in the scratch, and every result's block is one point's. -/
module

public import proofs.«01_k».proof.Proof.ZinFrame
public import Idealize.ShloMosaic.Lib.Pipeline.Value
public import proofs.«01_k».proof.Proof.ZinPoint

@[expose] public section

set_option maxRecDepth 16384

noncomputable section

namespace Cert.KernelZinIdeal.Own

open KernelZinIdeal.Gen

open KernelZinIdeal KernelZinIdeal.Gen Idealize.ShloMosaic Idealize.ShloMosaic.TcCoe Idealize.SL.Sem
open Pipeline (Dat)

variable {F : FTy → Type} [FloatOps F]
variable (m : (ℓ : Loc nD τ sig) → Buf (Elt F) ℓ) (ρ : Dev nD → PrngReg)

theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

theorem run_blocks : θ_run defs (onTc (τ := τ) (main (F := F))) ⟨m, fun _ => 0, ρ⟩ fun r => ∀ c : Dev nD,
      r.2.mem ((c : Thread nD τ).loc main_v4) = (dats m 0 c).arrAt 2 cfg0.N
      ∧ kept m r.2.mem c :=
  (θ_run defs _ _).mono (fun _ h c => ⟨(h.2 c).1 2, h.1 c⟩) (θ_run_and (unchanged m ρ) (run_main m ρ))

end Cert.KernelZinIdeal.Own

namespace Cert.KernelZinIdeal.Own

open KernelZinIdeal KernelZinIdeal.Gen Idealize.ShloMosaic Idealize.ShloMosaic.TcCoe Idealize.SL.Sem Idealize.ShloMosaic.ValueIdx
open Pipeline (Dat)

variable {F : FTy → Type} [FloatOps F]
variable (m : (ℓ : Loc nD τ sig) → Buf (Elt F) ℓ) (c : Dev nD)

/-- The weight rows as the scratch holds them. -/
def wI : Vec F S5120x1024 .bf16 := wG c 0 (V m c main_v3) (by norm_num)

theorem outs_eq : ∀ (n : ℕ) (h : n < cfg0.N), outsAt0 m c n h =
    (pt2 (iblk m c 0 ⟨n, h⟩) (iblk m c 1 ⟨n, h⟩) (wI m c),
     wI m c)
  | 0, h => by
    rw [show outsAt0 m c 0 h = _ from outsAt0_A m c ⟨0, h⟩ rfl]
    simp only [tA, outA_2, soutA_0]
    rfl
  | n + 1, h => by
    have hN : cfg0.N = 16 := N_0
    have hB : ¬(⟨n + 1, h⟩ : Fin cfg0.N).val % 16 = 0 := by dsimp only; omega
    have ih := outs_eq n (Nat.lt_of_succ_lt h)
    rw [show outsAt0 m c (n + 1) h = _ from outsAt0_B m c ⟨n + 1, h⟩ hB]
    simp only [tB, outB_2]
    simp only [show prev m c ⟨n + 1, h⟩ = _ from ih]

attribute [local irreducible] pt2

theorem index2 : ∀ t : Fin cfg0.N, win0_2.index t 0 = t.val ∧ win0_2.index t 1 = 0 :=
  (by decide +kernel : ∀ t : Fin grid0.N, win0_2.index t 0 = t.val ∧ win0_2.index t 1 = 0)

theorem cut2 (t : Fin cfg0.N) (X : Vec F S512x5120 .bf16) (p : Fin 512) (j : Fin 5120) :
    ((cfg0.win 2).cut (grid0.coords t) X : S512x5120.Idx → _) (ix2 p j) = X (ix2 p j) := rfl

theorem arr2 (t : Fin cfg0.N) (p : Fin 512) (j : Fin 5120) (q : Fin 8192) (hq : (q : ℕ) = 512 * t.val + p.val) :
    ((dats m 0 c).arrAt 2 cfg0.N : S8192x5120.Idx → _) (ix2 q j) = (pt2 (iblk m c 0 t) (iblk m c 1 t) (wI m c)) (ix2 p j) := by
  have h := congrFun (blocks2 m c t (flush0_2 t)) (ix2 p j)
  rw [flushed2, outs_eq] at h
  dsimp only at h
  refine Eq.trans ?_ (h.trans (cut2 t _ p j))
  rw [View.read_apply]
  refine congrArg ((dats m 0 c).arrAt 2 cfg0.N : S8192x5120.Idx → _) (funext fun a => Fin.ext ?_)
  match a with
  | ⟨0, _⟩ => show q.val = win0_2.index t 0 * 512 + 1 * p.val; rw [(index2 t).1]; omega
  | ⟨1, _⟩ => show j.val = win0_2.index t 1 * 5120 + 1 * j.val; rw [(index2 t).2]; omega

theorem index0 : ∀ t : Fin cfg0.N, win0_0.index t 0 = t.val ∧ win0_0.index t 1 = 0 :=
  (by decide +kernel : ∀ t : Fin grid0.N, win0_0.index t 0 = t.val ∧ win0_0.index t 1 = 0)

theorem blk0 (t : Fin cfg0.N) (p : Fin 512) (j : Fin 1024) (q : Fin 8192) (hq : (q : ℕ) = 512 * t.val + p.val) :
    (iblk m c 0 t : S512x1024.Idx → _) (ix2 p j) = (V m c main_arg0 : S8192x1024.Idx → _) (ix2 q j) := by
  unfold iblk
  rw [View.read_apply]
  refine congrArg (V m c main_arg0 : S8192x1024.Idx → _) (funext fun a => Fin.ext ?_)
  match a with
  | ⟨0, _⟩ => show win0_0.index t 0 * 512 + 1 * p.val = q.val; rw [(index0 t).1]; omega
  | ⟨1, _⟩ => show win0_0.index t 1 * 1024 + 1 * j.val = j.val; rw [(index0 t).2]; omega

theorem index1 : ∀ t : Fin cfg0.N, win0_1.index t 0 = 0 ∧ win0_1.index t 1 = 0 :=
  (by decide +kernel : ∀ t : Fin grid0.N, win0_1.index t 0 = 0 ∧ win0_1.index t 1 = 0)

theorem blk1 (t : Fin cfg0.N) (p : Fin 1) (j : Fin 1024) :
    (iblk m c 1 t : S1x1024.Idx → _) (ix2 p j) = (V m c main_v0 : S1x1024.Idx → _) (ix2 p j) := by
  unfold iblk
  rw [View.read_apply]
  refine congrArg (V m c main_v0 : S1x1024.Idx → _) (funext fun a => Fin.ext ?_)
  match a with
  | ⟨0, _⟩ => show win0_1.index t 0 * 1 + 1 * p.val = p.val; rw [(index1 t).1]; omega
  | ⟨1, _⟩ => show win0_1.index t 1 * 1024 + 1 * j.val = j.val; rw [(index1 t).2]; omega

end Cert.KernelZinIdeal.Own

end
-- ==== Proof.ZinPay.lean ====
/- The body of the mixer's input projection on blocks of any elements (EMat). -/
module

public import proofs.«01_k».proof.Proof.ZinPoint
public import proofs.«01_k».proof.Proof.EMat

@[expose] public section

set_option maxRecDepth 16384

noncomputable section

namespace Cert.KernelZinIdeal.Own

open KernelZinIdeal KernelZinIdeal.Gen Idealize.ShloMosaic Idealize.ShloMosaic.ValueIdx RealRow EMat
open scoped BigOperators

/-- The channels of the five chunks. -/
def e0 (k : Fin 1024) : Fin 5120 := ⟨0 + k.val, by omega⟩
def e1 (k : Fin 1024) : Fin 5120 := ⟨1024 + k.val, by omega⟩
def e2 (k : Fin 1024) : Fin 5120 := ⟨2048 + k.val, by omega⟩
def e3 (k : Fin 1024) : Fin 5120 := ⟨3072 + k.val, by omega⟩
def e4 (k : Fin 1024) : Fin 5120 := ⟨4096 + k.val, by omega⟩

theorem _root_.Cert.EMat.E2.wC0 {x : FVec Ideal S5120x1024 .bf16} {f : Fin 5120 → Fin 1024 → EReal} (h : E2 x f) : E2 (φ := .bf16) (wC0 (F := Ideal) x) (fun k j => f (e0 k) j) := fun k j =>
  (congrArg x (funext fun a => Fin.ext (by
    match a with
    | ⟨0, _⟩ => show 0 + 1 * k.val = 0 + k.val; omega
    | ⟨1, _⟩ => show 0 + 1 * j.val = j.val; omega))).trans (h (e0 k) j)
theorem _root_.Cert.EMat.E2.wC1 {x : FVec Ideal S5120x1024 .bf16} {f : Fin 5120 → Fin 1024 → EReal} (h : E2 x f) : E2 (φ := .bf16) (wC1 (F := Ideal) x) (fun k j => f (e1 k) j) := fun k j =>
  (congrArg x (funext fun a => Fin.ext (by
    match a with
    | ⟨0, _⟩ => show 1024 + 1 * k.val = 1024 + k.val; omega
    | ⟨1, _⟩ => show 0 + 1 * j.val = j.val; omega))).trans (h (e1 k) j)
theorem _root_.Cert.EMat.E2.wC2 {x : FVec Ideal S5120x1024 .bf16} {f : Fin 5120 → Fin 1024 → EReal} (h : E2 x f) : E2 (φ := .bf16) (wC2 (F := Ideal) x) (fun k j => f (e2 k) j) := fun k j =>
  (congrArg x (funext fun a => Fin.ext (by
    match a with
    | ⟨0, _⟩ => show 2048 + 1 * k.val = 2048 + k.val; omega
    | ⟨1, _⟩ => show 0 + 1 * j.val = j.val; omega))).trans (h (e2 k) j)
theorem _root_.Cert.EMat.E2.wC3 {x : FVec Ideal S5120x1024 .bf16} {f : Fin 5120 → Fin 1024 → EReal} (h : E2 x f) : E2 (φ := .bf16) (wC3 (F := Ideal) x) (fun k j => f (e3 k) j) := fun k j =>
  (congrArg x (funext fun a => Fin.ext (by
    match a with
    | ⟨0, _⟩ => show 3072 + 1 * k.val = 3072 + k.val; omega
    | ⟨1, _⟩ => show 0 + 1 * j.val = j.val; omega))).trans (h (e3 k) j)
theorem _root_.Cert.EMat.E2.wC4 {x : FVec Ideal S5120x1024 .bf16} {f : Fin 5120 → Fin 1024 → EReal} (h : E2 x f) : E2 (φ := .bf16) (wC4 (F := Ideal) x) (fun k j => f (e4 k) j) := fun k j =>
  (congrArg x (funext fun a => Fin.ext (by
    match a with
    | ⟨0, _⟩ => show 4096 + 1 * k.val = 4096 + k.val; omega
    | ⟨1, _⟩ => show 0 + 1 * j.val = j.val; omega))).trans (h (e4 k) j)

/-- Five stores, one per chunk, leave the block that all are chunks of. -/
theorem five_chunks {c0 : FVec Ideal S512x1024 .bf16} {c1 : FVec Ideal S512x1024 .bf16} {c2 : FVec Ideal S512x1024 .bf16} {c3 : FVec Ideal S512x1024 .bf16} {c4 : FVec Ideal S512x1024 .bf16} {f : Fin 512 → Fin 5120 → EReal}
    (h0 : E2 c0 fun p k => f p (e4 k)) (h1 : E2 c1 fun p k => f p (e3 k)) (h2 : E2 c2 fun p k => f p (e2 k)) (h3 : E2 c3 fun p k => f p (e1 k)) (h4 : E2 c4 fun p k => f p (e0 k)) :
    E2 (φ := .bf16) (View.canon (Val := Elt Ideal) (s := S512x5120) (e := .bf16) [⟨Rect.unit ![0, 4096] ![512, 1024] inb_S512x5120_S512x1024_0_4096, c0⟩,
      ⟨Rect.unit ![0, 3072] ![512, 1024] inb_S512x5120_S512x1024_0_3072, c1⟩,
      ⟨Rect.unit ![0, 2048] ![512, 1024] inb_S512x5120_S512x1024_0_2048, c2⟩,
      ⟨Rect.unit ![0, 1024] ![512, 1024] inb_S512x5120_S512x1024_0_1024, c3⟩,
      ⟨Rect.unit ![0, 0] ![512, 1024] inb_S512x5120_S512x1024_0_0, c4⟩]) f := fun p q => by
  refine View.canon_apply_of_pieces (Val := Elt Ideal) (e := .bf16) (S := S512x5120) (fun y => f (y 0) (y 1)) _ ?_ (ix2 p q) ?_
  · intro pc hp x
    simp only [List.mem_cons, List.not_mem_nil, or_false] at hp
    rcases hp with rfl | rfl | rfl | rfl | rfl
    · obtain ⟨i, j, rfl⟩ : ∃ (i : Fin 512) (j : Fin 1024), x = ix2 i j := ⟨x 0, x 1, eq_ix2 x⟩
      refine (h0 i j).trans ?_
      exact congrArg₂ f (Fin.ext (show i.val = 0 + 1 * i.val by omega)) (Fin.ext (show 4096 + j.val = 4096 + 1 * j.val by omega))
    · obtain ⟨i, j, rfl⟩ : ∃ (i : Fin 512) (j : Fin 1024), x = ix2 i j := ⟨x 0, x 1, eq_ix2 x⟩
      refine (h1 i j).trans ?_
      exact congrArg₂ f (Fin.ext (show i.val = 0 + 1 * i.val by omega)) (Fin.ext (show 3072 + j.val = 3072 + 1 * j.val by omega))
    · obtain ⟨i, j, rfl⟩ : ∃ (i : Fin 512) (j : Fin 1024), x = ix2 i j := ⟨x 0, x 1, eq_ix2 x⟩
      refine (h2 i j).trans ?_
      exact congrArg₂ f (Fin.ext (show i.val = 0 + 1 * i.val by omega)) (Fin.ext (show 2048 + j.val = 2048 + 1 * j.val by omega))
    · obtain ⟨i, j, rfl⟩ : ∃ (i : Fin 512) (j : Fin 1024), x = ix2 i j := ⟨x 0, x 1, eq_ix2 x⟩
      refine (h3 i j).trans ?_
      exact congrArg₂ f (Fin.ext (show i.val = 0 + 1 * i.val by omega)) (Fin.ext (show 1024 + j.val = 1024 + 1 * j.val by omega))
    · obtain ⟨i, j, rfl⟩ : ∃ (i : Fin 512) (j : Fin 1024), x = ix2 i j := ⟨x 0, x 1, eq_ix2 x⟩
      refine (h4 i j).trans ?_
      exact congrArg₂ f (Fin.ext (show i.val = 0 + 1 * i.val by omega)) (Fin.ext (show 0 + j.val = 0 + 1 * j.val by omega))
  · have hp := p.isLt
    have hq := q.isLt
    by_cases g0 : 4096 ≤ q.val
    · refine ⟨_, List.mem_cons_self .., ?_⟩
      rw [Rect.mem_set_unit]
      intro a
      match a with
      | ⟨0, _⟩ => show 0 ≤ p.val ∧ p.val < 0 + 512; omega
      | ⟨1, _⟩ => show 4096 ≤ q.val ∧ q.val < 4096 + 1024; omega
    by_cases g1 : 3072 ≤ q.val
    · refine ⟨_, List.mem_cons_of_mem _ (List.mem_cons_self ..), ?_⟩
      rw [Rect.mem_set_unit]
      intro a
      match a with
      | ⟨0, _⟩ => show 0 ≤ p.val ∧ p.val < 0 + 512; omega
      | ⟨1, _⟩ => show 3072 ≤ q.val ∧ q.val < 3072 + 1024; omega
    by_cases g2 : 2048 ≤ q.val
    · refine ⟨_, List.mem_cons_of_mem _ (List.mem_cons_of_mem _ (List.mem_cons_self ..)), ?_⟩
      rw [Rect.mem_set_unit]
      intro a
      match a with
      | ⟨0, _⟩ => show 0 ≤ p.val ∧ p.val < 0 + 512; omega
      | ⟨1, _⟩ => show 2048 ≤ q.val ∧ q.val < 2048 + 1024; omega
    by_cases g3 : 1024 ≤ q.val
    · refine ⟨_, List.mem_cons_of_mem _ (List.mem_cons_of_mem _ (List.mem_cons_of_mem _ (List.mem_cons_self ..))), ?_⟩
      rw [Rect.mem_set_unit]
      intro a
      match a with
      | ⟨0, _⟩ => show 0 ≤ p.val ∧ p.val < 0 + 512; omega
      | ⟨1, _⟩ => show 1024 ≤ q.val ∧ q.val < 1024 + 1024; omega
    refine ⟨_, List.mem_cons_of_mem _ (List.mem_cons_of_mem _ (List.mem_cons_of_mem _ (List.mem_cons_of_mem _ (List.mem_cons_self ..)))), ?_⟩
    rw [Rect.mem_set_unit]
    intro a
    match a with
    | ⟨0, _⟩ => show 0 ≤ p.val ∧ p.val < 0 + 512; omega
    | ⟨1, _⟩ => show 0 ≤ q.val ∧ q.val < 0 + 1024; omega

section
variable {x : FVec Ideal S512x1024 .f32} {gv : FVec Ideal S1x1024 .f32} {w : FVec Ideal S5120x1024 .bf16} {X : Fin 512 → Fin 1024 → EReal} {G : Fin 1024 → EReal}
  {W : Fin 1024 → Fin 5120 → EReal} (hx : E2 x X) (hg : E2 gv fun _ j => G j) (hw : E2 w fun f j => W j f)

include hx hg in
theorem pay3E : E2 (k0_pay3 (F := Ideal) x gv) (fun p j => nn (X p) G j) :=
  ((hx.mul ((((((hx.mul hx).rowSum _ _ _ _ _).div (E2.const _)).add (E2.const _)).rsqrt).col _)).mul ((hg.cast _).row _)).trunc _

include hx hg hw in
theorem pt2E : E2 (φ := .bf16) (pt2 (F := Ideal) x gv w) (fun p f => pr (X p) G W f) :=
  five_chunks (((pay3E hx hg).nt hw.wC4 E2.zero _ _ rfl).trunc _) (((pay3E hx hg).nt hw.wC3 E2.zero _ _ rfl).trunc _)
    (((pay3E hx hg).nt hw.wC2 E2.zero _ _ rfl).trunc _) (((pay3E hx hg).nt hw.wC1 E2.zero _ _ rfl).trunc _) (((pay3E hx hg).nt hw.wC0 E2.zero _ _ rfl).trunc _)
end

end Cert.KernelZinIdeal.Own

end
-- ==== Proof.ZinValue.lean ====
/- The array the mixer's input projection leaves is the reference's, block by block from the point's values (ZinPay). -/
module

public import proofs.«01_k».proof.Proof.ZinSweep
public import proofs.«01_k».proof.Proof.ZinPay
public import Idealize.ShloMosaic.Lib.StableHlo.Run
public import proofs.«01_k».proof.Proof.EMat
public import proofs.«01_k».proof.Proof.Gen.ReferenceZinIdeal.Read

@[expose] public section

set_option maxRecDepth 16384

noncomputable section

namespace Cert.KernelZinIdeal.Own

open KernelZinIdeal KernelZinIdeal.Gen Idealize.ShloMosaic Idealize.ShloMosaic.TcCoe Idealize.SL.Sem Idealize.ShloMosaic.ValueIdx

variable (m : (ℓ : Loc nD τ sig) → Buf (Elt Ideal) ℓ) (c : Dev nD)

theorem V0 : (V m c main_v0 : S1x1024.Idx → Ideal .f32) =
    shapeCast S1x1024 (m ((c : Thread nD τ).loc main_arg1) : S1024.Idx → Ideal .f32) shapeCasts_S1024_S1x1024 := by
  unfold V
  simp only [hostOps0, List.flatten_cons, List.flatten_nil, List.append_nil, List.cons_append, List.nil_append]
  after_results_simp <;> rfl

theorem V3 : (V m c main_v3 : S4x1280x1024.Idx → Ideal .bf16) =
    (shapeCast S4x1280x1024 (truncf .bf16 (transpose S5120x1024 [1, 0] (m ((c : Thread nD τ).loc main_arg2) : S1024x5120.Idx → Ideal .f32) transposes_S1024x5120_S5120x1024_1_0) bitsLt_bf16_f32) shapeCasts_S5120x1024_S4x1280x1024 : S4x1280x1024.Idx → Ideal .bf16) := by
  unfold V
  simp only [hostOps0, List.flatten_cons, List.flatten_nil, List.append_nil, List.cons_append, List.nil_append]
  after_results_simp <;> rfl

/-- A weight of 5120 rows cut into four slabs of 1280. -/
theorem slab_apply {α : Type} (x : S5120x1024.Idx → α) (q : Fin 4) (r : Fin 1280) (j : Fin 1024) (f : Fin 5120) (hf : (f : ℕ) = 1280 * q.val + r.val) :
    shapeCast S4x1280x1024 x shapeCasts_S5120x1024_S4x1280x1024 (ix3 q r j) = x (ix2 f j) :=
  shapeCast_apply x _ _ _ (by
    rw [Shape.rowMajor_val_three, Shape.rowMajor_val_two]
    show f.val * 1024 + j.val = (q.val * 1280 + r.val) * 1024 + j.val
    omega)

theorem wI_apply (f : Fin 5120) (j : Fin 1024) :
    (wI m c : S5120x1024.Idx → EReal) (ix2 f j) = (m ((c : Thread nD τ).loc main_arg2) : S1024x5120.Idx → EReal) (ix2 j f) := by
  have hf : (f : ℕ) < 5120 := f.isLt
  unfold wI wG
  refine (congrFun (V3 m c) _).trans ?_
  refine (slab_apply _ _ _ _ f (by show f.val = 1280 * (f.val / 1280) + (0 + f.val % 1280); omega)).trans ?_
  rw [truncf_apply]
  exact transpose_ix2_apply _ _ _ _

theorem gain_apply (p : Fin 1) (j : Fin 1024) :
    (V m c main_v0 : S1x1024.Idx → EReal) (ix2 p j) = (m ((c : Thread nD τ).loc main_arg1) : S1024.Idx → EReal) (ix1 j) := by
  rw [V0]
  exact shapeCast_apply (s := S1024) _ _ _ _ (by
    rw [Shape.rowMajor_val_one, Shape.rowMajor_val_two]
    have hp : (p : ℕ) < 1 := p.isLt
    show j.val = p.val * 1024 + j.val
    omega)

end Cert.KernelZinIdeal.Own

namespace Cert.ZinRef

open ReferenceZinIdeal ReferenceZinIdeal.Read RealRow EMat Idealize.ShloMosaic Idealize.ShloMosaic.ValueIdx
open scoped BigOperators

variable (X : S8192x1024.Idx → EReal) (G : S1024.Idx → EReal) (W : S1024x5120.Idx → EReal)

theorem r_v14 (i : S8192x5120.Idx) : val_main_v14 (F := Ideal) X G W i = (pr (at2 X (i 0)) (at1 G) (at2 W) (i 1) : EReal) :=
  (val_main_v14_apply _ _ _ i).trans (((val_main_v13_apply _ _ _ i).trans (dotE (fun k => ((val_main_v12_apply _ _ _).trans (mulE ((val_main_v9_apply _ _).trans (mulE (at2_eq X _) ((val_main_v8_apply _ _).trans ((val_main_v7_apply _ _).trans (hrsqrtE ((val_main_v6_apply _ _).trans (addE ((val_main_v4_apply _ _).trans (hdivE ((val_main_v2_apply _ _).trans ((val_main_v1_apply _ _).trans (sum0E ((val_main_cst_apply _).trans zero_f32) (fun k => ((val_main_v0_apply _ _).trans (mulE (at2_eq X _) (at2_eq X _))))))) ((val_main_v3_apply  _).trans ((val_main_cst_0_apply _).trans rfl)))) ((val_main_v5_apply  _).trans ((val_main_cst_1_apply _).trans rfl))))))))) ((val_main_v11_apply _ _).trans ((val_main_v10_apply _ _).trans (at1_eq G _)))))) fun k => at2_eq W _)))

end Cert.ZinRef

namespace Cert.KernelZinIdeal.Own

open KernelZinIdeal KernelZinIdeal.Gen Idealize.ShloMosaic Idealize.ShloMosaic.TcCoe Idealize.SL.Sem Idealize.ShloMosaic.ValueIdx EMat ZinRef
open scoped BigOperators

/-- Row `p` of block `t`. -/
def rowAt (t : Fin cfg0.N) (p : Fin 512) : Fin 8192 :=
  ⟨512 * t.val + p.val, by have := t.isLt; have hN : cfg0.N = 16 := N_0; omega⟩

/-- The block a row lies in. -/
def blkOf (q : Fin 8192) : Fin cfg0.N := ⟨q.val / 512, by have hN : cfg0.N = 16 := N_0; omega⟩
def rowIn (q : Fin 8192) : Fin 512 := ⟨q.val % 512, by omega⟩
theorem rowAt_eq (q : Fin 8192) : rowAt (blkOf q) (rowIn q) = q := Fin.ext (show 512 * (q.val / 512) + q.val % 512 = q.val by omega)

variable (m : (ℓ : Loc nD τ sig) → Buf (Elt Ideal) ℓ) (c : Dev nD)

abbrev a0 : S8192x1024.Idx → EReal := m ((c : Thread nD τ).loc main_arg0)
abbrev a1 : S1024.Idx → EReal := m ((c : Thread nD τ).loc main_arg1)
abbrev a2 : S1024x5120.Idx → EReal := m ((c : Thread nD τ).loc main_arg2)

theorem rows0 (t : Fin cfg0.N) : E2 (φ := .f32) (iblk m c 0 t : Vec Ideal S512x1024 .f32) (fun p => at2 (a0 m c) (rowAt t p)) := fun p j =>
  (blk0 m c t p j (rowAt t p) rfl).trans (congrFun (V_main_arg0 m c) _)
theorem rows1 (t : Fin cfg0.N) : E2 (φ := .f32) (iblk m c 1 t : Vec Ideal S1x1024 .f32) (fun _ j => at1 (a1 m c) j) := fun p j =>
  (blk1 m c t p j).trans (gain_apply m c p j)
theorem heldI : E2 (φ := .bf16) (wI m c : Vec Ideal S5120x1024 .bf16) (fun f j => at2 (a2 m c) j f) := fun f j => wI_apply m c f j

theorem val2 : ((dats m 0 c).arrAt 2 cfg0.N : S8192x5120.Idx → EReal) = ReferenceZinIdeal.Read.val_main_v14 (F := Ideal) (a0 m c) (a1 m c) (a2 m c) := by
  have key : ∀ (q : Fin 8192) (j : Fin 5120), ((dats m 0 c).arrAt 2 cfg0.N : S8192x5120.Idx → EReal) (ix2 q j) = ReferenceZinIdeal.Read.val_main_v14 (F := Ideal) (a0 m c) (a1 m c) (a2 m c) (ix2 q j) := fun q j => by
    have hq : (q : ℕ) = 512 * (blkOf q).val + (rowIn q).val := (congrArg Fin.val (rowAt_eq q)).symm
    refine (arr2 m c (blkOf q) (rowIn q) j q hq).trans ((pt2E (rows0 m c _) (rows1 m c _) (heldI m c) (rowIn q) j).trans ?_)
    dsimp only
    rw [rowAt_eq]
    exact (r_v14 (a0 m c) (a1 m c) (a2 m c) (ix2 q j)).symm
  refine funext fun (i : S8192x5120.Idx) => ?_
  rw [eq_ix2 i]
  exact key _ _

end Cert.KernelZinIdeal.Own

end
-- ==== Proof.ZinWords.lean ====
/- The kernel at machine words: its program is the ideal reading's program, so one frame serves both. -/
module

public import proofs.«01_k».proof.Defs
public import proofs.«01_k».proof.Proof.Gen.KernelZin
public import proofs.«01_k».proof.Proof.ZinFrame

@[expose] public section

noncomputable section

namespace Cert.Proof.Zin

open Idealize.ShloMosaic Idealize.SL.Sem
set_option maxHeartbeats 0

theorem bodies : KernelZin.defs₀ (F := Bits) = KernelZinIdeal.defs₀ (F := Bits) := by
  unfold KernelZin.defs₀ KernelZinIdeal.defs₀
  refine congrArg Defs.onTc ?_
  funext l a
  match l, a with
  | 0, (t, s) => rfl

theorem tables : (KernelZin.defs (F := Bits)) = (KernelZinIdeal.defs (F := Bits)) :=
  congrArg (Pipeline.defs (KernelZinIdeal.pcfgs (F := Bits))) bodies

theorem mains : KernelZin.main (F := Bits) = KernelZinIdeal.main (F := Bits) := rfl

theorem frame_kernel : Cert.quiescent_KernelZin := by
  intro m ρ _
  rw [tables, mains]
  exact KernelZinIdeal.Own.frame (F := Bits) m ρ

end Cert.Proof.Zin

end
-- ==== Proof.WguRun.lean ====
/- The body at one grid point, in its three cases: the first point of a column, a middle one, and the last, which copies the sums out. -/
module

public import proofs.«01_k».proof.Proof.Own
public import proofs.«01_k».proof.Proof.Gen.KernelWguIdeal.Frame
public import Idealize.ShloMosaic.Lib.VecWindow
public import Idealize.ShloMosaic.Lib.Pipeline.Value
public import Idealize.ShloMosaic.Lib.ValueLayout

@[expose] public section

set_option maxRecDepth 16384

noncomputable section

namespace Cert.KernelWguIdeal.Own

open KernelWguIdeal KernelWguIdeal.Gen
open Idealize.ShloMosaic
open TcCoe Tactic Cert.Own
open Idealize.SL
open RA BI ProofMode Sem
open BIBase Laws
open Rounds ValueIdx
open Pipeline (Dat Cfg Window BodyObligation cellOf)

variable {F : FTy → Type} [FloatOps F]

local notation "𝕄" => MT nD τ sig Unit (Elt F) ℕ (Pipeline.UD sig nD τ) ℕ

def condZ (i : grid0.Coords) : Prop := (i 1).val = 0
def condL (i : grid0.Coords) : Prop := (i 1).val = 7

theorem condL_iff (i : grid0.Coords) : k0_cond2 i = 1#1 ↔ condL i := (by unfold condL; decide +kernel : ∀ i : grid0.Coords, k0_cond2 i = 1#1 ↔ condL i) i

theorem condZ_iff (i : grid0.Coords) : (Scalar.cmpi .ne (Scalar.extui (Scalar.cmpi .eq (BitVec.ofNat 32 (i 1).val) 0#32)) 0#32 : BitVec 1) = 1#1 ↔ condZ i :=
  (by unfold condZ; decide +kernel : ∀ i : grid0.Coords, (Scalar.cmpi .ne (Scalar.extui (Scalar.cmpi .eq (BitVec.ofNat 32 (i 1).val) 0#32)) 0#32 : BitVec 1) = 1#1 ↔ condZ i) i

/-- One block's product of the transposed first operand with the second. -/
def prod (x : Vec F S1024x1408 .bf16) (y : Vec F S1024x1024 .bf16) : FVec F S1408x1024 .f32 :=
  matmul dot_S1024x1408_S1024x1024_S1408x1024_0_0_1_1_n_n none x y (constant S1408x1024 .f32 0x00000000#32)

def accB (x : Vec F S1024x1408 .bf16) (y : Vec F S1024x1024 .bf16) (a : Vec F S1408x1024 .f32) : Vec F S1408x1024 .f32 := addf a (prod x y)
def accA (x : Vec F S1024x1408 .bf16) (y : Vec F S1024x1024 .bf16) : Vec F S1408x1024 .f32 := accB x y (broadcast S1408x1024 (Scalar.ofBits .f32 0x00000000#32))

theorem off2 : (![0, 0] : Fin 2 → Nat) = fun _ => 0 := funext fun a => by fin_cases a <;> rfl

/-- The window of the result a copy writes: one operand's rows of one device. -/
abbrev outW (i : grid0.Coords) (h : k0_cond2 i = 1#1) (r s : Fin 2) : Memref sig .tc .hbm S704x1024 .bf16 :=
  ((Memref.whole main_v0).slice (Rect.unit (s := S4x1408x1024) (k0_off1 i (BitVec.ofNat 32 (704 * r.val)) (BitVec.ofNat 32 (704 * s.val))) S1x704x1024.size (k0_off1_inb i h r s)) (fun _ => rfl)).squeeze S704x1024 squeezes_S1x704x1024_S704x1024

abbrev HbB (c : Dev nD) : Type := Buf (Elt F) ((Memref.whole main_v0 : Memref sig .tc .hbm S4x1408x1024 .bf16).view.loc (c : Thread nD τ))
abbrev hbP (c : Dev nD) (f : HbB (F := F) c) : sProp 𝕄 := (Memref.whole main_v0 : Memref sig .tc .hbm S4x1408x1024 .bf16).view.loc (c : Thread nD τ) ↦{fullShare} f

theorem offs (i : grid0.Coords) (r s : Fin 2) : k0_off1 i (BitVec.ofNat 32 (704 * r.val)) (BitVec.ofNat 32 (704 * s.val)) = ![2 * (i 0).val + r.val, 704 * s.val, 0] :=
  (by decide +kernel : ∀ (i : grid0.Coords) (r s : Fin 2), k0_off1 i (BitVec.ofNat 32 (704 * r.val)) (BitVec.ofNat 32 (704 * s.val)) = ![2 * (i 0).val + r.val, 704 * s.val, 0]) i r s

theorem emb_outW (i : grid0.Coords) (h : k0_cond2 i = 1#1) (r s : Fin 2) (p : Fin 704) (q : Fin 1024) (k : S4x1408x1024.Idx)
    (h0 : (k 0).val = 2 * (i 0).val + r.val) (h1 : (k 1).val = 704 * s.val + p.val) (h2 : (k 2).val = q.val) : (outW i h r s).view.emb (ix2 p q) = k := by
  have e : Shape.reshapeEquiv (s := S1x704x1024) (s' := S704x1024) squeezes_S1x704x1024_S704x1024.numel_eq (ix2 p q) = ix3 (0 : Fin 1) p q :=
    shapeCast_1ab_ab_apply (fun k => k) squeezes_S1x704x1024_S704x1024.numel_eq p q
  have o := offs i r s
  refine funext fun a => Fin.ext ?_
  refine (congrArg (fun z => (((Rect.unit (s := S4x1408x1024) (k0_off1 i (BitVec.ofNat 32 (704 * r.val)) (BitVec.ofNat 32 (704 * s.val))) S1x704x1024.size (k0_off1_inb i h r s)).emb z) a).val) e).trans ?_
  show k0_off1 i (BitVec.ofNat 32 (704 * r.val)) (BitVec.ofNat 32 (704 * s.val)) a + 1 * ((ix3 (0 : Fin 1) p q : S1x704x1024.Idx) a).val = (k a).val
  rw [o]
  match a with
  | ⟨0, _⟩ => show (2 * (i 0).val + r.val) + 1 * 0 = (k 0).val; omega
  | ⟨1, _⟩ => show 704 * s.val + 1 * p.val = (k 1).val; omega
  | ⟨2, _⟩ => show 0 + 1 * q.val = (k 2).val; omega

/-- The indices of a window. -/
def inW (i : grid0.Coords) (r s : Fin 2) (k : S4x1408x1024.Idx) : Prop := (k 0).val = 2 * (i 0).val + r.val ∧ (k 1).val / 704 = s.val
instance (i : grid0.Coords) (r s : Fin 2) (k : S4x1408x1024.Idx) : Decidable (inW i r s k) := by unfold inW; infer_instance

theorem emb_mod (i : grid0.Coords) (h : k0_cond2 i = 1#1) (r s : Fin 2) (k : S4x1408x1024.Idx) (hk : inW i r s k) :
    (outW i h r s).view.emb (ix2 ⟨(k 1).val % 704, Nat.mod_lt _ (by decide)⟩ (k 2)) = k :=
  emb_outW i h r s _ _ k hk.1 (by have := hk.2; show _ = 704 * s.val + (k 1).val % 704; omega) rfl

theorem mem_outW (i : grid0.Coords) (h : k0_cond2 i = 1#1) (r s : Fin 2) (k : S4x1408x1024.Idx) (hk : k ∈ (outW i h r s).view.set) : inW i r s k := by
  obtain ⟨z, -, hz⟩ := Finset.mem_map.mp hk
  obtain ⟨p, q, rfl⟩ : ∃ (p : Fin 704) (q : Fin 1024), z = ix2 p q := ⟨z 0, z 1, eq_ix2 z⟩
  have hi : (i 0).val < 2 := (i 0).isLt
  rw [emb_outW i h r s p q (ix3 ⟨2 * (i 0).val + r.val, by omega⟩ ⟨704 * s.val + p.val, by omega⟩ q) rfl rfl rfl] at hz
  subst hz
  exact ⟨rfl, show (704 * s.val + p.val) / 704 = s.val by omega⟩

theorem put_outW (i : grid0.Coords) (h : k0_cond2 i = 1#1) (r s : Fin 2) (f : S4x1408x1024.Idx → Elt F .bf16) (w : S704x1024.Idx → Elt F .bf16) (k : S4x1408x1024.Idx) :
    ((outW i h r s).view.write (Elt F) f w Finset.univ : S4x1408x1024.Idx → Elt F .bf16) k = if inW i r s k then w (ix2 ⟨(k 1).val % 704, Nat.mod_lt _ (by decide)⟩ (k 2)) else f k := by
  by_cases hk : inW i r s k
  · rw [if_pos hk]
    have := View.write_emb_of_mem (v := (outW i h r s).view) (Val := Elt F) f w (Finset.mem_univ (ix2 ⟨(k 1).val % 704, Nat.mod_lt _ (by decide)⟩ (k 2)))
    exact (congrArg (fun z : S4x1408x1024.Idx => ((outW i h r s).view.write (Elt F) f w Finset.univ : S4x1408x1024.Idx → Elt F .bf16) z) (emb_mod i h r s k hk)).symm.trans this
  · rw [if_neg hk]
    exact View.write_of_not_mem (v := (outW i h r s).view) _ _ _ fun hm => hk (mem_outW i h r s k hm)

theorem apart (i : grid0.Coords) (h : k0_cond2 i = 1#1) (r s r' s' : Fin 2) (hr : ¬(r = r' ∧ s = s')) : Disjoint (outW i h r s).view.set (outW i h r' s').view.set := by
  rw [Finset.disjoint_left]
  intro k hk hk'
  have e := mem_outW i h r s k hk
  have e' := mem_outW i h r' s' k hk'
  exact hr ⟨Fin.ext (Nat.add_left_cancel (e.1.symm.trans e'.1)), Fin.ext (e.2.symm.trans e'.2)⟩

/-- One operand's sums, cast, at the row of its half that an index of the result names. -/
def row (a : Vec F S1408x1024 .f32) (r : Fin 2) (k : S4x1408x1024.Idx) : Elt F .bf16 :=
  truncf .bf16 a bitsLt_bf16_f32 (ix2 ⟨704 * r.val + (k 1).val % 704, by have := Nat.mod_lt (k 1).val (show 0 < 704 by decide); omega⟩ (k 2))

/-- The sums as they leave: cast, and laid over the two devices' rows of the result, the second operand's under the first's. -/
def outC (i : grid0.Coords) (a b : Vec F S1408x1024 .f32) (f : S4x1408x1024.Idx → Elt F .bf16) : S4x1408x1024.Idx → Elt F .bf16 := fun k =>
  if inW i 1 1 k then row b 1 k else if inW i 0 1 k then row b 0 k else if inW i 1 0 k then row a 1 k else if inW i 0 0 k then row a 0 k else f k

theorem put4 (i : grid0.Coords) (h : k0_cond2 i = 1#1) (f : S4x1408x1024.Idx → Elt F .bf16) (a b : Vec F S1408x1024 .f32) (w0 w1 w2 w3 : S704x1024.Idx → Elt F .bf16)
    (h0 : ∀ (p : Fin 704) (q : Fin 1024) (hp : 704 * (0 : Fin 2).val + p.val < 1408), w0 (ix2 p q) = truncf .bf16 a bitsLt_bf16_f32 (ix2 ⟨704 * (0 : Fin 2).val + p.val, hp⟩ q))
    (h1 : ∀ (p : Fin 704) (q : Fin 1024) (hp : 704 * (1 : Fin 2).val + p.val < 1408), w1 (ix2 p q) = truncf .bf16 a bitsLt_bf16_f32 (ix2 ⟨704 * (1 : Fin 2).val + p.val, hp⟩ q))
    (h2 : ∀ (p : Fin 704) (q : Fin 1024) (hp : 704 * (0 : Fin 2).val + p.val < 1408), w2 (ix2 p q) = truncf .bf16 b bitsLt_bf16_f32 (ix2 ⟨704 * (0 : Fin 2).val + p.val, hp⟩ q))
    (h3 : ∀ (p : Fin 704) (q : Fin 1024) (hp : 704 * (1 : Fin 2).val + p.val < 1408), w3 (ix2 p q) = truncf .bf16 b bitsLt_bf16_f32 (ix2 ⟨704 * (1 : Fin 2).val + p.val, hp⟩ q)) :
    ((outW i h 1 1).view.write (Elt F) ((outW i h 0 1).view.write (Elt F) ((outW i h 1 0).view.write (Elt F) ((outW i h 0 0).view.write (Elt F) f w0 Finset.univ) w1 Finset.univ) w2 Finset.univ) w3 Finset.univ : S4x1408x1024.Idx → Elt F .bf16) = outC i a b f := by
  refine funext fun k => ?_
  unfold outC
  refine (put_outW i h 1 1 _ _ k).trans (ite_congr rfl (fun _ => h3 _ _ _) fun _ => ?_)
  refine (put_outW i h 0 1 _ _ k).trans (ite_congr rfl (fun _ => h2 _ _ _) fun _ => ?_)
  refine (put_outW i h 1 0 _ _ k).trans (ite_congr rfl (fun _ => h1 _ _ _) fun _ => ?_)
  exact (put_outW i h 0 0 _ _ k).trans (ite_congr rfl (fun _ => h0 _ _ _) fun _ => rfl)

section
variable (c : Dev nD) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1024 .bf16) (harg4 : arg4.IsWhole) (arg6 : Memref sig .tc .vmem S1408x1024 .f32) (harg6 : arg6.IsWhole) (arg7 : Memref sig .tc .vmem S1408x1024 .f32) (harg7 : arg7.IsWhole) (arg8 : Memref sig .tc .vmem S1408x1024 .bf16) (harg8 : arg8.IsWhole) (arg9 : Memref sig .tc .vmem S1408x1024 .bf16) (harg9 : arg9.IsWhole)
  (x0 x1 : Vec F S1024x1408 .bf16) (y : Vec F S1024x1024 .bf16) (a b : Vec F S1408x1024 .f32)

theorem run_A (hz : condZ i) (hl : ¬condL i) (W : Waits sig Unit) (K : PUnit → sProp 𝕄) :
    (iprop(ow c arg2 x0 ∗ ow c arg3 x1 ∗ ow c arg4 y ∗ (∃ d, ow c arg6 d) ∗ (∃ d, ow c arg7 d) ∗ owes (c : Thread nD τ) 0 W
        ∗ (iprop(ow c arg2 x0 ∗ ow c arg3 x1 ∗ ow c arg4 y ∗ ow c arg6 (accA x0 y) ∗ ow c arg7 (accA x1 y) ∗ (∃ W', owes (c : Thread nD τ) 0 W')) -∗ K ⟨⟩)) : sProp 𝕄)
      ⊢ wp frame (wpE (defs₀ (F := F)) Variants.none c none) Set.univ (cc0_wgrad i arg2 harg2 arg3 harg3 arg4 harg4 (Memref.whole main_v0) (Memref.isWhole_whole _) arg6 harg6 arg7 harg7 arg8 harg8 arg9 harg9 cc0_scratch4) K := by
  unfold cc0_wgrad
  have hc2 : ¬k0_cond2 i = 1#1 := fun h => hl ((condL_iff i).mp h)
  have hc1 := (condZ_iff i).mpr hz
  unfold ow owns
  iintro ⟨⟨%f2, %hf2, H2⟩, ⟨%f3, %hf3, H3⟩, ⟨%f4, %hf4, H4⟩, ⟨%d6, %f6, -, H6⟩, ⟨%d7, %f7, -, H7⟩, HW, Hk⟩
  obtain rfl := harg2.eq_unread hf2; obtain rfl := harg3.eq_unread hf3; obtain rfl := harg4.eq_unread hf4
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr
    swap; · iexact H6
    ipureintro
    refine (View.read_writes_full arg6.view _ _ _ _).trans ?_
    sl_unfold_words
    simp only [View.readCov_eq_canon', View.readAt_eq_ld, harg2.read_unread, harg3.read_unread, harg4.read_unread, View.ld_unit_zero (S := S1024x1408) off2, View.ld_unit_zero (S := S1024x1024) off2, View.ld_unit_zero (S := S1408x1024) off2, View.canon_cons_unit_zero (S := S1408x1024) off2, shapeCast_self]
    rfl
  isplitl [H7]
  · iexists _; isplitr
    swap; · iexact H7
    ipureintro
    refine (View.read_writes_full arg7.view _ _ _ _).trans ?_
    sl_unfold_words
    simp only [View.readCov_eq_canon', View.readAt_eq_ld, harg2.read_unread, harg3.read_unread, harg4.read_unread, View.ld_unit_zero (S := S1024x1408) off2, View.ld_unit_zero (S := S1024x1024) off2, View.ld_unit_zero (S := S1408x1024) off2, View.canon_cons_unit_zero (S := S1408x1024) off2, shapeCast_self]
    rfl
  iexists _; iexact HW

theorem run_B (hz : ¬condZ i) (hl : ¬condL i) (W : Waits sig Unit) (K : PUnit → sProp 𝕄) :
    (iprop(ow c arg2 x0 ∗ ow c arg3 x1 ∗ ow c arg4 y ∗ ow c arg6 a ∗ ow c arg7 b ∗ owes (c : Thread nD τ) 0 W
        ∗ (iprop(ow c arg2 x0 ∗ ow c arg3 x1 ∗ ow c arg4 y ∗ ow c arg6 (accB x0 y a) ∗ ow c arg7 (accB x1 y b) ∗ (∃ W', owes (c : Thread nD τ) 0 W')) -∗ K ⟨⟩)) : sProp 𝕄)
      ⊢ wp frame (wpE (defs₀ (F := F)) Variants.none c none) Set.univ (cc0_wgrad i arg2 harg2 arg3 harg3 arg4 harg4 (Memref.whole main_v0) (Memref.isWhole_whole _) arg6 harg6 arg7 harg7 arg8 harg8 arg9 harg9 cc0_scratch4) K := by
  unfold cc0_wgrad
  have hc2 : ¬k0_cond2 i = 1#1 := fun h => hl ((condL_iff i).mp h)
  have hc1 := mt (condZ_iff i).mp hz
  unfold ow owns
  iintro ⟨⟨%f2, %hf2, H2⟩, ⟨%f3, %hf3, H3⟩, ⟨%f4, %hf4, H4⟩, ⟨%f6, %hf6, H6⟩, ⟨%f7, %hf7, H7⟩, HW, Hk⟩
  obtain rfl := harg2.eq_unread hf2; obtain rfl := harg3.eq_unread hf3; obtain rfl := harg4.eq_unread hf4; obtain rfl := harg6.eq_unread hf6; obtain rfl := harg7.eq_unread hf7
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr
    swap; · iexact H6
    ipureintro
    refine (View.read_writes_full arg6.view _ _ _ _).trans ?_
    sl_unfold_words
    simp only [View.readCov_eq_canon', View.readAt_eq_ld, harg2.read_unread, harg3.read_unread, harg4.read_unread, harg6.read_unread, harg7.read_unread, View.ld_unit_zero (S := S1024x1408) off2, View.ld_unit_zero (S := S1024x1024) off2, View.ld_unit_zero (S := S1408x1024) off2, View.canon_cons_unit_zero (S := S1408x1024) off2, shapeCast_self]
    rfl
  isplitl [H7]
  · iexists _; isplitr
    swap; · iexact H7
    ipureintro
    refine (View.read_writes_full arg7.view _ _ _ _).trans ?_
    sl_unfold_words
    simp only [View.readCov_eq_canon', View.readAt_eq_ld, harg2.read_unread, harg3.read_unread, harg4.read_unread, harg6.read_unread, harg7.read_unread, View.ld_unit_zero (S := S1024x1408) off2, View.ld_unit_zero (S := S1024x1024) off2, View.ld_unit_zero (S := S1408x1024) off2, View.canon_cons_unit_zero (S := S1408x1024) off2, shapeCast_self]
    rfl
  iexists _; iexact HW

theorem run_C (hz : ¬condZ i) (hl : k0_cond2 i = 1#1) (fh : HbB (F := F) c) (W : Waits sig Unit) (K : PUnit → sProp 𝕄) :
    (iprop(ow c arg2 x0 ∗ ow c arg3 x1 ∗ ow c arg4 y ∗ ow c arg6 a ∗ ow c arg7 b ∗ (∃ d, ow c arg8 d) ∗ (∃ d, ow c arg9 d) ∗ sv c 6 ∗ sv c 7 ∗ sv c 8 ∗ sv c 9 ∗ hbP c fh ∗ owes (c : Thread nD τ) 0 W
        ∗ (iprop(ow c arg2 x0 ∗ ow c arg3 x1 ∗ ow c arg4 y ∗ ow c arg6 (accB x0 y a) ∗ ow c arg7 (accB x1 y b) ∗ (∃ d, ow c arg8 d) ∗ (∃ d, ow c arg9 d) ∗ sv c 6 ∗ sv c 7 ∗ sv c 8 ∗ sv c 9 ∗ hbP c (outC i (accB x0 y a) (accB x1 y b) fh) ∗ (∃ W', owes (c : Thread nD τ) 0 W')) -∗ K ⟨⟩)) : sProp 𝕄)
      ⊢ wp frame (wpE (defs₀ (F := F)) Variants.none c none) Set.univ (cc0_wgrad i arg2 harg2 arg3 harg3 arg4 harg4 (Memref.whole main_v0) (Memref.isWhole_whole _) arg6 harg6 arg7 harg7 arg8 harg8 arg9 harg9 cc0_scratch4) K := by
  unfold cc0_wgrad k0_part1 k0_part2 k0_part3
  have hd10 : Disjoint (outW i hl 1 0).view.set (outW i hl 0 0).view.set := apart i hl 1 0 0 0 (by decide)
  have hd20 : Disjoint (outW i hl 0 1).view.set (outW i hl 0 0).view.set := apart i hl 0 1 0 0 (by decide)
  have hd21 : Disjoint (outW i hl 0 1).view.set (outW i hl 1 0).view.set := apart i hl 0 1 1 0 (by decide)
  have hd30 : Disjoint (outW i hl 1 1).view.set (outW i hl 0 0).view.set := apart i hl 1 1 0 0 (by decide)
  have hd31 : Disjoint (outW i hl 1 1).view.set (outW i hl 1 0).view.set := apart i hl 1 1 1 0 (by decide)
  have hd32 : Disjoint (outW i hl 1 1).view.set (outW i hl 0 1).view.set := apart i hl 1 1 0 1 (by decide)
  have hc2 := hl
  have hc1 := mt (condZ_iff i).mp hz
  unfold ow owns
  iintro ⟨⟨%f2, %hf2, H2⟩, ⟨%f3, %hf3, H3⟩, ⟨%f4, %hf4, H4⟩, ⟨%f6, %hf6, H6⟩, ⟨%f7, %hf7, H7⟩, ⟨%d8, %f8, -, H8⟩, ⟨%d9, %f9, -, H9⟩, Hq0, Hq1, Hq2, Hq3, Hh, HW, Hk⟩
  obtain rfl := harg2.eq_unread hf2; obtain rfl := harg3.eq_unread hf3; obtain rfl := harg4.eq_unread hf4; obtain rfl := harg6.eq_unread hf6; obtain rfl := harg7.eq_unread hf7
  sl_exec (disch := first | sl_exact hc1 | sl_exact hc2)
  sl_step
  iapply Hk
  iframe Hq0 Hq1 Hq2 Hq3
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr
    swap; · iexact H6
    ipureintro
    refine (View.read_writes_full arg6.view _ _ _ _).trans ?_
    sl_unfold_words
    simp only [View.readCov_eq_canon', View.readAt_eq_ld, harg2.read_unread, harg3.read_unread, harg4.read_unread, harg6.read_unread, harg7.read_unread, View.ld_unit_zero (S := S1024x1408) off2, View.ld_unit_zero (S := S1024x1024) off2, View.ld_unit_zero (S := S1408x1024) off2, View.canon_cons_unit_zero (S := S1408x1024) off2, shapeCast_self]
    rfl
  isplitl [H7]
  · iexists _; isplitr
    swap; · iexact H7
    ipureintro
    refine (View.read_writes_full arg7.view _ _ _ _).trans ?_
    sl_unfold_words
    simp only [View.readCov_eq_canon', View.readAt_eq_ld, harg2.read_unread, harg3.read_unread, harg4.read_unread, harg6.read_unread, harg7.read_unread, View.ld_unit_zero (S := S1024x1408) off2, View.ld_unit_zero (S := S1024x1024) off2, View.ld_unit_zero (S := S1408x1024) off2, View.canon_cons_unit_zero (S := S1408x1024) off2, shapeCast_self]
    rfl
  isplitl [H8]
  · iexists _; iexists _; isplitr
    swap; · iexact H8
    ipureintro; rfl
  isplitl [H9]
  · iexists _; iexists _; isplitr
    swap; · iexact H9
    ipureintro; rfl
  isplitl [Hh]
  · have e : (run_C.sl.Hh_w3 c i arg2 harg2 arg3 harg3 arg4 harg4 arg6 harg6 arg7 harg7 arg8 arg9 x0 x1 y a b hl fh f8 f9 : HbB (F := F) c) = outC i (accB x0 y a) (accB x1 y b) fh := by
      sl_unfold_words
      simp only [View.readCov_eq_canon', View.readAt_eq_ld, harg2.read_unread, harg3.read_unread, harg4.read_unread, harg6.read_unread, harg7.read_unread, View.ld_unit_zero (S := S1024x1408) off2, View.ld_unit_zero (S := S1024x1024) off2, View.ld_unit_zero (S := S1408x1024) off2, View.canon_cons_unit_zero (S := S1408x1024) off2, shapeCast_self]
      refine put4 i hl fh (accB x0 y a) (accB x1 y b) _ _ _ _ (fun p q hp => ?_) (fun p q hp => ?_) (fun p q hp => ?_) (fun p q hp => ?_)
      · refine (congrFun (View.read_writes_full arg8.view f8 _ _ []) _).trans (congrArg (truncf .bf16 (accB x0 y a) bitsLt_bf16_f32) (funext fun b => Fin.ext ?_))
        match b with
        | ⟨0, _⟩ => show 0 + 1 * (0 + 1 * p.val) = 704 * 0 + p.val; omega
        | ⟨1, _⟩ => show 0 + 1 * (0 + 1 * q.val) = q.val; omega
      · refine (congrFun (View.read_writes_full arg8.view f8 _ _ []) _).trans (congrArg (truncf .bf16 (accB x0 y a) bitsLt_bf16_f32) (funext fun b => Fin.ext ?_))
        match b with
        | ⟨0, _⟩ => show 0 + 1 * (704 + 1 * p.val) = 704 * 1 + p.val; omega
        | ⟨1, _⟩ => show 0 + 1 * (0 + 1 * q.val) = q.val; omega
      · refine (congrFun (View.read_writes_full arg9.view f9 _ _ []) _).trans (congrArg (truncf .bf16 (accB x1 y b) bitsLt_bf16_f32) (funext fun b => Fin.ext ?_))
        match b with
        | ⟨0, _⟩ => show 0 + 1 * (0 + 1 * p.val) = 704 * 0 + p.val; omega
        | ⟨1, _⟩ => show 0 + 1 * (0 + 1 * q.val) = q.val; omega
      · refine (congrFun (View.read_writes_full arg9.view f9 _ _ []) _).trans (congrArg (truncf .bf16 (accB x1 y b) bitsLt_bf16_f32) (funext fun b => Fin.ext ?_))
        match b with
        | ⟨0, _⟩ => show 0 + 1 * (704 + 1 * p.val) = 704 * 1 + p.val; omega
        | ⟨1, _⟩ => show 0 + 1 * (0 + 1 * q.val) = q.val; omega
    rw [← e]; iexact Hh
  iexists _; iexact HW
end

end Cert.KernelWguIdeal.Own

end
-- ==== Proof.WguFrame.lean ====
/- The frame: the sums and the result after each grid point, the obligation of the body and the launch. -/
module

public import proofs.«01_k».proof.Proof.WguRun
public import Idealize.ShloMosaic.Lib.Pipeline.FrameValue
public import Idealize.ShloMosaic.Lib.Claim

@[expose] public section

set_option maxRecDepth 16384

noncomputable section

namespace Cert.KernelWguIdeal.Own

open KernelWguIdeal KernelWguIdeal.Gen
open Idealize.ShloMosaic
open TcCoe Tactic Cert.Own
open Idealize.SL
open RA BI ProofMode Sem
open BIBase Laws
open Rounds ValueIdx
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev scA0 : Memref sig .tc .vmem S1408x1024 .f32 := Memref.whole cc0_scratch0
abbrev scA1 : Memref sig .tc .vmem S1408x1024 .f32 := Memref.whole cc0_scratch1
abbrev scS0 : Memref sig .tc .vmem S1408x1024 .bf16 := Memref.whole cc0_scratch2
abbrev scS1 : Memref sig .tc .vmem S1408x1024 .bf16 := Memref.whole cc0_scratch3
abbrev ms0 (t : Fin cfg0.N) : Memref sig .tc .vmem S1024x1408 .bf16 := win0_0.stage (cfg0.slots t 0)
abbrev ms1 (t : Fin cfg0.N) : Memref sig .tc .vmem S1024x1408 .bf16 := win0_1.stage (cfg0.slots t 1)
abbrev ms2 (t : Fin cfg0.N) : Memref sig .tc .vmem S1024x1024 .bf16 := win0_2.stage (cfg0.slots t 2)

theorem coord0 (t : Fin cfg0.N) : (grid0.coords t 0).val = t.val / 8 := by
  have ht : t.val < 16 := Nat.lt_of_lt_of_eq t.isLt N_0
  have e : (grid0.coords t 0).val = t.val / 8 % 2 := Pipeline.Grid.coords_val t 0 (by decide) rfl
  omega
theorem coord1 (t : Fin cfg0.N) : (grid0.coords t 1).val = t.val % 8 := by
  have e : (grid0.coords t 1).val = t.val / 1 % 8 := Pipeline.Grid.coords_val t 1 (by decide) rfl
  omega
theorem hZ (t : Fin cfg0.N) : condZ (grid0.coords t) ↔ t.val % 8 = 0 := by unfold condZ; rw [coord1]
theorem hL (t : Fin cfg0.N) : condL (grid0.coords t) ↔ t.val % 8 = 7 := by unfold condL; rw [coord1]

abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(sv c 6 ∗ sv c 7 ∗ sv c 8 ∗ sv c 9) := by
  rw [Pipeline.ownSems0_eq_of_list c osem0 [0, 1, 2, 3] (by decide) (by decide)]; rfl

/-- The result, written by the kernel's own copies. -/
def R0 : Finset (Ref sig .tc) := {main_v0}
theorem R0_sub : R0 ⊆ Pipeline.restRefs sig spec0 \ ∅ := by decide
theorem routed_eq (c : Dev nD) (G : (b : Ref sig .tc) → Buf (Elt F) ((c.tc : Thread nD τ).loc b)) :
    (Pipeline.routed R0 c G : sProp 𝕄) = hbP c (G main_v0) := by
  unfold Pipeline.routed; rw [BI.bigSep_eq_bigSepL_of_eq [main_v0] (by decide) (by decide)]; rfl

theorem PhiD_eq (c : Dev nD) (G : (c : Dev nD) → (b : Ref sig .tc) → Buf (Elt F) ((c.tc : Thread nD τ).loc b)) :
    (Pipeline.ΦDRG osem0 spec0 ∅ R0 (V m) G c : sProp 𝕄) = iprop(((∃ d, ow c scA0 d) ∗ (∃ d, ow c scA1 d) ∗ (∃ d, ow c scS0 d) ∗ (∃ d, ow c scS1 d)) ∗ (∃ r, prngReg c r) ∗ iprop(sv c 6 ∗ sv c 7 ∗ sv c 8 ∗ sv c 9) ∗ emp ∗ hbP c (G c main_v0)) := by
  rw [Pipeline.ΦDRG_eq, scopedRest0_eq, ownSems_eq, routed_eq, BI.bigSep_empty]; simp only [owns_whole]; try rfl

/-- The sums of the operand `x` after point `n`. -/
def acc (c : Dev nD) (x : Fin cfg0.N → Vec F S1024x1408 .bf16) : (n : ℕ) → n < cfg0.N → Vec F S1408x1024 .f32
  | 0, h => accA (x ⟨0, h⟩) (iblk m c 2 ⟨0, h⟩)
  | n + 1, h => if (n + 1) % 8 = 0 then accA (x ⟨n + 1, h⟩) (iblk m c 2 ⟨n + 1, h⟩) else accB (x ⟨n + 1, h⟩) (iblk m c 2 ⟨n + 1, h⟩) (acc c x n (Nat.lt_of_succ_lt h))

theorem acc_A (c : Dev nD) (x : Fin cfg0.N → Vec F S1024x1408 .bf16) (t : Fin cfg0.N) (h : t.val % 8 = 0) : acc m c x t.val t.isLt = accA (x t) (iblk m c 2 t) := by
  obtain ⟨n, hn⟩ := t
  cases n with
  | zero => rfl
  | succ n => exact if_pos h

theorem acc_B (c : Dev nD) (x : Fin cfg0.N → Vec F S1024x1408 .bf16) (t : Fin cfg0.N) (h : ¬t.val % 8 = 0) : acc m c x t.val t.isLt = accB (x t) (iblk m c 2 t) (acc m c x (t.val - 1) (Nat.lt_of_le_of_lt (Nat.sub_le _ _) t.isLt)) := by
  obtain ⟨n, hn⟩ := t
  cases n with
  | zero => exact absurd (Nat.zero_mod _) h
  | succ n => exact if_neg h

/-- The result after `n` points. -/
def outs (c : Dev nD) : ℕ → HbB (F := F) c
  | 0 => V m c main_v0
  | n + 1 => if h : n < cfg0.N then (if n % 8 = 7 then outC (grid0.coords ⟨n, h⟩) (acc m c (iblk m c 0) n h) (acc m c (iblk m c 1) n h) (outs c n) else outs c n) else outs c n

theorem outs_L (c : Dev nD) (t : Fin cfg0.N) (h : t.val % 8 = 7) : outs m c (t.val + 1) = outC (grid0.coords t) (acc m c (iblk m c 0) t.val t.isLt) (acc m c (iblk m c 1) t.val t.isLt) (outs m c t.val) :=
  (dif_pos t.isLt).trans (if_pos h)
theorem outs_N (c : Dev nD) (t : Fin cfg0.N) (h : ¬t.val % 8 = 7) : outs m c (t.val + 1) = outs m c t.val :=
  (dif_pos t.isLt).trans (if_neg h)

def PhiS (c : Dev nD) : (n : ℕ) → n ≤ cfg0.N → sProp 𝕄
  | 0, _ => Pipeline.ΦDRG osem0 spec0 ∅ R0 (V m) (V m) c
  | n + 1, h => iprop(((ow c scA0 (acc m c (iblk m c 0) n h) ∗ ow c scA1 (acc m c (iblk m c 1) n h)) ∗ (∃ d, ow c scS0 d) ∗ (∃ d, ow c scS1 d)) ∗ (∃ r, prngReg c r) ∗ iprop(sv c 6 ∗ sv c 7 ∗ sv c 8 ∗ sv c 9) ∗ emp ∗ hbP c (outs m c (n + 1)))

theorem PhiS_succ (c : Dev nD) (n : ℕ) (h : n + 1 ≤ cfg0.N) :
    PhiS m c (n + 1) h = iprop(((ow c scA0 (acc m c (iblk m c 0) n h) ∗ ow c scA1 (acc m c (iblk m c 1) n h)) ∗ (∃ d, ow c scS0 d) ∗ (∃ d, ow c scS1 d)) ∗ (∃ r, prngReg c r) ∗ iprop(sv c 6 ∗ sv c 7 ∗ sv c 8 ∗ sv c 9) ∗ emp ∗ hbP c (outs m c (n + 1))) := rfl

theorem PhiS_pos (c : Dev nD) (n : ℕ) (h : n ≤ cfg0.N) (hz : n ≠ 0) :
    PhiS m c n h = iprop(((ow c scA0 (acc m c (iblk m c 0) (n - 1) (by omega)) ∗ ow c scA1 (acc m c (iblk m c 1) (n - 1) (by omega))) ∗ (∃ d, ow c scS0 d) ∗ (∃ d, ow c scS1 d)) ∗ (∃ r, prngReg c r) ∗ iprop(sv c 6 ∗ sv c 7 ∗ sv c 8 ∗ sv c 9) ∗ emp ∗ hbP c (outs m c n)) := by
  cases n with
  | zero => exact absurd rfl hz
  | succ n => rfl

/-- Whatever the point, the sums are held at some contents. -/
theorem PhiS_any (c : Dev nD) (n : ℕ) (h : n ≤ cfg0.N) :
    PhiS m c n h ⊢ iprop((((∃ d, ow c scA0 d) ∗ (∃ d, ow c scA1 d)) ∗ (∃ d, ow c scS0 d) ∗ (∃ d, ow c scS1 d)) ∗ (∃ r, prngReg c r) ∗ iprop(sv c 6 ∗ sv c 7 ∗ sv c 8 ∗ sv c 9) ∗ emp ∗ hbP c (outs m c n)) := by
  by_cases hz : n = 0
  · subst hz
    rw [show PhiS m c 0 h = Pipeline.ΦDRG osem0 spec0 ∅ R0 (V m) (V m) c from rfl, PhiD_eq]
    iintro ⟨⟨HA0, HA1, HS0, HS1⟩, Hr⟩
    iframe HA0 HA1 HS0 HS1; iexact Hr
  · rw [PhiS_pos m c n h hz]
    iintro ⟨⟨⟨HA0, HA1⟩, HS0, HS1⟩, Hr⟩
    iframe HS0 HS1 Hr
    isplitl [HA0]; · iexists _; iexact HA0
    iexists _; iexact HA1

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_cast (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, ow c (ms0 t) ((dats m 0 c).before 0 t d))
    ∗ (∃ d, ow c (ms1 t) ((dats m 0 c).before 1 t d))
    ∗ (∃ d, ow c (ms2 t) ((dats m 0 c).before 2 t d)))

def bodyPost (c : Dev nD) (t : Fin cfg0.N) : sProp 𝕄 :=
  iprop((dats m 0 c).Φ t.succ ∗ (dats m 0 c).owesAt () t.succ
    ∗ ow c (ms0 t) ((dats m 0 c).after 0 t)
    ∗ ow c (ms1 t) ((dats m 0 c).after 1 t)
    ∗ ow c (ms2 t) ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, after0, after1, after2]
  rw [show (dats m 0 c).Φ t.succ = PhiS m c (t.val + 1) t.isLt from rfl, PhiS_succ, Phi_cast]
  unfold Dat.owesAt Pipeline.owesWithin
  rw [show (dats m 0 c).owed t.castSucc = 0 from rfl, show (dats m 0 c).owed t.succ = 0 from rfl]
  by_cases h0 : t.val % 8 = 0
  · have h7 : ¬t.val % 8 = 7 := by omega
    rw [acc_A m c (iblk m c 0) t h0, acc_A m c (iblk m c 1) t h0, outs_N m c t h7]
    refine (sep_mono (PhiS_any m c _ _) .rfl).trans ?_
    iintro ⟨⟨⟨⟨HA0, HA1⟩, HS0, HS1⟩, Hg, ⟨Hq0, Hq1, Hq2, Hq3⟩, He, Hh⟩, ⟨%W, -, HW⟩, ⟨%d0, H0⟩, ⟨%d1, H1⟩, ⟨%d2, H2⟩⟩
    iapply (run_A c (grid0.coords t) _ _ _ _ _ _ _ _ _ _ _ _ _ _ (iblk m c 0 t) (iblk m c 1 t) (iblk m c 2 t) ((hZ t).mpr h0) (mt (hL t).mp h7) W _)
    iframe H0 H1 H2 HA0 HA1 HW
    iintro ⟨H0, H1, H2, HA0, HA1, ⟨%W', HW'⟩⟩
    iframe HA0 HA1 HS0 HS1 Hg Hq0 Hq1 Hq2 Hq3 He Hh H0 H1 H2
    iexists W'; isplitr; · ipureintro; exact fun _ _ => Or.inl trivial
    iexact HW'
  · have hz : t.val ≠ 0 := fun e => h0 (by rw [e])
    rw [PhiS_pos m c _ _ hz, acc_B m c (iblk m c 0) t h0, acc_B m c (iblk m c 1) t h0]
    by_cases h7 : t.val % 8 = 7
    · rw [outs_L m c t h7, acc_B m c (iblk m c 0) t h0, acc_B m c (iblk m c 1) t h0]
      iintro ⟨⟨⟨⟨HA0, HA1⟩, HS0, HS1⟩, Hg, ⟨Hq0, Hq1, Hq2, Hq3⟩, He, Hh⟩, ⟨%W, -, HW⟩, ⟨%d0, H0⟩, ⟨%d1, H1⟩, ⟨%d2, H2⟩⟩
      iapply (run_C c (grid0.coords t) _ _ _ _ _ _ _ _ _ _ _ _ _ _ (iblk m c 0 t) (iblk m c 1 t) (iblk m c 2 t) (acc m c (iblk m c 0) (t.val - 1) (Nat.lt_of_le_of_lt (Nat.sub_le _ _) t.isLt)) (acc m c (iblk m c 1) (t.val - 1) (Nat.lt_of_le_of_lt (Nat.sub_le _ _) t.isLt)) (mt (hZ t).mp h0) ((condL_iff _).mpr ((hL t).mpr h7)) (outs m c t.val) W _)
      iframe H0 H1 H2 HA0 HA1 HS0 HS1 Hq0 Hq1 Hq2 Hq3 Hh HW
      iintro ⟨H0, H1, H2, HA0, HA1, HS0, HS1, Hq0, Hq1, Hq2, Hq3, Hh, ⟨%W', HW'⟩⟩
      iframe HA0 HA1 HS0 HS1 Hg Hq0 Hq1 Hq2 Hq3 He Hh H0 H1 H2
      iexists W'; isplitr; · ipureintro; exact fun _ _ => Or.inl trivial
      iexact HW'
    · rw [outs_N m c t h7]
      iintro ⟨⟨⟨⟨HA0, HA1⟩, HS0, HS1⟩, Hg, ⟨Hq0, Hq1, Hq2, Hq3⟩, He, Hh⟩, ⟨%W, -, HW⟩, ⟨%d0, H0⟩, ⟨%d1, H1⟩, ⟨%d2, H2⟩⟩
      iapply (run_B c (grid0.coords t) _ _ _ _ _ _ _ _ _ _ _ _ _ _ (iblk m c 0 t) (iblk m c 1 t) (iblk m c 2 t) (acc m c (iblk m c 0) (t.val - 1) (Nat.lt_of_le_of_lt (Nat.sub_le _ _) t.isLt)) (acc m c (iblk m c 1) (t.val - 1) (Nat.lt_of_le_of_lt (Nat.sub_le _ _) t.isLt)) (mt (hZ t).mp h0) (mt (hL t).mp h7) W _)
      iframe H0 H1 H2 HA0 HA1 HW
      iintro ⟨H0, H1, H2, HA0, HA1, ⟨%W', HW'⟩⟩
      iframe HA0 HA1 HS0 HS1 Hg Hq0 Hq1 Hq2 Hq3 He Hh H0 H1 H2
      iexists W'; isplitr; · ipureintro; exact fun _ _ => Or.inl trivial
      iexact HW'

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch leaves in the result. -/
def G (c : Dev nD) (b : Ref sig .tc) : Buf (Elt F) ((c.tc : Thread nD τ).loc b) :=
  if h : b = main_v0 then h ▸ outs m c cfg0.N else V m c b

theorem G_res (c : Dev nD) : G m c main_v0 = outs m c cfg0.N := dif_pos rfl

theorem hin (c : Dev nD) : Pipeline.ΦDRG osem0 spec0 ∅ R0 (V m) (V m) c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦDRG osem0 spec0 ∅ R0 (V m) (G m) c := by
  rw [show (dats m 0 c).Φ (Fin.last cfg0.N) = PhiS m c cfg0.N le_rfl from rfl, PhiD_eq, G_res]
  refine (PhiS_any m c _ _).trans ?_
  iintro ⟨⟨⟨HA0, HA1⟩, HS0, HS1⟩, Hr⟩
  iframe HA0 HA1 HS0 HS1 Hr

theorem hmainD : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := hmainD m) (hA := A_eq m) (G := G m)
    (hin := hin m) (hout := hout m)

theorem run_all : θ_run defs (onTc (τ := τ) (main (F := F))) ⟨m, fun _ => 0, ρ⟩ (fun r => (∀ c : Dev nD,
      r.2.mem ((c.tc : Thread nD τ).loc main_v0) = outs m c cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.written c (b := main_v0) (by decide)).trans (G_res m c),
      ((h.1.toR c).1 0).trans (((dats m 0 c).arrAt_in 0 rfl _).trans (A_eq m c 0)), ((h.1.toR c).1 1).trans (((dats m 0 c).arrAt_in 1 rfl _).trans (A_eq m c 1)), ((h.1.toR c).1 2).trans (((dats m 0 c).arrAt_in 2 rfl _).trans (A_eq m c 2))⟩, h.2⟩) (run_main m ρ)

theorem run_blocks : θ_run defs (onTc (τ := τ) (main (F := F))) ⟨m, fun _ => 0, ρ⟩ (fun r => ∀ c : Dev nD,
      r.2.mem ((c.tc : Thread nD τ).loc main_v0) = outs m c cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h => h.1) (run_all m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2, h.2⟩) (run_all m ρ)

end Cert.KernelWguIdeal.Own

end
-- ==== Proof.WgSum.lean ====
/- Sums over the rows of two arrays, block by block. -/
module

public import proofs.«01_k».proof.Proof.EMat
import Idealize.ShloMosaic.Lib.Pointwise.Contract

@[expose] public section

noncomputable section

namespace Cert.WgSum

open Idealize.ShloMosaic hiding ix2 eq_ix2
open Idealize.ShloMosaic.ValueIdx EMat RealRow
open scoped BigOperators

/-- The dimension numbers of a block's product: the rows of both operands are summed over. -/
def dims {n : ℕ} (wf : DotDims.WF ⟨2, ![1024, n]⟩ ⟨2, ![1024, 1024]⟩ ⟨2, ![n, 1024]⟩ [0] [0] [1] [1] [] []) : DotDims ⟨2, ![1024, n]⟩ ⟨2, ![1024, 1024]⟩ ⟨2, ![n, 1024]⟩ where
  lhsContracting := [0]
  rhsContracting := [0]
  lhsNonContracting := [1]
  rhsNonContracting := [1]
  lhsBatch := []
  rhsBatch := []
  wf := wf

theorem tn {n : ℕ} {wf : _} {A : FVec Ideal ⟨2, ![1024, n]⟩ .bf16} {B : FVec Ideal ⟨2, ![1024, 1024]⟩ .bf16} {C : FVec Ideal ⟨2, ![n, 1024]⟩ .f32}
    {f : Fin 1024 → Fin n → EReal} {g : Fin 1024 → Fin 1024 → EReal} (hA : E2 A f) (hB : E2 B g) (hC : E2 C (fun _ _ => 0)) :
    E2 (matmul (dims wf) none A B C) (fun p q => ∑ k, f k p * g k q) := fun p q => by
  refine (Ideal.matmul_apply₁_of (dims wf) rfl rfl A B C (ix2 p q) (fun k : Fin 1024 => ix2 k p) (fun k : Fin 1024 => ix2 k q) (fun k => ?_) (fun k => ?_)).trans ?_
  · exact funext fun a => by match a with
      | ⟨0, _⟩ => rfl
      | ⟨1, _⟩ => rfl
  · exact funext fun a => by match a with
      | ⟨0, _⟩ => rfl
      | ⟨1, _⟩ => rfl
  · rw [hC p q, zero_add]
    exact Finset.sum_congr rfl fun k _ => congrArg₂ (· * ·) (hA k p) (hB k q)

/-- An array at two coordinates, nought outside. -/
def pt {a b : ℕ} (X : (⟨2, ![a, b]⟩ : Shape).Idx → EReal) (r f : ℕ) : EReal := if h : r < a ∧ f < b then X (ix2 ⟨r, h.1⟩ ⟨f, h.2⟩) else 0

theorem pt_eq {a b : ℕ} (X : (⟨2, ![a, b]⟩ : Shape).Idx → EReal) (r f : ℕ) (i : (⟨2, ![a, b]⟩ : Shape).Idx) (h0 : (i 0).val = r) (h1 : (i 1).val = f) : pt X r f = X i := by
  subst h0; subst h1
  exact (dif_pos ⟨(i 0).isLt, (i 1).isLt⟩).trans (congrArg X (eq_ix2 i).symm)

theorem sum_block (g : ℕ → EReal) (b : ℕ) : ∑ r ∈ Finset.range (1024 * (b + 1)), g r = ∑ r ∈ Finset.range (1024 * b), g r + ∑ k : Fin 1024, g (1024 * b + k.val) := by
  rw [Nat.mul_succ, Finset.sum_range_add, Finset.sum_range (fun x => g (1024 * b + x))]

end Cert.WgSum

end
-- ==== Proof.WguValue.lean ====
/- The result read: each sum is over all rows, and the result is the reference's. -/
module

public import proofs.«01_k».proof.Proof.WguFrame
public import proofs.«01_k».proof.Proof.WgSum
public import proofs.«01_k».proof.Proof.Gen.ReferenceWguIdeal.Read

@[expose] public section

noncomputable section

namespace Cert.KernelWguIdeal.Own

open KernelWguIdeal KernelWguIdeal.Gen Idealize.ShloMosaic Idealize.ShloMosaic.TcCoe Idealize.ShloMosaic.ValueIdx EMat WgSum
open scoped BigOperators

variable (m : (ℓ : Loc nD τ sig) → Buf (Elt Ideal) ℓ) (c : Dev nD)

abbrev a0 : S8192x2816.Idx → EReal := m ((c : Thread nD τ).loc main_arg0)
abbrev a1 : S8192x2816.Idx → EReal := m ((c : Thread nD τ).loc main_arg1)
abbrev a2 : S8192x1024.Idx → EReal := m ((c : Thread nD τ).loc main_arg2)

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)

theorem blk0 (t : Fin cfg0.N) : E2 (φ := .bf16) (iblk m c 0 t : Vec Ideal S1024x1408 .bf16) (fun p q => pt (a0 m c) (1024 * (t.val % 8) + p.val) (1408 * (t.val / 8) + q.val)) := fun p q => by
  have ht : t.val < 16 := Nat.lt_of_lt_of_eq t.isLt N_0
  unfold iblk
  rw [View.read_apply]
  refine (pt_eq (a0 m c) _ _ _ ?_ ?_).symm
  · show win0_0.index t 0 * 1024 + 1 * p.val = _; rw [(index0 t).1]; omega
  · show win0_0.index t 1 * 1408 + 1 * q.val = _; rw [(index0 t).2]; omega

theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

theorem blk1 (t : Fin cfg0.N) : E2 (φ := .bf16) (iblk m c 1 t : Vec Ideal S1024x1408 .bf16) (fun p q => pt (a1 m c) (1024 * (t.val % 8) + p.val) (1408 * (t.val / 8) + q.val)) := fun p q => by
  have ht : t.val < 16 := Nat.lt_of_lt_of_eq t.isLt N_0
  unfold iblk
  rw [View.read_apply]
  refine (pt_eq (a1 m c) _ _ _ ?_ ?_).symm
  · show win0_1.index t 0 * 1024 + 1 * p.val = _; rw [(index1 t).1]; omega
  · show win0_1.index t 1 * 1408 + 1 * q.val = _; rw [(index1 t).2]; omega

theorem index2 : ∀ t : Fin cfg0.N, win0_2.index t 0 = t.val % 8 ∧ win0_2.index t 1 = 0 :=
  (by decide +kernel : ∀ t : Fin grid0.N, win0_2.index t 0 = t.val % 8 ∧ win0_2.index t 1 = 0)

theorem blk2 (t : Fin cfg0.N) : E2 (φ := .bf16) (iblk m c 2 t : Vec Ideal S1024x1024 .bf16) (fun p q => pt (a2 m c) (1024 * (t.val % 8) + p.val) (q.val)) := fun p q => by
  have ht : t.val < 16 := Nat.lt_of_lt_of_eq t.isLt N_0
  unfold iblk
  rw [View.read_apply]
  refine (pt_eq (a2 m c) _ _ _ ?_ ?_).symm
  · show win0_2.index t 0 * 1024 + 1 * p.val = _; rw [(index2 t).1]; omega
  · show win0_2.index t 1 * 1024 + 1 * q.val = _; rw [(index2 t).2]; omega

/-- One row's share of the sum at a pair of channels. -/
def term (a : S8192x2816.Idx → EReal) (f q r : ℕ) : EReal := pt a r f * (pt (a2 m c) r q)

/-- The blocks of the operand `a`. -/
abbrev Cut (a : S8192x2816.Idx → EReal) (x : Fin cfg0.N → Vec Ideal S1024x1408 .bf16) : Prop :=
  ∀ t : Fin cfg0.N, E2 (φ := .bf16) (x t) (fun p q => pt a (1024 * (t.val % 8) + p.val) (1408 * (t.val / 8) + q.val))

variable {a : S8192x2816.Idx → EReal} {x : Fin cfg0.N → Vec Ideal S1024x1408 .bf16} (hx : Cut a x)
include hx

theorem prod_val (t : Fin cfg0.N) : E2 (φ := .f32) (prod (x t) (iblk m c 2 t)) (fun p q => ∑ k : Fin 1024, term m c a (1408 * (t.val / 8) + p.val) q.val (1024 * (t.val % 8) + k.val)) := by
  unfold prod
  exact tn (hx t) (blk2 m c t) E2.zero

theorem acc_val (n : ℕ) (h : n < cfg0.N) : E2 (φ := .f32) (acc m c x n h) (fun p q => ∑ r ∈ Finset.range (1024 * (n % 8 + 1)), term m c a (1408 * (n / 8) + p.val) q.val r) := by
  have first : ∀ (n : ℕ) (h : n < cfg0.N), n % 8 = 0 → E2 (φ := .f32) (accA (F := Ideal) (x ⟨n, h⟩) (iblk m c 2 ⟨n, h⟩)) (fun p q => ∑ r ∈ Finset.range (1024 * (n % 8 + 1)), term m c a (1408 * (n / 8) + p.val) q.val r) := fun n h h0 => by
    unfold accA accB
    refine (E2.add (E2.const _) (prod_val m c hx ⟨n, h⟩)).congr fun p q => ?_
    rw [sum_block, h0, Nat.mul_zero, Finset.range_zero, Finset.sum_empty, RealRow.zero_f32, EReal.coe_zero] <;> rfl
  induction n with
  | zero => exact first 0 h rfl
  | succ n ih =>
    by_cases h0 : (n + 1) % 8 = 0
    · rw [show acc m c x (n + 1) h = _ from acc_A m c x ⟨n + 1, h⟩ h0]
      exact first (n + 1) h h0
    · rw [show acc m c x (n + 1) h = _ from acc_B m c x ⟨n + 1, h⟩ h0]
      unfold accB
      refine (E2.add (ih (Nat.lt_of_succ_lt h)) (prod_val m c hx ⟨n + 1, h⟩)).congr fun p q => ?_
      have e1 : (n + 1) / 8 = n / 8 := by omega
      have e2 : (n + 1) % 8 = n % 8 + 1 := by omega
      rw [sum_block _ ((n + 1) % 8), e1, e2]

omit hx

theorem outs_end : outs m c cfg0.N = outC (grid0.coords ⟨15, Nat.lt_of_lt_of_eq (by decide) N_0.symm⟩) (acc m c (iblk m c 0) 15 (Nat.lt_of_lt_of_eq (by decide) N_0.symm)) (acc m c (iblk m c 1) 15 (Nat.lt_of_lt_of_eq (by decide) N_0.symm)) (outC (grid0.coords ⟨7, Nat.lt_of_lt_of_eq (by decide) N_0.symm⟩) (acc m c (iblk m c 0) 7 (Nat.lt_of_lt_of_eq (by decide) N_0.symm)) (acc m c (iblk m c 1) 7 (Nat.lt_of_lt_of_eq (by decide) N_0.symm)) (outs m c 7)) := by
  have b : ∀ n, n < 16 → n < cfg0.N := fun n h => Nat.lt_of_lt_of_eq h N_0.symm
  have s : ∀ n (h : n < 16), ¬n % 8 = 7 → outs m c (n + 1) = outs m c n := fun n h h7 => outs_N m c ⟨n, b n h⟩ h7
  have e : outs m c 15 = _ := (s 14 (by decide) (by decide)).trans ((s 13 (by decide) (by decide)).trans ((s 12 (by decide) (by decide)).trans ((s 11 (by decide) (by decide)).trans ((s 10 (by decide) (by decide)).trans ((s 9 (by decide) (by decide)).trans ((s 8 (by decide) (by decide)).trans (outs_L m c ⟨7, b 7 (by decide)⟩ (show 7 % 8 = 7 by decide))))))))
  exact (congrArg (outs m c) (show cfg0.N = 16 from N_0)).trans ((outs_L m c ⟨15, b 15 (by decide)⟩ (show 15 % 8 = 7 by decide)).trans (congrArg _ e))

theorem coords_end (n : ℕ) (h : n < cfg0.N) : (grid0.coords ⟨n, h⟩ 0).val = n / 8 := coord0 ⟨n, h⟩

/-- Whose channel a row of the result is: the first operand's rows lie over the second's. -/
def side (s f q r : ℕ) : EReal := if s = 0 then term m c (a0 m c) f q r else term m c (a1 m c) f q r

theorem pick {P : Prop} [Decidable P] {a b e : EReal} (h : P → a = e) (h' : ¬P → b = e) : (if P then a else b) = e := by
  split
  · exact h ‹_›
  · exact h' ‹_›

theorem res (k : S4x1408x1024.Idx) : (outs m c cfg0.N : S4x1408x1024.Idx → EReal) k = ∑ r ∈ Finset.range 8192, side m c ((k 1).val / 704) (704 * (k 0).val + (k 1).val % 704) (k 2).val r := by
  have hk0 : (k 0).val < 4 := (k 0).isLt
  have hk1 : (k 1).val < 1408 := (k 1).isLt
  rw [outs_end]
  unfold outC
  have hit : ∀ (n : ℕ) (h : n < cfg0.N) (r s : Fin 2), inW (grid0.coords ⟨n, h⟩) r s k ↔ (k 0).val = 2 * (n / 8) + r.val ∧ (k 1).val / 704 = s.val := fun n h r s => by
    unfold inW; rw [coords_end]
  simp only [hit]
  have got : ∀ (n : ℕ) (h : n < cfg0.N) (r s : Fin 2) (a x), Cut a x → (∀ f, side m c s.val f = term m c a f) → n % 8 = 7 → (k 0).val = 2 * (n / 8) + r.val ∧ (k 1).val / 704 = s.val →
      (row (acc m c x n h) r k : EReal) = ∑ r ∈ Finset.range 8192, side m c ((k 1).val / 704) (704 * (k 0).val + (k 1).val % 704) (k 2).val r := fun n h r s a x hx hs h7 e => by
    unfold row
    rw [truncf_apply, e.2, hs, show 704 * (k 0).val + (k 1).val % 704 = 1408 * (n / 8) + (704 * r.val + (k 1).val % 704) by rw [e.1]; omega]
    refine (acc_val m c hx n _ _ _).trans ?_
    rw [h7]
  have s0 : ∀ f, side m c (0 : Fin 2).val f = term m c (a0 m c) f := fun _ => rfl
  have s1 : ∀ f, side m c (1 : Fin 2).val f = term m c (a1 m c) f := fun _ => rfl
  refine pick (got 15 _ 1 1 _ _ (blk1 m c) s1 rfl) fun n1 => ?_
  refine pick (got 15 _ 0 1 _ _ (blk1 m c) s1 rfl) fun n2 => ?_
  refine pick (got 15 _ 1 0 _ _ (blk0 m c) s0 rfl) fun n3 => ?_
  refine pick (got 15 _ 0 0 _ _ (blk0 m c) s0 rfl) fun n4 => ?_
  refine pick (got 7 _ 1 1 _ _ (blk1 m c) s1 rfl) fun n5 => ?_
  refine pick (got 7 _ 0 1 _ _ (blk1 m c) s1 rfl) fun n6 => ?_
  refine pick (got 7 _ 1 0 _ _ (blk0 m c) s0 rfl) fun n7 => ?_
  refine pick (got 7 _ 0 0 _ _ (blk0 m c) s0 rfl) fun n8 => ?_
  exfalso
  simp only [Fin.val_zero, Fin.val_one] at *
  omega

theorem half0 (i : (⟨3, ![4, 704, 1024]⟩ : Shape).Idx) : ReferenceWguIdeal.Read.val_main_v11 (F := Ideal) (a0 m c) (a2 m c) i = ∑ r ∈ Finset.range 8192, term m c (a0 m c) (704 * (i 0).val + (i 1).val) (i 2).val r := by
  have hk0 : (i 0).val < 4 := (i 0).isLt
  have hk1 : (i 1).val < 704 := (i 1).isLt
  have hk2 : (i 2).val < 1024 := (i 2).isLt
  rw [ReferenceWguIdeal.Read.val_main_v11_apply, ReferenceWguIdeal.Read.val_main_v10_apply, ReferenceWguIdeal.Read.val_main_v9_apply, ReferenceWguIdeal.Read.val_main_v8_apply, Finset.sum_range]
  refine Finset.sum_congr (M := EReal) rfl fun r _ => ?_
  unfold term
  refine congrArg₂ (· * ·) (pt_eq (a0 m c) _ _ _ rfl ?_).symm (pt_eq (a2 m c) _ _ _ rfl ?_).symm
  · show (((i 0).val * 704 + (i 1).val) * 1024 + (i 2).val) / 1024 = 704 * (i 0).val + (i 1).val; omega
  · show (((i 0).val * 704 + (i 1).val) * 1024 + (i 2).val) % 1024 = (i 2).val; omega

theorem half1 (i : (⟨3, ![4, 704, 1024]⟩ : Shape).Idx) : ReferenceWguIdeal.Read.val_main_v13 (F := Ideal) (a1 m c) (a2 m c) i = ∑ r ∈ Finset.range 8192, term m c (a1 m c) (704 * (i 0).val + (i 1).val) (i 2).val r := by
  have hk0 : (i 0).val < 4 := (i 0).isLt
  have hk1 : (i 1).val < 704 := (i 1).isLt
  have hk2 : (i 2).val < 1024 := (i 2).isLt
  rw [ReferenceWguIdeal.Read.val_main_v13_apply, ReferenceWguIdeal.Read.val_main_v12_apply, ReferenceWguIdeal.Read.val_main_v7_apply, ReferenceWguIdeal.Read.val_main_v6_apply, Finset.sum_range]
  refine Finset.sum_congr (M := EReal) rfl fun r _ => ?_
  unfold term
  refine congrArg₂ (· * ·) (pt_eq (a1 m c) _ _ _ rfl ?_).symm (pt_eq (a2 m c) _ _ _ rfl ?_).symm
  · show (((i 0).val * 704 + (i 1).val) * 1024 + (i 2).val) / 1024 = 704 * (i 0).val + (i 1).val; omega
  · show (((i 0).val * 704 + (i 1).val) * 1024 + (i 2).val) % 1024 = (i 2).val; omega

theorem val : (outs m c cfg0.N : S4x1408x1024.Idx → EReal) = ReferenceWguIdeal.Read.val_main_v15 (F := Ideal) (a0 m c) (a1 m c) (a2 m c) := by
  refine funext fun k => ?_
  have hk1 : (k 1).val < 1408 := (k 1).isLt
  rw [res, ReferenceWguIdeal.Read.val_main_v15_apply]
  unfold ReferenceWguIdeal.Read.val_main_v14
  by_cases h : (k 1).val < 704
  · refine Eq.trans ?_ (concatenate_pair_apply_left (t := S4x1408x1024) (s₁ := ReferenceWguIdeal.S4x704x1024) (s₂ := ReferenceWguIdeal.S4x704x1024) (1 : Fin 3) _ _ _ k rfl (ix3 (⟨(k 0).val, (k 0).isLt⟩ : Fin 4) (⟨(k 1).val, h⟩ : Fin 704) (⟨(k 2).val, (k 2).isLt⟩ : Fin 1024)) (fun b => by match b with
      | ⟨0, _⟩ => rfl
      | ⟨1, _⟩ => rfl
      | ⟨2, _⟩ => rfl)).symm
    refine Eq.trans ?_ (half0 m c _).symm
    rw [show (k 1).val / 704 = 0 by omega, show (k 1).val % 704 = (k 1).val by omega]
    rfl
  · refine Eq.trans ?_ (concatenate_pair_apply_right (t := S4x1408x1024) (s₁ := ReferenceWguIdeal.S4x704x1024) (s₂ := ReferenceWguIdeal.S4x704x1024) (1 : Fin 3) _ _ _ k rfl rfl (ix3 (⟨(k 0).val, (k 0).isLt⟩ : Fin 4) (⟨(k 1).val - 704, by omega⟩ : Fin 704) (⟨(k 2).val, (k 2).isLt⟩ : Fin 1024)) (fun b hb => by match b with
      | ⟨0, _⟩ => rfl
      | ⟨1, _⟩ => exact absurd rfl hb
      | ⟨2, _⟩ => rfl) (show (k 1).val - 704 + 704 = (k 1).val by omega)).symm
    refine Eq.trans ?_ (half1 m c _).symm
    rw [show (k 1).val / 704 = 1 by omega, show (k 1).val % 704 = (k 1).val - 704 by omega]
    rfl

end Cert.KernelWguIdeal.Own

end
-- ==== Proof.WguWords.lean ====
/- The kernel at machine words: its program is the ideal reading's program, so one frame serves both. -/
module

public import proofs.«01_k».proof.Defs
public import proofs.«01_k».proof.Proof.Gen.KernelWgu
public import proofs.«01_k».proof.Proof.WguFrame

@[expose] public section

noncomputable section

namespace Cert.Proof.Wgu

open Idealize.ShloMosaic Idealize.SL.Sem
set_option maxHeartbeats 0

theorem bodies : KernelWgu.defs₀ (F := Bits) = KernelWguIdeal.defs₀ (F := Bits) := by
  unfold KernelWgu.defs₀ KernelWguIdeal.defs₀
  refine congrArg Defs.onTc ?_
  funext l a
  match l, a with
  | 0, (t, s) => rfl

theorem tables : (KernelWgu.defs (F := Bits)) = (KernelWguIdeal.defs (F := Bits)) :=
  congrArg (Pipeline.defs (KernelWguIdeal.pcfgs (F := Bits))) bodies

theorem mains : KernelWgu.main (F := Bits) = KernelWguIdeal.main (F := Bits) := rfl

theorem frame_kernel : Cert.quiescent_KernelWgu := by
  intro m ρ _
  rw [tables, mains]
  exact KernelWguIdeal.Own.frame (F := Bits) m ρ

end Cert.Proof.Wgu

end
-- ==== Proof.WgdRun.lean ====
/- The body at one grid point, in its three cases: the first point of a column, a middle one, and the last, which copies the sums out. -/
module

public import proofs.«01_k».proof.Proof.Own
public import proofs.«01_k».proof.Proof.Gen.KernelWgdIdeal.Frame
public import Idealize.ShloMosaic.Lib.VecWindow
public import Idealize.ShloMosaic.Lib.Pipeline.Value
public import Idealize.ShloMosaic.Lib.ValueLayout

@[expose] public section

set_option maxRecDepth 16384

noncomputable section

namespace Cert.KernelWgdIdeal.Own

open KernelWgdIdeal KernelWgdIdeal.Gen
open Idealize.ShloMosaic
open TcCoe Tactic Cert.Own
open Idealize.SL
open RA BI ProofMode Sem
open BIBase Laws
open Rounds ValueIdx
open Pipeline (Dat Cfg Window BodyObligation cellOf)

variable {F : FTy → Type} [FloatOps F]

local notation "𝕄" => MT nD τ sig Unit (Elt F) ℕ (Pipeline.UD sig nD τ) ℕ

def condZ (i : grid0.Coords) : Prop := (i 1).val = 0
def condL (i : grid0.Coords) : Prop := (i 1).val = 7

theorem condL_iff (i : grid0.Coords) : k0_cond2 i = 1#1 ↔ condL i := (by unfold condL; decide +kernel : ∀ i : grid0.Coords, k0_cond2 i = 1#1 ↔ condL i) i

theorem condZ_iff (i : grid0.Coords) : (Scalar.cmpi .ne (Scalar.extui (Scalar.cmpi .eq (BitVec.ofNat 32 (i 1).val) 0#32)) 0#32 : BitVec 1) = 1#1 ↔ condZ i :=
  (by unfold condZ; decide +kernel : ∀ i : grid0.Coords, (Scalar.cmpi .ne (Scalar.extui (Scalar.cmpi .eq (BitVec.ofNat 32 (i 1).val) 0#32)) 0#32 : BitVec 1) = 1#1 ↔ condZ i) i

/-- One block's product of the transposed first operand with the second, halved and cast. -/
def prod (x : Vec F S1024x1408 .bf16) (y : Vec F S1024x1024 .f32) : FVec F S1408x1024 .f32 :=
  matmul dot_S1024x1408_S1024x1024_S1408x1024_0_0_1_1_n_n none x (truncf .bf16 (mulf (broadcast S1024x1024 (Scalar.ofBits (F := F) .f32 0x3F000000#32)) y) bitsLt_bf16_f32) (constant S1408x1024 .f32 0x00000000#32)

def accB (x : Vec F S1024x1408 .bf16) (y : Vec F S1024x1024 .f32) (a : Vec F S1408x1024 .f32) : Vec F S1408x1024 .f32 := addf a (prod x y)
def accA (x : Vec F S1024x1408 .bf16) (y : Vec F S1024x1024 .f32) : Vec F S1408x1024 .f32 := accB x y (broadcast S1408x1024 (Scalar.ofBits .f32 0x00000000#32))

theorem off2 : (![0, 0] : Fin 2 → Nat) = fun _ => 0 := funext fun a => by fin_cases a <;> rfl

/-- The window of the result a copy writes: one device's rows, in the order the kernel reaches them. -/
abbrev outW (i : grid0.Coords) (h : k0_cond2 i = 1#1) (r : Fin 2) : Memref sig .tc .hbm S704x1024 .bf16 :=
  ((Memref.whole main_v0).slice (Rect.unit (s := S4x704x1024) (k0_off1 i (BitVec.ofNat 32 (704 * r.val))) S1x704x1024.size (k0_off1_inb i h r)) (fun _ => rfl)).squeeze S704x1024 squeezes_S1x704x1024_S704x1024

abbrev HbB (c : Dev nD) : Type := Buf (Elt F) ((Memref.whole main_v0 : Memref sig .tc .hbm S4x704x1024 .bf16).view.loc (c : Thread nD τ))
abbrev hbP (c : Dev nD) (f : HbB (F := F) c) : sProp 𝕄 := (Memref.whole main_v0 : Memref sig .tc .hbm S4x704x1024 .bf16).view.loc (c : Thread nD τ) ↦{fullShare} f

theorem offs (i : grid0.Coords) (r : Fin 2) : k0_off1 i (BitVec.ofNat 32 (704 * r.val)) = ![2 * (i 0).val + r.val, 0, 0] :=
  (by decide +kernel : ∀ (i : grid0.Coords) (r : Fin 2), k0_off1 i (BitVec.ofNat 32 (704 * r.val)) = ![2 * (i 0).val + r.val, 0, 0]) i r

theorem emb_outW (i : grid0.Coords) (h : k0_cond2 i = 1#1) (r : Fin 2) (p : Fin 704) (q : Fin 1024) (k : S4x704x1024.Idx)
    (h0 : (k 0).val = 2 * (i 0).val + r.val) (h1 : (k 1).val = p.val) (h2 : (k 2).val = q.val) : (outW i h r).view.emb (ix2 p q) = k := by
  have e : Shape.reshapeEquiv (s := S1x704x1024) (s' := S704x1024) squeezes_S1x704x1024_S704x1024.numel_eq (ix2 p q) = ix3 (0 : Fin 1) p q :=
    shapeCast_1ab_ab_apply (fun k => k) squeezes_S1x704x1024_S704x1024.numel_eq p q
  have o := offs i r
  refine funext fun a => Fin.ext ?_
  refine (congrArg (fun z => (((Rect.unit (s := S4x704x1024) (k0_off1 i (BitVec.ofNat 32 (704 * r.val))) S1x704x1024.size (k0_off1_inb i h r)).emb z) a).val) e).trans ?_
  show k0_off1 i (BitVec.ofNat 32 (704 * r.val)) a + 1 * ((ix3 (0 : Fin 1) p q : S1x704x1024.Idx) a).val = (k a).val
  rw [o]
  match a with
  | ⟨0, _⟩ => show (2 * (i 0).val + r.val) + 1 * 0 = (k 0).val; omega
  | ⟨1, _⟩ => show 0 + 1 * p.val = (k 1).val; omega
  | ⟨2, _⟩ => show 0 + 1 * q.val = (k 2).val; omega

theorem put_outW (i : grid0.Coords) (h : k0_cond2 i = 1#1) (r : Fin 2) (f : S4x704x1024.Idx → Elt F .bf16) (w : S704x1024.Idx → Elt F .bf16) (k : S4x704x1024.Idx) :
    ((outW i h r).view.write (Elt F) f w Finset.univ : S4x704x1024.Idx → Elt F .bf16) k = if (k 0).val = 2 * (i 0).val + r.val then w (ix2 (k 1) (k 2)) else f k := by
  by_cases hk : (k 0).val = 2 * (i 0).val + r.val
  · rw [if_pos hk]
    have e := emb_outW i h r (k 1) (k 2) k hk rfl rfl
    have := View.write_emb_of_mem (v := (outW i h r).view) (Val := Elt F) f w (Finset.mem_univ (ix2 (k 1) (k 2)))
    exact (congrArg (fun z : S4x704x1024.Idx => ((outW i h r).view.write (Elt F) f w Finset.univ : S4x704x1024.Idx → Elt F .bf16) z) e).symm.trans this
  · rw [if_neg hk]
    refine View.write_of_not_mem (v := (outW i h r).view) _ _ _ fun hm => hk ?_
    obtain ⟨z, -, hz⟩ := Finset.mem_map.mp hm
    obtain ⟨p, q, rfl⟩ : ∃ (p : Fin 704) (q : Fin 1024), z = ix2 p q := ⟨z 0, z 1, eq_ix2 z⟩
    have hb : 2 * (i 0).val + r.val < 4 := by have := (i 0).isLt; have : (i 0).val < 2 := this; omega
    rw [emb_outW i h r p q (ix3 ⟨2 * (i 0).val + r.val, hb⟩ p q) rfl rfl rfl] at hz
    exact (congrArg (fun z : S4x704x1024.Idx => (z 0).val) hz).symm

theorem apart (i : grid0.Coords) (h : k0_cond2 i = 1#1) (r r' : Fin 2) (hr : r ≠ r') : Disjoint (outW i h r).view.set (outW i h r').view.set := by
  rw [Finset.disjoint_left]
  intro k hk hk'
  obtain ⟨z, -, hz⟩ := Finset.mem_map.mp hk
  obtain ⟨z', -, hz'⟩ := Finset.mem_map.mp hk'
  obtain ⟨p, q, rfl⟩ : ∃ (p : Fin 704) (q : Fin 1024), z = ix2 p q := ⟨z 0, z 1, eq_ix2 z⟩
  obtain ⟨p', q', rfl⟩ : ∃ (p : Fin 704) (q : Fin 1024), z' = ix2 p q := ⟨z' 0, z' 1, eq_ix2 z'⟩
  have hi : (i 0).val < 2 := (i 0).isLt
  rw [emb_outW i h r p q (ix3 ⟨2 * (i 0).val + r.val, by omega⟩ p q) rfl rfl rfl] at hz
  rw [emb_outW i h r' p' q' (ix3 ⟨2 * (i 0).val + r'.val, by omega⟩ p' q') rfl rfl rfl] at hz'
  have := congrArg (fun z : S4x704x1024.Idx => (z 0).val) (hz.trans hz'.symm)
  exact hr (Fin.ext (Nat.add_left_cancel this))

/-- The sums as they leave: cast, and laid over the two devices' rows of the result. -/
def outC (i : grid0.Coords) (a : Vec F S1408x1024 .f32) (f : S4x704x1024.Idx → Elt F .bf16) : S4x704x1024.Idx → Elt F .bf16 := fun k =>
  if (k 0).val = 2 * (i 0).val then truncf .bf16 a bitsLt_bf16_f32 (ix2 ⟨(k 1).val, lt_trans (k 1).isLt (by decide)⟩ (k 2))
  else if (k 0).val = 2 * (i 0).val + 1 then truncf .bf16 a bitsLt_bf16_f32 (ix2 ⟨704 + (k 1).val, Nat.add_lt_add_left (k 1).isLt 704⟩ (k 2))
  else f k

theorem put2 (i : grid0.Coords) (h : k0_cond2 i = 1#1) (f : S4x704x1024.Idx → Elt F .bf16) (a : Vec F S1408x1024 .f32) (w0 w1 : S704x1024.Idx → Elt F .bf16)
    (h0 : ∀ (p : Fin 704) (q : Fin 1024) (hp : p.val < 1408), w0 (ix2 p q) = truncf .bf16 a bitsLt_bf16_f32 (ix2 ⟨p.val, hp⟩ q))
    (h1 : ∀ (p : Fin 704) (q : Fin 1024) (hp : 704 + p.val < 1408), w1 (ix2 p q) = truncf .bf16 a bitsLt_bf16_f32 (ix2 ⟨704 + p.val, hp⟩ q)) :
    ((outW i h 1).view.write (Elt F) ((outW i h 0).view.write (Elt F) f w0 Finset.univ) w1 Finset.univ : S4x704x1024.Idx → Elt F .bf16) = outC i a f := by
  refine funext fun k => ?_
  refine (put_outW i h 1 _ _ k).trans ?_
  unfold outC
  by_cases e1 : (k 0).val = 2 * (i 0).val + 1
  · rw [if_pos (show (k 0).val = 2 * (i 0).val + (1 : Fin 2).val from e1), if_neg (show ¬(k 0).val = 2 * (i 0).val by omega), if_pos e1]
    exact h1 _ _ _
  · rw [if_neg (show ¬(k 0).val = 2 * (i 0).val + (1 : Fin 2).val from e1)]
    refine (put_outW i h 0 _ _ k).trans ?_
    by_cases e0 : (k 0).val = 2 * (i 0).val
    · rw [if_pos (show (k 0).val = 2 * (i 0).val + (0 : Fin 2).val from e0), if_pos e0]
      exact h0 _ _ _
    · rw [if_neg (show ¬(k 0).val = 2 * (i 0).val + (0 : Fin 2).val from e0), if_neg e0, if_neg e1]

section
variable (c : Dev nD) (i : grid0.Coords) (arg2 : Memref sig .tc .vmem S1024x1408 .bf16) (harg2 : arg2.IsWhole) (arg3 : Memref sig .tc .vmem S1024x1024 .f32) (harg3 : arg3.IsWhole) (arg5 : Memref sig .tc .vmem S1408x1024 .f32) (harg5 : arg5.IsWhole) (arg6 : Memref sig .tc .vmem S1408x1024 .bf16) (harg6 : arg6.IsWhole)
  (x : Vec F S1024x1408 .bf16) (y : Vec F S1024x1024 .f32) (a : Vec F S1408x1024 .f32)

theorem run_A (hz : condZ i) (hl : ¬condL i) (W : Waits sig Unit) (K : PUnit → sProp 𝕄) :
    (iprop(ow c arg2 x ∗ ow c arg3 y ∗ (∃ d, ow c arg5 d) ∗ owes (c : Thread nD τ) 0 W
        ∗ (iprop(ow c arg2 x ∗ ow c arg3 y ∗ ow c arg5 (accA x y) ∗ (∃ W', owes (c : Thread nD τ) 0 W')) -∗ K ⟨⟩)) : sProp 𝕄)
      ⊢ wp frame (wpE (defs₀ (F := F)) Variants.none c none) Set.univ (cc0_wgrad i arg2 harg2 arg3 harg3 (Memref.whole main_v0) (Memref.isWhole_whole _) arg5 harg5 arg6 harg6 cc0_scratch2) K := by
  unfold cc0_wgrad
  have hc2 : ¬k0_cond2 i = 1#1 := fun h => hl ((condL_iff i).mp h)
  have hc1 := (condZ_iff i).mpr hz
  unfold ow owns
  iintro ⟨⟨%f0, %hf0, H0⟩, ⟨%f1, %hf1, H1⟩, ⟨%ds0, %fs0, -, HS0⟩, HW, Hk⟩
  obtain rfl := harg2.eq_unread hf0; obtain rfl := harg3.eq_unread hf1
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    refine (View.read_writes_full arg5.view _ _ _ _).trans ?_
    sl_unfold_words
    simp only [View.readCov_eq_canon', View.readAt_eq_ld, harg2.read_unread, harg3.read_unread, View.ld_unit_zero (S := S1024x1408) off2, View.ld_unit_zero (S := S1024x1024) off2, View.ld_unit_zero (S := S1408x1024) off2, View.canon_cons_unit_zero (S := S1408x1024) off2, shapeCast_self]
    rfl
  iexists _; iexact HW

theorem run_B (hz : ¬condZ i) (hl : ¬condL i) (W : Waits sig Unit) (K : PUnit → sProp 𝕄) :
    (iprop(ow c arg2 x ∗ ow c arg3 y ∗ ow c arg5 a ∗ owes (c : Thread nD τ) 0 W
        ∗ (iprop(ow c arg2 x ∗ ow c arg3 y ∗ ow c arg5 (accB x y a) ∗ (∃ W', owes (c : Thread nD τ) 0 W')) -∗ K ⟨⟩)) : sProp 𝕄)
      ⊢ wp frame (wpE (defs₀ (F := F)) Variants.none c none) Set.univ (cc0_wgrad i arg2 harg2 arg3 harg3 (Memref.whole main_v0) (Memref.isWhole_whole _) arg5 harg5 arg6 harg6 cc0_scratch2) K := by
  unfold cc0_wgrad
  have hc2 : ¬k0_cond2 i = 1#1 := fun h => hl ((condL_iff i).mp h)
  have hc1 := mt (condZ_iff i).mp hz
  unfold ow owns
  iintro ⟨⟨%f0, %hf0, H0⟩, ⟨%f1, %hf1, H1⟩, ⟨%fs0, %hfs, HS0⟩, HW, Hk⟩
  obtain rfl := harg2.eq_unread hf0; obtain rfl := harg3.eq_unread hf1; obtain rfl := harg5.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    refine (View.read_writes_full arg5.view _ _ _ _).trans ?_
    sl_unfold_words
    simp only [View.readCov_eq_canon', View.readAt_eq_ld, harg2.read_unread, harg3.read_unread, harg5.read_unread, View.ld_unit_zero (S := S1024x1408) off2, View.ld_unit_zero (S := S1024x1024) off2, View.ld_unit_zero (S := S1408x1024) off2, View.canon_cons_unit_zero (S := S1408x1024) off2, shapeCast_self]
    rfl
  iexists _; iexact HW

theorem run_C (hz : ¬condZ i) (hl : k0_cond2 i = 1#1) (fh : HbB (F := F) c) (W : Waits sig Unit) (K : PUnit → sProp 𝕄) :
    (iprop(ow c arg2 x ∗ ow c arg3 y ∗ ow c arg5 a ∗ (∃ d, ow c arg6 d) ∗ sv c 4 ∗ sv c 5 ∗ hbP c fh ∗ owes (c : Thread nD τ) 0 W
        ∗ (iprop(ow c arg2 x ∗ ow c arg3 y ∗ ow c arg5 (accB x y a) ∗ (∃ d, ow c arg6 d) ∗ sv c 4 ∗ sv c 5 ∗ hbP c (outC i (accB x y a) fh) ∗ (∃ W', owes (c : Thread nD τ) 0 W')) -∗ K ⟨⟩)) : sProp 𝕄)
      ⊢ wp frame (wpE (defs₀ (F := F)) Variants.none c none) Set.univ (cc0_wgrad i arg2 harg2 arg3 harg3 (Memref.whole main_v0) (Memref.isWhole_whole _) arg5 harg5 arg6 harg6 cc0_scratch2) K := by
  unfold cc0_wgrad k0_part1
  have hd : Disjoint (outW i hl 1).view.set (outW i hl 0).view.set := apart i hl 1 0 (by decide)
  have hc1 := mt (condZ_iff i).mp hz
  unfold ow owns
  iintro ⟨⟨%f0, %hf0, H0⟩, ⟨%f1, %hf1, H1⟩, ⟨%fs0, %hfs, HS0⟩, ⟨%d6, %f6, -, HS1⟩, Hq0, Hq1, Hh, HW, Hk⟩
  obtain rfl := harg2.eq_unread hf0; obtain rfl := harg3.eq_unread hf1; obtain rfl := harg5.eq_unread hfs
  sl_exec (disch := first | sl_exact hc1 | sl_exact hl)
  sl_step
  iapply Hk
  iframe Hq0 Hq1
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    refine (View.read_writes_full arg5.view _ _ _ _).trans ?_
    sl_unfold_words
    simp only [View.readCov_eq_canon', View.readAt_eq_ld, harg2.read_unread, harg3.read_unread, harg5.read_unread, View.ld_unit_zero (S := S1024x1408) off2, View.ld_unit_zero (S := S1024x1024) off2, View.ld_unit_zero (S := S1408x1024) off2, View.canon_cons_unit_zero (S := S1408x1024) off2, shapeCast_self]
    rfl
  isplitl [HS1]
  · iexists _; iexists _; isplitr
    swap; · iexact HS1
    ipureintro; rfl
  isplitl [Hh]
  · have e : (run_C.sl.Hh_w1 c i arg2 harg2 arg3 harg3 arg5 harg5 arg6 x y a hl fh f6 : HbB (F := F) c) = outC i (accB x y a) fh := by
      sl_unfold_words
      simp only [View.readCov_eq_canon', View.readAt_eq_ld, harg2.read_unread, harg3.read_unread, harg5.read_unread, View.ld_unit_zero (S := S1024x1408) off2, View.ld_unit_zero (S := S1024x1024) off2, View.ld_unit_zero (S := S1408x1024) off2, View.canon_cons_unit_zero (S := S1408x1024) off2, shapeCast_self]
      refine put2 i hl fh (accB x y a) _ _ (fun p q hp => ?_) (fun p q hp => ?_)
      · refine (congrFun (View.read_writes_full arg6.view f6 _ _ []) _).trans (congrArg (truncf .bf16 (accB x y a) bitsLt_bf16_f32) (funext fun b => Fin.ext ?_))
        match b with
        | ⟨0, _⟩ => show 0 + 1 * (0 + 1 * p.val) = p.val; omega
        | ⟨1, _⟩ => show 0 + 1 * (0 + 1 * q.val) = q.val; omega
      · refine (congrFun (View.read_writes_full arg6.view f6 _ _ []) _).trans (congrArg (truncf .bf16 (accB x y a) bitsLt_bf16_f32) (funext fun b => Fin.ext ?_))
        match b with
        | ⟨0, _⟩ => show 0 + 1 * (704 + 1 * p.val) = 704 + p.val; omega
        | ⟨1, _⟩ => show 0 + 1 * (0 + 1 * q.val) = q.val; omega
    rw [← e]; iexact Hh
  iexists _; iexact HW
end

end Cert.KernelWgdIdeal.Own

end
-- ==== Proof.WgdFrame.lean ====
/- The frame: the sums and the result after each grid point, the obligation of the body and the launch. -/
module

public import proofs.«01_k».proof.Proof.WgdRun
public import Idealize.ShloMosaic.Lib.Pipeline.FrameValue
public import Idealize.ShloMosaic.Lib.Claim

@[expose] public section

set_option maxRecDepth 16384

noncomputable section

namespace Cert.KernelWgdIdeal.Own

open KernelWgdIdeal KernelWgdIdeal.Gen
open Idealize.ShloMosaic
open TcCoe Tactic Cert.Own
open Idealize.SL
open RA BI ProofMode Sem
open BIBase Laws
open Rounds ValueIdx
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev scA0 : Memref sig .tc .vmem S1408x1024 .f32 := Memref.whole cc0_scratch0
abbrev scS0 : Memref sig .tc .vmem S1408x1024 .bf16 := Memref.whole cc0_scratch1
abbrev ms0 (t : Fin cfg0.N) : Memref sig .tc .vmem S1024x1408 .bf16 := win0_0.stage (cfg0.slots t 0)
abbrev ms1 (t : Fin cfg0.N) : Memref sig .tc .vmem S1024x1024 .f32 := win0_1.stage (cfg0.slots t 1)

theorem coord0 (t : Fin cfg0.N) : (grid0.coords t 0).val = t.val / 8 := by
  have ht : t.val < 16 := Nat.lt_of_lt_of_eq t.isLt N_0
  have e : (grid0.coords t 0).val = t.val / 8 % 2 := Pipeline.Grid.coords_val t 0 (by decide) rfl
  omega
theorem coord1 (t : Fin cfg0.N) : (grid0.coords t 1).val = t.val % 8 := by
  have e : (grid0.coords t 1).val = t.val / 1 % 8 := Pipeline.Grid.coords_val t 1 (by decide) rfl
  omega
theorem hZ (t : Fin cfg0.N) : condZ (grid0.coords t) ↔ t.val % 8 = 0 := by unfold condZ; rw [coord1]
theorem hL (t : Fin cfg0.N) : condL (grid0.coords t) ↔ t.val % 8 = 7 := by unfold condL; rw [coord1]

abbrev osem0 : Fin 2 → SemLoc sig := fun j => (![SemLoc.dma 4, SemLoc.dma 5] : Fin 2 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(sv c 4 ∗ sv c 5) := by
  rw [Pipeline.ownSems0_eq_of_list c osem0 [0, 1] (by decide) (by decide)]; rfl

/-- The result, written by the kernel's own copies. -/
def R0 : Finset (Ref sig .tc) := {main_v0}
theorem R0_sub : R0 ⊆ Pipeline.restRefs sig spec0 \ ∅ := by decide
theorem routed_eq (c : Dev nD) (G : (b : Ref sig .tc) → Buf (Elt F) ((c.tc : Thread nD τ).loc b)) :
    (Pipeline.routed R0 c G : sProp 𝕄) = hbP c (G main_v0) := by
  unfold Pipeline.routed; rw [BI.bigSep_eq_bigSepL_of_eq [main_v0] (by decide) (by decide)]; rfl

theorem PhiD_eq (c : Dev nD) (G : (c : Dev nD) → (b : Ref sig .tc) → Buf (Elt F) ((c.tc : Thread nD τ).loc b)) :
    (Pipeline.ΦDRG osem0 spec0 ∅ R0 (V m) G c : sProp 𝕄) = iprop(((∃ d, ow c scA0 d) ∗ (∃ d, ow c scS0 d)) ∗ (∃ r, prngReg c r) ∗ iprop(sv c 4 ∗ sv c 5) ∗ emp ∗ hbP c (G c main_v0)) := by
  rw [Pipeline.ΦDRG_eq, scopedRest0_eq, ownSems_eq, routed_eq, BI.bigSep_empty]; simp only [owns_whole]; try rfl

/-- The sums after point `n`. -/
def acc0 (c : Dev nD) : (n : ℕ) → n < cfg0.N → Vec F S1408x1024 .f32
  | 0, h => accA (iblk m c 0 ⟨0, h⟩) (iblk m c 1 ⟨0, h⟩)
  | n + 1, h => if (n + 1) % 8 = 0 then accA (iblk m c 0 ⟨n + 1, h⟩) (iblk m c 1 ⟨n + 1, h⟩) else accB (iblk m c 0 ⟨n + 1, h⟩) (iblk m c 1 ⟨n + 1, h⟩) (acc0 c n (Nat.lt_of_succ_lt h))

theorem acc0_A (c : Dev nD) (t : Fin cfg0.N) (h : t.val % 8 = 0) : acc0 m c t.val t.isLt = accA (iblk m c 0 t) (iblk m c 1 t) := by
  obtain ⟨n, hn⟩ := t
  cases n with
  | zero => rfl
  | succ n => exact if_pos h

theorem acc0_B (c : Dev nD) (t : Fin cfg0.N) (h : ¬t.val % 8 = 0) : acc0 m c t.val t.isLt = accB (iblk m c 0 t) (iblk m c 1 t) (acc0 m c (t.val - 1) (Nat.lt_of_le_of_lt (Nat.sub_le _ _) t.isLt)) := by
  obtain ⟨n, hn⟩ := t
  cases n with
  | zero => exact absurd (Nat.zero_mod _) h
  | succ n => exact if_neg h

/-- The result after `n` points. -/
def outs (c : Dev nD) : ℕ → HbB (F := F) c
  | 0 => V m c main_v0
  | n + 1 => if h : n < cfg0.N then (if n % 8 = 7 then outC (grid0.coords ⟨n, h⟩) (acc0 m c n h) (outs c n) else outs c n) else outs c n

theorem outs_L (c : Dev nD) (t : Fin cfg0.N) (h : t.val % 8 = 7) : outs m c (t.val + 1) = outC (grid0.coords t) (acc0 m c t.val t.isLt) (outs m c t.val) :=
  (dif_pos t.isLt).trans (if_pos h)
theorem outs_N (c : Dev nD) (t : Fin cfg0.N) (h : ¬t.val % 8 = 7) : outs m c (t.val + 1) = outs m c t.val :=
  (dif_pos t.isLt).trans (if_neg h)

def PhiS (c : Dev nD) : (n : ℕ) → n ≤ cfg0.N → sProp 𝕄
  | 0, _ => Pipeline.ΦDRG osem0 spec0 ∅ R0 (V m) (V m) c
  | n + 1, h => iprop(((ow c scA0 (acc0 m c n h)) ∗ (∃ d, ow c scS0 d)) ∗ (∃ r, prngReg c r) ∗ iprop(sv c 4 ∗ sv c 5) ∗ emp ∗ hbP c (outs m c (n + 1)))

theorem PhiS_succ (c : Dev nD) (n : ℕ) (h : n + 1 ≤ cfg0.N) :
    PhiS m c (n + 1) h = iprop(((ow c scA0 (acc0 m c n h)) ∗ (∃ d, ow c scS0 d)) ∗ (∃ r, prngReg c r) ∗ iprop(sv c 4 ∗ sv c 5) ∗ emp ∗ hbP c (outs m c (n + 1))) := rfl

theorem PhiS_pos (c : Dev nD) (n : ℕ) (h : n ≤ cfg0.N) (hz : n ≠ 0) :
    PhiS m c n h = iprop(((ow c scA0 (acc0 m c (n - 1) (by omega))) ∗ (∃ d, ow c scS0 d)) ∗ (∃ r, prngReg c r) ∗ iprop(sv c 4 ∗ sv c 5) ∗ emp ∗ hbP c (outs m c n)) := by
  cases n with
  | zero => exact absurd rfl hz
  | succ n => rfl

/-- Whatever the point, the sums are held at some contents. -/
theorem PhiS_any (c : Dev nD) (n : ℕ) (h : n ≤ cfg0.N) :
    PhiS m c n h ⊢ iprop((((∃ d, ow c scA0 d)) ∗ (∃ d, ow c scS0 d)) ∗ (∃ r, prngReg c r) ∗ iprop(sv c 4 ∗ sv c 5) ∗ emp ∗ hbP c (outs m c n)) := by
  by_cases hz : n = 0
  · subst hz
    rw [show PhiS m c 0 h = Pipeline.ΦDRG osem0 spec0 ∅ R0 (V m) (V m) c from rfl, PhiD_eq]
    iintro ⟨⟨HA0, HS0⟩, Hr⟩
    iframe HA0 HS0; iexact Hr
  · rw [PhiS_pos m c n h hz]
    iintro ⟨⟨HA0, HS0⟩, Hr⟩
    iframe HS0 Hr
    iexists _; iexact HA0

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_cast (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, ow c (ms0 t) ((dats m 0 c).before 0 t d))
    ∗ (∃ d, ow c (ms1 t) ((dats m 0 c).before 1 t d)))

def bodyPost (c : Dev nD) (t : Fin cfg0.N) : sProp 𝕄 :=
  iprop((dats m 0 c).Φ t.succ ∗ (dats m 0 c).owesAt () t.succ
    ∗ ow c (ms0 t) ((dats m 0 c).after 0 t)
    ∗ ow c (ms1 t) ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, after0, after1]
  rw [show (dats m 0 c).Φ t.succ = PhiS m c (t.val + 1) t.isLt from rfl, PhiS_succ, Phi_cast]
  unfold Dat.owesAt Pipeline.owesWithin
  rw [show (dats m 0 c).owed t.castSucc = 0 from rfl, show (dats m 0 c).owed t.succ = 0 from rfl]
  by_cases h0 : t.val % 8 = 0
  · have h7 : ¬t.val % 8 = 7 := by omega
    rw [acc0_A m c t h0, outs_N m c t h7]
    refine (sep_mono (PhiS_any m c _ _) .rfl).trans ?_
    iintro ⟨⟨⟨HA0, HS0⟩, Hg, ⟨Hq0, Hq1⟩, He, Hh⟩, ⟨%W, -, HW⟩, ⟨%d0, H0⟩, ⟨%d1, H1⟩⟩
    iapply (run_A c (grid0.coords t) _ _ _ _ _ _ _ _ (iblk m c 0 t) (iblk m c 1 t) ((hZ t).mpr h0) (mt (hL t).mp h7) W _)
    iframe H0 H1 HA0 HW
    iintro ⟨H0, H1, HA0, ⟨%W', HW'⟩⟩
    iframe HA0 HS0 Hg Hq0 Hq1 He Hh H0 H1
    iexists W'; isplitr; · ipureintro; exact fun _ _ => Or.inl trivial
    iexact HW'
  · have hz : t.val ≠ 0 := fun e => h0 (by rw [e])
    rw [PhiS_pos m c _ _ hz, acc0_B m c t h0]
    by_cases h7 : t.val % 8 = 7
    · rw [outs_L m c t h7, acc0_B m c t h0]
      iintro ⟨⟨⟨HA0, HS0⟩, Hg, ⟨Hq0, Hq1⟩, He, Hh⟩, ⟨%W, -, HW⟩, ⟨%d0, H0⟩, ⟨%d1, H1⟩⟩
      iapply (run_C c (grid0.coords t) _ _ _ _ _ _ _ _ (iblk m c 0 t) (iblk m c 1 t) (acc0 m c (t.val - 1) (Nat.lt_of_le_of_lt (Nat.sub_le _ _) t.isLt)) (mt (hZ t).mp h0) ((condL_iff _).mpr ((hL t).mpr h7)) (outs m c t.val) W _)
      iframe H0 H1 HA0 HS0 Hq0 Hq1 Hh HW
      iintro ⟨H0, H1, HA0, HS0, Hq0, Hq1, Hh, ⟨%W', HW'⟩⟩
      iframe HA0 HS0 Hg Hq0 Hq1 He Hh H0 H1
      iexists W'; isplitr; · ipureintro; exact fun _ _ => Or.inl trivial
      iexact HW'
    · rw [outs_N m c t h7]
      iintro ⟨⟨⟨HA0, HS0⟩, Hg, ⟨Hq0, Hq1⟩, He, Hh⟩, ⟨%W, -, HW⟩, ⟨%d0, H0⟩, ⟨%d1, H1⟩⟩
      iapply (run_B c (grid0.coords t) _ _ _ _ _ _ _ _ (iblk m c 0 t) (iblk m c 1 t) (acc0 m c (t.val - 1) (Nat.lt_of_le_of_lt (Nat.sub_le _ _) t.isLt)) (mt (hZ t).mp h0) (mt (hL t).mp h7) W _)
      iframe H0 H1 HA0 HW
      iintro ⟨H0, H1, HA0, ⟨%W', HW'⟩⟩
      iframe HA0 HS0 Hg Hq0 Hq1 He Hh H0 H1
      iexists W'; isplitr; · ipureintro; exact fun _ _ => Or.inl trivial
      iexact HW'

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch leaves in the result. -/
def G (c : Dev nD) (b : Ref sig .tc) : Buf (Elt F) ((c.tc : Thread nD τ).loc b) :=
  if h : b = main_v0 then h ▸ outs m c cfg0.N else V m c b

theorem G_res (c : Dev nD) : G m c main_v0 = outs m c cfg0.N := dif_pos rfl

theorem hin (c : Dev nD) : Pipeline.ΦDRG osem0 spec0 ∅ R0 (V m) (V m) c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦDRG osem0 spec0 ∅ R0 (V m) (G m) c := by
  rw [show (dats m 0 c).Φ (Fin.last cfg0.N) = PhiS m c cfg0.N le_rfl from rfl, PhiD_eq, G_res]
  refine (PhiS_any m c _ _).trans ?_
  iintro ⟨⟨HA0, HS0⟩, Hr⟩
  iframe HA0 HS0 Hr

theorem hmainD : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := hmainD m) (hA := A_eq m) (G := G m)
    (hin := hin m) (hout := hout m)

theorem run_all : θ_run defs (onTc (τ := τ) (main (F := F))) ⟨m, fun _ => 0, ρ⟩ (fun r => (∀ c : Dev nD,
      r.2.mem ((c.tc : Thread nD τ).loc main_v0) = outs m c cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1.written c (b := main_v0) (by decide)).trans (G_res m c),
      ((h.1.toR c).1 0).trans (((dats m 0 c).arrAt_in 0 rfl _).trans (A_eq m c 0)), ((h.1.toR c).1 1).trans (((dats m 0 c).arrAt_in 1 rfl _).trans (A_eq m c 1))⟩, h.2⟩) (run_main m ρ)

theorem run_blocks : θ_run defs (onTc (τ := τ) (main (F := F))) ⟨m, fun _ => 0, ρ⟩ (fun r => ∀ c : Dev nD,
      r.2.mem ((c.tc : Thread nD τ).loc main_v0) = outs m c cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h => h.1) (run_all m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h.1 c).2, h.2⟩) (run_all m ρ)

end Cert.KernelWgdIdeal.Own

end
-- ==== Proof.WgdValue.lean ====
/- The result read: each sum is over all rows, and the result is the reference's. -/
module

public import proofs.«01_k».proof.Proof.WgdFrame
public import proofs.«01_k».proof.Proof.WgSum
public import proofs.«01_k».proof.Proof.Gen.ReferenceWgdIdeal.Read

@[expose] public section

noncomputable section

namespace Cert.KernelWgdIdeal.Own

open KernelWgdIdeal KernelWgdIdeal.Gen Idealize.ShloMosaic Idealize.ShloMosaic.TcCoe Idealize.ShloMosaic.ValueIdx EMat WgSum
open scoped BigOperators

variable (m : (ℓ : Loc nD τ sig) → Buf (Elt Ideal) ℓ) (c : Dev nD)

abbrev a0 : S8192x2816.Idx → EReal := m ((c : Thread nD τ).loc main_arg0)
abbrev a1 : S8192x1024.Idx → EReal := m ((c : Thread nD τ).loc main_arg1)

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)

theorem blk0 (t : Fin cfg0.N) : E2 (φ := .bf16) (iblk m c 0 t : Vec Ideal S1024x1408 .bf16) (fun p q => pt (a0 m c) (1024 * (t.val % 8) + p.val) (1408 * (t.val / 8) + q.val)) := fun p q => by
  have ht : t.val < 16 := Nat.lt_of_lt_of_eq t.isLt N_0
  unfold iblk
  rw [View.read_apply]
  refine (pt_eq (a0 m c) _ _ _ ?_ ?_).symm
  · show win0_0.index t 0 * 1024 + 1 * p.val = _; rw [(index0 t).1]; omega
  · show win0_0.index t 1 * 1408 + 1 * q.val = _; rw [(index0 t).2]; omega

theorem index1 : ∀ t : Fin cfg0.N, win0_1.index t 0 = t.val % 8 ∧ win0_1.index t 1 = 0 :=
  (by decide +kernel : ∀ t : Fin grid0.N, win0_1.index t 0 = t.val % 8 ∧ win0_1.index t 1 = 0)

theorem blk1 (t : Fin cfg0.N) : E2 (φ := .f32) (iblk m c 1 t : Vec Ideal S1024x1024 .f32) (fun p q => pt (a1 m c) (1024 * (t.val % 8) + p.val) (q.val)) := fun p q => by
  have ht : t.val < 16 := Nat.lt_of_lt_of_eq t.isLt N_0
  unfold iblk
  rw [View.read_apply]
  refine (pt_eq (a1 m c) _ _ _ ?_ ?_).symm
  · show win0_1.index t 0 * 1024 + 1 * p.val = _; rw [(index1 t).1]; omega
  · show win0_1.index t 1 * 1024 + 1 * q.val = _; rw [(index1 t).2]; omega

/-- One row's share of the sum at a pair of channels. -/
def term0 (f q r : ℕ) : EReal := pt (a0 m c) r f * (half * pt (a1 m c) r q)

theorem prod0 (t : Fin cfg0.N) : E2 (φ := .f32) (prod (iblk m c 0 t) (iblk m c 1 t)) (fun p q => ∑ k : Fin 1024, term0 m c (1408 * (t.val / 8) + p.val) q.val (1024 * (t.val % 8) + k.val)) := by
  unfold prod
  exact tn (blk0 m c t) (((E2.const _).mul (blk1 m c t)).trunc _) E2.zero

theorem acc0_val (n : ℕ) (h : n < cfg0.N) : E2 (φ := .f32) (acc0 m c n h) (fun p q => ∑ r ∈ Finset.range (1024 * (n % 8 + 1)), term0 m c (1408 * (n / 8) + p.val) q.val r) := by
  have first : ∀ (n : ℕ) (h : n < cfg0.N), n % 8 = 0 → E2 (φ := .f32) (accA (F := Ideal) (iblk m c 0 ⟨n, h⟩) (iblk m c 1 ⟨n, h⟩)) (fun p q => ∑ r ∈ Finset.range (1024 * (n % 8 + 1)), term0 m c (1408 * (n / 8) + p.val) q.val r) := fun n h h0 => by
    unfold accA accB
    refine (E2.add (E2.const _) (prod0 m c ⟨n, h⟩)).congr fun p q => ?_
    rw [sum_block, h0, Nat.mul_zero, Finset.range_zero, Finset.sum_empty, RealRow.zero_f32, EReal.coe_zero] <;> rfl
  induction n with
  | zero => exact first 0 h rfl
  | succ n ih =>
    by_cases h0 : (n + 1) % 8 = 0
    · rw [show acc0 m c (n + 1) h = _ from acc0_A m c ⟨n + 1, h⟩ h0]
      exact first (n + 1) h h0
    · rw [show acc0 m c (n + 1) h = _ from acc0_B m c ⟨n + 1, h⟩ h0]
      unfold accB
      refine (E2.add (ih (Nat.lt_of_succ_lt h)) (prod0 m c ⟨n + 1, h⟩)).congr fun p q => ?_
      have e1 : (n + 1) / 8 = n / 8 := by omega
      have e2 : (n + 1) % 8 = n % 8 + 1 := by omega
      rw [sum_block _ ((n + 1) % 8), e1, e2]

theorem outs_end : outs m c cfg0.N = outC (grid0.coords ⟨15, Nat.lt_of_lt_of_eq (by decide) N_0.symm⟩) (acc0 m c 15 (Nat.lt_of_lt_of_eq (by decide) N_0.symm)) (outC (grid0.coords ⟨7, Nat.lt_of_lt_of_eq (by decide) N_0.symm⟩) (acc0 m c 7 (Nat.lt_of_lt_of_eq (by decide) N_0.symm)) (outs m c 7)) := by
  have b : ∀ n, n < 16 → n < cfg0.N := fun n h => Nat.lt_of_lt_of_eq h N_0.symm
  have s : ∀ n (h : n < 16), ¬n % 8 = 7 → outs m c (n + 1) = outs m c n := fun n h h7 => outs_N m c ⟨n, b n h⟩ h7
  have e : outs m c 15 = _ := (s 14 (by decide) (by decide)).trans ((s 13 (by decide) (by decide)).trans ((s 12 (by decide) (by decide)).trans ((s 11 (by decide) (by decide)).trans ((s 10 (by decide) (by decide)).trans ((s 9 (by decide) (by decide)).trans ((s 8 (by decide) (by decide)).trans (outs_L m c ⟨7, b 7 (by decide)⟩ (show 7 % 8 = 7 by decide))))))))
  exact (congrArg (outs m c) (show cfg0.N = 16 from N_0)).trans ((outs_L m c ⟨15, b 15 (by decide)⟩ (show 15 % 8 = 7 by decide)).trans (congrArg _ e))

theorem coords_end (n : ℕ) (h : n < cfg0.N) : (grid0.coords ⟨n, h⟩ 0).val = n / 8 := coord0 ⟨n, h⟩

/-- The result at a row and a channel. -/
theorem res (k : S4x704x1024.Idx) : (outs m c cfg0.N : S4x704x1024.Idx → EReal) k = ∑ r ∈ Finset.range 8192, term0 m c (704 * (k 0).val + (k 1).val) (k 2).val r := by
  have hk0 : (k 0).val < 4 := (k 0).isLt
  have hk1 : (k 1).val < 704 := (k 1).isLt
  rw [outs_end]
  unfold outC
  simp only [coords_end]
  by_cases e2 : (k 0).val = 2 * (15 / 8)
  · rw [if_pos e2, truncf_apply]
    refine (acc0_val m c 15 _ _ _).trans ?_
    exact congrArg (fun f => ∑ r ∈ Finset.range 8192, term0 m c f (k 2).val r) (show 1408 * (15 / 8) + (k 1).val = _ by omega)
  rw [if_neg e2]
  by_cases e3 : (k 0).val = 2 * (15 / 8) + 1
  · rw [if_pos e3, truncf_apply]
    refine (acc0_val m c 15 _ _ _).trans ?_
    exact congrArg (fun f => ∑ r ∈ Finset.range 8192, term0 m c f (k 2).val r) (show 1408 * (15 / 8) + (704 + (k 1).val) = _ by omega)
  rw [if_neg e3]
  by_cases e0 : (k 0).val = 2 * (7 / 8)
  · rw [if_pos e0, truncf_apply]
    refine (acc0_val m c 7 _ _ _).trans ?_
    exact congrArg (fun f => ∑ r ∈ Finset.range 8192, term0 m c f (k 2).val r) (show 1408 * (7 / 8) + (k 1).val = _ by omega)
  rw [if_neg e0]
  by_cases e1 : (k 0).val = 2 * (7 / 8) + 1
  · rw [if_pos e1, truncf_apply]
    refine (acc0_val m c 7 _ _ _).trans ?_
    exact congrArg (fun f => ∑ r ∈ Finset.range 8192, term0 m c f (k 2).val r) (show 1408 * (7 / 8) + (704 + (k 1).val) = _ by omega)
  omega

theorem val : (outs m c cfg0.N : S4x704x1024.Idx → EReal) = ReferenceWgdIdeal.Read.val_main_v10 (F := Ideal) (a0 m c) (a1 m c) := by
  refine funext fun k => ?_
  have hk0 : (k 0).val < 4 := (k 0).isLt
  have hk1 : (k 1).val < 704 := (k 1).isLt
  have hk2 : (k 2).val < 1024 := (k 2).isLt
  rw [res, ReferenceWgdIdeal.Read.val_main_v10_apply, ReferenceWgdIdeal.Read.val_main_v9_apply, ReferenceWgdIdeal.Read.val_main_v8_apply, ReferenceWgdIdeal.Read.val_main_v7_apply, Finset.sum_range]
  refine Finset.sum_congr (M := EReal) rfl fun r _ => ?_
  unfold term0
  rw [mul_comm]
  refine congrArg₂ (· * ·) (congrArg (half * ·) (pt_eq (a1 m c) _ _ _ rfl ?_)) (pt_eq (a0 m c) _ _ _ rfl ?_)
  · show (((k 0).val * 704 + (k 1).val) * 1024 + (k 2).val) % 1024 = (k 2).val; omega
  · show (((k 0).val * 704 + (k 1).val) * 1024 + (k 2).val) / 1024 = 704 * (k 0).val + (k 1).val; omega

end Cert.KernelWgdIdeal.Own

end
-- ==== Proof.WgdWords.lean ====
/- The kernel at machine words: its program is the ideal reading's program, so one frame serves both. -/
module

public import proofs.«01_k».proof.Defs
public import proofs.«01_k».proof.Proof.Gen.KernelWgd
public import proofs.«01_k».proof.Proof.WgdFrame

@[expose] public section

noncomputable section

namespace Cert.Proof.Wgd

open Idealize.ShloMosaic Idealize.SL.Sem
set_option maxHeartbeats 0

theorem bodies : KernelWgd.defs₀ (F := Bits) = KernelWgdIdeal.defs₀ (F := Bits) := by
  unfold KernelWgd.defs₀ KernelWgdIdeal.defs₀
  refine congrArg Defs.onTc ?_
  funext l a
  match l, a with
  | 0, (t, s) => rfl

theorem tables : (KernelWgd.defs (F := Bits)) = (KernelWgdIdeal.defs (F := Bits)) :=
  congrArg (Pipeline.defs (KernelWgdIdeal.pcfgs (F := Bits))) bodies

theorem mains : KernelWgd.main (F := Bits) = KernelWgdIdeal.main (F := Bits) := rfl

theorem frame_kernel : Cert.quiescent_KernelWgd := by
  intro m ρ _
  rw [tables, mains]
  exact KernelWgdIdeal.Own.frame (F := Bits) m ρ

end Cert.Proof.Wgd

end
-- ==== Proof.WgPut.lean ====
/- Rows copied into slabs: what a copy of some rows leaves, and what the four copies of a column of the wide matrix leave together. -/
module

public import Idealize.ShloMosaic.Lib.VecWindow
public import Idealize.ShloMosaic.Lib.Pipeline.Value
public import Idealize.ShloMosaic.Lib.ValueLayout

@[expose] public section

noncomputable section

namespace Cert.WgPut

open Idealize.ShloMosaic
open Idealize.ShloMosaic.ValueIdx

/-- Four slabs of 4288 rows, of which the first 1280 are the wide matrix's. -/
abbrev Slab : Shape := ⟨3, ![4, 4288, 1024]⟩
abbrev Rows1 : Shape := ⟨3, ![1, 256, 1024]⟩
abbrev Rows : Shape := ⟨2, ![256, 1024]⟩
abbrev Block : Shape := ⟨2, ![1024, 1024]⟩

variable {sig : RefSig} {Val : EltTy → Type} (b : Memref sig .tc .hbm Slab .bf16)

/-- The window of 256 rows at an offset. -/
abbrev win (off : Fin 3 → ℕ) (inb : ∀ a, off a + Rows1.size a ≤ Slab.size a) (sq : Rows1.Squeezes Rows) : Memref sig .tc .hbm Rows .bf16 :=
  (b.slice (Rect.unit (s := Slab) off Rows1.size inb) (fun _ => rfl)).squeeze Rows sq

variable (off : Fin 3 → ℕ) (inb : ∀ a, off a + Rows1.size a ≤ Slab.size a) (sq : Rows1.Squeezes Rows)

theorem emb_win (d o : ℕ) (ho : off = ![d, o, 0]) (p : Fin 256) (q : Fin 1024) (k : Slab.Idx) (h0 : (k 0).val = d) (h1 : (k 1).val = o + p.val) (h2 : (k 2).val = q.val) :
    (win b off inb sq).view.emb (ix2 p q) = b.view.emb k := by
  have e : Shape.reshapeEquiv (s := Rows1) (s' := Rows) sq.numel_eq (ix2 p q) = ix3 (0 : Fin 1) p q := shapeCast_1ab_ab_apply (fun k => k) sq.numel_eq p q
  refine congrArg b.view.emb (funext fun a => Fin.ext ?_)
  refine (congrArg (fun z => (((Rect.unit (s := Slab) off Rows1.size inb).emb z) a).val) e).trans ?_
  show off a + 1 * ((ix3 (0 : Fin 1) p q : Rows1.Idx) a).val = (k a).val
  rw [ho]
  match a with
  | ⟨0, _⟩ => show d + 1 * 0 = (k 0).val; omega
  | ⟨1, _⟩ => show o + 1 * p.val = (k 1).val; omega
  | ⟨2, _⟩ => show 0 + 1 * q.val = (k 2).val; omega

/-- The place in the slabs of a row of a window. -/
theorem at_win (d o : ℕ) (ho : off = ![d, o, 0]) (z : Rows.Idx) :
    ∃ k : Slab.Idx, (win b off inb sq).view.emb z = b.view.emb k ∧ (k 0).val = d ∧ (k 1).val = o + (z 0).val ∧ (k 2).val = (z 1).val := by
  have i0 := inb 0
  have i1 := inb 1
  rw [ho] at i0 i1
  have i0 : d + 1 ≤ 4 := i0
  have i1 : o + 256 ≤ 4288 := i1
  have hz : (z 0).val < 256 := (z 0).isLt
  refine ⟨ix3 ⟨d, by omega⟩ ⟨o + (z 0).val, by omega⟩ (z 1), ?_, rfl, rfl, rfl⟩
  exact (congrArg (win b off inb sq).view.emb (eq_ix2 z)).trans (emb_win b off inb sq d o ho _ _ _ rfl rfl rfl)

theorem put_win (d o : ℕ) (ho : off = ![d, o, 0]) (f : b.view.ty.Contents Val) (w : Rows.Idx → Val .bf16) (k : Slab.Idx) :
    (win b off inb sq).view.write Val f w Finset.univ (b.view.emb k)
      = if h : (k 0).val = d ∧ o ≤ (k 1).val ∧ (k 1).val < o + 256 then _root_.cast (congrArg Val b.view.elt_eq.symm) (w (ix2 ⟨(k 1).val - o, by omega⟩ (k 2))) else f (b.view.emb k) := by
  split
  · next h =>
    rw [← emb_win b off inb sq d o ho ⟨(k 1).val - o, by omega⟩ (k 2) k h.1 (by show _ = o + ((k 1).val - o); omega) rfl]
    exact View.write_emb_of_mem (v := (win b off inb sq).view) (Val := Val) f w (Finset.mem_univ _)
  · next h =>
    refine View.write_of_not_mem (v := (win b off inb sq).view) _ _ _ fun hm => h ?_
    obtain ⟨z, -, hz⟩ := Finset.mem_map.mp hm
    obtain ⟨k', e, h0, h1, -⟩ := at_win b off inb sq d o ho z
    have := b.view.emb.injective (hz.symm.trans e)
    subst this
    have hz : (z 0).val < 256 := (z 0).isLt
    omega

theorem apart_win (off' : Fin 3 → ℕ) (inb' : ∀ a, off' a + Rows1.size a ≤ Slab.size a) (d o d' o' : ℕ) (ho : off = ![d, o, 0]) (ho' : off' = ![d', o', 0])
    (h : d ≠ d' ∨ o + 256 ≤ o' ∨ o' + 256 ≤ o) : Disjoint (win b off inb sq).view.set (win b off' inb' sq).view.set := by
  rw [Finset.disjoint_left]
  intro x hx hx'
  obtain ⟨z, -, hz⟩ := Finset.mem_map.mp hx
  obtain ⟨z', -, hz'⟩ := Finset.mem_map.mp hx'
  obtain ⟨k, e, h0, h1, -⟩ := at_win b off inb sq d o ho z
  obtain ⟨k', e', h0', h1', -⟩ := at_win b off' inb' sq d' o' ho' z'
  have := b.view.emb.injective ((e.symm.trans (hz.trans hz'.symm)).trans e')
  subst this
  have l : (z 0).val < 256 := (z 0).isLt
  have l' : (z' 0).val < 256 := (z' 0).isLt
  omega

/-- A block of 1024 rows laid over the `j`th of the wide matrix's. -/
def lay {α : Type} (j : ℕ) (w : Block.Idx → α) (f : Slab.Idx → α) : Slab.Idx → α := fun k =>
  if (k 1).val < 1280 ∧ (1280 * (k 0).val + (k 1).val) / 1024 = j then w (ix2 ⟨(1280 * (k 0).val + (k 1).val) % 1024, Nat.mod_lt _ (by decide)⟩ (k 2)) else f k

/-- Where the `r`th quarter of the `j`th block goes. -/
def spot (j : ℕ) (r : Fin 4) : Fin 3 → ℕ := ![(1024 * j + 256 * r.val) / 1280, (1024 * j + 256 * r.val) % 1280, 0]

theorem spots_apart (j : ℕ) (O : Fin 4 → Fin 3 → ℕ) (I : ∀ r a, O r a + Rows1.size a ≤ Slab.size a) (hO : ∀ r, O r = spot j r) (r r' : Fin 4) (h : r ≠ r') :
    Disjoint (win b (O r) (I r) sq).view.set (win b (O r') (I r') sq).view.set := by
  have := Fin.val_ne_of_ne h
  exact apart_win b _ _ sq _ _ _ _ _ _ (hO r) (hO r') (by omega)

theorem put_spot (j : ℕ) (O : Fin 4 → Fin 3 → ℕ) (I : ∀ r a, O r a + Rows1.size a ≤ Slab.size a) (hO : ∀ r, O r = spot j r) (a : Block.Idx → Val .bf16) (r : Fin 4) (f : b.view.ty.Contents Val) (w : Rows.Idx → Val .bf16)
    (hw : ∀ (p : Fin 256) (q : Fin 1024) (hp : 256 * r.val + p.val < 1024), w (ix2 p q) = a (ix2 ⟨256 * r.val + p.val, hp⟩ q)) (k : Slab.Idx) :
    (win b (O r) (I r) sq).view.write Val f w Finset.univ (b.view.emb k)
      = if (k 1).val < 1280 ∧ (1280 * (k 0).val + (k 1).val) / 256 = 4 * j + r.val then _root_.cast (congrArg Val b.view.elt_eq.symm) (a (ix2 ⟨(1280 * (k 0).val + (k 1).val) % 1024, Nat.mod_lt _ (by decide)⟩ (k 2))) else f (b.view.emb k) := by
  have hr := r.isLt
  rw [put_win b _ _ sq _ _ (hO r) f w k]
  by_cases h : (k 1).val < 1280 ∧ (1280 * (k 0).val + (k 1).val) / 256 = 4 * j + r.val
  · rw [if_pos h, dif_pos (by omega)]
    refine (congrArg (_root_.cast (congrArg Val b.view.elt_eq.symm)) (hw ⟨(k 1).val - (1024 * j + 256 * r.val) % 1280, by omega⟩ (k 2) (by show 256 * r.val + ((k 1).val - _) < 1024; omega))).trans ?_
    exact congrArg (fun p => _root_.cast (congrArg Val b.view.elt_eq.symm) (a (ix2 p (k 2)))) (Fin.ext (by show 256 * r.val + ((k 1).val - _) = (1280 * (k 0).val + (k 1).val) % 1024; omega))
  · rw [if_neg h, dif_neg (by omega)]

/-- The four quarters of a block, one after the other. -/
theorem put_lay (j : ℕ) (O : Fin 4 → Fin 3 → ℕ) (I : ∀ r a, O r a + Rows1.size a ≤ Slab.size a) (hO : ∀ r, O r = spot j r) (a : Block.Idx → Val .bf16) (f : b.view.ty.Contents Val) (w : Fin 4 → Rows.Idx → Val .bf16)
    (hw : ∀ (r : Fin 4) (p : Fin 256) (q : Fin 1024) (hp : 256 * r.val + p.val < 1024), w r (ix2 p q) = a (ix2 ⟨256 * r.val + p.val, hp⟩ q)) (k : Slab.Idx) :
    (win b (O 3) (I 3) sq).view.write Val ((win b (O 2) (I 2) sq).view.write Val ((win b (O 1) (I 1) sq).view.write Val ((win b (O 0) (I 0) sq).view.write Val f (w 0) Finset.univ) (w 1) Finset.univ) (w 2) Finset.univ) (w 3) Finset.univ (b.view.emb k)
      = lay j (fun x => _root_.cast (congrArg Val b.view.elt_eq.symm) (a x)) (fun k => f (b.view.emb k)) k := by
  rw [put_spot b sq j O I hO a 3 _ _ (hw 3), put_spot b sq j O I hO a 2 _ _ (hw 2), put_spot b sq j O I hO a 1 _ _ (hw 1), put_spot b sq j O I hO a 0 _ _ (hw 0)]
  unfold lay
  have v : ((0 : Fin 4) : ℕ) = 0 ∧ ((1 : Fin 4) : ℕ) = 1 ∧ ((2 : Fin 4) : ℕ) = 2 ∧ ((3 : Fin 4) : ℕ) = 3 := ⟨rfl, rfl, rfl, rfl⟩
  rw [v.1, v.2.1, v.2.2.1, v.2.2.2]
  by_cases h : (k 1).val < 1280 ∧ (1280 * (k 0).val + (k 1).val) / 1024 = j
  · rw [if_pos h]
    repeat' split
    all_goals first | rfl | (exfalso; omega)
  · rw [if_neg h, if_neg (by omega), if_neg (by omega), if_neg (by omega), if_neg (by omega)]

end Cert.WgPut

end
-- ==== Proof.WiaRun.lean ====
/- The body at one grid point, in its three cases: the first point of a column, a middle one, and the last, which copies the sums out. -/
module

public import proofs.«01_k».proof.Proof.Own
public import proofs.«01_k».proof.Proof.Gen.KernelWiaIdeal.Frame
public import proofs.«01_k».proof.Proof.WgPut

@[expose] public section

set_option maxRecDepth 16384

noncomputable section

namespace Cert.KernelWiaIdeal.Own

open KernelWiaIdeal KernelWiaIdeal.Gen
open Idealize.ShloMosaic
open TcCoe Tactic Cert.Own
open Idealize.SL
open RA BI ProofMode Sem
open BIBase Laws
open Rounds ValueIdx
open Pipeline (Dat Cfg Window BodyObligation cellOf)

variable {F : FTy → Type} [FloatOps F]

local notation "𝕄" => MT nD τ sig Unit (Elt F) ℕ (Pipeline.UD sig nD τ) ℕ

abbrev B2 : Shape := S1024x1024
abbrev X (F : FTy → Type) [FloatOps F] : Type := Vec F B2 .bf16
abbrev A (F : FTy → Type) [FloatOps F] : Type := Vec F B2 .f32
abbrev R (F : FTy → Type) [FloatOps F] : Type := S4x4288x1024.Idx → Elt F .bf16

def condZ (i : grid0.Coords) : Prop := (i 1).val = 0
def condL (i : grid0.Coords) : Prop := (i 1).val = 7

theorem condL_iff (i : grid0.Coords) : k0_cond2 i = 1#1 ↔ condL i := (by unfold condL; decide +kernel : ∀ i : grid0.Coords, k0_cond2 i = 1#1 ↔ condL i) i

theorem condZ_iff (i : grid0.Coords) : (Scalar.cmpi .ne (Scalar.extui (Scalar.cmpi .eq (BitVec.ofNat 32 (i 1).val) 0#32)) 0#32 : BitVec 1) = 1#1 ↔ condZ i :=
  (by unfold condZ; decide +kernel : ∀ i : grid0.Coords, (Scalar.cmpi .ne (Scalar.extui (Scalar.cmpi .eq (BitVec.ofNat 32 (i 1).val) 0#32)) 0#32 : BitVec 1) = 1#1 ↔ condZ i) i

/-- The sums with one block's product of the transposed first operand with the second added. -/
def accB (x y : X F) (a : A F) : A F := addf a (matmul dot_S1024x1024_S1024x1024_S1024x1024_0_0_1_1_n_n none x y (constant B2 .f32 0x00000000#32))
def accA (x y : X F) : A F := accB x y (broadcast B2 (Scalar.ofBits .f32 0x00000000#32))

theorem off2 : (![0, 0] : Fin 2 → Nat) = fun _ => 0 := funext fun a => by fin_cases a <;> rfl

abbrev HbB (c : Dev nD) : Type := Buf (Elt F) ((Memref.whole main_v0 : Memref sig .tc .hbm S4x4288x1024 .bf16).view.loc (c : Thread nD τ))
abbrev hbP (c : Dev nD) (f : HbB (F := F) c) : sProp 𝕄 := (Memref.whole main_v0 : Memref sig .tc .hbm S4x4288x1024 .bf16).view.loc (c : Thread nD τ) ↦{fullShare} f

/-- Where the quarters of a block go in the result. -/
abbrev O (i : grid0.Coords) (r : Fin 4) : Fin 3 → ℕ := k0_off1 i (BitVec.ofNat 32 (256 * r.val))
abbrev outW (i : grid0.Coords) (h : k0_cond2 i = 1#1) (r : Fin 4) : Memref sig .tc .hbm S256x1024 .bf16 :=
  ((Memref.whole main_v0).slice (Rect.unit (s := S4x4288x1024) (O i r) S1x256x1024.size (k0_off1_inb i h r)) (fun _ => rfl)).squeeze S256x1024 squeezes_S1x256x1024_S256x1024

theorem offs (i : grid0.Coords) (r : Fin 4) : O i r = WgPut.spot (i 0).val r :=
  (by decide +kernel : ∀ (i : grid0.Coords) (r : Fin 4), O i r = WgPut.spot (i 0).val r) i r

theorem apart (i : grid0.Coords) (h : k0_cond2 i = 1#1) (r r' : Fin 4) (hr : r ≠ r') : Disjoint (outW i h r).view.set (outW i h r').view.set :=
  WgPut.spots_apart (Memref.whole main_v0) squeezes_S1x256x1024_S256x1024 (i 0).val (O i) (k0_off1_inb i h) (offs i) r r' hr

/-- The sums as they leave: cast, and laid over the block's rows of the result. -/
def outC (i : grid0.Coords) (a : A F) (f : R F) : R F := WgPut.lay (i 0).val (truncf .bf16 a bitsLt_bf16_f32) f

theorem put4 (i : grid0.Coords) (h : k0_cond2 i = 1#1) (f : R F) (a : A F) (w0 w1 w2 w3 : S256x1024.Idx → Elt F .bf16)
    (hw : ∀ (r : Fin 4) (p : Fin 256) (q : Fin 1024) (hp : 256 * r.val + p.val < 1024), (match r with | 0 => w0 | 1 => w1 | 2 => w2 | 3 => w3) (ix2 p q) = truncf .bf16 a bitsLt_bf16_f32 (ix2 ⟨256 * r.val + p.val, hp⟩ q)) :
    ((outW i h 3).view.write (Elt F) ((outW i h 2).view.write (Elt F) ((outW i h 1).view.write (Elt F) ((outW i h 0).view.write (Elt F) f w0 Finset.univ) w1 Finset.univ) w2 Finset.univ) w3 Finset.univ : R F) = outC i a f :=
  funext fun k => WgPut.put_lay (Val := Elt F) (Memref.whole main_v0) squeezes_S1x256x1024_S256x1024 (i 0).val (O i) (k0_off1_inb i h) (offs i) (truncf .bf16 a bitsLt_bf16_f32) f (fun r => match r with | 0 => w0 | 1 => w1 | 2 => w2 | 3 => w3) hw k

section
variable (c : Dev nD) (i : grid0.Coords) (arg2 : Memref sig .tc .vmem B2 .bf16) (harg2 : arg2.IsWhole) (arg3 : Memref sig .tc .vmem B2 .bf16) (harg3 : arg3.IsWhole) (arg6 : Memref sig .tc .vmem B2 .f32) (harg6 : arg6.IsWhole) (arg7 : Memref sig .tc .vmem B2 .bf16) (harg7 : arg7.IsWhole)
  (x y : X F) (a : A F)

theorem run_A (hz : condZ i) (hl : ¬condL i) (W : Waits sig Unit) (K : PUnit → sProp 𝕄) :
    (iprop(ow c arg2 x ∗ ow c arg3 y ∗ (∃ d, ow c arg6 d) ∗ owes (c : Thread nD τ) 0 W ∗ (iprop(ow c arg2 x ∗ ow c arg3 y ∗ ow c arg6 (accA x y) ∗ (∃ W', owes (c : Thread nD τ) 0 W')) -∗ K ⟨⟩)) : sProp 𝕄)
      ⊢ wp frame (wpE (defs₀ (F := F)) Variants.none c none) Set.univ (cc0_wgrad i arg2 harg2 arg3 harg3 (Memref.whole main_v0) (Memref.isWhole_whole _) (Memref.whole main_v0) (Memref.isWhole_whole _) arg6 harg6 arg7 harg7 cc0_scratch2) K := by
  unfold cc0_wgrad
  have hc2 : ¬k0_cond2 i = 1#1 := fun h => hl ((condL_iff i).mp h)
  have hc1 := (condZ_iff i).mpr hz
  unfold ow owns
  iintro ⟨⟨%f0, %hf0, H0⟩, ⟨%f1, %hf1, H1⟩, ⟨%ds0, %fs0, -, HS0⟩, HW, Hk⟩
  obtain rfl := harg2.eq_unread hf0; obtain rfl := harg3.eq_unread hf1
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    refine (View.read_writes_full arg6.view _ _ _ _).trans ?_
    sl_unfold_words
    simp only [View.readCov_eq_canon', View.readAt_eq_ld, harg2.read_unread, harg3.read_unread, harg6.read_unread, View.ld_unit_zero (S := B2) off2, View.canon_cons_unit_zero (S := B2) off2, shapeCast_self]
    rfl
  iexists _; iexact HW

theorem run_B (hz : ¬condZ i) (hl : ¬condL i) (W : Waits sig Unit) (K : PUnit → sProp 𝕄) :
    (iprop(ow c arg2 x ∗ ow c arg3 y ∗ ow c arg6 a ∗ owes (c : Thread nD τ) 0 W ∗ (iprop(ow c arg2 x ∗ ow c arg3 y ∗ ow c arg6 (accB x y a) ∗ (∃ W', owes (c : Thread nD τ) 0 W')) -∗ K ⟨⟩)) : sProp 𝕄)
      ⊢ wp frame (wpE (defs₀ (F := F)) Variants.none c none) Set.univ (cc0_wgrad i arg2 harg2 arg3 harg3 (Memref.whole main_v0) (Memref.isWhole_whole _) (Memref.whole main_v0) (Memref.isWhole_whole _) arg6 harg6 arg7 harg7 cc0_scratch2) K := by
  unfold cc0_wgrad
  have hc2 : ¬k0_cond2 i = 1#1 := fun h => hl ((condL_iff i).mp h)
  have hc1 := mt (condZ_iff i).mp hz
  unfold ow owns
  iintro ⟨⟨%f0, %hf0, H0⟩, ⟨%f1, %hf1, H1⟩, ⟨%fs0, %hfs, HS0⟩, HW, Hk⟩
  obtain rfl := harg2.eq_unread hf0; obtain rfl := harg3.eq_unread hf1; obtain rfl := harg6.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    refine (View.read_writes_full arg6.view _ _ _ _).trans ?_
    sl_unfold_words
    simp only [View.readCov_eq_canon', View.readAt_eq_ld, harg2.read_unread, harg3.read_unread, harg6.read_unread, View.ld_unit_zero (S := B2) off2, View.canon_cons_unit_zero (S := B2) off2, shapeCast_self]
    rfl
  iexists _; iexact HW

theorem run_C (hz : ¬condZ i) (hl : k0_cond2 i = 1#1) (fh : HbB (F := F) c) (W : Waits sig Unit) (K : PUnit → sProp 𝕄) :
    (iprop(ow c arg2 x ∗ ow c arg3 y ∗ ow c arg6 a ∗ (∃ d, ow c arg7 d) ∗ sv c 4 ∗ sv c 5 ∗ sv c 6 ∗ sv c 7 ∗ hbP c fh ∗ owes (c : Thread nD τ) 0 W
        ∗ (iprop(ow c arg2 x ∗ ow c arg3 y ∗ ow c arg6 (accB x y a) ∗ (∃ d, ow c arg7 d) ∗ sv c 4 ∗ sv c 5 ∗ sv c 6 ∗ sv c 7 ∗ hbP c (outC i (accB x y a) fh) ∗ (∃ W', owes (c : Thread nD τ) 0 W')) -∗ K ⟨⟩)) : sProp 𝕄)
      ⊢ wp frame (wpE (defs₀ (F := F)) Variants.none c none) Set.univ (cc0_wgrad i arg2 harg2 arg3 harg3 (Memref.whole main_v0) (Memref.isWhole_whole _) (Memref.whole main_v0) (Memref.isWhole_whole _) arg6 harg6 arg7 harg7 cc0_scratch2) K := by
  unfold cc0_wgrad k0_part1 k0_part2 k0_part3
  have hd10 := apart i hl 1 0 (by decide)
  have hd20 := apart i hl 2 0 (by decide)
  have hd21 := apart i hl 2 1 (by decide)
  have hd30 := apart i hl 3 0 (by decide)
  have hd31 := apart i hl 3 1 (by decide)
  have hd32 := apart i hl 3 2 (by decide)
  have hc1 := mt (condZ_iff i).mp hz
  unfold ow owns
  iintro ⟨⟨%f0, %hf0, H0⟩, ⟨%f1, %hf1, H1⟩, ⟨%fs0, %hfs, HS0⟩, ⟨%d7, %f7, -, HS1⟩, Hq0, Hq1, Hq2, Hq3, Hh, HW, Hk⟩
  obtain rfl := harg2.eq_unread hf0; obtain rfl := harg3.eq_unread hf1; obtain rfl := harg6.eq_unread hfs
  sl_exec (disch := first | sl_exact hc1 | sl_exact hl)
  sl_step
  iapply Hk
  iframe Hq0 Hq1 Hq2 Hq3
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    refine (View.read_writes_full arg6.view _ _ _ _).trans ?_
    sl_unfold_words
    simp only [View.readCov_eq_canon', View.readAt_eq_ld, harg2.read_unread, harg3.read_unread, harg6.read_unread, View.ld_unit_zero (S := B2) off2, View.canon_cons_unit_zero (S := B2) off2, shapeCast_self]
    rfl
  isplitl [HS1]
  · iexists _; iexists _; isplitr
    swap; · iexact HS1
    ipureintro; rfl
  isplitl [Hh]
  · have e : (run_C.sl.Hh_w3 c i arg2 harg2 arg3 harg3 arg6 harg6 arg7 x y a hl fh f7 : HbB (F := F) c) = outC i (accB x y a) fh := by
      sl_unfold_words
      simp only [View.readCov_eq_canon', View.readAt_eq_ld, harg2.read_unread, harg3.read_unread, harg6.read_unread, View.ld_unit_zero (S := B2) off2, View.canon_cons_unit_zero (S := B2) off2, shapeCast_self]
      refine put4 i hl fh (accB x y a) _ _ _ _ fun r p q hp => ?_
      match r with
      | 0 =>
        refine (congrFun (View.read_writes_full arg7.view f7 _ _ []) _).trans (congrArg (truncf .bf16 (accB x y a) bitsLt_bf16_f32) (funext fun b => Fin.ext ?_))
        match b with
        | ⟨0, _⟩ => show 0 + 1 * (0 + 1 * p.val) = 256 * 0 + p.val; omega
        | ⟨1, _⟩ => show 0 + 1 * (0 + 1 * q.val) = q.val; omega
      | 1 =>
        refine (congrFun (View.read_writes_full arg7.view f7 _ _ []) _).trans (congrArg (truncf .bf16 (accB x y a) bitsLt_bf16_f32) (funext fun b => Fin.ext ?_))
        match b with
        | ⟨0, _⟩ => show 0 + 1 * (256 + 1 * p.val) = 256 * 1 + p.val; omega
        | ⟨1, _⟩ => show 0 + 1 * (0 + 1 * q.val) = q.val; omega
      | 2 =>
        refine (congrFun (View.read_writes_full arg7.view f7 _ _ []) _).trans (congrArg (truncf .bf16 (accB x y a) bitsLt_bf16_f32) (funext fun b => Fin.ext ?_))
        match b with
        | ⟨0, _⟩ => show 0 + 1 * (512 + 1 * p.val) = 256 * 2 + p.val; omega
        | ⟨1, _⟩ => show 0 + 1 * (0 + 1 * q.val) = q.val; omega
      | 3 =>
        refine (congrFun (View.read_writes_full arg7.view f7 _ _ []) _).trans (congrArg (truncf .bf16 (accB x y a) bitsLt_bf16_f32) (funext fun b => Fin.ext ?_))
        match b with
        | ⟨0, _⟩ => show 0 + 1 * (768 + 1 * p.val) = 256 * 3 + p.val; omega
        | ⟨1, _⟩ => show 0 + 1 * (0 + 1 * q.val) = q.val; omega
    rw [← e]; iexact Hh
  iexists _; iexact HW
end

end Cert.KernelWiaIdeal.Own

end
-- ==== Proof.WiaFrame.lean ====
/- The frame: the sums and the result after each grid point, the obligation of the body and the launch. -/
module

public import proofs.«01_k».proof.Proof.WiaRun
public import Idealize.ShloMosaic.Lib.Pipeline.FrameValue
public import Idealize.ShloMosaic.Lib.Claim

@[expose] public section

set_option maxRecDepth 16384

noncomputable section

namespace Cert.KernelWiaIdeal.Own

open KernelWiaIdeal KernelWiaIdeal.Gen
open Idealize.ShloMosaic
open TcCoe Tactic Cert.Own
open Idealize.SL
open RA BI ProofMode Sem
open BIBase Laws
open Rounds ValueIdx
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev scA : Memref sig .tc .vmem B2 .f32 := Memref.whole cc0_scratch0
abbrev scS : Memref sig .tc .vmem B2 .bf16 := Memref.whole cc0_scratch1
abbrev ms0 (t : Fin cfg0.N) : Memref sig .tc .vmem B2 .bf16 := win0_0.stage (cfg0.slots t 0)
abbrev ms1 (t : Fin cfg0.N) : Memref sig .tc .vmem B2 .bf16 := win0_1.stage (cfg0.slots t 1)

theorem coord0 (t : Fin cfg0.N) : (grid0.coords t 0).val = t.val / 8 := by
  have ht : t.val < 24 := Nat.lt_of_lt_of_eq t.isLt N_0
  have e : (grid0.coords t 0).val = t.val / 8 % 3 := Pipeline.Grid.coords_val t 0 (by decide) rfl
  omega
theorem coord1 (t : Fin cfg0.N) : (grid0.coords t 1).val = t.val % 8 := by
  have e : (grid0.coords t 1).val = t.val / 1 % 8 := Pipeline.Grid.coords_val t 1 (by decide) rfl
  omega
theorem hZ (t : Fin cfg0.N) : condZ (grid0.coords t) ↔ t.val % 8 = 0 := by unfold condZ; rw [coord1]
theorem hL (t : Fin cfg0.N) : condL (grid0.coords t) ↔ t.val % 8 = 7 := by unfold condL; rw [coord1]

abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide
abbrev svs (c : Dev nD) : sProp 𝕄 := iprop(sv c 4 ∗ sv c 5 ∗ sv c 6 ∗ sv c 7)

/-- The result, written by the kernel's own copies. -/
def R0 : Finset (Ref sig .tc) := {main_v0}
theorem R0_sub : R0 ⊆ Pipeline.restRefs sig spec0 \ ∅ := by decide

/-- What the points share: the sums, the staging block, the generator, the copies' semaphores and the result. -/
abbrev rest (c : Dev nD) (S : sProp 𝕄) (f : HbB (F := F) c) : sProp 𝕄 :=
  iprop((S ∗ (∃ d, ow c scS d)) ∗ (∃ r, prngReg c r) ∗ svs c ∗ emp ∗ hbP c f)

theorem PhiD_eq (c : Dev nD) (G : (c : Dev nD) → (b : Ref sig .tc) → Buf (Elt F) ((c.tc : Thread nD τ).loc b)) :
    (Pipeline.ΦDRG osem0 spec0 ∅ R0 (V m) G c : sProp 𝕄) = rest c iprop(∃ d, ow c scA d) (G c main_v0) := by
  have e : (Pipeline.ownSems0 (Ix := Unit) (Name := ℕ) (U := Pipeline.UD sig nD τ) (Lvl := ℕ) (Val := Elt F) (τ := τ) osem0 c : sProp 𝕄) = svs c := by
    rw [Pipeline.ownSems0_eq_of_list c osem0 [0, 1, 2, 3] (by decide) (by decide)]; rfl
  have e' : (Pipeline.routed R0 c (G c) : sProp 𝕄) = hbP c (G c main_v0) := by
    unfold Pipeline.routed; rw [BI.bigSep_eq_bigSepL_of_eq [main_v0] (by decide) (by decide)]; rfl
  rw [Pipeline.ΦDRG_eq, scopedRest0_eq, e, e', BI.bigSep_empty]; unfold rest ow; simp only [owns_whole]; rfl

/-- The sums after point `n`. -/
def acc (c : Dev nD) : (n : ℕ) → n < cfg0.N → A F
  | 0, h => accA (iblk m c 0 ⟨0, h⟩) (iblk m c 1 ⟨0, h⟩)
  | n + 1, h => if (n + 1) % 8 = 0 then accA (iblk m c 0 ⟨n + 1, h⟩) (iblk m c 1 ⟨n + 1, h⟩) else accB (iblk m c 0 ⟨n + 1, h⟩) (iblk m c 1 ⟨n + 1, h⟩) (acc c n (Nat.lt_of_succ_lt h))

theorem acc_A (c : Dev nD) (t : Fin cfg0.N) (h : t.val % 8 = 0) : acc m c t.val t.isLt = accA (iblk m c 0 t) (iblk m c 1 t) := by
  obtain ⟨n, hn⟩ := t
  cases n with
  | zero => rfl
  | succ n => exact if_pos h

theorem acc_B (c : Dev nD) (t : Fin cfg0.N) (h : ¬t.val % 8 = 0) : acc m c t.val t.isLt = accB (iblk m c 0 t) (iblk m c 1 t) (acc m c (t.val - 1) (Nat.lt_of_le_of_lt (Nat.sub_le _ _) t.isLt)) := by
  obtain ⟨n, hn⟩ := t
  cases n with
  | zero => exact absurd (Nat.zero_mod _) h
  | succ n => exact if_neg h

/-- The result after `n` points. -/
def outs (c : Dev nD) : ℕ → HbB (F := F) c
  | 0 => V m c main_v0
  | n + 1 => if h : n < cfg0.N then (if n % 8 = 7 then outC (grid0.coords ⟨n, h⟩) (acc m c n h) (outs c n) else outs c n) else outs c n

theorem outs_L (c : Dev nD) (t : Fin cfg0.N) (h : t.val % 8 = 7) : outs m c (t.val + 1) = outC (grid0.coords t) (acc m c t.val t.isLt) (outs m c t.val) :=
  (dif_pos t.isLt).trans (if_pos h)
theorem outs_N (c : Dev nD) (t : Fin cfg0.N) (h : ¬t.val % 8 = 7) : outs m c (t.val + 1) = outs m c t.val :=
  (dif_pos t.isLt).trans (if_neg h)

def PhiS (c : Dev nD) : (n : ℕ) → n ≤ cfg0.N → sProp 𝕄
  | 0, _ => Pipeline.ΦDRG osem0 spec0 ∅ R0 (V m) (V m) c
  | n + 1, h => rest c (ow c scA (acc m c n h)) (outs m c (n + 1))

theorem PhiS_succ (c : Dev nD) (n : ℕ) (h : n + 1 ≤ cfg0.N) : PhiS m c (n + 1) h = rest c (ow c scA (acc m c n h)) (outs m c (n + 1)) := rfl

theorem PhiS_pos (c : Dev nD) (n : ℕ) (h : n ≤ cfg0.N) (hz : n ≠ 0) : PhiS m c n h = rest c (ow c scA (acc m c (n - 1) (by omega))) (outs m c n) := by
  cases n with
  | zero => exact absurd rfl hz
  | succ n => rfl

/-- Whatever the point, the sums are held at some contents. -/
theorem PhiS_any (c : Dev nD) (n : ℕ) (h : n ≤ cfg0.N) : PhiS m c n h ⊢ rest c iprop(∃ d, ow c scA d) (outs m c n) := by
  by_cases hz : n = 0
  · subst hz
    rw [show PhiS m c 0 h = Pipeline.ΦDRG osem0 spec0 ∅ R0 (V m) (V m) c from rfl, PhiD_eq]
    exact .rfl
  · rw [PhiS_pos m c n h hz]
    unfold rest
    iintro ⟨⟨HA, HS⟩, Hr⟩
    iframe HS Hr
    iexists _; iexact HA

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_cast (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, ow c (ms0 t) ((dats m 0 c).before 0 t d)) ∗ (∃ d, ow c (ms1 t) ((dats m 0 c).before 1 t d)))

def bodyPost (c : Dev nD) (t : Fin cfg0.N) : sProp 𝕄 :=
  iprop((dats m 0 c).Φ t.succ ∗ (dats m 0 c).owesAt () t.succ
    ∗ ow c (ms0 t) ((dats m 0 c).after 0 t) ∗ ow c (ms1 t) ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, after0, after1]
  rw [show (dats m 0 c).Φ t.succ = PhiS m c (t.val + 1) t.isLt from rfl, PhiS_succ, Phi_cast]
  unfold Dat.owesAt Pipeline.owesWithin
  rw [show (dats m 0 c).owed t.castSucc = 0 from rfl, show (dats m 0 c).owed t.succ = 0 from rfl]
  by_cases h0 : t.val % 8 = 0
  · have h7 : ¬t.val % 8 = 7 := by omega
    rw [acc_A m c t h0, outs_N m c t h7]
    refine (sep_mono (PhiS_any m c _ _) .rfl).trans ?_
    unfold rest
    iintro ⟨⟨⟨HA, HS⟩, Hr⟩, ⟨%W, -, HW⟩, ⟨%d0, H0⟩, ⟨%d1, H1⟩⟩
    iapply (run_A c (grid0.coords t) _ _ _ _ _ _ _ _ (iblk m c 0 t) (iblk m c 1 t) ((hZ t).mpr h0) (mt (hL t).mp h7) W _)
    iframe H0 H1 HA HW
    iintro ⟨H0, H1, HA, ⟨%W', HW'⟩⟩
    iframe HA HS Hr H0 H1
    iexists W'; isplitr; · ipureintro; exact fun _ _ => Or.inl trivial
    iexact HW'
  · have hz : t.val ≠ 0 := fun e => h0 (by rw [e])
    rw [PhiS_pos m c _ _ hz, acc_B m c t h0]
    unfold rest
    by_cases h7 : t.val % 8 = 7
    · rw [outs_L m c t h7, acc_B m c t h0]
      iintro ⟨⟨⟨HA, HS⟩, Hg, ⟨Hq0, Hq1, Hq2, Hq3⟩, He, Hh⟩, ⟨%W, -, HW⟩, ⟨%d0, H0⟩, ⟨%d1, H1⟩⟩
      iapply (run_C c (grid0.coords t) _ _ _ _ _ _ _ _ (iblk m c 0 t) (iblk m c 1 t) (acc m c (t.val - 1) (Nat.lt_of_le_of_lt (Nat.sub_le _ _) t.isLt)) (mt (hZ t).mp h0) ((condL_iff _).mpr ((hL t).mpr h7)) (outs m c t.val) W _)
      iframe H0 H1 HA HS Hq0 Hq1 Hq2 Hq3 Hh HW
      iintro ⟨H0, H1, HA, HS, Hq0, Hq1, Hq2, Hq3, Hh, ⟨%W', HW'⟩⟩
      iframe HA HS Hg Hq0 Hq1 Hq2 Hq3 He Hh H0 H1
      iexists W'; isplitr; · ipureintro; exact fun _ _ => Or.inl trivial
      iexact HW'
    · rw [outs_N m c t h7]
      iintro ⟨⟨⟨HA, HS⟩, Hr⟩, ⟨%W, -, HW⟩, ⟨%d0, H0⟩, ⟨%d1, H1⟩⟩
      iapply (run_B c (grid0.coords t) _ _ _ _ _ _ _ _ (iblk m c 0 t) (iblk m c 1 t) (acc m c (t.val - 1) (Nat.lt_of_le_of_lt (Nat.sub_le _ _) t.isLt)) (mt (hZ t).mp h0) (mt (hL t).mp h7) W _)
      iframe H0 H1 HA HW
      iintro ⟨H0, H1, HA, ⟨%W', HW'⟩⟩
      iframe HA HS Hr H0 H1
      iexists W'; isplitr; · ipureintro; exact fun _ _ => Or.inl trivial
      iexact HW'

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch leaves in the result. -/
def G (c : Dev nD) (b : Ref sig .tc) : Buf (Elt F) ((c.tc : Thread nD τ).loc b) :=
  if h : b = main_v0 then h ▸ outs m c cfg0.N else V m c b

theorem G_res (c : Dev nD) : G m c main_v0 = outs m c cfg0.N := dif_pos rfl

theorem hin (c : Dev nD) : Pipeline.ΦDRG osem0 spec0 ∅ R0 (V m) (V m) c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦDRG osem0 spec0 ∅ R0 (V m) (G m) c := by
  rw [show (dats m 0 c).Φ (Fin.last cfg0.N) = PhiS m c cfg0.N le_rfl from rfl, PhiD_eq, G_res]
  exact PhiS_any m c _ _

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := hmainD m) (hA := A_eq m) (G := G m)
    (hin := hin m) (hout := hout m)

/-- The arguments as they were. -/
abbrev kept (r : (ℓ : Loc nD τ sig) → Buf (Elt F) ℓ) (c : Dev nD) : Prop :=
  r ((c.tc : Thread nD τ).loc main_arg0) = m ((c.tc : Thread nD τ).loc main_arg0)
    ∧ r ((c.tc : Thread nD τ).loc main_arg1) = m ((c.tc : Thread nD τ).loc main_arg1)
    ∧ r ((c.tc : Thread nD τ).loc main_arg2) = m ((c.tc : Thread nD τ).loc main_arg2)

theorem run_all : θ_run defs (onTc (τ := τ) (main (F := F))) ⟨m, fun _ => 0, ρ⟩ (fun r => (∀ c : Dev nD,
      r.2.mem ((c.tc : Thread nD τ).loc main_v0) = outs m c cfg0.N ∧ kept m r.2.mem c) ∧ r.2.sem = fun _ => 0) :=
  (θ_run defs _ _).mono (fun r h => ⟨fun c => ⟨(h.1.written c (b := main_v0) (by decide)).trans (G_res m c),
      ((h.1.toR c).1 0).trans (((dats m 0 c).arrAt_in 0 rfl _).trans ((A_eq m c 0).trans (V_main_arg0 m c))), ((h.1.toR c).1 1).trans (((dats m 0 c).arrAt_in 1 rfl _).trans ((A_eq m c 1).trans (V_main_arg1 m c))),
      ((h.1.toR c).2 main_arg2 (by decide)).trans (V_main_arg2 m c)⟩, h.2⟩) (run_main m ρ)

theorem run_blocks : θ_run defs (onTc (τ := τ) (main (F := F))) ⟨m, fun _ => 0, ρ⟩ (fun r => ∀ c : Dev nD,
      r.2.mem ((c.tc : Thread nD τ).loc main_v0) = outs m c cfg0.N ∧ kept m r.2.mem c) :=
  (θ_run defs _ _).mono (fun r h => h.1) (run_all m ρ)

theorem frame : θ_run defs (onTc (τ := τ) (main (F := F))) ⟨m, fun _ => 0, ρ⟩ (fun r => (∀ c : Dev nD, kept m r.2.mem c) ∧ r.2.sem = fun _ => 0) :=
  (θ_run defs _ _).mono (fun r h => ⟨fun c => (h.1 c).2, h.2⟩) (run_all m ρ)

end Cert.KernelWiaIdeal.Own

end
-- ==== Proof.WiaValue.lean ====
/- The result read: each sum is over all rows, and the result is the reference's. -/
module

public import proofs.«01_k».proof.Proof.WiaFrame
public import proofs.«01_k».proof.Proof.WgSum
public import proofs.«01_k».proof.Proof.Gen.ReferenceWiaIdeal.Read
public import Idealize.ShloMosaic.Lib.StableHlo.Run

@[expose] public section

noncomputable section

namespace Cert.KernelWiaIdeal.Own

open KernelWiaIdeal KernelWiaIdeal.Gen Idealize.ShloMosaic Idealize.ShloMosaic.TcCoe Idealize.ShloMosaic.ValueIdx EMat WgSum ReferenceWiaIdeal.Read
open scoped BigOperators

variable (m : (ℓ : Loc nD τ sig) → Buf (Elt Ideal) ℓ) (c : Dev nD)

abbrev a0 : S8192x3072.Idx → EReal := m ((c : Thread nD τ).loc main_arg0)
abbrev a1 : S8192x1024.Idx → EReal := m ((c : Thread nD τ).loc main_arg1)
abbrev a2 : S4x4288x1024.Idx → EReal := m ((c : Thread nD τ).loc main_arg2)

/-- The result starts as the buffer passed. -/
theorem V0 : (V m c main_v0 : S4x4288x1024.Idx → EReal) = a2 m c := by
  unfold V
  simp only [hostOps0, List.flatten_cons, List.flatten_nil, List.append_nil, List.cons_append, List.nil_append]
  after_results_simp <;> rfl

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)

theorem blk0 (t : Fin cfg0.N) : E2 (φ := .bf16) (iblk m c 0 t : X Ideal) (fun p q => pt (a0 m c) (1024 * (t.val % 8) + p.val) (1024 * (t.val / 8) + q.val)) := fun p q => by
  unfold iblk
  rw [View.read_apply]
  refine (congrFun (V_main_arg0 m c) _).trans (pt_eq (a0 m c) _ _ _ ?_ ?_).symm
  · show win0_0.index t 0 * 1024 + 1 * p.val = _; rw [(index0 t).1]; omega
  · show win0_0.index t 1 * 1024 + 1 * q.val = _; rw [(index0 t).2]; omega
theorem blk1 (t : Fin cfg0.N) : E2 (φ := .bf16) (iblk m c 1 t : X Ideal) (fun p q => pt (a1 m c) (1024 * (t.val % 8) + p.val) (q.val)) := fun p q => by
  unfold iblk
  rw [View.read_apply]
  refine (congrFun (V_main_arg1 m c) _).trans (pt_eq (a1 m c) _ _ _ ?_ ?_).symm
  · show win0_1.index t 0 * 1024 + 1 * p.val = _; rw [(index1 t).1]; omega
  · show win0_1.index t 1 * 1024 + 1 * q.val = _; rw [(index1 t).2]; omega

/-- One row's share of the sum at a pair of channels. -/
def term (f q r : ℕ) : EReal := pt (a0 m c) r f * pt (a1 m c) r q

theorem acc_val (n : ℕ) (h : n < cfg0.N) : E2 (φ := .f32) (acc m c n h) (fun p q => ∑ r ∈ Finset.range (1024 * (n % 8 + 1)), term m c (1024 * (n / 8) + p.val) q.val r) := by
  have pr : ∀ t : Fin cfg0.N, E2 (φ := .f32) (matmul dot_S1024x1024_S1024x1024_S1024x1024_0_0_1_1_n_n none (iblk m c 0 t) (iblk m c 1 t) (constant (F := Ideal) B2 .f32 0x00000000#32)) (fun p q => ∑ k : Fin 1024, term m c (1024 * (t.val / 8) + p.val) q.val (1024 * (t.val % 8) + k.val)) :=
    fun t => tn (blk0 m c t) (blk1 m c t) E2.zero
  have first : ∀ (n : ℕ) (h : n < cfg0.N), n % 8 = 0 → E2 (φ := .f32) (accA (F := Ideal) (iblk m c 0 ⟨n, h⟩) (iblk m c 1 ⟨n, h⟩)) (fun p q => ∑ r ∈ Finset.range (1024 * (n % 8 + 1)), term m c (1024 * (n / 8) + p.val) q.val r) := fun n h h0 => by
    unfold accA accB
    refine (E2.add (E2.const _) (pr ⟨n, h⟩)).congr fun p q => ?_
    rw [sum_block, h0, Nat.mul_zero, Finset.range_zero, Finset.sum_empty, RealRow.zero_f32, EReal.coe_zero] <;> rfl
  induction n with
  | zero => exact first 0 h rfl
  | succ n ih =>
    by_cases h0 : (n + 1) % 8 = 0
    · rw [show acc m c (n + 1) h = _ from acc_A m c ⟨n + 1, h⟩ h0]
      exact first (n + 1) h h0
    · rw [show acc m c (n + 1) h = _ from acc_B m c ⟨n + 1, h⟩ h0]
      unfold accB
      refine (E2.add (ih (Nat.lt_of_succ_lt h)) (pr ⟨n + 1, h⟩)).congr fun p q => ?_
      have e1 : (n + 1) / 8 = n / 8 := by omega
      have e2 : (n + 1) % 8 = n % 8 + 1 := by omega
      rw [sum_block _ ((n + 1) % 8), e1, e2]

/-- The result after `n` points: the columns done so far over the buffer passed. -/
theorem outs_at (n : ℕ) (h : n ≤ 24) (k : S4x4288x1024.Idx) : (outs m c n : S4x4288x1024.Idx → EReal) k
    = if (k 1).val < 1280 ∧ 0 ≤ (1280 * (k 0).val + (k 1).val) / 1024 ∧ (1280 * (k 0).val + (k 1).val) / 1024 < 0 + n / 8
      then ∑ r ∈ Finset.range 8192, term m c (1280 * (k 0).val + (k 1).val - 0) (k 2).val r else a2 m c k := by
  induction n with
  | zero => rw [if_neg (by omega)]; exact congrFun (V0 m c) k
  | succ n ih =>
    have hn : n < cfg0.N := Nat.lt_of_lt_of_eq h N_0.symm
    have ih := ih (by omega)
    by_cases h7 : n % 8 = 7
    · refine (congrFun (outs_L m c ⟨n, hn⟩ h7) k).trans ?_
      unfold outC WgPut.lay
      rw [show (grid0.coords ⟨n, hn⟩ 0).val = n / 8 from coord0 ⟨n, hn⟩]
      by_cases hk : (k 1).val < 1280 ∧ (1280 * (k 0).val + (k 1).val) / 1024 = 0 + n / 8
      · refine (if_pos (by omega)).trans (Eq.trans ?_ (if_pos (by omega)).symm)
        refine (truncf_apply _ bitsLt_bf16_f32 _).trans ((acc_val m c n hn _ _).trans ?_)
        rw [h7]
        exact congrArg (fun f => ∑ r ∈ Finset.range 8192, term m c f (k 2).val r) (show 1024 * (n / 8) + (1280 * (k 0).val + (k 1).val) % 1024 = _ by omega)
      · refine (if_neg (by omega)).trans (ih.trans ?_)
        exact if_congr (by omega) rfl rfl
    · refine (congrFun (outs_N m c ⟨n, hn⟩ h7) k).trans (ih.trans ?_)
      exact if_congr (by omega) rfl rfl

theorem val : (outs m c cfg0.N : S4x4288x1024.Idx → EReal) = val_main_v14 (F := Ideal) (a0 m c) (a1 m c) (a2 m c) := by
  refine funext fun k => ?_
  have hk0 : (k 0).val < 4 := (k 0).isLt
  have hk1 : (k 1).val < 4288 := (k 1).isLt
  have hk2 : (k 2).val < 1024 := (k 2).isLt
  rw [show cfg0.N = 24 from N_0, outs_at m c 24 le_rfl k]
  unfold val_main_v14
  by_cases h : (k 1).val < 1280
  · let i : ReferenceWiaIdeal.S4x1280x1024.Idx := ix3 (k 0) ⟨(k 1).val, h⟩ (k 2)
    refine Eq.trans ?_ (concatenate_pair_apply_left (s₁ := ReferenceWiaIdeal.S4x1280x1024) (s₂ := ReferenceWiaIdeal.S4x3008x1024) (t := ReferenceWiaIdeal.S4x4288x1024) 1 _ _ _ k rfl i fun b => by match b with
      | ⟨0, _⟩ => rfl
      | ⟨1, _⟩ => rfl
      | ⟨2, _⟩ => rfl).symm
    rw [val_main_v12_apply]
    have e0 : (idx_main_v12 i 0).val = 1280 * (k 0).val + (k 1).val := by show (((k 0).val * 1280 + (k 1).val) * 1024 + (k 2).val) / 1024 = _; omega
    have e1 : (idx_main_v12 i 1).val = (k 2).val := by show (((k 0).val * 1280 + (k 1).val) * 1024 + (k 2).val) % 1024 = _; omega
    generalize idx_main_v12 i = y at e0 e1
    unfold val_main_v11
    by_cases hy : (y 0).val < 3072
    · rw [if_pos (by omega)]
      refine Eq.trans ?_ (concatenate_pair_apply_left (s₁ := ReferenceWiaIdeal.S3072x1024) (s₂ := ReferenceWiaIdeal.S2048x1024) (t := ReferenceWiaIdeal.S5120x1024) 0 _ _ _ y rfl (ix2 ⟨(y 0).val, hy⟩ (y 1)) fun b => by match b with
        | ⟨0, _⟩ => rfl
        | ⟨1, _⟩ => rfl).symm
      change (_ : EReal) = val_main_v8 (F := Ideal) (a0 m c) (a1 m c) (ix2 ⟨(y 0).val, hy⟩ (y 1))
      rw [val_main_v8_apply, val_main_v5_apply, val_main_v4_apply, Finset.sum_range]
      refine Finset.sum_congr (M := EReal) rfl fun r _ => ?_
      unfold term
      exact congrArg₂ (· * ·) (pt_eq (a0 m c) _ _ _ rfl (by show (y 0).val = _; omega)) (pt_eq (a1 m c) _ _ _ rfl e1)
    · rw [if_neg (by omega)]
      refine Eq.trans ?_ (concatenate_pair_apply_right (s₁ := ReferenceWiaIdeal.S3072x1024) (s₂ := ReferenceWiaIdeal.S2048x1024) (t := ReferenceWiaIdeal.S5120x1024) 0 _ _ _ y rfl rfl (ix2 ⟨(y 0).val - 3072, by omega⟩ (y 1)) (fun b hb => by match b with
        | ⟨0, _⟩ => exact absurd rfl hb
        | ⟨1, _⟩ => rfl) (by show (y 0).val - 3072 + 3072 = (y 0).val; omega)).symm
      rw [val_main_v10_apply, val_main_v7_apply, val_main_v6_apply]
      refine congrArg (a2 m c) (funext fun a => Fin.ext ?_)
      match a with
      | ⟨0, _⟩ => show (k 0).val = ((3072 + ((y 0).val - 3072)) * 1024 + (y 1).val) / 1310720; omega
      | ⟨1, _⟩ => show (k 1).val = ((3072 + ((y 0).val - 3072)) * 1024 + (y 1).val) / 1024 % 1280; omega
      | ⟨2, _⟩ => show (k 2).val = ((3072 + ((y 0).val - 3072)) * 1024 + (y 1).val) % 1024; omega
  · rw [if_neg (by omega)]
    refine Eq.trans ?_ (concatenate_pair_apply_right (s₁ := ReferenceWiaIdeal.S4x1280x1024) (s₂ := ReferenceWiaIdeal.S4x3008x1024) (t := ReferenceWiaIdeal.S4x4288x1024) 1 _ _ _ k rfl rfl (ix3 (k 0) ⟨(k 1).val - 1280, by omega⟩ (k 2)) (fun b hb => by match b with
      | ⟨0, _⟩ => rfl
      | ⟨1, _⟩ => exact absurd rfl hb
      | ⟨2, _⟩ => rfl) (by show (k 1).val - 1280 + 1280 = (k 1).val; omega)).symm
    rw [val_main_v13_apply]
    refine congrArg (a2 m c) (funext fun a => Fin.ext ?_)
    match a with
    | ⟨0, _⟩ => rfl
    | ⟨1, _⟩ => show (k 1).val = 1280 + ((k 1).val - 1280); omega
    | ⟨2, _⟩ => rfl

end Cert.KernelWiaIdeal.Own

end
-- ==== Proof.WiaWords.lean ====
/- The kernel at machine words: its program is the ideal reading's program, so one frame serves both. -/
module

public import proofs.«01_k».proof.Defs
public import proofs.«01_k».proof.Proof.Gen.KernelWia
public import proofs.«01_k».proof.Proof.WiaFrame

@[expose] public section

noncomputable section

namespace Cert.Proof.Wia

open Idealize.ShloMosaic Idealize.SL.Sem
set_option maxHeartbeats 0

theorem bodies : KernelWia.defs₀ (F := Bits) = KernelWiaIdeal.defs₀ (F := Bits) := by
  unfold KernelWia.defs₀ KernelWiaIdeal.defs₀
  refine congrArg Defs.onTc ?_
  funext l a
  match l, a with
  | 0, (t, s) => rfl

theorem tables : (KernelWia.defs (F := Bits)) = (KernelWiaIdeal.defs (F := Bits)) :=
  congrArg (Pipeline.defs (KernelWiaIdeal.pcfgs (F := Bits))) bodies

theorem mains : KernelWia.main (F := Bits) = KernelWiaIdeal.main (F := Bits) := rfl

theorem frame_kernel : Cert.quiescent_KernelWia := by
  intro m ρ _
  rw [tables, mains]
  exact KernelWiaIdeal.Own.frame (F := Bits) m ρ

end Cert.Proof.Wia

end
-- ==== Proof.WibRun.lean ====
/- The body at one grid point, in its three cases: the first point of a column, a middle one, and the last, which copies the sums out. -/
module

public import proofs.«01_k».proof.Proof.Own
public import proofs.«01_k».proof.Proof.Gen.KernelWibIdeal.Frame
public import proofs.«01_k».proof.Proof.WgPut

@[expose] public section

set_option maxRecDepth 16384

noncomputable section

namespace Cert.KernelWibIdeal.Own

open KernelWibIdeal KernelWibIdeal.Gen
open Idealize.ShloMosaic
open TcCoe Tactic Cert.Own
open Idealize.SL
open RA BI ProofMode Sem
open BIBase Laws
open Rounds ValueIdx
open Pipeline (Dat Cfg Window BodyObligation cellOf)

variable {F : FTy → Type} [FloatOps F]

local notation "𝕄" => MT nD τ sig Unit (Elt F) ℕ (Pipeline.UD sig nD τ) ℕ

abbrev B2 : Shape := S1024x1024
abbrev X (F : FTy → Type) [FloatOps F] : Type := Vec F B2 .bf16
abbrev A (F : FTy → Type) [FloatOps F] : Type := Vec F B2 .f32
abbrev R (F : FTy → Type) [FloatOps F] : Type := S4x4288x1024.Idx → Elt F .bf16

def condZ (i : grid0.Coords) : Prop := (i 1).val = 0
def condL (i : grid0.Coords) : Prop := (i 1).val = 7

theorem condL_iff (i : grid0.Coords) : k0_cond2 i = 1#1 ↔ condL i := (by unfold condL; decide +kernel : ∀ i : grid0.Coords, k0_cond2 i = 1#1 ↔ condL i) i

theorem condZ_iff (i : grid0.Coords) : (Scalar.cmpi .ne (Scalar.extui (Scalar.cmpi .eq (BitVec.ofNat 32 (i 1).val) 0#32)) 0#32 : BitVec 1) = 1#1 ↔ condZ i :=
  (by unfold condZ; decide +kernel : ∀ i : grid0.Coords, (Scalar.cmpi .ne (Scalar.extui (Scalar.cmpi .eq (BitVec.ofNat 32 (i 1).val) 0#32)) 0#32 : BitVec 1) = 1#1 ↔ condZ i) i

/-- The sums with one block's product of the transposed first operand with the second added. -/
def accB (x y : X F) (a : A F) : A F := addf a (matmul dot_S1024x1024_S1024x1024_S1024x1024_0_0_1_1_n_n none x y (constant B2 .f32 0x00000000#32))
def accA (x y : X F) : A F := accB x y (broadcast B2 (Scalar.ofBits .f32 0x00000000#32))

theorem off2 : (![0, 0] : Fin 2 → Nat) = fun _ => 0 := funext fun a => by fin_cases a <;> rfl

abbrev HbB (c : Dev nD) : Type := Buf (Elt F) ((Memref.whole main_v0 : Memref sig .tc .hbm S4x4288x1024 .bf16).view.loc (c : Thread nD τ))
abbrev hbP (c : Dev nD) (f : HbB (F := F) c) : sProp 𝕄 := (Memref.whole main_v0 : Memref sig .tc .hbm S4x4288x1024 .bf16).view.loc (c : Thread nD τ) ↦{fullShare} f

/-- Where the quarters of a block go in the result. -/
abbrev O (i : grid0.Coords) (r : Fin 4) : Fin 3 → ℕ := k0_off1 i (BitVec.ofNat 32 (256 * r.val))
abbrev outW (i : grid0.Coords) (h : k0_cond2 i = 1#1) (r : Fin 4) : Memref sig .tc .hbm S256x1024 .bf16 :=
  ((Memref.whole main_v0).slice (Rect.unit (s := S4x4288x1024) (O i r) S1x256x1024.size (k0_off1_inb i h r)) (fun _ => rfl)).squeeze S256x1024 squeezes_S1x256x1024_S256x1024

theorem offs (i : grid0.Coords) (r : Fin 4) : O i r = WgPut.spot (3 + (i 0).val) r :=
  (by decide +kernel : ∀ (i : grid0.Coords) (r : Fin 4), O i r = WgPut.spot (3 + (i 0).val) r) i r

theorem apart (i : grid0.Coords) (h : k0_cond2 i = 1#1) (r r' : Fin 4) (hr : r ≠ r') : Disjoint (outW i h r).view.set (outW i h r').view.set :=
  WgPut.spots_apart (Memref.whole main_v0) squeezes_S1x256x1024_S256x1024 (3 + (i 0).val) (O i) (k0_off1_inb i h) (offs i) r r' hr

/-- The sums as they leave: cast, and laid over the block's rows of the result. -/
def outC (i : grid0.Coords) (a : A F) (f : R F) : R F := WgPut.lay (3 + (i 0).val) (truncf .bf16 a bitsLt_bf16_f32) f

theorem put4 (i : grid0.Coords) (h : k0_cond2 i = 1#1) (f : R F) (a : A F) (w0 w1 w2 w3 : S256x1024.Idx → Elt F .bf16)
    (hw : ∀ (r : Fin 4) (p : Fin 256) (q : Fin 1024) (hp : 256 * r.val + p.val < 1024), (match r with | 0 => w0 | 1 => w1 | 2 => w2 | 3 => w3) (ix2 p q) = truncf .bf16 a bitsLt_bf16_f32 (ix2 ⟨256 * r.val + p.val, hp⟩ q)) :
    ((outW i h 3).view.write (Elt F) ((outW i h 2).view.write (Elt F) ((outW i h 1).view.write (Elt F) ((outW i h 0).view.write (Elt F) f w0 Finset.univ) w1 Finset.univ) w2 Finset.univ) w3 Finset.univ : R F) = outC i a f :=
  funext fun k => WgPut.put_lay (Val := Elt F) (Memref.whole main_v0) squeezes_S1x256x1024_S256x1024 (3 + (i 0).val) (O i) (k0_off1_inb i h) (offs i) (truncf .bf16 a bitsLt_bf16_f32) f (fun r => match r with | 0 => w0 | 1 => w1 | 2 => w2 | 3 => w3) hw k

section
variable (c : Dev nD) (i : grid0.Coords) (arg2 : Memref sig .tc .vmem B2 .bf16) (harg2 : arg2.IsWhole) (arg3 : Memref sig .tc .vmem B2 .bf16) (harg3 : arg3.IsWhole) (arg6 : Memref sig .tc .vmem B2 .f32) (harg6 : arg6.IsWhole) (arg7 : Memref sig .tc .vmem B2 .bf16) (harg7 : arg7.IsWhole)
  (x y : X F) (a : A F)

theorem run_A (hz : condZ i) (hl : ¬condL i) (W : Waits sig Unit) (K : PUnit → sProp 𝕄) :
    (iprop(ow c arg2 x ∗ ow c arg3 y ∗ (∃ d, ow c arg6 d) ∗ owes (c : Thread nD τ) 0 W ∗ (iprop(ow c arg2 x ∗ ow c arg3 y ∗ ow c arg6 (accA x y) ∗ (∃ W', owes (c : Thread nD τ) 0 W')) -∗ K ⟨⟩)) : sProp 𝕄)
      ⊢ wp frame (wpE (defs₀ (F := F)) Variants.none c none) Set.univ (cc0_wgrad i arg2 harg2 arg3 harg3 (Memref.whole main_v0) (Memref.isWhole_whole _) (Memref.whole main_v0) (Memref.isWhole_whole _) arg6 harg6 arg7 harg7 cc0_scratch2) K := by
  unfold cc0_wgrad
  have hc2 : ¬k0_cond2 i = 1#1 := fun h => hl ((condL_iff i).mp h)
  have hc1 := (condZ_iff i).mpr hz
  unfold ow owns
  iintro ⟨⟨%f0, %hf0, H0⟩, ⟨%f1, %hf1, H1⟩, ⟨%ds0, %fs0, -, HS0⟩, HW, Hk⟩
  obtain rfl := harg2.eq_unread hf0; obtain rfl := harg3.eq_unread hf1
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    refine (View.read_writes_full arg6.view _ _ _ _).trans ?_
    sl_unfold_words
    simp only [View.readCov_eq_canon', View.readAt_eq_ld, harg2.read_unread, harg3.read_unread, harg6.read_unread, View.ld_unit_zero (S := B2) off2, View.canon_cons_unit_zero (S := B2) off2, shapeCast_self]
    rfl
  iexists _; iexact HW

theorem run_B (hz : ¬condZ i) (hl : ¬condL i) (W : Waits sig Unit) (K : PUnit → sProp 𝕄) :
    (iprop(ow c arg2 x ∗ ow c arg3 y ∗ ow c arg6 a ∗ owes (c : Thread nD τ) 0 W ∗ (iprop(ow c arg2 x ∗ ow c arg3 y ∗ ow c arg6 (accB x y a) ∗ (∃ W', owes (c : Thread nD τ) 0 W')) -∗ K ⟨⟩)) : sProp 𝕄)
      ⊢ wp frame (wpE (defs₀ (F := F)) Variants.none c none) Set.univ (cc0_wgrad i arg2 harg2 arg3 harg3 (Memref.whole main_v0) (Memref.isWhole_whole _) (Memref.whole main_v0) (Memref.isWhole_whole _) arg6 harg6 arg7 harg7 cc0_scratch2) K := by
  unfold cc0_wgrad
  have hc2 : ¬k0_cond2 i = 1#1 := fun h => hl ((condL_iff i).mp h)
  have hc1 := mt (condZ_iff i).mp hz
  unfold ow owns
  iintro ⟨⟨%f0, %hf0, H0⟩, ⟨%f1, %hf1, H1⟩, ⟨%fs0, %hfs, HS0⟩, HW, Hk⟩
  obtain rfl := harg2.eq_unread hf0; obtain rfl := harg3.eq_unread hf1; obtain rfl := harg6.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    refine (View.read_writes_full arg6.view _ _ _ _).trans ?_
    sl_unfold_words
    simp only [View.readCov_eq_canon', View.readAt_eq_ld, harg2.read_unread, harg3.read_unread, harg6.read_unread, View.ld_unit_zero (S := B2) off2, View.canon_cons_unit_zero (S := B2) off2, shapeCast_self]
    rfl
  iexists _; iexact HW

theorem run_C (hz : ¬condZ i) (hl : k0_cond2 i = 1#1) (fh : HbB (F := F) c) (W : Waits sig Unit) (K : PUnit → sProp 𝕄) :
    (iprop(ow c arg2 x ∗ ow c arg3 y ∗ ow c arg6 a ∗ (∃ d, ow c arg7 d) ∗ sv c 4 ∗ sv c 5 ∗ sv c 6 ∗ sv c 7 ∗ hbP c fh ∗ owes (c : Thread nD τ) 0 W
        ∗ (iprop(ow c arg2 x ∗ ow c arg3 y ∗ ow c arg6 (accB x y a) ∗ (∃ d, ow c arg7 d) ∗ sv c 4 ∗ sv c 5 ∗ sv c 6 ∗ sv c 7 ∗ hbP c (outC i (accB x y a) fh) ∗ (∃ W', owes (c : Thread nD τ) 0 W')) -∗ K ⟨⟩)) : sProp 𝕄)
      ⊢ wp frame (wpE (defs₀ (F := F)) Variants.none c none) Set.univ (cc0_wgrad i arg2 harg2 arg3 harg3 (Memref.whole main_v0) (Memref.isWhole_whole _) (Memref.whole main_v0) (Memref.isWhole_whole _) arg6 harg6 arg7 harg7 cc0_scratch2) K := by
  unfold cc0_wgrad k0_part1 k0_part2 k0_part3
  have hd10 := apart i hl 1 0 (by decide)
  have hd20 := apart i hl 2 0 (by decide)
  have hd21 := apart i hl 2 1 (by decide)
  have hd30 := apart i hl 3 0 (by decide)
  have hd31 := apart i hl 3 1 (by decide)
  have hd32 := apart i hl 3 2 (by decide)
  have hc1 := mt (condZ_iff i).mp hz
  unfold ow owns
  iintro ⟨⟨%f0, %hf0, H0⟩, ⟨%f1, %hf1, H1⟩, ⟨%fs0, %hfs, HS0⟩, ⟨%d7, %f7, -, HS1⟩, Hq0, Hq1, Hq2, Hq3, Hh, HW, Hk⟩
  obtain rfl := harg2.eq_unread hf0; obtain rfl := harg3.eq_unread hf1; obtain rfl := harg6.eq_unread hfs
  sl_exec (disch := first | sl_exact hc1 | sl_exact hl)
  sl_step
  iapply Hk
  iframe Hq0 Hq1 Hq2 Hq3
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    refine (View.read_writes_full arg6.view _ _ _ _).trans ?_
    sl_unfold_words
    simp only [View.readCov_eq_canon', View.readAt_eq_ld, harg2.read_unread, harg3.read_unread, harg6.read_unread, View.ld_unit_zero (S := B2) off2, View.canon_cons_unit_zero (S := B2) off2, shapeCast_self]
    rfl
  isplitl [HS1]
  · iexists _; iexists _; isplitr
    swap; · iexact HS1
    ipureintro; rfl
  isplitl [Hh]
  · have e : (run_C.sl.Hh_w3 c i arg2 harg2 arg3 harg3 arg6 harg6 arg7 x y a hl fh f7 : HbB (F := F) c) = outC i (accB x y a) fh := by
      sl_unfold_words
      simp only [View.readCov_eq_canon', View.readAt_eq_ld, harg2.read_unread, harg3.read_unread, harg6.read_unread, View.ld_unit_zero (S := B2) off2, View.canon_cons_unit_zero (S := B2) off2, shapeCast_self]
      refine put4 i hl fh (accB x y a) _ _ _ _ fun r p q hp => ?_
      match r with
      | 0 =>
        refine (congrFun (View.read_writes_full arg7.view f7 _ _ []) _).trans (congrArg (truncf .bf16 (accB x y a) bitsLt_bf16_f32) (funext fun b => Fin.ext ?_))
        match b with
        | ⟨0, _⟩ => show 0 + 1 * (0 + 1 * p.val) = 256 * 0 + p.val; omega
        | ⟨1, _⟩ => show 0 + 1 * (0 + 1 * q.val) = q.val; omega
      | 1 =>
        refine (congrFun (View.read_writes_full arg7.view f7 _ _ []) _).trans (congrArg (truncf .bf16 (accB x y a) bitsLt_bf16_f32) (funext fun b => Fin.ext ?_))
        match b with
        | ⟨0, _⟩ => show 0 + 1 * (256 + 1 * p.val) = 256 * 1 + p.val; omega
        | ⟨1, _⟩ => show 0 + 1 * (0 + 1 * q.val) = q.val; omega
      | 2 =>
        refine (congrFun (View.read_writes_full arg7.view f7 _ _ []) _).trans (congrArg (truncf .bf16 (accB x y a) bitsLt_bf16_f32) (funext fun b => Fin.ext ?_))
        match b with
        | ⟨0, _⟩ => show 0 + 1 * (512 + 1 * p.val) = 256 * 2 + p.val; omega
        | ⟨1, _⟩ => show 0 + 1 * (0 + 1 * q.val) = q.val; omega
      | 3 =>
        refine (congrFun (View.read_writes_full arg7.view f7 _ _ []) _).trans (congrArg (truncf .bf16 (accB x y a) bitsLt_bf16_f32) (funext fun b => Fin.ext ?_))
        match b with
        | ⟨0, _⟩ => show 0 + 1 * (768 + 1 * p.val) = 256 * 3 + p.val; omega
        | ⟨1, _⟩ => show 0 + 1 * (0 + 1 * q.val) = q.val; omega
    rw [← e]; iexact Hh
  iexists _; iexact HW
end

end Cert.KernelWibIdeal.Own

end
-- ==== Proof.WibFrame.lean ====
/- The frame: the sums and the result after each grid point, the obligation of the body and the launch. -/
module

public import proofs.«01_k».proof.Proof.WibRun
public import Idealize.ShloMosaic.Lib.Pipeline.FrameValue
public import Idealize.ShloMosaic.Lib.Claim

@[expose] public section

set_option maxRecDepth 16384

noncomputable section

namespace Cert.KernelWibIdeal.Own

open KernelWibIdeal KernelWibIdeal.Gen
open Idealize.ShloMosaic
open TcCoe Tactic Cert.Own
open Idealize.SL
open RA BI ProofMode Sem
open BIBase Laws
open Rounds ValueIdx
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev scA : Memref sig .tc .vmem B2 .f32 := Memref.whole cc0_scratch0
abbrev scS : Memref sig .tc .vmem B2 .bf16 := Memref.whole cc0_scratch1
abbrev ms0 (t : Fin cfg0.N) : Memref sig .tc .vmem B2 .bf16 := win0_0.stage (cfg0.slots t 0)
abbrev ms1 (t : Fin cfg0.N) : Memref sig .tc .vmem B2 .bf16 := win0_1.stage (cfg0.slots t 1)

theorem coord0 (t : Fin cfg0.N) : (grid0.coords t 0).val = t.val / 8 := by
  have ht : t.val < 16 := Nat.lt_of_lt_of_eq t.isLt N_0
  have e : (grid0.coords t 0).val = t.val / 8 % 2 := Pipeline.Grid.coords_val t 0 (by decide) rfl
  omega
theorem coord1 (t : Fin cfg0.N) : (grid0.coords t 1).val = t.val % 8 := by
  have e : (grid0.coords t 1).val = t.val / 1 % 8 := Pipeline.Grid.coords_val t 1 (by decide) rfl
  omega
theorem hZ (t : Fin cfg0.N) : condZ (grid0.coords t) ↔ t.val % 8 = 0 := by unfold condZ; rw [coord1]
theorem hL (t : Fin cfg0.N) : condL (grid0.coords t) ↔ t.val % 8 = 7 := by unfold condL; rw [coord1]

abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide
abbrev svs (c : Dev nD) : sProp 𝕄 := iprop(sv c 4 ∗ sv c 5 ∗ sv c 6 ∗ sv c 7)

/-- The result, written by the kernel's own copies. -/
def R0 : Finset (Ref sig .tc) := {main_v0}
theorem R0_sub : R0 ⊆ Pipeline.restRefs sig spec0 \ ∅ := by decide

/-- What the points share: the sums, the staging block, the generator, the copies' semaphores and the result. -/
abbrev rest (c : Dev nD) (S : sProp 𝕄) (f : HbB (F := F) c) : sProp 𝕄 :=
  iprop((S ∗ (∃ d, ow c scS d)) ∗ (∃ r, prngReg c r) ∗ svs c ∗ emp ∗ hbP c f)

theorem PhiD_eq (c : Dev nD) (G : (c : Dev nD) → (b : Ref sig .tc) → Buf (Elt F) ((c.tc : Thread nD τ).loc b)) :
    (Pipeline.ΦDRG osem0 spec0 ∅ R0 (V m) G c : sProp 𝕄) = rest c iprop(∃ d, ow c scA d) (G c main_v0) := by
  have e : (Pipeline.ownSems0 (Ix := Unit) (Name := ℕ) (U := Pipeline.UD sig nD τ) (Lvl := ℕ) (Val := Elt F) (τ := τ) osem0 c : sProp 𝕄) = svs c := by
    rw [Pipeline.ownSems0_eq_of_list c osem0 [0, 1, 2, 3] (by decide) (by decide)]; rfl
  have e' : (Pipeline.routed R0 c (G c) : sProp 𝕄) = hbP c (G c main_v0) := by
    unfold Pipeline.routed; rw [BI.bigSep_eq_bigSepL_of_eq [main_v0] (by decide) (by decide)]; rfl
  rw [Pipeline.ΦDRG_eq, scopedRest0_eq, e, e', BI.bigSep_empty]; unfold rest ow; simp only [owns_whole]; rfl

/-- The sums after point `n`. -/
def acc (c : Dev nD) : (n : ℕ) → n < cfg0.N → A F
  | 0, h => accA (iblk m c 0 ⟨0, h⟩) (iblk m c 1 ⟨0, h⟩)
  | n + 1, h => if (n + 1) % 8 = 0 then accA (iblk m c 0 ⟨n + 1, h⟩) (iblk m c 1 ⟨n + 1, h⟩) else accB (iblk m c 0 ⟨n + 1, h⟩) (iblk m c 1 ⟨n + 1, h⟩) (acc c n (Nat.lt_of_succ_lt h))

theorem acc_A (c : Dev nD) (t : Fin cfg0.N) (h : t.val % 8 = 0) : acc m c t.val t.isLt = accA (iblk m c 0 t) (iblk m c 1 t) := by
  obtain ⟨n, hn⟩ := t
  cases n with
  | zero => rfl
  | succ n => exact if_pos h

theorem acc_B (c : Dev nD) (t : Fin cfg0.N) (h : ¬t.val % 8 = 0) : acc m c t.val t.isLt = accB (iblk m c 0 t) (iblk m c 1 t) (acc m c (t.val - 1) (Nat.lt_of_le_of_lt (Nat.sub_le _ _) t.isLt)) := by
  obtain ⟨n, hn⟩ := t
  cases n with
  | zero => exact absurd (Nat.zero_mod _) h
  | succ n => exact if_neg h

/-- The result after `n` points. -/
def outs (c : Dev nD) : ℕ → HbB (F := F) c
  | 0 => V m c main_v0
  | n + 1 => if h : n < cfg0.N then (if n % 8 = 7 then outC (grid0.coords ⟨n, h⟩) (acc m c n h) (outs c n) else outs c n) else outs c n

theorem outs_L (c : Dev nD) (t : Fin cfg0.N) (h : t.val % 8 = 7) : outs m c (t.val + 1) = outC (grid0.coords t) (acc m c t.val t.isLt) (outs m c t.val) :=
  (dif_pos t.isLt).trans (if_pos h)
theorem outs_N (c : Dev nD) (t : Fin cfg0.N) (h : ¬t.val % 8 = 7) : outs m c (t.val + 1) = outs m c t.val :=
  (dif_pos t.isLt).trans (if_neg h)

def PhiS (c : Dev nD) : (n : ℕ) → n ≤ cfg0.N → sProp 𝕄
  | 0, _ => Pipeline.ΦDRG osem0 spec0 ∅ R0 (V m) (V m) c
  | n + 1, h => rest c (ow c scA (acc m c n h)) (outs m c (n + 1))

theorem PhiS_succ (c : Dev nD) (n : ℕ) (h : n + 1 ≤ cfg0.N) : PhiS m c (n + 1) h = rest c (ow c scA (acc m c n h)) (outs m c (n + 1)) := rfl

theorem PhiS_pos (c : Dev nD) (n : ℕ) (h : n ≤ cfg0.N) (hz : n ≠ 0) : PhiS m c n h = rest c (ow c scA (acc m c (n - 1) (by omega))) (outs m c n) := by
  cases n with
  | zero => exact absurd rfl hz
  | succ n => rfl

/-- Whatever the point, the sums are held at some contents. -/
theorem PhiS_any (c : Dev nD) (n : ℕ) (h : n ≤ cfg0.N) : PhiS m c n h ⊢ rest c iprop(∃ d, ow c scA d) (outs m c n) := by
  by_cases hz : n = 0
  · subst hz
    rw [show PhiS m c 0 h = Pipeline.ΦDRG osem0 spec0 ∅ R0 (V m) (V m) c from rfl, PhiD_eq]
    exact .rfl
  · rw [PhiS_pos m c n h hz]
    unfold rest
    iintro ⟨⟨HA, HS⟩, Hr⟩
    iframe HS Hr
    iexists _; iexact HA

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_cast (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, ow c (ms0 t) ((dats m 0 c).before 0 t d)) ∗ (∃ d, ow c (ms1 t) ((dats m 0 c).before 1 t d)))

def bodyPost (c : Dev nD) (t : Fin cfg0.N) : sProp 𝕄 :=
  iprop((dats m 0 c).Φ t.succ ∗ (dats m 0 c).owesAt () t.succ
    ∗ ow c (ms0 t) ((dats m 0 c).after 0 t) ∗ ow c (ms1 t) ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, after0, after1]
  rw [show (dats m 0 c).Φ t.succ = PhiS m c (t.val + 1) t.isLt from rfl, PhiS_succ, Phi_cast]
  unfold Dat.owesAt Pipeline.owesWithin
  rw [show (dats m 0 c).owed t.castSucc = 0 from rfl, show (dats m 0 c).owed t.succ = 0 from rfl]
  by_cases h0 : t.val % 8 = 0
  · have h7 : ¬t.val % 8 = 7 := by omega
    rw [acc_A m c t h0, outs_N m c t h7]
    refine (sep_mono (PhiS_any m c _ _) .rfl).trans ?_
    unfold rest
    iintro ⟨⟨⟨HA, HS⟩, Hr⟩, ⟨%W, -, HW⟩, ⟨%d0, H0⟩, ⟨%d1, H1⟩⟩
    iapply (run_A c (grid0.coords t) _ _ _ _ _ _ _ _ (iblk m c 0 t) (iblk m c 1 t) ((hZ t).mpr h0) (mt (hL t).mp h7) W _)
    iframe H0 H1 HA HW
    iintro ⟨H0, H1, HA, ⟨%W', HW'⟩⟩
    iframe HA HS Hr H0 H1
    iexists W'; isplitr; · ipureintro; exact fun _ _ => Or.inl trivial
    iexact HW'
  · have hz : t.val ≠ 0 := fun e => h0 (by rw [e])
    rw [PhiS_pos m c _ _ hz, acc_B m c t h0]
    unfold rest
    by_cases h7 : t.val % 8 = 7
    · rw [outs_L m c t h7, acc_B m c t h0]
      iintro ⟨⟨⟨HA, HS⟩, Hg, ⟨Hq0, Hq1, Hq2, Hq3⟩, He, Hh⟩, ⟨%W, -, HW⟩, ⟨%d0, H0⟩, ⟨%d1, H1⟩⟩
      iapply (run_C c (grid0.coords t) _ _ _ _ _ _ _ _ (iblk m c 0 t) (iblk m c 1 t) (acc m c (t.val - 1) (Nat.lt_of_le_of_lt (Nat.sub_le _ _) t.isLt)) (mt (hZ t).mp h0) ((condL_iff _).mpr ((hL t).mpr h7)) (outs m c t.val) W _)
      iframe H0 H1 HA HS Hq0 Hq1 Hq2 Hq3 Hh HW
      iintro ⟨H0, H1, HA, HS, Hq0, Hq1, Hq2, Hq3, Hh, ⟨%W', HW'⟩⟩
      iframe HA HS Hg Hq0 Hq1 Hq2 Hq3 He Hh H0 H1
      iexists W'; isplitr; · ipureintro; exact fun _ _ => Or.inl trivial
      iexact HW'
    · rw [outs_N m c t h7]
      iintro ⟨⟨⟨HA, HS⟩, Hr⟩, ⟨%W, -, HW⟩, ⟨%d0, H0⟩, ⟨%d1, H1⟩⟩
      iapply (run_B c (grid0.coords t) _ _ _ _ _ _ _ _ (iblk m c 0 t) (iblk m c 1 t) (acc m c (t.val - 1) (Nat.lt_of_le_of_lt (Nat.sub_le _ _) t.isLt)) (mt (hZ t).mp h0) (mt (hL t).mp h7) W _)
      iframe H0 H1 HA HW
      iintro ⟨H0, H1, HA, ⟨%W', HW'⟩⟩
      iframe HA HS Hr H0 H1
      iexists W'; isplitr; · ipureintro; exact fun _ _ => Or.inl trivial
      iexact HW'

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch leaves in the result. -/
def G (c : Dev nD) (b : Ref sig .tc) : Buf (Elt F) ((c.tc : Thread nD τ).loc b) :=
  if h : b = main_v0 then h ▸ outs m c cfg0.N else V m c b

theorem G_res (c : Dev nD) : G m c main_v0 = outs m c cfg0.N := dif_pos rfl

theorem hin (c : Dev nD) : Pipeline.ΦDRG osem0 spec0 ∅ R0 (V m) (V m) c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦDRG osem0 spec0 ∅ R0 (V m) (G m) c := by
  rw [show (dats m 0 c).Φ (Fin.last cfg0.N) = PhiS m c cfg0.N le_rfl from rfl, PhiD_eq, G_res]
  exact PhiS_any m c _ _

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := hmainD m) (hA := A_eq m) (G := G m)
    (hin := hin m) (hout := hout m)

/-- The arguments as they were. -/
abbrev kept (r : (ℓ : Loc nD τ sig) → Buf (Elt F) ℓ) (c : Dev nD) : Prop :=
  r ((c.tc : Thread nD τ).loc main_arg0) = m ((c.tc : Thread nD τ).loc main_arg0)
    ∧ r ((c.tc : Thread nD τ).loc main_arg1) = m ((c.tc : Thread nD τ).loc main_arg1)
    ∧ r ((c.tc : Thread nD τ).loc main_arg2) = m ((c.tc : Thread nD τ).loc main_arg2)

theorem run_all : θ_run defs (onTc (τ := τ) (main (F := F))) ⟨m, fun _ => 0, ρ⟩ (fun r => (∀ c : Dev nD,
      r.2.mem ((c.tc : Thread nD τ).loc main_v0) = outs m c cfg0.N ∧ kept m r.2.mem c) ∧ r.2.sem = fun _ => 0) :=
  (θ_run defs _ _).mono (fun r h => ⟨fun c => ⟨(h.1.written c (b := main_v0) (by decide)).trans (G_res m c),
      ((h.1.toR c).1 0).trans (((dats m 0 c).arrAt_in 0 rfl _).trans ((A_eq m c 0).trans (V_main_arg0 m c))), ((h.1.toR c).1 1).trans (((dats m 0 c).arrAt_in 1 rfl _).trans ((A_eq m c 1).trans (V_main_arg1 m c))),
      ((h.1.toR c).2 main_arg2 (by decide)).trans (V_main_arg2 m c)⟩, h.2⟩) (run_main m ρ)

theorem run_blocks : θ_run defs (onTc (τ := τ) (main (F := F))) ⟨m, fun _ => 0, ρ⟩ (fun r => ∀ c : Dev nD,
      r.2.mem ((c.tc : Thread nD τ).loc main_v0) = outs m c cfg0.N ∧ kept m r.2.mem c) :=
  (θ_run defs _ _).mono (fun r h => h.1) (run_all m ρ)

theorem frame : θ_run defs (onTc (τ := τ) (main (F := F))) ⟨m, fun _ => 0, ρ⟩ (fun r => (∀ c : Dev nD, kept m r.2.mem c) ∧ r.2.sem = fun _ => 0) :=
  (θ_run defs _ _).mono (fun r h => ⟨fun c => (h.1 c).2, h.2⟩) (run_all m ρ)

end Cert.KernelWibIdeal.Own

end
-- ==== Proof.WibValue.lean ====
/- The result read: each sum is over all rows, and the result is the reference's. -/
module

public import proofs.«01_k».proof.Proof.WibFrame
public import proofs.«01_k».proof.Proof.WgSum
public import proofs.«01_k».proof.Proof.Gen.ReferenceWibIdeal.Read
public import Idealize.ShloMosaic.Lib.StableHlo.Run

@[expose] public section

noncomputable section

namespace Cert.KernelWibIdeal.Own

open KernelWibIdeal KernelWibIdeal.Gen Idealize.ShloMosaic Idealize.ShloMosaic.TcCoe Idealize.ShloMosaic.ValueIdx EMat WgSum ReferenceWibIdeal.Read
open scoped BigOperators

variable (m : (ℓ : Loc nD τ sig) → Buf (Elt Ideal) ℓ) (c : Dev nD)

abbrev a0 : S8192x2048.Idx → EReal := m ((c : Thread nD τ).loc main_arg0)
abbrev a1 : S8192x1024.Idx → EReal := m ((c : Thread nD τ).loc main_arg1)
abbrev a2 : S4x4288x1024.Idx → EReal := m ((c : Thread nD τ).loc main_arg2)

/-- The result starts as the buffer passed. -/
theorem V0 : (V m c main_v0 : S4x4288x1024.Idx → EReal) = a2 m c := by
  unfold V
  simp only [hostOps0, List.flatten_cons, List.flatten_nil, List.append_nil, List.cons_append, List.nil_append]
  after_results_simp <;> rfl

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)

theorem blk0 (t : Fin cfg0.N) : E2 (φ := .bf16) (iblk m c 0 t : X Ideal) (fun p q => pt (a0 m c) (1024 * (t.val % 8) + p.val) (1024 * (t.val / 8) + q.val)) := fun p q => by
  unfold iblk
  rw [View.read_apply]
  refine (congrFun (V_main_arg0 m c) _).trans (pt_eq (a0 m c) _ _ _ ?_ ?_).symm
  · show win0_0.index t 0 * 1024 + 1 * p.val = _; rw [(index0 t).1]; omega
  · show win0_0.index t 1 * 1024 + 1 * q.val = _; rw [(index0 t).2]; omega
theorem blk1 (t : Fin cfg0.N) : E2 (φ := .bf16) (iblk m c 1 t : X Ideal) (fun p q => pt (a1 m c) (1024 * (t.val % 8) + p.val) (q.val)) := fun p q => by
  unfold iblk
  rw [View.read_apply]
  refine (congrFun (V_main_arg1 m c) _).trans (pt_eq (a1 m c) _ _ _ ?_ ?_).symm
  · show win0_1.index t 0 * 1024 + 1 * p.val = _; rw [(index1 t).1]; omega
  · show win0_1.index t 1 * 1024 + 1 * q.val = _; rw [(index1 t).2]; omega

/-- One row's share of the sum at a pair of channels. -/
def term (f q r : ℕ) : EReal := pt (a0 m c) r f * pt (a1 m c) r q

theorem acc_val (n : ℕ) (h : n < cfg0.N) : E2 (φ := .f32) (acc m c n h) (fun p q => ∑ r ∈ Finset.range (1024 * (n % 8 + 1)), term m c (1024 * (n / 8) + p.val) q.val r) := by
  have pr : ∀ t : Fin cfg0.N, E2 (φ := .f32) (matmul dot_S1024x1024_S1024x1024_S1024x1024_0_0_1_1_n_n none (iblk m c 0 t) (iblk m c 1 t) (constant (F := Ideal) B2 .f32 0x00000000#32)) (fun p q => ∑ k : Fin 1024, term m c (1024 * (t.val / 8) + p.val) q.val (1024 * (t.val % 8) + k.val)) :=
    fun t => tn (blk0 m c t) (blk1 m c t) E2.zero
  have first : ∀ (n : ℕ) (h : n < cfg0.N), n % 8 = 0 → E2 (φ := .f32) (accA (F := Ideal) (iblk m c 0 ⟨n, h⟩) (iblk m c 1 ⟨n, h⟩)) (fun p q => ∑ r ∈ Finset.range (1024 * (n % 8 + 1)), term m c (1024 * (n / 8) + p.val) q.val r) := fun n h h0 => by
    unfold accA accB
    refine (E2.add (E2.const _) (pr ⟨n, h⟩)).congr fun p q => ?_
    rw [sum_block, h0, Nat.mul_zero, Finset.range_zero, Finset.sum_empty, RealRow.zero_f32, EReal.coe_zero] <;> rfl
  induction n with
  | zero => exact first 0 h rfl
  | succ n ih =>
    by_cases h0 : (n + 1) % 8 = 0
    · rw [show acc m c (n + 1) h = _ from acc_A m c ⟨n + 1, h⟩ h0]
      exact first (n + 1) h h0
    · rw [show acc m c (n + 1) h = _ from acc_B m c ⟨n + 1, h⟩ h0]
      unfold accB
      refine (E2.add (ih (Nat.lt_of_succ_lt h)) (pr ⟨n + 1, h⟩)).congr fun p q => ?_
      have e1 : (n + 1) / 8 = n / 8 := by omega
      have e2 : (n + 1) % 8 = n % 8 + 1 := by omega
      rw [sum_block _ ((n + 1) % 8), e1, e2]

/-- The result after `n` points: the columns done so far over the buffer passed. -/
theorem outs_at (n : ℕ) (h : n ≤ 16) (k : S4x4288x1024.Idx) : (outs m c n : S4x4288x1024.Idx → EReal) k
    = if (k 1).val < 1280 ∧ 3 ≤ (1280 * (k 0).val + (k 1).val) / 1024 ∧ (1280 * (k 0).val + (k 1).val) / 1024 < 3 + n / 8
      then ∑ r ∈ Finset.range 8192, term m c (1280 * (k 0).val + (k 1).val - 3072) (k 2).val r else a2 m c k := by
  induction n with
  | zero => rw [if_neg (by omega)]; exact congrFun (V0 m c) k
  | succ n ih =>
    have hn : n < cfg0.N := Nat.lt_of_lt_of_eq h N_0.symm
    have ih := ih (by omega)
    by_cases h7 : n % 8 = 7
    · refine (congrFun (outs_L m c ⟨n, hn⟩ h7) k).trans ?_
      unfold outC WgPut.lay
      rw [show (grid0.coords ⟨n, hn⟩ 0).val = n / 8 from coord0 ⟨n, hn⟩]
      by_cases hk : (k 1).val < 1280 ∧ (1280 * (k 0).val + (k 1).val) / 1024 = 3 + n / 8
      · refine (if_pos (by omega)).trans (Eq.trans ?_ (if_pos (by omega)).symm)
        refine (truncf_apply _ bitsLt_bf16_f32 _).trans ((acc_val m c n hn _ _).trans ?_)
        rw [h7]
        exact congrArg (fun f => ∑ r ∈ Finset.range 8192, term m c f (k 2).val r) (show 1024 * (n / 8) + (1280 * (k 0).val + (k 1).val) % 1024 = _ by omega)
      · refine (if_neg (by omega)).trans (ih.trans ?_)
        exact if_congr (by omega) rfl rfl
    · refine (congrFun (outs_N m c ⟨n, hn⟩ h7) k).trans (ih.trans ?_)
      exact if_congr (by omega) rfl rfl

theorem val : (outs m c cfg0.N : S4x4288x1024.Idx → EReal) = val_main_v14 (F := Ideal) (a0 m c) (a1 m c) (a2 m c) := by
  refine funext fun k => ?_
  have hk0 : (k 0).val < 4 := (k 0).isLt
  have hk1 : (k 1).val < 4288 := (k 1).isLt
  have hk2 : (k 2).val < 1024 := (k 2).isLt
  rw [show cfg0.N = 16 from N_0, outs_at m c 16 le_rfl k]
  unfold val_main_v14
  by_cases h : (k 1).val < 1280
  · let i : ReferenceWibIdeal.S4x1280x1024.Idx := ix3 (k 0) ⟨(k 1).val, h⟩ (k 2)
    refine Eq.trans ?_ (concatenate_pair_apply_left (s₁ := ReferenceWibIdeal.S4x1280x1024) (s₂ := ReferenceWibIdeal.S4x3008x1024) (t := ReferenceWibIdeal.S4x4288x1024) 1 _ _ _ k rfl i fun b => by match b with
      | ⟨0, _⟩ => rfl
      | ⟨1, _⟩ => rfl
      | ⟨2, _⟩ => rfl).symm
    rw [val_main_v12_apply]
    have e0 : (idx_main_v12 i 0).val = 1280 * (k 0).val + (k 1).val := by show (((k 0).val * 1280 + (k 1).val) * 1024 + (k 2).val) / 1024 = _; omega
    have e1 : (idx_main_v12 i 1).val = (k 2).val := by show (((k 0).val * 1280 + (k 1).val) * 1024 + (k 2).val) % 1024 = _; omega
    generalize idx_main_v12 i = y at e0 e1
    unfold val_main_v11
    by_cases hy : (y 0).val < 3072
    · rw [if_neg (by omega)]
      refine Eq.trans ?_ (concatenate_pair_apply_left (s₁ := ReferenceWibIdeal.S3072x1024) (s₂ := ReferenceWibIdeal.S2048x1024) (t := ReferenceWibIdeal.S5120x1024) 0 _ _ _ y rfl (ix2 ⟨(y 0).val, hy⟩ (y 1)) fun b => by match b with
        | ⟨0, _⟩ => rfl
        | ⟨1, _⟩ => rfl).symm
      rw [val_main_v8_apply, val_main_v7_apply, val_main_v6_apply]
      refine congrArg (a2 m c) (funext fun a => Fin.ext ?_)
      match a with
      | ⟨0, _⟩ => show (k 0).val = ((y 0).val * 1024 + (y 1).val) / 1310720; omega
      | ⟨1, _⟩ => show (k 1).val = ((y 0).val * 1024 + (y 1).val) / 1024 % 1280; omega
      | ⟨2, _⟩ => show (k 2).val = ((y 0).val * 1024 + (y 1).val) % 1024; omega
    · rw [if_pos (by omega)]
      refine Eq.trans ?_ (concatenate_pair_apply_right (s₁ := ReferenceWibIdeal.S3072x1024) (s₂ := ReferenceWibIdeal.S2048x1024) (t := ReferenceWibIdeal.S5120x1024) 0 _ _ _ y rfl rfl (ix2 ⟨(y 0).val - 3072, by omega⟩ (y 1)) (fun b hb => by match b with
        | ⟨0, _⟩ => exact absurd rfl hb
        | ⟨1, _⟩ => rfl) (by show (y 0).val - 3072 + 3072 = (y 0).val; omega)).symm
      change (_ : EReal) = val_main_v9 (F := Ideal) (a0 m c) (a1 m c) (ix2 ⟨(y 0).val - 3072, by omega⟩ (y 1))
      rw [val_main_v9_apply, val_main_v5_apply, val_main_v4_apply, Finset.sum_range]
      refine Finset.sum_congr (M := EReal) rfl fun r _ => ?_
      unfold term
      exact congrArg₂ (· * ·) (pt_eq (a0 m c) _ _ _ rfl (by show (y 0).val - 3072 = _; omega)) (pt_eq (a1 m c) _ _ _ rfl e1)
  · rw [if_neg (by omega)]
    refine Eq.trans ?_ (concatenate_pair_apply_right (s₁ := ReferenceWibIdeal.S4x1280x1024) (s₂ := ReferenceWibIdeal.S4x3008x1024) (t := ReferenceWibIdeal.S4x4288x1024) 1 _ _ _ k rfl rfl (ix3 (k 0) ⟨(k 1).val - 1280, by omega⟩ (k 2)) (fun b hb => by match b with
      | ⟨0, _⟩ => rfl
      | ⟨1, _⟩ => exact absurd rfl hb
      | ⟨2, _⟩ => rfl) (by show (k 1).val - 1280 + 1280 = (k 1).val; omega)).symm
    rw [val_main_v13_apply]
    refine congrArg (a2 m c) (funext fun a => Fin.ext ?_)
    match a with
    | ⟨0, _⟩ => rfl
    | ⟨1, _⟩ => show (k 1).val = 1280 + ((k 1).val - 1280); omega
    | ⟨2, _⟩ => rfl

end Cert.KernelWibIdeal.Own

end
-- ==== Proof.WibWords.lean ====
/- The kernel at machine words: its program is the ideal reading's program, so one frame serves both. -/
module

public import proofs.«01_k».proof.Defs
public import proofs.«01_k».proof.Proof.Gen.KernelWib
public import proofs.«01_k».proof.Proof.WibFrame

@[expose] public section

noncomputable section

namespace Cert.Proof.Wib

open Idealize.ShloMosaic Idealize.SL.Sem
set_option maxHeartbeats 0

theorem bodies : KernelWib.defs₀ (F := Bits) = KernelWibIdeal.defs₀ (F := Bits) := by
  unfold KernelWib.defs₀ KernelWibIdeal.defs₀
  refine congrArg Defs.onTc ?_
  funext l a
  match l, a with
  | 0, (t, s) => rfl

theorem tables : (KernelWib.defs (F := Bits)) = (KernelWibIdeal.defs (F := Bits)) :=
  congrArg (Pipeline.defs (KernelWibIdeal.pcfgs (F := Bits))) bodies

theorem mains : KernelWib.main (F := Bits) = KernelWibIdeal.main (F := Bits) := rfl

theorem frame_kernel : Cert.quiescent_KernelWib := by
  intro m ρ _
  rw [tables, mains]
  exact KernelWibIdeal.Own.frame (F := Bits) m ρ

end Cert.Proof.Wib

end
-- ==== Proof.Dcp.lean ====
/- The gradient of the pool, the depthwise convolution and the gate: the body at one grid point, and the frame. Nothing is said of what its two results and its scratch hold. -/
module

public import proofs.«01_k».proof.Proof.Gen.KernelDcpIdeal.Frame
public import Idealize.ShloMosaic.Lib.Claim
public import proofs.«01_k».proof.Proof.Gen.KernelDcpIdeal.Skeleton
public import proofs.«01_k».proof.Proof.Gen.KernelDcpIdeal.Loops

@[expose] public section

set_option maxRecDepth 16384

noncomputable section

namespace Cert.KernelDcpIdeal.Own

open KernelDcpIdeal.Gen
open Idealize.ShloMosaic
open TcCoe Tactic
open Idealize.SL
open RA BI ProofMode Sem
open BIBase Laws
open Rounds
open Pipeline (Dat Cfg Window BodyObligation cellOf)

variable {F : FTy → Type} [FloatOps F]

local notation "𝕄" => MT nD τ sig Unit (Elt F) ℕ (UR sig nD τ) ℕ

/-- The first grid point, as the body asks for it. -/
abbrev first (i : grid0.Coords) : Prop := (Scalar.cmpi .ne (Scalar.extui (Scalar.cmpi .eq (BitVec.ofNat 32 (i 0).val) 0#32)) 0#32) = 1#1

section
variable (c : Dev nD) {s : Shape} {e : EltTy}

/-- The block `r` at contents `x`. -/
abbrev ow (r : Memref sig .tc .vmem s e) (x : Vec F s e) : sProp 𝕄 := owns (c : Thread nD τ) r fullShare x

/-- The block `r` at anything. -/
abbrev any (r : Memref sig .tc .vmem s e) : sProp 𝕄 := iprop(∃ d, ow c r d)

theorem held_ow (r : Memref sig .tc .vmem s e) (h : r.IsWhole) (x : Vec F s e) :
    (r.view.loc (c : Thread nD τ) ↦[r.view.set]{fullShare} (h.unread x) : sProp 𝕄) ⊢ iprop(∃ f, ⌜r.view.read (Elt F) f = x⌝ ∗ r.view.loc (c : Thread nD τ) ↦[r.view.set]{fullShare} f) := by
  iintro H
  iexists _; isplitr; · ipureintro; exact h.read_unread _
  iexact H

theorem held_any (r : Memref sig .tc .vmem s e) (f : Buf (Elt F) (r.view.loc (c : Thread nD τ))) :
    (r.view.loc (c : Thread nD τ) ↦[r.view.set]{fullShare} f : sProp 𝕄) ⊢ any c r := by
  unfold any ow owns
  iintro H
  iexists _, _; isplitr; swap; · iexact H
  ipureintro; rfl
end

section
variable (c : Dev nD) (i : grid0.Coords) (arg1 : Memref sig .tc .vmem S512x1024 .bf16) (harg1 : arg1.IsWhole) (arg2 : Memref sig .tc .vmem S32x1024 .bf16) (harg2 : arg2.IsWhole) (arg3 : Memref sig .tc .vmem S512x1024 .bf16) (harg3 : arg3.IsWhole) (arg4 : Memref sig .tc .vmem S32x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S32x1024 .f32) (harg7 : arg7.IsWhole) (arg8 : Memref sig .tc .vmem S512x3072 .bf16) (harg8 : arg8.IsWhole) (arg9 : Memref sig .tc .vmem S32x1024 .f32) (harg9 : arg9.IsWhole) (arg10 : Memref sig .tc .vmem S552x1024 .f32) (harg10 : arg10.IsWhole) (arg11 : Memref sig .tc .vmem S552x1024 .f32) (harg11 : arg11.IsWhole) (arg12 : Memref sig .tc .vmem S544x1024 .f32) (harg12 : arg12.IsWhole) (arg13 : Memref sig .tc .vmem S7x536x128 .f32) (harg13 : arg13.IsWhole) (arg14 : Memref sig .tc .vmem S512x1024 .f32) (harg14 : arg14.IsWhole) (arg15 : Memref sig .tc .vmem S512x1024 .f32) (harg15 : arg15.IsWhole)
  (x0 : Vec F S512x1024 .bf16) (x1 : Vec F S32x1024 .bf16) (x2 : Vec F S512x1024 .bf16) (x3 : Vec F S32x1024 .bf16) (x4 : Vec F S512x1024 .bf16) (x5 : Vec F S512x1024 .bf16) (x6 : Vec F S32x1024 .f32)

set_option maxHeartbeats 0 in
theorem run (K : PUnit → sProp 𝕄) :
    (iprop(ow c arg1 x0 ∗ ow c arg2 x1 ∗ ow c arg3 x2 ∗ ow c arg4 x3 ∗ ow c arg5 x4 ∗ ow c arg6 x5 ∗ ow c arg7 x6 ∗ any c arg8 ∗ any c arg9 ∗ any c arg10 ∗ any c arg11 ∗ any c arg12 ∗ any c arg13 ∗ any c arg14 ∗ any c arg15
        ∗ (iprop(ow c arg1 x0 ∗ ow c arg2 x1 ∗ ow c arg3 x2 ∗ ow c arg4 x3 ∗ ow c arg5 x4 ∗ ow c arg6 x5 ∗ ow c arg7 x6 ∗ any c arg8 ∗ any c arg9 ∗ any c arg10 ∗ any c arg11 ∗ any c arg12 ∗ any c arg13 ∗ any c arg14 ∗ any c arg15) -∗ K ⟨⟩)) : sProp 𝕄)
      ⊢ wp frame (wpE (defs₀ (F := F)) Variants.none c none) Set.univ (cc0_mix_b2 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mix_b2_eq_skeleton]; unfold cc0_mix_b2_skel
  simp only [k0_part331_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton]
  unfold any ow owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  by_cases hc : first i
  all_goals
    sl_exec (disch := first | sl_exact hc)
    sl_step
    iapply Hk
    isplitl [H0]; · iapply held_ow c arg1 harg1 x0; iexact H0
    isplitl [H1]; · iapply held_ow c arg2 harg2 x1; iexact H1
    isplitl [H2]; · iapply held_ow c arg3 harg3 x2; iexact H2
    isplitl [H3]; · iapply held_ow c arg4 harg4 x3; iexact H3
    isplitl [H4]; · iapply held_ow c arg5 harg5 x4; iexact H4
    isplitl [H5]; · iapply held_ow c arg6 harg6 x5; iexact H5
    isplitl [H6]; · iapply held_ow c arg7 harg7 x6; iexact H6
    isplitl [H7]; · iapply held_any c arg8; iexact H7
    isplitl [H8]; · iapply held_any c arg9; iexact H8
    isplitl [H9]; · iapply held_any c arg10; iexact H9
    isplitl [H10]; · iapply held_any c arg11; iexact H10
    isplitl [H11]; · iapply held_any c arg12; iexact H11
    isplitl [H12]; · iapply held_any c arg13; iexact H12
    isplitl [H13]; · iapply held_any c arg14; iexact H13
    iapply held_any c arg15; iexact H14
end

variable (m : (ℓ : Loc nD τ sig) → Buf (Elt F) ℓ) (ρ : Dev nD → PrngReg)

/-- The windows of the two results. -/
def unsaid : Fin 9 → Bool := fun w => w.val == 7 || w.val == 8

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem Phi_eq (c : Dev nD) (t : Fin (cfg0.N + 1)) :
    (dats m 0 c).Φ t = (iprop(iprop(any c (Memref.whole cc0_scratch0) ∗ any c (Memref.whole cc0_scratch1) ∗ any c (Memref.whole cc0_scratch2) ∗ any c (Memref.whole cc0_scratch3) ∗ any c (Memref.whole cc0_scratch4) ∗ any c (Memref.whole cc0_scratch5)) ∗ (∃ r, prngReg c r)) : sProp 𝕄) := by
  show Pipeline.ΦA spec0 c = _
  unfold Pipeline.ΦA; rw [scopedRest0_eq]; simp only [any, ow, owns_whole]; try rfl

theorem before_eq (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t)
      ∧ (∀ d, (dats m 0 c).before 4 t d = iblk m c 4 t) ∧ (∀ d, (dats m 0 c).before 5 t d = iblk m c 5 t) ∧ (∀ d, (dats m 0 c).before 6 t d = iblk m c 6 t) :=
  ⟨before0_0_of m (dats m 0 c) (A_eq m c 0) (fun _ => by dsimp only [dats]) t, before0_1_of m (dats m 0 c) (A_eq m c 1) (fun _ => by dsimp only [dats]) t,
    before0_2_of m (dats m 0 c) (A_eq m c 2) (fun _ => by dsimp only [dats]) t, before0_3_of m (dats m 0 c) (A_eq m c 3) (fun _ => by dsimp only [dats]) t,
    before0_4_of m (dats m 0 c) (A_eq m c 4) (fun _ => by dsimp only [dats]) t, before0_5_of m (dats m 0 c) (A_eq m c 5) (fun _ => by dsimp only [dats]) t,
    before0_6_of m (dats m 0 c) (A_eq m c 6) (fun _ => by dsimp only [dats]) t⟩

def bodyPre (c : Dev nD) (t : Fin cfg0.N) : sProp 𝕄 :=
  iprop((dats m 0 c).Φ t.castSucc ∗ (dats m 0 c).owesAt () t.castSucc
    ∗ (∃ d, ow c (st0_0 t) ((dats m 0 c).before 0 t d))
    ∗ (∃ d, ow c (st0_1 t) ((dats m 0 c).before 1 t d))
    ∗ (∃ d, ow c (st0_2 t) ((dats m 0 c).before 2 t d))
    ∗ (∃ d, ow c (st0_3 t) ((dats m 0 c).before 3 t d))
    ∗ (∃ d, ow c (st0_4 t) ((dats m 0 c).before 4 t d))
    ∗ (∃ d, ow c (st0_5 t) ((dats m 0 c).before 5 t d))
    ∗ (∃ d, ow c (st0_6 t) ((dats m 0 c).before 6 t d))
    ∗ any c (st0_7 t) ∗ any c (st0_8 t))

def bodyPost (c : Dev nD) (t : Fin cfg0.N) : sProp 𝕄 :=
  iprop((dats m 0 c).Φ t.succ ∗ (dats m 0 c).owesAt () t.succ
    ∗ ow c (st0_0 t) (iblk m c 0 t) ∗ ow c (st0_1 t) (iblk m c 1 t) ∗ ow c (st0_2 t) (iblk m c 2 t) ∗ ow c (st0_3 t) (iblk m c 3 t)
    ∗ ow c (st0_4 t) (iblk m c 4 t) ∗ ow c (st0_5 t) (iblk m c 5 t) ∗ ow c (st0_6 t) (iblk m c 6 t)
    ∗ any c (st0_7 t) ∗ any c (st0_8 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5, b6⟩ := before_eq m c t
  unfold bodyPre bodyPost bodyAt0
  simp only [b0, b1, b2, b3, b4, b5, b6]
  rw [show (dats m 0 c).owesAt () t.succ = (dats m 0 c).owesAt () t.castSucc from rfl, Phi_eq, Phi_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, H7, H8⟩
  iapply run c (grid0.coords t)
  iframe H0 H1 H2 H3 H4 H5 H6 H7 H8 S0 S1 S2 S3 S4 S5
  iintro ⟨H0, H1, H2, H3, H4, H5, H6, H7, H8, S0, S1, S2, S3, S4, S5⟩
  iframe S0 S1 S2 S3 S4 S5 Hg Ho H0 H1 H2 H3 H4 H5 H6 H7 H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

theorem hin (c : Dev nD) : Pipeline.ΦA spec0 c ⊢ (dats m 0 c).Φ 0 := by
  dsimp only [dats]; exact .rfl

theorem hout (c : Dev nD) : (dats m 0 c).Φ (Fin.last cfg0.N) ⊢ Pipeline.ΦA spec0 c := by
  dsimp only [dats]; exact .rfl

set_option backward.isDefEq.respectTransparency.types false in
theorem run_main : θ_run defs (onTc (τ := τ) (main (F := F))) (s₀ m ρ) (fun r => (Pipeline.RDat.FramePost (cfgs 0) (fun c => (dats m 0 c).toRForget unsaid) (V m)) r ∧ r.2.sem = fun _ => 0) :=
  Pipeline.θ_run_frame_track_forget_shared (Q' := _) cfgs (dats m) (0 : Fin 1) launch₀0 defs₀ Variants.none unsaid m ρ main
    (hbody := fun c => (body_obligation m c).loose) (hq := fun _ _ _ => rfl)
    (howed := fun _ _ => rfl) (V := V m) (hmain := hmain m Variants.none) (hA := A_eq m) (hin := hin m) (hout := hout m)

/-- The arguments as they were. -/
abbrev kept (r : (ℓ : Loc nD τ sig) → Buf (Elt F) ℓ) (c : Dev nD) : Prop :=
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)

theorem frame : θ_run defs (onTc (τ := τ) (main (F := F))) ⟨m, fun _ => 0, ρ⟩ (fun r => (∀ c : Dev nD, kept m r.2.mem c) ∧ r.2.sem = fun _ => 0) :=
  (θ_run defs _ _).mono (fun _ h => ⟨fun c => ⟨(Pipeline.RDat.FramePost.arr_in h.1 c 1 rfl).trans ((A_eq m c 1).trans (V_main_arg0 m c)),
      (Pipeline.RDat.FramePost.arr_in h.1 c 3 rfl).trans ((A_eq m c 3).trans (V_main_arg1 m c)),
      (Pipeline.RDat.FramePost.arr_in h.1 c 5 rfl).trans ((A_eq m c 5).trans (V_main_arg2 m c)),
      (Pipeline.RDat.FramePost.arr_in h.1 c 6 rfl).trans ((A_eq m c 6).trans (V_main_arg3 m c))⟩, h.2⟩) (run_main m ρ)

end Cert.KernelDcpIdeal.Own

end
-- ==== Proof.DcpWords.lean ====
/- The kernel at machine words: its program is the ideal reading's program, so one frame serves both. -/
module

public import proofs.«01_k».proof.Defs
public import proofs.«01_k».proof.Proof.Gen.KernelDcp
public import proofs.«01_k».proof.Proof.Dcp

@[expose] public section

noncomputable section

namespace Cert.Proof.Dcp

open Idealize.ShloMosaic Idealize.SL.Sem
set_option maxHeartbeats 0

theorem bodies : KernelDcp.defs₀ (F := Bits) = KernelDcpIdeal.defs₀ (F := Bits) := by
  unfold KernelDcp.defs₀ KernelDcpIdeal.defs₀
  refine congrArg Defs.onTc ?_
  funext l a
  match l, a with
  | 0, (t, s) => rfl

theorem tables : (KernelDcp.defs (F := Bits)) = (KernelDcpIdeal.defs (F := Bits)) :=
  congrArg (Pipeline.defs (KernelDcpIdeal.pcfgs (F := Bits))) bodies

theorem mains : KernelDcp.main (F := Bits) = KernelDcpIdeal.main (F := Bits) := rfl

theorem frame_kernel : Cert.quiescent_KernelDcp := by
  intro m ρ _
  rw [tables, mains]
  exact KernelDcpIdeal.Own.frame (F := Bits) m ρ

end Cert.Proof.Dcp

end
-- ==== Proof.PleRun.lean ====
/- The body's run at the first grid point (A) and at the others (B): the stores it leaves, found by the executor. -/
module

public import proofs.«01_k».proof.Proof.Gen.KernelPleIdeal.Frame.Runs
public import proofs.«01_k».proof.Proof.Own

@[expose] public section

set_option maxRecDepth 16384

noncomputable section

namespace Cert.KernelPleIdeal.Own

open KernelPleIdeal.Gen
open Idealize.ShloMosaic
open TcCoe Tactic
open Idealize.SL
open RA BI ProofMode Sem
open BIBase Laws
open Rounds Cert.Own

variable {F : FTy → Type} [FloatOps F]

local notation "𝕄" => MT nD τ sig Unit (Elt F) ℕ (Pipeline.UD sig nD τ) ℕ

theorem held_ow (c : Dev nD) {s : Shape} {e : EltTy} (r : Memref sig .tc .vmem s e) (h : r.IsWhole) (x : Vec F s e) :
    (r.view.loc (c : Thread nD τ) ↦[r.view.set]{fullShare} h.unread x : sProp 𝕄) ⊢ iprop(∃ f, ⌜r.view.read (Elt F) f = x⌝ ∗ r.view.loc (c : Thread nD τ) ↦[r.view.set]{fullShare} f) := by
  iintro H
  iexists _; isplitr; · ipureintro; exact h.read_unread _
  iexact H

section
variable (c : Dev nD) (i : grid0.Coords) (arg1 : Memref sig .tc .vmem S512x1024 .f32) (harg1 : arg1.IsWhole) (arg2 : Memref sig .tc .vmem S512x256 .f32) (harg2 : arg2.IsWhole)
    (arg3 : Memref sig .tc .vmem S1x1024 .f32) (harg3 : arg3.IsWhole) (arg4 : Memref sig .tc .vmem S1024x256 .bf16) (harg4 : arg4.IsWhole) (arg6 : Memref sig .tc .vmem S512x1024 .f32) (harg6 : arg6.IsWhole) (arg7 : Memref sig .tc .vmem S1024x1024 .bf16) (harg7 : arg7.IsWhole)

/-- What every point is given and gives back. -/
abbrev ins (x0 : Vec F S512x1024 .f32) (x1 : Vec F S512x256 .f32) (x2 : Vec F S1x1024 .f32) (x3 : Vec F S1024x256 .bf16) (fh0 : HbBuf0 (F := F) c hbM0_0) : sProp 𝕄 :=
  iprop(ow c arg1 x0 ∗ ow c arg2 x1 ∗ ow c arg3 x2 ∗ ow c arg4 x3 ∗ sv c 8 ∗ sv c 9 ∗ sv c 10 ∗ sv c 11 ∗ hbPt0 c hbM0_0 fh0)

set_option sl_exec.dmaWindow true in
set_option sl_exec.dmaWindowSet true in
set_option maxHeartbeats 1000000 in
noncomputable def runA (hc0 : cond0_0 i) (x0 : Vec F S512x1024 .f32) (x1 : Vec F S512x256 .f32) (x2 : Vec F S1x1024 .f32) (x3 : Vec F S1024x256 .bf16) (fh0 : HbBuf0 (F := F) c hbM0_0) :
    Σ' (L4 : List (View.Piece (Elt F) S512x1024 .f32)), { LS0 : List (View.Piece (Elt F) S1024x1024 .bf16) //
      ∀ (W : Waits sig Unit) (K : PUnit → sProp 𝕄),
        iprop(ins c arg1 arg2 arg3 arg4 x0 x1 x2 x3 fh0 ∗ (∃ d, ow c arg6 d) ∗ (∃ d, ow c arg7 d) ∗ owes (c : Thread nD τ) 0 W
            ∗ (iprop(ins c arg1 arg2 arg3 arg4 x0 x1 x2 x3 fh0 ∗ wr c arg6 L4 ∗ wr c arg7 LS0 ∗ (∃ W', owes (c : Thread nD τ) 0 W')) -∗ K ⟨⟩))
          ⊢ wp frame (wpE (defs₀ (F := F)) Variants.none c none) Set.univ (cc0_ple_fwd i arg1 harg1 arg2 harg2 arg3 harg3 arg4 harg4 (Memref.whole main_v5) (Memref.isWhole_whole _) arg6 harg6 arg7 harg7 cc0_scratch1) K } := by
  refine ⟨?_, ?_, fun W K => ?run⟩
  case run =>
    simp only [cc0_ple_fwd_eq_skeleton]; unfold cc0_ple_fwd_skel
    unfold ins ow owns wr
    iintro ⟨⟨⟨%f0, %hf0, H0⟩, ⟨%f1, %hf1, H1⟩, ⟨%f2, %hf2, H2⟩, ⟨%f3, %hf3, H3⟩, Hq0, Hq1, Hq2, Hq3, Hh0⟩, ⟨%d4, %f4, -, H4⟩, ⟨%ds0, %fs0, -, HS0⟩, HW, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    iframe Hq0 Hq1 Hq2 Hq3 Hh0
    isplitl [H0 H1 H2 H3]
    · isplitl [H0]; · iapply held_ow c arg1 harg1 x0; iexact H0
      isplitl [H1]; · iapply held_ow c arg2 harg2 x1; iexact H1
      isplitl [H2]; · iapply held_ow c arg3 harg3 x2; iexact H2
      iapply held_ow c arg4 harg4 x3; iexact H3
    isplitl [H4]; · iexists _; iexact H4
    isplitl [HS0]; · iexists _; iexact HS0
    iexists _; iexact HW

set_option maxHeartbeats 1000000 in
noncomputable def runB (hc0 : ¬cond0_0 i) (x0 : Vec F S512x1024 .f32) (x1 : Vec F S512x256 .f32) (x2 : Vec F S1x1024 .f32) (x3 : Vec F S1024x256 .bf16) (fh0 : HbBuf0 (F := F) c hbM0_0) (xs0 : Vec F S1024x1024 .bf16) :
    { L4 : List (View.Piece (Elt F) S512x1024 .f32) //
      ∀ (W : Waits sig Unit) (K : PUnit → sProp 𝕄),
        iprop(ins c arg1 arg2 arg3 arg4 x0 x1 x2 x3 fh0 ∗ (∃ d, ow c arg6 d) ∗ ow c arg7 xs0 ∗ owes (c : Thread nD τ) 0 W
            ∗ (iprop(ins c arg1 arg2 arg3 arg4 x0 x1 x2 x3 fh0 ∗ wr c arg6 L4 ∗ ow c arg7 xs0 ∗ (∃ W', owes (c : Thread nD τ) 0 W')) -∗ K ⟨⟩))
          ⊢ wp frame (wpE (defs₀ (F := F)) Variants.none c none) Set.univ (cc0_ple_fwd i arg1 harg1 arg2 harg2 arg3 harg3 arg4 harg4 (Memref.whole main_v5) (Memref.isWhole_whole _) arg6 harg6 arg7 harg7 cc0_scratch1) K } := by
  refine ⟨?_, fun W K => ?run⟩
  case run =>
    simp only [cc0_ple_fwd_eq_skeleton]; unfold cc0_ple_fwd_skel
    unfold ins ow owns wr
    iintro ⟨⟨⟨%f0, %hf0, H0⟩, ⟨%f1, %hf1, H1⟩, ⟨%f2, %hf2, H2⟩, ⟨%f3, %hf3, H3⟩, Hq0, Hq1, Hq2, Hq3, Hh0⟩, ⟨%d4, %f4, -, H4⟩, ⟨%fs0, %hfs0, HS0⟩, HW, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0)
    sl_step
    iapply Hk
    iframe Hq0 Hq1 Hq2 Hq3 Hh0
    isplitl [H0 H1 H2 H3]
    · isplitl [H0]; · iapply held_ow c arg1 harg1 x0; iexact H0
      isplitl [H1]; · iapply held_ow c arg2 harg2 x1; iexact H1
      isplitl [H2]; · iapply held_ow c arg3 harg3 x2; iexact H2
      iapply held_ow c arg4 harg4 x3; iexact H3
    isplitl [H4]; · iexists _; iexact H4
    isplitl [HS0]; · iapply held_ow c arg7 harg7 xs0; iexact HS0
    iexists _; iexact HW
end

end Cert.KernelPleIdeal.Own

end
-- ==== Proof.PleFrame.lean ====
/- The frame of the per-layer embedding block: what a point leaves as a function of the blocks read and the weight
   carried, the body's obligation, the launch, and the array that it leaves read at a row. -/
module

public import proofs.«01_k».proof.Proof.PleRun
public import Idealize.ShloMosaic.Lib.Claim
public import Idealize.ShloMosaic.Lib.ValueLayout
public import Idealize.ShloMosaic.Lib.Pipeline.Value

@[expose] public section

set_option maxRecDepth 16384

noncomputable section

namespace Cert.KernelPleIdeal.Own

open KernelPleIdeal KernelPleIdeal.Gen
open Idealize.ShloMosaic
open TcCoe Tactic ValueIdx
open Idealize.SL
open RA BI ProofMode Sem
open BIBase Laws
open Rounds Cert.Own
open Pipeline (Dat Cfg Window BodyObligation cellOf)

variable {F : FTy → Type} [FloatOps F]

local notation "𝕄" => MT nD τ sig Unit (Elt F) ℕ (Pipeline.UD sig nD τ) ℕ

theorem off2 : (![0, 0] : Fin 2 → Nat) = fun _ => 0 := funext fun a => by fin_cases a <;> rfl
theorem sw0 : scM0_0.IsWhole := Memref.isWhole_whole _

/-- What the copies leave: row `y` of the weight is row `3904 + y % 256` of slab `y / 256`. -/
def wG (c : Dev nD) (fh0 : HbBuf0 (F := F) c hbM0_0) : Vec F S1024x1024 .bf16 := fun y =>
  (fh0 : S4x4288x1024.Idx → Elt F .bf16) (ix3 ⟨(y 0 : ℕ) / 256, by have h : (y 0 : ℕ) < 1024 := (y 0).isLt; omega⟩ ⟨3904 + (y 0 : ℕ) % 256, by have h := Nat.mod_lt (y 0 : ℕ) (show 0 < 256 by norm_num); omega⟩ ⟨(y 1 : ℕ), (y 1).isLt⟩)

theorem inb_slab (q : ℕ) (hq : q < 4) : ∀ a, (![q, 3904, 0] : Fin 3 → ℕ) a + (![1, 256, 1024] : Fin 3 → ℕ) a ≤ S4x4288x1024.size a
  | ⟨0, _⟩ => show q + 1 ≤ 4 by omega
  | ⟨1, _⟩ => show 3904 + 256 ≤ 4288 by omega
  | ⟨2, _⟩ => Nat.le_refl 1024

theorem inb_rows (q : ℕ) (hq : q < 4) : ∀ a, (![256 * q, 0] : Fin 2 → ℕ) a + (![256, 1024] : Fin 2 → ℕ) a ≤ S1024x1024.size a
  | ⟨0, _⟩ => show 256 * q + 256 ≤ 1024 by omega
  | ⟨1, _⟩ => Nat.le_refl 1024

/-- Slab `q`'s rows of the weight, where a copy puts them. -/
def slab (c : Dev nD) (q : ℕ) (hq : q < 4) (fh0 : HbBuf0 (F := F) c hbM0_0) : View.Piece (Elt F) S1024x1024 .bf16 :=
  ⟨Rect.unit ![256 * q, 0] ![256, 1024] (inb_rows q hq), ReadAs.same.apply (View.read (Elt F) (((View.whole main_v5).slice (Rect.unit (s := S4x4288x1024) ![q, 3904, 0] ![1, 256, 1024] (inb_slab q hq))).reshape S256x1024 squeezes_S1x256x1024_S256x1024.numel_eq) fh0)⟩

theorem slab_piece (c : Dev nD) (q : ℕ) (hq : q < 4) (fh0 : HbBuf0 (F := F) c hbM0_0) (x : S256x1024.Idx) :
    ((slab c q hq fh0).2 : S256x1024.Idx → Elt F .bf16) x = wG c fh0 ((Rect.unit (s := S1024x1024) ![256 * q, 0] ![256, 1024] (inb_rows q hq)).emb x) := by
  obtain ⟨i, j, rfl⟩ : ∃ (i : Fin 256) (j : Fin 1024), x = ix2 i j := ⟨x 0, x 1, eq_ix2 x⟩
  show shapeCast S256x1024 (View.read (Elt F) ((View.whole main_v5).slice (Rect.unit (s := S4x4288x1024) ![q, 3904, 0] ![1, 256, 1024] (inb_slab q hq))) fh0 : S1x256x1024.Idx → Elt F .bf16) squeezes_S1x256x1024_S256x1024.numel_eq (ix2 i j) = _
  rw [shapeCast_1ab_ab_apply]
  show (fh0 : S4x4288x1024.Idx → Elt F .bf16) _ = (fh0 : S4x4288x1024.Idx → Elt F .bf16) _
  have hi : (i : ℕ) < 256 := i.isLt
  refine congrArg _ (funext fun a => Fin.ext ?_)
  match a with
  | ⟨0, _⟩ => show q + 1 * 0 = (256 * q + 1 * i.val) / 256; omega
  | ⟨1, _⟩ => show 3904 + 1 * i.val = 3904 + (256 * q + 1 * i.val) % 256; omega
  | ⟨2, _⟩ => show 0 + 1 * j.val = 0 + 1 * j.val; rfl

/-- What the four copies store. -/
def carried (c : Dev nD) (fh0 : HbBuf0 (F := F) c hbM0_0) : List (View.Piece (Elt F) S1024x1024 .bf16) :=
  [slab c 3 (by decide) fh0, slab c 2 (by decide) fh0, slab c 1 (by decide) fh0, slab c 0 (by decide) fh0]

theorem mem_slab (c : Dev nD) (q : ℕ) (hq : q < 4) (fh0 : HbBuf0 (F := F) c hbM0_0) (y : S1024x1024.Idx) (h : (y 0 : ℕ) / 256 = q) : y ∈ (slab c q hq fh0).1.set := by
  have h1 : (y 1 : ℕ) < 1024 := (y 1).isLt
  unfold slab
  rw [Rect.mem_set_unit]
  intro a
  match a with
  | ⟨0, _⟩ => show 256 * q ≤ (y 0 : ℕ) ∧ (y 0 : ℕ) < 256 * q + 256; omega
  | ⟨1, _⟩ => show 0 ≤ (y 1 : ℕ) ∧ (y 1 : ℕ) < 0 + 1024; omega

theorem cover_carried (c : Dev nD) (fh0 : HbBuf0 (F := F) c hbM0_0) (y : S1024x1024.Idx) : ∃ p ∈ carried c fh0, y ∈ p.1.set := by
  have h0 : (y 0 : ℕ) < 1024 := (y 0).isLt
  unfold carried
  rcases (by omega : (y 0 : ℕ) / 256 = 0 ∨ (y 0 : ℕ) / 256 = 1 ∨ (y 0 : ℕ) / 256 = 2 ∨ (y 0 : ℕ) / 256 = 3) with g | g | g | g
  · exact ⟨_, by simp, mem_slab c 0 (by decide) fh0 y g⟩
  · exact ⟨_, by simp, mem_slab c 1 (by decide) fh0 y g⟩
  · exact ⟨_, by simp, mem_slab c 2 (by decide) fh0 y g⟩
  · exact ⟨_, by simp, mem_slab c 3 (by decide) fh0 y g⟩

theorem canon_carried (c : Dev nD) (fh0 : HbBuf0 (F := F) c hbM0_0) : View.canon (carried c fh0) = wG c fh0 := by
  funext y
  refine View.canon_apply_of_pieces _ _ (fun p hp x => ?_) y (cover_carried c fh0 y)
  simp only [carried, List.mem_cons, List.not_mem_nil, or_false] at hp
  rcases hp with rfl | rfl | rfl | rfl <;> exact slab_piece c _ _ fh0 x

section
variable (c : Dev nD) (t : Fin cfg0.N) (x0 : Vec F S512x1024 .f32) (x1 : Vec F S512x256 .f32) (x2 : Vec F S1x1024 .f32) (x3 : Vec F S1024x256 .bf16) (fh0 : HbBuf0 (F := F) c hbM0_0)

/-- The runs at a grid point. -/
def rA (hc0 : cond0_0 (grid0.coords t)) := runA (F := F) c (grid0.coords t) (ms0_0 t) (hs0_0 t) (ms0_1 t) (hs0_1 t) (ms0_2 t) (hs0_2 t) (ms0_3 t) (hs0_3 t) (ms0_4 t) (hs0_4 t) scM0_0 sw0 hc0 x0 x1 x2 x3 fh0
def rB (hc0 : ¬cond0_0 (grid0.coords t)) (xs0 : Vec F S1024x1024 .bf16) := runB (F := F) c (grid0.coords t) (ms0_0 t) (hs0_0 t) (ms0_1 t) (hs0_1 t) (ms0_2 t) (hs0_2 t) (ms0_3 t) (hs0_3 t) (ms0_4 t) (hs0_4 t) scM0_0 sw0 hc0 x0 x1 x2 x3 fh0 xs0

theorem stored (hc0 : cond0_0 (grid0.coords t)) : (rA c t x0 x1 x2 x3 fh0 hc0).2.1 = carried c fh0 := by
  unfold rA runA
  dsimp only
  sl_unfold_words
  rfl

theorem leftA (hc0 : cond0_0 (grid0.coords t)) : (wr c (ms0_4 t) (rA c t x0 x1 x2 x3 fh0 hc0).1 : sProp 𝕄) ⊢ ow c (ms0_4 t) (k0_pay1 x0 x2 (wG c fh0) x1 x3) := by
  have e : (ms0_4 t).view.read (Elt F) ((ms0_4 t).view.writes (Elt F) (ms0_4 t).view.junk (rA c t x0 x1 x2 x3 fh0 hc0).1) = k0_pay1 x0 x2 (wG c fh0) x1 x3 := by
    rw [View.read_writes_junk_eq_canon]
    unfold rA runA
    dsimp only
    sl_unfold_words
    rw [View.canon_cons_unit_zero (S := S512x1024) off2]
    simp only [View.readCov_eq_canon', View.readAt_eq_ld, (hs0_0 t).read_unread, (hs0_1 t).read_unread, (hs0_2 t).read_unread, (hs0_3 t).read_unread, View.ld_unit_zero (S := S512x1024) off2, View.ld_unit_zero (S := S512x256) off2, View.ld_unit_zero (S := S1x1024) off2, View.ld_unit_zero (S := S1024x256) off2, View.ld_unit_zero (S := S1024x1024) off2]
    have e0 := canon_carried c fh0
    simp only [carried, slab] at *
    simp only [e0]
    exact congrArg (k0_pay1 x0 x2 · x1 x3) (View.ld_unit_zero (S := S1024x1024) off2 inb_S1024x1024_S1024x1024_0_0 (wG c fh0))
  rw [← e]
  exact wr_ow c _ _ _ _ (View.cover_of_tiledL (rA c t x0 x1 x2 x3 fh0 hc0).1 S512x1024.size (by sl_kernel_rfl))

theorem leftS (hc0 : cond0_0 (grid0.coords t)) : (wr c scM0_0 (rA c t x0 x1 x2 x3 fh0 hc0).2.1 : sProp 𝕄) ⊢ ow c scM0_0 (wG c fh0) := by
  rw [stored, ← canon_carried c fh0, ← View.read_writes_junk_eq_canon (v := scM0_0.view)]
  exact wr_ow c _ _ _ _ (cover_carried c fh0)

theorem leftB (hc0 : ¬cond0_0 (grid0.coords t)) (xs0 : Vec F S1024x1024 .bf16) : (wr c (ms0_4 t) (rB c t x0 x1 x2 x3 fh0 hc0 xs0).1 : sProp 𝕄) ⊢ ow c (ms0_4 t) (k0_pay1 x0 x2 xs0 x1 x3) := by
  have e : (ms0_4 t).view.read (Elt F) ((ms0_4 t).view.writes (Elt F) (ms0_4 t).view.junk (rB c t x0 x1 x2 x3 fh0 hc0 xs0).1) = k0_pay1 x0 x2 xs0 x1 x3 := by
    rw [View.read_writes_junk_eq_canon]
    unfold rB runB
    dsimp only
    sl_unfold_words
    rw [View.canon_cons_unit_zero (S := S512x1024) off2]
    simp only [View.readCov_eq_canon', View.readAt_eq_ld, (hs0_0 t).read_unread, (hs0_1 t).read_unread, (hs0_2 t).read_unread, (hs0_3 t).read_unread, sw0.read_unread, View.ld_unit_zero (S := S512x1024) off2, View.ld_unit_zero (S := S512x256) off2, View.ld_unit_zero (S := S1x1024) off2, View.ld_unit_zero (S := S1024x256) off2, View.ld_unit_zero (S := S1024x1024) off2]
  rw [← e]
  exact wr_ow c _ _ _ _ (View.cover_of_tiledL (rB c t x0 x1 x2 x3 fh0 hc0 xs0).1 S512x1024.size (by sl_kernel_rfl))
end

variable (m : (ℓ : Loc nD τ sig) → Buf (Elt F) ℓ) (ρ : Dev nD → PrngReg)

/-- The weight as the scratch holds it, and the block a point leaves. -/
def wP (c : Dev nD) : Vec F S1024x1024 .bf16 := wG c (V m c main_v5)
def pt (c : Dev nD) (t : Fin cfg0.N) : Vec F S512x1024 .f32 := k0_pay1 (iblk m c 0 t) (iblk m c 2 t) (wP m c) (iblk m c 1 t) (iblk m c 3 t)

def PhiS (c : Dev nD) : ℕ → sProp 𝕄
  | 0 => Pipeline.ΦD osem0 spec0 H0 (V m) c
  | _ + 1 => iprop(ow c scM0_0 (wP m c) ∗ (∃ r, prngReg c r) ∗ iprop(sv c 8 ∗ sv c 9 ∗ sv c 10 ∗ sv c 11) ∗ hbPt0 c hbM0_0 (V m c main_v5))

theorem PhiS_pos (c : Dev nD) (n : ℕ) (hz : n ≠ 0) : PhiS m c n = PhiS m c 1 := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = pt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, ow c (ms0_0 t) ((dats m 0 c).before 0 t d))
    ∗ (∃ d, ow c (ms0_1 t) ((dats m 0 c).before 1 t d))
    ∗ (∃ d, ow c (ms0_2 t) ((dats m 0 c).before 2 t d))
    ∗ (∃ d, ow c (ms0_3 t) ((dats m 0 c).before 3 t d))
    ∗ (∃ d, ow c (ms0_4 t) ((dats m 0 c).before 4 t d)))

def bodyPost (c : Dev nD) (t : Fin cfg0.N) : sProp 𝕄 :=
  iprop((dats m 0 c).Φ t.succ ∗ (dats m 0 c).owesAt () t.succ
    ∗ ow c (ms0_0 t) ((dats m 0 c).after 0 t)
    ∗ ow c (ms0_1 t) ((dats m 0 c).after 1 t)
    ∗ ow c (ms0_2 t) ((dats m 0 c).after 2 t)
    ∗ ow c (ms0_3 t) ((dats m 0 c).after 3 t)
    ∗ ow c (ms0_4 t) ((dats m 0 c).after 4 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c 1 from rfl, show (dats m 0 c).Φ t.castSucc = PhiS m c t.val from rfl,
    after0_0, after0_1, after0_2, after0_3, after0_4]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · rw [show t.val = 0 by omega, show PhiS m c 0 = _ from PhiD0_eq m c]
    unfold PhiS
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩⟩
    iapply ((rA c t (iblk m c 0 t) (iblk m c 1 t) (iblk m c 2 t) (iblk m c 3 t) (V m c main_v5) ((hcond0_0 t).mpr h0)).2.2 W _)
    unfold ins
    iframe H0 H1 H2 H3 HS0 Hq0 Hq1 Hq2 Hq3 Hh0 HW
    isplitl [H4]; · iexists _; iexact H4
    iintro ⟨⟨H0, H1, H2, H3, Hq0, Hq1, Hq2, Hq3, Hh0⟩, H4, HS0, ⟨%W', HW'⟩⟩
    iframe Hg Hq0 Hq1 Hq2 Hq3 Hh0 H0 H1 H2 H3
    isplitl [HS0]; · iapply leftS c t _ _ _ _ (V m c main_v5) ((hcond0_0 t).mpr h0); iexact HS0
    isplitl [HW']
    · iexists W'; isplitr; · ipureintro; exact fun _ _ => Or.inl trivial
      iexact HW'
    iapply leftA c t _ _ _ _ (V m c main_v5) ((hcond0_0 t).mpr h0); iexact H4
  · rw [PhiS_pos m c t.val fun e => h0 (by rw [e])]
    unfold PhiS
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩⟩
    iapply ((rB c t (iblk m c 0 t) (iblk m c 1 t) (iblk m c 2 t) (iblk m c 3 t) (V m c main_v5) (fun h => h0 ((hcond0_0 t).mp h)) (wP m c)).2 W _)
    unfold ins
    iframe H0 H1 H2 H3 HS0 Hq0 Hq1 Hq2 Hq3 Hh0 HW
    isplitl [H4]; · iexists _; iexact H4
    iintro ⟨⟨H0, H1, H2, H3, Hq0, Hq1, Hq2, Hq3, Hh0⟩, H4, HS0, ⟨%W', HW'⟩⟩
    iframe HS0 Hg Hq0 Hq1 Hq2 Hq3 Hh0 H0 H1 H2 H3
    isplitl [HW']
    · iexists W'; isplitr; · ipureintro; exact fun _ _ => Or.inl trivial
      iexact HW'
    iapply leftB c t _ _ _ _ (V m c main_v5) (fun h => h0 ((hcond0_0 t).mp h)) (wP m c); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 from rfl]
  unfold PhiS
  exact Idealize.SL.BI.Entails.refl _

theorem hout (c : Dev nD) : (dats m 0 c).Φ (Fin.last cfg0.N) ⊢ Pipeline.ΦD osem0 spec0 H0 (V m) c := by
  rw [show (dats m 0 c).Φ (Fin.last cfg0.N) = PhiS m c cfg0.N from rfl, PhiS_pos m c _ (by have : cfg0.N = 16 := N_0; omega), PhiD0_eq]
  unfold PhiS
  iintro ⟨HS0, Hg, ⟨Hq0, Hq1, Hq2, Hq3⟩, Hh0⟩
  iframe Hg Hq0 Hq1 Hq2 Hq3 Hh0
  iexists _; iexact HS0

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments as they were. -/
abbrev kept (r : (ℓ : Loc nD τ sig) → Buf (Elt F) ℓ) (c : Dev nD) : Prop :=
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)

theorem unchanged : θ_run defs (onTc (τ := τ) (main (F := F))) ⟨m, fun _ => 0, ρ⟩ (fun r => ∀ c : Dev nD, kept m r.2.mem c) :=
  frame_of m ρ (dats m) (A_eq m) (run_main m ρ)

theorem frame : θ_run defs (onTc (τ := τ) (main (F := F))) ⟨m, fun _ => 0, ρ⟩ (fun r => (∀ c : Dev nD, kept m r.2.mem c) ∧ r.2.sem = fun _ => 0) :=
  θ_run_and (unchanged m ρ) ((θ_run defs _ _).mono (fun _ h => h.2) (run_main_quiescent m ρ))

theorem run_blocks : θ_run defs (onTc (τ := τ) (main (F := F))) ⟨m, fun _ => 0, ρ⟩ fun r => ∀ c : Dev nD,
      r.2.mem ((c : Thread nD τ).loc main_v6) = (dats m 0 c).arrAt 4 cfg0.N ∧ kept m r.2.mem c :=
  (θ_run defs _ _).mono (fun _ h c => ⟨(h.2 c).1 4, h.1 c⟩) (θ_run_and (unchanged m ρ) (run_main m ρ))

/-! ## The array at a row, and the blocks read -/

variable (c : Dev nD)

theorem index4 : ∀ t : Fin cfg0.N, win0_4.index t 0 = t.val ∧ win0_4.index t 1 = 0 :=
  (by decide +kernel : ∀ t : Fin grid0.N, win0_4.index t 0 = t.val ∧ win0_4.index t 1 = 0)

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun (h : win0_4.index t = win0_4.index t') => hne (Fin.ext ((index4 t).1.symm.trans ((congrFun h 0).trans (index4 t').1)))

theorem cut4 (t : Fin cfg0.N) (X : Vec F S512x1024 .f32) (p : Fin 512) (j : Fin 1024) :
    ((cfg0.win 4).cut (grid0.coords t) X : S512x1024.Idx → _) (ix2 p j) = X (ix2 p j) := rfl

theorem arr4 (t : Fin cfg0.N) (p : Fin 512) (j : Fin 1024) (q : Fin 8192) (hq : (q : ℕ) = 512 * t.val + p.val) :
    ((dats m 0 c).arrAt 4 cfg0.N : S8192x1024.Idx → _) (ix2 q j) = pt m c t (ix2 p j) := by
  have h := congrFun ((dats m 0 c).read_blk_arrAt_eq_flushed 4 disjoint4 cfg0.N t t.isLt (flush0_4 t)) (ix2 p j)
  rw [show (dats m 0 c).flushed 4 t = (cfg0.win 4).cut (grid0.coords t) (pt m c t) by
    show (cfg0.win 4).cut (grid0.coords t) ((dats m 0 c).after 4 t) = _
    rw [after0_4]] at h
  refine Eq.trans ?_ (h.trans (cut4 t _ p j))
  rw [View.read_apply]
  refine congrArg ((dats m 0 c).arrAt 4 cfg0.N : S8192x1024.Idx → _) (funext fun a => Fin.ext ?_)
  match a with
  | ⟨0, _⟩ => show q.val = win0_4.index t 0 * 512 + 1 * p.val; rw [(index4 t).1]; omega
  | ⟨1, _⟩ => show j.val = win0_4.index t 1 * 1024 + 1 * j.val; rw [(index4 t).2]; omega

theorem index_in : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0))

theorem blk0 (t : Fin cfg0.N) (p : Fin 512) (j : Fin 1024) (q : Fin 8192) (hq : (q : ℕ) = 512 * t.val + p.val) :
    (iblk m c 0 t : S512x1024.Idx → _) (ix2 p j) = (V m c main_arg0 : S8192x1024.Idx → _) (ix2 q j) := by
  obtain ⟨⟨e, e'⟩, -⟩ := index_in t
  unfold iblk
  rw [View.read_apply]
  refine congrArg (V m c main_arg0 : S8192x1024.Idx → _) (funext fun a => Fin.ext ?_)
  match a with
  | ⟨0, _⟩ => show win0_0.index t 0 * 512 + 1 * p.val = q.val; rw [e]; omega
  | ⟨1, _⟩ => show win0_0.index t 1 * 1024 + 1 * j.val = j.val; rw [e']; omega

theorem blk1 (t : Fin cfg0.N) (p : Fin 512) (j : Fin 256) (q : Fin 8192) (hq : (q : ℕ) = 512 * t.val + p.val) :
    (iblk m c 1 t : S512x256.Idx → _) (ix2 p j) = (V m c main_arg1 : S8192x256.Idx → _) (ix2 q j) := by
  obtain ⟨-, ⟨e, e'⟩, -⟩ := index_in t
  unfold iblk
  rw [View.read_apply]
  refine congrArg (V m c main_arg1 : S8192x256.Idx → _) (funext fun a => Fin.ext ?_)
  match a with
  | ⟨0, _⟩ => show win0_1.index t 0 * 512 + 1 * p.val = q.val; rw [e]; omega
  | ⟨1, _⟩ => show win0_1.index t 1 * 256 + 1 * j.val = j.val; rw [e']; omega

theorem blk2 (t : Fin cfg0.N) (p : Fin 1) (j : Fin 1024) :
    (iblk m c 2 t : S1x1024.Idx → _) (ix2 p j) = (V m c main_v0 : S1x1024.Idx → _) (ix2 p j) := by
  obtain ⟨-, -, ⟨e, e'⟩, -⟩ := index_in t
  unfold iblk
  rw [View.read_apply]
  refine congrArg (V m c main_v0 : S1x1024.Idx → _) (funext fun a => Fin.ext ?_)
  match a with
  | ⟨0, _⟩ => show win0_2.index t 0 * 1 + 1 * p.val = p.val; rw [e]; omega
  | ⟨1, _⟩ => show win0_2.index t 1 * 1024 + 1 * j.val = j.val; rw [e']; omega

theorem blk3 (t : Fin cfg0.N) (p : Fin 1024) (j : Fin 256) :
    (iblk m c 3 t : S1024x256.Idx → _) (ix2 p j) = (V m c main_v2 : S1024x256.Idx → _) (ix2 p j) := by
  obtain ⟨-, -, -, e, e'⟩ := index_in t
  unfold iblk
  rw [View.read_apply]
  refine congrArg (V m c main_v2 : S1024x256.Idx → _) (funext fun a => Fin.ext ?_)
  match a with
  | ⟨0, _⟩ => show win0_3.index t 0 * 1024 + 1 * p.val = p.val; rw [e]; omega
  | ⟨1, _⟩ => show win0_3.index t 1 * 256 + 1 * j.val = j.val; rw [e']; omega

end Cert.KernelPleIdeal.Own

end
-- ==== Proof.PleValue.lean ====
/- The per-layer embedding block's array is the reference's: the body on blocks of any elements, what the host packs, the
   reference's operations in program order, and the two together (EMat). -/
module

public import proofs.«01_k».proof.Proof.PleFrame
public import proofs.«01_k».proof.Proof.EMat
public import proofs.«01_k».proof.Proof.Gen.ReferencePleIdeal.Read
public import Idealize.ShloMosaic.Lib.KernelVsHost
public import Idealize.ShloMosaic.Lib.StableHlo.Run

@[expose] public section

set_option maxRecDepth 16384

noncomputable section

namespace Cert.PleRef

open ReferencePleIdeal ReferencePleIdeal.Read RealRow EMat Idealize.ShloMosaic Idealize.ShloMosaic.ValueIdx
open scoped BigOperators

variable (X : S8192x1024.Idx → EReal) (Y : S8192x256.Idx → EReal) (G : S1024.Idx → EReal) (W : S1024x1024.Idx → EReal) (Q : S256x1024.Idx → EReal)

/-- The block at one row. -/
def po (x : Fin 1024 → EReal) (y : Fin 256 → EReal) (g : Fin 1024 → EReal) (w : Fin 1024 → Fin 1024 → EReal) (q : Fin 256 → Fin 1024 → EReal) (j : Fin 1024) : EReal :=
  x j + sg (pr x g w j) * ∑ k, y k * q k j

theorem r_v1 (i : S8192.Idx) : val_main_v1 (F := Ideal) X i = (∑ k, at2 X (i 0) k * at2 X (i 0) k : EReal) :=
  (val_main_v1_apply _ i).trans (sum0E ((val_main_cst_apply _).trans zero_f32) fun k => (val_main_v0_apply _ _).trans (mulE (at2_eq X _) (at2_eq X _)))

theorem r_v4 (i : S8192x1.Idx) : val_main_v4 (F := Ideal) X i = (ms (at2 X (i 0)) : EReal) :=
  (val_main_v4_apply _ i).trans (hdivE ((val_main_v2_apply _ i).trans (r_v1 X _)) ((val_main_v3_apply i).trans ((val_main_cst_0_apply _).trans rfl)))

theorem r_v7 (i : S8192x1.Idx) : val_main_v7 (F := Ideal) X i = (rr (at2 X (i 0)) : EReal) :=
  (val_main_v7_apply _ i).trans (hrsqrtE ((val_main_v6_apply _ i).trans (addE (r_v4 X i) ((val_main_v5_apply i).trans ((val_main_cst_1_apply _).trans rfl)))))

theorem r_v12 (i : S8192x1024.Idx) : val_main_v12 (F := Ideal) X G i = (nn (at2 X (i 0)) (at1 G) (i 1) : EReal) :=
  (val_main_v12_apply _ _ i).trans (mulE ((val_main_v9_apply _ i).trans (mulE (at2_eq X i) ((val_main_v8_apply _ i).trans (r_v7 X _))))
    ((val_main_v11_apply _ i).trans ((val_main_v10_apply _ _).trans (at1_eq G _))))

theorem r_v13 (i : S8192x1024.Idx) : val_main_v13 (F := Ideal) X G W i = (pr (at2 X (i 0)) (at1 G) (at2 W) (i 1) : EReal) :=
  (val_main_v13_apply _ _ _ i).trans (dotE (fun k => r_v12 X G _) fun k => at2_eq W _)

theorem r_v19 (i : S8192x1024.Idx) : val_main_v19 (F := Ideal) X G W i = (sg (pr (at2 X (i 0)) (at1 G) (at2 W) (i 1)) : EReal) :=
  (val_main_v19_apply _ _ _ i).trans (hdivE ((val_main_v18_apply i).trans ((val_main_cst_3_apply _).trans Ideal.ofBits_one_f32))
    ((val_main_v17_apply _ _ _ i).trans (addE ((val_main_v16_apply i).trans ((val_main_cst_2_apply _).trans Ideal.ofBits_one_f32))
      ((val_main_v15_apply _ _ _ i).trans (hexpE ((val_main_v14_apply _ _ _ i).trans (hnegE (r_v13 X G W i))))))))

theorem r_v22 (i : S8192x1024.Idx) : val_main_v22 (F := Ideal) X Y G W Q i = (po (at2 X (i 0)) (at2 Y (i 0)) (at1 G) (at2 W) (at2 Q) (i 1) : EReal) :=
  (val_main_v22_apply _ _ _ _ _ i).trans (addE (at2_eq X i) ((val_main_v21_apply _ _ _ _ _ i).trans (mulE (r_v19 X G W i)
    ((val_main_v20_apply _ _ i).trans (dotE (fun k => at2_eq Y _) fun k => at2_eq Q _)))))

end Cert.PleRef

namespace Cert.KernelPleIdeal.Own

open KernelPleIdeal KernelPleIdeal.Gen Idealize.ShloMosaic Idealize.ShloMosaic.TcCoe Idealize.SL.Sem Idealize.ShloMosaic.ValueIdx RealRow EMat PleRef
open scoped BigOperators

section
variable {x : FVec Ideal S512x1024 .f32} {gv : FVec Ideal S1x1024 .f32} {w : FVec Ideal S1024x1024 .bf16} {y : FVec Ideal S512x256 .f32} {q : FVec Ideal S1024x256 .bf16}
  {X : Fin 512 → Fin 1024 → EReal} {G : Fin 1024 → EReal} {W : Fin 1024 → Fin 1024 → EReal} {Y : Fin 512 → Fin 256 → EReal} {Q : Fin 256 → Fin 1024 → EReal}

theorem pay1E (hx : E2 x X) (hg : E2 gv fun _ j => G j) (hw : E2 w W) (hy : E2 y Y) (hq : E2 q fun j k => Q k j) :
    E2 (φ := .f32) (k0_pay1 (F := Ideal) x gv w y q) (fun p j => po (X p) (Y p) G W Q j) :=
  let a := (((hx.mul ((((((hx.mul hx).rowSum _ _ _ _ _).div (E2.const _)).add (E2.const _)).rsqrt).col _)).mul ((hg.cast _).row _)).trunc _).nn hw E2.zero _ _ rfl
  (hx.add ((((E2.const _).mul ((E2.const _).mul a).tanh).add (E2.const _)).mul ((hy.trunc _).nt (hq.cast _) E2.zero _ _ rfl))).congr fun p j =>
    congrArg (X p j + · * _) (sg_tanh _)
end

variable (m : (ℓ : Loc nD τ sig) → Buf (Elt Ideal) ℓ) (c : Dev nD)

abbrev a0 : S8192x1024.Idx → EReal := m ((c : Thread nD τ).loc main_arg0)
abbrev a1 : S8192x256.Idx → EReal := m ((c : Thread nD τ).loc main_arg1)
abbrev a2 : S1024.Idx → EReal := m ((c : Thread nD τ).loc main_arg2)
abbrev a3 : S1024x1024.Idx → EReal := m ((c : Thread nD τ).loc main_arg3)
abbrev a4 : S256x1024.Idx → EReal := m ((c : Thread nD τ).loc main_arg4)

theorem V0 : (V m c main_v0 : S1x1024.Idx → EReal) = shapeCast S1x1024 (a2 m c) shapeCasts_S1024_S1x1024 := by
  unfold V
  simp only [hostOps0, hostOps0_1, List.flatten_cons, List.flatten_nil, List.append_nil, List.cons_append, List.nil_append]
  after_results_simp <;> rfl

theorem V2 : (V m c main_v2 : S1024x256.Idx → EReal) = truncf (F := Ideal) (φ := .f32) .bf16 (transpose S1024x256 [1, 0] (a4 m c) transposes_S256x1024_S1024x256_1_0) bitsLt_bf16_f32 := by
  unfold V
  simp only [hostOps0, hostOps0_1, List.flatten_cons, List.flatten_nil, List.append_nil, List.cons_append, List.nil_append]
  after_results_simp <;> rfl

theorem V5 : (V m c main_v5 : S4x4288x1024.Idx → EReal) = pad S4x4288x1024 ![0, 3904, 0] ![0, 128, 0] ![0, 0, 0]
      (shapeCast S4x256x1024 (truncf (F := Ideal) (φ := .f32) .bf16 (a3 m c) bitsLt_bf16_f32) shapeCasts_S1024x1024_S4x256x1024 : S4x256x1024.Idx → EReal)
      (sitofp (F := Ideal) .bf16 (constantI S_ 32 0#32) : S_.Idx → EReal) pads_S4x256x1024_S4x4288x1024_000_39041280_000 h_S_ := by
  unfold V
  simp only [hostOps0, hostOps0_1, List.flatten_cons, List.flatten_nil, List.append_nil, List.cons_append, List.nil_append]
  after_results_simp <;> rfl

theorem heldW : E2 (φ := .bf16) (wP m c : Vec Ideal S1024x1024 .bf16) (at2 (a3 m c)) := fun f j => by
  have hf : (f : ℕ) < 1024 := f.isLt
  unfold wP wG
  refine (congrFun (V5 m c) _).trans ((pad_apply_of_inside _ _ _ _ _ _ _ _ (ix3 (⟨f / 256, by omega⟩ : Fin 4) (⟨f % 256, by omega⟩ : Fin 256) j) fun a => ?_).trans
    (shapeCast_apply (truncf (F := Ideal) (φ := .f32) .bf16 (a3 m c) bitsLt_bf16_f32) _ _ (ix2 f j) ?_))
  · match a with
    | ⟨0, _⟩ => show f.val / 256 = 0 + f.val / 256 * (0 + 1); omega
    | ⟨1, _⟩ => show 3904 + f.val % 256 = 3904 + f.val % 256 * (0 + 1); omega
    | ⟨2, _⟩ => show j.val = 0 + j.val * (0 + 1); omega
  · rw [Shape.rowMajor_val_three, Shape.rowMajor_val_two]
    show f.val * 1024 + j.val = (f.val / 256 * 256 + f.val % 256) * 1024 + j.val
    omega

theorem rowsG (t : Fin cfg0.N) : E2 (φ := .f32) (iblk m c 2 t : Vec Ideal S1x1024 .f32) (fun _ j => at1 (a2 m c) j) := fun p j =>
  (blk2 m c t p j).trans ((congrFun (V0 m c) _).trans (shapeCast_apply (s := S1024) _ _ _ _ (by
    rw [Shape.rowMajor_val_one, Shape.rowMajor_val_two]
    have hp : (p : ℕ) < 1 := p.isLt
    show j.val = p.val * 1024 + j.val
    omega)))

theorem rowsQ (t : Fin cfg0.N) : E2 (φ := .bf16) (iblk m c 3 t : Vec Ideal S1024x256 .bf16) (fun j k => at2 (a4 m c) k j) := fun p j =>
  (blk3 m c t p j).trans ((congrFun (V2 m c) _).trans (transpose_ix2_apply _ _ _ _))

theorem val : ((dats m 0 c).arrAt 4 cfg0.N : S8192x1024.Idx → EReal) = ReferencePleIdeal.Read.val_main_v22 (F := Ideal) (a0 m c) (a1 m c) (a2 m c) (a3 m c) (a4 m c) := by
  refine funext fun (i : S8192x1024.Idx) => ?_
  obtain ⟨q, j, rfl⟩ : ∃ (q : Fin 8192) (j : Fin 1024), i = ix2 q j := ⟨i 0, i 1, eq_ix2 i⟩
  have hq : (q : ℕ) < 8192 := q.isLt
  let t : Fin cfg0.N := ⟨q.val / 512, by have hN : cfg0.N = 16 := N_0; omega⟩
  let R : Fin 512 → Fin 8192 := fun p => ⟨512 * t.val + p.val, by have := t.isLt; have hN : cfg0.N = 16 := N_0; omega⟩
  let p : Fin 512 := ⟨q.val % 512, by omega⟩
  have e : R p = q := Fin.ext (show 512 * (q.val / 512) + q.val % 512 = q.val by omega)
  refine (arr4 m c t p j q (congrArg Fin.val e).symm).trans ((pay1E (X := fun p => at2 (a0 m c) (R p)) (Y := fun p => at2 (a1 m c) (R p))
    (fun p j => (blk0 m c t p j (R p) rfl).trans (congrFun (V_main_arg0 m c) _)) (rowsG m c t) (heldW m c)
    (fun p j => (blk1 m c t p j (R p) rfl).trans (congrFun (V_main_arg1 m c) _)) (rowsQ m c t) p j).trans ?_)
  dsimp only
  rw [e]
  exact (r_v22 (a0 m c) (a1 m c) (a2 m c) (a3 m c) (a4 m c) (ix2 q j)).symm

end Cert.KernelPleIdeal.Own

end
-- ==== Proof.PlebRun.lean ====
/- The gradient of the per-layer embedding block at one grid point: what a point leaves as functions of the blocks read and
   the weight carried, and the body's run at the first point, a middle one and the last. -/
module

public import proofs.«01_k».proof.Proof.Own
public import proofs.«01_k».proof.Proof.Gen.KernelPlebIdeal.Frame
public import Idealize.ShloMosaic.Lib.VecWindow
public import Idealize.ShloMosaic.Lib.Pipeline.Value
public import Idealize.ShloMosaic.Lib.ValueLayout

@[expose] public section

set_option maxRecDepth 16384

noncomputable section

namespace Cert.KernelPlebIdeal.Own

open KernelPlebIdeal KernelPlebIdeal.Gen
open Idealize.ShloMosaic
open TcCoe Tactic Cert.Own
open Idealize.SL
open RA BI ProofMode Sem
open BIBase Laws
open Rounds ValueIdx

variable {F : FTy → Type} [FloatOps F]

local notation "𝕄" => MT nD τ sig Unit (Elt F) ℕ (Pipeline.UD sig nD τ) ℕ

theorem off2 : (![0, 0] : Fin 2 → Nat) = fun _ => 0 := funext fun a => by fin_cases a <;> rfl

section
variable (x d : Vec F S512x1024 .f32) (y : Vec F S512x256 .f32) (g : Vec F S1x1024 .f32) (q : Vec F S1024x256 .bf16) (w : Vec F S1024x1024 .bf16)

/-- The rows' scale, the rows scaled, the normed rows, the gate, the projection, and the gate's gradient before the sigmoid. -/
def fr : FVec F S512x1 .f32 := rsqrt (addf (divf (shapeCast S512x1 (multiReduction .add [1] S512 (mulf x x) 0x00000000#32 reduces_S512x1024_S512 (.inl rfl) rfl) shapeCasts_S512_S512x1)
  (broadcast S512x1 (Scalar.ofBits .f32 0x44800000#32))) (broadcast S512x1 (Scalar.ofBits .f32 0x358637BD#32)))
def fx : FVec F S512x1024 .f32 := mulf x (broadcastTo S512x1024 (fr x) broadcasts_S512x1_S512x1024)
def fn : FVec F S512x1024 .bf16 := truncf .bf16 (mulf (fx x) (broadcastTo S512x1024 g broadcasts_S1x1024_S512x1024)) bitsLt_bf16_f32
def fs : FVec F S512x1024 .f32 := addf (mulf (broadcast S512x1024 (Scalar.ofBits .f32 0x3F000000#32)) (tanh (mulf (broadcast S512x1024 (Scalar.ofBits .f32 0x3F000000#32))
  (matmul dot_S512x1024_S1024x1024_S512x1024_1_0_0_1_n_n none (fn x g) w (constant S512x1024 .f32 0x00000000#32))))) (broadcast S512x1024 (Scalar.ofBits .f32 0x3F000000#32))
def fe : FVec F S512x1024 .f32 := matmul dot_S512x256_S1024x256_S512x1024_1_1_0_0_n_n none (truncf .bf16 y bitsLt_bf16_f32) q (constant S512x1024 .f32 0x00000000#32)
def fq : FVec F S512x1024 .bf16 := truncf .bf16 (mulf (mulf (mulf d (fe y q)) (fs x g w)) (subf (broadcast S512x1024 (Scalar.ofBits .f32 0x3F800000#32)) (fs x g w))) bitsLt_bf16_f32
def fd : FVec F S512x1024 .f32 := matmul dot_S512x1024_S1024x1024_S512x1024_1_1_0_0_n_n none (fq x d y g q w) w (constant S512x1024 .f32 0x00000000#32)

/-- The block of the input's gradient, and what is added to the gain's and the projection's gradients. -/
def oD : Vec F S512x1024 .f32 := addf d (mulf (broadcastTo S512x1024 (fr x) broadcasts_S512x1_S512x1024)
  (subf (mulf (fd x d y g q w) (broadcastTo S512x1024 g broadcasts_S1x1024_S512x1024))
    (mulf (fx x) (broadcastTo S512x1024 (divf (shapeCast S512x1 (multiReduction .add [1] S512 (mulf (mulf (fd x d y g q w) (broadcastTo S512x1024 g broadcasts_S1x1024_S512x1024)) (fx x))
      0x00000000#32 reduces_S512x1024_S512 (.inl rfl) rfl) shapeCasts_S512_S512x1) (broadcast S512x1 (Scalar.ofBits .f32 0x44800000#32))) broadcasts_S512x1_S512x1024))))
def oG (o : Vec F S1x1024 .f32) : Vec F S1x1024 .f32 := addf o (shapeCast S1x1024 (multiReduction .add [0] S1024 (mulf (fd x d y g q w) (fx x)) 0x00000000#32 reduces_S512x1024_S1024 (.inl rfl) rfl) shapeCasts_S1024_S1x1024)
def oP (o : Vec F S1024x256 .f32) : Vec F S1024x256 .f32 := addf o (matmul dot_S512x1024_S512x256_S1024x256_0_0_1_1_n_n none (truncf .bf16 (mulf d (fs x g w)) bitsLt_bf16_f32) (truncf .bf16 y bitsLt_bf16_f32) (constant S1024x256 .f32 0x00000000#32))
end

def zG : Vec F S1x1024 .f32 := broadcast S1x1024 (Scalar.ofBits .f32 0x00000000#32)
def zP : Vec F S1024x256 .f32 := broadcast S1024x256 (Scalar.ofBits .f32 0x00000000#32)

abbrev HbI (c : Dev nD) : Type := Buf (Elt F) ((Memref.whole main_v5 : Memref sig .tc .hbm S4x4288x1024 .bf16).view.loc (c : Thread nD τ))
abbrev hbI (c : Dev nD) (f : HbI (F := F) c) : sProp 𝕄 := (Memref.whole main_v5 : Memref sig .tc .hbm S4x4288x1024 .bf16).view.loc (c : Thread nD τ) ↦{fullShare} f
abbrev HbO (c : Dev nD) : Type := Buf (Elt F) ((Memref.whole main_v6_3 : Memref sig .tc .hbm S4x4288x1024 .bf16).view.loc (c : Thread nD τ))
abbrev hbO (c : Dev nD) (f : HbO (F := F) c) : sProp 𝕄 := (Memref.whole main_v6_3 : Memref sig .tc .hbm S4x4288x1024 .bf16).view.loc (c : Thread nD τ) ↦{fullShare} f

theorem inb_slab (q : ℕ) (hq : q < 4) : ∀ a, (![q, 3904, 0] : Fin 3 → ℕ) a + (![1, 256, 1024] : Fin 3 → ℕ) a ≤ S4x4288x1024.size a
  | ⟨0, _⟩ => show q + 1 ≤ 4 by omega
  | ⟨1, _⟩ => show 3904 + 256 ≤ 4288 by omega
  | ⟨2, _⟩ => Nat.le_refl 1024

/-- What the copies leave: row `y` of the weight is row `3904 + y % 256` of slab `y / 256`. -/
def wG (c : Dev nD) (fh0 : HbI (F := F) c) : Vec F S1024x1024 .bf16 := fun y =>
  (fh0 : S4x4288x1024.Idx → Elt F .bf16) (ix3 ⟨(y 0 : ℕ) / 256, by have h : (y 0 : ℕ) < 1024 := (y 0).isLt; omega⟩ ⟨3904 + (y 0 : ℕ) % 256, by have h := Nat.mod_lt (y 0 : ℕ) (show 0 < 256 by norm_num); omega⟩ ⟨(y 1 : ℕ), (y 1).isLt⟩)

theorem inb_rows (q : ℕ) (hq : q < 4) : ∀ a, (![256 * q, 0] : Fin 2 → ℕ) a + (![256, 1024] : Fin 2 → ℕ) a ≤ S1024x1024.size a
  | ⟨0, _⟩ => show 256 * q + 256 ≤ 1024 by omega
  | ⟨1, _⟩ => Nat.le_refl 1024

/-- Slab `q`'s rows of the weight, where a copy puts them. -/
def slab (c : Dev nD) (q : ℕ) (hq : q < 4) (fh0 : HbI (F := F) c) : View.Piece (Elt F) S1024x1024 .bf16 :=
  ⟨Rect.unit ![256 * q, 0] ![256, 1024] (inb_rows q hq), ReadAs.same.apply (View.read (Elt F) (((View.whole main_v5).slice (Rect.unit (s := S4x4288x1024) ![q, 3904, 0] ![1, 256, 1024] (inb_slab q hq))).reshape S256x1024 squeezes_S1x256x1024_S256x1024.numel_eq) fh0)⟩

theorem slab_piece (c : Dev nD) (q : ℕ) (hq : q < 4) (fh0 : HbI (F := F) c) (x : S256x1024.Idx) :
    ((slab c q hq fh0).2 : S256x1024.Idx → Elt F .bf16) x = wG c fh0 ((Rect.unit (s := S1024x1024) ![256 * q, 0] ![256, 1024] (inb_rows q hq)).emb x) := by
  obtain ⟨i, j, rfl⟩ : ∃ (i : Fin 256) (j : Fin 1024), x = ix2 i j := ⟨x 0, x 1, eq_ix2 x⟩
  show shapeCast S256x1024 (View.read (Elt F) ((View.whole main_v5).slice (Rect.unit (s := S4x4288x1024) ![q, 3904, 0] ![1, 256, 1024] (inb_slab q hq))) fh0 : S1x256x1024.Idx → Elt F .bf16) squeezes_S1x256x1024_S256x1024.numel_eq (ix2 i j) = _
  rw [shapeCast_1ab_ab_apply]
  show (fh0 : S4x4288x1024.Idx → Elt F .bf16) _ = (fh0 : S4x4288x1024.Idx → Elt F .bf16) _
  have hi : (i : ℕ) < 256 := i.isLt
  refine congrArg _ (funext fun a => Fin.ext ?_)
  match a with
  | ⟨0, _⟩ => show q + 1 * 0 = (256 * q + 1 * i.val) / 256; omega
  | ⟨1, _⟩ => show 3904 + 1 * i.val = 3904 + (256 * q + 1 * i.val) % 256; omega
  | ⟨2, _⟩ => show 0 + 1 * j.val = 0 + 1 * j.val; rfl

/-- What the four copies store. -/
def carried (c : Dev nD) (fh0 : HbI (F := F) c) : List (View.Piece (Elt F) S1024x1024 .bf16) :=
  [slab c 3 (by decide) fh0, slab c 2 (by decide) fh0, slab c 1 (by decide) fh0, slab c 0 (by decide) fh0]

theorem mem_slab (c : Dev nD) (q : ℕ) (hq : q < 4) (fh0 : HbI (F := F) c) (y : S1024x1024.Idx) (h : (y 0 : ℕ) / 256 = q) : y ∈ (slab c q hq fh0).1.set := by
  have h1 : (y 1 : ℕ) < 1024 := (y 1).isLt
  unfold slab
  rw [Rect.mem_set_unit]
  intro a
  match a with
  | ⟨0, _⟩ => show 256 * q ≤ (y 0 : ℕ) ∧ (y 0 : ℕ) < 256 * q + 256; omega
  | ⟨1, _⟩ => show 0 ≤ (y 1 : ℕ) ∧ (y 1 : ℕ) < 0 + 1024; omega

theorem cover_carried (c : Dev nD) (fh0 : HbI (F := F) c) (y : S1024x1024.Idx) : ∃ p ∈ carried c fh0, y ∈ p.1.set := by
  have h0 : (y 0 : ℕ) < 1024 := (y 0).isLt
  unfold carried
  rcases (by omega : (y 0 : ℕ) / 256 = 0 ∨ (y 0 : ℕ) / 256 = 1 ∨ (y 0 : ℕ) / 256 = 2 ∨ (y 0 : ℕ) / 256 = 3) with g | g | g | g
  · exact ⟨_, by simp, mem_slab c 0 (by decide) fh0 y g⟩
  · exact ⟨_, by simp, mem_slab c 1 (by decide) fh0 y g⟩
  · exact ⟨_, by simp, mem_slab c 2 (by decide) fh0 y g⟩
  · exact ⟨_, by simp, mem_slab c 3 (by decide) fh0 y g⟩

theorem canon_carried (c : Dev nD) (fh0 : HbI (F := F) c) : View.canon (carried c fh0) = wG c fh0 := by
  funext y
  refine View.canon_apply_of_pieces _ _ (fun p hp x => ?_) y (cover_carried c fh0 y)
  simp only [carried, List.mem_cons, List.not_mem_nil, or_false] at hp
  rcases hp with rfl | rfl | rfl | rfl <;> exact slab_piece c _ _ fh0 x

abbrev first (i : grid0.Coords) : Prop := (Scalar.cmpi .ne (Scalar.extui (Scalar.cmpi .eq (BitVec.ofNat 32 (i 0).val) 0#32)) 0#32 : BitVec 1) = 1#1
abbrev last (i : grid0.Coords) : Prop := (Scalar.cmpi .ne (Scalar.extui (Scalar.cmpi .eq (BitVec.ofNat 32 (i 0).val) 15#32)) 0#32 : BitVec 1) = 1#1

theorem held_ow (c : Dev nD) {s : Shape} {e : EltTy} (r : Memref sig .tc .vmem s e) (h : r.IsWhole) (x : Vec F s e) :
    (r.view.loc (c : Thread nD τ) ↦[r.view.set]{fullShare} h.unread x : sProp 𝕄) ⊢ iprop(∃ f, ⌜r.view.read (Elt F) f = x⌝ ∗ r.view.loc (c : Thread nD τ) ↦[r.view.set]{fullShare} f) := by
  iintro H
  iexists _; isplitr; · ipureintro; exact h.read_unread _
  iexact H

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1x1024 .f32) (harg4 : arg4.IsWhole) (arg5 : Memref sig .tc .vmem S1024x256 .bf16) (harg5 : arg5.IsWhole) (arg7 : Memref sig .tc .vmem S512x1024 .f32) (harg7 : arg7.IsWhole) (arg8 : Memref sig .tc .vmem S1x1024 .f32) (harg8 : arg8.IsWhole) (arg9 : Memref sig .tc .vmem S1024x256 .f32) (harg9 : arg9.IsWhole) (arg11 : Memref sig .tc .vmem S1024x1024 .bf16) (harg11 : arg11.IsWhole) (arg12 : Memref sig .tc .vmem S1024x1024 .f32) (harg12 : arg12.IsWhole) (arg13 : Memref sig .tc .vmem S1024x1024 .bf16) (harg13 : arg13.IsWhole)
  (x d : Vec F S512x1024 .f32) (y : Vec F S512x256 .f32) (g : Vec F S1x1024 .f32) (q : Vec F S1024x256 .bf16) (w : Vec F S1024x1024 .bf16) (og : Vec F S1x1024 .f32) (op : Vec F S1024x256 .f32)

/-- The blocks every point reads. -/
abbrev ins : sProp 𝕄 := iprop(ow c arg1 x ∗ ow c arg2 d ∗ ow c arg3 y ∗ ow c arg4 g ∗ ow c arg5 q)

set_option sl_exec.dmaWindow true in
set_option sl_exec.dmaWindowSet true in
set_option maxHeartbeats 2000000 in
theorem run_A (hc0 : first i) (hc1 : ¬last i) (fh : HbI (F := F) c) (W : Waits sig Unit) (K : PUnit → sProp 𝕄) :
    (iprop(ins c arg1 arg2 arg3 arg4 arg5 x d y g q ∗ (∃ a, ow c arg7 a) ∗ (∃ a, ow c arg8 a) ∗ (∃ a, ow c arg9 a) ∗ (∃ a, ow c arg11 a) ∗ (∃ a, ow c arg12 a) ∗ sv c 12 ∗ sv c 13 ∗ sv c 14 ∗ sv c 15 ∗ hbI c fh ∗ owes (c : Thread nD τ) 0 W
        ∗ (iprop(ins c arg1 arg2 arg3 arg4 arg5 x d y g q ∗ ow c arg7 (oD x d y g q (wG c fh)) ∗ ow c arg8 (oG x d y g q (wG c fh) zG) ∗ ow c arg9 (oP x d y g (wG c fh) zP) ∗ ow c arg11 (wG c fh) ∗ (∃ a, ow c arg12 a) ∗ sv c 12 ∗ sv c 13 ∗ sv c 14 ∗ sv c 15 ∗ hbI c fh ∗ (∃ W', owes (c : Thread nD τ) 0 W')) -∗ K ⟨⟩)) : sProp 𝕄)
      ⊢ wp frame (wpE (defs₀ (F := F)) Variants.none c none) Set.univ (cc0_ple_bwd i arg1 harg1 arg2 harg2 arg3 harg3 arg4 harg4 arg5 harg5 (Memref.whole main_v5) (Memref.isWhole_whole _) arg7 harg7 arg8 harg8 arg9 harg9 (Memref.whole main_v6_3) (Memref.isWhole_whole _) arg11 harg11 arg12 harg12 arg13 harg13 cc0_scratch3 cc0_scratch4) K := by
  unfold cc0_ple_bwd k0_part3 k0_part4 k0_part1
  unfold ins ow owns
  iintro ⟨⟨⟨%f1, %hf1, H1⟩, ⟨%f2, %hf2, H2⟩, ⟨%f3, %hf3, H3⟩, ⟨%f4, %hf4, H4⟩, ⟨%f5, %hf5, H5⟩⟩, ⟨%d7, %f7, -, H7⟩, ⟨%d8, %f8, -, H8⟩, ⟨%d9, %f9, -, H9⟩, ⟨%d11, %f11, -, H11⟩, ⟨%d12, %f12, -, H12⟩, Hq0, Hq1, Hq2, Hq3, Hh, HW, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact hc0 | sl_exact hc1)
  sl_step
  iapply Hk
  iframe Hq0 Hq1 Hq2 Hq3 Hh
  isplitl [H1 H2 H3 H4 H5]
  · isplitl [H1]; · iapply held_ow c arg1 harg1 x; iexact H1
    isplitl [H2]; · iapply held_ow c arg2 harg2 d; iexact H2
    isplitl [H3]; · iapply held_ow c arg3 harg3 y; iexact H3
    isplitl [H4]; · iapply held_ow c arg4 harg4 g; iexact H4
    iapply held_ow c arg5 harg5 q; iexact H5
  isplitl [H7]
  · iexists _; isplitr
    swap; · iexact H7
    ipureintro
    refine (View.read_writes_full arg7.view _ _ _ _).trans ?_
    sl_unfold_words
    simp only [View.readCov_eq_canon', View.readAt_eq_ld, harg1.read_unread, harg2.read_unread, harg3.read_unread, harg4.read_unread, harg5.read_unread, View.ld_unit_zero (S := S512x1024) off2, View.ld_unit_zero (S := S512x256) off2, View.ld_unit_zero (S := S1x1024) off2, View.ld_unit_zero (S := S1024x256) off2, View.ld_unit_zero (S := S1024x1024) off2, View.canon_cons_unit_zero (S := S1x1024) off2, View.canon_cons_unit_zero (S := S1024x256) off2, shapeCast_self]
    have e0 := canon_carried c fh
    simp only [carried, slab] at *
    simp only [e0]
    exact congrArg (fun z : Vec F S1024x1024 .bf16 => oD x d y g q z) (View.ld_unit_zero (S := S1024x1024) off2 inb_S1024x1024_S1024x1024_0_0 (wG c fh))
  isplitl [H8]
  · iexists _; isplitr
    swap; · iexact H8
    ipureintro
    refine (View.read_writes_full arg8.view _ _ _ _).trans ?_
    sl_unfold_words
    simp only [View.readCov_eq_canon', View.readAt_eq_ld, harg1.read_unread, harg2.read_unread, harg3.read_unread, harg4.read_unread, harg5.read_unread, View.ld_unit_zero (S := S512x1024) off2, View.ld_unit_zero (S := S512x256) off2, View.ld_unit_zero (S := S1x1024) off2, View.ld_unit_zero (S := S1024x256) off2, View.ld_unit_zero (S := S1024x1024) off2, View.canon_cons_unit_zero (S := S1x1024) off2, View.canon_cons_unit_zero (S := S1024x256) off2, shapeCast_self]
    have e0 := canon_carried c fh
    simp only [carried, slab] at *
    simp only [e0]
    exact congrArg (fun z : Vec F S1024x1024 .bf16 => oG x d y g q z zG) (View.ld_unit_zero (S := S1024x1024) off2 inb_S1024x1024_S1024x1024_0_0 (wG c fh))
  isplitl [H9]
  · iexists _; isplitr
    swap; · iexact H9
    ipureintro
    refine (View.read_writes_full arg9.view _ _ _ _).trans ?_
    sl_unfold_words
    simp only [View.readCov_eq_canon', View.readAt_eq_ld, harg1.read_unread, harg2.read_unread, harg3.read_unread, harg4.read_unread, harg5.read_unread, View.ld_unit_zero (S := S512x1024) off2, View.ld_unit_zero (S := S512x256) off2, View.ld_unit_zero (S := S1x1024) off2, View.ld_unit_zero (S := S1024x256) off2, View.ld_unit_zero (S := S1024x1024) off2, View.canon_cons_unit_zero (S := S1x1024) off2, View.canon_cons_unit_zero (S := S1024x256) off2, shapeCast_self]
    have e0 := canon_carried c fh
    simp only [carried, slab] at *
    simp only [e0]
    exact congrArg (fun z : Vec F S1024x1024 .bf16 => oP x d y g z zP) (View.ld_unit_zero (S := S1024x1024) off2 inb_S1024x1024_S1024x1024_0_0 (wG c fh))
  isplitl [H11]
  · iexists _; isplitr
    swap; · iexact H11
    ipureintro
    sl_unfold_words
    exact (View.read_writes_of_cover arg11.view _ arg11.view arg11.view.junk (carried c fh) (cover_carried c fh)).trans ((View.read_writes_junk_eq_canon (v := arg11.view) _).trans (canon_carried c fh))
  isplitl [H12]
  · iexists _; iexists _; isplitr
    swap; · iexact H12
    ipureintro; rfl
  iexists _; iexact HW

set_option maxHeartbeats 2000000 in
theorem run_B (hc0 : ¬first i) (hc1 : ¬last i) (W : Waits sig Unit) (K : PUnit → sProp 𝕄) :
    (iprop(ins c arg1 arg2 arg3 arg4 arg5 x d y g q ∗ (∃ a, ow c arg7 a) ∗ ow c arg8 og ∗ ow c arg9 op ∗ ow c arg11 w ∗ (∃ a, ow c arg12 a) ∗ owes (c : Thread nD τ) 0 W
        ∗ (iprop(ins c arg1 arg2 arg3 arg4 arg5 x d y g q ∗ ow c arg7 (oD x d y g q w) ∗ ow c arg8 (oG x d y g q w og) ∗ ow c arg9 (oP x d y g w op) ∗ ow c arg11 w ∗ (∃ a, ow c arg12 a) ∗ (∃ W', owes (c : Thread nD τ) 0 W')) -∗ K ⟨⟩)) : sProp 𝕄)
      ⊢ wp frame (wpE (defs₀ (F := F)) Variants.none c none) Set.univ (cc0_ple_bwd i arg1 harg1 arg2 harg2 arg3 harg3 arg4 harg4 arg5 harg5 (Memref.whole main_v5) (Memref.isWhole_whole _) arg7 harg7 arg8 harg8 arg9 harg9 (Memref.whole main_v6_3) (Memref.isWhole_whole _) arg11 harg11 arg12 harg12 arg13 harg13 cc0_scratch3 cc0_scratch4) K := by
  unfold cc0_ple_bwd k0_part3 k0_part4
  unfold ins ow owns
  iintro ⟨⟨⟨%f1, %hf1, H1⟩, ⟨%f2, %hf2, H2⟩, ⟨%f3, %hf3, H3⟩, ⟨%f4, %hf4, H4⟩, ⟨%f5, %hf5, H5⟩⟩, ⟨%d7, %f7, -, H7⟩, ⟨%f8, %hf8, H8⟩, ⟨%f9, %hf9, H9⟩, ⟨%f11, %hf11, H11⟩, ⟨%d12, %f12, -, H12⟩, HW, Hk⟩
  obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hf9; obtain rfl := harg11.eq_unread hf11
  sl_exec (disch := first | sl_exact hc0 | sl_exact hc1)
  sl_step
  iapply Hk
  isplitl [H1 H2 H3 H4 H5]
  · isplitl [H1]; · iapply held_ow c arg1 harg1 x; iexact H1
    isplitl [H2]; · iapply held_ow c arg2 harg2 d; iexact H2
    isplitl [H3]; · iapply held_ow c arg3 harg3 y; iexact H3
    isplitl [H4]; · iapply held_ow c arg4 harg4 g; iexact H4
    iapply held_ow c arg5 harg5 q; iexact H5
  isplitl [H7]
  · iexists _; isplitr
    swap; · iexact H7
    ipureintro
    refine (View.read_writes_full arg7.view _ _ _ _).trans ?_
    sl_unfold_words
    simp only [View.readCov_eq_canon', View.readAt_eq_ld, harg1.read_unread, harg2.read_unread, harg3.read_unread, harg4.read_unread, harg5.read_unread, harg8.read_unread, harg9.read_unread, harg11.read_unread, View.ld_unit_zero (S := S512x1024) off2, View.ld_unit_zero (S := S512x256) off2, View.ld_unit_zero (S := S1x1024) off2, View.ld_unit_zero (S := S1024x256) off2, View.ld_unit_zero (S := S1024x1024) off2, View.canon_cons_unit_zero (S := S1x1024) off2, View.canon_cons_unit_zero (S := S1024x256) off2, shapeCast_self]
    rfl
  isplitl [H8]
  · iexists _; isplitr
    swap; · iexact H8
    ipureintro
    refine (View.read_writes_full arg8.view _ _ _ _).trans ?_
    sl_unfold_words
    simp only [View.readCov_eq_canon', View.readAt_eq_ld, harg1.read_unread, harg2.read_unread, harg3.read_unread, harg4.read_unread, harg5.read_unread, harg8.read_unread, harg9.read_unread, harg11.read_unread, View.ld_unit_zero (S := S512x1024) off2, View.ld_unit_zero (S := S512x256) off2, View.ld_unit_zero (S := S1x1024) off2, View.ld_unit_zero (S := S1024x256) off2, View.ld_unit_zero (S := S1024x1024) off2, View.canon_cons_unit_zero (S := S1x1024) off2, View.canon_cons_unit_zero (S := S1024x256) off2, shapeCast_self]
    rfl
  isplitl [H9]
  · iexists _; isplitr
    swap; · iexact H9
    ipureintro
    refine (View.read_writes_full arg9.view _ _ _ _).trans ?_
    sl_unfold_words
    simp only [View.readCov_eq_canon', View.readAt_eq_ld, harg1.read_unread, harg2.read_unread, harg3.read_unread, harg4.read_unread, harg5.read_unread, harg8.read_unread, harg9.read_unread, harg11.read_unread, View.ld_unit_zero (S := S512x1024) off2, View.ld_unit_zero (S := S512x256) off2, View.ld_unit_zero (S := S1x1024) off2, View.ld_unit_zero (S := S1024x256) off2, View.ld_unit_zero (S := S1024x1024) off2, View.canon_cons_unit_zero (S := S1x1024) off2, View.canon_cons_unit_zero (S := S1024x256) off2, shapeCast_self]
    rfl
  isplitl [H11]; · iapply held_ow c arg11 harg11 w; iexact H11
  isplitl [H12]
  · iexists _; iexists _; isplitr
    swap; · iexact H12
    ipureintro; rfl
  iexists _; iexact HW

set_option sl_exec.dmaWindow true in
set_option sl_exec.dmaWindowSet true in
set_option maxHeartbeats 2000000 in
theorem run_C (hc0 : ¬first i) (hc1 : last i) (fo : HbO (F := F) c) (W : Waits sig Unit) (K : PUnit → sProp 𝕄) :
    (iprop(ins c arg1 arg2 arg3 arg4 arg5 x d y g q ∗ (∃ a, ow c arg7 a) ∗ ow c arg8 og ∗ ow c arg9 op ∗ ow c arg11 w ∗ (∃ a, ow c arg12 a) ∗ (∃ a, ow c arg13 a) ∗ sv c 16 ∗ sv c 17 ∗ sv c 18 ∗ sv c 19 ∗ hbO c fo ∗ owes (c : Thread nD τ) 0 W
        ∗ (iprop(ins c arg1 arg2 arg3 arg4 arg5 x d y g q ∗ ow c arg7 (oD x d y g q w) ∗ ow c arg8 (oG x d y g q w og) ∗ ow c arg9 (oP x d y g w op) ∗ ow c arg11 w ∗ (∃ a, ow c arg12 a) ∗ (∃ a, ow c arg13 a) ∗ sv c 16 ∗ sv c 17 ∗ sv c 18 ∗ sv c 19 ∗ (∃ f, hbO c f) ∗ (∃ W', owes (c : Thread nD τ) 0 W')) -∗ K ⟨⟩)) : sProp 𝕄)
      ⊢ wp frame (wpE (defs₀ (F := F)) Variants.none c none) Set.univ (cc0_ple_bwd i arg1 harg1 arg2 harg2 arg3 harg3 arg4 harg4 arg5 harg5 (Memref.whole main_v5) (Memref.isWhole_whole _) arg7 harg7 arg8 harg8 arg9 harg9 (Memref.whole main_v6_3) (Memref.isWhole_whole _) arg11 harg11 arg12 harg12 arg13 harg13 cc0_scratch3 cc0_scratch4) K := by
  unfold cc0_ple_bwd k0_part3 k0_part4 k0_part2
  unfold ins ow owns
  iintro ⟨⟨⟨%f1, %hf1, H1⟩, ⟨%f2, %hf2, H2⟩, ⟨%f3, %hf3, H3⟩, ⟨%f4, %hf4, H4⟩, ⟨%f5, %hf5, H5⟩⟩, ⟨%d7, %f7, -, H7⟩, ⟨%f8, %hf8, H8⟩, ⟨%f9, %hf9, H9⟩, ⟨%f11, %hf11, H11⟩, ⟨%d12, %f12, -, H12⟩, ⟨%d13, %f13, -, H13⟩, Hq0, Hq1, Hq2, Hq3, Hh, HW, Hk⟩
  obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hf9; obtain rfl := harg11.eq_unread hf11
  sl_exec (disch := first | sl_exact hc0 | sl_exact hc1)
  sl_step
  iapply Hk
  iframe Hq0 Hq1 Hq2 Hq3
  isplitl [H1 H2 H3 H4 H5]
  · isplitl [H1]; · iapply held_ow c arg1 harg1 x; iexact H1
    isplitl [H2]; · iapply held_ow c arg2 harg2 d; iexact H2
    isplitl [H3]; · iapply held_ow c arg3 harg3 y; iexact H3
    isplitl [H4]; · iapply held_ow c arg4 harg4 g; iexact H4
    iapply held_ow c arg5 harg5 q; iexact H5
  isplitl [H7]
  · iexists _; isplitr
    swap; · iexact H7
    ipureintro
    refine (View.read_writes_full arg7.view _ _ _ _).trans ?_
    sl_unfold_words
    simp only [View.readCov_eq_canon', View.readAt_eq_ld, harg1.read_unread, harg2.read_unread, harg3.read_unread, harg4.read_unread, harg5.read_unread, harg8.read_unread, harg9.read_unread, harg11.read_unread, View.ld_unit_zero (S := S512x1024) off2, View.ld_unit_zero (S := S512x256) off2, View.ld_unit_zero (S := S1x1024) off2, View.ld_unit_zero (S := S1024x256) off2, View.ld_unit_zero (S := S1024x1024) off2, View.canon_cons_unit_zero (S := S1x1024) off2, View.canon_cons_unit_zero (S := S1024x256) off2, shapeCast_self]
    rfl
  isplitl [H8]
  · iexists _; isplitr
    swap; · iexact H8
    ipureintro
    refine (View.read_writes_full arg8.view _ _ _ _).trans ?_
    sl_unfold_words
    simp only [View.readCov_eq_canon', View.readAt_eq_ld, harg1.read_unread, harg2.read_unread, harg3.read_unread, harg4.read_unread, harg5.read_unread, harg8.read_unread, harg9.read_unread, harg11.read_unread, View.ld_unit_zero (S := S512x1024) off2, View.ld_unit_zero (S := S512x256) off2, View.ld_unit_zero (S := S1x1024) off2, View.ld_unit_zero (S := S1024x256) off2, View.ld_unit_zero (S := S1024x1024) off2, View.canon_cons_unit_zero (S := S1x1024) off2, View.canon_cons_unit_zero (S := S1024x256) off2, shapeCast_self]
    rfl
  isplitl [H9]
  · iexists _; isplitr
    swap; · iexact H9
    ipureintro
    refine (View.read_writes_full arg9.view _ _ _ _).trans ?_
    sl_unfold_words
    simp only [View.readCov_eq_canon', View.readAt_eq_ld, harg1.read_unread, harg2.read_unread, harg3.read_unread, harg4.read_unread, harg5.read_unread, harg8.read_unread, harg9.read_unread, harg11.read_unread, View.ld_unit_zero (S := S512x1024) off2, View.ld_unit_zero (S := S512x256) off2, View.ld_unit_zero (S := S1x1024) off2, View.ld_unit_zero (S := S1024x256) off2, View.ld_unit_zero (S := S1024x1024) off2, View.canon_cons_unit_zero (S := S1x1024) off2, View.canon_cons_unit_zero (S := S1024x256) off2, shapeCast_self]
    rfl
  isplitl [H11]; · iapply held_ow c arg11 harg11 w; iexact H11
  isplitl [H12]
  · iexists _; iexists _; isplitr
    swap; · iexact H12
    ipureintro; rfl
  isplitl [H13]
  · iexists _; iexists _; isplitr
    swap; · iexact H13
    ipureintro; rfl
  isplitl [Hh]; · iexists _; iexact Hh
  iexists _; iexact HW

end

end Cert.KernelPlebIdeal.Own

end
-- ==== Proof.PlebFrame.lean ====
/- The frame of the per-layer embedding block's gradient: the sums after each point, the body's obligation, the launch. -/
module

public import proofs.«01_k».proof.Proof.PlebRun
public import Idealize.ShloMosaic.Lib.Pipeline.FrameValue
public import Idealize.ShloMosaic.Lib.Claim

@[expose] public section

set_option maxRecDepth 16384

noncomputable section

namespace Cert.KernelPlebIdeal.Own

open KernelPlebIdeal KernelPlebIdeal.Gen
open Idealize.ShloMosaic
open TcCoe Tactic Cert.Own
open Idealize.SL
open RA BI ProofMode Sem
open BIBase Laws
open Rounds ValueIdx
open Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev scW : Memref sig .tc .vmem S1024x1024 .bf16 := Memref.whole cc0_scratch0
abbrev scA : Memref sig .tc .vmem S1024x1024 .f32 := Memref.whole cc0_scratch1
abbrev scS : Memref sig .tc .vmem S1024x1024 .bf16 := Memref.whole cc0_scratch2

theorem hF : ∀ t : Fin cfg0.N, first (grid0.coords t) ↔ t.val = 0 := (by decide +kernel : ∀ t : Fin grid0.N, first (grid0.coords t) ↔ t.val = 0)
theorem hL : ∀ t : Fin cfg0.N, last (grid0.coords t) ↔ t.val = 15 := (by decide +kernel : ∀ t : Fin grid0.N, last (grid0.coords t) ↔ t.val = 15)

abbrev osem0 : Fin 8 → SemLoc sig := fun j => (![SemLoc.dma 12, SemLoc.dma 13, SemLoc.dma 14, SemLoc.dma 15, SemLoc.dma 16, SemLoc.dma 17, SemLoc.dma 18, SemLoc.dma 19] : Fin 8 → SemLoc sig) j
theorem ownSemFacts0 : Pipeline.OwnSemFacts spec0 osem0 := by decide
abbrev qs (c : Dev nD) : sProp 𝕄 := iprop(sv c 12 ∗ sv c 13 ∗ sv c 14 ∗ sv c 15 ∗ sv c 16 ∗ sv c 17 ∗ sv c 18 ∗ sv c 19)
theorem ownSems_eq (c : Dev nD) :
    (Pipeline.ownSems0 (Ix := Unit) (Name := ℕ) (U := Pipeline.UD sig nD τ) (Lvl := ℕ) (Val := Elt F) (τ := τ) osem0 c : sProp 𝕄) = qs c := by
  rw [Pipeline.ownSems0_eq_of_list c osem0 [0, 1, 2, 3, 4, 5, 6, 7] (by decide) (by decide)]; rfl

/-- The buffer read by copies, and the one written by them. -/
def H0 : Finset (Ref sig .tc) := {main_v5}
def R0 : Finset (Ref sig .tc) := {main_v6_3}
theorem H0_sub : H0 ⊆ Pipeline.restRefs sig spec0 := by decide
theorem R0_sub : R0 ⊆ Pipeline.restRefs sig spec0 \ H0 := by decide

abbrev rest (c : Dev nD) : sProp 𝕄 := iprop((∃ d, ow c scA d) ∗ (∃ d, ow c scS d) ∗ (∃ r, prngReg c r) ∗ qs c ∗ hbI c (V m c main_v5) ∗ (∃ f, hbO c f))

theorem PhiD_eq (c : Dev nD) : (Pipeline.ΦDR osem0 spec0 H0 R0 (V m) c : sProp 𝕄)
    = iprop(((∃ d, ow c scW d) ∗ (∃ d, ow c scA d) ∗ (∃ d, ow c scS d)) ∗ (∃ r, prngReg c r) ∗ qs c ∗ hbI c (V m c main_v5) ∗ (∃ f, hbO c f)) := by
  rw [Pipeline.ΦDR_eq, scopedRest0_eq, ownSems_eq]
  unfold Pipeline.owned
  rw [BI.bigSep_eq_bigSepL_of_eq (S := H0) [main_v5] (by decide) (by decide), BI.bigSep_eq_bigSepL_of_eq (S := R0) [main_v6_3] (by decide) (by decide)]
  simp only [owns_whole]; rfl

/-- The weight as the scratch holds it, the block a point leaves, and the two sums after point `n`. -/
def wP (c : Dev nD) : Vec F S1024x1024 .bf16 := wG c (V m c main_v5)
def pD (c : Dev nD) (t : Fin cfg0.N) : Vec F S512x1024 .f32 := oD (iblk m c 0 t) (iblk m c 1 t) (iblk m c 2 t) (iblk m c 3 t) (iblk m c 4 t) (wP m c)
def aG (c : Dev nD) : (n : ℕ) → n < cfg0.N → Vec F S1x1024 .f32
  | 0, h => oG (iblk m c 0 ⟨0, h⟩) (iblk m c 1 ⟨0, h⟩) (iblk m c 2 ⟨0, h⟩) (iblk m c 3 ⟨0, h⟩) (iblk m c 4 ⟨0, h⟩) (wP m c) zG
  | n + 1, h => oG (iblk m c 0 ⟨n + 1, h⟩) (iblk m c 1 ⟨n + 1, h⟩) (iblk m c 2 ⟨n + 1, h⟩) (iblk m c 3 ⟨n + 1, h⟩) (iblk m c 4 ⟨n + 1, h⟩) (wP m c) (aG c n (Nat.lt_of_succ_lt h))
def aP (c : Dev nD) : (n : ℕ) → n < cfg0.N → Vec F S1024x256 .f32
  | 0, h => oP (iblk m c 0 ⟨0, h⟩) (iblk m c 1 ⟨0, h⟩) (iblk m c 2 ⟨0, h⟩) (iblk m c 3 ⟨0, h⟩) (wP m c) zP
  | n + 1, h => oP (iblk m c 0 ⟨n + 1, h⟩) (iblk m c 1 ⟨n + 1, h⟩) (iblk m c 2 ⟨n + 1, h⟩) (iblk m c 3 ⟨n + 1, h⟩) (wP m c) (aP c n (Nat.lt_of_succ_lt h))

abbrev bG (c : Dev nD) (t : Fin cfg0.N) := aG m c (t.val - 1) (Nat.lt_of_le_of_lt (Nat.sub_le _ _) t.isLt)
abbrev bP (c : Dev nD) (t : Fin cfg0.N) := aP m c (t.val - 1) (Nat.lt_of_le_of_lt (Nat.sub_le _ _) t.isLt)

theorem aG_pos (c : Dev nD) (t : Fin cfg0.N) (h : t.val ≠ 0) : aG m c t.val t.isLt = oG (iblk m c 0 t) (iblk m c 1 t) (iblk m c 2 t) (iblk m c 3 t) (iblk m c 4 t) (wP m c) (bG m c t) := by
  obtain ⟨n, hn⟩ := t
  cases n with
  | zero => exact absurd rfl h
  | succ n => rfl
theorem aP_pos (c : Dev nD) (t : Fin cfg0.N) (h : t.val ≠ 0) : aP m c t.val t.isLt = oP (iblk m c 0 t) (iblk m c 1 t) (iblk m c 2 t) (iblk m c 3 t) (wP m c) (bP m c t) := by
  obtain ⟨n, hn⟩ := t
  cases n with
  | zero => exact absurd rfl h
  | succ n => rfl
theorem aG_zero (c : Dev nD) (t : Fin cfg0.N) (h : t.val = 0) : aG m c t.val t.isLt = oG (iblk m c 0 t) (iblk m c 1 t) (iblk m c 2 t) (iblk m c 3 t) (iblk m c 4 t) (wP m c) zG := by
  obtain ⟨n, hn⟩ := t
  obtain rfl : n = 0 := h
  rfl
theorem aP_zero (c : Dev nD) (t : Fin cfg0.N) (h : t.val = 0) : aP m c t.val t.isLt = oP (iblk m c 0 t) (iblk m c 1 t) (iblk m c 2 t) (iblk m c 3 t) (wP m c) zP := by
  obtain ⟨n, hn⟩ := t
  obtain rfl : n = 0 := h
  rfl

def PhiS (c : Dev nD) : ℕ → sProp 𝕄
  | 0 => Pipeline.ΦDR osem0 spec0 H0 R0 (V m) c
  | _ + 1 => iprop(ow c scW (wP m c) ∗ rest m c)

theorem PhiS_pos (c : Dev nD) (n : ℕ) (hz : n ≠ 0) : PhiS m c n = PhiS m c 1 := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => pD m c t
    | ⟨6, _⟩ => aG m c t.val t.isLt
    | ⟨7, _⟩ => aP m c t.val t.isLt
  Φ t := PhiS m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after5 (c : Dev nD) (t : Fin cfg0.N) : (dats m 0 c).after 5 t = pD m c t := by dsimp only [dats]
theorem after6 (c : Dev nD) (t : Fin cfg0.N) : (dats m 0 c).after 6 t = aG m c t.val t.isLt := by dsimp only [dats]
theorem after7 (c : Dev nD) (t : Fin cfg0.N) : (dats m 0 c).after 7 t = aP m c t.val t.isLt := by dsimp only [dats]
theorem before6 (c : Dev nD) (t : Fin cfg0.N) (h0 : t.val ≠ 0) (d) : (dats m 0 c).before 6 t d = bG m c t := by
  have hN : t.val < 16 := lt_of_lt_of_eq t.isLt (show cfg0.N = 16 from N_0)
  rw [Dat.before_out_kept _ 6 rfl t h0 (Bool.eq_false_iff.mpr fun h => by have := (flush0_6 _).mp h; dsimp only at this; omega)
    (fun _ => rfl) (fun _ _ => rfl)]
  dsimp only [dats]
theorem before7 (c : Dev nD) (t : Fin cfg0.N) (h0 : t.val ≠ 0) (d) : (dats m 0 c).before 7 t d = bP m c t := by
  have hN : t.val < 16 := lt_of_lt_of_eq t.isLt (show cfg0.N = 16 from N_0)
  rw [Dat.before_out_kept _ 7 rfl t h0 (Bool.eq_false_iff.mpr fun h => by have := (flush0_7 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, ow c (st0_0 t) ((dats m 0 c).before 0 t d))
    ∗ (∃ d, ow c (st0_1 t) ((dats m 0 c).before 1 t d))
    ∗ (∃ d, ow c (st0_2 t) ((dats m 0 c).before 2 t d))
    ∗ (∃ d, ow c (st0_3 t) ((dats m 0 c).before 3 t d))
    ∗ (∃ d, ow c (st0_4 t) ((dats m 0 c).before 4 t d))
    ∗ (∃ d, ow c (st0_5 t) ((dats m 0 c).before 5 t d))
    ∗ (∃ d, ow c (st0_6 t) ((dats m 0 c).before 6 t d))
    ∗ (∃ d, ow c (st0_7 t) ((dats m 0 c).before 7 t d)))

def bodyPost (c : Dev nD) (t : Fin cfg0.N) : sProp 𝕄 :=
  iprop((dats m 0 c).Φ t.succ ∗ (dats m 0 c).owesAt () t.succ
    ∗ ow c (st0_0 t) ((dats m 0 c).after 0 t)
    ∗ ow c (st0_1 t) ((dats m 0 c).after 1 t)
    ∗ ow c (st0_2 t) ((dats m 0 c).after 2 t)
    ∗ ow c (st0_3 t) ((dats m 0 c).after 3 t)
    ∗ ow c (st0_4 t) ((dats m 0 c).after 4 t)
    ∗ ow c (st0_5 t) ((dats m 0 c).after 5 t)
    ∗ ow c (st0_6 t) ((dats m 0 c).after 6 t)
    ∗ ow c (st0_7 t) ((dats m 0 c).after 7 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = PhiS m c 1 from rfl, show (dats m 0 c).Φ t.castSucc = PhiS m c t.val from rfl,
    after0, after1, after2, after3, after4, after5, after6, after7]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val = 0
  · rw [aG_zero m c t h0, aP_zero m c t h0, h0, show PhiS m c 0 = _ from PhiD_eq m c]
    unfold PhiS rest qs pD wP
    iintro ⟨⟨⟨HS0, HS1, HS2⟩, Hg, ⟨Hq0, Hq1, Hq2, Hq3, Hp⟩, Hh, Ho⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid0.coords t) _ _ _ _ _ _ _ _ _ _ _ _ _ _ _ _ _ _ _ _ _ _ (iblk m c 0 t) (iblk m c 1 t) (iblk m c 2 t) (iblk m c 3 t) (iblk m c 4 t) ((hF t).mpr h0) (fun h => by have := (hL t).mp h; omega) (V m c main_v5) W _)
    unfold ins
    iframe H0 H1 H2 H3 H4 HS0 HS1 Hq0 Hq1 Hq2 Hq3 Hh HW
    isplitl [H5]; · iexists _; iexact H5
    isplitl [H6]; · iexists _; iexact H6
    isplitl [H7]; · iexists _; iexact H7
    iintro ⟨⟨H0, H1, H2, H3, H4⟩, H5, H6, H7, HS0, HS1, Hq0, Hq1, Hq2, Hq3, Hh, ⟨%W', HW'⟩⟩
    iframe HS0 HS1 HS2 Hg Hq0 Hq1 Hq2 Hq3 Hp Hh Ho H0 H1 H2 H3 H4 H5 H6 H7
    iexists W'; isplitr; · ipureintro; exact fun _ _ => Or.inl trivial
    iexact HW'
  · rw [PhiS_pos m c t.val h0, aG_pos m c t h0, aP_pos m c t h0]
    simp only [before6 m c t h0, before7 m c t h0]
    unfold PhiS rest qs pD
    iintro ⟨⟨HS0, HS1, HS2, Hg, ⟨Hp0, Hp1, Hp2, Hp3, Hq0, Hq1, Hq2, Hq3⟩, Hh, ⟨%fo, Ho⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    by_cases h15 : t.val = 15
    · iapply (run_C c (grid0.coords t) _ _ _ _ _ _ _ _ _ _ _ _ _ _ _ _ _ _ _ _ _ _ (iblk m c 0 t) (iblk m c 1 t) (iblk m c 2 t) (iblk m c 3 t) (iblk m c 4 t) (wP m c) (bG m c t) (bP m c t) (fun h => h0 ((hF t).mp h)) ((hL t).mpr h15) fo W _)
      unfold ins
      iframe H0 H1 H2 H3 H4 H6 H7 HS0 HS1 HS2 Hq0 Hq1 Hq2 Hq3 Ho HW
      isplitl [H5]; · iexists _; iexact H5
      iintro ⟨⟨H0, H1, H2, H3, H4⟩, H5, H6, H7, HS0, HS1, HS2, Hq0, Hq1, Hq2, Hq3, Ho, ⟨%W', HW'⟩⟩
      iframe HS0 HS1 HS2 Hg Hp0 Hp1 Hp2 Hp3 Hq0 Hq1 Hq2 Hq3 Hh Ho H0 H1 H2 H3 H4 H5 H6 H7
      iexists W'; isplitr; · ipureintro; exact fun _ _ => Or.inl trivial
      iexact HW'
    · iapply (run_B c (grid0.coords t) _ _ _ _ _ _ _ _ _ _ _ _ _ _ _ _ _ _ _ _ _ _ (iblk m c 0 t) (iblk m c 1 t) (iblk m c 2 t) (iblk m c 3 t) (iblk m c 4 t) (wP m c) (bG m c t) (bP m c t) (fun h => h0 ((hF t).mp h)) (fun h => h15 ((hL t).mp h)) W _)
      unfold ins
      iframe H0 H1 H2 H3 H4 H6 H7 HS0 HS1 HW
      isplitl [H5]; · iexists _; iexact H5
      iintro ⟨⟨H0, H1, H2, H3, H4⟩, H5, H6, H7, HS0, HS1, ⟨%W', HW'⟩⟩
      iframe HS0 HS1 HS2 Hg Hp0 Hp1 Hp2 Hp3 Hq0 Hq1 Hq2 Hq3 Hh H0 H1 H2 H3 H4 H5 H6 H7
      isplitl [Ho]; · iexists _; iexact Ho
      iexists W'; isplitr; · ipureintro; exact fun _ _ => Or.inl trivial
      iexact HW'

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦDR osem0 spec0 H0 R0 (V m) c ⊢ (dats m 0 c).Φ 0 := by
  rw [show (dats m 0 c).Φ 0 = PhiS m c 0 from rfl]
  unfold PhiS
  exact Idealize.SL.BI.Entails.refl _

theorem hout (c : Dev nD) : (dats m 0 c).Φ (Fin.last cfg0.N) ⊢ Pipeline.ΦDR osem0 spec0 H0 R0 (V m) c := by
  rw [show (dats m 0 c).Φ (Fin.last cfg0.N) = PhiS m c cfg0.N from rfl, PhiS_pos m c _ (by have : cfg0.N = 16 := N_0; omega), PhiD_eq]
  unfold PhiS rest
  iintro ⟨HS0, HS1, HS2, Hr⟩
  iframe HS1 HS2 Hr
  iexists _; iexact HS0

theorem hmainD : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1] (by simp only [List.Forall]; exact ⟨hostOps0_sub, hostOps0_1_sub⟩)
    (by simp only [List.Forall]; exact ⟨hostOps0_fresh, hostOps0_1_fresh⟩) main_chain

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m)
    (hin := hin m) (hout := hout m)

/-- The arguments as they were. -/
abbrev kept (r : (ℓ : Loc nD τ sig) → Buf (Elt F) ℓ) (c : Dev nD) : Prop :=
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)

theorem run_all : θ_run defs (onTc (τ := τ) (main (F := F))) ⟨m, fun _ => 0, ρ⟩ (fun r => (∀ c : Dev nD,
      r.2.mem ((c.tc : Thread nD τ).loc main_v6_0) = (dats m 0 c).arrAt 5 cfg0.N
      ∧ r.2.mem ((c.tc : Thread nD τ).loc main_v6_1) = (dats m 0 c).arrAt 6 cfg0.N
      ∧ r.2.mem ((c.tc : Thread nD τ).loc main_v6_2) = (dats m 0 c).arrAt 7 cfg0.N ∧ kept m r.2.mem c) ∧ r.2.sem = fun _ => 0) :=
  (θ_run defs _ _).mono (fun r h => ⟨fun c => ⟨(h.1 c).1 5, (h.1 c).1 6, (h.1 c).1 7,
      ((h.1 c).1 0).trans ((((dats m 0 c).arrAt_in 0 rfl _).trans (A_eq m c 0)).trans (V_main_arg0 m c)),
      ((h.1 c).1 1).trans ((((dats m 0 c).arrAt_in 1 rfl _).trans (A_eq m c 1)).trans (V_main_arg1 m c)),
      ((h.1 c).1 2).trans ((((dats m 0 c).arrAt_in 2 rfl _).trans (A_eq m c 2)).trans (V_main_arg2 m c)),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

theorem frame : θ_run defs (onTc (τ := τ) (main (F := F))) ⟨m, fun _ => 0, ρ⟩ (fun r => (∀ c : Dev nD, kept m r.2.mem c) ∧ r.2.sem = fun _ => 0) :=
  (θ_run defs _ _).mono (fun r h => ⟨fun c => (h.1 c).2.2.2, h.2⟩) (run_all m ρ)

end Cert.KernelPlebIdeal.Own

end
-- ==== Proof.PlebWords.lean ====
/- The kernel at machine words: its program is the ideal reading's program, so one frame serves both. -/
module

public import proofs.«01_k».proof.Defs
public import proofs.«01_k».proof.Proof.Gen.KernelPleb
public import proofs.«01_k».proof.Proof.PlebFrame

@[expose] public section

noncomputable section

namespace Cert.Proof.Pleb

open Idealize.ShloMosaic Idealize.SL.Sem
set_option maxHeartbeats 0

theorem bodies : KernelPleb.defs₀ (F := Bits) = KernelPlebIdeal.defs₀ (F := Bits) := by
  unfold KernelPleb.defs₀ KernelPlebIdeal.defs₀
  refine congrArg Defs.onTc ?_
  funext l a
  match l, a with
  | 0, (t, s) => rfl

theorem tables : (KernelPleb.defs (F := Bits)) = (KernelPlebIdeal.defs (F := Bits)) :=
  congrArg (Pipeline.defs (KernelPlebIdeal.pcfgs (F := Bits))) bodies

theorem mains : KernelPleb.main (F := Bits) = KernelPlebIdeal.main (F := Bits) := rfl

theorem frame_kernel : Cert.quiescent_KernelPleb := by
  intro m ρ _
  rw [tables, mains]
  exact KernelPlebIdeal.Own.frame (F := Bits) m ρ

end Cert.Proof.Pleb

end
-- ==== Proof.PlebFinite.lean ====
/- The precondition of the per-layer embedding block's gradient: its printed facts, and what it says — every argument is an array of real numbers. -/
module

public import proofs.«01_k».proof.Defs
public import proofs.«01_k».proof.Proof.FfnFinite

@[expose] public section

noncomputable section

namespace Cert.PlebFinite

open Idealize.ShloMosaic Idealize.SL.Sem Pre_finite_pleb FfnReal FfnFinite

instance facts : Pre_finite_pleb.Facts where
  bcast_S_S8192x1024 := by decide
  reducesTo_S8192x1024_S_d0_1 := by decide
  h_S_ := by decide
  bcast_S_S8192x256 := by decide
  reducesTo_S8192x256_S_d0_1 := by decide
  bcast_S_S1024 := by decide
  reducesTo_S1024_S_d0 := by decide
  bcast_S_S1024x1024 := by decide
  reducesTo_S1024x1024_S_d0_1 := by decide
  bcast_S_S256x1024 := by decide
  reducesTo_S256x1024_S_d0_1 := by decide

theorem finite_iff (x0 x1 : FVec Ideal S8192x1024 .f32) (x2 : FVec Ideal S8192x256 .f32) (x3 : FVec Ideal S1024 .f32) (x4 : FVec Ideal S1024x1024 .f32) (x5 : FVec Ideal S256x1024 .f32)
    (h : Pre_finite_pleb.fn (F := Ideal) x0 x1 x2 x3 x4 x5 = fun _ => 1#1) :
    ((((((x0 : S8192x1024.Idx → EReal) = up fun i => EReal.toReal (x0 i))
    ∧ (x1 : S8192x1024.Idx → EReal) = up fun i => EReal.toReal (x1 i))
    ∧ (x2 : S8192x256.Idx → EReal) = up fun i => EReal.toReal (x2 i))
    ∧ (x3 : S1024.Idx → EReal) = up fun i => EReal.toReal (x3 i))
    ∧ (x4 : S1024x1024.Idx → EReal) = up fun i => EReal.toReal (x4 i))
    ∧ (x5 : S256x1024.Idx → EReal) = up fun i => EReal.toReal (x5 i) := by
  have h0 := congrFun h (Shape.Idx.first facts.h_S_)
  haveI : Subsingleton S_.Idx := ⟨fun a b => funext fun k => k.elim0⟩
  unfold Pre_finite_pleb.fn Pre_finite_pleb.fn_part1 at h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨a0, a1⟩ := IntOp.andi_eq_one.1 h0
  exact ⟨⟨⟨⟨⟨up_of_all _ (Host.reduce_andi_all _ _ _ _ _ a0), up_of_all _ (Host.reduce_andi_all _ _ _ _ _ a1)⟩, up_of_all _ (Host.reduce_andi_all _ _ _ _ _ a2)⟩,
    up_of_all _ (Host.reduce_andi_all _ _ _ _ _ a3)⟩, up_of_all _ (Host.reduce_andi_all _ _ _ _ _ a4)⟩, up_of_all _ (Host.reduce_andi_all _ _ _ _ _ a5)⟩

end Cert.PlebFinite

end
-- ==== Proof.PlebRef.lean ====
/- The reference of the per-layer embedding block's gradient at finite arguments: each of its operations' elements is the
   real number the gradient has there, in program order. -/
module

public import proofs.«01_k».proof.Proof.InReal
public import proofs.«01_k».proof.Proof.Gen.ReferencePlebIdeal.Read

@[expose] public section

noncomputable section

namespace Cert.PlebRef

open ReferencePlebIdeal ReferencePlebIdeal.Read RealRow FfnReal InReal Idealize.ShloMosaic Idealize.ShloMosaic.ValueIdx
open scoped BigOperators

section
variable (x d : Fin 1024 → ℝ) (y : Fin 256 → ℝ) (g : Fin 1024 → ℝ) (w : Fin 1024 → Fin 1024 → ℝ) (q : Fin 256 → Fin 1024 → ℝ) (j : Fin 1024)
/-- The gate, the embedding's projection, and the gradients at the gate's argument and at the normed row. -/
def sP : ℝ := sig (∑ k, nn x g k * w k j)
def pe : ℝ := ∑ k, y k * q k j
def dq : ℝ := d j * pe y q j * sP x g w j * (1 - sP x g w j)
def dn : ℝ := ∑ k, dq x d y g w q k * w j k

theorem dn_vjp : ∑ k, d k * pe y q k * (sP x g w k * (1 - sP x g w k)) * w j k = dn x d y g w q j :=
  Finset.sum_congr rfl fun k _ => by unfold dq; ring
end

variable (X D : S8192x1024.Idx → ℝ) (Y : S8192x256.Idx → ℝ) (G : S1024.Idx → ℝ) (W : S1024x1024.Idx → ℝ) (Q : S256x1024.Idx → ℝ)

theorem r_v6 (i : S8192x1.Idx) : val_main_v6 (F := Ideal) (up X) i = ((ms (at2 X (i 0)) + eps : ℝ) : EReal) :=
  (val_main_v6_apply _ i).trans (addR ((val_main_v4_apply _ i).trans (hdivR (by norm_num) ((val_main_v2_apply _ i).trans ((val_main_v1_apply _ _).trans (sum0R ((val_main_cst_apply _).trans zero_f32) fun k => (val_main_v0_apply _ _).trans (mulR (up2 X _) (up2 X _))))) ((val_main_v3_apply i).trans ((val_main_cst_0_apply _).trans thousand_f32)))) ((val_main_v5_apply i).trans ((val_main_cst_1_apply _).trans eps_f32)))

theorem r_v7 (i : S8192x1.Idx) : val_main_v7 (F := Ideal) (up X) i = ((rr (at2 X (i 0)) : ℝ) : EReal) :=
  (val_main_v7_apply _ i).trans (hrsqrtR (ms_eps_pos _) (r_v6 X i))

theorem r_v10 (i : S8192x1.Idx) : val_main_v10 (F := Ideal) (up X) i = (((-(1 / 2) * (rr (at2 X (i 0)) / (ms (at2 X (i 0)) + eps))) : ℝ) : EReal) :=
  (val_main_v10_apply _ i).trans (mulR ((val_main_v9_apply i).trans ((val_main_cst_2_apply _).trans neg_half_f32)) ((val_main_v8_apply _ i).trans (hdivR (ms_eps_pos _).ne' (r_v7 X i) (r_v6 X i))))

theorem r_v12 (i : S8192x1024.Idx) : val_main_v12 (F := Ideal) (up X) i = ((xh (at2 X (i 0)) (i 1) : ℝ) : EReal) :=
  (val_main_v12_apply _ i).trans (mulR (up2 X i) ((val_main_v11_apply _ i).trans (r_v7 X _)))

theorem r_v15 (i : S8192x1024.Idx) : val_main_v15 (F := Ideal) (up X) (up G) i = ((nn (at2 X (i 0)) (at1 G) (i 1) : ℝ) : EReal) :=
  (val_main_v15_apply _ _ i).trans (mulR (r_v12 X i) ((val_main_v14_apply _ i).trans ((val_main_v13_apply _ _).trans (up1 G _))))

theorem r_v22 (i : S8192x1024.Idx) : val_main_v22 (F := Ideal) (up X) (up G) (up W) i = ((sP (at2 X (i 0)) (at1 G) (at2 W) (i 1) : ℝ) : EReal) :=
  (val_main_v22_apply _ _ _ i).trans (hdivR (one_add_exp_ne _) ((val_main_v21_apply i).trans ((val_main_cst_4_apply _).trans one_f32)) ((val_main_v20_apply _ _ _ i).trans (addR ((val_main_v19_apply i).trans ((val_main_cst_3_apply _).trans one_f32)) ((val_main_v18_apply _ _ _ i).trans (hexpR ((val_main_v17_apply _ _ _ i).trans (hnegR ((val_main_v16_apply _ _ _ i).trans (dotR (fun k => r_v15 X G _) fun k => up2 W _)))))))))

theorem r_v25 (i : S8192x1024.Idx) : val_main_v25 (F := Ideal) (up X) (up G) (up W) i = ((sP (at2 X (i 0)) (at1 G) (at2 W) (i 1) * (1 - sP (at2 X (i 0)) (at1 G) (at2 W) (i 1)) : ℝ) : EReal) :=
  (val_main_v25_apply _ _ _ i).trans (mulR (r_v22 X G W i) ((val_main_v24_apply _ _ _ i).trans (subR ((val_main_v23_apply i).trans ((val_main_cst_5_apply _).trans one_f32)) (r_v22 X G W i))))

theorem idx29 (i : S8192x1024.Idx) : idx_main_v29 i = i := by
  have h0 : (i 0).val < 8192 := (i 0).isLt
  have h1 : (i 1).val < 1024 := (i 1).isLt
  funext a
  match a with
  | ⟨0, _⟩ => exact Fin.ext (show ((i 0).val * 1024 + (i 1).val) / 1024 = (i 0).val by omega)
  | ⟨1, _⟩ => exact Fin.ext (show ((i 0).val * 1024 + (i 1).val) % 1024 = (i 1).val by omega)

theorem r_v29 (i : S8192x1024.Idx) : val_main_v29 (F := Ideal) (up D) i = ((at2 D (i 0) (i 1) : ℝ) : EReal) :=
  (val_main_v29_apply _ i).trans ((congrArg (up D) (idx29 i)).trans (up2 D i))

theorem r_v30 (i : S8192x1024.Idx) : val_main_v30 (F := Ideal) (up X) (up D) (up G) (up W) i = ((sP (at2 X (i 0)) (at1 G) (at2 W) (i 1) * at2 D (i 0) (i 1) : ℝ) : EReal) :=
  (val_main_v30_apply _ _ _ _ i).trans (mulR (r_v22 X G W i) (r_v29 D i))

theorem r_v32 (i : S1024x256.Idx) : val_main_v32 (F := Ideal) (up X) (up D) (up Y) (up G) (up W) i = ((∑ t, sP (at2 X t) (at1 G) (at2 W) (i 0) * at2 D t (i 0) * at2 Y t (i 1) : ℝ) : EReal) :=
  (val_main_v32_apply _ _ _ _ _ i).trans (dotR (fun k => r_v30 X D G W _) fun k => up2 Y _)

theorem r_v58 (i : S1024x256.Idx) : val_main_v58 (F := Ideal) (up X) (up D) (up Y) (up G) (up W) i = ((∑ t, sP (at2 X t) (at1 G) (at2 W) (i 0) * at2 D t (i 0) * at2 Y t (i 1) : ℝ) : EReal) :=
  (val_main_v58_apply _ _ _ _ _ i).trans ((val_main_v33_apply _ _ _ _ _ _).trans (r_v32 X D Y G W _))

theorem r_v34 (i : S8192x1024.Idx) : val_main_v34 (F := Ideal) (up X) (up D) (up Y) (up G) (up W) (up Q) i = ((at2 D (i 0) (i 1) * pe (at2 Y (i 0)) (at2 Q) (i 1) * (sP (at2 X (i 0)) (at1 G) (at2 W) (i 1) * (1 - sP (at2 X (i 0)) (at1 G) (at2 W) (i 1))) : ℝ) : EReal) :=
  (val_main_v34_apply _ _ _ _ _ _ i).trans (mulR ((val_main_v31_apply _ _ _ i).trans (mulR (r_v29 D i) ((val_main_v26_apply _ _ i).trans (dotR (fun k => up2 Y _) fun k => up2 Q _)))) (r_v25 X G W i))

theorem r_v35 (i : S8192x1024.Idx) : val_main_v35 (F := Ideal) (up X) (up D) (up Y) (up G) (up W) (up Q) i = (((dn (at2 X (i 0)) (at2 D (i 0)) (at2 Y (i 0)) (at1 G) (at2 W) (at2 Q)) (i 1) : ℝ) : EReal) :=
  (val_main_v35_apply _ _ _ _ _ _ i).trans ((dotR (fun k => (r_v34 X D Y G W Q _)) fun k => up2 W _).trans (congrArg _ (dn_vjp ..)))

theorem r_v37 (i : S1024.Idx) : val_main_v37 (F := Ideal) (up X) (up D) (up Y) (up G) (up W) (up Q) i = ((∑ t, xh (at2 X t) (i 0) * dn (at2 X t) (at2 D t) (at2 Y t) (at1 G) (at2 W) (at2 Q) (i 0) : ℝ) : EReal) :=
  (val_main_v37_apply _ _ _ _ _ _ i).trans (sum0R ((val_main_cst_6_apply _).trans zero_f32) fun k => ((val_main_v36_apply _ _ _ _ _ _ _).trans (mulR (r_v12 X _) (r_v35 X D Y G W Q _))))

theorem idx38 (i : S1x1024.Idx) : idx_main_v38 i = ix1 (i 1) := by
  have h0 : (i 0).val < 1 := (i 0).isLt
  funext a
  match a with
  | ⟨0, _⟩ => exact Fin.ext (show (i 0).val * 1024 + (i 1).val = (i 1).val by omega)

theorem r_v38 (i : S1x1024.Idx) : val_main_v38 (F := Ideal) (up X) (up D) (up Y) (up G) (up W) (up Q) i = ((∑ t, xh (at2 X t) (i 1) * dn (at2 X t) (at2 D t) (at2 Y t) (at1 G) (at2 W) (at2 Q) (i 1) : ℝ) : EReal) :=
  (val_main_v38_apply _ _ _ _ _ _ i).trans ((congrArg (val_main_v37 (F := Ideal) (up X) (up D) (up Y) (up G) (up W) (up Q)) (idx38 i)).trans (r_v37 X D Y G W Q (ix1 (i 1))))

theorem r_v57 (i : S1x1024.Idx) : val_main_v57 (F := Ideal) (up X) (up D) (up Y) (up G) (up W) (up Q) i = ((∑ t, xh (at2 X t) (i 1) * dn (at2 X t) (at2 D t) (at2 Y t) (at1 G) (at2 W) (at2 Q) (i 1) : ℝ) : EReal) :=
  (val_main_v57_apply _ _ _ _ _ _ i).trans ((val_main_v41_apply _ _ _ _ _ _ _).trans ((sum0R ((val_main_cst_7_apply _).trans zero_f32) fun k => (r_v38 X D Y G W Q _)).trans (congrArg _ (Fin.sum_univ_one _))))

theorem r_v40 (i : S8192x1024.Idx) : val_main_v40 (F := Ideal) (up X) (up D) (up Y) (up G) (up W) (up Q) i = (((dn (at2 X (i 0)) (at2 D (i 0)) (at2 Y (i 0)) (at1 G) (at2 W) (at2 Q)) (i 1) * at1 G (i 1) : ℝ) : EReal) :=
  (val_main_v40_apply _ _ _ _ _ _ i).trans (mulR (r_v35 X D Y G W Q i) ((val_main_v39_apply _ i).trans ((val_main_v13_apply _ _).trans (up1 G _))))

theorem r_v43 (i : S8192.Idx) : val_main_v43 (F := Ideal) (up X) (up D) (up Y) (up G) (up W) (up Q) i = (((∑ k, at2 X (i 0) k * ((dn (at2 X (i 0)) (at2 D (i 0)) (at2 Y (i 0)) (at1 G) (at2 W) (at2 Q)) k * at1 G k)) : ℝ) : EReal) :=
  (val_main_v43_apply _ _ _ _ _ _ i).trans (sum0R ((val_main_cst_8_apply _).trans zero_f32) fun k => ((val_main_v42_apply _ _ _ _ _ _ _).trans (mulR (up2 X _) (r_v40 X D Y G W Q _))))

theorem idx44 (i : S8192x1.Idx) : idx_main_v44 i = ix1 (i 0) := by
  have h1 : (i 1).val < 1 := (i 1).isLt
  funext a
  match a with
  | ⟨0, _⟩ => exact Fin.ext (show (i 0).val * 1 + (i 1).val = (i 0).val by omega)

theorem r_v44 (i : S8192x1.Idx) : val_main_v44 (F := Ideal) (up X) (up D) (up Y) (up G) (up W) (up Q) i = (((∑ k, at2 X (i 0) k * ((dn (at2 X (i 0)) (at2 D (i 0)) (at2 Y (i 0)) (at1 G) (at2 W) (at2 Q)) k * at1 G k)) : ℝ) : EReal) :=
  (val_main_v44_apply _ _ _ _ _ _ i).trans ((congrArg (val_main_v43 (F := Ideal) (up X) (up D) (up Y) (up G) (up W) (up Q)) (idx44 i)).trans (r_v43 X D Y G W Q (ix1 (i 0))))

theorem r_v51 (i : S8192.Idx) : val_main_v51 (F := Ideal) (up X) (up D) (up Y) (up G) (up W) (up Q) i = (((∑ k, at2 X (i 0) k * ((dn (at2 X (i 0)) (at2 D (i 0)) (at2 Y (i 0)) (at1 G) (at2 W) (at2 Q)) k * at1 G k)) * (-(1 / 2) * (rr (at2 X (i 0)) / (ms (at2 X (i 0)) + eps))) / 1024 : ℝ) : EReal) :=
  (val_main_v51_apply _ _ _ _ _ _ i).trans ((sum0R ((val_main_cst_10_apply _).trans zero_f32) fun k => ((val_main_v50_apply _ _ _ _ _ _ _).trans (hdivR (by norm_num) ((val_main_v48_apply _ _ _ _ _ _ _).trans (mulR (r_v44 X D Y G W Q _) (r_v10 X _))) ((val_main_v49_apply _).trans ((val_main_cst_9_apply _).trans thousand_f32))))).trans (congrArg _ (Fin.sum_univ_one _)))

theorem r_v52 (i : S8192x1024.Idx) : val_main_v52 (F := Ideal) (up X) (up D) (up Y) (up G) (up W) (up Q) i = (((∑ k, at2 X (i 0) k * ((dn (at2 X (i 0)) (at2 D (i 0)) (at2 Y (i 0)) (at1 G) (at2 W) (at2 Q)) k * at1 G k)) * (-(1 / 2) * (rr (at2 X (i 0)) / (ms (at2 X (i 0)) + eps))) / 1024 : ℝ) : EReal) :=
  (val_main_v52_apply _ _ _ _ _ _ i).trans (r_v51 X D Y G W Q _)

theorem r_v56 (i : S8192x1024.Idx) : val_main_v56 (F := Ideal) (up X) (up D) (up Y) (up G) (up W) (up Q) i = ((gh (at2 X (i 0)) (at2 D (i 0)) (at1 G) (dn (at2 X (i 0)) (at2 D (i 0)) (at2 Y (i 0)) (at1 G) (at2 W) (at2 Q)) (i 1) : ℝ) : EReal) :=
  (val_main_v56_apply _ _ _ _ _ _ i).trans ((addR ((val_main_v54_apply _ _ _ _ _ _ i).trans (addR ((val_main_v47_apply _ _ _ _ _ _ i).trans (addR (up2 D i) ((val_main_v46_apply _ _ _ _ _ _ i).trans (mulR (r_v40 X D Y G W Q i) ((val_main_v45_apply _ i).trans (r_v7 X _)))))) ((val_main_v53_apply _ _ _ _ _ _ i).trans (mulR (up2 X i) (r_v52 X D Y G W Q i))))) ((val_main_v55_apply _ _ _ _ _ _ i).trans (mulR (r_v52 X D Y G W Q i) (up2 X i)))).trans (congrArg _ (gh_vjp ..)))

end Cert.PlebRef

end
-- ==== Proof.PlebValue.lean ====
/- The arrays the per-layer embedding block's gradient leaves, at finite arguments, are the reference's: what the host packs,
   each window's block, the body on finite blocks, and the sums over all blocks. -/
module

public import proofs.«01_k».proof.Proof.PlebFrame
public import proofs.«01_k».proof.Proof.PlebRef
public import proofs.«01_k».proof.Proof.RealMat
public import Idealize.ShloMosaic.Lib.Pipeline.Value
public import Idealize.ShloMosaic.Lib.KernelVsHost
public import Idealize.ShloMosaic.Lib.StableHlo.Run
import Idealize.ShloMosaic.Lib.Pointwise.Contract

@[expose] public section

set_option maxRecDepth 16384

noncomputable section

namespace Cert.KernelPlebIdeal.Own

open Idealize.ShloMosaic hiding ix1 ix2 ix3 eq_ix2
open KernelPlebIdeal KernelPlebIdeal.Gen Idealize.ShloMosaic.TcCoe Idealize.SL.Sem Idealize.ShloMosaic.ValueIdx
open Pipeline (Dat)

section
variable {F : FTy → Type} [FloatOps F]
variable (m : (ℓ : Loc nD τ sig) → Buf (Elt F) ℓ) (ρ : Dev nD → PrngReg) (c : Dev nD)

theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_v6_2) = (dats m 0 c).arrAt 7 cfg0.N
      ∧ kept m r.2.mem c :=
  (θ_run defs _ _).mono (fun _ h => h.1) (run_all m ρ)

theorem index0 : ∀ t : Fin cfg0.N, win0_0.index t 0 = t.val ∧ win0_0.index t 1 = 0 := (by decide +kernel : ∀ t : Fin grid0.N, win0_0.index t 0 = t.val ∧ win0_0.index t 1 = 0)
theorem index1 : ∀ t : Fin cfg0.N, win0_1.index t 0 = t.val ∧ win0_1.index t 1 = 0 := (by decide +kernel : ∀ t : Fin grid0.N, win0_1.index t 0 = t.val ∧ win0_1.index t 1 = 0)
theorem index2 : ∀ t : Fin cfg0.N, win0_2.index t 0 = t.val ∧ win0_2.index t 1 = 0 := (by decide +kernel : ∀ t : Fin grid0.N, win0_2.index t 0 = t.val ∧ win0_2.index t 1 = 0)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = 0 ∧ win0_4.index t 1 = 0 := (by decide +kernel : ∀ t : Fin grid0.N, win0_4.index t 0 = 0 ∧ win0_4.index t 1 = 0)
theorem index5 : ∀ t : Fin cfg0.N, win0_5.index t 0 = t.val ∧ win0_5.index t 1 = 0 := (by decide +kernel : ∀ t : Fin grid0.N, win0_5.index t 0 = t.val ∧ win0_5.index t 1 = 0)
theorem index6 : ∀ t : Fin cfg0.N, win0_6.index t 0 = 0 ∧ win0_6.index t 1 = 0 := (by decide +kernel : ∀ t : Fin grid0.N, win0_6.index t 0 = 0 ∧ win0_6.index t 1 = 0)
theorem index7 : ∀ t : Fin cfg0.N, win0_7.index t 0 = 0 ∧ win0_7.index t 1 = 0 := (by decide +kernel : ∀ t : Fin grid0.N, win0_7.index t 0 = 0 ∧ win0_7.index t 1 = 0)

theorem blk0 (t : Fin cfg0.N) (p : Fin 512) (j : Fin 1024) (q : Fin 8192) (hq : (q : ℕ) = 512 * t.val + p.val):
    (iblk m c 0 t : S512x1024.Idx → _) (ix2 p j) = (V m c main_arg0 : S8192x1024.Idx → _) (ix2 q j) := by
  unfold iblk
  rw [View.read_apply]
  refine congrArg (V m c main_arg0 : S8192x1024.Idx → _) (funext fun a => Fin.ext ?_)
  match a with
  | ⟨0, _⟩ => show win0_0.index t 0 * 512 + 1 * p.val = q.val; rw [(index0 t).1]; omega
  | ⟨1, _⟩ => show win0_0.index t 1 * 1024 + 1 * j.val = j.val; rw [(index0 t).2]; omega

theorem blk1 (t : Fin cfg0.N) (p : Fin 512) (j : Fin 1024) (q : Fin 8192) (hq : (q : ℕ) = 512 * t.val + p.val):
    (iblk m c 1 t : S512x1024.Idx → _) (ix2 p j) = (V m c main_arg1 : S8192x1024.Idx → _) (ix2 q j) := by
  unfold iblk
  rw [View.read_apply]
  refine congrArg (V m c main_arg1 : S8192x1024.Idx → _) (funext fun a => Fin.ext ?_)
  match a with
  | ⟨0, _⟩ => show win0_1.index t 0 * 512 + 1 * p.val = q.val; rw [(index1 t).1]; omega
  | ⟨1, _⟩ => show win0_1.index t 1 * 1024 + 1 * j.val = j.val; rw [(index1 t).2]; omega

theorem blk2 (t : Fin cfg0.N) (p : Fin 512) (j : Fin 256) (q : Fin 8192) (hq : (q : ℕ) = 512 * t.val + p.val):
    (iblk m c 2 t : S512x256.Idx → _) (ix2 p j) = (V m c main_arg2 : S8192x256.Idx → _) (ix2 q j) := by
  unfold iblk
  rw [View.read_apply]
  refine congrArg (V m c main_arg2 : S8192x256.Idx → _) (funext fun a => Fin.ext ?_)
  match a with
  | ⟨0, _⟩ => show win0_2.index t 0 * 512 + 1 * p.val = q.val; rw [(index2 t).1]; omega
  | ⟨1, _⟩ => show win0_2.index t 1 * 256 + 1 * j.val = j.val; rw [(index2 t).2]; omega

theorem blk3 (t : Fin cfg0.N) (p : Fin 1) (j : Fin 1024) :
    (iblk m c 3 t : S1x1024.Idx → _) (ix2 p j) = (V m c main_v0 : S1x1024.Idx → _) (ix2 p j) := by
  unfold iblk
  rw [View.read_apply]
  refine congrArg (V m c main_v0 : S1x1024.Idx → _) (funext fun a => Fin.ext ?_)
  match a with
  | ⟨0, _⟩ => show win0_3.index t 0 * 1 + 1 * p.val = p.val; rw [(index3 t).1]; omega
  | ⟨1, _⟩ => show win0_3.index t 1 * 1024 + 1 * j.val = j.val; rw [(index3 t).2]; omega

theorem blk4 (t : Fin cfg0.N) (p : Fin 1024) (j : Fin 256) :
    (iblk m c 4 t : S1024x256.Idx → _) (ix2 p j) = (V m c main_v2 : S1024x256.Idx → _) (ix2 p j) := by
  unfold iblk
  rw [View.read_apply]
  refine congrArg (V m c main_v2 : S1024x256.Idx → _) (funext fun a => Fin.ext ?_)
  match a with
  | ⟨0, _⟩ => show win0_4.index t 0 * 1024 + 1 * p.val = p.val; rw [(index4 t).1]; omega
  | ⟨1, _⟩ => show win0_4.index t 1 * 256 + 1 * j.val = j.val; rw [(index4 t).2]; omega

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun (h : win0_5.index t = win0_5.index t') => hne (Fin.ext ((index5 t).1.symm.trans ((congrFun h 0).trans (index5 t').1)))

theorem cut5 (t : Fin cfg0.N) (X : Vec F S512x1024 .f32) (p : Fin 512) (j : Fin 1024) :
    ((cfg0.win 5).cut (grid0.coords t) X : S512x1024.Idx → _) (ix2 p j) = X (ix2 p j) := rfl

theorem arr5 (t : Fin cfg0.N) (p : Fin 512) (j : Fin 1024) (q : Fin 8192) (hq : (q : ℕ) = 512 * t.val + p.val) :
    ((dats m 0 c).arrAt 5 cfg0.N : S8192x1024.Idx → _) (ix2 q j) = pD m c t (ix2 p j) := by
  have h := congrFun ((dats m 0 c).read_blk_arrAt_eq_flushed 5 disjoint5 cfg0.N t t.isLt (flush0_5 t)) (ix2 p j)
  rw [show (dats m 0 c).flushed 5 t = (cfg0.win 5).cut (grid0.coords t) (pD m c t) by
    show (cfg0.win 5).cut (grid0.coords t) ((dats m 0 c).after 5 t) = _
    rw [after5]] at h
  refine Eq.trans ?_ (h.trans (cut5 t _ p j))
  rw [View.read_apply]
  refine congrArg ((dats m 0 c).arrAt 5 cfg0.N : S8192x1024.Idx → _) (funext fun a => Fin.ext ?_)
  match a with
  | ⟨0, _⟩ => show q.val = win0_5.index t 0 * 512 + 1 * p.val; rw [(index5 t).1]; omega
  | ⟨1, _⟩ => show j.val = win0_5.index t 1 * 1024 + 1 * j.val; rw [(index5 t).2]; omega

theorem lt15 : 15 < cfg0.N := by rw [show cfg0.N = 16 from N_0]; decide
abbrev t15 : Fin cfg0.N := ⟨15, lt15⟩

theorem arr6 : ((dats m 0 c).arrAt 6 cfg0.N : S1x1024.Idx → _) = aG m c 15 lt15 := by
  have hN : cfg0.N = 16 := N_0
  refine (dats m 0 c).arrAt_eq_of_cover 6 (aG m c 15 lt15) (fun t hf => ?_) fun i => ⟨t15, (flush0_6 _).mpr rfl, ?_⟩
  · have h15 : t.val = 15 := by have := (flush0_6 t).mp hf; have := t.isLt; omega
    obtain rfl : t = t15 := Fin.ext h15
    rw [show (dats m 0 c).flushed 6 t15 = (cfg0.win 6).cut (grid0.coords t15) (aG m c 15 lt15) by
      show (cfg0.win 6).cut (grid0.coords t15) ((dats m 0 c).after 6 t15) = _
      rw [after6]]
    have hz' : (fun a => win0_6.index t15 a * main_v6_1.ty.shape.size a) = fun _ => 0 := funext fun a => by
      match a with
      | ⟨0, _⟩ => show win0_6.index t15 0 * _ = 0; rw [(index6 t15).1, Nat.zero_mul]
      | ⟨1, _⟩ => show win0_6.index t15 1 * _ = 0; rw [(index6 t15).2, Nat.zero_mul]
    exact (Memref.read_access_unit_zero (Elt F) main_v6_1 hz' (fun a => by rw [congrFun hz' a]; simp) (aG m c 15 _)).symm
  · show i ∈ ((View.whole main_v6_1).slice (win0_6.rect t15)).set
    rw [View.set_slice_whole, Rect.mem_set_unit]
    intro a
    have h0 : (i 0 : Nat) < 1 := (i 0).isLt
    have h1 : (i 1 : Nat) < 1024 := (i 1).isLt
    match a with
    | ⟨0, _⟩ => show win0_6.index t15 0 * 1 ≤ (i 0 : Nat) ∧ (i 0 : Nat) < win0_6.index t15 0 * 1 + 1; rw [(index6 t15).1]; omega
    | ⟨1, _⟩ => show win0_6.index t15 1 * 1024 ≤ (i 1 : Nat) ∧ (i 1 : Nat) < win0_6.index t15 1 * 1024 + 1024; rw [(index6 t15).2]; omega

theorem arr7 : ((dats m 0 c).arrAt 7 cfg0.N : S1024x256.Idx → _) = aP m c 15 lt15 := by
  have hN : cfg0.N = 16 := N_0
  refine (dats m 0 c).arrAt_eq_of_cover 7 (aP m c 15 lt15) (fun t hf => ?_) fun i => ⟨t15, (flush0_7 _).mpr rfl, ?_⟩
  · have h15 : t.val = 15 := by have := (flush0_7 t).mp hf; have := t.isLt; omega
    obtain rfl : t = t15 := Fin.ext h15
    rw [show (dats m 0 c).flushed 7 t15 = (cfg0.win 7).cut (grid0.coords t15) (aP m c 15 lt15) by
      show (cfg0.win 7).cut (grid0.coords t15) ((dats m 0 c).after 7 t15) = _
      rw [after7]]
    have hz' : (fun a => win0_7.index t15 a * main_v6_2.ty.shape.size a) = fun _ => 0 := funext fun a => by
      match a with
      | ⟨0, _⟩ => show win0_7.index t15 0 * _ = 0; rw [(index7 t15).1, Nat.zero_mul]
      | ⟨1, _⟩ => show win0_7.index t15 1 * _ = 0; rw [(index7 t15).2, Nat.zero_mul]
    exact (Memref.read_access_unit_zero (Elt F) main_v6_2 hz' (fun a => by rw [congrFun hz' a]; simp) (aP m c 15 _)).symm
  · show i ∈ ((View.whole main_v6_2).slice (win0_7.rect t15)).set
    rw [View.set_slice_whole, Rect.mem_set_unit]
    intro a
    have h0 : (i 0 : Nat) < 1024 := (i 0).isLt
    have h1 : (i 1 : Nat) < 256 := (i 1).isLt
    match a with
    | ⟨0, _⟩ => show win0_7.index t15 0 * 1024 ≤ (i 0 : Nat) ∧ (i 0 : Nat) < win0_7.index t15 0 * 1024 + 1024; rw [(index7 t15).1]; omega
    | ⟨1, _⟩ => show win0_7.index t15 1 * 256 ≤ (i 1 : Nat) ∧ (i 1 : Nat) < win0_7.index t15 1 * 256 + 256; rw [(index7 t15).2]; omega
end

end Cert.KernelPlebIdeal.Own

namespace Cert.KernelPlebIdeal.Own

open Idealize.ShloMosaic hiding ix1 ix2 ix3 eq_ix2
open KernelPlebIdeal KernelPlebIdeal.Gen Idealize.ShloMosaic.TcCoe Idealize.SL.Sem Idealize.ShloMosaic.ValueIdx RealRow RealMat FfnReal InReal PlebRef
open scoped BigOperators

section
variable {x d : FVec Ideal S512x1024 .f32} {y : FVec Ideal S512x256 .f32} {gv : FVec Ideal S1x1024 .f32} {q : FVec Ideal S1024x256 .bf16} {w : FVec Ideal S1024x1024 .bf16}
  {X D : Fin 512 → Fin 1024 → ℝ} {Y : Fin 512 → Fin 256 → ℝ} {G : Fin 1024 → ℝ} {Q : Fin 256 → Fin 1024 → ℝ} {W : Fin 1024 → Fin 1024 → ℝ}
  (hx : R2 x X) (hd : R2 d D) (hy : R2 y Y) (hg : R2 gv fun _ j => G j) (hq : R2 q fun j k => Q k j) (hw : R2 w W)

include hx in
theorem frR : R2 (fr (F := Ideal) x) (fun p _ => rr (X p)) :=
  ((((hx.mul hx).rowSum _ _ _ _ _).div (R2.const thousand_f32) fun _ _ => by norm_num).add (R2.const eps_f32)).rsqrt fun p _ => ms_eps_pos (X p)

include hx in
theorem fxR : R2 (fx (F := Ideal) x) (fun p j => xh (X p) j) := hx.mul ((frR hx).col _)

include hx hg hw in
theorem fsR : R2 (fs (F := Ideal) x gv w) (fun p j => sP (X p) G W j) :=
  (((R2.const half_f32).mul ((R2.const half_f32).mul ((((fxR hx).mul (hg.row _)).trunc _).nn hw R2.zero _ _ rfl)).tanh).add (R2.const half_f32)).congr fun p j => sig_tanh _

include hx hd hy hg hq hw in
theorem fdR : R2 (fd (F := Ideal) x d y gv q w) (fun p j => dn (X p) (D p) (Y p) G W Q j) :=
  ((((hd.mul ((hy.trunc _).nt hq R2.zero _ _ rfl)).mul (fsR hx hg hw)).mul ((R2.const one_f32).sub (fsR hx hg hw))).trunc _).nt hw R2.zero _ _ rfl

include hx hd hy hg hq hw in
theorem oDR : R2 (φ := .f32) (oD (F := Ideal) x d y gv q w) (fun p j => gh (X p) (D p) G (dn (X p) (D p) (Y p) G W Q) j) :=
  let a := (fdR hx hd hy hg hq hw).mul (hg.row _)
  hd.add (((frR hx).col _).mul (a.sub ((fxR hx).mul ((((a.mul (fxR hx)).rowSum _ _ _ _ _).div (R2.const thousand_f32) fun _ _ => by norm_num).col _))))

include hx hd hy hg hq hw in
theorem oGR {o : FVec Ideal S1x1024 .f32} {O : Fin 1024 → ℝ} (ho : R2 o fun _ j => O j) :
    R2 (φ := .f32) (oG (F := Ideal) x d y gv q w o) (fun _ j => O j + ∑ p, dn (X p) (D p) (Y p) G W Q j * xh (X p) j) :=
  ho.add (((fdR hx hd hy hg hq hw).mul (fxR hx)).colSum _ _ _ _ _)

/-- A product summed over the rows of both matrices. -/
theorem tnR {A : FVec Ideal S512x1024 .bf16} {B : FVec Ideal S512x256 .bf16} {C : FVec Ideal S1024x256 .f32} {f : Fin 512 → Fin 1024 → ℝ} {g : Fin 512 → Fin 256 → ℝ}
    (hA : R2 A f) (hB : R2 B g) (hC : R2 C fun _ _ => 0) : R2 (matmul dot_S512x1024_S512x256_S1024x256_0_0_1_1_n_n none A B C) (fun p q => ∑ k, f k p * g k q) := fun p q => by
  refine (Ideal.matmul_apply₁_of dot_S512x1024_S512x256_S1024x256_0_0_1_1_n_n rfl rfl A B C (ix2 p q) (fun k : Fin 512 => ix2 k p) (fun k : Fin 512 => ix2 k q) (fun k => ?_) (fun k => ?_)).trans ?_
  · exact funext fun a => by match a with
      | ⟨0, _⟩ => rfl
      | ⟨1, _⟩ => rfl
  · exact funext fun a => by match a with
      | ⟨0, _⟩ => rfl
      | ⟨1, _⟩ => rfl
  · rw [hC p q, EReal.coe_zero, zero_add]
    exact sum_real fun (k : Fin 512) => (congrArg₂ (· * ·) (hA k p) (hB k q)).trans (EReal.coe_mul _ _).symm

include hx hd hy hg hw in
theorem oPR {o : FVec Ideal S1024x256 .f32} {O : Fin 1024 → Fin 256 → ℝ} (ho : R2 o O) :
    R2 (φ := .f32) (oP (F := Ideal) x d y gv w o) (fun j k => O j k + ∑ p, D p j * sP (X p) G W j * Y p k) :=
  ho.add (tnR ((hd.mul (fsR hx hg hw)).trunc _) (hy.trunc _) R2.zero)
end

/-- Row `p` of block `t`; the block a row lies in. -/
def rowAt (t : Fin cfg0.N) (p : Fin 512) : Fin 8192 := ⟨512 * t.val + p.val, by have := t.isLt; have hN : cfg0.N = 16 := N_0; omega⟩
def blkOf (q : Fin 8192) : Fin cfg0.N := ⟨q.val / 512, by have hN : cfg0.N = 16 := N_0; omega⟩
def rowIn (q : Fin 8192) : Fin 512 := ⟨q.val % 512, by omega⟩
theorem rowAt_eq (q : Fin 8192) : rowAt (blkOf q) (rowIn q) = q := Fin.ext (show 512 * (q.val / 512) + q.val % 512 = q.val by omega)

/-- A sum over all rows is the sum over blocks of the sums over their rows. -/
theorem sum_rows (f : ℕ → ℝ) (N : ℕ) : ∑ t ∈ Finset.range N, ∑ p : Fin 512, f (512 * t + p.val) = ∑ q ∈ Finset.range (512 * N), f q := by
  induction N with
  | zero => rfl
  | succ N ih =>
    rw [Finset.sum_range_succ, ih, show 512 * (N + 1) = 512 * N + 512 by ring, Finset.sum_range_add, Fin.sum_univ_eq_sum_range fun k => f (512 * N + k)]

def nat (f : Fin 8192 → ℝ) (q : ℕ) : ℝ := if h : q < 8192 then f ⟨q, h⟩ else 0
theorem nat_at (f : Fin 8192 → ℝ) (t : Fin cfg0.N) (p : Fin 512) : nat f (512 * t.val + p.val) = f (rowAt t p) := dif_pos (rowAt t p).isLt
theorem sum_nat (f : Fin 8192 → ℝ) : ∑ t ∈ Finset.range (15 + 1), ∑ p : Fin 512, nat f (512 * t + p.val) = ∑ q, f q := by
  rw [sum_rows, ← Fin.sum_univ_eq_sum_range]
  exact Finset.sum_congr rfl fun q _ => dif_pos q.isLt

variable (m : (ℓ : Loc nD τ sig) → Buf (Elt Ideal) ℓ) (c : Dev nD)

abbrev a3 : S1024.Idx → EReal := m ((c : Thread nD τ).loc main_arg3)
abbrev a4 : S1024x1024.Idx → EReal := m ((c : Thread nD τ).loc main_arg4)
abbrev a5 : S256x1024.Idx → EReal := m ((c : Thread nD τ).loc main_arg5)

theorem V0 : (V m c main_v0 : S1x1024.Idx → EReal) = shapeCast S1x1024 (a3 m c) shapeCasts_S1024_S1x1024 := by
  unfold V
  simp only [hostOps0, hostOps0_1, List.flatten_cons, List.flatten_nil, List.append_nil, List.cons_append, List.nil_append]
  after_results_simp <;> rfl

theorem V2 : (V m c main_v2 : S1024x256.Idx → EReal) = truncf (F := Ideal) (φ := .f32) .bf16 (transpose S1024x256 [1, 0] (a5 m c) transposes_S256x1024_S1024x256_1_0) bitsLt_bf16_f32 := by
  unfold V
  simp only [hostOps0, hostOps0_1, List.flatten_cons, List.flatten_nil, List.append_nil, List.cons_append, List.nil_append]
  after_results_simp <;> rfl

theorem V5 : (V m c main_v5 : S4x4288x1024.Idx → EReal) = pad S4x4288x1024 ![0, 3904, 0] ![0, 128, 0] ![0, 0, 0]
      (shapeCast S4x256x1024 (truncf (F := Ideal) (φ := .f32) .bf16 (a4 m c) bitsLt_bf16_f32) shapeCasts_S1024x1024_S4x256x1024 : S4x256x1024.Idx → EReal)
      (sitofp (F := Ideal) .bf16 (constantI S_ 32 0#32) : S_.Idx → EReal) pads_S4x256x1024_S4x4288x1024_000_39041280_000 h_S_ := by
  unfold V
  simp only [hostOps0, hostOps0_1, List.flatten_cons, List.flatten_nil, List.append_nil, List.cons_append, List.nil_append]
  after_results_simp <;> rfl

theorem wP_apply (f j : Fin 1024) : (wP m c : S1024x1024.Idx → EReal) (ix2 f j) = a4 m c (ix2 f j) := by
  have hf : (f : ℕ) < 1024 := f.isLt
  unfold wP wG
  refine (congrFun (V5 m c) _).trans ((pad_apply_of_inside _ _ _ _ _ _ _ _ (ix3 (⟨f / 256, by omega⟩ : Fin 4) (⟨f % 256, by omega⟩ : Fin 256) j) fun a => ?_).trans
    (shapeCast_apply (truncf (F := Ideal) (φ := .f32) .bf16 (a4 m c) bitsLt_bf16_f32) _ _ (ix2 f j) ?_))
  · match a with
    | ⟨0, _⟩ => show f.val / 256 = 0 + f.val / 256 * (0 + 1); omega
    | ⟨1, _⟩ => show 3904 + f.val % 256 = 3904 + f.val % 256 * (0 + 1); omega
    | ⟨2, _⟩ => show j.val = 0 + j.val * (0 + 1); omega
  · rw [Shape.rowMajor_val_three, Shape.rowMajor_val_two]
    show f.val * 1024 + j.val = (f.val / 256 * 256 + f.val % 256) * 1024 + j.val
    omega

variable {X D : S8192x1024.Idx → ℝ} {Y : S8192x256.Idx → ℝ} {G : S1024.Idx → ℝ} {W : S1024x1024.Idx → ℝ} {Q : S256x1024.Idx → ℝ}
  (e0 : (m ((c : Thread nD τ).loc main_arg0) : S8192x1024.Idx → EReal) = up X) (e1 : (m ((c : Thread nD τ).loc main_arg1) : S8192x1024.Idx → EReal) = up D)
  (e2 : (m ((c : Thread nD τ).loc main_arg2) : S8192x256.Idx → EReal) = up Y) (e3 : a3 m c = up G) (e4 : a4 m c = up W) (e5 : a5 m c = up Q)

include e0 in
theorem rows0 (t : Fin cfg0.N) : R2 (φ := .f32) (iblk m c 0 t : Vec Ideal S512x1024 .f32) (fun p => at2 X (rowAt t p)) := fun p j =>
  (blk0 m c t p j (rowAt t p) rfl).trans (congrFun ((V_main_arg0 m c).trans e0) _)
include e1 in
theorem rows1 (t : Fin cfg0.N) : R2 (φ := .f32) (iblk m c 1 t : Vec Ideal S512x1024 .f32) (fun p => at2 D (rowAt t p)) := fun p j =>
  (blk1 m c t p j (rowAt t p) rfl).trans (congrFun ((V_main_arg1 m c).trans e1) _)
include e2 in
theorem rows2 (t : Fin cfg0.N) : R2 (φ := .f32) (iblk m c 2 t : Vec Ideal S512x256 .f32) (fun p => at2 Y (rowAt t p)) := fun p j =>
  (blk2 m c t p j (rowAt t p) rfl).trans (congrFun ((V_main_arg2 m c).trans e2) _)
include e3 in
theorem rows3 (t : Fin cfg0.N) : R2 (φ := .f32) (iblk m c 3 t : Vec Ideal S1x1024 .f32) (fun _ j => at1 G j) := fun p j =>
  (blk3 m c t p j).trans ((congrFun (V0 m c) _).trans ((shapeCast_apply (s := S1024) _ _ _ (ix1 j) (by
    rw [Shape.rowMajor_val_one, Shape.rowMajor_val_two]
    have hp : (p : ℕ) < 1 := p.isLt
    show j.val = p.val * 1024 + j.val
    omega)).trans (congrFun e3 _)))
include e5 in
theorem rows4 (t : Fin cfg0.N) : R2 (φ := .bf16) (iblk m c 4 t : Vec Ideal S1024x256 .bf16) (fun j k => at2 Q k j) := fun p j =>
  (blk4 m c t p j).trans ((congrFun (V2 m c) _).trans ((transpose_ix2_apply _ _ _ _).trans (congrFun e5 _)))
include e4 in
theorem heldW : R2 (φ := .bf16) (wP m c : Vec Ideal S1024x1024 .bf16) (at2 W) := fun f j => (wP_apply m c f j).trans (congrFun e4 _)

include e0 e1 e2 e3 e4 e5 in
theorem val5 : ((dats m 0 c).arrAt 5 cfg0.N : S8192x1024.Idx → EReal) = ReferencePlebIdeal.Read.val_main_v56 (F := Ideal) (up X) (up D) (up Y) (up G) (up W) (up Q) := by
  refine funext fun (i : S8192x1024.Idx) => ?_
  obtain ⟨q, j, rfl⟩ : ∃ (q : Fin 8192) (j : Fin 1024), i = ix2 q j := ⟨i 0, i 1, eq_ix2 i⟩
  refine (arr5 m c (blkOf q) (rowIn q) j q (congrArg Fin.val (rowAt_eq q)).symm).trans ((oDR (rows0 m c e0 _) (rows1 m c e1 _) (rows2 m c e2 _) (rows3 m c e3 _) (rows4 m c e5 _) (heldW m c e4) (rowIn q) j).trans ?_)
  dsimp only
  rw [rowAt_eq]
  exact (r_v56 X D Y G W Q (ix2 q j)).symm

/-- What one row adds to the gain's gradient, and to the projection's. -/
def gRow (X D : S8192x1024.Idx → ℝ) (Y : S8192x256.Idx → ℝ) (G : S1024.Idx → ℝ) (W : S1024x1024.Idx → ℝ) (Q : S256x1024.Idx → ℝ) (j : Fin 1024) (t : Fin 8192) : ℝ :=
  dn (at2 X t) (at2 D t) (at2 Y t) (at1 G) (at2 W) (at2 Q) j * xh (at2 X t) j
def pRow (X D : S8192x1024.Idx → ℝ) (Y : S8192x256.Idx → ℝ) (G : S1024.Idx → ℝ) (W : S1024x1024.Idx → ℝ) (j : Fin 1024) (k : Fin 256) (t : Fin 8192) : ℝ :=
  at2 D t j * sP (at2 X t) (at1 G) (at2 W) j * at2 Y t k

include e0 e1 e2 e3 e4 e5 in
theorem aG_sum : ∀ (n : ℕ) (h : n < cfg0.N), R2 (φ := .f32) (aG m c n h : Vec Ideal S1x1024 .f32)
    (fun _ j => ∑ t ∈ Finset.range (n + 1), ∑ p : Fin 512, nat (gRow X D Y G W Q j) (512 * t + p.val))
  | 0, h => (oGR (rows0 m c e0 _) (rows1 m c e1 _) (rows2 m c e2 _) (rows3 m c e3 _) (rows4 m c e5 _) (heldW m c e4) (O := fun _ => 0) (R2.const zero_f32)).congr fun p j => by
      rw [Finset.sum_range_one, zero_add]
      exact Finset.sum_congr rfl fun p _ => (nat_at (gRow X D Y G W Q j) ⟨0, h⟩ p).symm
  | n + 1, h => (oGR (rows0 m c e0 _) (rows1 m c e1 _) (rows2 m c e2 _) (rows3 m c e3 _) (rows4 m c e5 _) (heldW m c e4) (aG_sum n (Nat.lt_of_succ_lt h))).congr fun p j => by
      rw [Finset.sum_range_succ _ (n + 1)]
      exact congrArg _ (Finset.sum_congr rfl fun p _ => (nat_at (gRow X D Y G W Q j) ⟨n + 1, h⟩ p).symm)

include e0 e1 e2 e3 e4 in
theorem aP_sum : ∀ (n : ℕ) (h : n < cfg0.N), R2 (φ := .f32) (aP m c n h : Vec Ideal S1024x256 .f32)
    (fun j k => ∑ t ∈ Finset.range (n + 1), ∑ p : Fin 512, nat (pRow X D Y G W j k) (512 * t + p.val))
  | 0, h => (oPR (rows0 m c e0 _) (rows1 m c e1 _) (rows2 m c e2 _) (rows3 m c e3 _) (heldW m c e4) (O := fun _ _ => 0) (R2.const zero_f32)).congr fun j k => by
      rw [Finset.sum_range_one, zero_add]
      exact Finset.sum_congr rfl fun p _ => (nat_at (pRow X D Y G W j k) ⟨0, h⟩ p).symm
  | n + 1, h => (oPR (rows0 m c e0 _) (rows1 m c e1 _) (rows2 m c e2 _) (rows3 m c e3 _) (heldW m c e4) (aP_sum n (Nat.lt_of_succ_lt h))).congr fun j k => by
      rw [Finset.sum_range_succ _ (n + 1)]
      exact congrArg _ (Finset.sum_congr rfl fun p _ => (nat_at (pRow X D Y G W j k) ⟨n + 1, h⟩ p).symm)

include e0 e1 e2 e3 e4 e5 in
theorem val6 : ((dats m 0 c).arrAt 6 cfg0.N : S1x1024.Idx → EReal) = ReferencePlebIdeal.Read.val_main_v57 (F := Ideal) (up X) (up D) (up Y) (up G) (up W) (up Q) := by
  rw [arr6]
  refine funext fun (i : S1x1024.Idx) => ?_
  obtain ⟨q, j, rfl⟩ : ∃ (q : Fin 1) (j : Fin 1024), i = ix2 q j := ⟨i 0, i 1, eq_ix2 i⟩
  refine (aG_sum m c e0 e1 e2 e3 e4 e5 15 lt15 q j).trans (Eq.trans (congrArg _ ?_) (r_v57 X D Y G W Q (ix2 q j)).symm)
  exact (sum_nat (gRow X D Y G W Q j)).trans (Finset.sum_congr rfl fun t _ => mul_comm _ _)

include e0 e1 e2 e3 e4 in
theorem val7 : ((dats m 0 c).arrAt 7 cfg0.N : S1024x256.Idx → EReal) = ReferencePlebIdeal.Read.val_main_v58 (F := Ideal) (up X) (up D) (up Y) (up G) (up W) := by
  rw [arr7]
  refine funext fun (i : S1024x256.Idx) => ?_
  obtain ⟨j, k, rfl⟩ : ∃ (j : Fin 1024) (k : Fin 256), i = ix2 j k := ⟨i 0, i 1, eq_ix2 i⟩
  refine (aP_sum m c e0 e1 e2 e3 e4 15 lt15 j k).trans (Eq.trans (congrArg _ ?_) (r_v58 X D Y G W (ix2 j k)).symm)
  exact (sum_nat (pRow X D Y G W j k)).trans (Finset.sum_congr rfl fun t _ => congrArg (· * at2 Y t k) (mul_comm _ _))

end Cert.KernelPlebIdeal.Own

end
-- ==== Proof.PleWords.lean ====
/- The kernel at machine words: its program is the ideal reading's program, so one frame serves both. -/
module

public import proofs.«01_k».proof.Defs
public import proofs.«01_k».proof.Proof.Gen.KernelPle
public import proofs.«01_k».proof.Proof.PleFrame

@[expose] public section

noncomputable section

namespace Cert.Proof.Ple

open Idealize.ShloMosaic Idealize.SL.Sem
set_option maxHeartbeats 0

theorem bodies : KernelPle.defs₀ (F := Bits) = KernelPleIdeal.defs₀ (F := Bits) := by
  unfold KernelPle.defs₀ KernelPleIdeal.defs₀
  refine congrArg Defs.onTc ?_
  funext l a
  match l, a with
  | 0, (t, s) => rfl

theorem tables : (KernelPle.defs (F := Bits)) = (KernelPleIdeal.defs (F := Bits)) :=
  congrArg (Pipeline.defs (KernelPleIdeal.pcfgs (F := Bits))) bodies

theorem mains : KernelPle.main (F := Bits) = KernelPleIdeal.main (F := Bits) := rfl

theorem frame_kernel : Cert.quiescent_KernelPle := by
  intro m ρ _
  rw [tables, mains]
  exact KernelPleIdeal.Own.frame (F := Bits) m ρ

end Cert.Proof.Ple

end
-- ==== Proof.lean ====
module

public import proofs.«01_k».proof.Defs
public import proofs.«01_k».proof.Proof.Gen.Kernel
public import proofs.«01_k».proof.Proof.Gen.KernelIn
public import proofs.«01_k».proof.Proof.Gen.KernelFwd
public import proofs.«01_k».proof.Proof.Gen.KernelZin
public import proofs.«01_k».proof.Proof.Gen.KernelWgu
public import proofs.«01_k».proof.Proof.Gen.KernelWgd
public import proofs.«01_k».proof.Proof.Gen.KernelWia
public import proofs.«01_k».proof.Proof.Gen.KernelWib
public import proofs.«01_k».proof.Proof.FfnSweep
public import proofs.«01_k».proof.Proof.FfnValue
public import proofs.«01_k».proof.Proof.FfnWords
public import proofs.«01_k».proof.Proof.FfnFinite
public import proofs.«01_k».proof.Proof.InSweep
public import proofs.«01_k».proof.Proof.InValue
public import proofs.«01_k».proof.Proof.InWords
public import proofs.«01_k».proof.Proof.InFinite
public import proofs.«01_k».proof.Proof.FwdSweep
public import proofs.«01_k».proof.Proof.FwdValue
public import proofs.«01_k».proof.Proof.FwdWords
public import proofs.«01_k».proof.Proof.ZinSweep
public import proofs.«01_k».proof.Proof.ZinValue
public import proofs.«01_k».proof.Proof.ZinWords
public import proofs.«01_k».proof.Proof.WguFrame
public import proofs.«01_k».proof.Proof.WguValue
public import proofs.«01_k».proof.Proof.WguWords
public import proofs.«01_k».proof.Proof.WgdFrame
public import proofs.«01_k».proof.Proof.WgdValue
public import proofs.«01_k».proof.Proof.WgdWords
public import proofs.«01_k».proof.Proof.WiaFrame
public import proofs.«01_k».proof.Proof.WiaValue
public import proofs.«01_k».proof.Proof.WiaWords
public import proofs.«01_k».proof.Proof.WibFrame
public import proofs.«01_k».proof.Proof.WibValue
public import proofs.«01_k».proof.Proof.WibWords
public import proofs.«01_k».proof.Proof.DcpWords
public import proofs.«01_k».proof.Proof.Gen.KernelPle
public import proofs.«01_k».proof.Proof.Gen.KernelPleb
public import proofs.«01_k».proof.Proof.PleValue
public import proofs.«01_k».proof.Proof.Gen.KernelPlebIdeal.Frame
public import proofs.«01_k».proof.Proof.Gen.ReferencePlebIdeal.Read
public import proofs.«01_k».proof.Proof.PlebWords
public import proofs.«01_k».proof.Proof.PlebFinite
public import proofs.«01_k».proof.Proof.PlebValue
public import proofs.«01_k».proof.Proof.Gen.ReferencePlebIdeal.Run
public import proofs.«01_k».proof.Proof.PleWords

@[expose] public section

noncomputable section

namespace Cert.Proof

open Idealize.ShloMosaic Idealize.SL.Sem

theorem frame_ideal : Cert.quiescent_KernelIdeal := fun m ρ _ => KernelIdeal.Own.frame (F := Ideal) m ρ

theorem frame_reference : Cert.quiescent_ReferenceIdeal := fun m ρ _ =>
  (θ_run ReferenceIdeal.defs _ _).mono (fun r h => ⟨fun c => (h c).2.2.2.2.2.2, sem_eq_zero_of_no_sems (by decide) r.2⟩) (ReferenceIdeal.Value.run (F := Ideal) m ρ)

theorem frame_ideal_finite : Cert.quiescent_KernelIdeal_pre_finite := fun m ρ _ => KernelIdeal.Own.frame (F := Ideal) m ρ

theorem frame_reference_finite : Cert.quiescent_ReferenceIdeal_pre_finite := fun m ρ _ => frame_reference m ρ trivial

theorem value : Cert.algebraic_KernelIdeal_ReferenceIdeal_pre_finite := fun m g m' g' hp ha => by
  have fin := fun c => FfnFinite.finite_iff _ _ _ _ _ _ (hp c)
  refine ⟨_, _, _, _, _, _, KernelIdeal.Own.run_blocks (F := Ideal) m g, ?_⟩
  refine (θ_run ReferenceIdeal.defs _ _).mono (fun r h c => ?_) (ReferenceIdeal.Value.run (F := Ideal) m' g')
  obtain ⟨h0, h1, h2, h3, h4, h5, hk⟩ := h c
  obtain ⟨a0, a1, a2, a3, a4, a5⟩ := ha c
  obtain ⟨⟨⟨⟨⟨e0, e1⟩, e2⟩, e3⟩, e4⟩, e5⟩ := fin c
  rw [ReferenceIdeal.Read.val_main_v54_eq, a0, a1, a2, a3, a4, a5] at h0
  rw [ReferenceIdeal.Read.val_main_v83_eq, a0, a1, a2, a3, a4, a5] at h1
  rw [ReferenceIdeal.Read.val_main_v84_eq, a0, a1, a2, a3, a5] at h2
  rw [ReferenceIdeal.Read.val_main_v85_eq, a0, a2, a3, a4] at h3
  rw [ReferenceIdeal.Read.val_main_v86_eq, a0, a2] at h4
  rw [ReferenceIdeal.Read.val_main_v87_eq, a0, a1, a2, a3, a4, a5] at h5
  refine ⟨h0.trans ?_, h1.trans ?_, h2.trans ?_, h3.trans ?_, h4.trans ?_, h5.trans ?_, hk⟩
  · rw [KernelIdeal.Own.val5 m c e0 e1 e2 e3 e4 e5, ← e0, ← e1, ← e2, ← e3, ← e4, ← e5]
  · rw [KernelIdeal.Own.val6 m c e0 e1 e2 e3 e4 e5, ← e0, ← e1, ← e2, ← e3, ← e4, ← e5]
  · rw [KernelIdeal.Own.val7 m c e0 e1 e2 e3 e5, ← e0, ← e1, ← e2, ← e3, ← e5]
  · rw [KernelIdeal.Own.val8 m c e0 e2 e3 e4, ← e0, ← e2, ← e3, ← e4]
  · rw [KernelIdeal.Own.val9 m c e0 e2, ← e0, ← e2]
  · rw [KernelIdeal.Own.val10 m c e0 e1 e2 e3 e4 e5, ← e0, ← e1, ← e2, ← e3, ← e4, ← e5]

theorem In.frame_ideal : Cert.quiescent_KernelInIdeal := fun m ρ _ => KernelInIdeal.Own.frame (F := Ideal) m ρ

theorem In.frame_reference : Cert.quiescent_ReferenceInIdeal := fun m ρ _ =>
  (θ_run ReferenceInIdeal.defs _ _).mono (fun r h => ⟨fun c => (h c).2.2.2, sem_eq_zero_of_no_sems (by decide) r.2⟩) (ReferenceInIdeal.Value.run (F := Ideal) m ρ)

theorem In.frame_ideal_finite : Cert.quiescent_KernelInIdeal_pre_finite_in := fun m ρ _ => KernelInIdeal.Own.frame (F := Ideal) m ρ

theorem In.frame_reference_finite : Cert.quiescent_ReferenceInIdeal_pre_finite_in := fun m ρ _ => In.frame_reference m ρ trivial

theorem In.value : Cert.algebraic_KernelInIdeal_ReferenceInIdeal_pre_finite_in := fun m g m' g' hp ha => by
  have fin := fun c => InFinite.finite_iff _ _ _ _ _ _ (hp c)
  refine ⟨_, _, _, KernelInIdeal.Own.run_blocks (F := Ideal) m g, ?_⟩
  refine (θ_run ReferenceInIdeal.defs _ _).mono (fun r h c => ?_) (ReferenceInIdeal.Value.run (F := Ideal) m' g')
  obtain ⟨h0, h1, h2, hk⟩ := h c
  obtain ⟨a0, a1, a2, a3, a4, a5⟩ := ha c
  obtain ⟨⟨⟨⟨⟨e0, e1⟩, e2⟩, e3⟩, e4⟩, e5⟩ := fin c
  rw [ReferenceInIdeal.Read.val_main_v41_eq, a0, a1, a2, a3, a4, a5] at h0
  rw [ReferenceInIdeal.Read.val_main_v55_eq, a0, a4] at h1
  rw [ReferenceInIdeal.Read.val_main_v56_eq, a0, a2, a3, a5] at h2
  refine ⟨h0.trans ?_, h1.trans ?_, h2.trans ?_, hk⟩
  · rw [KernelInIdeal.Own.val5 m c e0 e1 e2 e3 e4 e5, ← e0, ← e1, ← e2, ← e3, ← e4, ← e5]
  · rw [KernelInIdeal.Own.val6 m c e0 e4, ← e0, ← e4]
  · rw [KernelInIdeal.Own.val7 m c e0 e2 e3 e5, ← e0, ← e2, ← e3, ← e5]

theorem Fwd.frame_ideal : Cert.quiescent_KernelFwdIdeal := fun m ρ _ => KernelFwdIdeal.Own.frame (F := Ideal) m ρ

theorem Fwd.frame_reference : Cert.quiescent_ReferenceFwdIdeal := fun m ρ _ =>
  (θ_run ReferenceFwdIdeal.defs _ _).mono (fun r h => ⟨fun c => (h c).2.2.2, sem_eq_zero_of_no_sems (by decide) r.2⟩) (ReferenceFwdIdeal.Value.run (F := Ideal) m ρ)

theorem Fwd.value : Cert.algebraic_KernelFwdIdeal_ReferenceFwdIdeal := fun m g m' g' _ ha => by
  refine ⟨_, _, _, KernelFwdIdeal.Own.run_blocks (F := Ideal) m g, ?_⟩
  refine (θ_run ReferenceFwdIdeal.defs _ _).mono (fun r h c => ?_) (ReferenceFwdIdeal.Value.run (F := Ideal) m' g')
  obtain ⟨h0, h1, h2, hk⟩ := h c
  obtain ⟨a0, a1, a2, a3, a4⟩ := ha c
  rw [ReferenceFwdIdeal.Read.val_main_v33_eq, a0, a1, a2, a3, a4] at h0
  rw [ReferenceFwdIdeal.Read.val_main_v35_eq, a0, a1, a2] at h1
  rw [ReferenceFwdIdeal.Read.val_main_v37_eq, a0, a1, a3] at h2
  exact ⟨h0.trans (KernelFwdIdeal.Own.val2 m c).symm, h1.trans (KernelFwdIdeal.Own.val3 m c).symm, h2.trans (KernelFwdIdeal.Own.val4 m c).symm, hk⟩

theorem Zin.frame_ideal : Cert.quiescent_KernelZinIdeal := fun m ρ _ => KernelZinIdeal.Own.frame (F := Ideal) m ρ

theorem Zin.frame_reference : Cert.quiescent_ReferenceZinIdeal := fun m ρ _ =>
  (θ_run ReferenceZinIdeal.defs _ _).mono (fun r h => ⟨fun c => (h c).2, sem_eq_zero_of_no_sems (by decide) r.2⟩) (ReferenceZinIdeal.Value.run (F := Ideal) m ρ)

theorem Zin.value : Cert.algebraic_KernelZinIdeal_ReferenceZinIdeal := fun m g m' g' _ ha => by
  refine ⟨_, KernelZinIdeal.Own.run_blocks (F := Ideal) m g, ?_⟩
  refine (θ_run ReferenceZinIdeal.defs _ _).mono (fun r h c => ?_) (ReferenceZinIdeal.Value.run (F := Ideal) m' g')
  obtain ⟨h0, hk⟩ := h c
  obtain ⟨a0, a1, a2⟩ := ha c
  rw [ReferenceZinIdeal.Read.val_main_v14_eq, a0, a1, a2] at h0
  exact ⟨h0.trans (KernelZinIdeal.Own.val2 m c).symm, hk⟩

theorem Wgu.frame_ideal : Cert.quiescent_KernelWguIdeal := fun m ρ _ => KernelWguIdeal.Own.frame (F := Ideal) m ρ

theorem Wgu.frame_reference : Cert.quiescent_ReferenceWguIdeal := fun m ρ _ =>
  (θ_run ReferenceWguIdeal.defs _ _).mono (fun r h => ⟨fun c => (h c).2, sem_eq_zero_of_no_sems (by decide) r.2⟩) (ReferenceWguIdeal.Value.run (F := Ideal) m ρ)

theorem Wgu.value : Cert.algebraic_KernelWguIdeal_ReferenceWguIdeal := fun m g m' g' _ ha => by
  refine ⟨_, KernelWguIdeal.Own.run_blocks (F := Ideal) m g, ?_⟩
  refine (θ_run ReferenceWguIdeal.defs _ _).mono (fun r h c => ?_) (ReferenceWguIdeal.Value.run (F := Ideal) m' g')
  obtain ⟨h0, hk⟩ := h c
  obtain ⟨a0, a1, a2⟩ := ha c
  rw [ReferenceWguIdeal.Read.val_main_v15_eq, a0, a1, a2] at h0
  exact ⟨h0.trans (KernelWguIdeal.Own.val m c).symm, hk⟩

theorem Wgd.frame_ideal : Cert.quiescent_KernelWgdIdeal := fun m ρ _ => KernelWgdIdeal.Own.frame (F := Ideal) m ρ

theorem Wgd.frame_reference : Cert.quiescent_ReferenceWgdIdeal := fun m ρ _ =>
  (θ_run ReferenceWgdIdeal.defs _ _).mono (fun r h => ⟨fun c => (h c).2, sem_eq_zero_of_no_sems (by decide) r.2⟩) (ReferenceWgdIdeal.Value.run (F := Ideal) m ρ)

theorem Wgd.value : Cert.algebraic_KernelWgdIdeal_ReferenceWgdIdeal := fun m g m' g' _ ha => by
  refine ⟨_, KernelWgdIdeal.Own.run_blocks (F := Ideal) m g, ?_⟩
  refine (θ_run ReferenceWgdIdeal.defs _ _).mono (fun r h c => ?_) (ReferenceWgdIdeal.Value.run (F := Ideal) m' g')
  obtain ⟨h0, hk⟩ := h c
  obtain ⟨a0, a1⟩ := ha c
  rw [ReferenceWgdIdeal.Read.val_main_v10_eq, a0, a1] at h0
  exact ⟨h0.trans (KernelWgdIdeal.Own.val m c).symm, hk⟩

theorem Wia.frame_ideal : Cert.quiescent_KernelWiaIdeal := fun m ρ _ => KernelWiaIdeal.Own.frame (F := Ideal) m ρ

theorem Wia.frame_reference : Cert.quiescent_ReferenceWiaIdeal := fun m ρ _ =>
  (θ_run ReferenceWiaIdeal.defs _ _).mono (fun r h => ⟨fun c => (h c).2, sem_eq_zero_of_no_sems (by decide) r.2⟩) (ReferenceWiaIdeal.Value.run (F := Ideal) m ρ)

theorem Wia.value : Cert.algebraic_KernelWiaIdeal_ReferenceWiaIdeal := fun m g m' g' _ ha => by
  refine ⟨_, KernelWiaIdeal.Own.run_blocks (F := Ideal) m g, ?_⟩
  refine (θ_run ReferenceWiaIdeal.defs _ _).mono (fun r h c => ?_) (ReferenceWiaIdeal.Value.run (F := Ideal) m' g')
  obtain ⟨h0, hk⟩ := h c
  obtain ⟨a0, a1, a2⟩ := ha c
  rw [ReferenceWiaIdeal.Read.val_main_v14_eq, a0, a1, a2] at h0
  exact ⟨h0.trans (KernelWiaIdeal.Own.val m c).symm, hk⟩

theorem Wib.frame_ideal : Cert.quiescent_KernelWibIdeal := fun m ρ _ => KernelWibIdeal.Own.frame (F := Ideal) m ρ

theorem Wib.frame_reference : Cert.quiescent_ReferenceWibIdeal := fun m ρ _ =>
  (θ_run ReferenceWibIdeal.defs _ _).mono (fun r h => ⟨fun c => (h c).2, sem_eq_zero_of_no_sems (by decide) r.2⟩) (ReferenceWibIdeal.Value.run (F := Ideal) m ρ)

theorem Wib.value : Cert.algebraic_KernelWibIdeal_ReferenceWibIdeal := fun m g m' g' _ ha => by
  refine ⟨_, KernelWibIdeal.Own.run_blocks (F := Ideal) m g, ?_⟩
  refine (θ_run ReferenceWibIdeal.defs _ _).mono (fun r h c => ?_) (ReferenceWibIdeal.Value.run (F := Ideal) m' g')
  obtain ⟨h0, hk⟩ := h c
  obtain ⟨a0, a1, a2⟩ := ha c
  rw [ReferenceWibIdeal.Read.val_main_v14_eq, a0, a1, a2] at h0
  exact ⟨h0.trans (KernelWibIdeal.Own.val m c).symm, hk⟩

theorem Dcp.frame_ideal : Cert.quiescent_KernelDcpIdeal := fun m ρ _ => KernelDcpIdeal.Own.frame (F := Ideal) m ρ

theorem Ple.frame_ideal : Cert.quiescent_KernelPleIdeal := fun m ρ _ => KernelPleIdeal.Own.frame (F := Ideal) m ρ

theorem Ple.frame_reference : Cert.quiescent_ReferencePleIdeal := fun m ρ _ =>
  (θ_run ReferencePleIdeal.defs _ _).mono (fun r h => ⟨fun c => (h c).2, sem_eq_zero_of_no_sems (by decide) r.2⟩) (ReferencePleIdeal.Value.run (F := Ideal) m ρ)

theorem Ple.value : Cert.algebraic_KernelPleIdeal_ReferencePleIdeal := fun m g m' g' _ ha => by
  refine ⟨_, KernelPleIdeal.Own.run_blocks (F := Ideal) m g, ?_⟩
  refine (θ_run ReferencePleIdeal.defs _ _).mono (fun r h c => ?_) (ReferencePleIdeal.Value.run (F := Ideal) m' g')
  obtain ⟨h0, hk⟩ := h c
  obtain ⟨a0, a1, a2, a3, a4⟩ := ha c
  rw [ReferencePleIdeal.Read.val_main_v22_eq, a0, a1, a2, a3, a4] at h0
  exact ⟨h0.trans (KernelPleIdeal.Own.val m c).symm, hk⟩

theorem Pleb.frame_ideal : Cert.quiescent_KernelPlebIdeal := fun m ρ _ => KernelPlebIdeal.Own.frame (F := Ideal) m ρ

theorem Pleb.frame_reference : Cert.quiescent_ReferencePlebIdeal := fun m ρ _ =>
  (θ_run ReferencePlebIdeal.defs _ _).mono (fun r h => ⟨fun c => (h c).2.2.2, sem_eq_zero_of_no_sems (by decide) r.2⟩) (ReferencePlebIdeal.Value.run (F := Ideal) m ρ)

theorem Pleb.frame_ideal_finite : Cert.quiescent_KernelPlebIdeal_pre_finite_pleb := fun m ρ _ => KernelPlebIdeal.Own.frame (F := Ideal) m ρ

theorem Pleb.frame_reference_finite : Cert.quiescent_ReferencePlebIdeal_pre_finite_pleb := fun m ρ _ => Pleb.frame_reference m ρ trivial

theorem Pleb.value : Cert.algebraic_KernelPlebIdeal_ReferencePlebIdeal_pre_finite_pleb := fun m g m' g' hp ha => by
  have fin := fun c => PlebFinite.finite_iff _ _ _ _ _ _ (hp c)
  refine ⟨_, _, _, KernelPlebIdeal.Own.run_blocks (F := Ideal) m g, ?_⟩
  refine (θ_run ReferencePlebIdeal.defs _ _).mono (fun r h c => ?_) (ReferencePlebIdeal.Value.run (F := Ideal) m' g')
  obtain ⟨h0, h1, h2, hk⟩ := h c
  obtain ⟨a0, a1, a2, a3, a4, a5⟩ := ha c
  obtain ⟨⟨⟨⟨⟨e0, e1⟩, e2⟩, e3⟩, e4⟩, e5⟩ := fin c
  rw [ReferencePlebIdeal.Read.val_main_v56_eq, a0, a1, a2, a3, a4, a5] at h0
  rw [ReferencePlebIdeal.Read.val_main_v57_eq, a0, a1, a2, a3, a4, a5] at h1
  rw [ReferencePlebIdeal.Read.val_main_v58_eq, a0, a1, a2, a3, a4] at h2
  refine ⟨h0.trans ?_, h1.trans ?_, h2.trans ?_, hk⟩
  · rw [KernelPlebIdeal.Own.val5 m c e0 e1 e2 e3 e4 e5, ← e0, ← e1, ← e2, ← e3, ← e4, ← e5]
  · rw [KernelPlebIdeal.Own.val6 m c e0 e1 e2 e3 e4 e5, ← e0, ← e1, ← e2, ← e3, ← e4, ← e5]
  · rw [KernelPlebIdeal.Own.val7 m c e0 e1 e2 e3 e4, ← e0, ← e1, ← e2, ← e3, ← e4]

theorem claim : Cert.Claim :=
  ⟨Kernel.Gen.facts, KernelIdeal.Gen.facts, ReferenceIdeal.Gen.facts, KernelIn.Gen.facts, KernelInIdeal.Gen.facts, ReferenceInIdeal.Gen.facts, KernelFwd.Gen.facts, KernelFwdIdeal.Gen.facts, ReferenceFwdIdeal.Gen.facts, KernelZin.Gen.facts, KernelZinIdeal.Gen.facts, ReferenceZinIdeal.Gen.facts, KernelWgu.Gen.facts, KernelWguIdeal.Gen.facts, ReferenceWguIdeal.Gen.facts, KernelWgd.Gen.facts, KernelWgdIdeal.Gen.facts, ReferenceWgdIdeal.Gen.facts, KernelWia.Gen.facts, KernelWiaIdeal.Gen.facts, ReferenceWiaIdeal.Gen.facts, KernelWib.Gen.facts, KernelWibIdeal.Gen.facts, ReferenceWibIdeal.Gen.facts, KernelDcp.Gen.facts, KernelDcpIdeal.Gen.facts, KernelPle.Gen.facts, KernelPleIdeal.Gen.facts, ReferencePleIdeal.Gen.facts, KernelPleb.Gen.facts, KernelPlebIdeal.Gen.facts, ReferencePlebIdeal.Gen.facts, FfnFinite.facts, InFinite.facts, PlebFinite.facts,
    frame_kernel, frame_ideal, frame_ideal_finite, frame_reference, frame_reference_finite, In.frame_kernel, In.frame_ideal, In.frame_ideal_finite, In.frame_reference, In.frame_reference_finite, Fwd.frame_kernel, Fwd.frame_ideal, Fwd.frame_reference, Zin.frame_kernel, Zin.frame_ideal, Zin.frame_reference, Wgu.frame_kernel, Wgu.frame_ideal, Wgu.frame_reference, Wgd.frame_kernel, Wgd.frame_ideal, Wgd.frame_reference, Wia.frame_kernel, Wia.frame_ideal, Wia.frame_reference, Wib.frame_kernel, Wib.frame_ideal, Wib.frame_reference, Dcp.frame_kernel, Dcp.frame_ideal, Ple.frame_kernel, Ple.frame_ideal, Ple.frame_reference, Pleb.frame_kernel, Pleb.frame_ideal, Pleb.frame_ideal_finite, Pleb.frame_reference, Pleb.frame_reference_finite,
    trivial, value, trivial, In.value, trivial, Fwd.value, trivial, Zin.value, trivial, Wgu.value, trivial, Wgd.value, trivial, Wia.value, trivial, Wib.value, trivial, trivial, Ple.value, trivial, Pleb.value⟩

end Cert.Proof

end
